-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_pooled_finite [hPre_pooled_finite : Cert.Pre_pooled_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_pooled_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_pooled_finite [hPre_pooled_finite : Cert.Pre_pooled_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_pooled_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 [hPre_core_number : Cert.Pre_core_number.Facts] (m : (ℓ : Loc Cert.Kernel14.nD Cert.Kernel14.τ Cert.Kernel14.sig) → Buf (Elt Bits) ℓ) : Prop :=
  ∀ c : Dev Cert.Kernel14.nD,
    (Cert.Pre_core_number.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2))) = (fun _ => 1#1)

def Pre_Kernel14Ideal [hPre_core_number : Cert.Pre_core_number.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_core_number.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_core_number [hPre_core_number : Cert.Pre_core_number.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_core_number.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 [hPre_core_number21 : Cert.Pre_core_number21.Facts] (m : (ℓ : Loc Cert.Kernel21.nD Cert.Kernel21.τ Cert.Kernel21.sig) → Buf (Elt Bits) ℓ) : Prop :=
  ∀ c : Dev Cert.Kernel21.nD,
    (Cert.Pre_core_number21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2))) = (fun _ => 1#1)

def Pre_Kernel21Ideal [hPre_core_number21 : Cert.Pre_core_number21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_core_number21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_core_number21 [hPre_core_number21 : Cert.Pre_core_number21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_core_number21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))) = (fun _ => 1#1)

def Pre_Kernel22 [hPre_core_number22 : Cert.Pre_core_number22.Facts] (m : (ℓ : Loc Cert.Kernel22.nD Cert.Kernel22.τ Cert.Kernel22.sig) → Buf (Elt Bits) ℓ) : Prop :=
  ∀ c : Dev Cert.Kernel22.nD,
    (Cert.Pre_core_number22.fn (F := Bits) (m ((c.tc : Thread Cert.Kernel22.nD Cert.Kernel22.τ).loc Cert.Kernel22.main_arg0)) (m ((c.tc : Thread Cert.Kernel22.nD Cert.Kernel22.τ).loc Cert.Kernel22.main_arg1)) (m ((c.tc : Thread Cert.Kernel22.nD Cert.Kernel22.τ).loc Cert.Kernel22.main_arg2))) = (fun _ => 1#1)

def Pre_Kernel22Ideal [hPre_core_number22 : Cert.Pre_core_number22.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_core_number22.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_core_number22 [hPre_core_number22 : Cert.Pre_core_number22.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_core_number22.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_pooled_finite [hKernel11Ideal : Cert.Kernel11Ideal.Facts] [hPre_pooled_finite : Cert.Pre_pooled_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_pooled_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_pooled_finite [hReference11Ideal : Cert.Reference11Ideal.Facts] [hPre_pooled_finite : Cert.Pre_pooled_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_pooled_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] [hPre_core_number : Cert.Pre_core_number.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] [hPre_core_number : Cert.Pre_core_number.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_core_number [hReference14Ideal : Cert.Reference14Ideal.Facts] [hPre_core_number : Cert.Pre_core_number.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_core_number m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] [hPre_core_number21 : Cert.Pre_core_number21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] [hPre_core_number21 : Cert.Pre_core_number21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_core_number21 [hReference21Ideal : Cert.Reference21Ideal.Facts] [hPre_core_number21 : Cert.Pre_core_number21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_core_number21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] [hPre_core_number22 : Cert.Pre_core_number22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] [hPre_core_number22 : Cert.Pre_core_number22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_core_number22 [hReference22Ideal : Cert.Reference22Ideal.Facts] [hPre_core_number22 : Cert.Pre_core_number22.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_core_number22 m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v56) = v0 c
          ∧ r.2.mem ((c.tc : Thread Cert.Reference8Ideal.nD Cert.Reference8Ideal.τ).loc Cert.Reference8Ideal.main_v57) = v1 c
          ∧ r.2.mem ((c.tc : Thread Cert.Reference8Ideal.nD Cert.Reference8Ideal.τ).loc Cert.Reference8Ideal.main_v58) = v2 c
          ∧ r.2.mem ((c.tc : Thread Cert.Reference8Ideal.nD Cert.Reference8Ideal.τ).loc Cert.Reference8Ideal.main_v59) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v71) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_pooled_finite [hKernel11Ideal : Cert.Kernel11Ideal.Facts] [hReference11Ideal : Cert.Reference11Ideal.Facts] [hPre_pooled_finite : Cert.Pre_pooled_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_pooled_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v74) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] [hPre_core_number : Cert.Pre_core_number.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v37) = v1 c
          ∧ r.2.mem ((c.tc : Thread Cert.Reference15Ideal.nD Cert.Reference15Ideal.τ).loc Cert.Reference15Ideal.main_v18) = v2 c
          ∧ r.2.mem ((c.tc : Thread Cert.Reference15Ideal.nD Cert.Reference15Ideal.τ).loc Cert.Reference15Ideal.main_v24) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v18) = v2 c
          ∧ r.2.mem ((c.tc : Thread Cert.Reference16Ideal.nD Cert.Reference16Ideal.τ).loc Cert.Reference16Ideal.main_v24) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_v18) = v2 c
          ∧ r.2.mem ((c.tc : Thread Cert.Reference17Ideal.nD Cert.Reference17Ideal.τ).loc Cert.Reference17Ideal.main_v24) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] [hPre_core_number21 : Cert.Pre_core_number21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] [hPre_core_number22 : Cert.Pre_core_number22.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_pooled_finite : Cert.Pre_pooled_finite.Facts) (hPre_core_number : Cert.Pre_core_number.Facts) (hPre_core_number21 : Cert.Pre_core_number21.Facts) (hPre_core_number22 : Cert.Pre_core_number22.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_pooled_finite (hKernel11Ideal := hKernel11Ideal) (hPre_pooled_finite := hPre_pooled_finite)
    ∧ quiescent_Reference11Ideal (hReference11Ideal := hReference11Ideal)
    ∧ quiescent_Reference11Ideal_pre_pooled_finite (hReference11Ideal := hReference11Ideal) (hPre_pooled_finite := hPre_pooled_finite)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14) (hPre_core_number := hPre_core_number)
    ∧ quiescent_Kernel14Ideal (hKernel14Ideal := hKernel14Ideal) (hPre_core_number := hPre_core_number)
    ∧ quiescent_Reference14Ideal (hReference14Ideal := hReference14Ideal)
    ∧ quiescent_Reference14Ideal_pre_core_number (hReference14Ideal := hReference14Ideal) (hPre_core_number := hPre_core_number)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21) (hPre_core_number21 := hPre_core_number21)
    ∧ quiescent_Kernel21Ideal (hKernel21Ideal := hKernel21Ideal) (hPre_core_number21 := hPre_core_number21)
    ∧ quiescent_Reference21Ideal (hReference21Ideal := hReference21Ideal)
    ∧ quiescent_Reference21Ideal_pre_core_number21 (hReference21Ideal := hReference21Ideal) (hPre_core_number21 := hPre_core_number21)
    ∧ quiescent_Kernel22 (hKernel22 := hKernel22) (hPre_core_number22 := hPre_core_number22)
    ∧ quiescent_Kernel22Ideal (hKernel22Ideal := hKernel22Ideal) (hPre_core_number22 := hPre_core_number22)
    ∧ quiescent_Reference22Ideal (hReference22Ideal := hReference22Ideal)
    ∧ quiescent_Reference22Ideal_pre_core_number22 (hReference22Ideal := hReference22Ideal) (hPre_core_number22 := hPre_core_number22)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_pooled_finite (hKernel11Ideal := hKernel11Ideal) (hReference11Ideal := hReference11Ideal) (hPre_pooled_finite := hPre_pooled_finite)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal) (hPre_core_number := hPre_core_number)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal) (hPre_core_number21 := hPre_core_number21)
    ∧ preserves_Kernel22_Kernel22Ideal
    ∧ algebraic_Kernel22Ideal_Reference22Ideal (hKernel22Ideal := hKernel22Ideal) (hReference22Ideal := hReference22Ideal) (hPre_core_number22 := hPre_core_number22)
-- ==== Pre_core_number.lean ====
abbrev S1 : Shape := ⟨1, ![1]⟩
abbrev S4x2x1024x1280 : Shape := ⟨4, ![4, 2, 1024, 1280]⟩
abbrev S4x1024x1280 : Shape := ⟨3, ![4, 1024, 1280]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2x1024x1280 .f32) (main_arg2 : FVec F S4x1024x1280 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core_number21.lean ====
abbrev S1 : Shape := ⟨1, ![1]⟩
abbrev S4x2x256x2048 : Shape := ⟨4, ![4, 2, 256, 2048]⟩
abbrev S4x256x2048 : Shape := ⟨3, ![4, 256, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2x256x2048 .f32) (main_arg2 : FVec F S4x256x2048 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_core_number22.lean ====
abbrev S1 : Shape := ⟨1, ![1]⟩
abbrev S4x2x64x512 : Shape := ⟨4, ![4, 2, 64, 512]⟩
abbrev S4x64x512 : Shape := ⟨3, ![4, 64, 512]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2x64x512 .f32) (main_arg2 : FVec F S4x64x512 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_finite.lean ====
abbrev S8192x2048 : Shape := ⟨2, ![8192, 2048]⟩
abbrev S8192x5120 : Shape := ⟨2, ![8192, 5120]⟩
abbrev S4x128x128 : Shape := ⟨3, ![4, 128, 128]⟩
abbrev S512 : Shape := ⟨1, ![512]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x5120 : S_.BroadcastsInDim S8192x5120 (![] : Fin 0 → Fin S8192x5120.rank)
  reducesTo_S8192x5120_S_d0_1 : S8192x5120.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S512 : S_.BroadcastsInDim S512 (![] : Fin 0 → Fin S512.rank)
  reducesTo_S512_S_d0 : S512.ReducesTo [0] S_

variable [Facts]

def fn_part1 {F : FTy → Type} [FloatOps F] (main_v15 : IVec S_ 1) (main_v16 : FVec F S512 .f32) (main_cst_4 : FVec F S_ .f32) : IVec S_ 1 :=
  let main_v17 : FVec F S512 .f32 := broadcastInDim S512 ![] bcast_S_S512 main_cst_4
  let main_v18 : IVec S512 1 := cmpf .oeq main_v16 main_v17
  let main_c_5 : IVec S_ 1 := constantI S_ 1 1#1
  let main_v19 : IVec S_ 1 := (fun x v => Host.reduce IntOp.andi x v reducesTo_S512_S_d0 h_S_) main_v18 main_c_5
  let main_v20 : IVec S_ 1 := andi main_v15 main_v19
  main_v20

def fn {F : FTy → Type} [FloatOps F] (main_arg0 : FVec F S8192x2048 .bf16) (main_arg1 : FVec F S8192x5120 .bf16) (main_arg2 : FVec F S8192x5120 .bf16) (main_arg3 : FVec F S4x128x128 .f32) (main_arg4 : FVec F S512 .f32) : IVec S_ 1 :=
  let main_v0 : FVec F S8192x2048 .f32 := (extf .f32 · bitsLt_bf16_f32) main_arg0
  let main_v1 : FVec F S8192x2048 .f32 := subf main_v0 main_v0
  let main_cst : FVec F S_ .f32 := constant S_ .f32 0x00000000#32
  let main_v2 : FVec F S8192x2048 .f32 := broadcastInDim S8192x2048 ![] bcast_S_S8192x2048 main_cst
  let main_v3 : IVec S8192x2048 1 := cmpf .oeq main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x5120 .f32 := (extf .f32 · bitsLt_bf16_f32) main_arg1
  let main_v6 : FVec F S8192x5120 .f32 := subf main_v5 main_v5
  let main_cst_0 : FVec F S_ .f32 := constant S_ .f32 0x00000000#32
  let main_v7 : FVec F S8192x5120 .f32 := broadcastInDim S8192x5120 ![] bcast_S_S8192x5120 main_cst_0
  let main_v8 : IVec S8192x5120 1 := cmpf .oeq main_v6 main_v7
  let main_c_1 : IVec S_ 1 := constantI S_ 1 1#1
  let main_v9 : IVec S_ 1 := (fun x v => Host.reduce IntOp.andi x v reducesTo_S8192x5120_S_d0_1 h_S_) main_v8 main_c_1
  let main_v10 : IVec S_ 1 := andi main_v4 main_v9
  let main_v11 : FVec F S4x128x128 .f32 := subf main_arg3 main_arg3
  let main_cst_2 : FVec F S_ .f32 := constant S_ .f32 0x00000000#32
  let main_v12 : FVec F S4x128x128 .f32 := broadcastInDim S4x128x128 ![] bcast_S_S4x128x128 main_cst_2
  let main_v13 : IVec S4x128x128 1 := cmpf .oeq main_v11 main_v12
  let main_c_3 : IVec S_ 1 := constantI S_ 1 1#1
  let main_v14 : IVec S_ 1 := (fun x v => Host.reduce IntOp.andi x v reducesTo_S4x128x128_S_d0_1_2 h_S_) main_v13 main_c_3
  let main_v15 : IVec S_ 1 := andi main_v10 main_v14
  let main_v16 : FVec F S512 .f32 := subf main_arg4 main_arg4
  let main_cst_4 : FVec F S_ .f32 := constant S_ .f32 0x00000000#32
  fn_part1 (F := F) main_v15 main_v16 main_cst_4
-- ==== Pre_pooled_finite.lean ====
abbrev S8192x5120 : Shape := ⟨2, ![8192, 5120]⟩
abbrev S4x128x128 : Shape := ⟨3, ![4, 128, 128]⟩
abbrev S512 : Shape := ⟨1, ![512]⟩
abbrev S8192x512 : Shape := ⟨2, ![8192, 512]⟩
abbrev S_ : Shape := ⟨0, ![]⟩

class Facts : Prop where
  slices_S8192x5120_S8192x512_0_2560 : S8192x5120.Slices ![0, 2560] S8192x512
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x5120 .bf16) (main_arg1 : FVec F S4x128x128 .f32) (main_arg2 : FVec F S512 .f32) : IVec S_ 1 :=
  let main_v0 : FVec F S8192x512 .bf16 := (extractStridedSlice S8192x512 ![0, 2560] · slices_S8192x5120_S8192x512_0_2560) main_arg0
  let main_v1 : FVec F S8192x512 .f32 := (extf .f32 · bitsLt_bf16_f32) main_v0
  let main_v2 : FVec F S8192x512 .f32 := subf main_v1 main_v1
  let main_cst : FVec F S_ .f32 := constant S_ .f32 0x00000000#32
  let main_v3 : FVec F S8192x512 .f32 := broadcastInDim S8192x512 ![] bcast_S_S8192x512 main_cst
  let main_v4 : IVec S8192x512 1 := cmpf .oeq main_v2 main_v3
  let main_c : IVec S_ 1 := constantI S_ 1 1#1
  let main_v5 : IVec S_ 1 := (fun x v => Host.reduce IntOp.andi x v reducesTo_S8192x512_S_d0_1 h_S_) main_v4 main_c
  main_v5
-- ==== Kernel.lean ====
abbrev S8192x2048 : Shape := ⟨2, ![8192, 2048]⟩
abbrev S8192x5120 : Shape := ⟨2, ![8192, 5120]⟩
abbrev S4x128x128 : Shape := ⟨3, ![4, 128, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S2x512x512 : Shape := ⟨3, ![2, 512, 512]⟩
abbrev S2 : Shape := ⟨1, ![2]⟩
abbrev S1 : Shape := ⟨1, ![1]⟩
abbrev S_ : Shape := ⟨0, ![]⟩
abbrev S1x512x512 : Shape := ⟨3, ![1, 512, 512]⟩
abbrev S512x1 : Shape := ⟨2, ![512, 1]⟩
abbrev S528x512 : Shape := ⟨2, ![528, 512]⟩
abbrev S512x128 : Shape := ⟨2, ![512, 128]⟩
abbrev S16x1 : Shape := ⟨2, ![16, 1]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S128 : Shape := ⟨1, ![128]⟩
abbrev S16x128 : Shape := ⟨2, ![16, 128]⟩
abbrev S528x128 : Shape := ⟨2, ![528, 128]⟩

abbrev nBuf : Space → Nat
  | .hbm => 12
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S8192x5120, .bf16⟩
  | .hbm, ⟨3, _⟩ => ⟨S4x128x128, .f32⟩
  | .hbm, ⟨4, _⟩ => ⟨S512, .f32⟩
  | .hbm, ⟨5, _⟩ => ⟨S4x128x128, .bf16⟩
  | .hbm, ⟨6, _⟩ => ⟨S4x128x128, .f32⟩
  | .hbm, ⟨7, _⟩ => ⟨S4x128x128, .bf16⟩
  | .hbm, ⟨8, _⟩ => ⟨S1x512, .f32⟩
  | .hbm, ⟨9, _⟩ => ⟨S8192x5120, .bf16⟩
  | .hbm, ⟨10, _⟩ => ⟨S4x128x128, .f32⟩
  | .hbm, ⟨11, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S16x512, .bf16⟩
  | .local _ .vmem, ⟨11, _⟩ => ⟨S16x512, .bf16⟩
  | .local _ .vmem, ⟨12, _⟩ => ⟨S4x128x128, .bf16⟩
  | .local _ .vmem, ⟨13, _⟩ => ⟨S4x128x128, .bf16⟩
  | .local _ .vmem, ⟨14, _⟩ => ⟨S1x512, .f32⟩
  | .local _ .vmem, ⟨15, _⟩ => ⟨S4x128x128, .f32⟩
  | .local _ .vmem, ⟨16, _⟩ => ⟨S1x512, .f32⟩
  | .local _ .vmem, ⟨17, _⟩ => ⟨S2x512x512, .bf16⟩
  | .local _ .vmem, ⟨18, _⟩ => ⟨S2x512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_204 : BitVec 32 := 0#32
  let c0_i32_205 : BitVec 32 := 0#32
  ![v9.toNat, 0, 0]
def k0_cond2 (i : grid0.Coords) : BitVec 1 :=
  let arg0 : BitVec 32 := BitVec.ofNat 32 (i 0).val
  let c2_i32_11 : BitVec 32 := 2#32
  let v23 : BitVec 1 := Scalar.cmpi .sge arg0 c2_i32_11
  let v24 : BitVec 32 := Scalar.extui v23
  let c0_i32_12 : BitVec 32 := 0#32
  let v25 : BitVec 1 := Scalar.cmpi .ne v24 c0_i32_12
  v25

def k0_off3 (i : grid0.Coords) : Fin 1 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  ![v22.toNat]
def k0_off4 (i : grid0.Coords) : Fin 3 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_204 : BitVec 32 := 0#32
  let c0_i32_205 : BitVec 32 := 0#32
  ![v22.toNat, 0, 0]
def k0_off5 (i : grid0.Coords) : Fin 3 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_48 : BitVec 32 := 0#32
  let c0_i32_49 : BitVec 32 := 0#32
  ![v22.toNat, 0, 0]
def k0_off6 (i : grid0.Coords) : Fin 3 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_48 : BitVec 32 := 0#32
  let c0_i32_49 : BitVec 32 := 0#32
  ![v22.toNat, 0, 0]
def k0_off7 (i : grid0.Coords) : Fin 3 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_78 : BitVec 32 := 0#32
  ![v22.toNat, 0, 128]
def k0_off8 (i : grid0.Coords) : Fin 3 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_108 : BitVec 32 := 0#32
  ![v22.toNat, 0, 256]
def k0_off9 (i : grid0.Coords) : Fin 3 → Nat :=
  let arg0 : BitVec 32 := BitVec.ofNat 32 (i 0).val
  let c2_i32_5 : BitVec 32 := 2#32
  let c0_i32_6 : BitVec 32 := 0#32
  let v13 : BitVec 1 := Scalar.cmpi .eq c2_i32_5 c0_i32_6
  let c1_i32_7 : BitVec 32 := 1#32
  let v14 : BitVec 32 := Scalar.select v13 c1_i32_7 c2_i32_5
  let v15 : BitVec 32 := Scalar.remsi arg0 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let c0_i32_138 : BitVec 32 := 0#32
  ![v22.toNat, 0, 384]
def k0_off10 (i : grid0.Coords) : Fin 1 → Nat :=
  let arg0 : BitVec 32 := BitVec.ofNat 32 (i 0).val
  let c2_i32_181 : BitVec 32 := 2#32
  let c0_i32_182 : BitVec 32 := 0#32
  let v385 : BitVec 1 := Scalar.cmpi .eq c2_i32_181 c0_i32_182
  let c1_i32_183 : BitVec 32 := 1#32
  let v386 : BitVec 32 := Scalar.select v385 c1_i32_183 c2_i32_181
  let v387 : BitVec 32 := Scalar.remsi arg0 v386
  let c0_i32_185 : BitVec 32 := 0#32
  let v389 : BitVec 1 := Scalar.cmpi .slt v387 c0_i32_185
  let c0_i32_186 : BitVec 32 := 0#32
  let v390 : BitVec 1 := Scalar.cmpi .slt v386 c0_i32_186
  let v391 : BitVec 1 := Scalar.xori v389 v390
  let c0_i32_184 : BitVec 32 := 0#32
  let v388 : BitVec 1 := Scalar.cmpi .ne v387 c0_i32_184
  let v392 : BitVec 1 := Scalar.andi v391 v388
  let v393 : BitVec 32 := Scalar.addi v387 v386
  let v394 : BitVec 32 := Scalar.select v392 v393 v387
  ![v394.toNat]
def k0_off11 (i : grid0.Coords) : Fin 2 → Nat :=
  let arg0 : BitVec 32 := BitVec.ofNat 32 (i 0).val
  let c512_i32_180 : BitVec 32 := 512#32
  let v384 : BitVec 32 := Scalar.muli arg0 c512_i32_180
  let c2560_i32 : BitVec 32 := 2560#32
  ![v384.toNat, 2560]
def k0_cond4 (i : grid0.Coords) : BitVec 1 :=
  let arg0 : BitVec 32 := BitVec.ofNat 32 (i 0).val
  let c15_i32_189 : BitVec 32 := 15#32
  let v400 : BitVec 1 := Scalar.cmpi .eq arg0 c15_i32_189
  let v401 : BitVec 32 := Scalar.extui v400
  let c0_i32_190 : BitVec 32 := 0#32
  let v402 : BitVec 1 := Scalar.cmpi .ne v401 c0_i32_190
  v402

def k0_off12 (i : grid0.Coords) : Fin 1 → Nat :=
  let arg0 : BitVec 32 := BitVec.ofNat 32 (i 0).val
  let c2_i32_181 : BitVec 32 := 2#32
  let c0_i32_182 : BitVec 32 := 0#32
  let v385 : BitVec 1 := Scalar.cmpi .eq c2_i32_181 c0_i32_182
  let c1_i32_183 : BitVec 32 := 1#32
  let v386 : BitVec 32 := Scalar.select v385 c1_i32_183 c2_i32_181
  let v387 : BitVec 32 := Scalar.remsi arg0 v386
  let c0_i32_185 : BitVec 32 := 0#32
  let v389 : BitVec 1 := Scalar.cmpi .slt v387 c0_i32_185
  let c0_i32_186 : BitVec 32 := 0#32
  let v390 : BitVec 1 := Scalar.cmpi .slt v386 c0_i32_186
  let v391 : BitVec 1 := Scalar.xori v389 v390
  let c0_i32_184 : BitVec 32 := 0#32
  let v388 : BitVec 1 := Scalar.cmpi .ne v387 c0_i32_184
  let v392 : BitVec 1 := Scalar.andi v391 v388
  let v393 : BitVec 32 := Scalar.addi v387 v386
  let v394 : BitVec 32 := Scalar.select v392 v393 v387
  ![v394.toNat]
def k0_off13 (i : grid0.Coords) : Fin 3 → Nat :=
  let arg0 : BitVec 32 := BitVec.ofNat 32 (i 0).val
  let c2_i32_181 : BitVec 32 := 2#32
  let c0_i32_182 : BitVec 32 := 0#32
  let v385 : BitVec 1 := Scalar.cmpi .eq c2_i32_181 c0_i32_182
  let c1_i32_183 : BitVec 32 := 1#32
  let v386 : BitVec 32 := Scalar.select v385 c1_i32_183 c2_i32_181
  let v387 : BitVec 32 := Scalar.remsi arg0 v386
  let c0_i32_185 : BitVec 32 := 0#32
  let v389 : BitVec 1 := Scalar.cmpi .slt v387 c0_i32_185
  let c0_i32_186 : BitVec 32 := 0#32
  let v390 : BitVec 1 := Scalar.cmpi .slt v386 c0_i32_186
  let v391 : BitVec 1 := Scalar.xori v389 v390
  let c0_i32_184 : BitVec 32 := 0#32
  let v388 : BitVec 1 := Scalar.cmpi .ne v387 c0_i32_184
  let v392 : BitVec 1 := Scalar.andi v391 v388
  let v393 : BitVec 32 := Scalar.addi v387 v386
  let v394 : BitVec 32 := Scalar.select v392 v393 v387
  let c0_i32_204 : BitVec 32 := 0#32
  let c0_i32_205 : BitVec 32 := 0#32
  ![v394.toNat, 0, 0]
def k0_off14 (i : grid0.Coords) : Fin 1 → Nat :=
  let c1_i32_206 : BitVec 32 := 1#32
  let arg0 : BitVec 32 := BitVec.ofNat 32 (i 0).val
  let c2_i32_181 : BitVec 32 := 2#32
  let c0_i32_182 : BitVec 32 := 0#32
  let v385 : BitVec 1 := Scalar.cmpi .eq c2_i32_181 c0_i32_182
  let c1_i32_183 : BitVec 32 := 1#32
  let v386 : BitVec 32 := Scalar.select v385 c1_i32_183 c2_i32_181
  let v387 : BitVec 32 := Scalar.remsi arg0 v386
  let c0_i32_185 : BitVec 32 := 0#32
  let v389 : BitVec 1 := Scalar.cmpi .slt v387 c0_i32_185
  let c0_i32_186 : BitVec 32 := 0#32
  let v390 : BitVec 1 := Scalar.cmpi .slt v386 c0_i32_186
  let v391 : BitVec 1 := Scalar.xori v389 v390
  let c0_i32_184 : BitVec 32 := 0#32
  let v388 : BitVec 1 := Scalar.cmpi .ne v387 c0_i32_184
  let v392 : BitVec 1 := Scalar.andi v391 v388
  let v393 : BitVec 32 := Scalar.addi v387 v386
  let v394 : BitVec 32 := Scalar.select v392 v393 v387
  let v427 : BitVec 32 := Scalar.subi c1_i32_206 v394
  ![v427.toNat]
def k0_off15 (i : grid0.Coords) : Fin 3 → Nat :=
  let c1_i32_206 : BitVec 32 := 1#32
  let arg0 : BitVec 32 := BitVec.ofNat 32 (i 0).val
  let c2_i32_181 : BitVec 32 := 2#32
  let c0_i32_182 : BitVec 32 := 0#32
  let v385 : BitVec 1 := Scalar.cmpi .eq c2_i32_181 c0_i32_182
  let c1_i32_183 : BitVec 32 := 1#32
  let v386 : BitVec 32 := Scalar.select v385 c1_i32_183 c2_i32_181
  let v387 : BitVec 32 := Scalar.remsi arg0 v386
  let c0_i32_185 : BitVec 32 := 0#32
  let v389 : BitVec 1 := Scalar.cmpi .slt v387 c0_i32_185
  let c0_i32_186 : BitVec 32 := 0#32
  let v390 : BitVec 1 := Scalar.cmpi .slt v386 c0_i32_186
  let v391 : BitVec 1 := Scalar.xori v389 v390
  let c0_i32_184 : BitVec 32 := 0#32
  let v388 : BitVec 1 := Scalar.cmpi .ne v387 c0_i32_184
  let v392 : BitVec 1 := Scalar.andi v391 v388
  let v393 : BitVec 32 := Scalar.addi v387 v386
  let v394 : BitVec 32 := Scalar.select v392 v393 v387
  let v427 : BitVec 32 := Scalar.subi c1_i32_206 v394
  let c0_i32_209 : BitVec 32 := 0#32
  let c0_i32_210 : BitVec 32 := 0#32
  ![v427.toNat, 0, 0]
def k0_off16 (i : grid0.Coords) : Fin 2 → Nat :=
  let arg0 : BitVec 32 := BitVec.ofNat 32 (i 0).val
  let c512_i32_191 : BitVec 32 := 512#32
  let v403 : BitVec 32 := Scalar.muli arg0 c512_i32_191
  let c4608_i32 : BitVec 32 := 4608#32
  ![v403.toNat, 4608]
def k0_cond5 (i : grid0.Coords) : BitVec 1 :=
  let arg0 : BitVec 32 := BitVec.ofNat 32 (i 0).val
  let c15_i32_200 : BitVec 32 := 15#32
  let v419 : BitVec 1 := Scalar.cmpi .eq arg0 c15_i32_200
  let v420 : BitVec 32 := Scalar.extui v419
  let c0_i32_201 : BitVec 32 := 0#32
  let v421 : BitVec 1 := Scalar.cmpi .ne v420 c0_i32_201
  v421

def k0_off17 (i : grid0.Coords) : Fin 1 → Nat :=
  let arg0 : BitVec 32 := BitVec.ofNat 32 (i 0).val
  let c2_i32_192 : BitVec 32 := 2#32
  let c0_i32_193 : BitVec 32 := 0#32
  let v404 : BitVec 1 := Scalar.cmpi .eq c2_i32_192 c0_i32_193
  let c1_i32_194 : BitVec 32 := 1#32
  let v405 : BitVec 32 := Scalar.select v404 c1_i32_194 c2_i32_192
  let v406 : BitVec 32 := Scalar.remsi arg0 v405
  let c0_i32_196 : BitVec 32 := 0#32
  let v408 : BitVec 1 := Scalar.cmpi .slt v406 c0_i32_196
  let c0_i32_197 : BitVec 32 := 0#32
  let v409 : BitVec 1 := Scalar.cmpi .slt v405 c0_i32_197
  let v410 : BitVec 1 := Scalar.xori v408 v409
  let c0_i32_195 : BitVec 32 := 0#32
  let v407 : BitVec 1 := Scalar.cmpi .ne v406 c0_i32_195
  let v411 : BitVec 1 := Scalar.andi v410 v407
  let v412 : BitVec 32 := Scalar.addi v406 v405
  let v413 : BitVec 32 := Scalar.select v411 v412 v406
  ![v413.toNat]
def k0_off18 (i : grid0.Coords) : Fin 3 → Nat :=
  let arg0 : BitVec 32 := BitVec.ofNat 32 (i 0).val
  let c2_i32_192 : BitVec 32 := 2#32
  let c0_i32_193 : BitVec 32 := 0#32
  let v404 : BitVec 1 := Scalar.cmpi .eq c2_i32_192 c0_i32_193
  let c1_i32_194 : BitVec 32 := 1#32
  let v405 : BitVec 32 := Scalar.select v404 c1_i32_194 c2_i32_192
  let v406 : BitVec 32 := Scalar.remsi arg0 v405
  let c0_i32_196 : BitVec 32 := 0#32
  let v408 : BitVec 1 := Scalar.cmpi .slt v406 c0_i32_196
  let c0_i32_197 : BitVec 32 := 0#32
  let v409 : BitVec 1 := Scalar.cmpi .slt v405 c0_i32_197
  let v410 : BitVec 1 := Scalar.xori v408 v409
  let c0_i32_195 : BitVec 32 := 0#32
  let v407 : BitVec 1 := Scalar.cmpi .ne v406 c0_i32_195
  let v411 : BitVec 1 := Scalar.andi v410 v407
  let v412 : BitVec 32 := Scalar.addi v406 v405
  let v413 : BitVec 32 := Scalar.select v411 v412 v406
  let c0_i32_204 : BitVec 32 := 0#32
  let c0_i32_205 : BitVec 32 := 0#32
  ![v413.toNat, 0, 0]
def k0_off19 (i : grid0.Coords) : Fin 1 → Nat :=
  let c1_i32_206 : BitVec 32 := 1#32
  let arg0 : BitVec 32 := BitVec.ofNat 32 (i 0).val
  let c2_i32_192 : BitVec 32 := 2#32
  let c0_i32_193 : BitVec 32 := 0#32
  let v404 : BitVec 1 := Scalar.cmpi .eq c2_i32_192 c0_i32_193
  let c1_i32_194 : BitVec 32 := 1#32
  let v405 : BitVec 32 := Scalar.select v404 c1_i32_194 c2_i32_192
  let v406 : BitVec 32 := Scalar.remsi arg0 v405
  let c0_i32_196 : BitVec 32 := 0#32
  let v408 : BitVec 1 := Scalar.cmpi .slt v406 c0_i32_196
  let c0_i32_197 : BitVec 32 := 0#32
  let v409 : BitVec 1 := Scalar.cmpi .slt v405 c0_i32_197
  let v410 : BitVec 1 := Scalar.xori v408 v409
  let c0_i32_195 : BitVec 32 := 0#32
  let v407 : BitVec 1 := Scalar.cmpi .ne v406 c0_i32_195
  let v411 : BitVec 1 := Scalar.andi v410 v407
  let v412 : BitVec 32 := Scalar.addi v406 v405
  let v413 : BitVec 32 := Scalar.select v411 v412 v406
  let v427 : BitVec 32 := Scalar.subi c1_i32_206 v413
  ![v427.toNat]
def k0_off20 (i : grid0.Coords) : Fin 3 → Nat :=
  let c1_i32_206 : BitVec 32 := 1#32
  let arg0 : BitVec 32 := BitVec.ofNat 32 (i 0).val
  let c2_i32_192 : BitVec 32 := 2#32
  let c0_i32_193 : BitVec 32 := 0#32
  let v404 : BitVec 1 := Scalar.cmpi .eq c2_i32_192 c0_i32_193
  let c1_i32_194 : BitVec 32 := 1#32
  let v405 : BitVec 32 := Scalar.select v404 c1_i32_194 c2_i32_192
  let v406 : BitVec 32 := Scalar.remsi arg0 v405
  let c0_i32_196 : BitVec 32 := 0#32
  let v408 : BitVec 1 := Scalar.cmpi .slt v406 c0_i32_196
  let c0_i32_197 : BitVec 32 := 0#32
  let v409 : BitVec 1 := Scalar.cmpi .slt v405 c0_i32_197
  let v410 : BitVec 1 := Scalar.xori v408 v409
  let c0_i32_195 : BitVec 32 := 0#32
  let v407 : BitVec 1 := Scalar.cmpi .ne v406 c0_i32_195
  let v411 : BitVec 1 := Scalar.andi v410 v407
  let v412 : BitVec 32 := Scalar.addi v406 v405
  let v413 : BitVec 32 := Scalar.select v411 v412 v406
  let v427 : BitVec 32 := Scalar.subi c1_i32_206 v413
  let c0_i32_209 : BitVec 32 := 0#32
  let c0_i32_210 : BitVec 32 := 0#32
  ![v427.toNat, 0, 0]
def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c9_i32 : BitVec 32 := 9#32
  let c0_i32 : BitVec 32 := 0#32
  ![v2.toNat, c9_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x2048 : Shape := ⟨2, ![8192, 2048]⟩
abbrev S8192x5120 : Shape := ⟨2, ![8192, 5120]⟩
abbrev S4x128x128 : Shape := ⟨3, ![4, 128, 128]⟩
abbrev S512 : Shape := ⟨1, ![512]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1 : Shape := ⟨2, ![8192, 1]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩
abbrev S4x8192x128 : Shape := ⟨3, ![4, 8192, 128]⟩
abbrev S8192x2560 : Shape := ⟨2, ![8192, 2560]⟩
abbrev S8192x1536 : Shape := ⟨2, ![8192, 1536]⟩

abbrev nBuf : Space → Nat
  | .hbm => 218
  | .vmem => 0
  | .smem => 0
  | _ => 0

abbrev hbmTy0_0 (i : Nat) : BufTy := match i % 128 with
  | 0 => ⟨S8192x2048, .bf16⟩
  | 1 => ⟨S8192x5120, .bf16⟩
  | 2 => ⟨S8192x5120, .bf16⟩
  | 3 => ⟨S4x128x128, .f32⟩
  | 4 => ⟨S512, .f32⟩
  | 5 => ⟨S8192x512, .bf16⟩
  | 6 => ⟨S8192x512, .f32⟩
  | 7 => ⟨S8192x512, .bf16⟩
  | 8 => ⟨S8192x512, .f32⟩
  | 9 => ⟨S8192x512, .bf16⟩
  | 10 => ⟨S8192x512, .f32⟩
  | 11 => ⟨S8192x4x128, .f32⟩
  | 12 => ⟨S_, .f32⟩
  | 13 => ⟨S_, .f32⟩
  | 14 => ⟨S8192x4x128, .f32⟩
  | 15 => ⟨S8192, .f32⟩
  | 16 => ⟨S_, .f32⟩
  | 17 => ⟨S8192, .f32⟩
  | 18 => ⟨S8192, .f32⟩
  | 19 => ⟨S8192x1, .f32⟩
  | 20 => ⟨S8192x1x128, .f32⟩
  | 21 => ⟨S8192x128, .f32⟩
  | 22 => ⟨S_, .f32⟩
  | 23 => ⟨S2x128, .f32⟩
  | 24 => ⟨S8190x128, .f32⟩
  | 25 => ⟨S8192x128, .f32⟩
  | 26 => ⟨S_, .f32⟩
  | 27 => ⟨S2x128, .f32⟩
  | 28 => ⟨S8192x128, .f32⟩
  | 29 => ⟨S_, .f32⟩
  | 30 => ⟨S8192x1, .f32⟩
  | 31 => ⟨S8192x1, .f32⟩
  | 32 => ⟨S8192x128, .f32⟩
  | 33 => ⟨S8192x128, .f32⟩
  | 34 => ⟨S8192x1x128, .f32⟩
  | 35 => ⟨S8192x128, .f32⟩
  | 36 => ⟨S8192x128, .f32⟩
  | 37 => ⟨S8192x1x128, .f32⟩
  | 38 => ⟨S8192x128, .f32⟩
  | 39 => ⟨S_, .f32⟩
  | 40 => ⟨S4x128, .f32⟩
  | 41 => ⟨S8188x128, .f32⟩
  | 42 => ⟨S8192x128, .f32⟩
  | 43 => ⟨S_, .f32⟩
  | 44 => ⟨S4x128, .f32⟩
  | 45 => ⟨S8192x128, .f32⟩
  | 46 => ⟨S_, .f32⟩
  | 47 => ⟨S8192x1, .f32⟩
  | 48 => ⟨S8192x1, .f32⟩
  | 49 => ⟨S8192x128, .f32⟩
  | 50 => ⟨S8192x128, .f32⟩
  | 51 => ⟨S8192x1x128, .f32⟩
  | 52 => ⟨S8192x128, .f32⟩
  | 53 => ⟨S8192x128, .f32⟩
  | 54 => ⟨S8192x1x128, .f32⟩
  | 55 => ⟨S8192x128, .f32⟩
  | 56 => ⟨S_, .f32⟩
  | 57 => ⟨S8x128, .f32⟩
  | 58 => ⟨S8184x128, .f32⟩
  | 59 => ⟨S8192x128, .f32⟩
  | 60 => ⟨S_, .f32⟩
  | 61 => ⟨S8x128, .f32⟩
  | 62 => ⟨S8192x128, .f32⟩
  | 63 => ⟨S_, .f32⟩
  | 64 => ⟨S8192x1, .f32⟩
  | 65 => ⟨S8192x1, .f32⟩
  | 66 => ⟨S8192x128, .f32⟩
  | 67 => ⟨S8192x128, .f32⟩
  | 68 => ⟨S8192x1x128, .f32⟩
  | 69 => ⟨S8192x128, .f32⟩
  | 70 => ⟨S8192x128, .f32⟩
  | 71 => ⟨S8192x1x128, .f32⟩
  | 72 => ⟨S8192x128, .f32⟩
  | 73 => ⟨S_, .f32⟩
  | 74 => ⟨S16x128, .f32⟩
  | 75 => ⟨S8176x128, .f32⟩
  | 76 => ⟨S8192x128, .f32⟩
  | 77 => ⟨S_, .f32⟩
  | 78 => ⟨S16x128, .f32⟩
  | 79 => ⟨S8192x128, .f32⟩
  | 80 => ⟨S_, .f32⟩
  | 81 => ⟨S8192x1, .f32⟩
  | 82 => ⟨S8192x1, .f32⟩
  | 83 => ⟨S8192x128, .f32⟩
  | 84 => ⟨S8192x128, .f32⟩
  | 85 => ⟨S8192x1x128, .f32⟩
  | 86 => ⟨S8192x128, .f32⟩
  | 87 => ⟨S8192x128, .f32⟩
  | 88 => ⟨S8192x1x128, .f32⟩
  | 89 => ⟨S8192x1x128, .f32⟩
  | 90 => ⟨S8192x1x128, .f32⟩
  | 91 => ⟨S8192x1x128, .f32⟩
  | 92 => ⟨S8192x4x128, .f32⟩
  | 93 => ⟨S4x128x8192, .f32⟩
  | 94 => ⟨S8192x4x128, .f32⟩
  | 95 => ⟨S8192x512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S_, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S8192x512, .f32⟩
  | 120 => ⟨S_, .f32⟩
  | 121 => ⟨S512, .f32⟩
  | 122 => ⟨S1x512, .f32⟩
  | 123 => ⟨S8192x512, .f32⟩
  | 124 => ⟨S8192x512, .f32⟩
  | 125 => ⟨S_, .f32⟩
  | 126 => ⟨S512, .f32⟩
  | 127 => ⟨S8192x4x128, .f32⟩
  | _ => ⟨S8192x2048, .bf16⟩

abbrev hbmTy0_1 (i : Nat) : BufTy := match i % 128 with
  | 0 => ⟨S4x128x8192, .f32⟩
  | 1 => ⟨S4x8192x128, .f32⟩
  | 2 => ⟨S8192x4x128, .f32⟩
  | 3 => ⟨S4x128x128, .f32⟩
  | 4 => ⟨S4x128x128, .f32⟩
  | 5 => ⟨S8192x1x128, .f32⟩
  | 6 => ⟨S8192x128, .f32⟩
  | 7 => ⟨S8192x1x128, .f32⟩
  | 8 => ⟨S8192x128, .f32⟩
  | 9 => ⟨S8192x1x128, .f32⟩
  | 10 => ⟨S8192x128, .f32⟩
  | 11 => ⟨S8192x1x128, .f32⟩
  | 12 => ⟨S8192x128, .f32⟩
  | 13 => ⟨S8192x128, .f32⟩
  | 14 => ⟨S8192x1x128, .f32⟩
  | 15 => ⟨S_, .f32⟩
  | 16 => ⟨S8192x4x128, .f32⟩
  | 17 => ⟨S8192x128, .f32⟩
  | 18 => ⟨S8192x128, .f32⟩
  | 19 => ⟨S8192x128, .f32⟩
  | 20 => ⟨S16x128, .f32⟩
  | 21 => ⟨S8176x128, .f32⟩
  | 22 => ⟨S_, .f32⟩
  | 23 => ⟨S8192x128, .f32⟩
  | 24 => ⟨S8192x128, .f32⟩
  | 25 => ⟨S8192x1x128, .f32⟩
  | 26 => ⟨S_, .f32⟩
  | 27 => ⟨S8192x4x128, .f32⟩
  | 28 => ⟨S8192x128, .f32⟩
  | 29 => ⟨S8192x1x128, .f32⟩
  | 30 => ⟨S_, .f32⟩
  | 31 => ⟨S8192x4x128, .f32⟩
  | 32 => ⟨S8192x4x128, .f32⟩
  | 33 => ⟨S8192x128, .f32⟩
  | 34 => ⟨S8192x128, .f32⟩
  | 35 => ⟨S8192x128, .f32⟩
  | 36 => ⟨S8x128, .f32⟩
  | 37 => ⟨S8184x128, .f32⟩
  | 38 => ⟨S_, .f32⟩
  | 39 => ⟨S8192x128, .f32⟩
  | 40 => ⟨S8192x128, .f32⟩
  | 41 => ⟨S8192x1x128, .f32⟩
  | 42 => ⟨S_, .f32⟩
  | 43 => ⟨S8192x4x128, .f32⟩
  | 44 => ⟨S8192x4x128, .f32⟩
  | 45 => ⟨S8192x128, .f32⟩
  | 46 => ⟨S8192x1x128, .f32⟩
  | 47 => ⟨S_, .f32⟩
  | 48 => ⟨S8192x4x128, .f32⟩
  | 49 => ⟨S8192x4x128, .f32⟩
  | 50 => ⟨S8192x128, .f32⟩
  | 51 => ⟨S8192x128, .f32⟩
  | 52 => ⟨S8192x128, .f32⟩
  | 53 => ⟨S4x128, .f32⟩
  | 54 => ⟨S8188x128, .f32⟩
  | 55 => ⟨S_, .f32⟩
  | 56 => ⟨S8192x128, .f32⟩
  | 57 => ⟨S8192x128, .f32⟩
  | 58 => ⟨S8192x1x128, .f32⟩
  | 59 => ⟨S_, .f32⟩
  | 60 => ⟨S8192x4x128, .f32⟩
  | 61 => ⟨S8192x4x128, .f32⟩
  | 62 => ⟨S8192x128, .f32⟩
  | 63 => ⟨S8192x1x128, .f32⟩
  | 64 => ⟨S_, .f32⟩
  | 65 => ⟨S8192x4x128, .f32⟩
  | 66 => ⟨S8192x4x128, .f32⟩
  | 67 => ⟨S8192x128, .f32⟩
  | 68 => ⟨S8192x128, .f32⟩
  | 69 => ⟨S8192x128, .f32⟩
  | 70 => ⟨S2x128, .f32⟩
  | 71 => ⟨S8190x128, .f32⟩
  | 72 => ⟨S_, .f32⟩
  | 73 => ⟨S8192x128, .f32⟩
  | 74 => ⟨S8192x128, .f32⟩
  | 75 => ⟨S8192x1x128, .f32⟩
  | 76 => ⟨S_, .f32⟩
  | 77 => ⟨S8192x4x128, .f32⟩
  | 78 => ⟨S8192x4x128, .f32⟩
  | 79 => ⟨S_, .f32⟩
  | 80 => ⟨S_, .f32⟩
  | 81 => ⟨S8192x4x128, .f32⟩
  | 82 => ⟨S8192x4x128, .f32⟩
  | 83 => ⟨S8192x512, .f32⟩
  | 84 => ⟨S8192x2560, .bf16⟩
  | 85 => ⟨S8192x512, .bf16⟩
  | 86 => ⟨S8192x1536, .bf16⟩
  | 87 => ⟨S8192x512, .bf16⟩
  | 88 => ⟨S8192x5120, .bf16⟩
  | 89 => ⟨S1x512, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_v79_2 : Ref sig .tc := ⟨.hbm, 106, rfl⟩
abbrev main_call1_cst_1 : Ref sig .tc := ⟨.hbm, 107, rfl⟩
abbrev main_call1_v6 : Ref sig .tc := ⟨.hbm, 108, rfl⟩
abbrev main_call1_v7 : Ref sig .tc := ⟨.hbm, 109, rfl⟩
abbrev main_v79_1 : Ref sig .tc := ⟨.hbm, 110, rfl⟩
abbrev main_v79_0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v83 : Ref sig .tc := ⟨.hbm, 118, rfl⟩
abbrev main_v84 : Ref sig .tc := ⟨.hbm, 119, rfl⟩
abbrev main_cst_12 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_13 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_14 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_15 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_16 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_17 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_18 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_19 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_20 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_21 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_22 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_23 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_24 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_25 : Ref sig .tc := ⟨.hbm, 204, rfl⟩
abbrev main_v156 : Ref sig .tc := ⟨.hbm, 205, rfl⟩
abbrev main_v157 : Ref sig .tc := ⟨.hbm, 206, rfl⟩
abbrev main_call3_call0_cst : Ref sig .tc := ⟨.hbm, 207, rfl⟩
abbrev main_call3_call0_v0 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5120 : Shape := ⟨2, ![2048, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S4x2048x1280 : Shape := ⟨3, ![4, 2048, 1280]⟩
abbrev S512x2048 : Shape := ⟨2, ![512, 2048]⟩
abbrev S512x1280 : Shape := ⟨2, ![512, 1280]⟩
abbrev S1x2048x1280 : Shape := ⟨3, ![1, 2048, 1280]⟩
abbrev S2048x1280 : Shape := ⟨2, ![2048, 1280]⟩

abbrev nBuf : Space → Nat
  | .hbm => 22
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x5120, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S4x2048x1280, .f32⟩
  | .local _ .vmem, ⟨0, _⟩ => ⟨S512x2048, .bf16⟩
  | .local _ .vmem, ⟨1, _⟩ => ⟨S512x2048, .bf16⟩
  | .local _ .vmem, ⟨2, _⟩ => ⟨S512x1280, .bf16⟩
  | .local _ .vmem, ⟨3, _⟩ => ⟨S512x1280, .bf16⟩
  | .local _ .vmem, ⟨4, _⟩ => ⟨S1x2048x1280, .f32⟩
  | .local _ .vmem, ⟨5, _⟩ => ⟨S1x2048x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x2048 : Shape := ⟨2, ![8192, 2048]⟩
abbrev S2048 : Shape := ⟨1, ![2048]⟩
abbrev S2048x5120 : Shape := ⟨2, ![2048, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S5120x2048 : Shape := ⟨2, ![5120, 2048]⟩
abbrev S2048x4x1280 : Shape := ⟨3, ![2048, 4, 1280]⟩
abbrev S4x2048x1280 : Shape := ⟨3, ![4, 2048, 1280]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x5120, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x5120, .f32⟩
  | .hbm, ⟨25, _⟩ => ⟨S8192x5120, .f32⟩
  | .hbm, ⟨26, _⟩ => ⟨S5120x2048, .f32⟩
  | .hbm, ⟨27, _⟩ => ⟨S2048x5120, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S2048x4x1280, .f32⟩
  | .hbm, ⟨55, _⟩ => ⟨S4x2048x1280, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel3.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .f32⟩
  | .local _ .vmem, ⟨3, _⟩ => ⟨S512x2048, .f32⟩
  | .local _ .vmem, ⟨4, _⟩ => ⟨S1024x2048, .f32⟩
  | .local _ .vmem, ⟨5, _⟩ => ⟨S1024x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x512, .f32⟩
  | .hbm, ⟨7, _⟩ => ⟨S8192x1024, .f32⟩
  | .hbm, ⟨8, _⟩ => ⟨S8192x512, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S2048x2048, .f32⟩
  | .hbm, ⟨14, _⟩ => ⟨S2048x2048, .f32⟩
  | .hbm, ⟨15, _⟩ => ⟨S8192x2048, .f32⟩
  | .hbm, ⟨16, _⟩ => ⟨S8192x512, .f32⟩
  | .hbm, ⟨17, _⟩ => ⟨S8192x1024, .f32⟩
  | .hbm, ⟨18, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel4.lean ====
abbrev S2048x2048 : Shape := ⟨2, ![2048, 2048]⟩
abbrev S8192x2048 : Shape := ⟨2, ![8192, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .bf16⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x5120 : Shape := ⟨2, ![2048, 5120]⟩
abbrev S2x1024x4x1280 : Shape := ⟨4, ![2, 1024, 4, 1280]⟩
abbrev S2x4x1024x1280 : Shape := ⟨4, ![2, 4, 1024, 1280]⟩
abbrev S1x2048 : Shape := ⟨2, ![1, 2048]⟩
abbrev S8192x5120 : Shape := ⟨2, ![8192, 5120]⟩
abbrev S512x2048 : Shape := ⟨2, ![512, 2048]⟩
abbrev S2x1x1024x1280 : Shape := ⟨4, ![2, 1, 1024, 1280]⟩
abbrev S512x1280 : Shape := ⟨2, ![512, 1280]⟩
abbrev S512 : Shape := ⟨1, ![512]⟩
abbrev S512x1 : Shape := ⟨2, ![512, 1]⟩
abbrev S512x1024 : Shape := ⟨2, ![512, 1024]⟩
abbrev S1x1x1024x1280 : Shape := ⟨4, ![1, 1, 1024, 1280]⟩
abbrev S1024x1280 : Shape := ⟨2, ![1024, 1280]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S2048x5120, .bf16⟩
  | .hbm, ⟨4, _⟩ => ⟨S2x1024x4x1280, .bf16⟩
  | .hbm, ⟨5, _⟩ => ⟨S2x4x1024x1280, .bf16⟩
  | .hbm, ⟨6, _⟩ => ⟨S1x2048, .f32⟩
  | .hbm, ⟨7, _⟩ => ⟨S8192x5120, .bf16⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2x1x1024x1280, .bf16⟩
  | .local _ .vmem, ⟨4, _⟩ => ⟨S2x1x1024x1280, .bf16⟩
  | .local _ .vmem, ⟨5, _⟩ => ⟨S512x1280, .bf16⟩
  | .local _ .vmem, ⟨6, _⟩ => ⟨S512x1280, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x2048 : Shape := ⟨2, ![8192, 2048]⟩
abbrev S2048 : Shape := ⟨1, ![2048]⟩
abbrev S2048x5120 : Shape := ⟨2, ![2048, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5120 : Shape := ⟨2, ![8192, 5120]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x5120, .f32⟩
  | .hbm, ⟨20, _⟩ => ⟨S8192x5120, .bf16⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel6.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S512x512 : Shape := ⟨2, ![512, 512]⟩
abbrev S512x1024 : Shape := ⟨2, ![512, 1024]⟩
abbrev S2048x1024 : Shape := ⟨2, ![2048, 1024]⟩
abbrev S512x2048 : Shape := ⟨2, ![512, 2048]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2048x2048, .bf16⟩
  | .hbm, ⟨6, _⟩ => ⟨S8192x2048, .f32⟩
  | .hbm, ⟨7, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x2048, .bf16⟩
  | .local _ .vmem, ⟨13, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S8192x512, .f32⟩
  | .hbm, ⟨6, _⟩ => ⟨S8192x1024, .f32⟩
  | .hbm, ⟨7, _⟩ => ⟨S8192x512, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S2048x5120 : Shape := ⟨2, ![2048, 5120]⟩
abbrev S8192x5120 : Shape := ⟨2, ![8192, 5120]⟩
abbrev S2x1024x4x1280 : Shape := ⟨4, ![2, 1024, 4, 1280]⟩
abbrev S2x4x1024x1280 : Shape := ⟨4, ![2, 4, 1024, 1280]⟩
abbrev S1x2048 : Shape := ⟨2, ![1, 2048]⟩
abbrev S512x1280 : Shape := ⟨2, ![512, 1280]⟩
abbrev S2x1x1024x1280 : Shape := ⟨4, ![2, 1, 1024, 1280]⟩
abbrev S512x2048 : Shape := ⟨2, ![512, 2048]⟩
abbrev S1x1x1024x1280 : Shape := ⟨4, ![1, 1, 1024, 1280]⟩
abbrev S1024x1280 : Shape := ⟨2, ![1024, 1280]⟩
abbrev S512x1024 : Shape := ⟨2, ![512, 1024]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x5120, .bf16⟩
  | .hbm, ⟨4, _⟩ => ⟨S8192x2048, .f32⟩
  | .hbm, ⟨5, _⟩ => ⟨S2048x5120, .bf16⟩
  | .hbm, ⟨6, _⟩ => ⟨S2x1024x4x1280, .bf16⟩
  | .hbm, ⟨7, _⟩ => ⟨S2x4x1024x1280, .bf16⟩
  | .hbm, ⟨8, _⟩ => ⟨S1x2048, .f32⟩
  | .hbm, ⟨9, _⟩ => ⟨S8192x2048, .f32⟩
  | .hbm, ⟨10, _⟩ => ⟨S1x2048, .f32⟩
  | .local _ .vmem, ⟨0, _⟩ => ⟨S512x1280, .bf16⟩
  | .local _ .vmem, ⟨1, _⟩ => ⟨S512x1280, .bf16⟩
  | .local _ .vmem, ⟨2, _⟩ => ⟨S2x1x1024x1280, .bf16⟩
  | .local _ .vmem, ⟨3, _⟩ => ⟨S2x1x1024x1280, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_14 : BitVec 32 := 0#32
  let v16 : BitVec 1 := Scalar.cmpi .ne v15 c0_i32_14
  v16

def k0_cond4 (i : grid0.Coords) : BitVec 1 :=
  let arg0 : BitVec 32 := BitVec.ofNat 32 (i 0).val
  let c0_i32_15 : BitVec 32 := 0#32
  let v17 : BitVec 1 := Scalar.cmpi .eq arg0 c0_i32_15
  let v18 : BitVec 32 := Scalar.extui v17
  let c0_i32_16 : BitVec 32 := 0#32
  let v19 : BitVec 1 := Scalar.cmpi .ne v18 c0_i32_16
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference7Ideal.lean ====
abbrev S8192x2048 : Shape := ⟨2, ![8192, 2048]⟩
abbrev S2048 : Shape := ⟨1, ![2048]⟩
abbrev S2048x5120 : Shape := ⟨2, ![2048, 5120]⟩
abbrev S8192x5120 : Shape := ⟨2, ![8192, 5120]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S5120x2048 : Shape := ⟨2, ![5120, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5120, .f32⟩
  | .hbm, ⟨3, _⟩ => ⟨S8192x5120, .bf16⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x5120, .f32⟩
  | .hbm, ⟨26, _⟩ => ⟨S8192x5120, .f32⟩
  | .hbm, ⟨27, _⟩ => ⟨S5120x2048, .f32⟩
  | .hbm, ⟨28, _⟩ => ⟨S2048x5120, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S256x512 : Shape := ⟨2, ![256, 512]⟩
abbrev S256x1024 : Shape := ⟨2, ![256, 1024]⟩
abbrev S256x2048 : Shape := ⟨2, ![256, 2048]⟩
abbrev S512x2048 : Shape := ⟨2, ![512, 2048]⟩
abbrev S1024x2048 : Shape := ⟨2, ![1024, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 13
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S2048x2048, .bf16⟩
  | .hbm, ⟨8, _⟩ => ⟨S1x2048, .f32⟩
  | .hbm, ⟨9, _⟩ => ⟨S8192x2048, .f32⟩
  | .hbm, ⟨10, _⟩ => ⟨S1x128, .f32⟩
  | .hbm, ⟨11, _⟩ => ⟨S1x2048, .f32⟩
  | .hbm, ⟨12, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S1x128, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v67 : BitVec 1 := Scalar.cmpi .eq arg0 c0_i32
  let v68 : BitVec 32 := Scalar.extui v67
  let c0_i32_44 : BitVec 32 := 0#32
  let v69 : BitVec 1 := Scalar.cmpi .ne v68 c0_i32_44
  v69

def k0_cond2 (i : grid0.Coords) : BitVec 1 :=
  let arg0 : BitVec 32 := BitVec.ofNat 32 (i 0).val
  let c0_i32_45 : BitVec 32 := 0#32
  let v70 : BitVec 1 := Scalar.cmpi .sgt arg0 c0_i32_45
  let v71 : BitVec 32 := Scalar.extui v70
  let c0_i32_46 : BitVec 32 := 0#32
  let v72 : BitVec 1 := Scalar.cmpi .ne v71 c0_i32_46
  v72

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S8192x512, .f32⟩
  | .hbm, ⟨8, _⟩ => ⟨S8192x1024, .f32⟩
  | .hbm, ⟨9, _⟩ => ⟨S8192x512, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S1x128, .f32⟩
  | .hbm, ⟨82, _⟩ => ⟨S1x2048, .f32⟩
  | .hbm, ⟨83, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel9.lean ====
abbrev S6144x128 : Shape := ⟨2, ![6144, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S6144x128, .f32⟩
  | .hbm, ⟨1, _⟩ => ⟨S6144x128, .f32⟩
  | .hbm, ⟨2, _⟩ => ⟨S6144x128, .f32⟩
  | .hbm, ⟨3, _⟩ => ⟨S6144x128, .f32⟩
  | .hbm, ⟨4, _⟩ => ⟨S6144x128, .f32⟩
  | .hbm, ⟨5, _⟩ => ⟨S6144x128, .f32⟩
  | .hbm, ⟨6, _⟩ => ⟨S6144x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S6144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S6144x128 : Shape := ⟨2, ![6144, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6144x128, .f32⟩
  | .hbm, ⟨1, _⟩ => ⟨S6144x128, .f32⟩
  | .hbm, ⟨2, _⟩ => ⟨S6144x128, .f32⟩
  | .hbm, ⟨3, _⟩ => ⟨S6144x128, .f32⟩
  | .hbm, ⟨4, _⟩ => ⟨S_, .f32⟩
  | .hbm, ⟨5, _⟩ => ⟨S6144x128, .f32⟩
  | .hbm, ⟨6, _⟩ => ⟨S6144x128, .f32⟩
  | .hbm, ⟨7, _⟩ => ⟨S_, .f32⟩
  | .hbm, ⟨8, _⟩ => ⟨S6144x128, .f32⟩
  | .hbm, ⟨9, _⟩ => ⟨S6144x128, .f32⟩
  | .hbm, ⟨10, _⟩ => ⟨S6144x128, .f32⟩
  | .hbm, ⟨11, _⟩ => ⟨S_, .f32⟩
  | .hbm, ⟨12, _⟩ => ⟨S6144x128, .f32⟩
  | .hbm, ⟨13, _⟩ => ⟨S6144x128, .f32⟩
  | .hbm, ⟨14, _⟩ => ⟨S6144x128, .f32⟩
  | .hbm, ⟨15, _⟩ => ⟨S_, .f32⟩
  | .hbm, ⟨16, _⟩ => ⟨S6144x128, .f32⟩
  | .hbm, ⟨17, _⟩ => ⟨S6144x128, .f32⟩
  | .hbm, ⟨18, _⟩ => ⟨S6144x128, .f32⟩
  | .hbm, ⟨19, _⟩ => ⟨S_, .f32⟩
  | .hbm, ⟨20, _⟩ => ⟨S6144x128, .f32⟩
  | .hbm, ⟨21, _⟩ => ⟨S6144x128, .f32⟩
  | .hbm, ⟨22, _⟩ => ⟨S_, .f32⟩
  | .hbm, ⟨23, _⟩ => ⟨S6144x128, .f32⟩
  | .hbm, ⟨24, _⟩ => ⟨S6144x128, .f32⟩
  | .hbm, ⟨25, _⟩ => ⟨S6144x128, .f32⟩
  | .hbm, ⟨26, _⟩ => ⟨S_, .f32⟩
  | .hbm, ⟨27, _⟩ => ⟨S6144x128, .f32⟩
  | .hbm, ⟨28, _⟩ => ⟨S6144x128, .f32⟩
  | .hbm, ⟨29, _⟩ => ⟨S6144x128, .f32⟩
  | .hbm, ⟨30, _⟩ => ⟨S_, .f32⟩
  | .hbm, ⟨31, _⟩ => ⟨S6144x128, .f32⟩
  | .hbm, ⟨32, _⟩ => ⟨S6144x128, .f32⟩
  | .hbm, ⟨33, _⟩ => ⟨S6144x128, .f32⟩
  | .hbm, ⟨34, _⟩ => ⟨S_, .f32⟩
  | .hbm, ⟨35, _⟩ => ⟨S6144x128, .f32⟩
  | .hbm, ⟨36, _⟩ => ⟨S6144x128, .f32⟩
  | _, _ => ⟨S6144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8192x5120 : Shape := ⟨2, ![8192, 5120]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S128x128 : Shape := ⟨2, ![128, 128]⟩
abbrev S1x128x128 : Shape := ⟨3, ![1, 128, 128]⟩
abbrev S8x1x128 : Shape := ⟨3, ![8, 1, 128]⟩
abbrev S128x8x128 : Shape := ⟨3, ![128, 8, 128]⟩
abbrev S128x1024 : Shape := ⟨2, ![128, 1024]⟩
abbrev S1x1024 : Shape := ⟨2, ![1, 1024]⟩
abbrev S8192x1024 : Shape := ⟨2, ![8192, 1024]⟩
abbrev S512x512 : Shape := ⟨2, ![512, 512]⟩
abbrev S512x1024 : Shape := ⟨2, ![512, 1024]⟩
abbrev S128x512 : Shape := ⟨2, ![128, 512]⟩
abbrev S128 : Shape := ⟨1, ![128]⟩
abbrev S128x1 : Shape := ⟨2, ![128, 1]⟩
abbrev S1x512 : Shape := ⟨2, ![1, 512]⟩

abbrev nBuf : Space → Nat
  | .hbm => 30
  | .vmem => 19
  | .smem => 0
  | _ => 0

abbrev bufTy : (tb : Table) → Fin (tcTables nBuf tb) → BufTy
  | .hbm, ⟨0, _⟩ => ⟨S8192x5120, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x1x128, .f32⟩
  | .hbm, ⟨23, _⟩ => ⟨S8x128x128, .f32⟩
  | .hbm, ⟨24, _⟩ => ⟨S128x8x128, .f32⟩
  | .hbm, ⟨25, _⟩ => ⟨S128x1024, .f32⟩
  | .hbm, ⟨26, _⟩ => ⟨S8x128x128, .bf16⟩
  | .hbm, ⟨27, _⟩ => ⟨S1x1024, .f32⟩
  | .hbm, ⟨28, _⟩ => ⟨S1x1024, .f32⟩
  | .hbm, ⟨29, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x128x128, .bf16⟩
  | .local _ .vmem, ⟨13, _⟩ => ⟨S128x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S128x1024, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference10Ideal.lean ====
abbrev S8192x5120 : Shape := ⟨2, ![8192, 5120]⟩
abbrev S8x128x128 : Shape := ⟨3, ![8, 128, 128]⟩
abbrev S8x128 : Shape := ⟨2, ![8, 128]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 109
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S8192x5120, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S64x128x8x128, .f32⟩
  | .hbm, ⟨72, _⟩ => ⟨S_, .i1⟩
  | .hbm, ⟨73, _⟩ => ⟨S128x128, .i1⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .i1⟩
  | .hbm, ⟨81, _⟩ => ⟨S128x128, .i1⟩
  | .hbm, ⟨82, _⟩ => ⟨S128x128, .i1⟩
  | .hbm, ⟨83, _⟩ => ⟨S1x128x128, .i1⟩
  | .hbm, ⟨84, _⟩ => ⟨S_, .f32⟩
  | .hbm, ⟨85, _⟩ => ⟨S8x128x128, .f32⟩
  | .hbm, ⟨86, _⟩ => ⟨S8x128x128, .i1⟩
  | .hbm, ⟨87, _⟩ => ⟨S8x128x128, .f32⟩
  | .hbm, ⟨88, _⟩ => ⟨S8x64x128x128, .f32⟩
  | .hbm, ⟨89, _⟩ => ⟨S64x128x8x128, .f32⟩
  | .hbm, ⟨90, _⟩ => ⟨S128x8, .f32⟩
  | .hbm, ⟨91, _⟩ => ⟨S128x8x1, .f32⟩
  | .hbm, ⟨92, _⟩ => ⟨S1x128x8x1, .f32⟩
  | .hbm, ⟨93, _⟩ => ⟨S64x128x8x128, .f32⟩
  | .hbm, ⟨94, _⟩ => ⟨S64x128x8x128, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_call1_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== Kernel11.lean ====
abbrev S8192x5120 : Shape := ⟨2, ![8192, 5120]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x5120, .bf16⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S512x512, .bf16⟩
  | .local _ .vmem, ⟨5, _⟩ => ⟨S512x512, .bf16⟩
  | .local _ .vmem, ⟨6, _⟩ => ⟨S4x128x128, .bf16⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S8192x5120 : Shape := ⟨2, ![8192, 5120]⟩
abbrev S4x128x128 : Shape := ⟨3, ![4, 128, 128]⟩
abbrev S512 : Shape := ⟨1, ![512]⟩
abbrev S8192x512 : Shape := ⟨2, ![8192, 512]⟩
abbrev S8192x4x128 : Shape := ⟨3, ![8192, 4, 128]⟩
abbrev S_ : Shape := ⟨0, ![]⟩
abbrev S8192 : Shape := ⟨1, ![8192]⟩
abbrev S8192x1 : Shape := ⟨2, ![8192, 1]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S1x512 : Shape := ⟨2, ![1, 512]⟩

abbrev nBuf : Space → Nat
  | .hbm => 97
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S4x128x128, .f32⟩
  | .hbm, ⟨2, _⟩ => ⟨S512, .f32⟩
  | .hbm, ⟨3, _⟩ => ⟨S8192x5120, .f32⟩
  | .hbm, ⟨4, _⟩ => ⟨S8192x512, .f32⟩
  | .hbm, ⟨5, _⟩ => ⟨S8192x512, .f32⟩
  | .hbm, ⟨6, _⟩ => ⟨S8192x4x128, .f32⟩
  | .hbm, ⟨7, _⟩ => ⟨S_, .f32⟩
  | .hbm, ⟨8, _⟩ => ⟨S_, .f32⟩
  | .hbm, ⟨9, _⟩ => ⟨S8192x4x128, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x1x128, .f32⟩
  | .hbm, ⟨16, _⟩ => ⟨S8192x128, .f32⟩
  | .hbm, ⟨17, _⟩ => ⟨S_, .f32⟩
  | .hbm, ⟨18, _⟩ => ⟨S2x128, .f32⟩
  | .hbm, ⟨19, _⟩ => ⟨S8190x128, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x1x128, .f32⟩
  | .hbm, ⟨28, _⟩ => ⟨S8192x128, .f32⟩
  | .hbm, ⟨29, _⟩ => ⟨S8192x128, .f32⟩
  | .hbm, ⟨30, _⟩ => ⟨S8192x1x128, .f32⟩
  | .hbm, ⟨31, _⟩ => ⟨S8192x128, .f32⟩
  | .hbm, ⟨32, _⟩ => ⟨S_, .f32⟩
  | .hbm, ⟨33, _⟩ => ⟨S4x128, .f32⟩
  | .hbm, ⟨34, _⟩ => ⟨S8188x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x128, .f32⟩
  | .hbm, ⟨41, _⟩ => ⟨S8192x128, .f32⟩
  | .hbm, ⟨42, _⟩ => ⟨S8192x1x128, .f32⟩
  | .hbm, ⟨43, _⟩ => ⟨S8192x128, .f32⟩
  | .hbm, ⟨44, _⟩ => ⟨S8192x128, .f32⟩
  | .hbm, ⟨45, _⟩ => ⟨S8192x1x128, .f32⟩
  | .hbm, ⟨46, _⟩ => ⟨S8192x128, .f32⟩
  | .hbm, ⟨47, _⟩ => ⟨S_, .f32⟩
  | .hbm, ⟨48, _⟩ => ⟨S8x128, .f32⟩
  | .hbm, ⟨49, _⟩ => ⟨S8184x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x128, .f32⟩
  | .hbm, ⟨56, _⟩ => ⟨S8192x128, .f32⟩
  | .hbm, ⟨57, _⟩ => ⟨S8192x1x128, .f32⟩
  | .hbm, ⟨58, _⟩ => ⟨S8192x128, .f32⟩
  | .hbm, ⟨59, _⟩ => ⟨S8192x128, .f32⟩
  | .hbm, ⟨60, _⟩ => ⟨S8192x1x128, .f32⟩
  | .hbm, ⟨61, _⟩ => ⟨S8192x128, .f32⟩
  | .hbm, ⟨62, _⟩ => ⟨S_, .f32⟩
  | .hbm, ⟨63, _⟩ => ⟨S16x128, .f32⟩
  | .hbm, ⟨64, _⟩ => ⟨S8176x128, .f32⟩
  | .hbm, ⟨65, _⟩ => ⟨S8192x128, .f32⟩
  | .hbm, ⟨66, _⟩ => ⟨S8192x128, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x128, .f32⟩
  | .hbm, ⟨71, _⟩ => ⟨S8192x128, .f32⟩
  | .hbm, ⟨72, _⟩ => ⟨S8192x1x128, .f32⟩
  | .hbm, ⟨73, _⟩ => ⟨S8192x128, .f32⟩
  | .hbm, ⟨74, _⟩ => ⟨S8192x128, .f32⟩
  | .hbm, ⟨75, _⟩ => ⟨S8192x1x128, .f32⟩
  | .hbm, ⟨76, _⟩ => ⟨S8192x1x128, .f32⟩
  | .hbm, ⟨77, _⟩ => ⟨S8192x1x128, .f32⟩
  | .hbm, ⟨78, _⟩ => ⟨S8192x1x128, .f32⟩
  | .hbm, ⟨79, _⟩ => ⟨S8192x4x128, .f32⟩
  | .hbm, ⟨80, _⟩ => ⟨S4x128x8192, .f32⟩
  | .hbm, ⟨81, _⟩ => ⟨S8192x4x128, .f32⟩
  | .hbm, ⟨82, _⟩ => ⟨S8192x512, .f32⟩
  | .hbm, ⟨83, _⟩ => ⟨S1x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S_, .f32⟩
  | .hbm, ⟨89, _⟩ => ⟨S8192x512, .f32⟩
  | .hbm, ⟨90, _⟩ => ⟨S8192x512, .f32⟩
  | .hbm, ⟨91, _⟩ => ⟨S_, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .f32⟩
  | .hbm, ⟨96, _⟩ => ⟨S8192x512, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel12.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S4x1024x1280 : Shape := ⟨3, ![4, 1024, 1280]⟩
abbrev S1024x1280 : Shape := ⟨2, ![1024, 1280]⟩
abbrev S4x64x1280 : Shape := ⟨3, ![4, 64, 1280]⟩
abbrev S64x1280 : Shape := ⟨2, ![64, 1280]⟩
abbrev S1x64x1280 : Shape := ⟨3, ![1, 64, 1280]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1280, .bf16⟩
  | .hbm, ⟨1, _⟩ => ⟨S1024x1280, .f32⟩
  | .local _ .vmem, ⟨0, _⟩ => ⟨S4x64x1280, .bf16⟩
  | .local _ .vmem, ⟨1, _⟩ => ⟨S4x64x1280, .bf16⟩
  | .local _ .vmem, ⟨2, _⟩ => ⟨S64x1280, .f32⟩
  | .local _ .vmem, ⟨3, _⟩ => ⟨S64x1280, .f32⟩
  | _, _ => ⟨S4x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S4x1024x1280 : Shape := ⟨3, ![4, 1024, 1280]⟩
abbrev S_ : Shape := ⟨0, ![]⟩
abbrev S1024x1280 : Shape := ⟨2, ![1024, 1280]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1280, .bf16⟩
  | .hbm, ⟨1, _⟩ => ⟨S4x1024x1280, .f32⟩
  | .hbm, ⟨2, _⟩ => ⟨S_, .f32⟩
  | .hbm, ⟨3, _⟩ => ⟨S1024x1280, .f32⟩
  | _, _ => ⟨S4x1024x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S1 : Shape := ⟨1, ![1]⟩
abbrev S4x2x1024x1280 : Shape := ⟨4, ![4, 2, 1024, 1280]⟩
abbrev S4x1024x1280 : Shape := ⟨3, ![4, 1024, 1280]⟩
abbrev S1x1x256x1280 : Shape := ⟨4, ![1, 1, 256, 1280]⟩
abbrev S1x256x1280 : Shape := ⟨3, ![1, 256, 1280]⟩
abbrev S256x1280 : Shape := ⟨2, ![256, 1280]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x1280, .f32⟩
  | .hbm, ⟨1, _⟩ => ⟨S4x1024x1280, .f32⟩
  | .hbm, ⟨2, _⟩ => ⟨S4x1024x1280, .bf16⟩
  | .local _ .vmem, ⟨0, _⟩ => ⟨S1x1x256x1280, .f32⟩
  | .local _ .vmem, ⟨1, _⟩ => ⟨S1x1x256x1280, .f32⟩
  | .local _ .vmem, ⟨2, _⟩ => ⟨S1x256x1280, .f32⟩
  | .local _ .vmem, ⟨3, _⟩ => ⟨S1x256x1280, .f32⟩
  | .local _ .vmem, ⟨4, _⟩ => ⟨S1x256x1280, .bf16⟩
  | .local _ .vmem, ⟨5, _⟩ => ⟨S1x256x1280, .bf16⟩
  | .local _ .smem, ⟨0, _⟩ => ⟨S1, .i32⟩
  | _, _ => ⟨S4x2x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S1 : Shape := ⟨1, ![1]⟩
abbrev S4x2x1024x1280 : Shape := ⟨4, ![4, 2, 1024, 1280]⟩
abbrev S4x1024x1280 : Shape := ⟨3, ![4, 1024, 1280]⟩
abbrev S_ : Shape := ⟨0, ![]⟩
abbrev S4x1x1024x1280 : Shape := ⟨4, ![4, 1, 1024, 1280]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x1280, .f32⟩
  | .hbm, ⟨2, _⟩ => ⟨S4x1024x1280, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x1280, .f32⟩
  | .hbm, ⟨7, _⟩ => ⟨S4x1024x1280, .f32⟩
  | .hbm, ⟨8, _⟩ => ⟨S4x1x1024x1280, .f32⟩
  | .hbm, ⟨9, _⟩ => ⟨S4x1024x1280, .f32⟩
  | .hbm, ⟨10, _⟩ => ⟨S4x1024x1280, .f32⟩
  | .hbm, ⟨11, _⟩ => ⟨S4x1024x1280, .f32⟩
  | .hbm, ⟨12, _⟩ => ⟨S4x1024x1280, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S1 : Shape := ⟨1, ![1]⟩
abbrev S2x2x1024x1280 : Shape := ⟨4, ![2, 2, 1024, 1280]⟩
abbrev S1024x1280 : Shape := ⟨2, ![1024, 1280]⟩
abbrev S1x1x256x1280 : Shape := ⟨4, ![1, 1, 256, 1280]⟩
abbrev S256x1280 : Shape := ⟨2, ![256, 1280]⟩

abbrev nBuf : Space → Nat
  | .hbm => 11
  | .vmem => 22
  | .smem => 1
  | _ => 0

abbrev bufTy : (tb : Table) → Fin (tcTables nBuf tb) → BufTy
  | .hbm, ⟨0, _⟩ => ⟨S2x2x1024x1280, .f32⟩
  | .hbm, ⟨1, _⟩ => ⟨S1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S2x2x1024x1280, .f32⟩
  | .hbm, ⟨6, _⟩ => ⟨S2x2x1024x1280, .f32⟩
  | .hbm, ⟨7, _⟩ => ⟨S2x2x1024x1280, .f32⟩
  | .hbm, ⟨8, _⟩ => ⟨S2x2x1024x1280, .f32⟩
  | .hbm, ⟨9, _⟩ => ⟨S2x2x1024x1280, .f32⟩
  | .hbm, ⟨10, _⟩ => ⟨S2x2x1024x1280, .f32⟩
  | .local _ .vmem, ⟨0, _⟩ => ⟨S1x1x256x1280, .f32⟩
  | .local _ .vmem, ⟨1, _⟩ => ⟨S1x1x256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S1x1x256x1280, .f32⟩
  | .local _ .vmem, ⟨11, _⟩ => ⟨S1x1x256x1280, .f32⟩
  | .local _ .vmem, ⟨12, _⟩ => ⟨S1x1x256x1280, .f32⟩
  | .local _ .vmem, ⟨13, _⟩ => ⟨S1x1x256x1280, .f32⟩
  | .local _ .vmem, ⟨14, _⟩ => ⟨S1x1x256x1280, .f32⟩
  | .local _ .vmem, ⟨15, _⟩ => ⟨S1x1x256x1280, .f32⟩
  | .local _ .vmem, ⟨16, _⟩ => ⟨S1x1x256x1280, .f32⟩
  | .local _ .vmem, ⟨17, _⟩ => ⟨S1x1x256x1280, .f32⟩
  | .local _ .vmem, ⟨18, _⟩ => ⟨S1x1x256x1280, .f32⟩
  | .local _ .vmem, ⟨19, _⟩ => ⟨S1x1x256x1280, .f32⟩
  | .local _ .vmem, ⟨20, _⟩ => ⟨S1x1x256x1280, .f32⟩
  | .local _ .vmem, ⟨21, _⟩ => ⟨S1x1x256x1280, .f32⟩
  | .local _ .smem, ⟨0, _⟩ => ⟨S1, .i32⟩
  | _, _ => ⟨S2x2x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0 : Index := 0#32
  let v1 : BitVec 32 := pf.at 0 (Rect.unit (s := S1) ![0] S1.size inb_S1_S1_0) numel1_S1
  let v2 : BitVec 1 := Scalar.cmpi .eq arg1 v1
  let v_true : BitVec 1 := 1#1
  let v3 : BitVec 1 := Scalar.xori v2 v_true
  let true_0 : BitVec 1 := 1#1
  let v4 : BitVec 1 := Scalar.xori v3 true_0
  let v5 : BitVec 1 := Scalar.andi v0 v4
  let c0_i32_1 : BitVec 32 := 0#32
  let v6 : BitVec 32 := Scalar.select v5 arg2 c0_i32_1
  let c0_i32_2 : BitVec 32 := 0#32
  let c0_i32_3 : BitVec 32 := 0#32
  ![v6.toNat, c0_i32_2.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0 : Index := 0#32
  let v1 : BitVec 32 := pf.at 0 (Rect.unit (s := S1) ![0] S1.size inb_S1_S1_0) numel1_S1
  let v2 : BitVec 1 := Scalar.cmpi .eq arg1 v1
  let v_false : BitVec 1 := 0#1
  let v3 : BitVec 1 := Scalar.xori v2 v_false
  let v_true : BitVec 1 := 1#1
  let v4 : BitVec 1 := Scalar.xori v3 v_true
  let v5 : BitVec 1 := Scalar.andi v0 v4
  let c0_i32_0 : BitVec 32 := 0#32
  let v6 : BitVec 32 := Scalar.select v5 arg2 c0_i32_0
  let c0_i32_1 : BitVec 32 := 0#32
  let c0_i32_2 : BitVec 32 := 0#32
  ![v6.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let v2 : BitVec 1 := Scalar.cmpi .eq arg1 v1
  let v_true : BitVec 1 := 1#1
  let v3 : BitVec 1 := Scalar.xori v2 v_true
  let true_0 : BitVec 1 := 1#1
  let v4 : BitVec 1 := Scalar.xori v3 true_0
  let v5 : BitVec 1 := Scalar.andi v0 v4
  let c0_i32 : BitVec 32 := 0#32
  let v6 : BitVec 32 := Scalar.select v5 arg2 c0_i32
  let c0_i32_1 : BitVec 32 := 0#32
  let c0_i32_2 : BitVec 32 := 0#32
  ![v6.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let v2 : BitVec 1 := Scalar.cmpi .eq arg1 v1
  let v_false : BitVec 1 := 0#1
  let v3 : BitVec 1 := Scalar.xori v2 v_false
  let v_true : BitVec 1 := 1#1
  let v4 : BitVec 1 := Scalar.xori v3 v_true
  let v5 : BitVec 1 := Scalar.andi v0 v4
  let c0_i32 : BitVec 32 := 0#32
  let v6 : BitVec 32 := Scalar.select v5 arg2 c0_i32
  let c0_i32_0 : BitVec 32 := 0#32
  let c0_i32_1 : BitVec 32 := 0#32
  ![v6.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference15Ideal.lean ====
abbrev S1 : Shape := ⟨1, ![1]⟩
abbrev S2x2x1024x1280 : Shape := ⟨4, ![2, 2, 1024, 1280]⟩
abbrev S1024x1280 : Shape := ⟨2, ![1024, 1280]⟩
abbrev S2 : Shape := ⟨1, ![2]⟩
abbrev S_ : Shape := ⟨0, ![]⟩
abbrev S2x1x1 : Shape := ⟨3, ![2, 1, 1]⟩
abbrev S1x1024x1280 : Shape := ⟨3, ![1, 1024, 1280]⟩
abbrev S2x1024x1280 : Shape := ⟨3, ![2, 1024, 1280]⟩
abbrev S1x2x1024x1280 : Shape := ⟨4, ![1, 2, 1024, 1280]⟩

abbrev nBuf : Space → Nat
  | .hbm => 61
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x1024x1280, .f32⟩
  | .hbm, ⟨2, _⟩ => ⟨S1024x1280, .f32⟩
  | .hbm, ⟨3, _⟩ => ⟨S1024x1280, .f32⟩
  | .hbm, ⟨4, _⟩ => ⟨S1024x1280, .f32⟩
  | .hbm, ⟨5, _⟩ => ⟨S1024x1280, .f32⟩
  | .hbm, ⟨6, _⟩ => ⟨S2x2x1024x1280, .f32⟩
  | .hbm, ⟨7, _⟩ => ⟨S2x2x1024x1280, .f32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S2x1x1, .i1⟩
  | .hbm, ⟨13, _⟩ => ⟨S1x1024x1280, .f32⟩
  | .hbm, ⟨14, _⟩ => ⟨S1x1024x1280, .f32⟩
  | .hbm, ⟨15, _⟩ => ⟨S2x1024x1280, .i1⟩
  | .hbm, ⟨16, _⟩ => ⟨S2x1024x1280, .f32⟩
  | .hbm, ⟨17, _⟩ => ⟨S2x1024x1280, .f32⟩
  | .hbm, ⟨18, _⟩ => ⟨S2x1024x1280, .f32⟩
  | .hbm, ⟨19, _⟩ => ⟨S1x1024x1280, .f32⟩
  | .hbm, ⟨20, _⟩ => ⟨S1x1024x1280, .f32⟩
  | .hbm, ⟨21, _⟩ => ⟨S2x1024x1280, .i1⟩
  | .hbm, ⟨22, _⟩ => ⟨S2x1024x1280, .f32⟩
  | .hbm, ⟨23, _⟩ => ⟨S2x1024x1280, .f32⟩
  | .hbm, ⟨24, _⟩ => ⟨S2x1024x1280, .f32⟩
  | .hbm, ⟨25, _⟩ => ⟨S1x2x1024x1280, .f32⟩
  | .hbm, ⟨26, _⟩ => ⟨S1x2x1024x1280, .f32⟩
  | .hbm, ⟨27, _⟩ => ⟨S2x2x1024x1280, .f32⟩
  | .hbm, ⟨28, _⟩ => ⟨S_, .f32⟩
  | .hbm, ⟨29, _⟩ => ⟨S2x2x1024x1280, .f32⟩
  | .hbm, ⟨30, _⟩ => ⟨S2x2x1024x1280, .f32⟩
  | .hbm, ⟨31, _⟩ => ⟨S_, .f32⟩
  | .hbm, ⟨32, _⟩ => ⟨S2x2x1024x1280, .f32⟩
  | .hbm, ⟨33, _⟩ => ⟨S2x2x1024x1280, .f32⟩
  | .hbm, ⟨34, _⟩ => ⟨S2x2x1024x1280, .f32⟩
  | .hbm, ⟨35, _⟩ => ⟨S_, .f32⟩
  | .hbm, ⟨36, _⟩ => ⟨S2x2x1024x1280, .f32⟩
  | .hbm, ⟨37, _⟩ => ⟨S2x2x1024x1280, .f32⟩
  | .hbm, ⟨38, _⟩ => ⟨S2x2x1024x1280, .f32⟩
  | .hbm, ⟨39, _⟩ => ⟨S_, .f32⟩
  | .hbm, ⟨40, _⟩ => ⟨S2x2x1024x1280, .f32⟩
  | .hbm, ⟨41, _⟩ => ⟨S2x2x1024x1280, .f32⟩
  | .hbm, ⟨42, _⟩ => ⟨S2x2x1024x1280, .f32⟩
  | .hbm, ⟨43, _⟩ => ⟨S_, .f32⟩
  | .hbm, ⟨44, _⟩ => ⟨S2x2x1024x1280, .f32⟩
  | .hbm, ⟨45, _⟩ => ⟨S2x2x1024x1280, .f32⟩
  | .hbm, ⟨46, _⟩ => ⟨S_, .f32⟩
  | .hbm, ⟨47, _⟩ => ⟨S2x2x1024x1280, .f32⟩
  | .hbm, ⟨48, _⟩ => ⟨S2x2x1024x1280, .f32⟩
  | .hbm, ⟨49, _⟩ => ⟨S2x2x1024x1280, .f32⟩
  | .hbm, ⟨50, _⟩ => ⟨S_, .f32⟩
  | .hbm, ⟨51, _⟩ => ⟨S2x2x1024x1280, .f32⟩
  | .hbm, ⟨52, _⟩ => ⟨S2x2x1024x1280, .f32⟩
  | .hbm, ⟨53, _⟩ => ⟨S2x2x1024x1280, .f32⟩
  | .hbm, ⟨54, _⟩ => ⟨S_, .f32⟩
  | .hbm, ⟨55, _⟩ => ⟨S2x2x1024x1280, .f32⟩
  | .hbm, ⟨56, _⟩ => ⟨S2x2x1024x1280, .f32⟩
  | .hbm, ⟨57, _⟩ => ⟨S2x2x1024x1280, .f32⟩
  | .hbm, ⟨58, _⟩ => ⟨S_, .f32⟩
  | .hbm, ⟨59, _⟩ => ⟨S2x2x1024x1280, .f32⟩
  | .hbm, ⟨60, _⟩ => ⟨S2x2x1024x1280, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Kernel16.lean ====
abbrev S1 : Shape := ⟨1, ![1]⟩
abbrev S2x2x256x2048 : Shape := ⟨4, ![2, 2, 256, 2048]⟩
abbrev S256x2048 : Shape := ⟨2, ![256, 2048]⟩
abbrev S1x1x256x2048 : Shape := ⟨4, ![1, 1, 256, 2048]⟩

abbrev nBuf : Space → Nat
  | .hbm => 11
  | .vmem => 22
  | .smem => 1
  | _ => 0

abbrev bufTy : (tb : Table) → Fin (tcTables nBuf tb) → BufTy
  | .hbm, ⟨0, _⟩ => ⟨S2x2x256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2x2x256x2048, .f32⟩
  | .hbm, ⟨6, _⟩ => ⟨S2x2x256x2048, .f32⟩
  | .hbm, ⟨7, _⟩ => ⟨S2x2x256x2048, .f32⟩
  | .hbm, ⟨8, _⟩ => ⟨S2x2x256x2048, .f32⟩
  | .hbm, ⟨9, _⟩ => ⟨S2x2x256x2048, .f32⟩
  | .hbm, ⟨10, _⟩ => ⟨S2x2x256x2048, .f32⟩
  | .local _ .vmem, ⟨0, _⟩ => ⟨S1x1x256x2048, .f32⟩
  | .local _ .vmem, ⟨1, _⟩ => ⟨S1x1x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x1x256x2048, .f32⟩
  | .local _ .vmem, ⟨11, _⟩ => ⟨S1x1x256x2048, .f32⟩
  | .local _ .vmem, ⟨12, _⟩ => ⟨S1x1x256x2048, .f32⟩
  | .local _ .vmem, ⟨13, _⟩ => ⟨S1x1x256x2048, .f32⟩
  | .local _ .vmem, ⟨14, _⟩ => ⟨S1x1x256x2048, .f32⟩
  | .local _ .vmem, ⟨15, _⟩ => ⟨S1x1x256x2048, .f32⟩
  | .local _ .vmem, ⟨16, _⟩ => ⟨S1x1x256x2048, .f32⟩
  | .local _ .vmem, ⟨17, _⟩ => ⟨S1x1x256x2048, .f32⟩
  | .local _ .vmem, ⟨18, _⟩ => ⟨S1x1x256x2048, .f32⟩
  | .local _ .vmem, ⟨19, _⟩ => ⟨S1x1x256x2048, .f32⟩
  | .local _ .vmem, ⟨20, _⟩ => ⟨S1x1x256x2048, .f32⟩
  | .local _ .vmem, ⟨21, _⟩ => ⟨S1x1x256x2048, .f32⟩
  | .local _ .smem, ⟨0, _⟩ => ⟨S1, .i32⟩
  | _, _ => ⟨S2x2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0 : Index := 0#32
  let v1 : BitVec 32 := pf.at 0 (Rect.unit (s := S1) ![0] S1.size inb_S1_S1_0) numel1_S1
  let v2 : BitVec 1 := Scalar.cmpi .eq arg1 v1
  let v_true : BitVec 1 := 1#1
  let v3 : BitVec 1 := Scalar.xori v2 v_true
  let true_0 : BitVec 1 := 1#1
  let v4 : BitVec 1 := Scalar.xori v3 true_0
  let v5 : BitVec 1 := Scalar.andi v0 v4
  let c0_i32_1 : BitVec 32 := 0#32
  let v6 : BitVec 32 := Scalar.select v5 arg2 c0_i32_1
  let c0_i32_2 : BitVec 32 := 0#32
  let c0_i32_3 : BitVec 32 := 0#32
  ![v6.toNat, c0_i32_2.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0 : Index := 0#32
  let v1 : BitVec 32 := pf.at 0 (Rect.unit (s := S1) ![0] S1.size inb_S1_S1_0) numel1_S1
  let v2 : BitVec 1 := Scalar.cmpi .eq arg1 v1
  let v_false : BitVec 1 := 0#1
  let v3 : BitVec 1 := Scalar.xori v2 v_false
  let v_true : BitVec 1 := 1#1
  let v4 : BitVec 1 := Scalar.xori v3 v_true
  let v5 : BitVec 1 := Scalar.andi v0 v4
  let c0_i32_0 : BitVec 32 := 0#32
  let v6 : BitVec 32 := Scalar.select v5 arg2 c0_i32_0
  let c0_i32_1 : BitVec 32 := 0#32
  let c0_i32_2 : BitVec 32 := 0#32
  ![v6.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let v2 : BitVec 1 := Scalar.cmpi .eq arg1 v1
  let v_true : BitVec 1 := 1#1
  let v3 : BitVec 1 := Scalar.xori v2 v_true
  let true_0 : BitVec 1 := 1#1
  let v4 : BitVec 1 := Scalar.xori v3 true_0
  let v5 : BitVec 1 := Scalar.andi v0 v4
  let c0_i32 : BitVec 32 := 0#32
  let v6 : BitVec 32 := Scalar.select v5 arg2 c0_i32
  let c0_i32_1 : BitVec 32 := 0#32
  let c0_i32_2 : BitVec 32 := 0#32
  ![v6.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let v2 : BitVec 1 := Scalar.cmpi .eq arg1 v1
  let v_false : BitVec 1 := 0#1
  let v3 : BitVec 1 := Scalar.xori v2 v_false
  let v_true : BitVec 1 := 1#1
  let v4 : BitVec 1 := Scalar.xori v3 v_true
  let v5 : BitVec 1 := Scalar.andi v0 v4
  let c0_i32 : BitVec 32 := 0#32
  let v6 : BitVec 32 := Scalar.select v5 arg2 c0_i32
  let c0_i32_0 : BitVec 32 := 0#32
  let c0_i32_1 : BitVec 32 := 0#32
  ![v6.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference16Ideal.lean ====
abbrev S1 : Shape := ⟨1, ![1]⟩
abbrev S2x2x256x2048 : Shape := ⟨4, ![2, 2, 256, 2048]⟩
abbrev S256x2048 : Shape := ⟨2, ![256, 2048]⟩
abbrev S2 : Shape := ⟨1, ![2]⟩
abbrev S_ : Shape := ⟨0, ![]⟩
abbrev S2x1x1 : Shape := ⟨3, ![2, 1, 1]⟩
abbrev S1x256x2048 : Shape := ⟨3, ![1, 256, 2048]⟩
abbrev S2x256x2048 : Shape := ⟨3, ![2, 256, 2048]⟩
abbrev S1x2x256x2048 : Shape := ⟨4, ![1, 2, 256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S2x2x256x2048, .f32⟩
  | .hbm, ⟨7, _⟩ => ⟨S2x2x256x2048, .f32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S2x1x1, .i1⟩
  | .hbm, ⟨13, _⟩ => ⟨S1x256x2048, .f32⟩
  | .hbm, ⟨14, _⟩ => ⟨S1x256x2048, .f32⟩
  | .hbm, ⟨15, _⟩ => ⟨S2x256x2048, .i1⟩
  | .hbm, ⟨16, _⟩ => ⟨S2x256x2048, .f32⟩
  | .hbm, ⟨17, _⟩ => ⟨S2x256x2048, .f32⟩
  | .hbm, ⟨18, _⟩ => ⟨S2x256x2048, .f32⟩
  | .hbm, ⟨19, _⟩ => ⟨S1x256x2048, .f32⟩
  | .hbm, ⟨20, _⟩ => ⟨S1x256x2048, .f32⟩
  | .hbm, ⟨21, _⟩ => ⟨S2x256x2048, .i1⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S1x2x256x2048, .f32⟩
  | .hbm, ⟨26, _⟩ => ⟨S1x2x256x2048, .f32⟩
  | .hbm, ⟨27, _⟩ => ⟨S2x2x256x2048, .f32⟩
  | .hbm, ⟨28, _⟩ => ⟨S_, .f32⟩
  | .hbm, ⟨29, _⟩ => ⟨S2x2x256x2048, .f32⟩
  | .hbm, ⟨30, _⟩ => ⟨S2x2x256x2048, .f32⟩
  | .hbm, ⟨31, _⟩ => ⟨S_, .f32⟩
  | .hbm, ⟨32, _⟩ => ⟨S2x2x256x2048, .f32⟩
  | .hbm, ⟨33, _⟩ => ⟨S2x2x256x2048, .f32⟩
  | .hbm, ⟨34, _⟩ => ⟨S2x2x256x2048, .f32⟩
  | .hbm, ⟨35, _⟩ => ⟨S_, .f32⟩
  | .hbm, ⟨36, _⟩ => ⟨S2x2x256x2048, .f32⟩
  | .hbm, ⟨37, _⟩ => ⟨S2x2x256x2048, .f32⟩
  | .hbm, ⟨38, _⟩ => ⟨S2x2x256x2048, .f32⟩
  | .hbm, ⟨39, _⟩ => ⟨S_, .f32⟩
  | .hbm, ⟨40, _⟩ => ⟨S2x2x256x2048, .f32⟩
  | .hbm, ⟨41, _⟩ => ⟨S2x2x256x2048, .f32⟩
  | .hbm, ⟨42, _⟩ => ⟨S2x2x256x2048, .f32⟩
  | .hbm, ⟨43, _⟩ => ⟨S_, .f32⟩
  | .hbm, ⟨44, _⟩ => ⟨S2x2x256x2048, .f32⟩
  | .hbm, ⟨45, _⟩ => ⟨S2x2x256x2048, .f32⟩
  | .hbm, ⟨46, _⟩ => ⟨S_, .f32⟩
  | .hbm, ⟨47, _⟩ => ⟨S2x2x256x2048, .f32⟩
  | .hbm, ⟨48, _⟩ => ⟨S2x2x256x2048, .f32⟩
  | .hbm, ⟨49, _⟩ => ⟨S2x2x256x2048, .f32⟩
  | .hbm, ⟨50, _⟩ => ⟨S_, .f32⟩
  | .hbm, ⟨51, _⟩ => ⟨S2x2x256x2048, .f32⟩
  | .hbm, ⟨52, _⟩ => ⟨S2x2x256x2048, .f32⟩
  | .hbm, ⟨53, _⟩ => ⟨S2x2x256x2048, .f32⟩
  | .hbm, ⟨54, _⟩ => ⟨S_, .f32⟩
  | .hbm, ⟨55, _⟩ => ⟨S2x2x256x2048, .f32⟩
  | .hbm, ⟨56, _⟩ => ⟨S2x2x256x2048, .f32⟩
  | .hbm, ⟨57, _⟩ => ⟨S2x2x256x2048, .f32⟩
  | .hbm, ⟨58, _⟩ => ⟨S_, .f32⟩
  | .hbm, ⟨59, _⟩ => ⟨S2x2x256x2048, .f32⟩
  | .hbm, ⟨60, _⟩ => ⟨S2x2x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Kernel17.lean ====
abbrev S1 : Shape := ⟨1, ![1]⟩
abbrev S2x2x64x512 : Shape := ⟨4, ![2, 2, 64, 512]⟩
abbrev S64x512 : Shape := ⟨2, ![64, 512]⟩
abbrev S1x1x64x512 : Shape := ⟨4, ![1, 1, 64, 512]⟩

abbrev nBuf : Space → Nat
  | .hbm => 11
  | .vmem => 22
  | .smem => 1
  | _ => 0

abbrev bufTy : (tb : Table) → Fin (tcTables nBuf tb) → BufTy
  | .hbm, ⟨0, _⟩ => ⟨S2x2x64x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S2x2x64x512, .f32⟩
  | .hbm, ⟨6, _⟩ => ⟨S2x2x64x512, .f32⟩
  | .hbm, ⟨7, _⟩ => ⟨S2x2x64x512, .f32⟩
  | .hbm, ⟨8, _⟩ => ⟨S2x2x64x512, .f32⟩
  | .hbm, ⟨9, _⟩ => ⟨S2x2x64x512, .f32⟩
  | .hbm, ⟨10, _⟩ => ⟨S2x2x64x512, .f32⟩
  | .local _ .vmem, ⟨0, _⟩ => ⟨S1x1x64x512, .f32⟩
  | .local _ .vmem, ⟨1, _⟩ => ⟨S1x1x64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S1x1x64x512, .f32⟩
  | .local _ .vmem, ⟨11, _⟩ => ⟨S1x1x64x512, .f32⟩
  | .local _ .vmem, ⟨12, _⟩ => ⟨S1x1x64x512, .f32⟩
  | .local _ .vmem, ⟨13, _⟩ => ⟨S1x1x64x512, .f32⟩
  | .local _ .vmem, ⟨14, _⟩ => ⟨S1x1x64x512, .f32⟩
  | .local _ .vmem, ⟨15, _⟩ => ⟨S1x1x64x512, .f32⟩
  | .local _ .vmem, ⟨16, _⟩ => ⟨S1x1x64x512, .f32⟩
  | .local _ .vmem, ⟨17, _⟩ => ⟨S1x1x64x512, .f32⟩
  | .local _ .vmem, ⟨18, _⟩ => ⟨S1x1x64x512, .f32⟩
  | .local _ .vmem, ⟨19, _⟩ => ⟨S1x1x64x512, .f32⟩
  | .local _ .vmem, ⟨20, _⟩ => ⟨S1x1x64x512, .f32⟩
  | .local _ .vmem, ⟨21, _⟩ => ⟨S1x1x64x512, .f32⟩
  | .local _ .smem, ⟨0, _⟩ => ⟨S1, .i32⟩
  | _, _ => ⟨S2x2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0 : Index := 0#32
  let v1 : BitVec 32 := pf.at 0 (Rect.unit (s := S1) ![0] S1.size inb_S1_S1_0) numel1_S1
  let v2 : BitVec 1 := Scalar.cmpi .eq arg1 v1
  let v_true : BitVec 1 := 1#1
  let v3 : BitVec 1 := Scalar.xori v2 v_true
  let true_0 : BitVec 1 := 1#1
  let v4 : BitVec 1 := Scalar.xori v3 true_0
  let v5 : BitVec 1 := Scalar.andi v0 v4
  let c0_i32_1 : BitVec 32 := 0#32
  let v6 : BitVec 32 := Scalar.select v5 arg2 c0_i32_1
  let c0_i32_2 : BitVec 32 := 0#32
  let c0_i32_3 : BitVec 32 := 0#32
  ![v6.toNat, c0_i32_2.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0 : Index := 0#32
  let v1 : BitVec 32 := pf.at 0 (Rect.unit (s := S1) ![0] S1.size inb_S1_S1_0) numel1_S1
  let v2 : BitVec 1 := Scalar.cmpi .eq arg1 v1
  let v_false : BitVec 1 := 0#1
  let v3 : BitVec 1 := Scalar.xori v2 v_false
  let v_true : BitVec 1 := 1#1
  let v4 : BitVec 1 := Scalar.xori v3 v_true
  let v5 : BitVec 1 := Scalar.andi v0 v4
  let c0_i32_0 : BitVec 32 := 0#32
  let v6 : BitVec 32 := Scalar.select v5 arg2 c0_i32_0
  let c0_i32_1 : BitVec 32 := 0#32
  let c0_i32_2 : BitVec 32 := 0#32
  ![v6.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let v2 : BitVec 1 := Scalar.cmpi .eq arg1 v1
  let v_true : BitVec 1 := 1#1
  let v3 : BitVec 1 := Scalar.xori v2 v_true
  let true_0 : BitVec 1 := 1#1
  let v4 : BitVec 1 := Scalar.xori v3 true_0
  let v5 : BitVec 1 := Scalar.andi v0 v4
  let c0_i32 : BitVec 32 := 0#32
  let v6 : BitVec 32 := Scalar.select v5 arg2 c0_i32
  let c0_i32_1 : BitVec 32 := 0#32
  let c0_i32_2 : BitVec 32 := 0#32
  ![v6.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let v2 : BitVec 1 := Scalar.cmpi .eq arg1 v1
  let v_false : BitVec 1 := 0#1
  let v3 : BitVec 1 := Scalar.xori v2 v_false
  let v_true : BitVec 1 := 1#1
  let v4 : BitVec 1 := Scalar.xori v3 v_true
  let v5 : BitVec 1 := Scalar.andi v0 v4
  let c0_i32 : BitVec 32 := 0#32
  let v6 : BitVec 32 := Scalar.select v5 arg2 c0_i32
  let c0_i32_0 : BitVec 32 := 0#32
  let c0_i32_1 : BitVec 32 := 0#32
  ![v6.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference17Ideal.lean ====
abbrev S1 : Shape := ⟨1, ![1]⟩
abbrev S2x2x64x512 : Shape := ⟨4, ![2, 2, 64, 512]⟩
abbrev S64x512 : Shape := ⟨2, ![64, 512]⟩
abbrev S2 : Shape := ⟨1, ![2]⟩
abbrev S_ : Shape := ⟨0, ![]⟩
abbrev S2x1x1 : Shape := ⟨3, ![2, 1, 1]⟩
abbrev S1x64x512 : Shape := ⟨3, ![1, 64, 512]⟩
abbrev S2x64x512 : Shape := ⟨3, ![2, 64, 512]⟩
abbrev S1x2x64x512 : Shape := ⟨4, ![1, 2, 64, 512]⟩

abbrev nBuf : Space → Nat
  | .hbm => 61
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x2x64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S2x2x64x512, .f32⟩
  | .hbm, ⟨7, _⟩ => ⟨S2x2x64x512, .f32⟩
  | .hbm, ⟨8, _⟩ => ⟨S2, .i32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S2x1x1, .i1⟩
  | .hbm, ⟨13, _⟩ => ⟨S1x64x512, .f32⟩
  | .hbm, ⟨14, _⟩ => ⟨S1x64x512, .f32⟩
  | .hbm, ⟨15, _⟩ => ⟨S2x64x512, .i1⟩
  | .hbm, ⟨16, _⟩ => ⟨S2x64x512, .f32⟩
  | .hbm, ⟨17, _⟩ => ⟨S2x64x512, .f32⟩
  | .hbm, ⟨18, _⟩ => ⟨S2x64x512, .f32⟩
  | .hbm, ⟨19, _⟩ => ⟨S1x64x512, .f32⟩
  | .hbm, ⟨20, _⟩ => ⟨S1x64x512, .f32⟩
  | .hbm, ⟨21, _⟩ => ⟨S2x64x512, .i1⟩
  | .hbm, ⟨22, _⟩ => ⟨S2x64x512, .f32⟩
  | .hbm, ⟨23, _⟩ => ⟨S2x64x512, .f32⟩
  | .hbm, ⟨24, _⟩ => ⟨S2x64x512, .f32⟩
  | .hbm, ⟨25, _⟩ => ⟨S1x2x64x512, .f32⟩
  | .hbm, ⟨26, _⟩ => ⟨S1x2x64x512, .f32⟩
  | .hbm, ⟨27, _⟩ => ⟨S2x2x64x512, .f32⟩
  | .hbm, ⟨28, _⟩ => ⟨S_, .f32⟩
  | .hbm, ⟨29, _⟩ => ⟨S2x2x64x512, .f32⟩
  | .hbm, ⟨30, _⟩ => ⟨S2x2x64x512, .f32⟩
  | .hbm, ⟨31, _⟩ => ⟨S_, .f32⟩
  | .hbm, ⟨32, _⟩ => ⟨S2x2x64x512, .f32⟩
  | .hbm, ⟨33, _⟩ => ⟨S2x2x64x512, .f32⟩
  | .hbm, ⟨34, _⟩ => ⟨S2x2x64x512, .f32⟩
  | .hbm, ⟨35, _⟩ => ⟨S_, .f32⟩
  | .hbm, ⟨36, _⟩ => ⟨S2x2x64x512, .f32⟩
  | .hbm, ⟨37, _⟩ => ⟨S2x2x64x512, .f32⟩
  | .hbm, ⟨38, _⟩ => ⟨S2x2x64x512, .f32⟩
  | .hbm, ⟨39, _⟩ => ⟨S_, .f32⟩
  | .hbm, ⟨40, _⟩ => ⟨S2x2x64x512, .f32⟩
  | .hbm, ⟨41, _⟩ => ⟨S2x2x64x512, .f32⟩
  | .hbm, ⟨42, _⟩ => ⟨S2x2x64x512, .f32⟩
  | .hbm, ⟨43, _⟩ => ⟨S_, .f32⟩
  | .hbm, ⟨44, _⟩ => ⟨S2x2x64x512, .f32⟩
  | .hbm, ⟨45, _⟩ => ⟨S2x2x64x512, .f32⟩
  | .hbm, ⟨46, _⟩ => ⟨S_, .f32⟩
  | .hbm, ⟨47, _⟩ => ⟨S2x2x64x512, .f32⟩
  | .hbm, ⟨48, _⟩ => ⟨S2x2x64x512, .f32⟩
  | .hbm, ⟨49, _⟩ => ⟨S2x2x64x512, .f32⟩
  | .hbm, ⟨50, _⟩ => ⟨S_, .f32⟩
  | .hbm, ⟨51, _⟩ => ⟨S2x2x64x512, .f32⟩
  | .hbm, ⟨52, _⟩ => ⟨S2x2x64x512, .f32⟩
  | .hbm, ⟨53, _⟩ => ⟨S2x2x64x512, .f32⟩
  | .hbm, ⟨54, _⟩ => ⟨S_, .f32⟩
  | .hbm, ⟨55, _⟩ => ⟨S2x2x64x512, .f32⟩
  | .hbm, ⟨56, _⟩ => ⟨S2x2x64x512, .f32⟩
  | .hbm, ⟨57, _⟩ => ⟨S2x2x64x512, .f32⟩
  | .hbm, ⟨58, _⟩ => ⟨S_, .f32⟩
  | .hbm, ⟨59, _⟩ => ⟨S2x2x64x512, .f32⟩
  | .hbm, ⟨60, _⟩ => ⟨S2x2x64x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Kernel18.lean ====
abbrev S4x256x2048 : Shape := ⟨3, ![4, 256, 2048]⟩
abbrev S256x2048 : Shape := ⟨2, ![256, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x256x2048, .bf16⟩
  | .hbm, ⟨1, _⟩ => ⟨S256x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference18Ideal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S_, .f32⟩
  | .hbm, ⟨3, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .local _ .vmem, ⟨0, _⟩ => ⟨S4x64x512, .bf16⟩
  | .local _ .vmem, ⟨1, _⟩ => ⟨S64x512, .f32⟩
  | _, _ => ⟨S4x64x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference19Ideal.lean ====
abbrev S4x64x512 : Shape := ⟨3, ![4, 64, 512]⟩
abbrev S_ : Shape := ⟨0, ![]⟩
abbrev S64x512 : Shape := ⟨2, ![64, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x64x512, .bf16⟩
  | .hbm, ⟨1, _⟩ => ⟨S4x64x512, .f32⟩
  | .hbm, ⟨2, _⟩ => ⟨S_, .f32⟩
  | .hbm, ⟨3, _⟩ => ⟨S64x512, .f32⟩
  | _, _ => ⟨S4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S4x3072x128 : Shape := ⟨3, ![4, 3072, 128]⟩
abbrev S3072x128 : Shape := ⟨2, ![3072, 128]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x3072x128, .f32⟩
  | .hbm, ⟨1, _⟩ => ⟨S3072x128, .f32⟩
  | .local _ .vmem, ⟨0, _⟩ => ⟨S4x1024x128, .f32⟩
  | .local _ .vmem, ⟨1, _⟩ => ⟨S4x1024x128, .f32⟩
  | .local _ .vmem, ⟨2, _⟩ => ⟨S1024x128, .f32⟩
  | .local _ .vmem, ⟨3, _⟩ => ⟨S1024x128, .f32⟩
  | _, _ => ⟨S4x3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S4x3072x128 : Shape := ⟨3, ![4, 3072, 128]⟩
abbrev S_ : Shape := ⟨0, ![]⟩
abbrev S3072x128 : Shape := ⟨2, ![3072, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x3072x128, .f32⟩
  | .hbm, ⟨1, _⟩ => ⟨S_, .f32⟩
  | .hbm, ⟨2, _⟩ => ⟨S3072x128, .f32⟩
  | _, _ => ⟨S4x3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S1 : Shape := ⟨1, ![1]⟩
abbrev S4x2x256x2048 : Shape := ⟨4, ![4, 2, 256, 2048]⟩
abbrev S4x256x2048 : Shape := ⟨3, ![4, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2x256x2048, .f32⟩
  | .hbm, ⟨1, _⟩ => ⟨S4x256x2048, .f32⟩
  | .hbm, ⟨2, _⟩ => ⟨S4x256x2048, .bf16⟩
  | .local _ .vmem, ⟨0, _⟩ => ⟨S1x1x256x2048, .f32⟩
  | .local _ .vmem, ⟨1, _⟩ => ⟨S1x1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S1 : Shape := ⟨1, ![1]⟩
abbrev S4x2x256x2048 : Shape := ⟨4, ![4, 2, 256, 2048]⟩
abbrev S4x256x2048 : Shape := ⟨3, ![4, 256, 2048]⟩
abbrev S_ : Shape := ⟨0, ![]⟩
abbrev S4x1x256x2048 : Shape := ⟨4, ![4, 1, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x256x2048, .f32⟩
  | .hbm, ⟨2, _⟩ => ⟨S4x256x2048, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x256x2048, .f32⟩
  | .hbm, ⟨7, _⟩ => ⟨S4x256x2048, .f32⟩
  | .hbm, ⟨8, _⟩ => ⟨S4x1x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel22.lean ====
abbrev S1 : Shape := ⟨1, ![1]⟩
abbrev S4x2x64x512 : Shape := ⟨4, ![4, 2, 64, 512]⟩
abbrev S4x64x512 : Shape := ⟨3, ![4, 64, 512]⟩
abbrev S1x1x64x512 : Shape := ⟨4, ![1, 1, 64, 512]⟩
abbrev S1x64x512 : Shape := ⟨3, ![1, 64, 512]⟩
abbrev S64x512 : Shape := ⟨2, ![64, 512]⟩

abbrev nBuf : Space → Nat
  | .hbm => 3
  | .vmem => 6
  | .smem => 1
  | _ => 0

abbrev bufTy : (tb : Table) → Fin (tcTables nBuf tb) → BufTy
  | .hbm, ⟨0, _⟩ => ⟨S4x2x64x512, .f32⟩
  | .hbm, ⟨1, _⟩ => ⟨S4x64x512, .f32⟩
  | .hbm, ⟨2, _⟩ => ⟨S4x64x512, .bf16⟩
  | .local _ .vmem, ⟨0, _⟩ => ⟨S1x1x64x512, .f32⟩
  | .local _ .vmem, ⟨1, _⟩ => ⟨S1x1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .bf16⟩
  | .local _ .vmem, ⟨5, _⟩ => ⟨S1x64x512, .bf16⟩
  | .local _ .smem, ⟨0, _⟩ => ⟨S1, .i32⟩
  | _, _ => ⟨S4x2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S1 : Shape := ⟨1, ![1]⟩
abbrev S4x2x64x512 : Shape := ⟨4, ![4, 2, 64, 512]⟩
abbrev S4x64x512 : Shape := ⟨3, ![4, 64, 512]⟩
abbrev S_ : Shape := ⟨0, ![]⟩
abbrev S4x1x64x512 : Shape := ⟨4, ![4, 1, 64, 512]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x64x512, .f32⟩
  | .hbm, ⟨2, _⟩ => ⟨S4x64x512, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x64x512, .f32⟩
  | .hbm, ⟨7, _⟩ => ⟨S4x64x512, .f32⟩
  | .hbm, ⟨8, _⟩ => ⟨S4x1x64x512, .f32⟩
  | .hbm, ⟨9, _⟩ => ⟨S4x64x512, .f32⟩
  | .hbm, ⟨10, _⟩ => ⟨S4x64x512, .f32⟩
  | .hbm, ⟨11, _⟩ => ⟨S4x64x512, .f32⟩
  | .hbm, ⟨12, _⟩ => ⟨S4x64x512, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Pool.Ring.lean ====
/- The two write rings of the pooling kernel as one ring with two members: the tiles of the two scratch buffers, the cells they are counted on, and the two column blocks of the result they are copied out to. -/
module

public import proofs.«01_k».proof.Proof.Gen.KernelIdeal.Skeleton
public import proofs.«01_k».proof.Proof.Gen.KernelIdeal.Frame
public import Idealize.ShloMosaic.Lib.Ring.WriteBehind
public import Idealize.ShloMosaic.Lib.Pipeline.FrameValue

@[expose] public section

set_option maxRecDepth 16384

noncomputable section

set_option synthInstance.maxSize 4096

namespace Cert.KernelIdeal.Pool

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host part and the windows' blocks -/

set_option maxHeartbeats 800000 in
/-- The host operations, then the region, over the resources a body with transfers of its own needs. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem beforeD_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem beforeD_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem beforeD_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem beforeD_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem beforeD_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem beforeD_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem beforeD_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem beforeD_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem beforeD_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The wait for the copies of two steps before: taken from step 2 on. -/
theorem cond1_iff : ∀ t : Fin grid0.N, k0_cond1 (grid0.coords t) = 1#1 ↔ 2 ≤ t.val := by decide +kernel
theorem cond2_iff : ∀ t : Fin grid0.N, k0_cond2 (grid0.coords t) = 1#1 ↔ 2 ≤ t.val := by decide +kernel
/-- The reset of the two sums: taken at the first step. -/
abbrev condZ (i : grid0.Coords) : Prop := (Scalar.cmpi .ne (Scalar.extui (Scalar.cmpi .eq (BitVec.ofNat 32 (i 0).val) 0#32)) 0#32) = 1#1
theorem condZ_iff : ∀ t : Fin grid0.N, condZ (grid0.coords t) ↔ t.val = 0 := by decide +kernel
/-- The drain: taken at the last step. -/
theorem cond4_iff : ∀ t : Fin grid0.N, k0_cond4 (grid0.coords t) = 1#1 ↔ t.val = 15 := by decide +kernel
theorem cond5_iff : ∀ t : Fin grid0.N, k0_cond5 (grid0.coords t) = 1#1 ↔ t.val = 15 := by decide +kernel

/-! ## The staging memrefs, the scratch, the result -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S4x128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x128x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512 .f32 := win0_10.stage (cfg0.slots t 10)
abbrev hs10 (t : Fin cfg0.N) : (ms10 t).IsWhole := hstage0_10 ((cfg0.slots t 10).cast nbuf0_10)
abbrev VO9 : View sig .tc .vmem S4x128x128 .f32 := (Memref.whole cc0_stg9_0 : Memref sig .tc .vmem S4x128x128 .f32).view
abbrev VO10 : View sig .tc .vmem S1x512 .f32 := (Memref.whole cc0_stg10_0 : Memref sig .tc .vmem S1x512 .f32).view
abbrev scM0 : Memref sig .tc .vmem S2x512x512 .bf16 := Memref.whole cc0_scratch0
abbrev scM1 : Memref sig .tc .vmem S2x512x512 .bf16 := Memref.whole cc0_scratch1
abbrev hbM : Memref sig .tc .hbm S8192x5120 .bf16 := Memref.whole main_v4_0
/-- A memref's buffer on core `c`: its contents, and it held whole. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc c.tc ↦{fullShare} f

/-- The body's own semaphore cells. -/
abbrev osem0 : Fin 4 → SemLoc sig := fun j => (![SemLoc.dma 17, SemLoc.dma 18, SemLoc.dma 19, SemLoc.dma 20] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal (c.tc, SemLoc.dma 17) 0 ∗ semVal (c.tc, SemLoc.dma 18) 0 ∗ semVal (c.tc, SemLoc.dma 19) 0 ∗ semVal (c.tc, SemLoc.dma 20) 0) := by
  rw [Pipeline.ownSems0_eq_of_list c osem0 [0, 1, 2, 3] (by decide) (by decide)]; rfl
/-- No operand in HBM is only read; one, the result, is written. -/
def H0 : Finset (Ref sig .tc) := ∅
theorem H0_sub : H0 ⊆ Pipeline.restRefs sig spec0 := by decide
def R0 : Finset (Ref sig .tc) := {main_v4_0}
theorem R0_sub : R0 ⊆ Pipeline.restRefs sig spec0 \ H0 := by decide

/-! ## The ring's tiles, pieces and cells -/

instance : NeZero grid0.N := ⟨by rw [N_0]; decide⟩
theorem inb_tile (g : Fin 2) : ∀ a, (![g.val, 0, 0] : Fin 3 → Nat) a + S1x512x512.size a ≤ S2x512x512.size a := by
  have := g.isLt; intro a; fin_cases a <;> simp <;> omega
theorem inb_piece (u : Fin 16) (k : Fin 2) : ∀ a, (![512 * u.val, 2560 + 2048 * k.val] : Fin 2 → Nat) a + S512x512.size a ≤ S8192x5120.size a := by
  have := u.isLt; have := k.isLt; intro a; fin_cases a <;> simp <;> omega
theorem inb_cell (g : Fin 2) : ∀ a, (![g.val] : Fin 1 → Nat) a + S1.size a ≤ S2.size a := by
  have := g.isLt; intro a; fin_cases a <;> simp <;> omega
/-- Piece (u, k) of the result: the rows of step u, the column block of member k. -/
def piece (u : Fin 16) (k : Fin 2) : Memref sig .tc .hbm S512x512 .bf16 :=
  hbM.slice (Rect.unit (s := S8192x5120) ![512 * u.val, 2560 + 2048 * k.val] S512x512.size (inb_piece u k)) (fun _ => rfl)

/-- Slot g of scratch 0, as the copies out spell their source; the cell its copy is counted on. -/
def tile0 (g : Fin 2) : Memref sig .tc .vmem S512x512 .bf16 :=
  (scM0.slice (Rect.unit (s := S2x512x512) ![g.val, 0, 0] S1x512x512.size (inb_tile g)) (fun _ => rfl)).squeeze S512x512 squeezes_S1x512x512_S512x512
def cellA0 (g : Fin 2) : DmaSems sig S_ := (cc0_scratch2.slice (Rect.unit (s := S2) ![g.val] S1.size (inb_cell g))).squeeze S_ squeezes_S1_S_
abbrev cellR0 (g : Fin 2) : SemLoc sig := SemLoc.dma (cellA0 g).sem
theorem cellR0_0 : cellR0 0 = SemLoc.dma 17 := by decide
theorem cellR0_1 : cellR0 1 = SemLoc.dma 18 := by decide
/-- Slot g of scratch 1, as the copies out spell their source; the cell its copy is counted on. -/
def tile1 (g : Fin 2) : Memref sig .tc .vmem S512x512 .bf16 :=
  (scM1.slice (Rect.unit (s := S2x512x512) ![g.val, 0, 0] S1x512x512.size (inb_tile g)) (fun _ => rfl)).squeeze S512x512 squeezes_S1x512x512_S512x512
def cellA1 (g : Fin 2) : DmaSems sig S_ := (cc0_scratch3.slice (Rect.unit (s := S2) ![g.val] S1.size (inb_cell g))).squeeze S_ squeezes_S1_S_
abbrev cellR1 (g : Fin 2) : SemLoc sig := SemLoc.dma (cellA1 g).sem
theorem cellR1_0 : cellR1 0 = SemLoc.dma 19 := by decide
theorem cellR1_1 : cellR1 1 = SemLoc.dma 20 := by decide

section Families
variable (c : Dev nD)
abbrev pieceP (u : Fin 16) (k : Fin 2) (f : HbBuf (F := F) c (piece u k)) : sProp 𝕄 := (piece u k).view.loc c.tc ↦[(piece u k).view.set]{fullShare} f
abbrev tileP0 (g : Fin 2) (e : HbBuf (F := F) c (tile0 g)) : sProp 𝕄 := (tile0 g).view.loc c.tc ↦[(tile0 g).view.set]{fullShare} e
abbrev cellP0 (g : Fin 2) : sProp 𝕄 := semVal (c.tc, cellR0 g) 0
/-- The copy of slot g of scratch 0 to its piece of step u, in flight: it delivers the piece at `f` and the slot. -/
abbrev flightP0 (g : Fin 2) (u : Fin 16) (f : HbBuf (F := F) c (piece u 0)) : sProp 𝕄 :=
  iprop(∃ e, Transfers.Flight countersEmb c.tc (cellR0 g) default ((piece u 0).view.amount (cellR0 g)) iprop(pieceP c u 0 f ∗ tileP0 c g e))
abbrev tileP1 (g : Fin 2) (e : HbBuf (F := F) c (tile1 g)) : sProp 𝕄 := (tile1 g).view.loc c.tc ↦[(tile1 g).view.set]{fullShare} e
abbrev cellP1 (g : Fin 2) : sProp 𝕄 := semVal (c.tc, cellR1 g) 0
/-- The copy of slot g of scratch 1 to its piece of step u, in flight: it delivers the piece at `f` and the slot. -/
abbrev flightP1 (g : Fin 2) (u : Fin 16) (f : HbBuf (F := F) c (piece u 1)) : sProp 𝕄 :=
  iprop(∃ e, Transfers.Flight countersEmb c.tc (cellR1 g) default ((piece u 1).view.amount (cellR1 g)) iprop(pieceP c u 1 f ∗ tileP1 c g e))
/-- The families of the ring: group g free; group g in flight with step u's copies, which deliver `G`; step u's two pieces held at `G`. -/
abbrev free (g : Fin 2) : sProp 𝕄 := iprop((cellP0 c g ∗ ∃ e, tileP0 c g e) ∗ (cellP1 c g ∗ ∃ e, tileP1 c g e))
abbrev infl (G : HbBuf (F := F) c hbM) (g : Fin 2) (u : Fin 16) : sProp 𝕄 := iprop(flightP0 c g u G ∗ flightP1 c g u G)
abbrev home (G : HbBuf (F := F) c hbM) (u : Fin 16) : sProp 𝕄 := iprop(pieceP c u 0 G ∗ pieceP c u 1 G)
/-- The ring before its step `k`: the pieces ahead at `A`, those behind at `G`. -/
def ringAt (A G : HbBuf (F := F) c hbM) (k : ℕ) : sProp 𝕄 := Ring.AtBΦ 2 (free c) (infl c G) (home c A) (home c G) k
end Families

/-! ### The slots and the pieces as boxes -/

abbrev tileSet (g : Fin 2) : Finset S2x512x512.Idx := (Rect.unit (s := S2x512x512) ![g.val, 0, 0] S1x512x512.size (inb_tile g)).set
theorem tileSet0_eq (g : Fin 2) : (tile0 g).view.set = tileSet g := by
  simp only [tile0, Memref.view_squeeze, View.set_reshape]; exact View.set_slice_whole _ _
theorem tileSet1_eq (g : Fin 2) : (tile1 g).view.set = tileSet g := by
  simp only [tile1, Memref.view_squeeze, View.set_reshape]; exact View.set_slice_whole _ _
theorem tiles_disjoint (i i' : Fin 2) (h : i ≠ i') : Disjoint (tileSet i) (tileSet i') :=
  Ring.boxes_disjoint (s := S2x512x512) S1x512x512.size (fun g : Fin 2 => ![g.val, 0, 0]) inb_tile (fun g => ![g.val, 0, 0])
    (fun i a => by fin_cases a <;> simp <;> omega) (fun v => Fin.ofNat 2 (v 0)) (by decide +kernel) i i' h
abbrev pieceOff (i : Fin 16 × Fin 2) : Fin 2 → Nat := ![512 * i.1.val, 2560 + 2048 * i.2.val]
theorem inb_piece' (i : Fin 16 × Fin 2) : ∀ a, pieceOff i a + S512x512.size a ≤ S8192x5120.size a := inb_piece i.1 i.2
abbrev pieceSet (i : Fin 16 × Fin 2) : Finset S8192x5120.Idx := (Rect.unit (s := S8192x5120) (pieceOff i) S512x512.size (inb_piece' i)).set
theorem pieceSet_eq (u : Fin 16) (k : Fin 2) : (piece u k).view.set = pieceSet (u, k) := by
  simp only [piece]; exact View.set_slice_whole _ _
theorem pieces_disjoint (i i' : Fin 16 × Fin 2) (h : i ≠ i') : Disjoint (pieceSet i) (pieceSet i') :=
  Ring.boxes_disjoint (s := S8192x5120) S512x512.size pieceOff inb_piece' (fun i => ![i.1.val, 5 + 4 * i.2.val])
    (fun i a => by fin_cases a <;> simp [pieceOff] <;> omega) (fun v => (Fin.ofNat 16 (v 0), Fin.ofNat 2 ((v 1 - 5) / 4))) (by decide +kernel) i i' h

/-! ### What the launch hands the ring, and takes back -/

section InOut
variable (c : Dev nD)
theorem tileP0_eq (g : Fin 2) (e) : tileP0 (F := F) c g e = ((c.tc.loc cc0_scratch0) ↦[tileSet g]{fullShare} e : sProp 𝕄) := by
  unfold tileP0; rw [tileSet0_eq]; rfl
abbrev tileSpare0 : sProp 𝕄 := iprop(∃ f : Buf (Elt F) (c.tc.loc cc0_scratch0), (c.tc.loc cc0_scratch0) ↦[Finset.univ \ Finset.univ.biUnion tileSet]{fullShare} f)
theorem tiles0_in : iprop(∃ f : Buf (Elt F) (c.tc.loc cc0_scratch0), (c.tc.loc cc0_scratch0) ↦{fullShare} f) ⊢ (iprop(bigSep Finset.univ (fun i : Fin 2 => iprop(∃ e, tileP0 (F := F) c i e)) ∗ tileSpare0 c) : sProp 𝕄) :=
  Ring.pieces_split_spare (U := Pipeline.UD sig nD τ) (ℓ := c.tc.loc cc0_scratch0) (q := fullShare) tileSet tiles_disjoint
    (fun i e => tileP0 c i e) (fun i e => tileP0_eq c i e)
theorem tiles0_out : (iprop(bigSep Finset.univ (fun i : Fin 2 => iprop(∃ e, tileP0 (F := F) c i e)) ∗ tileSpare0 c) : sProp 𝕄) ⊢ iprop(∃ f : Buf (Elt F) (c.tc.loc cc0_scratch0), (c.tc.loc cc0_scratch0) ↦{fullShare} f) :=
  Ring.pieces_join_spare (U := Pipeline.UD sig nD τ) (ℓ := c.tc.loc cc0_scratch0) (q := fullShare) tileSet tiles_disjoint
    (fun i e => tileP0 c i e) (fun i e => tileP0_eq c i e)
theorem tileP1_eq (g : Fin 2) (e) : tileP1 (F := F) c g e = ((c.tc.loc cc0_scratch1) ↦[tileSet g]{fullShare} e : sProp 𝕄) := by
  unfold tileP1; rw [tileSet1_eq]; rfl
abbrev tileSpare1 : sProp 𝕄 := iprop(∃ f : Buf (Elt F) (c.tc.loc cc0_scratch1), (c.tc.loc cc0_scratch1) ↦[Finset.univ \ Finset.univ.biUnion tileSet]{fullShare} f)
theorem tiles1_in : iprop(∃ f : Buf (Elt F) (c.tc.loc cc0_scratch1), (c.tc.loc cc0_scratch1) ↦{fullShare} f) ⊢ (iprop(bigSep Finset.univ (fun i : Fin 2 => iprop(∃ e, tileP1 (F := F) c i e)) ∗ tileSpare1 c) : sProp 𝕄) :=
  Ring.pieces_split_spare (U := Pipeline.UD sig nD τ) (ℓ := c.tc.loc cc0_scratch1) (q := fullShare) tileSet tiles_disjoint
    (fun i e => tileP1 c i e) (fun i e => tileP1_eq c i e)
theorem tiles1_out : (iprop(bigSep Finset.univ (fun i : Fin 2 => iprop(∃ e, tileP1 (F := F) c i e)) ∗ tileSpare1 c) : sProp 𝕄) ⊢ iprop(∃ f : Buf (Elt F) (c.tc.loc cc0_scratch1), (c.tc.loc cc0_scratch1) ↦{fullShare} f) :=
  Ring.pieces_join_spare (U := Pipeline.UD sig nD τ) (ℓ := c.tc.loc cc0_scratch1) (q := fullShare) tileSet tiles_disjoint
    (fun i e => tileP1 c i e) (fun i e => tileP1_eq c i e)
theorem pieceP_eq (u : Fin 16) (k : Fin 2) (f) : pieceP (F := F) c u k f = ((c.tc.loc main_v4_0) ↦[pieceSet (u, k)]{fullShare} f : sProp 𝕄) := by
  unfold pieceP; rw [pieceSet_eq]; rfl
/-- The result outside every piece. -/
abbrev spareSet : Finset S8192x5120.Idx := Finset.univ \ Finset.univ.biUnion pieceSet
abbrev pieceSpare (G : HbBuf (F := F) c hbM) : sProp 𝕄 := iprop((c.tc.loc main_v4_0) ↦[spareSet]{fullShare} G)
theorem homes_eq (G : HbBuf (F := F) c hbM) : (bigSep Finset.univ (fun i : Fin 16 × Fin 2 => pieceP (F := F) c i.1 i.2 G) : sProp 𝕄) = bigSep Finset.univ (home c G) := by
  rw [BI.bigSep_univ_prod]; exact BI.bigSep_congr fun u _ => by
    rw [BI.bigSep_eq_bigSepL_of_eq [0, 1] (by decide) (by decide)]; rfl
/-- The result whole at `G` is its pieces at `G` and the spare elements at `G`. -/
theorem pieces_iff (G : HbBuf (F := F) c hbM) :
    ((c.tc.loc main_v4_0) ↦{fullShare} G : sProp 𝕄) ⊣⊢ iprop(bigSep Finset.univ (home c G) ∗ pieceSpare c G) := by
  have e : ((c.tc.loc main_v4_0) ↦[Finset.univ.biUnion pieceSet]{fullShare} G : sProp 𝕄) = bigSep Finset.univ (home c G) := by
    rw [← homes_eq, pointsTo_biUnion (Ix := Unit) (Name := ℕ) (U := Pipeline.UD sig nD τ) (Lvl := ℕ) (q := fullShare) (f := G) Finset.univ pieceSet (fun i _ i' _ h => pieces_disjoint i i' h)]
    exact BI.bigSep_congr fun i _ => (pieceP_eq c i.1 i.2 G).symm
  rw [← e]
  exact pointsTo_split_subset (q := fullShare) (f := G) (Finset.subset_univ (Finset.univ.biUnion pieceSet))
/-- The four cells at zero and the slots at anything are the two groups free. -/
theorem frees_eq : (bigSep Finset.univ (free (F := F) c) : sProp 𝕄) = iprop(free c 0 ∗ free c 1) := by
  rw [BI.bigSep_eq_bigSepL_of_eq [0, 1] (by decide) (by decide)]; rfl
theorem twos_eq (P : Fin 2 → sProp 𝕄) : (bigSep Finset.univ P : sProp 𝕄) = iprop(P 0 ∗ P 1) := by
  rw [BI.bigSep_eq_bigSepL_of_eq [0, 1] (by decide) (by decide)]; rfl

omit [FloatOps F] in
theorem cellP0_0 : cellP0 (F := F) c 0 = semVal (c.tc, SemLoc.dma 17) 0 := congrArg (fun x => (semVal (c.tc, x) 0 : sProp 𝕄)) cellR0_0
omit [FloatOps F] in
theorem cellP0_1 : cellP0 (F := F) c 1 = semVal (c.tc, SemLoc.dma 18) 0 := congrArg (fun x => (semVal (c.tc, x) 0 : sProp 𝕄)) cellR0_1
omit [FloatOps F] in
theorem cellP1_0 : cellP1 (F := F) c 0 = semVal (c.tc, SemLoc.dma 19) 0 := congrArg (fun x => (semVal (c.tc, x) 0 : sProp 𝕄)) cellR1_0
omit [FloatOps F] in
theorem cellP1_1 : cellP1 (F := F) c 1 = semVal (c.tc, SemLoc.dma 20) 0 := congrArg (fun x => (semVal (c.tc, x) 0 : sProp 𝕄)) cellR1_1
end InOut

/-- What the launch hands over, beside the generator register. -/
abbrev whole (c : Dev nD) (G : HbBuf (F := F) c hbM) : sProp 𝕄 :=
  iprop(((∃ f : Buf (Elt F) (c.tc.loc cc0_scratch0), (c.tc.loc cc0_scratch0) ↦{fullShare} f) ∗ (∃ f : Buf (Elt F) (c.tc.loc cc0_scratch1), (c.tc.loc cc0_scratch1) ↦{fullShare} f))
    ∗ (semVal (c.tc, SemLoc.dma 17) 0 ∗ semVal (c.tc, SemLoc.dma 18) 0 ∗ semVal (c.tc, SemLoc.dma 19) 0 ∗ semVal (c.tc, SemLoc.dma 20) 0)
    ∗ ((c.tc.loc main_v4_0) ↦{fullShare} G))
abbrev spares (c : Dev nD) (G : HbBuf (F := F) c hbM) : sProp 𝕄 := iprop(tileSpare0 (F := F) c ∗ tileSpare1 (F := F) c ∗ pieceSpare c G)

/-- Into the ring. -/
theorem ring_in (c : Dev nD) (A G : HbBuf (F := F) c hbM) : whole c A ⊢ iprop(ringAt c A G 0 ∗ spares c A) := by
  unfold ringAt; rw [Ring.AtBΦ_lt _ _ _ _ _ 0 (by decide), Ring.AtB_zero]; unfold Ring.AtB₀
  rw [frees_eq]; unfold free whole spares; rw [cellP0_0, cellP0_1, cellP1_0, cellP1_1]
  iintro ⟨⟨HS0, HS1⟩, ⟨Hq0, Hq1, Hq2, Hq3⟩, HD⟩
  ihave HS0' := ((tiles0_in (F := F) c).trans (Entails.of_eq (by rw [twos_eq]))) $$ HS0
  icases HS0' with ⟨⟨HT00, HT01⟩, HTsp0⟩
  ihave HS1' := ((tiles1_in (F := F) c).trans (Entails.of_eq (by rw [twos_eq]))) $$ HS1
  icases HS1' with ⟨⟨HT10, HT11⟩, HTsp1⟩
  ihave HD' := (pieces_iff (F := F) c A).1 $$ HD
  icases HD' with ⟨HP, HPsp⟩
  isplitl [HP Hq0 Hq1 Hq2 Hq3 HT00 HT01 HT10 HT11]
  · isplitl [HP]; · iexact HP
    isplitl [Hq0 Hq2 HT00 HT10]
    · isplitl [Hq0 HT00]
      · isplitl [Hq0]; · iexact Hq0
        iexact HT00
      isplitl [Hq2]; · iexact Hq2
      iexact HT10
    isplitl [Hq1 HT01]
    · isplitl [Hq1]; · iexact Hq1
      iexact HT01
    isplitl [Hq3]; · iexact Hq3
    iexact HT11
  isplitl [HTsp0]; · iexact HTsp0
  isplitl [HTsp1]; · iexact HTsp1
  iexact HPsp
/-- Out of the ring: what it started from, the result now at `G`, which agrees with `A` off the pieces. -/
theorem ring_out (c : Dev nD) (A G : HbBuf (F := F) c hbM) (h : ∀ i ∈ spareSet, A i = G i) : iprop(ringAt c A G 16 ∗ spares c A) ⊢ whole c G := by
  unfold ringAt; rw [Ring.AtBΦ_ge _ _ _ _ _ 16 (by decide)]; unfold Ring.AtBEnd
  rw [frees_eq]; unfold free whole spares; rw [cellP0_0, cellP0_1, cellP1_0, cellP1_1]
  rw [show pieceSpare c A = pieceSpare c G from pointsTo_congr h]
  iintro ⟨⟨HP, ⟨⟨Hq0, HT00⟩, ⟨Hq2, HT10⟩⟩, ⟨⟨Hq1, HT01⟩, ⟨Hq3, HT11⟩⟩⟩, HTsp0, HTsp1, HPsp⟩
  isplitl [HT00 HT01 HTsp0 HT10 HT11 HTsp1]
  · isplitl [HT00 HT01 HTsp0]
    · iapply (tiles0_out (F := F) c)
      rw [twos_eq]
      isplitl [HT00 HT01]
      · isplitl [HT00]; · iexact HT00
        iexact HT01
      iexact HTsp0
    iapply ((Entails.of_eq (by rw [twos_eq])).trans (tiles1_out (F := F) c))
    isplitl [HT10 HT11]
    · isplitl [HT10]; · iexact HT10
      iexact HT11
    iexact HTsp1
  isplitl [Hq0 Hq1 Hq2 Hq3]
  · isplitl [Hq0]; · iexact Hq0
    isplitl [Hq1]; · iexact Hq1
    isplitl [Hq2]; · iexact Hq2
    iexact Hq3
  iapply (pieces_iff (F := F) c G).2
  isplitl [HP]; · iexact HP
  iexact HPsp

/-! ### The body's operands at point `t` are the ring's -/

section Canon
omit [FloatOps F]

theorem coff1_cell0 : ∀ t : Fin grid0.N, k0_off1 (grid0.coords t) = ![(Ring.sl 2 t.val).val] := by decide +kernel
@[sl_canon] theorem canon1_cell0 (t : Fin grid0.N) (h0 : k0_cond1 (grid0.coords t) = 1#1) :
    (cc0_scratch2.slice (Rect.unit (s := S2) (k0_off1 (grid0.coords t)) S1.size (k0_off1_inb (grid0.coords t) h0))).squeeze S_ squeezes_S1_S_ = cellA0 (Ring.sl 2 t.val) :=
  congrArg (fun A : DmaSems sig S1 => A.squeeze S_ squeezes_S1_S_) (SemArray.slice_unit_congr _ (coff1_cell0 t) _ _)
@[sl_canon] theorem canon1_cell0' (t : Fin grid0.N) (h0 : k0_cond1 (grid0.coords t) = 1#1) :
    (cc0_scratch2.slice (Rect.unit (s := S2) (k0_off1 (grid0.coords t)) ![1] (k0_off1_inb (grid0.coords t) h0))).squeeze S_ squeezes_S1_S_ = cellA0 (Ring.sl 2 t.val) :=
  canon1_cell0 t h0
theorem coff2_tile0 : ∀ t : Fin grid0.N, k0_off2 (grid0.coords t) = ![(Ring.sl 2 t.val).val, 0, 0] := by decide +kernel
@[sl_canon] theorem canon2_tile0 (t : Fin grid0.N) (h0 : k0_cond1 (grid0.coords t) = 1#1) :
    (scM0.slice (Rect.unit (s := S2x512x512) (k0_off2 (grid0.coords t)) S1x512x512.size (k0_off2_inb (grid0.coords t) h0)) (fun _ => rfl)).squeeze S512x512 squeezes_S1x512x512_S512x512 = tile0 (Ring.sl 2 t.val) :=
  congrArg (fun M : Memref sig .tc .vmem S1x512x512 .bf16 => M.squeeze S512x512 squeezes_S1x512x512_S512x512) (Memref.slice_unit_congr _ (coff2_tile0 t) _ _ (fun _ => rfl) (fun _ => rfl))
@[sl_canon] theorem canon2_tile0' (t : Fin grid0.N) (h0 : k0_cond1 (grid0.coords t) = 1#1) :
    (scM0.slice (Rect.unit (s := S2x512x512) (k0_off2 (grid0.coords t)) ![1, 512, 512] (k0_off2_inb (grid0.coords t) h0)) (fun _ => rfl)).squeeze S512x512 squeezes_S1x512x512_S512x512 = tile0 (Ring.sl 2 t.val) :=
  canon2_tile0 t h0
theorem coff3_cell1 : ∀ t : Fin grid0.N, k0_off3 (grid0.coords t) = ![(Ring.sl 2 t.val).val] := by decide +kernel
@[sl_canon] theorem canon3_cell1 (t : Fin grid0.N) (h0 : k0_cond2 (grid0.coords t) = 1#1) :
    (cc0_scratch3.slice (Rect.unit (s := S2) (k0_off3 (grid0.coords t)) S1.size (k0_off3_inb (grid0.coords t) h0))).squeeze S_ squeezes_S1_S_ = cellA1 (Ring.sl 2 t.val) :=
  congrArg (fun A : DmaSems sig S1 => A.squeeze S_ squeezes_S1_S_) (SemArray.slice_unit_congr _ (coff3_cell1 t) _ _)
@[sl_canon] theorem canon3_cell1' (t : Fin grid0.N) (h0 : k0_cond2 (grid0.coords t) = 1#1) :
    (cc0_scratch3.slice (Rect.unit (s := S2) (k0_off3 (grid0.coords t)) ![1] (k0_off3_inb (grid0.coords t) h0))).squeeze S_ squeezes_S1_S_ = cellA1 (Ring.sl 2 t.val) :=
  canon3_cell1 t h0
theorem coff4_tile1 : ∀ t : Fin grid0.N, k0_off4 (grid0.coords t) = ![(Ring.sl 2 t.val).val, 0, 0] := by decide +kernel
@[sl_canon] theorem canon4_tile1 (t : Fin grid0.N) (h0 : k0_cond2 (grid0.coords t) = 1#1) :
    (scM1.slice (Rect.unit (s := S2x512x512) (k0_off4 (grid0.coords t)) S1x512x512.size (k0_off4_inb (grid0.coords t) h0)) (fun _ => rfl)).squeeze S512x512 squeezes_S1x512x512_S512x512 = tile1 (Ring.sl 2 t.val) :=
  congrArg (fun M : Memref sig .tc .vmem S1x512x512 .bf16 => M.squeeze S512x512 squeezes_S1x512x512_S512x512) (Memref.slice_unit_congr _ (coff4_tile1 t) _ _ (fun _ => rfl) (fun _ => rfl))
@[sl_canon] theorem canon4_tile1' (t : Fin grid0.N) (h0 : k0_cond2 (grid0.coords t) = 1#1) :
    (scM1.slice (Rect.unit (s := S2x512x512) (k0_off4 (grid0.coords t)) ![1, 512, 512] (k0_off4_inb (grid0.coords t) h0)) (fun _ => rfl)).squeeze S512x512 squeezes_S1x512x512_S512x512 = tile1 (Ring.sl 2 t.val) :=
  canon4_tile1 t h0
theorem coff5_tile0 : ∀ t : Fin grid0.N, k0_off5 (grid0.coords t) = ![(Ring.sl 2 t.val).val, 0, 0] := by decide +kernel
@[sl_canon] theorem canon5_tile0 (t : Fin grid0.N) :
    (scM0.slice (Rect.unit (s := S2x512x512) (k0_off5 (grid0.coords t)) S1x512x512.size (k0_off5_inb (grid0.coords t))) (fun _ => rfl)).squeeze S512x512 squeezes_S1x512x512_S512x512 = tile0 (Ring.sl 2 t.val) :=
  congrArg (fun M : Memref sig .tc .vmem S1x512x512 .bf16 => M.squeeze S512x512 squeezes_S1x512x512_S512x512) (Memref.slice_unit_congr _ (coff5_tile0 t) _ _ (fun _ => rfl) (fun _ => rfl))
@[sl_canon] theorem canon5_tile0' (t : Fin grid0.N) :
    (scM0.slice (Rect.unit (s := S2x512x512) (k0_off5 (grid0.coords t)) ![1, 512, 512] (k0_off5_inb (grid0.coords t))) (fun _ => rfl)).squeeze S512x512 squeezes_S1x512x512_S512x512 = tile0 (Ring.sl 2 t.val) :=
  canon5_tile0 t
theorem coff5_tile1 : ∀ t : Fin grid0.N, k0_off5 (grid0.coords t) = ![(Ring.sl 2 t.val).val, 0, 0] := by decide +kernel
@[sl_canon] theorem canon5_tile1 (t : Fin grid0.N) :
    (scM1.slice (Rect.unit (s := S2x512x512) (k0_off5 (grid0.coords t)) S1x512x512.size (k0_off5_inb (grid0.coords t))) (fun _ => rfl)).squeeze S512x512 squeezes_S1x512x512_S512x512 = tile1 (Ring.sl 2 t.val) :=
  congrArg (fun M : Memref sig .tc .vmem S1x512x512 .bf16 => M.squeeze S512x512 squeezes_S1x512x512_S512x512) (Memref.slice_unit_congr _ (coff5_tile1 t) _ _ (fun _ => rfl) (fun _ => rfl))
@[sl_canon] theorem canon5_tile1' (t : Fin grid0.N) :
    (scM1.slice (Rect.unit (s := S2x512x512) (k0_off5 (grid0.coords t)) ![1, 512, 512] (k0_off5_inb (grid0.coords t))) (fun _ => rfl)).squeeze S512x512 squeezes_S1x512x512_S512x512 = tile1 (Ring.sl 2 t.val) :=
  canon5_tile1 t
theorem coff10_cell0 : ∀ t : Fin grid0.N, k0_off10 (grid0.coords t) = ![(Ring.sl 2 t.val).val] := by decide +kernel
@[sl_canon] theorem canon10_cell0 (t : Fin grid0.N) :
    (cc0_scratch2.slice (Rect.unit (s := S2) (k0_off10 (grid0.coords t)) S1.size (k0_off10_inb (grid0.coords t)))).squeeze S_ squeezes_S1_S_ = cellA0 (Ring.sl 2 t.val) :=
  congrArg (fun A : DmaSems sig S1 => A.squeeze S_ squeezes_S1_S_) (SemArray.slice_unit_congr _ (coff10_cell0 t) _ _)
@[sl_canon] theorem canon10_cell0' (t : Fin grid0.N) :
    (cc0_scratch2.slice (Rect.unit (s := S2) (k0_off10 (grid0.coords t)) ![1] (k0_off10_inb (grid0.coords t)))).squeeze S_ squeezes_S1_S_ = cellA0 (Ring.sl 2 t.val) :=
  canon10_cell0 t
theorem coff10_cell1 : ∀ t : Fin grid0.N, k0_off10 (grid0.coords t) = ![(Ring.sl 2 t.val).val] := by decide +kernel
@[sl_canon] theorem canon10_cell1 (t : Fin grid0.N) :
    (cc0_scratch3.slice (Rect.unit (s := S2) (k0_off10 (grid0.coords t)) S1.size (k0_off10_inb (grid0.coords t)))).squeeze S_ squeezes_S1_S_ = cellA1 (Ring.sl 2 t.val) :=
  congrArg (fun A : DmaSems sig S1 => A.squeeze S_ squeezes_S1_S_) (SemArray.slice_unit_congr _ (coff10_cell1 t) _ _)
@[sl_canon] theorem canon10_cell1' (t : Fin grid0.N) :
    (cc0_scratch3.slice (Rect.unit (s := S2) (k0_off10 (grid0.coords t)) ![1] (k0_off10_inb (grid0.coords t)))).squeeze S_ squeezes_S1_S_ = cellA1 (Ring.sl 2 t.val) :=
  canon10_cell1 t
theorem coff11_piece0 : ∀ t : Fin grid0.N, k0_off11 (grid0.coords t) = ![512 * (Ring.bk 16 t.val).val, 2560 + 2048 * (0 : Fin 2).val] := by decide +kernel
@[sl_canon] theorem canon11_piece0 (t : Fin grid0.N) :
    hbM.slice (Rect.unit (s := S8192x5120) (k0_off11 (grid0.coords t)) S512x512.size (k0_off11_inb (grid0.coords t))) (fun _ => rfl) = piece (Ring.bk 16 t.val) 0 :=
  congrArg (fun M : Memref sig .tc .hbm S512x512 .bf16 => M) (Memref.slice_unit_congr _ (coff11_piece0 t) _ _ (fun _ => rfl) (fun _ => rfl))
@[sl_canon] theorem canon11_piece0' (t : Fin grid0.N) :
    hbM.slice (Rect.unit (s := S8192x5120) (k0_off11 (grid0.coords t)) ![512, 512] (k0_off11_inb (grid0.coords t))) (fun _ => rfl) = piece (Ring.bk 16 t.val) 0 :=
  canon11_piece0 t
theorem coff16_piece1 : ∀ t : Fin grid0.N, k0_off16 (grid0.coords t) = ![512 * (Ring.bk 16 t.val).val, 2560 + 2048 * (1 : Fin 2).val] := by decide +kernel
@[sl_canon] theorem canon16_piece1 (t : Fin grid0.N) :
    hbM.slice (Rect.unit (s := S8192x5120) (k0_off16 (grid0.coords t)) S512x512.size (k0_off16_inb (grid0.coords t))) (fun _ => rfl) = piece (Ring.bk 16 t.val) 1 :=
  congrArg (fun M : Memref sig .tc .hbm S512x512 .bf16 => M) (Memref.slice_unit_congr _ (coff16_piece1 t) _ _ (fun _ => rfl) (fun _ => rfl))
@[sl_canon] theorem canon16_piece1' (t : Fin grid0.N) :
    hbM.slice (Rect.unit (s := S8192x5120) (k0_off16 (grid0.coords t)) ![512, 512] (k0_off16_inb (grid0.coords t))) (fun _ => rfl) = piece (Ring.bk 16 t.val) 1 :=
  canon16_piece1 t
theorem coff12_cell0 : ∀ t : Fin grid0.N, k0_off12 (grid0.coords t) = ![(Ring.sl 2 t.val).val] := by decide +kernel
@[sl_canon] theorem canon12_cell0 (t : Fin grid0.N) (h0 : k0_cond4 (grid0.coords t) = 1#1) :
    (cc0_scratch2.slice (Rect.unit (s := S2) (k0_off12 (grid0.coords t)) S1.size (k0_off12_inb (grid0.coords t) h0))).squeeze S_ squeezes_S1_S_ = cellA0 (Ring.sl 2 t.val) :=
  congrArg (fun A : DmaSems sig S1 => A.squeeze S_ squeezes_S1_S_) (SemArray.slice_unit_congr _ (coff12_cell0 t) _ _)
@[sl_canon] theorem canon12_cell0' (t : Fin grid0.N) (h0 : k0_cond4 (grid0.coords t) = 1#1) :
    (cc0_scratch2.slice (Rect.unit (s := S2) (k0_off12 (grid0.coords t)) ![1] (k0_off12_inb (grid0.coords t) h0))).squeeze S_ squeezes_S1_S_ = cellA0 (Ring.sl 2 t.val) :=
  canon12_cell0 t h0
theorem coff13_tile0 : ∀ t : Fin grid0.N, k0_off13 (grid0.coords t) = ![(Ring.sl 2 t.val).val, 0, 0] := by decide +kernel
@[sl_canon] theorem canon13_tile0 (t : Fin grid0.N) (h0 : k0_cond4 (grid0.coords t) = 1#1) :
    (scM0.slice (Rect.unit (s := S2x512x512) (k0_off13 (grid0.coords t)) S1x512x512.size (k0_off13_inb (grid0.coords t) h0)) (fun _ => rfl)).squeeze S512x512 squeezes_S1x512x512_S512x512 = tile0 (Ring.sl 2 t.val) :=
  congrArg (fun M : Memref sig .tc .vmem S1x512x512 .bf16 => M.squeeze S512x512 squeezes_S1x512x512_S512x512) (Memref.slice_unit_congr _ (coff13_tile0 t) _ _ (fun _ => rfl) (fun _ => rfl))
@[sl_canon] theorem canon13_tile0' (t : Fin grid0.N) (h0 : k0_cond4 (grid0.coords t) = 1#1) :
    (scM0.slice (Rect.unit (s := S2x512x512) (k0_off13 (grid0.coords t)) ![1, 512, 512] (k0_off13_inb (grid0.coords t) h0)) (fun _ => rfl)).squeeze S512x512 squeezes_S1x512x512_S512x512 = tile0 (Ring.sl 2 t.val) :=
  canon13_tile0 t h0
theorem coff14_cell0 : ∀ t : Fin grid0.N, k0_off14 (grid0.coords t) = ![(Ring.sl 2 (t.val + 1)).val] := by decide +kernel
@[sl_canon] theorem canon14_cell0 (t : Fin grid0.N) (h0 : k0_cond4 (grid0.coords t) = 1#1) :
    (cc0_scratch2.slice (Rect.unit (s := S2) (k0_off14 (grid0.coords t)) S1.size (k0_off14_inb (grid0.coords t) h0))).squeeze S_ squeezes_S1_S_ = cellA0 (Ring.sl 2 (t.val + 1)) :=
  congrArg (fun A : DmaSems sig S1 => A.squeeze S_ squeezes_S1_S_) (SemArray.slice_unit_congr _ (coff14_cell0 t) _ _)
@[sl_canon] theorem canon14_cell0' (t : Fin grid0.N) (h0 : k0_cond4 (grid0.coords t) = 1#1) :
    (cc0_scratch2.slice (Rect.unit (s := S2) (k0_off14 (grid0.coords t)) ![1] (k0_off14_inb (grid0.coords t) h0))).squeeze S_ squeezes_S1_S_ = cellA0 (Ring.sl 2 (t.val + 1)) :=
  canon14_cell0 t h0
theorem coff15_tile0 : ∀ t : Fin grid0.N, k0_off15 (grid0.coords t) = ![(Ring.sl 2 (t.val + 1)).val, 0, 0] := by decide +kernel
@[sl_canon] theorem canon15_tile0 (t : Fin grid0.N) (h0 : k0_cond4 (grid0.coords t) = 1#1) :
    (scM0.slice (Rect.unit (s := S2x512x512) (k0_off15 (grid0.coords t)) S1x512x512.size (k0_off15_inb (grid0.coords t) h0)) (fun _ => rfl)).squeeze S512x512 squeezes_S1x512x512_S512x512 = tile0 (Ring.sl 2 (t.val + 1)) :=
  congrArg (fun M : Memref sig .tc .vmem S1x512x512 .bf16 => M.squeeze S512x512 squeezes_S1x512x512_S512x512) (Memref.slice_unit_congr _ (coff15_tile0 t) _ _ (fun _ => rfl) (fun _ => rfl))
@[sl_canon] theorem canon15_tile0' (t : Fin grid0.N) (h0 : k0_cond4 (grid0.coords t) = 1#1) :
    (scM0.slice (Rect.unit (s := S2x512x512) (k0_off15 (grid0.coords t)) ![1, 512, 512] (k0_off15_inb (grid0.coords t) h0)) (fun _ => rfl)).squeeze S512x512 squeezes_S1x512x512_S512x512 = tile0 (Ring.sl 2 (t.val + 1)) :=
  canon15_tile0 t h0
theorem coff17_cell1 : ∀ t : Fin grid0.N, k0_off17 (grid0.coords t) = ![(Ring.sl 2 t.val).val] := by decide +kernel
@[sl_canon] theorem canon17_cell1 (t : Fin grid0.N) (h0 : k0_cond5 (grid0.coords t) = 1#1) :
    (cc0_scratch3.slice (Rect.unit (s := S2) (k0_off17 (grid0.coords t)) S1.size (k0_off17_inb (grid0.coords t) h0))).squeeze S_ squeezes_S1_S_ = cellA1 (Ring.sl 2 t.val) :=
  congrArg (fun A : DmaSems sig S1 => A.squeeze S_ squeezes_S1_S_) (SemArray.slice_unit_congr _ (coff17_cell1 t) _ _)
@[sl_canon] theorem canon17_cell1' (t : Fin grid0.N) (h0 : k0_cond5 (grid0.coords t) = 1#1) :
    (cc0_scratch3.slice (Rect.unit (s := S2) (k0_off17 (grid0.coords t)) ![1] (k0_off17_inb (grid0.coords t) h0))).squeeze S_ squeezes_S1_S_ = cellA1 (Ring.sl 2 t.val) :=
  canon17_cell1 t h0
theorem coff18_tile1 : ∀ t : Fin grid0.N, k0_off18 (grid0.coords t) = ![(Ring.sl 2 t.val).val, 0, 0] := by decide +kernel
@[sl_canon] theorem canon18_tile1 (t : Fin grid0.N) (h0 : k0_cond5 (grid0.coords t) = 1#1) :
    (scM1.slice (Rect.unit (s := S2x512x512) (k0_off18 (grid0.coords t)) S1x512x512.size (k0_off18_inb (grid0.coords t) h0)) (fun _ => rfl)).squeeze S512x512 squeezes_S1x512x512_S512x512 = tile1 (Ring.sl 2 t.val) :=
  congrArg (fun M : Memref sig .tc .vmem S1x512x512 .bf16 => M.squeeze S512x512 squeezes_S1x512x512_S512x512) (Memref.slice_unit_congr _ (coff18_tile1 t) _ _ (fun _ => rfl) (fun _ => rfl))
@[sl_canon] theorem canon18_tile1' (t : Fin grid0.N) (h0 : k0_cond5 (grid0.coords t) = 1#1) :
    (scM1.slice (Rect.unit (s := S2x512x512) (k0_off18 (grid0.coords t)) ![1, 512, 512] (k0_off18_inb (grid0.coords t) h0)) (fun _ => rfl)).squeeze S512x512 squeezes_S1x512x512_S512x512 = tile1 (Ring.sl 2 t.val) :=
  canon18_tile1 t h0
theorem coff19_cell1 : ∀ t : Fin grid0.N, k0_off19 (grid0.coords t) = ![(Ring.sl 2 (t.val + 1)).val] := by decide +kernel
@[sl_canon] theorem canon19_cell1 (t : Fin grid0.N) (h0 : k0_cond5 (grid0.coords t) = 1#1) :
    (cc0_scratch3.slice (Rect.unit (s := S2) (k0_off19 (grid0.coords t)) S1.size (k0_off19_inb (grid0.coords t) h0))).squeeze S_ squeezes_S1_S_ = cellA1 (Ring.sl 2 (t.val + 1)) :=
  congrArg (fun A : DmaSems sig S1 => A.squeeze S_ squeezes_S1_S_) (SemArray.slice_unit_congr _ (coff19_cell1 t) _ _)
@[sl_canon] theorem canon19_cell1' (t : Fin grid0.N) (h0 : k0_cond5 (grid0.coords t) = 1#1) :
    (cc0_scratch3.slice (Rect.unit (s := S2) (k0_off19 (grid0.coords t)) ![1] (k0_off19_inb (grid0.coords t) h0))).squeeze S_ squeezes_S1_S_ = cellA1 (Ring.sl 2 (t.val + 1)) :=
  canon19_cell1 t h0
theorem coff20_tile1 : ∀ t : Fin grid0.N, k0_off20 (grid0.coords t) = ![(Ring.sl 2 (t.val + 1)).val, 0, 0] := by decide +kernel
@[sl_canon] theorem canon20_tile1 (t : Fin grid0.N) (h0 : k0_cond5 (grid0.coords t) = 1#1) :
    (scM1.slice (Rect.unit (s := S2x512x512) (k0_off20 (grid0.coords t)) S1x512x512.size (k0_off20_inb (grid0.coords t) h0)) (fun _ => rfl)).squeeze S512x512 squeezes_S1x512x512_S512x512 = tile1 (Ring.sl 2 (t.val + 1)) :=
  congrArg (fun M : Memref sig .tc .vmem S1x512x512 .bf16 => M.squeeze S512x512 squeezes_S1x512x512_S512x512) (Memref.slice_unit_congr _ (coff20_tile1 t) _ _ (fun _ => rfl) (fun _ => rfl))
@[sl_canon] theorem canon20_tile1' (t : Fin grid0.N) (h0 : k0_cond5 (grid0.coords t) = 1#1) :
    (scM1.slice (Rect.unit (s := S2x512x512) (k0_off20 (grid0.coords t)) ![1, 512, 512] (k0_off20_inb (grid0.coords t) h0)) (fun _ => rfl)).squeeze S512x512 squeezes_S1x512x512_S512x512 = tile1 (Ring.sl 2 (t.val + 1)) :=
  canon20_tile1 t h0
theorem coff6 : ∀ t : Fin grid0.N, k0_off6 (grid0.coords t) = ![(Ring.sl 2 t.val).val, 0, 0] := by decide +kernel
/-- A store's box, in the slot's spelling. -/
instance (priority := high) closedOff6 (t : Fin grid0.N) : ClosedOff (k0_off6 (grid0.coords t)) := ⟨![(Ring.sl 2 t.val).val, 0, 0], coff6 t⟩
theorem coff7 : ∀ t : Fin grid0.N, k0_off7 (grid0.coords t) = ![(Ring.sl 2 t.val).val, 0, 128] := by decide +kernel
/-- A store's box, in the slot's spelling. -/
instance (priority := high) closedOff7 (t : Fin grid0.N) : ClosedOff (k0_off7 (grid0.coords t)) := ⟨![(Ring.sl 2 t.val).val, 0, 128], coff7 t⟩
theorem coff8 : ∀ t : Fin grid0.N, k0_off8 (grid0.coords t) = ![(Ring.sl 2 t.val).val, 0, 256] := by decide +kernel
/-- A store's box, in the slot's spelling. -/
instance (priority := high) closedOff8 (t : Fin grid0.N) : ClosedOff (k0_off8 (grid0.coords t)) := ⟨![(Ring.sl 2 t.val).val, 0, 256], coff8 t⟩
theorem coff9 : ∀ t : Fin grid0.N, k0_off9 (grid0.coords t) = ![(Ring.sl 2 t.val).val, 0, 384] := by decide +kernel
/-- A store's box, in the slot's spelling. -/
instance (priority := high) closedOff9 (t : Fin grid0.N) : ClosedOff (k0_off9 (grid0.coords t)) := ⟨![(Ring.sl 2 t.val).val, 0, 384], coff9 t⟩
end Canon

end Cert.KernelIdeal.Pool

end
-- ==== Proof.Pool.Tile.lean ====
/- What one step of the pooling body computes, as functions of the blocks it reads, and the two tiles read back after their column stores. -/
module

public import proofs.«01_k».proof.Proof.Pool.Ring
public import Idealize.ShloMosaic.Lib.ValueLayout

@[expose] public section

set_option maxRecDepth 16384

noncomputable section

namespace Cert.KernelIdeal.Pool

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## A tile after the four column stores -/

/-- A tile put together from its four column blocks. -/
def asm4 {α : Type} (p0 p1 p2 p3 : S1x512x128.Idx → α) : S512x512.Idx → α := fun j =>
  if h0 : (j 1).val < 128 then p0 (ValueIdx.ix3 (0 : Fin 1) (j 0 : Fin 512) (⟨(j 1).val, h0⟩ : Fin 128))
  else if h1 : (j 1).val < 256 then p1 (ValueIdx.ix3 (0 : Fin 1) (j 0 : Fin 512) (⟨(j 1).val - 128, by omega⟩ : Fin 128))
  else if h2 : (j 1).val < 384 then p2 (ValueIdx.ix3 (0 : Fin 1) (j 0 : Fin 512) (⟨(j 1).val - 256, by omega⟩ : Fin 128))
  else p3 (ValueIdx.ix3 (0 : Fin 1) (j 0 : Fin 512) (⟨(j 1).val - 384, by have := (j 1).isLt; change (j 1).val < 512 at this; omega⟩ : Fin 128))

/-- Where an index of slot `g` lies in the buffer of two slots. -/
def slotIdx (g : Fin 2) (j : S512x512.Idx) : S2x512x512.Idx := ValueIdx.ix3 g (j 0 : Fin 512) (j 1 : Fin 512)

theorem tile_emb (g : Fin 2) (h : S512x512.numel = (Rect.unit (s := S2x512x512) ![g.val, 0, 0] S1x512x512.size (inb_tile g)).shape.numel) (j : S512x512.Idx) :
    (Rect.unit (s := S2x512x512) ![g.val, 0, 0] S1x512x512.size (inb_tile g)).emb (Shape.reshapeEquiv h j) = slotIdx g j := by
  have hj : j = ValueIdx.ix2 (j 0 : Fin 512) (j 1 : Fin 512) := by funext a; fin_cases a <;> rfl
  rw [(congrArg (Shape.reshapeEquiv h) hj).trans (ValueIdx.reshapeEquiv_ix2_1ab (a := 512) (b := 512) h (j 0) (j 1))]
  funext a; apply Fin.ext
  fin_cases a
  · show g.val + 1 * 0 = g.val; omega
  · show 0 + 1 * (j 0).val = (j 0).val; omega
  · show 0 + 1 * (j 1).val = (j 1).val; omega

theorem read_tile0 (g : Fin 2) (f : scM0.view.ty.Contents (Elt F)) (j : S512x512.Idx) :
    (tile0 g).view.read (Elt F) f j = scM0.view.read (Elt F) f (slotIdx g j) :=
  (show _ = scM0.view.read (Elt F) f ((Rect.unit (s := S2x512x512) ![g.val, 0, 0] S1x512x512.size (inb_tile g)).emb (Shape.reshapeEquiv squeezes_S1x512x512_S512x512.numel_eq j)) from rfl).trans
    (congrArg _ (tile_emb g _ j))

/-- One column store, read back. -/
theorem read_col0 (g : Fin 2) (q : ℕ) (hq : q + 128 ≤ 512) (off : Fin 3 → ℕ) (ho : off = ![g.val, 0, q]) (inb : ∀ a, off a + S1x512x128.size a ≤ S2x512x512.size a)
    (f : scM0.view.ty.Contents (Elt F)) (w : S1x512x128.Idx → Elt F .bf16) (j : S512x512.Idx) :
    (tile0 g).view.read (Elt F) ((scM0.access (Rect.unit (s := S2x512x512) off S1x512x128.size inb)).write (Elt F) f w Finset.univ) j
      = if h : q ≤ (j 1).val ∧ (j 1).val < q + 128 then w (ValueIdx.ix3 (0 : Fin 1) (j 0 : Fin 512) (⟨(j 1).val - q, by omega⟩ : Fin 128)) else (tile0 g).view.read (Elt F) f j := by
  subst ho
  rw [read_tile0, read_tile0]
  by_cases h : q ≤ (j 1).val ∧ (j 1).val < q + 128
  · rw [dif_pos h]
    have e : slotIdx g j = (Rect.unit (s := S2x512x512) ![g.val, 0, q] S1x512x128.size inb).emb (ValueIdx.ix3 (0 : Fin 1) (j 0 : Fin 512) (⟨(j 1).val - q, by omega⟩ : Fin 128)) := by
      funext a; apply Fin.ext
      fin_cases a
      · show g.val = g.val + 1 * 0; omega
      · show (j 0).val = 0 + 1 * (j 0).val; omega
      · show (j 1).val = q + 1 * ((j 1).val - q); omega
    rw [e]
    exact (View.read_slice_write_emb (v := scM0.view) (Rect.unit (s := S2x512x512) ![g.val, 0, q] S1x512x128.size inb) f w (Finset.mem_univ _))
  · rw [dif_neg h]
    refine View.read_slice_write_of_not_mem (v := scM0.view) (Rect.unit (s := S2x512x512) ![g.val, 0, q] S1x512x128.size inb) f w Finset.univ ?_
    intro hm
    apply h
    obtain ⟨w', -, hw⟩ := Finset.mem_map.mp hm
    have h2 : q + 1 * (w' 2).val = (j 1).val := congrArg (fun x : S2x512x512.Idx => (x 2).val) hw
    have h3 : (w' 2).val < 128 := (w' 2).isLt
    omega

/-- The tile after the four column stores, whatever it held before. -/
theorem read_asm0 (g : Fin 2) (o0 o1 o2 o3 : Fin 3 → ℕ) (h0 : o0 = ![g.val, 0, 0]) (h1 : o1 = ![g.val, 0, 128]) (h2 : o2 = ![g.val, 0, 256]) (h3 : o3 = ![g.val, 0, 384])
    (i0 : ∀ a, o0 a + S1x512x128.size a ≤ S2x512x512.size a) (i1 : ∀ a, o1 a + S1x512x128.size a ≤ S2x512x512.size a)
    (i2 : ∀ a, o2 a + S1x512x128.size a ≤ S2x512x512.size a) (i3 : ∀ a, o3 a + S1x512x128.size a ≤ S2x512x512.size a)
    (e : scM0.view.ty.Contents (Elt F)) (p0 p1 p2 p3 : S1x512x128.Idx → Elt F .bf16) :
    (tile0 g).view.read (Elt F)
      ((scM0.access (Rect.unit (s := S2x512x512) o3 S1x512x128.size i3)).write (Elt F)
        ((scM0.access (Rect.unit (s := S2x512x512) o2 S1x512x128.size i2)).write (Elt F)
          ((scM0.access (Rect.unit (s := S2x512x512) o1 S1x512x128.size i1)).write (Elt F)
            ((scM0.access (Rect.unit (s := S2x512x512) o0 S1x512x128.size i0)).write (Elt F) e p0 Finset.univ) p1 Finset.univ) p2 Finset.univ) p3 Finset.univ)
      = asm4 p0 p1 p2 p3 := by
  funext j
  have hj : (j 1).val < 512 := (j 1).isLt
  rw [read_col0 g 384 (by omega) o3 h3, read_col0 g 256 (by omega) o2 h2, read_col0 g 128 (by omega) o1 h1, read_col0 g 0 (by omega) o0 h0]
  unfold asm4
  by_cases c0 : (j 1).val < 128
  · rw [dif_neg (by omega), dif_neg (by omega), dif_neg (by omega), dif_pos (by omega), dif_pos c0]; rfl
  · by_cases c1 : (j 1).val < 256
    · rw [dif_neg (by omega), dif_neg (by omega), dif_pos (by omega), dif_neg c0, dif_pos c1]
    · by_cases c2 : (j 1).val < 384
      · rw [dif_neg (by omega), dif_pos (by omega), dif_neg c0, dif_neg c1, dif_pos c2]
      · rw [dif_pos (by omega), dif_neg c0, dif_neg c1, dif_neg c2]

theorem read_tile1 (g : Fin 2) (f : scM1.view.ty.Contents (Elt F)) (j : S512x512.Idx) :
    (tile1 g).view.read (Elt F) f j = scM1.view.read (Elt F) f (slotIdx g j) :=
  (show _ = scM1.view.read (Elt F) f ((Rect.unit (s := S2x512x512) ![g.val, 0, 0] S1x512x512.size (inb_tile g)).emb (Shape.reshapeEquiv squeezes_S1x512x512_S512x512.numel_eq j)) from rfl).trans
    (congrArg _ (tile_emb g _ j))

/-- One column store, read back. -/
theorem read_col1 (g : Fin 2) (q : ℕ) (hq : q + 128 ≤ 512) (off : Fin 3 → ℕ) (ho : off = ![g.val, 0, q]) (inb : ∀ a, off a + S1x512x128.size a ≤ S2x512x512.size a)
    (f : scM1.view.ty.Contents (Elt F)) (w : S1x512x128.Idx → Elt F .bf16) (j : S512x512.Idx) :
    (tile1 g).view.read (Elt F) ((scM1.access (Rect.unit (s := S2x512x512) off S1x512x128.size inb)).write (Elt F) f w Finset.univ) j
      = if h : q ≤ (j 1).val ∧ (j 1).val < q + 128 then w (ValueIdx.ix3 (0 : Fin 1) (j 0 : Fin 512) (⟨(j 1).val - q, by omega⟩ : Fin 128)) else (tile1 g).view.read (Elt F) f j := by
  subst ho
  rw [read_tile1, read_tile1]
  by_cases h : q ≤ (j 1).val ∧ (j 1).val < q + 128
  · rw [dif_pos h]
    have e : slotIdx g j = (Rect.unit (s := S2x512x512) ![g.val, 0, q] S1x512x128.size inb).emb (ValueIdx.ix3 (0 : Fin 1) (j 0 : Fin 512) (⟨(j 1).val - q, by omega⟩ : Fin 128)) := by
      funext a; apply Fin.ext
      fin_cases a
      · show g.val = g.val + 1 * 0; omega
      · show (j 0).val = 0 + 1 * (j 0).val; omega
      · show (j 1).val = q + 1 * ((j 1).val - q); omega
    rw [e]
    exact (View.read_slice_write_emb (v := scM1.view) (Rect.unit (s := S2x512x512) ![g.val, 0, q] S1x512x128.size inb) f w (Finset.mem_univ _))
  · rw [dif_neg h]
    refine View.read_slice_write_of_not_mem (v := scM1.view) (Rect.unit (s := S2x512x512) ![g.val, 0, q] S1x512x128.size inb) f w Finset.univ ?_
    intro hm
    apply h
    obtain ⟨w', -, hw⟩ := Finset.mem_map.mp hm
    have h2 : q + 1 * (w' 2).val = (j 1).val := congrArg (fun x : S2x512x512.Idx => (x 2).val) hw
    have h3 : (w' 2).val < 128 := (w' 2).isLt
    omega

/-- The tile after the four column stores, whatever it held before. -/
theorem read_asm1 (g : Fin 2) (o0 o1 o2 o3 : Fin 3 → ℕ) (h0 : o0 = ![g.val, 0, 0]) (h1 : o1 = ![g.val, 0, 128]) (h2 : o2 = ![g.val, 0, 256]) (h3 : o3 = ![g.val, 0, 384])
    (i0 : ∀ a, o0 a + S1x512x128.size a ≤ S2x512x512.size a) (i1 : ∀ a, o1 a + S1x512x128.size a ≤ S2x512x512.size a)
    (i2 : ∀ a, o2 a + S1x512x128.size a ≤ S2x512x512.size a) (i3 : ∀ a, o3 a + S1x512x128.size a ≤ S2x512x512.size a)
    (e : scM1.view.ty.Contents (Elt F)) (p0 p1 p2 p3 : S1x512x128.Idx → Elt F .bf16) :
    (tile1 g).view.read (Elt F)
      ((scM1.access (Rect.unit (s := S2x512x512) o3 S1x512x128.size i3)).write (Elt F)
        ((scM1.access (Rect.unit (s := S2x512x512) o2 S1x512x128.size i2)).write (Elt F)
          ((scM1.access (Rect.unit (s := S2x512x512) o1 S1x512x128.size i1)).write (Elt F)
            ((scM1.access (Rect.unit (s := S2x512x512) o0 S1x512x128.size i0)).write (Elt F) e p0 Finset.univ) p1 Finset.univ) p2 Finset.univ) p3 Finset.univ)
      = asm4 p0 p1 p2 p3 := by
  funext j
  have hj : (j 1).val < 512 := (j 1).isLt
  rw [read_col1 g 384 (by omega) o3 h3, read_col1 g 256 (by omega) o2 h2, read_col1 g 128 (by omega) o1 h1, read_col1 g 0 (by omega) o0 h0]
  unfold asm4
  by_cases c0 : (j 1).val < 128
  · rw [dif_neg (by omega), dif_neg (by omega), dif_neg (by omega), dif_pos (by omega), dif_pos c0]; rfl
  · by_cases c1 : (j 1).val < 256
    · rw [dif_neg (by omega), dif_neg (by omega), dif_pos (by omega), dif_neg c0, dif_pos c1]
    · by_cases c2 : (j 1).val < 384
      · rw [dif_neg (by omega), dif_pos (by omega), dif_neg c0, dif_neg c1, dif_pos c2]
      · rw [dif_pos (by omega), dif_neg c0, dif_neg c1, dif_neg c2]

/-- A piece after a store of the whole of it. -/
theorem read_piece (u : Fin 16) (k : Fin 2) (f : (piece u k).view.ty.Contents (Elt F)) (w : S512x512.Idx → Elt F .bf16) :
    (piece u k).view.read (Elt F) ((piece u k).view.writes (Elt F) f [⟨Rect.whole S512x512, w⟩]) = w := by
  funext y
  have h := View.read_slice_write_emb (Val := Elt F) (v := (piece u k).view) (Rect.whole S512x512) f w (Finset.mem_univ y)
  rw [Rect.emb_whole_apply] at h
  exact h

/-! ## One step of the body, as functions of the blocks it reads -/

section Step
variable (i : grid0.Coords) (x0 : Vec F S512x512 .bf16) (x1 : Vec F S16x512 .bf16) (x2 : Vec F S512x512 .bf16) (x3 : Vec F S16x512 .bf16) (x4 : Vec F S512x512 .bf16)
  (x5 : Vec F S16x512 .bf16) (x6 x7 : Vec F S4x128x128 .bf16) (x8 : Vec F S1x512 .f32) (xo9 : Vec F S4x128x128 .f32) (xo10 : Vec F S1x512 .f32)

/-- The step's number as a word; whole blocks, a group's matrix and a group's columns as the body loads them. -/
abbrev wd : BitVec 32 := BitVec.ofNat 32 (i 0).val
abbrev ldB (x : Vec F S512x512 .bf16) : Vec F S512x512 .bf16 := View.ld x (Rect.unit (s := S512x512) ![0, 0] S512x512.size inb_S512x512_S512x512_0_0)
abbrev ldH (x : Vec F S16x512 .bf16) : Vec F S16x512 .bf16 := View.ld x (Rect.unit (s := S16x512) ![0, 0] S16x512.size inb_S16x512_S16x512_0_0)
abbrev ldS (x : Vec F S1x512 .f32) : Vec F S1x512 .f32 := View.ld x (Rect.unit (s := S1x512) ![0, 0] S1x512.size inb_S1x512_S1x512_0_0)
abbrev mat0 {e : EltTy} (x : Vec F S4x128x128 e) : Vec F S1x128x128 e := View.ld x (Rect.unit (s := S4x128x128) ![0, 0, 0] S1x128x128.size inb_S4x128x128_S1x128x128_0_0_0)
abbrev col0 (x : Vec F S1x512 .f32) : Vec F S1x128 .f32 := View.ld x (Rect.unit (s := S1x512) ![0, 0] S1x128.size inb_S1x512_S1x128_0_0)
abbrev mat1 {e : EltTy} (x : Vec F S4x128x128 e) : Vec F S1x128x128 e := View.ld x (Rect.unit (s := S4x128x128) ![1, 0, 0] S1x128x128.size inb_S4x128x128_S1x128x128_1_0_0)
abbrev col1 (x : Vec F S1x512 .f32) : Vec F S1x128 .f32 := View.ld x (Rect.unit (s := S1x512) ![0, 128] S1x128.size inb_S1x512_S1x128_0_128)
abbrev mat2 {e : EltTy} (x : Vec F S4x128x128 e) : Vec F S1x128x128 e := View.ld x (Rect.unit (s := S4x128x128) ![2, 0, 0] S1x128x128.size inb_S4x128x128_S1x128x128_2_0_0)
abbrev col2 (x : Vec F S1x512 .f32) : Vec F S1x128 .f32 := View.ld x (Rect.unit (s := S1x512) ![0, 256] S1x128.size inb_S1x512_S1x128_0_256)
abbrev mat3 {e : EltTy} (x : Vec F S4x128x128 e) : Vec F S1x128x128 e := View.ld x (Rect.unit (s := S4x128x128) ![3, 0, 0] S1x128x128.size inb_S4x128x128_S1x128x128_3_0_0)
abbrev col3 (x : Vec F S1x512 .f32) : Vec F S1x128 .f32 := View.ld x (Rect.unit (s := S1x512) ![0, 384] S1x128.size inb_S1x512_S1x128_0_384)
/-- The pooled inputs of the four groups. -/
def pl0 : FVec F S512x128 .f32 := k0_pay9 (wd i) (k0_pay3 (ldB x0)) (k0_pay4 (ldH x1)) 0#32
def pl1 : FVec F S512x128 .f32 := k0_pay10 (wd i) (k0_pay3 (ldB x0)) (k0_pay4 (ldH x1)) 0#32
def pl2 : FVec F S512x128 .f32 := k0_pay11 (wd i) (k0_pay3 (ldB x0)) (k0_pay4 (ldH x1)) 0#32
def pl3 : FVec F S512x128 .f32 := k0_pay12 (wd i) (k0_pay3 (ldB x0)) (k0_pay4 (ldH x1)) 0#32
/-- The cotangent times the gate and the scale: on the block's rows, and on the next sixteen. -/
def dpw : FVec F S512x512 .f32 := k0_pay18 (ldB x2) (ldB x4) (ldS x8)
def dpwn : FVec F S16x512 .f32 := k0_pay19 (wd i) (ldH x3) (ldH x5) (ldS x8)
/-- The four column blocks of the window sums' inputs, rounded together from these. -/
def ex0 : FVec F S528x128 .f32 := k0_pay26 (k0_pay5 (wd i)) (dpw x2 x4 x8) (dpwn i x3 x5 x8) (k0_pay20 (wd i)) (mat0 x7) (mat0 x7)
def ex1 : FVec F S528x128 .f32 := k0_pay32 (k0_pay5 (wd i)) (dpw x2 x4 x8) (dpwn i x3 x5 x8) (k0_pay20 (wd i)) (mat1 x7) (mat1 x7)
def ex2 : FVec F S528x128 .f32 := k0_pay39 (k0_pay5 (wd i)) (dpw x2 x4 x8) (dpwn i x3 x5 x8) (k0_pay20 (wd i)) (mat2 x7) (mat2 x7)
/-- The gradient of the gate's columns at this step, and of the mixed columns. -/
def stepG : Vec F S512x512 .bf16 :=
  asm4 (k0_pay22 (pl0 i x0 x1) (k0_pay15 (ldB x2)) (k0_pay16 (ldB x4)) (mat0 x6) (col0 x8))
    (k0_pay28 (pl1 i x0 x1) (k0_pay15 (ldB x2)) (k0_pay16 (ldB x4)) (mat1 x6) (col1 x8))
    (k0_pay34 (pl2 i x0 x1) (k0_pay15 (ldB x2)) (k0_pay16 (ldB x4)) (mat2 x6) (col2 x8))
    (k0_pay41 (pl3 i x0 x1) (k0_pay15 (ldB x2)) (k0_pay16 (ldB x4)) (mat3 x6) (col3 x8))
def stepX : Vec F S512x512 .bf16 :=
  asm4 (k0_pay51 (k0_pay25 (dpw x2 x4 x8) (mat0 x7)) (ex0 i x2 x3 x4 x5 x7 x8) (ex1 i x2 x3 x4 x5 x7 x8) (ex2 i x2 x3 x4 x5 x7 x8) (k0_pay45 (dpwn i x3 x5 x8) (mat3 x7)) (k0_pay46 (k0_pay5 (wd i)) (dpw x2 x4 x8) (mat3 x7)) (k0_pay47 (k0_pay20 (wd i))))
    (k0_pay52 (ex0 i x2 x3 x4 x5 x7 x8) (k0_pay31 (dpw x2 x4 x8) (mat1 x7)) (ex1 i x2 x3 x4 x5 x7 x8) (ex2 i x2 x3 x4 x5 x7 x8) (k0_pay45 (dpwn i x3 x5 x8) (mat3 x7)) (k0_pay46 (k0_pay5 (wd i)) (dpw x2 x4 x8) (mat3 x7)) (k0_pay47 (k0_pay20 (wd i))))
    (k0_pay53 (ex0 i x2 x3 x4 x5 x7 x8) (ex1 i x2 x3 x4 x5 x7 x8) (k0_pay38 (dpw x2 x4 x8) (mat2 x7)) (ex2 i x2 x3 x4 x5 x7 x8) (k0_pay45 (dpwn i x3 x5 x8) (mat3 x7)) (k0_pay46 (k0_pay5 (wd i)) (dpw x2 x4 x8) (mat3 x7)) (k0_pay47 (k0_pay20 (wd i))))
    (k0_pay55 (k0_pay54 (ex0 i x2 x3 x4 x5 x7 x8) (ex1 i x2 x3 x4 x5 x7 x8) (ex2 i x2 x3 x4 x5 x7 x8) (k0_pay44 (dpw x2 x4 x8) (mat3 x7)) (k0_pay45 (dpwn i x3 x5 x8) (mat3 x7)) (k0_pay46 (k0_pay5 (wd i)) (dpw x2 x4 x8) (mat3 x7)) (k0_pay47 (k0_pay20 (wd i)))))
/-- The gradient of the mixing matrices and of the scale, carried from what it was. -/
def list9 : List (View.Piece (Elt F) S4x128x128 .f32) :=
  [⟨Rect.unit (s := S4x128x128) ![3, 0, 0] S1x128x128.size inb_S4x128x128_S1x128x128_3_0_0, k0_pay43 (pl3 i x0 x1) (dpw x2 x4 x8) (mat3 xo9)⟩,
   ⟨Rect.unit (s := S4x128x128) ![2, 0, 0] S1x128x128.size inb_S4x128x128_S1x128x128_2_0_0, k0_pay37 (k0_pay36 (pl2 i x0 x1) (dpw x2 x4 x8) (mat2 xo9))⟩,
   ⟨Rect.unit (s := S4x128x128) ![1, 0, 0] S1x128x128.size inb_S4x128x128_S1x128x128_1_0_0, k0_pay30 (pl1 i x0 x1) (dpw x2 x4 x8) (mat1 xo9)⟩,
   ⟨Rect.unit (s := S4x128x128) ![0, 0, 0] S1x128x128.size inb_S4x128x128_S1x128x128_0_0_0, k0_pay24 (pl0 i x0 x1) (dpw x2 x4 x8) (mat0 xo9)⟩]
def list10 : List (View.Piece (Elt F) S1x512 .f32) :=
  [⟨Rect.unit (s := S1x512) ![0, 384] S1x128.size inb_S1x512_S1x128_0_384, k0_pay42 (k0_pay17 (ldB x2) (ldB x4)) (k0_pay40 (pl3 i x0 x1) (mat3 x6)) (col3 xo10)⟩,
   ⟨Rect.unit (s := S1x512) ![0, 256] S1x128.size inb_S1x512_S1x128_0_256, k0_pay35 (pl2 i x0 x1) (k0_pay17 (ldB x2) (ldB x4)) (mat2 x6) (col2 xo10)⟩,
   ⟨Rect.unit (s := S1x512) ![0, 128] S1x128.size inb_S1x512_S1x128_0_128, k0_pay29 (k0_pay17 (ldB x2) (ldB x4)) (k0_pay27 (pl1 i x0 x1) (mat1 x6)) (col1 xo10)⟩,
   ⟨Rect.unit (s := S1x512) ![0, 0] S1x128.size inb_S1x512_S1x128_0_0, k0_pay23 (pl0 i x0 x1) (k0_pay17 (ldB x2) (ldB x4)) (mat0 x6) (col0 xo10)⟩]
def step9 : Vec F S4x128x128 .f32 := View.canon (list9 i x0 x1 x2 x4 x8 xo9)
def step10 : Vec F S1x512 .f32 := View.canon (list10 i x0 x1 x2 x4 x6 xo10)
theorem cover9 : ∀ y : S4x128x128.Idx, ∃ p ∈ list9 i x0 x1 x2 x4 x8 xo9, y ∈ p.1.set :=
  View.cover_of_tiledL _ S1x128x128.size (by rfl)
theorem cover10 : ∀ y : S1x512.Idx, ∃ p ∈ list10 i x0 x1 x2 x4 x6 xo10, y ∈ p.1.set :=
  View.cover_of_tiledL _ S1x128.size (by rfl)
end Step

end Cert.KernelIdeal.Pool

end
-- ==== Proof.Pool.Bodies.lean ====
/- The body of the pooling kernel at the four kinds of points: what its stores leave, and that it runs. -/
module

public import proofs.«01_k».proof.Proof.Pool.Tile
public import Idealize.ShloMosaic.Lib.Pipeline.ReadBack

@[expose] public section

set_option maxRecDepth 16384

noncomputable section

set_option maxHeartbeats 4000000

namespace Cert.KernelIdeal.Pool

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem runA (c : Dev nD) (t : Fin cfg0.N) (a1 : Memref sig .tc .vmem S512x512 .bf16) (h_1 : a1.IsWhole) (a2 : Memref sig .tc .vmem S16x512 .bf16) (h_2 : a2.IsWhole) (a3 : Memref sig .tc .vmem S512x512 .bf16) (h_3 : a3.IsWhole) (a4 : Memref sig .tc .vmem S16x512 .bf16) (h_4 : a4.IsWhole) (a5 : Memref sig .tc .vmem S512x512 .bf16) (h_5 : a5.IsWhole) (a6 : Memref sig .tc .vmem S16x512 .bf16) (h_6 : a6.IsWhole) (a7 : Memref sig .tc .vmem S4x128x128 .bf16) (h_7 : a7.IsWhole) (a8 : Memref sig .tc .vmem S4x128x128 .bf16) (h_8 : a8.IsWhole) (a9 : Memref sig .tc .vmem S1x512 .f32) (h_9 : a9.IsWhole) (a12 : Memref sig .tc .vmem S4x128x128 .f32) (h_12 : a12.IsWhole) (a13 : Memref sig .tc .vmem S1x512 .f32) (h_13 : a13.IsWhole)
    (h1 : ¬k0_cond1 (grid0.coords t) = 1#1) (h2 : ¬k0_cond2 (grid0.coords t) = 1#1) (hz : condZ (grid0.coords t)) (h4 : ¬k0_cond4 (grid0.coords t) = 1#1) (h5 : ¬k0_cond5 (grid0.coords t) = 1#1)
    (x0 : Vec F S512x512 .bf16) (x1 : Vec F S16x512 .bf16) (x2 : Vec F S512x512 .bf16) (x3 : Vec F S16x512 .bf16) (x4 : Vec F S512x512 .bf16) (x5 : Vec F S16x512 .bf16) (x6 : Vec F S4x128x128 .bf16) (x7 : Vec F S4x128x128 .bf16) (x8 : Vec F S1x512 .f32)
    (fp0 : HbBuf (F := F) c (piece (Ring.bk 16 t.val) 0)) (fp1 : HbBuf (F := F) c (piece (Ring.bk 16 t.val) 1)) (W : Waits sig Unit) (K : PUnit → sProp 𝕄) :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ (∃ d, owns c a12 fullShare d) ∗ (∃ d, owns c a13 fullShare d) ∗ pieceP c (Ring.bk 16 t.val) 0 fp0 ∗ pieceP c (Ring.bk 16 t.val) 1 fp1 ∗ (cellP0 c (Ring.sl 2 t.val) ∗ ∃ e, tileP0 c (Ring.sl 2 t.val) e) ∗ (cellP1 c (Ring.sl 2 t.val) ∗ ∃ e, tileP1 c (Ring.sl 2 t.val) e) ∗ owes c 0 W
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare (step9 (grid0.coords t) x0 x1 x2 x4 x8 k0_pay1) ∗ owns c a13 fullShare (step10 (grid0.coords t) x0 x1 x2 x4 x6 k0_pay2) ∗ (∃ f, ⌜(piece (Ring.bk 16 t.val) 0).view.read (Elt F) f = stepX (grid0.coords t) x2 x3 x4 x5 x7 x8⌝ ∗ flightP0 c (Ring.sl 2 t.val) (Ring.bk 16 t.val) f) ∗ (∃ f, ⌜(piece (Ring.bk 16 t.val) 1).view.read (Elt F) f = stepG (grid0.coords t) x0 x1 x2 x4 x6 x8⌝ ∗ flightP1 c (Ring.sl 2 t.val) (Ring.bk 16 t.val) f) ∗ (∃ W', owes c 0 W')) -∗ K ⟨⟩))
      ⊢ wp frame (wpE (defs₀ (F := F)) Variants.none c none) Set.univ (cc0_pool_bwd (grid0.coords t) a1 h_1 a2 h_2 a3 h_3 a4 h_4 a5 h_5 a6 h_6 a7 h_7 a8 h_8 a9 h_9 (Memref.whole main_v4_0) (Memref.isWhole_whole _) (Memref.whole main_v4_0) (Memref.isWhole_whole _) a12 h_12 a13 h_13 scM0 (Memref.isWhole_whole _) scM1 (Memref.isWhole_whole _) cc0_scratch2 cc0_scratch3) K := by
    haveI : Fact (¬k0_cond1 (grid0.coords t) = 1#1) := ⟨h1⟩
    haveI : Fact (¬k0_cond2 (grid0.coords t) = 1#1) := ⟨h2⟩
    haveI : Fact (condZ (grid0.coords t)) := ⟨hz⟩
    haveI : Fact (¬k0_cond4 (grid0.coords t) = 1#1) := ⟨h4⟩
    haveI : Fact (¬k0_cond5 (grid0.coords t) = 1#1) := ⟨h5⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hcanon0 := canon5_tile0 t
    have hcanon0' := canon5_tile0' t
    have hcanon1 := canon5_tile1 t
    have hcanon1' := canon5_tile1' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, Hp0, Hp1, ⟨Hq0, %e0, Ht0⟩, ⟨Hq1, %e1, Ht1⟩, HW, Hk⟩
    subst hf0; subst hf1; subst hf2; subst hf3; subst hf4; subst hf5; subst hf6; subst hf7; subst hf8
    sl_exec (disch := first | sl_exact h1 | sl_exact h2 | sl_exact hz | sl_exact h4 | sl_exact h5)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; rotate_left; · iexact H9
      ipureintro
      sl_unfold_words
      simp (disch := decide) only [↓ View.readCov_skip, ↓ View.readCov_cons_toLoadRect, ↓ View.readCov_fill]
      exact View.read_writes_eq_canon a12.view (a12.view.writes (Elt F) f9 [⟨Rect.unit (s := S4x128x128) ![0, 0, 0] ![4, 128, 128] inb_S4x128x128_S4x128x128_0_0_0, k0_pay1⟩]) (list9 (grid0.coords t) (View.read (Elt F) a1.view f0) (View.read (Elt F) a2.view f1) (View.read (Elt F) a3.view f2) (View.read (Elt F) a5.view f4) (View.read (Elt F) a9.view f8) k0_pay1) (cover9 _ _ _ _ _ _ _)
    isplitl [H10]
    · iexists _; isplitr; rotate_left; · iexact H10
      ipureintro
      sl_unfold_words
      simp (disch := decide) only [↓ View.readCov_skip, ↓ View.readCov_cons_toLoadRect, ↓ View.readCov_fill]
      exact View.read_writes_eq_canon a13.view (a13.view.writes (Elt F) f10 [⟨Rect.unit (s := S1x512) ![0, 0] ![1, 512] inb_S1x512_S1x512_0_0, k0_pay2⟩]) (list10 (grid0.coords t) (View.read (Elt F) a1.view f0) (View.read (Elt F) a2.view f1) (View.read (Elt F) a3.view f2) (View.read (Elt F) a5.view f4) (View.read (Elt F) a7.view f6) k0_pay2) (cover10 _ _ _ _ _ _ _)
    isplitl [Hq0]
    · iexists _; isplitr; rotate_left; · iexists _; iexact Hq0
      ipureintro
      exact (read_piece _ 0 _ _).trans (read_asm0 (Ring.sl 2 t.val) _ _ _ _ (coff6 t) (coff7 t) (coff8 t) (coff9 t) _ _ _ _ _ _ _ _ _)
    isplitl [Hq1]
    · iexists _; isplitr; rotate_left; · iexists _; iexact Hq1
      ipureintro
      exact (read_piece _ 1 _ _).trans (read_asm1 (Ring.sl 2 t.val) _ _ _ _ (coff6 t) (coff7 t) (coff8 t) (coff9 t) _ _ _ _ _ _ _ _ _)
    iexists _; iexact HW

theorem runB (c : Dev nD) (t : Fin cfg0.N) (a1 : Memref sig .tc .vmem S512x512 .bf16) (h_1 : a1.IsWhole) (a2 : Memref sig .tc .vmem S16x512 .bf16) (h_2 : a2.IsWhole) (a3 : Memref sig .tc .vmem S512x512 .bf16) (h_3 : a3.IsWhole) (a4 : Memref sig .tc .vmem S16x512 .bf16) (h_4 : a4.IsWhole) (a5 : Memref sig .tc .vmem S512x512 .bf16) (h_5 : a5.IsWhole) (a6 : Memref sig .tc .vmem S16x512 .bf16) (h_6 : a6.IsWhole) (a7 : Memref sig .tc .vmem S4x128x128 .bf16) (h_7 : a7.IsWhole) (a8 : Memref sig .tc .vmem S4x128x128 .bf16) (h_8 : a8.IsWhole) (a9 : Memref sig .tc .vmem S1x512 .f32) (h_9 : a9.IsWhole) (a12 : Memref sig .tc .vmem S4x128x128 .f32) (h_12 : a12.IsWhole) (a13 : Memref sig .tc .vmem S1x512 .f32) (h_13 : a13.IsWhole)
    (h1 : ¬k0_cond1 (grid0.coords t) = 1#1) (h2 : ¬k0_cond2 (grid0.coords t) = 1#1) (hz : ¬condZ (grid0.coords t)) (h4 : ¬k0_cond4 (grid0.coords t) = 1#1) (h5 : ¬k0_cond5 (grid0.coords t) = 1#1)
    (x0 : Vec F S512x512 .bf16) (x1 : Vec F S16x512 .bf16) (x2 : Vec F S512x512 .bf16) (x3 : Vec F S16x512 .bf16) (x4 : Vec F S512x512 .bf16) (x5 : Vec F S16x512 .bf16) (x6 : Vec F S4x128x128 .bf16) (x7 : Vec F S4x128x128 .bf16) (x8 : Vec F S1x512 .f32) (xo9 : Vec F S4x128x128 .f32) (xo10 : Vec F S1x512 .f32)
    (fp0 : HbBuf (F := F) c (piece (Ring.bk 16 t.val) 0)) (fp1 : HbBuf (F := F) c (piece (Ring.bk 16 t.val) 1)) (W : Waits sig Unit) (K : PUnit → sProp 𝕄) :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare xo9 ∗ owns c a13 fullShare xo10 ∗ pieceP c (Ring.bk 16 t.val) 0 fp0 ∗ pieceP c (Ring.bk 16 t.val) 1 fp1 ∗ (cellP0 c (Ring.sl 2 t.val) ∗ ∃ e, tileP0 c (Ring.sl 2 t.val) e) ∗ (cellP1 c (Ring.sl 2 t.val) ∗ ∃ e, tileP1 c (Ring.sl 2 t.val) e) ∗ owes c 0 W
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare (step9 (grid0.coords t) x0 x1 x2 x4 x8 xo9) ∗ owns c a13 fullShare (step10 (grid0.coords t) x0 x1 x2 x4 x6 xo10) ∗ (∃ f, ⌜(piece (Ring.bk 16 t.val) 0).view.read (Elt F) f = stepX (grid0.coords t) x2 x3 x4 x5 x7 x8⌝ ∗ flightP0 c (Ring.sl 2 t.val) (Ring.bk 16 t.val) f) ∗ (∃ f, ⌜(piece (Ring.bk 16 t.val) 1).view.read (Elt F) f = stepG (grid0.coords t) x0 x1 x2 x4 x6 x8⌝ ∗ flightP1 c (Ring.sl 2 t.val) (Ring.bk 16 t.val) f) ∗ (∃ W', owes c 0 W')) -∗ K ⟨⟩))
      ⊢ wp frame (wpE (defs₀ (F := F)) Variants.none c none) Set.univ (cc0_pool_bwd (grid0.coords t) a1 h_1 a2 h_2 a3 h_3 a4 h_4 a5 h_5 a6 h_6 a7 h_7 a8 h_8 a9 h_9 (Memref.whole main_v4_0) (Memref.isWhole_whole _) (Memref.whole main_v4_0) (Memref.isWhole_whole _) a12 h_12 a13 h_13 scM0 (Memref.isWhole_whole _) scM1 (Memref.isWhole_whole _) cc0_scratch2 cc0_scratch3) K := by
    haveI : Fact (¬k0_cond1 (grid0.coords t) = 1#1) := ⟨h1⟩
    haveI : Fact (¬k0_cond2 (grid0.coords t) = 1#1) := ⟨h2⟩
    haveI : Fact (¬condZ (grid0.coords t)) := ⟨hz⟩
    haveI : Fact (¬k0_cond4 (grid0.coords t) = 1#1) := ⟨h4⟩
    haveI : Fact (¬k0_cond5 (grid0.coords t) = 1#1) := ⟨h5⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hcanon0 := canon5_tile0 t
    have hcanon0' := canon5_tile0' t
    have hcanon1 := canon5_tile1 t
    have hcanon1' := canon5_tile1' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hp0, Hp1, ⟨Hq0, %e0, Ht0⟩, ⟨Hq1, %e1, Ht1⟩, HW, Hk⟩
    subst hf0; subst hf1; subst hf2; subst hf3; subst hf4; subst hf5; subst hf6; subst hf7; subst hf8; subst hf9; subst hf10
    sl_exec (disch := first | sl_exact h1 | sl_exact h2 | sl_exact hz | sl_exact h4 | sl_exact h5)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; rotate_left; · iexact H9
      ipureintro
      exact View.read_writes_eq_canon a12.view _ _ (cover9 _ _ _ _ _ _ _)
    isplitl [H10]
    · iexists _; isplitr; rotate_left; · iexact H10
      ipureintro
      exact View.read_writes_eq_canon a13.view _ _ (cover10 _ _ _ _ _ _ _)
    isplitl [Hq0]
    · iexists _; isplitr; rotate_left; · iexists _; iexact Hq0
      ipureintro
      exact (read_piece _ 0 _ _).trans (read_asm0 (Ring.sl 2 t.val) _ _ _ _ (coff6 t) (coff7 t) (coff8 t) (coff9 t) _ _ _ _ _ _ _ _ _)
    isplitl [Hq1]
    · iexists _; isplitr; rotate_left; · iexists _; iexact Hq1
      ipureintro
      exact (read_piece _ 1 _ _).trans (read_asm1 (Ring.sl 2 t.val) _ _ _ _ (coff6 t) (coff7 t) (coff8 t) (coff9 t) _ _ _ _ _ _ _ _ _)
    iexists _; iexact HW

theorem runC (c : Dev nD) (t : Fin cfg0.N) (a1 : Memref sig .tc .vmem S512x512 .bf16) (h_1 : a1.IsWhole) (a2 : Memref sig .tc .vmem S16x512 .bf16) (h_2 : a2.IsWhole) (a3 : Memref sig .tc .vmem S512x512 .bf16) (h_3 : a3.IsWhole) (a4 : Memref sig .tc .vmem S16x512 .bf16) (h_4 : a4.IsWhole) (a5 : Memref sig .tc .vmem S512x512 .bf16) (h_5 : a5.IsWhole) (a6 : Memref sig .tc .vmem S16x512 .bf16) (h_6 : a6.IsWhole) (a7 : Memref sig .tc .vmem S4x128x128 .bf16) (h_7 : a7.IsWhole) (a8 : Memref sig .tc .vmem S4x128x128 .bf16) (h_8 : a8.IsWhole) (a9 : Memref sig .tc .vmem S1x512 .f32) (h_9 : a9.IsWhole) (a12 : Memref sig .tc .vmem S4x128x128 .f32) (h_12 : a12.IsWhole) (a13 : Memref sig .tc .vmem S1x512 .f32) (h_13 : a13.IsWhole)
    (h1 : k0_cond1 (grid0.coords t) = 1#1) (h2 : k0_cond2 (grid0.coords t) = 1#1) (hz : ¬condZ (grid0.coords t)) (h4 : ¬k0_cond4 (grid0.coords t) = 1#1) (h5 : ¬k0_cond5 (grid0.coords t) = 1#1)
    (x0 : Vec F S512x512 .bf16) (x1 : Vec F S16x512 .bf16) (x2 : Vec F S512x512 .bf16) (x3 : Vec F S16x512 .bf16) (x4 : Vec F S512x512 .bf16) (x5 : Vec F S16x512 .bf16) (x6 : Vec F S4x128x128 .bf16) (x7 : Vec F S4x128x128 .bf16) (x8 : Vec F S1x512 .f32) (xo9 : Vec F S4x128x128 .f32) (xo10 : Vec F S1x512 .f32)
    (fp0 : HbBuf (F := F) c (piece (Ring.bk 16 t.val) 0)) (fp1 : HbBuf (F := F) c (piece (Ring.bk 16 t.val) 1)) (ff0 : HbBuf (F := F) c (piece (Ring.bk 16 (t.val - 2)) 0)) (ff1 : HbBuf (F := F) c (piece (Ring.bk 16 (t.val - 2)) 1)) (W : Waits sig Unit) (K : PUnit → sProp 𝕄) :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare xo9 ∗ owns c a13 fullShare xo10 ∗ pieceP c (Ring.bk 16 t.val) 0 fp0 ∗ pieceP c (Ring.bk 16 t.val) 1 fp1 ∗ flightP0 c (Ring.sl 2 t.val) (Ring.bk 16 (t.val - 2)) ff0 ∗ flightP1 c (Ring.sl 2 t.val) (Ring.bk 16 (t.val - 2)) ff1 ∗ owes c 0 W
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare (step9 (grid0.coords t) x0 x1 x2 x4 x8 xo9) ∗ owns c a13 fullShare (step10 (grid0.coords t) x0 x1 x2 x4 x6 xo10) ∗ pieceP c (Ring.bk 16 (t.val - 2)) 0 ff0 ∗ pieceP c (Ring.bk 16 (t.val - 2)) 1 ff1 ∗ (∃ f, ⌜(piece (Ring.bk 16 t.val) 0).view.read (Elt F) f = stepX (grid0.coords t) x2 x3 x4 x5 x7 x8⌝ ∗ flightP0 c (Ring.sl 2 t.val) (Ring.bk 16 t.val) f) ∗ (∃ f, ⌜(piece (Ring.bk 16 t.val) 1).view.read (Elt F) f = stepG (grid0.coords t) x0 x1 x2 x4 x6 x8⌝ ∗ flightP1 c (Ring.sl 2 t.val) (Ring.bk 16 t.val) f) ∗ (∃ W', owes c 0 W')) -∗ K ⟨⟩))
      ⊢ wp frame (wpE (defs₀ (F := F)) Variants.none c none) Set.univ (cc0_pool_bwd (grid0.coords t) a1 h_1 a2 h_2 a3 h_3 a4 h_4 a5 h_5 a6 h_6 a7 h_7 a8 h_8 a9 h_9 (Memref.whole main_v4_0) (Memref.isWhole_whole _) (Memref.whole main_v4_0) (Memref.isWhole_whole _) a12 h_12 a13 h_13 scM0 (Memref.isWhole_whole _) scM1 (Memref.isWhole_whole _) cc0_scratch2 cc0_scratch3) K := by
    haveI : Fact (k0_cond1 (grid0.coords t) = 1#1) := ⟨h1⟩
    haveI : Fact (k0_cond2 (grid0.coords t) = 1#1) := ⟨h2⟩
    haveI : Fact (¬condZ (grid0.coords t)) := ⟨hz⟩
    haveI : Fact (¬k0_cond4 (grid0.coords t) = 1#1) := ⟨h4⟩
    haveI : Fact (¬k0_cond5 (grid0.coords t) = 1#1) := ⟨h5⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hcanon0 := canon5_tile0 t
    have hcanon0' := canon5_tile0' t
    have hcanon1 := canon5_tile1 t
    have hcanon1' := canon5_tile1' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hp0, Hp1, ⟨%e0, HF0⟩, ⟨%e1, HF1⟩, HW, Hk⟩
    subst hf0; subst hf1; subst hf2; subst hf3; subst hf4; subst hf5; subst hf6; subst hf7; subst hf8; subst hf9; subst hf10
    sl_exec (disch := first | sl_exact h1 | sl_exact h2 | sl_exact hz | sl_exact h4 | sl_exact h5)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; rotate_left; · iexact H9
      ipureintro
      exact View.read_writes_eq_canon a12.view _ _ (cover9 _ _ _ _ _ _ _)
    isplitl [H10]
    · iexists _; isplitr; rotate_left; · iexact H10
      ipureintro
      exact View.read_writes_eq_canon a13.view _ _ (cover10 _ _ _ _ _ _ _)
    isplitl [HF0_dst]; · iexact HF0_dst
    isplitl [HF1_dst]; · iexact HF1_dst
    isplitl [HF0]
    · iexists _; isplitr; rotate_left; · iexists _; iexact HF0
      ipureintro
      exact (read_piece _ 0 _ _).trans (read_asm0 (Ring.sl 2 t.val) _ _ _ _ (coff6 t) (coff7 t) (coff8 t) (coff9 t) _ _ _ _ _ _ _ _ _)
    isplitl [HF1]
    · iexists _; isplitr; rotate_left; · iexists _; iexact HF1
      ipureintro
      exact (read_piece _ 1 _ _).trans (read_asm1 (Ring.sl 2 t.val) _ _ _ _ (coff6 t) (coff7 t) (coff8 t) (coff9 t) _ _ _ _ _ _ _ _ _)
    iexists _; iexact HW

theorem runD (c : Dev nD) (t : Fin cfg0.N) (a1 : Memref sig .tc .vmem S512x512 .bf16) (h_1 : a1.IsWhole) (a2 : Memref sig .tc .vmem S16x512 .bf16) (h_2 : a2.IsWhole) (a3 : Memref sig .tc .vmem S512x512 .bf16) (h_3 : a3.IsWhole) (a4 : Memref sig .tc .vmem S16x512 .bf16) (h_4 : a4.IsWhole) (a5 : Memref sig .tc .vmem S512x512 .bf16) (h_5 : a5.IsWhole) (a6 : Memref sig .tc .vmem S16x512 .bf16) (h_6 : a6.IsWhole) (a7 : Memref sig .tc .vmem S4x128x128 .bf16) (h_7 : a7.IsWhole) (a8 : Memref sig .tc .vmem S4x128x128 .bf16) (h_8 : a8.IsWhole) (a9 : Memref sig .tc .vmem S1x512 .f32) (h_9 : a9.IsWhole) (a12 : Memref sig .tc .vmem S4x128x128 .f32) (h_12 : a12.IsWhole) (a13 : Memref sig .tc .vmem S1x512 .f32) (h_13 : a13.IsWhole)
    (h1 : k0_cond1 (grid0.coords t) = 1#1) (h2 : k0_cond2 (grid0.coords t) = 1#1) (hz : ¬condZ (grid0.coords t)) (h4 : k0_cond4 (grid0.coords t) = 1#1) (h5 : k0_cond5 (grid0.coords t) = 1#1)
    (x0 : Vec F S512x512 .bf16) (x1 : Vec F S16x512 .bf16) (x2 : Vec F S512x512 .bf16) (x3 : Vec F S16x512 .bf16) (x4 : Vec F S512x512 .bf16) (x5 : Vec F S16x512 .bf16) (x6 : Vec F S4x128x128 .bf16) (x7 : Vec F S4x128x128 .bf16) (x8 : Vec F S1x512 .f32) (xo9 : Vec F S4x128x128 .f32) (xo10 : Vec F S1x512 .f32)
    (fp0 : HbBuf (F := F) c (piece (Ring.bk 16 t.val) 0)) (fp1 : HbBuf (F := F) c (piece (Ring.bk 16 t.val) 1)) (ff0 : HbBuf (F := F) c (piece (Ring.bk 16 (t.val - 2)) 0)) (ff1 : HbBuf (F := F) c (piece (Ring.bk 16 (t.val - 2)) 1)) (fi0 : HbBuf (F := F) c (piece (Ring.bk 16 (t.val - 1)) 0)) (fi1 : HbBuf (F := F) c (piece (Ring.bk 16 (t.val - 1)) 1)) (W : Waits sig Unit) (K : PUnit → sProp 𝕄) :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare xo9 ∗ owns c a13 fullShare xo10 ∗ pieceP c (Ring.bk 16 t.val) 0 fp0 ∗ pieceP c (Ring.bk 16 t.val) 1 fp1 ∗ flightP0 c (Ring.sl 2 t.val) (Ring.bk 16 (t.val - 2)) ff0 ∗ flightP1 c (Ring.sl 2 t.val) (Ring.bk 16 (t.val - 2)) ff1 ∗ flightP0 c (Ring.sl 2 (t.val + 1)) (Ring.bk 16 (t.val - 1)) fi0 ∗ flightP1 c (Ring.sl 2 (t.val + 1)) (Ring.bk 16 (t.val - 1)) fi1 ∗ owes c 0 W
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a12 fullShare (step9 (grid0.coords t) x0 x1 x2 x4 x8 xo9) ∗ owns c a13 fullShare (step10 (grid0.coords t) x0 x1 x2 x4 x6 xo10) ∗ pieceP c (Ring.bk 16 (t.val - 2)) 0 ff0 ∗ pieceP c (Ring.bk 16 (t.val - 2)) 1 ff1 ∗ pieceP c (Ring.bk 16 (t.val - 1)) 0 fi0 ∗ pieceP c (Ring.bk 16 (t.val - 1)) 1 fi1 ∗ (∃ f, ⌜(piece (Ring.bk 16 t.val) 0).view.read (Elt F) f = stepX (grid0.coords t) x2 x3 x4 x5 x7 x8⌝ ∗ pieceP c (Ring.bk 16 t.val) 0 f) ∗ (∃ f, ⌜(piece (Ring.bk 16 t.val) 1).view.read (Elt F) f = stepG (grid0.coords t) x0 x1 x2 x4 x6 x8⌝ ∗ pieceP c (Ring.bk 16 t.val) 1 f) ∗ (cellP0 c (Ring.sl 2 t.val) ∗ ∃ e, tileP0 c (Ring.sl 2 t.val) e) ∗ (cellP1 c (Ring.sl 2 t.val) ∗ ∃ e, tileP1 c (Ring.sl 2 t.val) e) ∗ (cellP0 c (Ring.sl 2 (t.val + 1)) ∗ ∃ e, tileP0 c (Ring.sl 2 (t.val + 1)) e) ∗ (cellP1 c (Ring.sl 2 (t.val + 1)) ∗ ∃ e, tileP1 c (Ring.sl 2 (t.val + 1)) e) ∗ (∃ W', owes c 0 W')) -∗ K ⟨⟩))
      ⊢ wp frame (wpE (defs₀ (F := F)) Variants.none c none) Set.univ (cc0_pool_bwd (grid0.coords t) a1 h_1 a2 h_2 a3 h_3 a4 h_4 a5 h_5 a6 h_6 a7 h_7 a8 h_8 a9 h_9 (Memref.whole main_v4_0) (Memref.isWhole_whole _) (Memref.whole main_v4_0) (Memref.isWhole_whole _) a12 h_12 a13 h_13 scM0 (Memref.isWhole_whole _) scM1 (Memref.isWhole_whole _) cc0_scratch2 cc0_scratch3) K := by
    haveI : Fact (k0_cond1 (grid0.coords t) = 1#1) := ⟨h1⟩
    haveI : Fact (k0_cond2 (grid0.coords t) = 1#1) := ⟨h2⟩
    haveI : Fact (¬condZ (grid0.coords t)) := ⟨hz⟩
    haveI : Fact (k0_cond4 (grid0.coords t) = 1#1) := ⟨h4⟩
    haveI : Fact (k0_cond5 (grid0.coords t) = 1#1) := ⟨h5⟩
    simp only [cc0_pool_bwd_eq_skeleton]; unfold cc0_pool_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    have hcanon0 := canon5_tile0 t
    have hcanon0' := canon5_tile0' t
    have hcanon1 := canon5_tile1 t
    have hcanon1' := canon5_tile1' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hp0, Hp1, ⟨%e0, HF0⟩, ⟨%e1, HF1⟩, ⟨%e2, HI0⟩, ⟨%e3, HI1⟩, HW, Hk⟩
    subst hf0; subst hf1; subst hf2; subst hf3; subst hf4; subst hf5; subst hf6; subst hf7; subst hf8; subst hf9; subst hf10
    sl_exec (disch := first | sl_exact h1 | sl_exact h2 | sl_exact hz | sl_exact h4 | sl_exact h5)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; rotate_left; · iexact H9
      ipureintro
      exact View.read_writes_eq_canon a12.view _ _ (cover9 _ _ _ _ _ _ _)
    isplitl [H10]
    · iexists _; isplitr; rotate_left; · iexact H10
      ipureintro
      exact View.read_writes_eq_canon a13.view _ _ (cover10 _ _ _ _ _ _ _)
    isplitl [HF0_dst]; · iexact HF0_dst
    isplitl [HF1_dst]; · iexact HF1_dst
    isplitl [HI0_dst]; · iexact HI0_dst
    isplitl [HI1_dst]; · iexact HI1_dst
    isplitl [Hp0]
    · iexists _; isplitr; rotate_left; · iexact Hp0
      ipureintro
      exact (read_piece _ 0 _ _).trans (read_asm0 (Ring.sl 2 t.val) _ _ _ _ (coff6 t) (coff7 t) (coff8 t) (coff9 t) _ _ _ _ _ _ _ _ _)
    isplitl [Hp1]
    · iexists _; isplitr; rotate_left; · iexact Hp1
      ipureintro
      exact (read_piece _ 1 _ _).trans (read_asm1 (Ring.sl 2 t.val) _ _ _ _ (coff6 t) (coff7 t) (coff8 t) (coff9 t) _ _ _ _ _ _ _ _ _)
    isplitl [HF0 HF0_src]
    · isplitl [HF0]; · iexact HF0
      iexists _; iexact HF0_src
    isplitl [HF1 HF1_src]
    · isplitl [HF1]; · iexact HF1
      iexists _; iexact HF1_src
    isplitl [HI0 HI0_src]
    · isplitl [HI0]; · iexact HI0
      iexists _; iexact HI0_src
    isplitl [HI1 HI1_src]
    · isplitl [HI1]; · iexact HI1
      iexists _; iexact HI1_src
    iexists _; iexact HW

end Cert.KernelIdeal.Pool
-- ==== Proof.Pool.Run.lean ====
/- The run of the pooling call: the ring through the sixteen steps, the launch, and what every buffer holds at the end. -/
module

public import proofs.«01_k».proof.Proof.Pool.Bodies

@[expose] public section

set_option maxRecDepth 16384

noncomputable section

namespace Cert.KernelIdeal.Pool

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the outputs hold after each point -/

/-- The two sums after position `n`: the step's contributions, from zero at the first. -/
def sums (c : Dev nD) : (n : ℕ) → n < cfg0.N → Vec F S4x128x128 .f32 × Vec F S1x512 .f32
  | 0, hn => (step9 (grid0.coords ⟨0, hn⟩) (iblk m c 0 ⟨0, hn⟩) (iblk m c 1 ⟨0, hn⟩) (iblk m c 2 ⟨0, hn⟩) (iblk m c 4 ⟨0, hn⟩) (iblk m c 8 ⟨0, hn⟩) k0_pay1, step10 (grid0.coords ⟨0, hn⟩) (iblk m c 0 ⟨0, hn⟩) (iblk m c 1 ⟨0, hn⟩) (iblk m c 2 ⟨0, hn⟩) (iblk m c 4 ⟨0, hn⟩) (iblk m c 6 ⟨0, hn⟩) k0_pay2)
  | n + 1, hn => (step9 (grid0.coords ⟨n + 1, hn⟩) (iblk m c 0 ⟨n + 1, hn⟩) (iblk m c 1 ⟨n + 1, hn⟩) (iblk m c 2 ⟨n + 1, hn⟩) (iblk m c 4 ⟨n + 1, hn⟩) (iblk m c 8 ⟨n + 1, hn⟩) (sums c n (Nat.lt_of_succ_lt hn)).1,
      step10 (grid0.coords ⟨n + 1, hn⟩) (iblk m c 0 ⟨n + 1, hn⟩) (iblk m c 1 ⟨n + 1, hn⟩) (iblk m c 2 ⟨n + 1, hn⟩) (iblk m c 4 ⟨n + 1, hn⟩) (iblk m c 6 ⟨n + 1, hn⟩) (sums c n (Nat.lt_of_succ_lt hn)).2)
theorem sums_zero (c : Dev nD) (t : Fin cfg0.N) (h : t.val = 0) :
    sums m c t.val t.isLt = (step9 (grid0.coords t) (iblk m c 0 t) (iblk m c 1 t) (iblk m c 2 t) (iblk m c 4 t) (iblk m c 8 t) k0_pay1, step10 (grid0.coords t) (iblk m c 0 t) (iblk m c 1 t) (iblk m c 2 t) (iblk m c 4 t) (iblk m c 6 t) k0_pay2) := by
  obtain ⟨n, hn⟩ := t
  cases n with
  | zero => rfl
  | succ n => exact absurd h (Nat.succ_ne_zero n)
theorem sums_succ (c : Dev nD) (t : Fin cfg0.N) (h : t.val ≠ 0) :
    sums m c t.val t.isLt = (step9 (grid0.coords t) (iblk m c 0 t) (iblk m c 1 t) (iblk m c 2 t) (iblk m c 4 t) (iblk m c 8 t) (sums m c (t.val - 1) (Nat.lt_of_le_of_lt (Nat.sub_le _ _) t.isLt)).1,
      step10 (grid0.coords t) (iblk m c 0 t) (iblk m c 1 t) (iblk m c 2 t) (iblk m c 4 t) (iblk m c 6 t) (sums m c (t.val - 1) (Nat.lt_of_le_of_lt (Nat.sub_le _ _) t.isLt)).2) := by
  obtain ⟨n, hn⟩ := t
  cases n with
  | zero => exact absurd rfl h
  | succ n => rfl
/-- The two tiles step `t` copies out. -/
def outX (c : Dev nD) (t : Fin cfg0.N) : Vec F S512x512 .bf16 := stepX (grid0.coords t) (iblk m c 2 t) (iblk m c 3 t) (iblk m c 4 t) (iblk m c 5 t) (iblk m c 7 t) (iblk m c 8 t)
def outG (c : Dev nD) (t : Fin cfg0.N) : Vec F S512x512 .bf16 := stepG (grid0.coords t) (iblk m c 0 t) (iblk m c 1 t) (iblk m c 2 t) (iblk m c 4 t) (iblk m c 6 t) (iblk m c 8 t)
/-- The step of a row. -/
def rowStep (r : Fin 8192) : Fin cfg0.N := ⟨r.val / 512, by have := r.isLt; rw [show cfg0.N = 16 from N_0]; omega⟩
abbrev rowIn (r : Fin 8192) : Fin 512 := ⟨r.val % 512, Nat.mod_lt _ (by decide)⟩
/-- The result after the run: the two column blocks at the steps' tiles, the rest as the region finds it. -/
def final (c : Dev nD) : HbBuf (F := F) c hbM := fun (i : S8192x5120.Idx) =>
  if h : 2560 ≤ (i 1).val ∧ (i 1).val < 3072 then outX m c (rowStep (i 0)) (ValueIdx.ix2 (rowIn (i 0)) (⟨(i 1).val - 2560, by omega⟩ : Fin 512))
  else if h' : 4608 ≤ (i 1).val ∧ (i 1).val < 5120 then outG m c (rowStep (i 0)) (ValueIdx.ix2 (rowIn (i 0)) (⟨(i 1).val - 4608, by omega⟩ : Fin 512))
  else V m c main_v4_0 i

theorem piece_emb (u : Fin 16) (k : Fin 2) (y : S512x512.Idx) :
    ((piece u k).view.emb y : S8192x5120.Idx) = (ValueIdx.ix2 (⟨512 * u.val + (y 0).val, by have := u.isLt; have : (y 0).val < 512 := (y 0).isLt; omega⟩ : Fin 8192)
      (⟨2560 + 2048 * k.val + (y 1).val, by have := k.isLt; have : (y 1).val < 512 := (y 1).isLt; omega⟩ : Fin 5120) : S8192x5120.Idx) := by
  funext a; apply Fin.ext
  fin_cases a
  · show 512 * u.val + 1 * (y 0).val = 512 * u.val + (y 0).val; omega
  · show 2560 + 2048 * k.val + 1 * (y 1).val = 2560 + 2048 * k.val + (y 1).val; omega

theorem bk_val (t : Fin cfg0.N) : (Ring.bk 16 t.val).val = t.val := by
  have hN : t.val < 16 := lt_of_lt_of_eq t.isLt (show cfg0.N = 16 from N_0)
  exact Nat.mod_eq_of_lt hN

theorem read_final0 (c : Dev nD) (t : Fin cfg0.N) : (piece (Ring.bk 16 t.val) 0).view.read (Elt F) (final m c) = outX m c t := by
  funext y
  have h0 : (y 0).val < 512 := (y 0).isLt
  have h1 : (y 1).val < 512 := (y 1).isLt
  have e : (piece (Ring.bk 16 t.val) 0).view.read (Elt F) (final m c) y = final m c ((piece (Ring.bk 16 t.val) 0).view.emb y) := rfl
  rw [e, piece_emb]
  unfold final
  rw [dif_pos (show _ from ⟨by show 2560 ≤ 2560 + 2048 * 0 + (y 1).val; omega, by show 2560 + 2048 * 0 + (y 1).val < 3072; omega⟩)]
  have ht := bk_val t
  have es : rowStep (⟨512 * (Ring.bk 16 t.val).val + (y 0).val, by have := (Ring.bk 16 t.val).isLt; omega⟩ : Fin 8192) = t := by
    apply Fin.ext; show (512 * (Ring.bk 16 t.val).val + (y 0).val) / 512 = t.val; omega
  have ey : (ValueIdx.ix2 (rowIn (⟨512 * (Ring.bk 16 t.val).val + (y 0).val, by have := (Ring.bk 16 t.val).isLt; omega⟩ : Fin 8192)) (⟨2560 + 2048 * (0 : Fin 2).val + (y 1).val - 2560, by show 2560 + 2048 * 0 + (y 1).val - 2560 < 512; omega⟩ : Fin 512) : S512x512.Idx) = y := by
    funext a; apply Fin.ext
    fin_cases a
    · show (512 * (Ring.bk 16 t.val).val + (y 0).val) % 512 = (y 0).val; omega
    · show 2560 + 2048 * 0 + (y 1).val - 2560 = (y 1).val; omega
  exact (congrArg₂ (fun s z => outX m c s z) es ey)

theorem read_final1 (c : Dev nD) (t : Fin cfg0.N) : (piece (Ring.bk 16 t.val) 1).view.read (Elt F) (final m c) = outG m c t := by
  funext y
  have h0 : (y 0).val < 512 := (y 0).isLt
  have h1 : (y 1).val < 512 := (y 1).isLt
  have e : (piece (Ring.bk 16 t.val) 1).view.read (Elt F) (final m c) y = final m c ((piece (Ring.bk 16 t.val) 1).view.emb y) := rfl
  rw [e, piece_emb]
  unfold final
  rw [dif_neg (show ¬_ from fun h => by have h' : 2560 + 2048 * 1 + (y 1).val < 3072 := h.2; omega)]
  rw [dif_pos (show _ from ⟨by show 4608 ≤ 2560 + 2048 * 1 + (y 1).val; omega, by show 2560 + 2048 * 1 + (y 1).val < 5120; omega⟩)]
  have ht := bk_val t
  have es : rowStep (⟨512 * (Ring.bk 16 t.val).val + (y 0).val, by have := (Ring.bk 16 t.val).isLt; omega⟩ : Fin 8192) = t := by
    apply Fin.ext; show (512 * (Ring.bk 16 t.val).val + (y 0).val) / 512 = t.val; omega
  have ey : (ValueIdx.ix2 (rowIn (⟨512 * (Ring.bk 16 t.val).val + (y 0).val, by have := (Ring.bk 16 t.val).isLt; omega⟩ : Fin 8192)) (⟨2560 + 2048 * (1 : Fin 2).val + (y 1).val - 4608, by show 2560 + 2048 * 1 + (y 1).val - 4608 < 512; omega⟩ : Fin 512) : S512x512.Idx) = y := by
    funext a; apply Fin.ext
    fin_cases a
    · show (512 * (Ring.bk 16 t.val).val + (y 0).val) % 512 = (y 0).val; omega
    · show 2560 + 2048 * 1 + (y 1).val - 4608 = (y 1).val; omega
  exact (congrArg₂ (fun s z => outG m c s z) es ey)

/-- Off the pieces the result stays as the region finds it. -/
theorem final_spare (c : Dev nD) : ∀ i ∈ spareSet, V m c main_v4_0 i = final m c i := by
  intro i hi
  have hn : ∀ (u : Fin 16) (k : Fin 2), i ∉ pieceSet (u, k) := fun u k h => (Finset.mem_sdiff.mp hi).2 (Finset.mem_biUnion.mpr ⟨(u, k), Finset.mem_univ _, h⟩)
  have h0 : (i 0).val < 8192 := (i 0).isLt
  have key : ∀ k : Fin 2, ¬(2560 + 2048 * k.val ≤ (i 1).val ∧ (i 1).val < 2560 + 2048 * k.val + 512) := by
    intro k hk
    refine hn ⟨(i 0).val / 512, by omega⟩ k (Rect.mem_set_unit.mpr fun a => ?_)
    fin_cases a
    · constructor
      · show 512 * ((i 0).val / 512) ≤ (i 0).val; omega
      · show (i 0).val < 512 * ((i 0).val / 512) + 512; omega
    · exact hk
  have k0 : ¬(2560 ≤ (i 1).val ∧ (i 1).val < 3072) := key 0
  have k1 : ¬(4608 ≤ (i 1).val ∧ (i 1).val < 5120) := key 1
  unfold final
  exact ((dif_neg k0).trans (dif_neg k1)).symm

/-! ## A piece's contents by what it reads as -/

theorem piece_congr (c : Dev nD) (u : Fin 16) (k : Fin 2) (f g : HbBuf (F := F) c (piece u k))
    (h : (piece u k).view.read (Elt F) f = (piece u k).view.read (Elt F) g) : pieceP (F := F) c u k f = pieceP c u k g := by
  refine pointsTo_congr fun i hi => ?_
  obtain ⟨y, -, rfl⟩ := Finset.mem_map.mp hi
  exact congrFun h y
theorem flight0_congr (c : Dev nD) (s : Fin 2) (u : Fin 16) (f g : HbBuf (F := F) c (piece u 0))
    (h : (piece u 0).view.read (Elt F) f = (piece u 0).view.read (Elt F) g) : flightP0 (F := F) c s u f = flightP0 c s u g := by
  unfold flightP0; rw [piece_congr c u 0 f g h]
theorem flight1_congr (c : Dev nD) (s : Fin 2) (u : Fin 16) (f g : HbBuf (F := F) c (piece u 1))
    (h : (piece u 1).view.read (Elt F) f = (piece u 1).view.read (Elt F) g) : flightP1 (F := F) c s u f = flightP1 c s u g := by
  unfold flightP1; rw [piece_congr c u 1 f g h]

theorem land0 (c : Dev nD) (t : Fin cfg0.N) :
    iprop(∃ f : HbBuf (F := F) c (piece (Ring.bk 16 t.val) 0), ⌜(piece (Ring.bk 16 t.val) 0).view.read (Elt F) f = stepX (grid0.coords t) (iblk m c 2 t) (iblk m c 3 t) (iblk m c 4 t) (iblk m c 5 t) (iblk m c 7 t) (iblk m c 8 t)⌝ ∗ pieceP c (Ring.bk 16 t.val) 0 f) ⊢ (pieceP c (Ring.bk 16 t.val) 0 (final m c) : sProp 𝕄) := by
  generalize hu : Ring.bk 16 t.val = u
  have key : ∀ f : HbBuf (F := F) c (piece u 0), (piece u 0).view.read (Elt F) f = stepX (grid0.coords t) (iblk m c 2 t) (iblk m c 3 t) (iblk m c 4 t) (iblk m c 5 t) (iblk m c 7 t) (iblk m c 8 t) → pieceP (F := F) c u 0 f = pieceP c u 0 (final m c) :=
    fun f h => piece_congr c u 0 f (final m c) (h.trans (by subst hu; exact (read_final0 m c t).symm))
  iintro ⟨%f, %h, H⟩
  iapply (Entails.of_eq (key f h))
  iexact H
theorem fly0 (c : Dev nD) (t : Fin cfg0.N) :
    iprop(∃ f : HbBuf (F := F) c (piece (Ring.bk 16 t.val) 0), ⌜(piece (Ring.bk 16 t.val) 0).view.read (Elt F) f = stepX (grid0.coords t) (iblk m c 2 t) (iblk m c 3 t) (iblk m c 4 t) (iblk m c 5 t) (iblk m c 7 t) (iblk m c 8 t)⌝ ∗ flightP0 c (Ring.sl 2 t.val) (Ring.bk 16 t.val) f) ⊢ (flightP0 c (Ring.sl 2 t.val) (Ring.bk 16 t.val) (final m c) : sProp 𝕄) := by
  generalize hu : Ring.bk 16 t.val = u
  generalize Ring.sl 2 t.val = s
  have key : ∀ f : HbBuf (F := F) c (piece u 0), (piece u 0).view.read (Elt F) f = stepX (grid0.coords t) (iblk m c 2 t) (iblk m c 3 t) (iblk m c 4 t) (iblk m c 5 t) (iblk m c 7 t) (iblk m c 8 t) → flightP0 (F := F) c s u f = flightP0 c s u (final m c) :=
    fun f h => flight0_congr c s u f (final m c) (h.trans (by subst hu; exact (read_final0 m c t).symm))
  iintro ⟨%f, %h, H⟩
  iapply (Entails.of_eq (key f h))
  iexact H

theorem land1 (c : Dev nD) (t : Fin cfg0.N) :
    iprop(∃ f : HbBuf (F := F) c (piece (Ring.bk 16 t.val) 1), ⌜(piece (Ring.bk 16 t.val) 1).view.read (Elt F) f = stepG (grid0.coords t) (iblk m c 0 t) (iblk m c 1 t) (iblk m c 2 t) (iblk m c 4 t) (iblk m c 6 t) (iblk m c 8 t)⌝ ∗ pieceP c (Ring.bk 16 t.val) 1 f) ⊢ (pieceP c (Ring.bk 16 t.val) 1 (final m c) : sProp 𝕄) := by
  generalize hu : Ring.bk 16 t.val = u
  have key : ∀ f : HbBuf (F := F) c (piece u 1), (piece u 1).view.read (Elt F) f = stepG (grid0.coords t) (iblk m c 0 t) (iblk m c 1 t) (iblk m c 2 t) (iblk m c 4 t) (iblk m c 6 t) (iblk m c 8 t) → pieceP (F := F) c u 1 f = pieceP c u 1 (final m c) :=
    fun f h => piece_congr c u 1 f (final m c) (h.trans (by subst hu; exact (read_final1 m c t).symm))
  iintro ⟨%f, %h, H⟩
  iapply (Entails.of_eq (key f h))
  iexact H
theorem fly1 (c : Dev nD) (t : Fin cfg0.N) :
    iprop(∃ f : HbBuf (F := F) c (piece (Ring.bk 16 t.val) 1), ⌜(piece (Ring.bk 16 t.val) 1).view.read (Elt F) f = stepG (grid0.coords t) (iblk m c 0 t) (iblk m c 1 t) (iblk m c 2 t) (iblk m c 4 t) (iblk m c 6 t) (iblk m c 8 t)⌝ ∗ flightP1 c (Ring.sl 2 t.val) (Ring.bk 16 t.val) f) ⊢ (flightP1 c (Ring.sl 2 t.val) (Ring.bk 16 t.val) (final m c) : sProp 𝕄) := by
  generalize hu : Ring.bk 16 t.val = u
  generalize Ring.sl 2 t.val = s
  have key : ∀ f : HbBuf (F := F) c (piece u 1), (piece u 1).view.read (Elt F) f = stepG (grid0.coords t) (iblk m c 0 t) (iblk m c 1 t) (iblk m c 2 t) (iblk m c 4 t) (iblk m c 6 t) (iblk m c 8 t) → flightP1 (F := F) c s u f = flightP1 c s u (final m c) :=
    fun f h => flight1_congr c s u f (final m c) (h.trans (by subst hu; exact (read_final1 m c t).symm))
  iintro ⟨%f, %h, H⟩
  iapply (Entails.of_eq (key f h))
  iexact H

/-! ## The proof data -/

/-- The invariant before point `k`: the generator register, and the ring before its step `k` with what no piece takes. -/
def PhiR (c : Dev nD) (k : ℕ) : sProp 𝕄 := iprop((∃ r, prngReg c r) ∗ ringAt c (V m c main_v4_0) (final m c) k ∗ spares c (V m c main_v4_0))

/-- The proof data: the arrays as the region finds them, inputs at their blocks, the two sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (sums m c t.val t.isLt).1
    | ⟨10, _⟩ => (sums m c t.val t.isLt).2
  Φ t := PhiR m c t.val
  q w := Pipeline.shareOf spec0 w
  owed _ := 0
theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := beforeD_0 m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := beforeD_1 m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := beforeD_2 m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := beforeD_3 m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := beforeD_4 m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := beforeD_5 m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := beforeD_6 m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := beforeD_7 m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t := beforeD_8 m (dats m 0 c) (A_eq m c 8) (after_8 m c) t d
theorem after_9 (c : Dev nD) (t : Fin cfg0.N) : (dats m 0 c).after 9 t = (sums m c t.val t.isLt).1 := by dsimp only [dats]
theorem before_9 (c : Dev nD) (t : Fin cfg0.N) (h : t.val ≠ 0) (d) : (dats m 0 c).before 9 t d = (sums m c (t.val - 1) (Nat.lt_of_le_of_lt (Nat.sub_le _ _) t.isLt)).1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega) (fun _ => rfl) (fun _ _ => rfl)]
  dsimp only [dats]
theorem after_10 (c : Dev nD) (t : Fin cfg0.N) : (dats m 0 c).after 10 t = (sums m c t.val t.isLt).2 := by dsimp only [dats]
theorem before_10 (c : Dev nD) (t : Fin cfg0.N) (h : t.val ≠ 0) (d) : (dats m 0 c).before 10 t d = (sums m c (t.val - 1) (Nat.lt_of_le_of_lt (Nat.sub_le _ _) t.isLt)).2 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega) (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns c.tc (ms0 t) fullShare ((dats m 0 c).before 0 t d))
    ∗ (∃ d, owns c.tc (ms1 t) fullShare ((dats m 0 c).before 1 t d))
    ∗ (∃ d, owns c.tc (ms2 t) fullShare ((dats m 0 c).before 2 t d))
    ∗ (∃ d, owns c.tc (ms3 t) fullShare ((dats m 0 c).before 3 t d))
    ∗ (∃ d, owns c.tc (ms4 t) fullShare ((dats m 0 c).before 4 t d))
    ∗ (∃ d, owns c.tc (ms5 t) fullShare ((dats m 0 c).before 5 t d))
    ∗ (∃ d, owns c.tc (ms6 t) fullShare ((dats m 0 c).before 6 t d))
    ∗ (∃ d, owns c.tc (ms7 t) fullShare ((dats m 0 c).before 7 t d))
    ∗ (∃ d, owns c.tc (ms8 t) fullShare ((dats m 0 c).before 8 t d))
    ∗ (∃ d, owns c.tc (ms9 t) fullShare ((dats m 0 c).before 9 t d))
    ∗ (∃ d, owns c.tc (ms10 t) fullShare ((dats m 0 c).before 10 t d)))
def bodyPost (c : Dev nD) (t : Fin cfg0.N) : sProp 𝕄 :=
  iprop((dats m 0 c).Φ t.succ ∗ (dats m 0 c).owesAt () t.succ
    ∗ owns c.tc (ms0 t) fullShare ((dats m 0 c).after 0 t)
    ∗ owns c.tc (ms1 t) fullShare ((dats m 0 c).after 1 t)
    ∗ owns c.tc (ms2 t) fullShare ((dats m 0 c).after 2 t)
    ∗ owns c.tc (ms3 t) fullShare ((dats m 0 c).after 3 t)
    ∗ owns c.tc (ms4 t) fullShare ((dats m 0 c).after 4 t)
    ∗ owns c.tc (ms5 t) fullShare ((dats m 0 c).after 5 t)
    ∗ owns c.tc (ms6 t) fullShare ((dats m 0 c).after 6 t)
    ∗ owns c.tc (ms7 t) fullShare ((dats m 0 c).after 7 t)
    ∗ owns c.tc (ms8 t) fullShare ((dats m 0 c).after 8 t)
    ∗ owns c.tc (ms9 t) fullShare ((dats m 0 c).after 9 t)
    ∗ owns c.tc (ms10 t) fullShare ((dats m 0 c).after 10 t))

set_option maxHeartbeats 4800000 in
/-- The body at any point: the ring opened at the step's role, the run of its case, the ring closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [after_0, after_1, after_2, after_3, after_4, after_5, after_6, after_7, after_8, after_9, after_10]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hgN : grid0.N = 16 := N_0
  have hN : t.val < 16 := lt_of_lt_of_eq t.isLt (show cfg0.N = 16 from N_0)
  by_cases h0 : t.val = 0
  · skip
    rw [sums_zero m c t h0]
    (try dsimp only)
    rw [Ring.AtBΦ_lt _ _ _ _ _ t.val (by omega), Ring.AtB2_zero' 2 (free c) (infl c (final m c)) (home c (V m c main_v4_0)) (home c (final m c)) t.val h0, Ring.AtBΦ_lt _ _ _ _ _ (t.val + 1) (by omega), Ring.AtB22_next_zero' _ _ _ _ t.val h0]
    iintro ⟨⟨Hg, ⟨⟨⟨Hp0, Hp1⟩, HA⟩, ⟨Hc0, Hc1⟩, Hfr⟩, HSP⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c t _ _ _ _ _ _ _ _ _ _ _ _ _ _ _ _ _ _ _ _ _ _ (fun h => by have := (cond1_iff t).mp h; omega) (fun h => by have := (cond2_iff t).mp h; omega) ((condZ_iff t).mpr (by omega)) (fun h => by have := (cond4_iff t).mp h; omega) (fun h => by have := (cond5_iff t).mp h; omega) (iblk m c 0 t) (iblk m c 1 t) (iblk m c 2 t) (iblk m c 3 t) (iblk m c 4 t) (iblk m c 5 t) (iblk m c 6 t) (iblk m c 7 t) (iblk m c 8 t) _ _ W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [Hp0]; · iexact Hp0
    isplitl [Hp1]; · iexact Hp1
    isplitl [Hc0]; · iexact Hc0
    isplitl [Hc1]; · iexact Hc1
    isplitl [HW]; · iexact HW
    iintro ⟨H0, H1, H2, H3, H4, H5, H6, H7, H8, H9, H10, Hn0, Hn1, ⟨%W', HW'⟩⟩
    ihave Hn0x := (fly0 m c t) $$ Hn0
    ihave Hn1x := (fly1 m c t) $$ Hn1
    isplitl [Hg HSP HA Hfr Hn0x Hn1x]
    · isplitl [Hg]; · iexact Hg
      isplitl [HA Hfr Hn0x Hn1x]
      · isplitl [HA]
        · iexact HA
        isplitl [Hfr]
        · iexact Hfr
        isplitl [Hn0x]
        · iexact Hn0x
        iexact Hn1x
      iexact HSP
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h1 : t.val = 1
    · skip
      rw [sums_succ m c t h0]
      simp only [before_9 m c t h0, before_10 m c t h0]
      (try dsimp only)
      rw [Ring.AtBΦ_lt _ _ _ _ _ t.val (by omega), Ring.AtB22_one' (free c) (infl c (final m c)) (home c (V m c main_v4_0)) (home c (final m c)) t.val h1 (by decide), Ring.AtBΦ_lt _ _ _ _ _ (t.val + 1) (by omega), Ring.AtB22_next_one' _ _ _ _ t.val h1]
      iintro ⟨⟨Hg, ⟨⟨⟨Hp0, Hp1⟩, HA⟩, ⟨Hc0, Hc1⟩, HI⟩, HSP⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c t _ _ _ _ _ _ _ _ _ _ _ _ _ _ _ _ _ _ _ _ _ _ (fun h => by have := (cond1_iff t).mp h; omega) (fun h => by have := (cond2_iff t).mp h; omega) (fun h => by have := (condZ_iff t).mp h; omega) (fun h => by have := (cond4_iff t).mp h; omega) (fun h => by have := (cond5_iff t).mp h; omega) (iblk m c 0 t) (iblk m c 1 t) (iblk m c 2 t) (iblk m c 3 t) (iblk m c 4 t) (iblk m c 5 t) (iblk m c 6 t) (iblk m c 7 t) (iblk m c 8 t) _ _ _ _ W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [Hp0]; · iexact Hp0
      isplitl [Hp1]; · iexact Hp1
      isplitl [Hc0]; · iexact Hc0
      isplitl [Hc1]; · iexact Hc1
      isplitl [HW]; · iexact HW
      iintro ⟨H0, H1, H2, H3, H4, H5, H6, H7, H8, H9, H10, Hn0, Hn1, ⟨%W', HW'⟩⟩
      ihave Hn0x := (fly0 m c t) $$ Hn0
      ihave Hn1x := (fly1 m c t) $$ Hn1
      isplitl [Hg HSP HA HI Hn0x Hn1x]
      · isplitl [Hg]; · iexact Hg
        isplitl [HA HI Hn0x Hn1x]
        · isplitl [HA]
          · iexact HA
          isplitl [HI]
          · iexact HI
          isplitl [Hn0x]
          · iexact Hn0x
          iexact Hn1x
        iexact HSP
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · by_cases h2 : t.val = 15
      · skip
        rw [sums_succ m c t h0]
        simp only [before_9 m c t h0, before_10 m c t h0]
        (try dsimp only)
        rw [Ring.AtBΦ_lt _ _ _ _ _ t.val (by omega), Ring.AtB22_here_last (free c) (infl c (final m c)) (home c (V m c main_v4_0)) (home c (final m c)) t.val (by omega) (by omega), Ring.AtBΦ_end _ _ _ _ _ (t.val + 1) (by omega), Ring.AtB22_drained _ _ t.val (by omega) (by omega)]
        iintro ⟨⟨Hg, ⟨⟨Hp0, Hp1⟩, HB, ⟨HF0, HF1⟩, ⟨HI0, HI1⟩⟩, HSP⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runD c t _ _ _ _ _ _ _ _ _ _ _ _ _ _ _ _ _ _ _ _ _ _ ((cond1_iff t).mpr (by omega)) ((cond2_iff t).mpr (by omega)) (fun h => by have := (condZ_iff t).mp h; omega) ((cond4_iff t).mpr (by omega)) ((cond5_iff t).mpr (by omega)) (iblk m c 0 t) (iblk m c 1 t) (iblk m c 2 t) (iblk m c 3 t) (iblk m c 4 t) (iblk m c 5 t) (iblk m c 6 t) (iblk m c 7 t) (iblk m c 8 t) _ _ _ _ _ _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [Hp0]; · iexact Hp0
        isplitl [Hp1]; · iexact Hp1
        isplitl [HF0]; · iexact HF0
        isplitl [HF1]; · iexact HF1
        isplitl [HI0]; · iexact HI0
        isplitl [HI1]; · iexact HI1
        isplitl [HW]; · iexact HW
        iintro ⟨H0, H1, H2, H3, H4, H5, H6, H7, H8, H9, H10, Ha0, Ha1, Hb0, Hb1, Hn0, Hn1, Hc0, Hc1, Hd0, Hd1, ⟨%W', HW'⟩⟩
        ihave Hn0x := (land0 m c t) $$ Hn0
        ihave Hn1x := (land1 m c t) $$ Hn1
        isplitl [Hg HSP HB Ha0 Ha1 Hb0 Hb1 Hn0x Hn1x Hc0 Hc1 Hd0 Hd1]
        · isplitl [Hg]; · iexact Hg
          isplitl [HB Ha0 Ha1 Hb0 Hb1 Hn0x Hn1x Hc0 Hc1 Hd0 Hd1]
          · isplitl [Hn0x Hn1x Ha0 Ha1 Hb0 Hb1 HB]
            · isplitl [Hn0x Hn1x]
              · isplitl [Hn0x]
                · iexact Hn0x
                iexact Hn1x
              isplitl [Ha0 Ha1]
              · isplitl [Ha0]
                · iexact Ha0
                iexact Ha1
              isplitl [Hb0 Hb1]
              · isplitl [Hb0]
                · iexact Hb0
                iexact Hb1
              iexact HB
            isplitl [Hc0 Hc1]
            · isplitl [Hc0]
              · iexact Hc0
              iexact Hc1
            isplitl [Hd0]
            · iexact Hd0
            iexact Hd1
          iexact HSP
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · skip
        rw [sums_succ m c t h0]
        simp only [before_9 m c t h0, before_10 m c t h0]
        (try dsimp only)
        rw [Ring.AtBΦ_lt _ _ _ _ _ t.val (by omega), Ring.AtB22_here (free c) (infl c (final m c)) (home c (V m c main_v4_0)) (home c (final m c)) t.val (by omega) (by omega), Ring.AtBΦ_lt _ _ _ _ _ (t.val + 1) (by omega), Ring.AtB22_next _ _ _ _ t.val (by omega) (by omega)]
        iintro ⟨⟨Hg, ⟨⟨⟨Hp0, Hp1⟩, HA⟩, HB, ⟨HF0, HF1⟩, HI⟩, HSP⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply (runC c t _ _ _ _ _ _ _ _ _ _ _ _ _ _ _ _ _ _ _ _ _ _ ((cond1_iff t).mpr (by omega)) ((cond2_iff t).mpr (by omega)) (fun h => by have := (condZ_iff t).mp h; omega) (fun h => by have := (cond4_iff t).mp h; omega) (fun h => by have := (cond5_iff t).mp h; omega) (iblk m c 0 t) (iblk m c 1 t) (iblk m c 2 t) (iblk m c 3 t) (iblk m c 4 t) (iblk m c 5 t) (iblk m c 6 t) (iblk m c 7 t) (iblk m c 8 t) _ _ _ _ _ _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [Hp0]; · iexact Hp0
        isplitl [Hp1]; · iexact Hp1
        isplitl [HF0]; · iexact HF0
        isplitl [HF1]; · iexact HF1
        isplitl [HW]; · iexact HW
        iintro ⟨H0, H1, H2, H3, H4, H5, H6, H7, H8, H9, H10, Ha0, Ha1, Hn0, Hn1, ⟨%W', HW'⟩⟩
        ihave Hn0x := (fly0 m c t) $$ Hn0
        ihave Hn1x := (fly1 m c t) $$ Hn1
        isplitl [Hg HSP HA HB HI Ha0 Ha1 Hn0x Hn1x]
        · isplitl [Hg]; · iexact Hg
          isplitl [HA HB HI Ha0 Ha1 Hn0x Hn1x]
          · isplitl [HA]
            · iexact HA
            isplitl [Ha0 Ha1 HB]
            · isplitl [Ha0 Ha1]
              · isplitl [Ha0]
                · iexact Ha0
                iexact Ha1
              iexact HB
            isplitl [HI]
            · iexact HI
            isplitl [Hn0x]
            · iexact Hn0x
            iexact Hn1x
          iexact HSP
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

theorem defs₀_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The contents the written buffer ends at. -/
def endAt (c : Dev nD) : (b : Ref sig .tc) → Buf (Elt F) ((c : Thread nD τ).loc b) := Function.update (V m c) main_v4_0 (final m c)
theorem endAt_self (c : Dev nD) : endAt m c main_v4_0 = final m c := Function.update_self _ _ _

theorem launch_eq (c : Dev nD) (G : (c : Dev nD) → (b : Ref sig .tc) → Buf (Elt F) (c.tc.loc b)) :
    Pipeline.ΦDRG osem0 spec0 H0 R0 (V m) G c
      = (iprop(((∃ f : Buf (Elt F) (c.tc.loc cc0_scratch0), (c.tc.loc cc0_scratch0) ↦{fullShare} f) ∗ (∃ f : Buf (Elt F) (c.tc.loc cc0_scratch1), (c.tc.loc cc0_scratch1) ↦{fullShare} f))
        ∗ (∃ r, prngReg c r)
        ∗ (semVal (c.tc, SemLoc.dma 17) 0 ∗ semVal (c.tc, SemLoc.dma 18) 0 ∗ semVal (c.tc, SemLoc.dma 19) 0 ∗ semVal (c.tc, SemLoc.dma 20) 0)
        ∗ emp ∗ ((c.tc.loc main_v4_0) ↦{fullShare} G c main_v4_0)) : sProp 𝕄) := by
  rw [Pipeline.ΦDRG_eq, scopedRest0_eq, ownSems00_eq]
  unfold H0 R0
  rw [Pipeline.routed_singleton, BI.bigSep_empty]; rfl

theorem hin (c : Dev nD) : Pipeline.ΦDRG osem0 spec0 H0 R0 (V m) (V m) c ⊢ (dats m 0 c).Φ 0 := by
  rw [launch_eq, show (dats m 0 c).Φ 0 = PhiR m c 0 from rfl]
  unfold PhiR
  iintro ⟨HS, Hg, Hq, -, Ho⟩
  isplitl [Hg]; · iexact Hg
  iapply (ring_in c (V m c main_v4_0) (final m c))
  isplitl [HS]; · iexact HS
  isplitl [Hq]; · iexact Hq
  iexact Ho
theorem hout (c : Dev nD) : (dats m 0 c).Φ (Fin.last cfg0.N) ⊢ Pipeline.ΦDRG osem0 spec0 H0 R0 (V m) (endAt m) c := by
  rw [launch_eq, endAt_self, show (dats m 0 c).Φ (Fin.last cfg0.N) = PhiR m c grid0.N from rfl]
  unfold PhiR
  rw [show grid0.N = 16 by rw [N_0]]
  iintro ⟨Hg, HR⟩
  ihave HX := (ring_out c (V m c main_v4_0) (final m c) (final_spare m c)) $$ HR
  icases HX with ⟨HS, Hq, Ho⟩
  isplitl [HS]; · iexact HS
  isplitl [Hg]; · iexact Hg
  isplitl [Hq]; · iexact Hq
  isplitr; · iempintro
  iexact Ho

/-! ## The run -/

set_option backward.isDefEq.respectTransparency.types false in
/-- Every execution ends with the pipeline's arrays at what the proof data says, the written buffer at `final`, and every counter at zero. -/
theorem run_main : θ_run defs (onTc (τ := τ) (main (F := F))) (s₀ m ρ) (fun r => (Pipeline.FramePostRG cfgs (dats m) 0 R0 (V m) (endAt m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmainD m Variants.none) (hA := A_eq m) (G := endAt m)
    (hin := hin m) (hout := hout m)

end Cert.KernelIdeal.Pool

end
-- ==== Proof.Pool.Frame.lean ====
/- The frame of the pooling call, and the three results as the proof data computes them. -/
module

public import proofs.«01_k».proof.Proof.Pool.Run

@[expose] public section

set_option maxRecDepth 16384

noncomputable section

namespace Cert.KernelIdeal.Pool

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- Every execution ends with the three results at what the proof data computes, the arguments unchanged, and every counter at zero. -/
theorem run_all : θ_run defs (onTc (τ := τ) (main (F := F))) ⟨m, fun _ => 0, ρ⟩ (fun r => (∀ c : Dev nD,
      (r.2.mem (c.tc.loc main_v4_0) = final m c ∧ r.2.mem (c.tc.loc main_v4_1) = (dats m 0 c).arrAt 9 cfg0.N
      ∧ r.2.mem (c.tc.loc main_v4_2) = (dats m 0 c).arrAt 10 cfg0.N)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨fun c =>
    ⟨⟨(h.1.written c (b := main_v4_0) (Finset.mem_singleton_self _)).trans (endAt_self m c), (h.1.toR c).1 9, (h.1.toR c).1 10⟩,
      ((h.1.toR c).1 5).trans (((dats m 0 c).arrAt_in 5 rfl _).trans ((A_eq m c 5).trans (V_main_arg0 m c))),
      ((h.1.toR c).1 3).trans (((dats m 0 c).arrAt_in 3 rfl _).trans ((A_eq m c 3).trans (V_main_arg1 m c))),
      ((h.1.toR c).2 main_arg2 (Finset.mem_sdiff.mpr ⟨Pipeline.mem_restRefs_of main_arg2 (by decide) (by decide), fun h => absurd (Finset.mem_singleton.mp h) (by decide)⟩)).trans (V_main_arg2 m c), ((h.1.toR c).2 main_arg3 (Finset.mem_sdiff.mpr ⟨Pipeline.mem_restRefs_of main_arg3 (by decide) (by decide), fun h => absurd (Finset.mem_singleton.mp h) (by decide)⟩)).trans (V_main_arg3 m c), ((h.1.toR c).2 main_arg4 (Finset.mem_sdiff.mpr ⟨Pipeline.mem_restRefs_of main_arg4 (by decide) (by decide), fun h => absurd (Finset.mem_singleton.mp h) (by decide)⟩)).trans (V_main_arg4 m c)⟩, h.2⟩) (run_main m ρ)

/-- The frame: every execution ends, the arguments unchanged and every counter at zero. -/
theorem frame_all : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) ∧ r.2.sem = fun _ => 0) :=
  (θ_run defs _ _).mono (fun _ h => ⟨fun c => (h.1 c).2, h.2⟩) (run_all m ρ)

end Cert.KernelIdeal.Pool

end
-- ==== Proof.Val.Real.lean ====
/- The pooling call's gradients as functions of real numbers, and the two sum identities that the proof turns on:
   a window sum is a difference of prefix sums, and a suffix sum of shifted differences is a window sum. -/
module

public import Idealize.ShloMosaic.Lib.Pointwise

@[expose] public section

noncomputable section

namespace Cert.PoolVal

open Finset

/-- The window length of a group: 2, 4, 8, 16. -/
def wid (g : ℕ) : ℕ := 2 ^ (g + 1)
/-- The number of rows a window of `w` rows ending at row `t` holds. -/
def den (w t : ℕ) : ℝ := min ((t : ℝ) + 1) w
/-- The sum over a window ending at `t`, and over one beginning at `t`. -/
def win (w : ℕ) (f : ℕ → ℝ) (t : ℕ) : ℝ := ∑ k ∈ range w, if k ≤ t then f (t - k) else 0
def fwin (w : ℕ) (f : ℕ → ℝ) (t : ℕ) : ℝ := ∑ k ∈ range w, f (t + k)
/-- The logistic function. -/
def sg (x : ℝ) : ℝ := (1 + Real.exp (-x))⁻¹

section
variable (X G C : ℕ → ℕ → ℝ) (W : ℕ → ℕ → ℕ → ℝ) (S : ℕ → ℝ)
/-- The pooled input: window mean minus the row itself. -/
def pl (g t a : ℕ) : ℝ := win (wid g) (fun u => X u (128 * g + a)) t * (1 / den (wid g) t) - X t (128 * g + a)
/-- The pooled input, mixed within the group. -/
def pw (g t b : ℕ) : ℝ := ∑ a ∈ range 128, pl X g t a * W g a b
/-- The cotangent through the gate, and through the scale as well. -/
def cg (t c : ℕ) : ℝ := C t c * (G t c * sg (G t c))
def hh (t c : ℕ) : ℝ := cg G C t c * S c
/-- The cotangent of the pooled input, and its quotient by the window's length. -/
def dp (g t a : ℕ) : ℝ := ∑ b ∈ range 128, hh G C S t (128 * g + b) * W g a b
def qq (g t a : ℕ) : ℝ := dp G C W S g t a * (1 / den (wid g) t)
/-- The gradients: of the mixed columns, of the gate, of the mixing matrices, of the scale. -/
def dx (g t a : ℕ) : ℝ := fwin (wid g) (fun u => qq G C W S g u a) t - dp G C W S g t a
def dg (g t b : ℕ) : ℝ :=
  C t (128 * g + b) * pw X W g t b * S (128 * g + b)
    * (sg (G t (128 * g + b)) * (1 + G t (128 * g + b) * (1 - sg (G t (128 * g + b)))))
def dW (g a b n : ℕ) : ℝ := ∑ t ∈ range n, pl X g t a * hh G C S t (128 * g + b)
def dS (g b n : ℕ) : ℝ := ∑ t ∈ range n, cg G C t (128 * g + b) * pw X W g t b
end

theorem den_ne (w t : ℕ) (hw : w ≠ 0) : den w t ≠ 0 := by
  have h1 : (0 : ℝ) < (t : ℝ) + 1 := by positivity
  have h2 : (0 : ℝ) < (w : ℝ) := by positivity
  exact (lt_min h1 h2).ne'

/-- A window sum is a difference of prefix sums. -/
theorem win_eq (w : ℕ) (f : ℕ → ℝ) (t : ℕ) :
    win w f t = (∑ s ∈ range (t + 1), f s) - (if t < w then 0 else ∑ s ∈ range (t - w + 1), f s) := by
  unfold win
  induction w with
  | zero => simp
  | succ w ih =>
    rw [sum_range_succ, ih]
    by_cases h : t < w
    · rw [if_pos h, if_neg (by omega), if_pos (by omega)]; ring
    · rw [if_neg h, if_pos (by omega)]
      by_cases h' : t < w + 1
      · obtain rfl : t = w := by omega
        rw [if_pos h']
        simp
      · rw [if_neg h']
        obtain ⟨d, rfl⟩ : ∃ d, t = d + 1 + w := ⟨t - w - 1, by omega⟩
        rw [show d + 1 + w - (w + 1) + 1 = d + 1 by omega, show d + 1 + w - w = d + 1 by omega, sum_range_succ f (d + 1)]
        ring

/-- The sum over the rows from `t` on of the differences with `w` rows later is the sum over the window beginning at `t`. -/
theorem fwin_eq (w : ℕ) (f : ℕ → ℝ) (T t : ℕ) (h0 : ∀ u, T ≤ u → f u = 0) (ht : t ≤ T) :
    (∑ u ∈ range (T - t), (f (t + u) - f (t + u + w))) = fwin w f t := by
  unfold fwin
  rw [sum_sub_distrib]
  have key : ∀ a b : ℕ, ∑ u ∈ range a, f (t + u) + ∑ u ∈ range b, f (t + a + u) = ∑ u ∈ range (a + b), f (t + u) := by
    intro a b
    rw [sum_range_add]
    simp only [add_assoc]
  have z : ∑ u ∈ range w, f (t + (T - t) + u) = 0 := sum_eq_zero fun u _ => h0 _ (by omega)
  have e1 := key (T - t) w
  have e2 := key w (T - t)
  rw [z, add_zero] at e1
  rw [add_comm (T - t) w] at e1
  have e3 : ∑ u ∈ range (T - t), f (t + u + w) = ∑ u ∈ range (T - t), f (t + w + u) :=
    sum_congr rfl fun u _ => congrArg f (by omega)
  rw [e3, e1, ← e2]
  ring

/-! ## Arrays of finite extended reals, as functions of natural numbers -/

section
open Idealize.ShloMosaic

/-- Every element is a real number. -/
def Fin' {S : Shape} (z : S.Idx → EReal) : Prop := ∀ i, z i = ((z i).toReal : EReal)
/-- An array's elements as reals, zero outside it. -/
def val1 {A : ℕ} (z : (⟨1, ![A]⟩ : Shape).Idx → EReal) (a : ℕ) : ℝ := if h : a < A then (z (ix1 ⟨a, h⟩)).toReal else 0
def val2 {A B : ℕ} (z : (⟨2, ![A, B]⟩ : Shape).Idx → EReal) (a b : ℕ) : ℝ :=
  if h : a < A ∧ b < B then (z (ix2 ⟨a, h.1⟩ ⟨b, h.2⟩)).toReal else 0
def val3 {A B C : ℕ} (z : (⟨3, ![A, B, C]⟩ : Shape).Idx → EReal) (a b c : ℕ) : ℝ :=
  if h : a < A ∧ b < B ∧ c < C then (z (ix3 ⟨a, h.1⟩ ⟨b, h.2.1⟩ ⟨c, h.2.2⟩)).toReal else 0

theorem val1_eq {A : ℕ} {z : (⟨1, ![A]⟩ : Shape).Idx → EReal} (hz : Fin' z) (a : Fin A) : z (ix1 a) = ((val1 z a.val : ℝ) : EReal) := by
  rw [hz (ix1 a)]; unfold val1; rw [dif_pos a.isLt]
theorem val2_eq {A B : ℕ} {z : (⟨2, ![A, B]⟩ : Shape).Idx → EReal} (hz : Fin' z) (a : Fin A) (b : Fin B) : z (ix2 a b) = ((val2 z a.val b.val : ℝ) : EReal) := by
  rw [hz (ix2 a b)]; unfold val2; rw [dif_pos ⟨a.isLt, b.isLt⟩]
theorem val3_eq {A B C : ℕ} {z : (⟨3, ![A, B, C]⟩ : Shape).Idx → EReal} (hz : Fin' z) (a : Fin A) (b : Fin B) (c : Fin C) :
    z (ix3 a b c) = ((val3 z a.val b.val c.val : ℝ) : EReal) := by
  rw [hz (ix3 a b c)]; unfold val3; rw [dif_pos ⟨a.isLt, b.isLt, c.isLt⟩]
theorem val2_zero {A B : ℕ} (z : (⟨2, ![A, B]⟩ : Shape).Idx → EReal) (a b : ℕ) (h : A ≤ a) : val2 z a b = 0 := by
  unfold val2; rw [dif_neg (by omega)]

variable (y : (⟨2, ![8192, 2048]⟩ : Shape).Idx → EReal) (z : (⟨2, ![8192, 5120]⟩ : Shape).Idx → EReal)
/-- The mixed columns, the gate's columns, and the cotangent's columns that the pooling mixer has. -/
def colX (t c : ℕ) : ℝ := val2 z t (2560 + c)
def colG (t c : ℕ) : ℝ := val2 z t (4608 + c)
def colC (t c : ℕ) : ℝ := val2 y t (1536 + c)
theorem colC_zero (t c : ℕ) (h : 8192 ≤ t) : colC y t c = 0 := val2_zero y t _ h
end

end Cert.PoolVal

end
-- ==== Proof.Val.TileA.lean ====
/- The body's pooled inputs and gates on real blocks. -/
module

public import proofs.«01_k».proof.Proof.Pool.Tile
public import proofs.«01_k».proof.Proof.Val.Real

@[expose] public section

set_option maxRecDepth 16384

noncomputable section

namespace Cert.PoolVal

open KernelIdeal KernelIdeal.Gen
open Idealize.ShloMosaic Idealize.ShloMosaic.TcCoe

/-! ## Constants and words -/

theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem coe_min (a b : ℝ) : min (a : EReal) (b : EReal) = ((min a b : ℝ) : EReal) :=
  (EReal.coe_strictMono.monotone.map_min).symm
theorem div_den (x : ℝ) (w t : ℕ) (hw : w ≠ 0) : Ideal.div (x : EReal) ((den w t : ℝ) : EReal) = ((x * (1 / den w t) : ℝ) : EReal) := by
  rw [Ideal.div_coe (den_ne w t hw), EReal.coe_mul]
theorem sub_coe (a b : ℝ) : (a : EReal) - (b : EReal) = ((a - b : ℝ) : EReal) := (EReal.coe_sub a b).symm
theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem coe_sum {ι : Type} (s : Finset ι) (f : ι → ℝ) : ((∑ k ∈ s, f k : ℝ) : EReal) = ∑ k ∈ s, (f k : EReal) :=
  map_sum (⟨⟨fun x : ℝ => (x : EReal), EReal.coe_zero⟩, EReal.coe_add⟩ : ℝ →+ EReal) f s
theorem sum_coe {N : ℕ} (f : ℕ → ℝ) : ∑ k : Fin N, ((f k.val : ℝ) : EReal) = ((∑ k ∈ Finset.range N, f k : ℝ) : EReal) := by
  rw [coe_sum, Finset.sum_range]
theorem toInt_word (n : ℕ) (h : n < 2 ^ 31) : (BitVec.ofNat 32 n).toInt = (n : ℤ) := by
  rw [BitVec.toInt_eq_toNat_of_lt] <;> simp <;> omega

/-- The step number of the grid. -/
abbrev num (i : grid0.Coords) : ℕ := (i 0).val
theorem num_lt (i : grid0.Coords) : num i < 16 := (i 0).isLt

theorem pay5_at (i : grid0.Coords) (r : Fin 512) :
    k0_pay5 (F := Ideal) (Pool.wd i) (ix2 r 0) = ((((512 * num i + r.val : ℕ) : ℝ) + 1 : ℝ) : EReal) := by
  pointwise [k0_pay5, Pool.wd]
  have hn := num_lt i
  have hr := r.isLt
  have e : IntOp.addi (IntOp.addi (BitVec.ofNat 32 r.val) (Scalar.muli (BitVec.ofNat 32 (num i)) 512#32)) 1#32 = BitVec.ofNat 32 (512 * num i + r.val + 1) := by
    apply BitVec.eq_of_toNat_eq
    simp [IntOp.addi, Scalar.muli, IntOp.muli]
    omega
  show (((IntOp.addi (IntOp.addi (BitVec.ofNat 32 r.val) (Scalar.muli (BitVec.ofNat 32 (num i)) 512#32)) 1#32).toInt : ℝ) : EReal) = _
  rw [e, toInt_word _ (by omega)]
  push_cast
  rfl

theorem pay20_at (i : grid0.Coords) (r : Fin 16) :
    k0_pay20 (F := Ideal) (Pool.wd i) (ix2 r 0) = ((((512 * num i + 512 + r.val : ℕ) : ℝ) + 1 : ℝ) : EReal) := by
  pointwise [k0_pay20, Pool.wd]
  have hn := num_lt i
  have hr := r.isLt
  have e : IntOp.addi (IntOp.addi (BitVec.ofNat 32 r.val) (Scalar.muli (Scalar.addi (BitVec.ofNat 32 (num i)) 1#32) 512#32)) 1#32 = BitVec.ofNat 32 (512 * num i + 512 + r.val + 1) := by
    apply BitVec.eq_of_toNat_eq
    simp [IntOp.addi, Scalar.muli, IntOp.muli, Scalar.addi]
    omega
  show (((IntOp.addi (IntOp.addi (BitVec.ofNat 32 r.val) (Scalar.muli (Scalar.addi (BitVec.ofNat 32 (num i)) 1#32) 512#32)) 1#32).toInt : ℝ) : EReal) = _
  rw [e, toInt_word _ (by omega)]
  push_cast
  rfl

/-- The 0/1 factor of the rows before the block, and of the rows after it. -/
theorem flag_gt (i : grid0.Coords) : ((((Scalar.extui (Scalar.cmpi .sgt (BitVec.ofNat 32 (num i)) 0#32) : BitVec 32)).toInt : ℝ) : EReal) = ((if 0 < num i then 1 else 0 : ℝ) : EReal) := by
  have hn := num_lt i
  generalize num i = n at hn ⊢
  interval_cases n <;> norm_num <;> decide
theorem flag_lt (i : grid0.Coords) : ((((Scalar.extui (Scalar.cmpi .slt (BitVec.ofNat 32 (num i)) 15#32) : BitVec 32)).toInt : ℝ) : EReal) = ((if num i < 15 then 1 else 0 : ℝ) : EReal) := by
  have hn := num_lt i
  generalize num i = n at hn ⊢
  interval_cases n <;> norm_num <;> decide

/-! ## Window sums by doubling -/

def bsum (w : ℕ) (f : ℕ → ℝ) (r : ℕ) : ℝ := ∑ k ∈ Finset.range w, f (r - k)
theorem bsum_two (w : ℕ) (f : ℕ → ℝ) (r : ℕ) : bsum w f r + bsum w f (r - w) = bsum (w + w) f r := by
  unfold bsum
  rw [Finset.sum_range_add]
  exact congrArg _ (Finset.sum_congr rfl fun k _ => congrArg f (by omega))
theorem fwin_two (w : ℕ) (f : ℕ → ℝ) (r : ℕ) : fwin w f r + fwin w f (r + w) = fwin (w + w) f r := by
  unfold fwin
  rw [Finset.sum_range_add]
  exact congrArg _ (Finset.sum_congr rfl fun k _ => congrArg f (by omega))

/-- The rows a block's window sums run over: sixteen before the block, then the block. -/
def ext (X : ℕ → ℕ → ℝ) (n : ℕ) (c r : ℕ) : ℝ := if 16 ≤ 512 * n + r then X (512 * n + r - 16) c else 0
theorem bsum_ext (X : ℕ → ℕ → ℝ) (n c r w : ℕ) (hw : w ≤ 16) : bsum w (ext X n c) (16 + r) = win w (fun u => X u c) (512 * n + r) := by
  unfold bsum win ext
  refine Finset.sum_congr rfl fun k hk => ?_
  have := Finset.mem_range.mp hk
  by_cases h : k ≤ 512 * n + r
  · rw [if_pos (by omega), if_pos h]; exact congrArg (fun u => X u c) (by omega)
  · rw [if_neg (by omega), if_neg h]

theorem wid_ne (g : ℕ) : wid g ≠ 0 := by unfold wid; positivity
theorem close_pl (X : ℕ → ℕ → ℝ) (g n r a c w : ℕ) (v : ℝ) (hw : w = wid g) (hv : v = (w : ℝ)) (hc : c = 128 * g + a) (hl : w ≤ 16) :
    Ideal.div ((bsum w (ext X n c) (16 + r) : ℝ) : EReal) (min ((((512 * n + r : ℕ) : ℝ) + 1 : ℝ) : EReal) ((v : ℝ) : EReal)) - ((X (512 * n + r) c : ℝ) : EReal)
      = ((pl X g (512 * n + r) a : ℝ) : EReal) := by
  subst hv hc
  rw [coe_min]
  refine (congrArg (· - _) (div_den _ w (512 * n + r) (hw ▸ wid_ne g))).trans ?_
  rw [sub_coe, bsum_ext _ _ _ _ _ hl, hw]
  rfl

section Pooled
variable (i : grid0.Coords) (x : FVec Ideal S512x512 .f32) (h : FVec Ideal S16x512 .f32) (X X1 : ℕ → ℕ → ℝ)
  (hx : ∀ (r : Fin 512) (c : Fin 512), x (ix2 r c) = ((X (512 * num i + r.val) c.val : ℝ) : EReal))
  (hh : ∀ (r : Fin 16) (c : Fin 512), h (ix2 r c) = ((X1 r.val c.val : ℝ) : EReal))
  (h1 : 0 < num i → ∀ r c, r < 16 → X1 r c = X (512 * num i + r - 16) c)
include hx hh h1

theorem pay6_at (r : Fin 528) (hr : 1 ≤ r.val) (c : Fin 512) :
    k0_pay6 (F := Ideal) (Pool.wd i) x h 0#32 (ix2 r c) = ((bsum 2 (ext X (num i) c.val) r.val : ℝ) : EReal) := by
  have key : ∀ (r : ℕ) (hr : r < 528), (if h_1 : r < 16 then
        h (ix2 ⟨r, h_1⟩ c) * ((((Scalar.extui (Scalar.cmpi .sgt (BitVec.ofNat 32 (num i)) 0#32) : BitVec 32)).toInt : ℝ) : EReal)
      else x (ix2 ⟨r - 16, by omega⟩ c)) = ((ext X (num i) c.val r : ℝ) : EReal) := by
    intro r hr
    rw [flag_gt]
    unfold ext
    by_cases hl : r < 16
    · rw [dif_pos hl, hh, mul_coe]
      by_cases h0 : 0 < num i
      · rw [if_pos h0, if_pos (by omega), mul_one, h1 h0 _ _ hl]
      · rw [if_neg h0, if_neg (by omega), mul_zero]
    · rw [dif_neg hl, hx, if_pos (by omega)]
      exact congrArg (fun u => ((X u c.val : ℝ) : EReal)) (show 512 * num i + (r - 16) = _ by omega)
  pointwise [k0_pay6, Pool.wd]
  refine (congrArg₂ (· + ·) (key r.val r.isLt) (key ((r.val + 528 - 1) % 528) (by omega))).trans ?_
  rw [add_coe, show (r.val + 528 - 1) % 528 = r.val - 1 by omega]
  unfold bsum
  rw [Finset.sum_range_succ, Finset.sum_range_one]
  rfl

theorem pay7_at (r : Fin 528) (hr : 3 ≤ r.val) (c : Fin 512) :
    k0_pay7 (F := Ideal) (Pool.wd i) x h 0#32 (ix2 r c) = ((bsum 4 (ext X (num i) c.val) r.val : ℝ) : EReal) := by
  pointwise [k0_pay7]
  have e : (r.val + 528 - 2) % 528 = r.val - 2 := by omega
  rw [pay6_at i x h X X1 hx hh h1 r (by omega) c, pay6_at i x h X X1 hx hh h1 ⟨(r.val + 528 - 2) % 528, by omega⟩ (by show 1 ≤ (r.val + 528 - 2) % 528; omega) c, add_coe]
  refine congrArg _ ?_
  show bsum 2 _ r.val + bsum 2 _ ((r.val + 528 - 2) % 528) = _
  rw [e]
  exact bsum_two 2 _ _

theorem pay8_at (r : Fin 528) (hr : 7 ≤ r.val) (c : Fin 512) :
    k0_pay8 (F := Ideal) (Pool.wd i) x h 0#32 (ix2 r c) = ((bsum 8 (ext X (num i) c.val) r.val : ℝ) : EReal) := by
  pointwise [k0_pay8]
  have e : (r.val + 528 - 4) % 528 = r.val - 4 := by omega
  rw [pay7_at i x h X X1 hx hh h1 r (by omega) c, pay7_at i x h X X1 hx hh h1 ⟨(r.val + 528 - 4) % 528, by omega⟩ (by show 3 ≤ (r.val + 528 - 4) % 528; omega) c, add_coe]
  refine congrArg _ ?_
  show bsum 4 _ r.val + bsum 4 _ ((r.val + 528 - 4) % 528) = _
  rw [e]
  exact bsum_two 4 _ _

theorem pay9_at (r : Fin 512) (a : Fin 128) :
    k0_pay9 (F := Ideal) (Pool.wd i) x h 0#32 (ix2 r a) = ((pl X 0 (512 * num i + r.val) a.val : ℝ) : EReal) := by
  pointwise [k0_pay9]
  rw [pay6_at i x h X X1 hx hh h1 ⟨16 + r.val, by omega⟩ (by show 1 ≤ 16 + r.val; omega) ⟨a.val, by omega⟩, pay5_at, hx, ofBits_two]
  exact close_pl X 0 (num i) r.val a.val (a.val) 2 _ (by norm_num [wid]) (by norm_num) (by omega) (by omega)

theorem pay10_at (r : Fin 512) (a : Fin 128) :
    k0_pay10 (F := Ideal) (Pool.wd i) x h 0#32 (ix2 r a) = ((pl X 1 (512 * num i + r.val) a.val : ℝ) : EReal) := by
  pointwise [k0_pay10]
  rw [pay7_at i x h X X1 hx hh h1 ⟨16 + r.val, by omega⟩ (by show 3 ≤ 16 + r.val; omega) ⟨128 + a.val, by omega⟩, pay5_at, hx, ofBits_four]
  exact close_pl X 1 (num i) r.val a.val (128 + a.val) 4 _ (by norm_num [wid]) (by norm_num) (by omega) (by omega)

theorem pay11_at (r : Fin 512) (a : Fin 128) :
    k0_pay11 (F := Ideal) (Pool.wd i) x h 0#32 (ix2 r a) = ((pl X 2 (512 * num i + r.val) a.val : ℝ) : EReal) := by
  pointwise [k0_pay11]
  rw [pay8_at i x h X X1 hx hh h1 ⟨16 + r.val, by omega⟩ (by show 7 ≤ 16 + r.val; omega) ⟨256 + a.val, by omega⟩, pay5_at, hx, ofBits_eight]
  exact close_pl X 2 (num i) r.val a.val (256 + a.val) 8 _ (by norm_num [wid]) (by norm_num) (by omega) (by omega)

theorem pay12_at (r : Fin 512) (a : Fin 128) :
    k0_pay12 (F := Ideal) (Pool.wd i) x h 0#32 (ix2 r a) = ((pl X 3 (512 * num i + r.val) a.val : ℝ) : EReal) := by
  pointwise [k0_pay12]
  rw [pay8_at i x h X X1 hx hh h1 ⟨16 + r.val, by omega⟩ (by show 7 ≤ 16 + r.val; omega) ⟨384 + a.val, by omega⟩, pay8_at i x h X X1 hx hh h1 ⟨(16 + r.val + 528 - 8) % 528, by omega⟩ (by show 7 ≤ (16 + r.val + 528 - 8) % 528; omega) ⟨384 + a.val, by omega⟩, add_coe, show bsum 8 (ext X (num i) (384 + a.val)) (16 + r.val) + bsum 8 (ext X (num i) (384 + a.val)) ((16 + r.val + 528 - 8) % 528) = bsum 16 (ext X (num i) (384 + a.val)) (16 + r.val) by rw [show (16 + r.val + 528 - 8) % 528 = 16 + r.val - 8 by omega]; exact bsum_two 8 _ _, pay5_at, hx, ofBits_sixteen]
  exact close_pl X 3 (num i) r.val a.val (384 + a.val) 16 _ (by norm_num [wid]) (by norm_num) (by omega) (by omega)

end Pooled

end Cert.PoolVal

end
-- ==== Proof.Val.TileB.lean ====
/- The body's gates, products and window sums on real blocks. -/
module

public import proofs.«01_k».proof.Proof.Val.TileA

@[expose] public section

set_option maxRecDepth 16384

noncomputable section

namespace Cert.PoolVal

open Idealize.ShloMosaic in
/-- Arrays of extended reals, by shape. -/
abbrev R32 (s : Shape) := FVec Ideal s .f32

open KernelIdeal KernelIdeal.Gen
open Idealize.ShloMosaic Idealize.ShloMosaic.TcCoe

theorem one_coe : (1 : EReal) = ((1 : ℝ) : EReal) := EReal.coe_one.symm
theorem logistic_sg (x : ℝ) : Ideal.logistic (x : EReal) = ((sg x : ℝ) : EReal) := Ideal.logistic_coe x

section Gates
variable (n : ℕ) (G C : ℕ → ℕ → ℝ) (S : ℕ → ℝ)

/-- The gate's derivative, the gated cotangent, and the same times the scale, on a block of rows. -/
theorem pay15_at (y : Vec Ideal S512x512 .bf16) (hy : ∀ (r : Fin 512) (c : Fin 512), y (ix2 r c) = ((G (512 * n + r.val) c.val : ℝ) : EReal)) (r : Fin 512) (c : Fin 512) :
    k0_pay15 (F := Ideal) y (ix2 r c) = ((sg (G (512 * n + r.val) c.val) * (1 + G (512 * n + r.val) c.val * (1 - sg (G (512 * n + r.val) c.val))) : ℝ) : EReal) := by
  pointwise [k0_pay15, k0_pay14, k0_pay13]
  rw [hy, logistic_sg, one_coe, sub_coe, mul_coe, add_coe, mul_coe]

theorem pay17_at (y u : Vec Ideal S512x512 .bf16) (hy : ∀ (r : Fin 512) (c : Fin 512), y (ix2 r c) = ((G (512 * n + r.val) c.val : ℝ) : EReal))
    (hu : ∀ (r : Fin 512) (c : Fin 512), u (ix2 r c) = ((C (512 * n + r.val) c.val : ℝ) : EReal)) (r : Fin 512) (c : Fin 512) :
    k0_pay17 (F := Ideal) y u (ix2 r c) = ((cg G C (512 * n + r.val) c.val : ℝ) : EReal) := by
  pointwise [k0_pay17, k0_pay14, k0_pay13, k0_pay16]
  rw [hy, hu, logistic_sg, mul_coe, mul_coe]
  rfl

theorem pay18_at (y u : Vec Ideal S512x512 .bf16) (s : Vec Ideal S1x512 .f32) (hy : ∀ (r : Fin 512) (c : Fin 512), y (ix2 r c) = ((G (512 * n + r.val) c.val : ℝ) : EReal))
    (hu : ∀ (r : Fin 512) (c : Fin 512), u (ix2 r c) = ((C (512 * n + r.val) c.val : ℝ) : EReal))
    (hs : ∀ c : Fin 512, s (ix2 0 c) = ((S c.val : ℝ) : EReal)) (r : Fin 512) (c : Fin 512) :
    k0_pay18 (F := Ideal) y u s (ix2 r c) = ((hh G C S (512 * n + r.val) c.val : ℝ) : EReal) := by
  pointwise [k0_pay18]
  rw [pay17_at n G C y u hy hu, hs, mul_coe]
  rfl

theorem pay19_at (i : grid0.Coords) (G1 C1 : ℕ → ℕ → ℝ) (y u : Vec Ideal S16x512 .bf16) (s : Vec Ideal S1x512 .f32)
    (hy : ∀ (r : Fin 16) (c : Fin 512), y (ix2 r c) = ((G1 r.val c.val : ℝ) : EReal))
    (hu : ∀ (r : Fin 16) (c : Fin 512), u (ix2 r c) = ((C1 r.val c.val : ℝ) : EReal))
    (hs : ∀ c : Fin 512, s (ix2 0 c) = ((S c.val : ℝ) : EReal))
    (h1 : num i < 15 → ∀ r c, r < 16 → G1 r c = G (512 * num i + 512 + r) c ∧ C1 r c = C (512 * num i + 512 + r) c)
    (h0 : ∀ t c, 8192 ≤ t → C t c = 0) (r : Fin 16) (c : Fin 512) :
    k0_pay19 (F := Ideal) (Pool.wd i) y u s (ix2 r c) = ((hh G C S (512 * num i + 512 + r.val) c.val : ℝ) : EReal) := by
  have hn := num_lt i
  pointwise [k0_pay19, Pool.wd]
  rw [hy, hu, hs]
  refine (congrArg (fun z : EReal => (((C1 r.val c.val : ℝ) : EReal) * (((G1 r.val c.val : ℝ) : EReal) * Ideal.logistic ((G1 r.val c.val : ℝ) : EReal)) * ((S c.val : ℝ) : EReal)) * z) (flag_lt i)).trans ?_
  rw [logistic_sg, mul_coe, mul_coe, mul_coe, mul_coe]
  refine congrArg _ ?_
  unfold hh cg
  by_cases hl : num i < 15
  · obtain ⟨e1, e2⟩ := h1 hl r.val c.val r.isLt
    rw [if_pos hl, e1, e2, mul_one]
  · rw [if_neg hl, h0 (512 * num i + 512 + r.val) c.val (by omega)]
    ring
end Gates

/-! ## The groups' products -/

/-- A product of reals, column by column of a group's matrix. -/
theorem prod_at (f g : ℕ → ℝ) : ∑ k : Fin 128, ((f k.val : ℝ) : EReal) * ((g k.val : ℝ) : EReal) = ((∑ k ∈ Finset.range 128, f k * g k : ℝ) : EReal) :=
  (Finset.sum_congr rfl fun k _ => mul_coe _ _).trans (sum_coe (fun k => f k * g k))
theorem rows_at (f g : ℕ → ℝ) : ∑ k : Fin 512, ((f k.val : ℝ) : EReal) * ((g k.val : ℝ) : EReal) = ((∑ k ∈ Finset.range 512, f k * g k : ℝ) : EReal) :=
  (Finset.sum_congr rfl fun k _ => mul_coe _ _).trans (sum_coe (fun k => f k * g k))

theorem dg_close (X G C : ℕ → ℕ → ℝ) (W : ℕ → ℕ → ℕ → ℝ) (S : ℕ → ℝ) (g t b c : ℕ) (hc : c = 128 * g + b) :
    ((C t c * pw X W g t b * S (128 * g + b) * (sg (G t c) * (1 + G t c * (1 - sg (G t c)))) : ℝ) : EReal) = ((dg X G C W S g t b : ℝ) : EReal) := by
  subst hc; rfl

section Products
variable (n : ℕ) (X G C : ℕ → ℕ → ℝ) (W : ℕ → ℕ → ℕ → ℝ) (S : ℕ → ℝ)

/-! ### Group 0 -/

theorem pay21_at (p : R32 S512x128) (w : Vec Ideal S1x128x128 .bf16)
    (hp : ∀ (r : Fin 512) (a : Fin 128), p (ix2 r a) = ((pl X 0 (512 * n + r.val) a.val : ℝ) : EReal))
    (hw : ∀ a b : Fin 128, w (ix3 0 a b) = ((W 0 a.val b.val : ℝ) : EReal)) (r : Fin 512) (b : Fin 128) :
    k0_pay21 (F := Ideal) p w (ix2 r b) = ((pw X W 0 (512 * n + r.val) b.val : ℝ) : EReal) := by
  pointwise [k0_pay21]
  simp only [hp, hw]
  exact prod_at (fun a => pl X 0 (512 * n + r.val) a) (fun a => W 0 a b.val)

theorem pay22_at (p : R32 S512x128) (d e : R32 S512x512) (w : Vec Ideal S1x128x128 .bf16) (s : Vec Ideal S1x128 .f32)
    (hp : ∀ (r : Fin 512) (a : Fin 128), p (ix2 r a) = ((pl X 0 (512 * n + r.val) a.val : ℝ) : EReal))
    (hd : ∀ (r : Fin 512) (c : Fin 512), d (ix2 r c) = ((sg (G (512 * n + r.val) c.val) * (1 + G (512 * n + r.val) c.val * (1 - sg (G (512 * n + r.val) c.val))) : ℝ) : EReal))
    (he : ∀ (r : Fin 512) (c : Fin 512), e (ix2 r c) = ((C (512 * n + r.val) c.val : ℝ) : EReal))
    (hw : ∀ a b : Fin 128, w (ix3 0 a b) = ((W 0 a.val b.val : ℝ) : EReal))
    (hs : ∀ b : Fin 128, s (ix2 0 b) = ((S (128 * 0 + b.val) : ℝ) : EReal)) (r : Fin 512) (b : Fin 128) :
    k0_pay22 (F := Ideal) p d e w s (ix3 0 r b) = ((dg X G C W S 0 (512 * n + r.val) b.val : ℝ) : EReal) := by
  pointwise [k0_pay22]
  rw [pay21_at n X W p w hp hw, hd, he, hs, mul_coe, mul_coe, mul_coe]
  exact dg_close X G C W S 0 (512 * n + r.val) b.val (b.val) (by omega)

theorem pay25_at (h : R32 S512x512) (w : Vec Ideal S1x128x128 .bf16)
    (hq : ∀ (r : Fin 512) (c : Fin 512), h (ix2 r c) = ((hh G C S (512 * n + r.val) c.val : ℝ) : EReal))
    (hw : ∀ a b : Fin 128, w (ix3 0 b a) = ((W 0 a.val b.val : ℝ) : EReal)) (r : Fin 512) (a : Fin 128) :
    k0_pay25 (F := Ideal) h w (ix2 r a) = ((dp G C W S 0 (512 * n + r.val) a.val : ℝ) : EReal) := by
  pointwise [k0_pay25]
  simp only [hq, hw]
  refine (prod_at (fun b => hh G C S (512 * n + r.val) (b)) (fun b => W 0 a.val b)).trans ?_
  unfold dp
  exact congrArg _ (Finset.sum_congr rfl fun b _ => by rw [show 128 * 0 + b = b by omega])

theorem pay24_at (p : R32 S512x128) (h : R32 S512x512) (v : Vec Ideal S1x128x128 .f32)
    (hp : ∀ (r : Fin 512) (a : Fin 128), p (ix2 r a) = ((pl X 0 (512 * n + r.val) a.val : ℝ) : EReal))
    (hq : ∀ (r : Fin 512) (c : Fin 512), h (ix2 r c) = ((hh G C S (512 * n + r.val) c.val : ℝ) : EReal))
    (hv : ∀ a b : Fin 128, v (ix3 0 a b) = ((dW X G C S 0 a.val b.val (512 * n) : ℝ) : EReal)) (a b : Fin 128) :
    k0_pay24 (F := Ideal) p h v (ix3 0 a b) = ((dW X G C S 0 a.val b.val (512 * n + 512) : ℝ) : EReal) := by
  pointwise [k0_pay24]
  simp only [hp, hq, hv]
  refine (congrArg (_ + ·) (rows_at (fun r => pl X 0 (512 * n + r) a.val) (fun r => hh G C S (512 * n + r) (b.val)))).trans ?_
  rw [add_coe]
  unfold dW
  rw [Finset.sum_range_add, show 128 * 0 + b.val = b.val by omega]

theorem pay23_at (p : R32 S512x128) (e : R32 S512x512) (w : Vec Ideal S1x128x128 .bf16) (v : Vec Ideal S1x128 .f32)
    (hp : ∀ (r : Fin 512) (a : Fin 128), p (ix2 r a) = ((pl X 0 (512 * n + r.val) a.val : ℝ) : EReal))
    (hw : ∀ a b : Fin 128, w (ix3 0 a b) = ((W 0 a.val b.val : ℝ) : EReal))
    (he : ∀ (r : Fin 512) (c : Fin 512), e (ix2 r c) = ((cg G C (512 * n + r.val) c.val : ℝ) : EReal))
    (hv : ∀ b : Fin 128, v (ix2 0 b) = ((dS X G C W 0 b.val (512 * n) : ℝ) : EReal)) (b : Fin 128) :
    k0_pay23 (F := Ideal) p e w v (ix2 0 b) = ((dS X G C W 0 b.val (512 * n + 512) : ℝ) : EReal) := by
  pointwise [k0_pay23]
  simp only [pay21_at n X W p w hp hw, he, hv]
  refine (congrArg (_ + ·) (rows_at (fun r => cg G C (512 * n + r) (b.val)) (fun r => pw X W 0 (512 * n + r) b.val))).trans ?_
  rw [add_coe]
  unfold dS
  rw [Finset.sum_range_add, show 128 * 0 + b.val = b.val by omega]

/-! ### Group 1 -/

theorem pay27_at (p : R32 S512x128) (w : Vec Ideal S1x128x128 .bf16)
    (hp : ∀ (r : Fin 512) (a : Fin 128), p (ix2 r a) = ((pl X 1 (512 * n + r.val) a.val : ℝ) : EReal))
    (hw : ∀ a b : Fin 128, w (ix3 0 a b) = ((W 1 a.val b.val : ℝ) : EReal)) (r : Fin 512) (b : Fin 128) :
    k0_pay27 (F := Ideal) p w (ix2 r b) = ((pw X W 1 (512 * n + r.val) b.val : ℝ) : EReal) := by
  pointwise [k0_pay27]
  simp only [hp, hw]
  exact prod_at (fun a => pl X 1 (512 * n + r.val) a) (fun a => W 1 a b.val)

theorem pay28_at (p : R32 S512x128) (d e : R32 S512x512) (w : Vec Ideal S1x128x128 .bf16) (s : Vec Ideal S1x128 .f32)
    (hp : ∀ (r : Fin 512) (a : Fin 128), p (ix2 r a) = ((pl X 1 (512 * n + r.val) a.val : ℝ) : EReal))
    (hd : ∀ (r : Fin 512) (c : Fin 512), d (ix2 r c) = ((sg (G (512 * n + r.val) c.val) * (1 + G (512 * n + r.val) c.val * (1 - sg (G (512 * n + r.val) c.val))) : ℝ) : EReal))
    (he : ∀ (r : Fin 512) (c : Fin 512), e (ix2 r c) = ((C (512 * n + r.val) c.val : ℝ) : EReal))
    (hw : ∀ a b : Fin 128, w (ix3 0 a b) = ((W 1 a.val b.val : ℝ) : EReal))
    (hs : ∀ b : Fin 128, s (ix2 0 b) = ((S (128 * 1 + b.val) : ℝ) : EReal)) (r : Fin 512) (b : Fin 128) :
    k0_pay28 (F := Ideal) p d e w s (ix3 0 r b) = ((dg X G C W S 1 (512 * n + r.val) b.val : ℝ) : EReal) := by
  pointwise [k0_pay28]
  rw [pay27_at n X W p w hp hw, hd, he, hs, mul_coe, mul_coe, mul_coe]
  exact dg_close X G C W S 1 (512 * n + r.val) b.val (128 + b.val) (by omega)

theorem pay31_at (h : R32 S512x512) (w : Vec Ideal S1x128x128 .bf16)
    (hq : ∀ (r : Fin 512) (c : Fin 512), h (ix2 r c) = ((hh G C S (512 * n + r.val) c.val : ℝ) : EReal))
    (hw : ∀ a b : Fin 128, w (ix3 0 b a) = ((W 1 a.val b.val : ℝ) : EReal)) (r : Fin 512) (a : Fin 128) :
    k0_pay31 (F := Ideal) h w (ix2 r a) = ((dp G C W S 1 (512 * n + r.val) a.val : ℝ) : EReal) := by
  pointwise [k0_pay31]
  simp only [hq, hw]
  refine (prod_at (fun b => hh G C S (512 * n + r.val) (128 + b)) (fun b => W 1 a.val b)).trans ?_
  unfold dp
  exact congrArg _ (Finset.sum_congr rfl fun b _ => by rw [show 128 * 1 + b = 128 + b by omega])

theorem pay30_at (p : R32 S512x128) (h : R32 S512x512) (v : Vec Ideal S1x128x128 .f32)
    (hp : ∀ (r : Fin 512) (a : Fin 128), p (ix2 r a) = ((pl X 1 (512 * n + r.val) a.val : ℝ) : EReal))
    (hq : ∀ (r : Fin 512) (c : Fin 512), h (ix2 r c) = ((hh G C S (512 * n + r.val) c.val : ℝ) : EReal))
    (hv : ∀ a b : Fin 128, v (ix3 0 a b) = ((dW X G C S 1 a.val b.val (512 * n) : ℝ) : EReal)) (a b : Fin 128) :
    k0_pay30 (F := Ideal) p h v (ix3 0 a b) = ((dW X G C S 1 a.val b.val (512 * n + 512) : ℝ) : EReal) := by
  pointwise [k0_pay30]
  simp only [hp, hq, hv]
  refine (congrArg (_ + ·) (rows_at (fun r => pl X 1 (512 * n + r) a.val) (fun r => hh G C S (512 * n + r) (128 + b.val)))).trans ?_
  rw [add_coe]
  unfold dW
  rw [Finset.sum_range_add, show 128 * 1 + b.val = 128 + b.val by omega]

theorem pay29_at (e : R32 S512x512) (p : R32 S512x128) (v : Vec Ideal S1x128 .f32)
    (hp : ∀ (r : Fin 512) (b : Fin 128), p (ix2 r b) = ((pw X W 1 (512 * n + r.val) b.val : ℝ) : EReal))
    (he : ∀ (r : Fin 512) (c : Fin 512), e (ix2 r c) = ((cg G C (512 * n + r.val) c.val : ℝ) : EReal))
    (hv : ∀ b : Fin 128, v (ix2 0 b) = ((dS X G C W 1 b.val (512 * n) : ℝ) : EReal)) (b : Fin 128) :
    k0_pay29 (F := Ideal) e p v (ix2 0 b) = ((dS X G C W 1 b.val (512 * n + 512) : ℝ) : EReal) := by
  pointwise [k0_pay29]
  simp only [hp, he, hv]
  refine (congrArg (_ + ·) (rows_at (fun r => cg G C (512 * n + r) (128 + b.val)) (fun r => pw X W 1 (512 * n + r) b.val))).trans ?_
  rw [add_coe]
  unfold dS
  rw [Finset.sum_range_add, show 128 * 1 + b.val = 128 + b.val by omega]

/-! ### Group 2 -/

theorem pay33_at (p : R32 S512x128) (w : Vec Ideal S1x128x128 .bf16)
    (hp : ∀ (r : Fin 512) (a : Fin 128), p (ix2 r a) = ((pl X 2 (512 * n + r.val) a.val : ℝ) : EReal))
    (hw : ∀ a b : Fin 128, w (ix3 0 a b) = ((W 2 a.val b.val : ℝ) : EReal)) (r : Fin 512) (b : Fin 128) :
    k0_pay33 (F := Ideal) p w (ix2 r b) = ((pw X W 2 (512 * n + r.val) b.val : ℝ) : EReal) := by
  pointwise [k0_pay33]
  simp only [hp, hw]
  exact prod_at (fun a => pl X 2 (512 * n + r.val) a) (fun a => W 2 a b.val)

theorem pay34_at (p : R32 S512x128) (d e : R32 S512x512) (w : Vec Ideal S1x128x128 .bf16) (s : Vec Ideal S1x128 .f32)
    (hp : ∀ (r : Fin 512) (a : Fin 128), p (ix2 r a) = ((pl X 2 (512 * n + r.val) a.val : ℝ) : EReal))
    (hd : ∀ (r : Fin 512) (c : Fin 512), d (ix2 r c) = ((sg (G (512 * n + r.val) c.val) * (1 + G (512 * n + r.val) c.val * (1 - sg (G (512 * n + r.val) c.val))) : ℝ) : EReal))
    (he : ∀ (r : Fin 512) (c : Fin 512), e (ix2 r c) = ((C (512 * n + r.val) c.val : ℝ) : EReal))
    (hw : ∀ a b : Fin 128, w (ix3 0 a b) = ((W 2 a.val b.val : ℝ) : EReal))
    (hs : ∀ b : Fin 128, s (ix2 0 b) = ((S (128 * 2 + b.val) : ℝ) : EReal)) (r : Fin 512) (b : Fin 128) :
    k0_pay34 (F := Ideal) p d e w s (ix3 0 r b) = ((dg X G C W S 2 (512 * n + r.val) b.val : ℝ) : EReal) := by
  pointwise [k0_pay34]
  rw [pay33_at n X W p w hp hw, hd, he, hs, mul_coe, mul_coe, mul_coe]
  exact dg_close X G C W S 2 (512 * n + r.val) b.val (256 + b.val) (by omega)

theorem pay38_at (h : R32 S512x512) (w : Vec Ideal S1x128x128 .bf16)
    (hq : ∀ (r : Fin 512) (c : Fin 512), h (ix2 r c) = ((hh G C S (512 * n + r.val) c.val : ℝ) : EReal))
    (hw : ∀ a b : Fin 128, w (ix3 0 b a) = ((W 2 a.val b.val : ℝ) : EReal)) (r : Fin 512) (a : Fin 128) :
    k0_pay38 (F := Ideal) h w (ix2 r a) = ((dp G C W S 2 (512 * n + r.val) a.val : ℝ) : EReal) := by
  pointwise [k0_pay38]
  simp only [hq, hw]
  refine (prod_at (fun b => hh G C S (512 * n + r.val) (256 + b)) (fun b => W 2 a.val b)).trans ?_
  unfold dp
  exact congrArg _ (Finset.sum_congr rfl fun b _ => by rw [show 128 * 2 + b = 256 + b by omega])

theorem pay36_at (p : R32 S512x128) (h : R32 S512x512) (v : Vec Ideal S1x128x128 .f32)
    (hp : ∀ (r : Fin 512) (a : Fin 128), p (ix2 r a) = ((pl X 2 (512 * n + r.val) a.val : ℝ) : EReal))
    (hq : ∀ (r : Fin 512) (c : Fin 512), h (ix2 r c) = ((hh G C S (512 * n + r.val) c.val : ℝ) : EReal))
    (hv : ∀ a b : Fin 128, v (ix3 0 a b) = ((dW X G C S 2 a.val b.val (512 * n) : ℝ) : EReal)) (a b : Fin 128) :
    k0_pay37 (k0_pay36 (F := Ideal) p h v) (ix3 0 a b) = ((dW X G C S 2 a.val b.val (512 * n + 512) : ℝ) : EReal) := by
  pointwise [k0_pay36, k0_pay37]
  simp only [hp, hq, hv]
  refine (congrArg (_ + ·) (rows_at (fun r => pl X 2 (512 * n + r) a.val) (fun r => hh G C S (512 * n + r) (256 + b.val)))).trans ?_
  rw [add_coe]
  unfold dW
  rw [Finset.sum_range_add, show 128 * 2 + b.val = 256 + b.val by omega]

theorem pay35_at (p : R32 S512x128) (e : R32 S512x512) (w : Vec Ideal S1x128x128 .bf16) (v : Vec Ideal S1x128 .f32)
    (hp : ∀ (r : Fin 512) (a : Fin 128), p (ix2 r a) = ((pl X 2 (512 * n + r.val) a.val : ℝ) : EReal))
    (hw : ∀ a b : Fin 128, w (ix3 0 a b) = ((W 2 a.val b.val : ℝ) : EReal))
    (he : ∀ (r : Fin 512) (c : Fin 512), e (ix2 r c) = ((cg G C (512 * n + r.val) c.val : ℝ) : EReal))
    (hv : ∀ b : Fin 128, v (ix2 0 b) = ((dS X G C W 2 b.val (512 * n) : ℝ) : EReal)) (b : Fin 128) :
    k0_pay35 (F := Ideal) p e w v (ix2 0 b) = ((dS X G C W 2 b.val (512 * n + 512) : ℝ) : EReal) := by
  pointwise [k0_pay35]
  simp only [pay33_at n X W p w hp hw, he, hv]
  refine (congrArg (_ + ·) (rows_at (fun r => cg G C (512 * n + r) (256 + b.val)) (fun r => pw X W 2 (512 * n + r) b.val))).trans ?_
  rw [add_coe]
  unfold dS
  rw [Finset.sum_range_add, show 128 * 2 + b.val = 256 + b.val by omega]

/-! ### Group 3 -/

theorem pay40_at (p : R32 S512x128) (w : Vec Ideal S1x128x128 .bf16)
    (hp : ∀ (r : Fin 512) (a : Fin 128), p (ix2 r a) = ((pl X 3 (512 * n + r.val) a.val : ℝ) : EReal))
    (hw : ∀ a b : Fin 128, w (ix3 0 a b) = ((W 3 a.val b.val : ℝ) : EReal)) (r : Fin 512) (b : Fin 128) :
    k0_pay40 (F := Ideal) p w (ix2 r b) = ((pw X W 3 (512 * n + r.val) b.val : ℝ) : EReal) := by
  pointwise [k0_pay40]
  simp only [hp, hw]
  exact prod_at (fun a => pl X 3 (512 * n + r.val) a) (fun a => W 3 a b.val)

theorem pay41_at (p : R32 S512x128) (d e : R32 S512x512) (w : Vec Ideal S1x128x128 .bf16) (s : Vec Ideal S1x128 .f32)
    (hp : ∀ (r : Fin 512) (a : Fin 128), p (ix2 r a) = ((pl X 3 (512 * n + r.val) a.val : ℝ) : EReal))
    (hd : ∀ (r : Fin 512) (c : Fin 512), d (ix2 r c) = ((sg (G (512 * n + r.val) c.val) * (1 + G (512 * n + r.val) c.val * (1 - sg (G (512 * n + r.val) c.val))) : ℝ) : EReal))
    (he : ∀ (r : Fin 512) (c : Fin 512), e (ix2 r c) = ((C (512 * n + r.val) c.val : ℝ) : EReal))
    (hw : ∀ a b : Fin 128, w (ix3 0 a b) = ((W 3 a.val b.val : ℝ) : EReal))
    (hs : ∀ b : Fin 128, s (ix2 0 b) = ((S (128 * 3 + b.val) : ℝ) : EReal)) (r : Fin 512) (b : Fin 128) :
    k0_pay41 (F := Ideal) p d e w s (ix3 0 r b) = ((dg X G C W S 3 (512 * n + r.val) b.val : ℝ) : EReal) := by
  pointwise [k0_pay41]
  rw [pay40_at n X W p w hp hw, hd, he, hs, mul_coe, mul_coe, mul_coe]
  exact dg_close X G C W S 3 (512 * n + r.val) b.val (384 + b.val) (by omega)

theorem pay44_at (h : R32 S512x512) (w : Vec Ideal S1x128x128 .bf16)
    (hq : ∀ (r : Fin 512) (c : Fin 512), h (ix2 r c) = ((hh G C S (512 * n + r.val) c.val : ℝ) : EReal))
    (hw : ∀ a b : Fin 128, w (ix3 0 b a) = ((W 3 a.val b.val : ℝ) : EReal)) (r : Fin 512) (a : Fin 128) :
    k0_pay44 (F := Ideal) h w (ix2 r a) = ((dp G C W S 3 (512 * n + r.val) a.val : ℝ) : EReal) := by
  pointwise [k0_pay44]
  simp only [hq, hw]
  refine (prod_at (fun b => hh G C S (512 * n + r.val) (384 + b)) (fun b => W 3 a.val b)).trans ?_
  unfold dp
  exact congrArg _ (Finset.sum_congr rfl fun b _ => by rw [show 128 * 3 + b = 384 + b by omega])

theorem pay43_at (p : R32 S512x128) (h : R32 S512x512) (v : Vec Ideal S1x128x128 .f32)
    (hp : ∀ (r : Fin 512) (a : Fin 128), p (ix2 r a) = ((pl X 3 (512 * n + r.val) a.val : ℝ) : EReal))
    (hq : ∀ (r : Fin 512) (c : Fin 512), h (ix2 r c) = ((hh G C S (512 * n + r.val) c.val : ℝ) : EReal))
    (hv : ∀ a b : Fin 128, v (ix3 0 a b) = ((dW X G C S 3 a.val b.val (512 * n) : ℝ) : EReal)) (a b : Fin 128) :
    k0_pay43 (F := Ideal) p h v (ix3 0 a b) = ((dW X G C S 3 a.val b.val (512 * n + 512) : ℝ) : EReal) := by
  pointwise [k0_pay43]
  simp only [hp, hq, hv]
  refine (congrArg (_ + ·) (rows_at (fun r => pl X 3 (512 * n + r) a.val) (fun r => hh G C S (512 * n + r) (384 + b.val)))).trans ?_
  rw [add_coe]
  unfold dW
  rw [Finset.sum_range_add, show 128 * 3 + b.val = 384 + b.val by omega]

theorem pay42_at (e : R32 S512x512) (p : R32 S512x128) (v : Vec Ideal S1x128 .f32)
    (hp : ∀ (r : Fin 512) (b : Fin 128), p (ix2 r b) = ((pw X W 3 (512 * n + r.val) b.val : ℝ) : EReal))
    (he : ∀ (r : Fin 512) (c : Fin 512), e (ix2 r c) = ((cg G C (512 * n + r.val) c.val : ℝ) : EReal))
    (hv : ∀ b : Fin 128, v (ix2 0 b) = ((dS X G C W 3 b.val (512 * n) : ℝ) : EReal)) (b : Fin 128) :
    k0_pay42 (F := Ideal) e p v (ix2 0 b) = ((dS X G C W 3 b.val (512 * n + 512) : ℝ) : EReal) := by
  pointwise [k0_pay42]
  simp only [hp, he, hv]
  refine (congrArg (_ + ·) (rows_at (fun r => cg G C (512 * n + r) (384 + b.val)) (fun r => pw X W 3 (512 * n + r) b.val))).trans ?_
  rw [add_coe]
  unfold dS
  rw [Finset.sum_range_add, show 128 * 3 + b.val = 384 + b.val by omega]
end Products

end Cert.PoolVal

end
-- ==== Proof.Val.TileC.lean ====
/- The body's forward window sums on real blocks. -/
module

public import proofs.«01_k».proof.Proof.Val.TileB

@[expose] public section

set_option maxRecDepth 16384

noncomputable section

namespace Cert.PoolVal

open KernelIdeal KernelIdeal.Gen
open Idealize.ShloMosaic Idealize.ShloMosaic.TcCoe

/-- A quotient by the window's length, as the body forms it. -/
theorem div_min (x v : ℝ) (t w : ℕ) (hw : w ≠ 0) (hv : v = (w : ℝ)) :
    Ideal.div (x : EReal) (min (((t : ℝ) + 1 : ℝ) : EReal) ((v : ℝ) : EReal)) = ((x * (1 / den w t) : ℝ) : EReal) := by
  subst hv
  rw [coe_min]
  exact div_den x w t hw

section Ext
variable (n : ℕ) (G C : ℕ → ℕ → ℝ) (W : ℕ → ℕ → ℕ → ℝ) (S : ℕ → ℝ)
  (p5 : R32 S512x1) (h : R32 S512x512) (h' : R32 S16x512) (p20 : R32 S16x1)
  (hp5 : ∀ r : Fin 512, p5 (ix2 r 0) = ((((512 * n + r.val : ℕ) : ℝ) + 1 : ℝ) : EReal))
  (hq : ∀ (r : Fin 512) (c : Fin 512), h (ix2 r c) = ((hh G C S (512 * n + r.val) c.val : ℝ) : EReal))
  (hq' : ∀ (r : Fin 16) (c : Fin 512), h' (ix2 r c) = ((hh G C S (512 * n + 512 + r.val) c.val : ℝ) : EReal))
  (hp20 : ∀ r : Fin 16, p20 (ix2 r 0) = ((((512 * n + 512 + r.val : ℕ) : ℝ) + 1 : ℝ) : EReal))
include hp5 hq hq' hp20

theorem pay26_at (w : Vec Ideal S1x128x128 .bf16)
    (hw : ∀ a b : Fin 128, w (ix3 0 b a) = ((W 0 a.val b.val : ℝ) : EReal)) (r : Fin 528) (a : Fin 128) :
    k0_pay26 (F := Ideal) p5 h h' p20 w w (ix2 r a) = ((qq G C W S 0 (512 * n + r.val) a.val : ℝ) : EReal) := by
  pointwise [k0_pay26]
  by_cases hr : r.val < 512
  · rw [dif_pos hr, pay25_at n G C W S h w hq hw, hp5, ofBits_two]
    exact div_min _ _ (512 * n + r.val) 2 (by omega) (by norm_num)
  · rw [dif_neg hr, hp20, ofBits_two]
    simp only [hq', hw]
    refine (congrArg (fun z => Ideal.div z _) (prod_at (fun b => hh G C S (512 * n + 512 + (r.val - 512)) (b)) (fun b => W 0 a.val b))).trans ?_
    refine (div_min _ _ (512 * n + 512 + (r.val - 512)) 2 (by omega) (by norm_num)).trans ?_
    unfold qq dp
    rw [show 512 * n + 512 + (r.val - 512) = 512 * n + r.val by omega]
    refine congrArg (fun z : ℝ => ((z * _ : ℝ) : EReal)) (Finset.sum_congr rfl fun b _ => ?_)
    rw [show 128 * 0 + b = b by omega]

theorem pay32_at (w : Vec Ideal S1x128x128 .bf16)
    (hw : ∀ a b : Fin 128, w (ix3 0 b a) = ((W 1 a.val b.val : ℝ) : EReal)) (r : Fin 528) (a : Fin 128) :
    k0_pay32 (F := Ideal) p5 h h' p20 w w (ix2 r a) = ((qq G C W S 1 (512 * n + r.val) a.val : ℝ) : EReal) := by
  pointwise [k0_pay32]
  by_cases hr : r.val < 512
  · rw [dif_pos hr, pay31_at n G C W S h w hq hw, hp5, ofBits_four]
    exact div_min _ _ (512 * n + r.val) 4 (by omega) (by norm_num)
  · rw [dif_neg hr, hp20, ofBits_four]
    simp only [hq', hw]
    refine (congrArg (fun z => Ideal.div z _) (prod_at (fun b => hh G C S (512 * n + 512 + (r.val - 512)) (128 + b)) (fun b => W 1 a.val b))).trans ?_
    refine (div_min _ _ (512 * n + 512 + (r.val - 512)) 4 (by omega) (by norm_num)).trans ?_
    unfold qq dp
    rw [show 512 * n + 512 + (r.val - 512) = 512 * n + r.val by omega]
    refine congrArg (fun z : ℝ => ((z * _ : ℝ) : EReal)) (Finset.sum_congr rfl fun b _ => ?_)
    rw [show 128 * 1 + b = 128 + b by omega]

theorem pay39_at (w : Vec Ideal S1x128x128 .bf16)
    (hw : ∀ a b : Fin 128, w (ix3 0 b a) = ((W 2 a.val b.val : ℝ) : EReal)) (r : Fin 528) (a : Fin 128) :
    k0_pay39 (F := Ideal) p5 h h' p20 w w (ix2 r a) = ((qq G C W S 2 (512 * n + r.val) a.val : ℝ) : EReal) := by
  pointwise [k0_pay39]
  by_cases hr : r.val < 512
  · rw [dif_pos hr, pay38_at n G C W S h w hq hw, hp5, ofBits_eight]
    exact div_min _ _ (512 * n + r.val) 8 (by omega) (by norm_num)
  · rw [dif_neg hr, hp20, ofBits_eight]
    simp only [hq', hw]
    refine (congrArg (fun z => Ideal.div z _) (prod_at (fun b => hh G C S (512 * n + 512 + (r.val - 512)) (256 + b)) (fun b => W 2 a.val b))).trans ?_
    refine (div_min _ _ (512 * n + 512 + (r.val - 512)) 8 (by omega) (by norm_num)).trans ?_
    unfold qq dp
    rw [show 512 * n + 512 + (r.val - 512) = 512 * n + r.val by omega]
    refine congrArg (fun z : ℝ => ((z * _ : ℝ) : EReal)) (Finset.sum_congr rfl fun b _ => ?_)
    rw [show 128 * 2 + b = 256 + b by omega]

theorem pay45_at (w : Vec Ideal S1x128x128 .bf16)
    (hw : ∀ a b : Fin 128, w (ix3 0 b a) = ((W 3 a.val b.val : ℝ) : EReal)) (r : Fin 16) (a : Fin 128) :
    k0_pay45 (F := Ideal) h' w (ix2 r a) = ((dp G C W S 3 (512 * n + 512 + r.val) a.val : ℝ) : EReal) := by
  pointwise [k0_pay45]
  simp only [hq', hw]
  refine (prod_at (fun b => hh G C S (512 * n + 512 + r.val) (384 + b)) (fun b => W 3 a.val b)).trans ?_
  rfl

theorem pay46_at (w : Vec Ideal S1x128x128 .bf16)
    (hw : ∀ a b : Fin 128, w (ix3 0 b a) = ((W 3 a.val b.val : ℝ) : EReal)) (r : Fin 512) (a : Fin 128) :
    k0_pay46 (F := Ideal) p5 h w (ix2 r a) = ((qq G C W S 3 (512 * n + r.val) a.val : ℝ) : EReal) := by
  pointwise [k0_pay46]
  rw [pay44_at n G C W S h w hq hw, hp5, ofBits_sixteen]
  exact div_min _ _ (512 * n + r.val) 16 (by omega) (by norm_num)
end Ext

section Sums
variable (n : ℕ) (G C : ℕ → ℕ → ℝ) (W : ℕ → ℕ → ℕ → ℝ) (S : ℕ → ℝ)
  (e0 e1 e2 : R32 S528x128) (d3 : R32 S16x128) (q3 : R32 S512x128) (p20 : R32 S16x1)
  (h0 : ∀ (r : Fin 528) (a : Fin 128), e0 (ix2 r a) = ((qq G C W S 0 (512 * n + r.val) a.val : ℝ) : EReal))
  (h1 : ∀ (r : Fin 528) (a : Fin 128), e1 (ix2 r a) = ((qq G C W S 1 (512 * n + r.val) a.val : ℝ) : EReal))
  (h2 : ∀ (r : Fin 528) (a : Fin 128), e2 (ix2 r a) = ((qq G C W S 2 (512 * n + r.val) a.val : ℝ) : EReal))
  (hd : ∀ (r : Fin 16) (a : Fin 128), d3 (ix2 r a) = ((dp G C W S 3 (512 * n + 512 + r.val) a.val : ℝ) : EReal))
  (h3 : ∀ (r : Fin 512) (a : Fin 128), q3 (ix2 r a) = ((qq G C W S 3 (512 * n + r.val) a.val : ℝ) : EReal))
  (hp20 : ∀ r : Fin 16, p20 (ix2 r 0) = ((((512 * n + 512 + r.val : ℕ) : ℝ) + 1 : ℝ) : EReal))

/-- The quotients of the four groups side by side, as a function of the column. -/
def ecol (c u : ℕ) : ℝ := qq G C W S (c / 128) (512 * n + u) (c % 128)

include h0 h1 h2 hd h3 hp20

theorem pay48_at (r : Fin 528) (hr : r.val < 527) (c : Fin 512) :
    k0_pay48 (F := Ideal) e0 e1 e2 d3 q3 (k0_pay47 p20) (ix2 r c) = ((fwin 2 (ecol n G C W S c.val) r.val : ℝ) : EReal) := by
  have key : ∀ (u : ℕ) (hu : u < 528), (if h_1 : c.val < 128 then e0 (ix2 ⟨u, hu⟩ ⟨c.val, h_1⟩)
      else if h_2 : c.val - 128 < 128 then e1 (ix2 ⟨u, hu⟩ ⟨c.val - 128, h_2⟩)
      else if h_3 : c.val - 128 - 128 < 128 then e2 (ix2 ⟨u, hu⟩ ⟨c.val - 128 - 128, h_3⟩)
      else if h_4 : u < 512 then q3 (ix2 ⟨u, h_4⟩ ⟨c.val - 128 - 128 - 128, by omega⟩)
      else Ideal.div (d3 (ix2 ⟨u - 512, by omega⟩ ⟨c.val - 128 - 128 - 128, by omega⟩)) (min (p20 (ix2 ⟨u - 512, by omega⟩ 0)) (Ideal.ofBits .f32 0x41800000#32)))
        = ((ecol n G C W S c.val u : ℝ) : EReal) := by
    intro u hu
    have hc := c.isLt
    unfold ecol
    by_cases c0 : c.val < 128
    · rw [dif_pos c0, h0, show c.val / 128 = 0 by omega, show c.val % 128 = c.val by omega]
    · rw [dif_neg c0]
      by_cases c1 : c.val - 128 < 128
      · rw [dif_pos c1, h1, show c.val / 128 = 1 by omega, show c.val % 128 = c.val - 128 by omega]
      · rw [dif_neg c1]
        by_cases c2 : c.val - 128 - 128 < 128
        · rw [dif_pos c2, h2, show c.val / 128 = 2 by omega, show c.val % 128 = c.val - 128 - 128 by omega]
        · rw [dif_neg c2, show c.val / 128 = 3 by omega, show c.val % 128 = c.val - 128 - 128 - 128 by omega]
          by_cases hu2 : u < 512
          · rw [dif_pos hu2, h3]
          · rw [dif_neg hu2, hd, hp20, ofBits_sixteen]
            refine (div_min _ _ (512 * n + 512 + (u - 512)) 16 (by omega) (by norm_num)).trans ?_
            rw [show 512 * n + 512 + (u - 512) = 512 * n + u by omega]
            rfl
  pointwise [k0_pay48, k0_pay47]
  refine (congrArg₂ (· + ·) (key r.val r.isLt) (key ((r.val + 528 - 527) % 528) (by omega))).trans ?_
  rw [add_coe, show (r.val + 528 - 527) % 528 = r.val + 1 by omega]
  unfold fwin
  rw [Finset.sum_range_succ, Finset.sum_range_one]
  rfl

theorem pay49_at (r : Fin 528) (hr : r.val < 525) (c : Fin 512) :
    k0_pay49 (F := Ideal) e0 e1 e2 d3 q3 (k0_pay47 p20) (ix2 r c) = ((fwin 4 (ecol n G C W S c.val) r.val : ℝ) : EReal) := by
  pointwise [k0_pay49]
  have e : (r.val + 528 - 526) % 528 = r.val + 2 := by omega
  rw [pay48_at n G C W S e0 e1 e2 d3 q3 p20 h0 h1 h2 hd h3 hp20 r (by omega) c, pay48_at n G C W S e0 e1 e2 d3 q3 p20 h0 h1 h2 hd h3 hp20 ⟨(r.val + 528 - 526) % 528, by omega⟩ (by show (r.val + 528 - 526) % 528 < 527; omega) c, add_coe]
  refine congrArg _ ?_
  show fwin 2 _ r.val + fwin 2 _ ((r.val + 528 - 526) % 528) = _
  rw [e]
  exact fwin_two 2 _ _

theorem pay50_at (r : Fin 528) (hr : r.val < 521) (c : Fin 512) :
    k0_pay50 (F := Ideal) e0 e1 e2 d3 q3 (k0_pay47 p20) (ix2 r c) = ((fwin 8 (ecol n G C W S c.val) r.val : ℝ) : EReal) := by
  pointwise [k0_pay50]
  have e : (r.val + 528 - 524) % 528 = r.val + 4 := by omega
  rw [pay49_at n G C W S e0 e1 e2 d3 q3 p20 h0 h1 h2 hd h3 hp20 r (by omega) c, pay49_at n G C W S e0 e1 e2 d3 q3 p20 h0 h1 h2 hd h3 hp20 ⟨(r.val + 528 - 524) % 528, by omega⟩ (by show (r.val + 528 - 524) % 528 < 525; omega) c, add_coe]
  refine congrArg _ ?_
  show fwin 4 _ r.val + fwin 4 _ ((r.val + 528 - 524) % 528) = _
  rw [e]
  exact fwin_two 4 _ _
omit h0 h1 h2 hd h3 hp20 in
theorem close_dx (g r a c w : ℕ) (hw : w = wid g) (hc : c = 128 * g + a) (ha : a < 128) :
    ((fwin w (ecol n G C W S c) r : ℝ) : EReal) - ((dp G C W S g (512 * n + r) a : ℝ) : EReal) = ((dx G C W S g (512 * n + r) a : ℝ) : EReal) := by
  subst hw hc
  rw [sub_coe]
  unfold dx fwin ecol
  rw [show (128 * g + a) / 128 = g by omega, show (128 * g + a) % 128 = a by omega]
  simp only [Nat.add_assoc]

theorem out0_at (d : R32 S512x128) (hp : ∀ (r : Fin 512) (a : Fin 128), d (ix2 r a) = ((dp G C W S 0 (512 * n + r.val) a.val : ℝ) : EReal))
    (r : Fin 512) (a : Fin 128) :
    k0_pay51 (F := Ideal) d e0 e1 e2 d3 q3 (k0_pay47 p20) (ix3 0 r a) = ((dx G C W S 0 (512 * n + r.val) a.val : ℝ) : EReal) := by
  pointwise [k0_pay51]
  rw [pay48_at n G C W S e0 e1 e2 d3 q3 p20 h0 h1 h2 hd h3 hp20 ⟨r.val, by omega⟩ (by show r.val < _; omega) ⟨a.val, by omega⟩, hp]
  exact close_dx n G C W S 0 r.val a.val (a.val) 2 (by norm_num [wid]) (by omega) a.isLt

theorem out1_at (d : R32 S512x128) (hp : ∀ (r : Fin 512) (a : Fin 128), d (ix2 r a) = ((dp G C W S 1 (512 * n + r.val) a.val : ℝ) : EReal))
    (r : Fin 512) (a : Fin 128) :
    k0_pay52 (F := Ideal) e0 d e1 e2 d3 q3 (k0_pay47 p20) (ix3 0 r a) = ((dx G C W S 1 (512 * n + r.val) a.val : ℝ) : EReal) := by
  pointwise [k0_pay52]
  rw [pay49_at n G C W S e0 e1 e2 d3 q3 p20 h0 h1 h2 hd h3 hp20 ⟨r.val, by omega⟩ (by show r.val < _; omega) ⟨128 + a.val, by omega⟩, hp]
  exact close_dx n G C W S 1 r.val a.val (128 + a.val) 4 (by norm_num [wid]) (by omega) a.isLt

theorem out2_at (d : R32 S512x128) (hp : ∀ (r : Fin 512) (a : Fin 128), d (ix2 r a) = ((dp G C W S 2 (512 * n + r.val) a.val : ℝ) : EReal))
    (r : Fin 512) (a : Fin 128) :
    k0_pay53 (F := Ideal) e0 e1 d e2 d3 q3 (k0_pay47 p20) (ix3 0 r a) = ((dx G C W S 2 (512 * n + r.val) a.val : ℝ) : EReal) := by
  pointwise [k0_pay53]
  rw [pay50_at n G C W S e0 e1 e2 d3 q3 p20 h0 h1 h2 hd h3 hp20 ⟨r.val, by omega⟩ (by show r.val < _; omega) ⟨256 + a.val, by omega⟩, hp]
  exact close_dx n G C W S 2 r.val a.val (256 + a.val) 8 (by norm_num [wid]) (by omega) a.isLt

theorem out3_at (d : R32 S512x128) (hp : ∀ (r : Fin 512) (a : Fin 128), d (ix2 r a) = ((dp G C W S 3 (512 * n + r.val) a.val : ℝ) : EReal))
    (r : Fin 512) (a : Fin 128) :
    k0_pay55 (k0_pay54 (F := Ideal) e0 e1 e2 d d3 q3 (k0_pay47 p20)) (ix3 0 r a) = ((dx G C W S 3 (512 * n + r.val) a.val : ℝ) : EReal) := by
  pointwise [k0_pay54, k0_pay55]
  rw [pay50_at n G C W S e0 e1 e2 d3 q3 p20 h0 h1 h2 hd h3 hp20 ⟨r.val, by omega⟩ (by show r.val < _; omega) ⟨384 + a.val, by omega⟩, pay50_at n G C W S e0 e1 e2 d3 q3 p20 h0 h1 h2 hd h3 hp20 ⟨(r.val + 528 - 520) % 528, by omega⟩ (by show (r.val + 528 - 520) % 528 < _; omega) ⟨384 + a.val, by omega⟩, add_coe, hp, show fwin 8 (ecol n G C W S (384 + a.val)) r.val + fwin 8 (ecol n G C W S (384 + a.val)) ((r.val + 528 - 520) % 528) = fwin 16 (ecol n G C W S (384 + a.val)) r.val by rw [show (r.val + 528 - 520) % 528 = r.val + 8 by omega]; exact fwin_two 8 _ _]
  exact close_dx n G C W S 3 r.val a.val (384 + a.val) 16 (by norm_num [wid]) (by omega) a.isLt
end Sums

end Cert.PoolVal

end
-- ==== Proof.Val.TileD.lean ====
/- One step of the body on real blocks. -/
module

public import proofs.«01_k».proof.Proof.Val.TileC
public import Idealize.ShloMosaic.Lib.Pipeline.ValueKit

@[expose] public section

set_option maxRecDepth 16384

noncomputable section

namespace Cert.PoolVal

open KernelIdeal KernelIdeal.Gen
open Idealize.ShloMosaic Idealize.ShloMosaic.TcCoe

theorem ldB_at (x : Vec Ideal S512x512 .bf16) (r : Fin 512) (c : Fin 512) : Pool.ldB x (ix2 r c) = x (ix2 r c) := by pointwise [Pool.ldB]
theorem ldH_at (x : Vec Ideal S16x512 .bf16) (r : Fin 16) (c : Fin 512) : Pool.ldH x (ix2 r c) = x (ix2 r c) := by pointwise [Pool.ldH]
theorem ldS_at (x : Vec Ideal S1x512 .f32) (c : Fin 512) : Pool.ldS x (ix2 0 c) = x (ix2 0 c) := by pointwise [Pool.ldS]
theorem mat0_at {e : EltTy} (x : Vec Ideal S4x128x128 e) (a b : Fin 128) : Pool.mat0 x (ix3 0 a b) = x (ix3 0 a b) := by pointwise [Pool.mat0]
theorem col0_at (x : Vec Ideal S1x512 .f32) (b : Fin 128) : Pool.col0 x (ix2 0 b) = x (ix2 0 ⟨128 * 0 + b.val, by omega⟩) := by
  pointwise [Pool.col0]
theorem mat1_at {e : EltTy} (x : Vec Ideal S4x128x128 e) (a b : Fin 128) : Pool.mat1 x (ix3 0 a b) = x (ix3 1 a b) := by pointwise [Pool.mat1]
theorem col1_at (x : Vec Ideal S1x512 .f32) (b : Fin 128) : Pool.col1 x (ix2 0 b) = x (ix2 0 ⟨128 * 1 + b.val, by omega⟩) := by
  pointwise [Pool.col1]
theorem mat2_at {e : EltTy} (x : Vec Ideal S4x128x128 e) (a b : Fin 128) : Pool.mat2 x (ix3 0 a b) = x (ix3 2 a b) := by pointwise [Pool.mat2]
theorem col2_at (x : Vec Ideal S1x512 .f32) (b : Fin 128) : Pool.col2 x (ix2 0 b) = x (ix2 0 ⟨128 * 2 + b.val, by omega⟩) := by
  pointwise [Pool.col2]
theorem mat3_at {e : EltTy} (x : Vec Ideal S4x128x128 e) (a b : Fin 128) : Pool.mat3 x (ix3 0 a b) = x (ix3 3 a b) := by pointwise [Pool.mat3]
theorem col3_at (x : Vec Ideal S1x512 .f32) (b : Fin 128) : Pool.col3 x (ix2 0 b) = x (ix2 0 ⟨128 * 3 + b.val, by omega⟩) := by
  pointwise [Pool.col3]

theorem asm4_at (p0 p1 p2 p3 : S1x512x128.Idx → Elt Ideal .bf16) (f : ℕ → ℕ → ℕ → ℝ) (k : ℕ)
    (h0 : ∀ (r : Fin 512) (a : Fin 128), p0 (ix3 0 r a) = ((f 0 (k + r.val) a.val : ℝ) : EReal))
    (h1 : ∀ (r : Fin 512) (a : Fin 128), p1 (ix3 0 r a) = ((f 1 (k + r.val) a.val : ℝ) : EReal))
    (h2 : ∀ (r : Fin 512) (a : Fin 128), p2 (ix3 0 r a) = ((f 2 (k + r.val) a.val : ℝ) : EReal))
    (h3 : ∀ (r : Fin 512) (a : Fin 128), p3 (ix3 0 r a) = ((f 3 (k + r.val) a.val : ℝ) : EReal))
    (r : Fin 512) (c : Fin 512) :
    Pool.asm4 p0 p1 p2 p3 (ix2 r c) = ((f (c.val / 128) (k + r.val) (c.val % 128) : ℝ) : EReal) := by
  have hc := c.isLt
  unfold Pool.asm4
  simp only [← ix3_eq_valueIdx]
  show (if h0 : c.val < 128 then p0 (ix3 0 r ⟨c.val, h0⟩) else if h1 : c.val < 256 then p1 (ix3 0 r ⟨c.val - 128, by omega⟩)
    else if h2 : c.val < 384 then p2 (ix3 0 r ⟨c.val - 256, by omega⟩) else p3 (ix3 0 r ⟨c.val - 384, by omega⟩)) = _
  by_cases c0 : c.val < 128
  · rw [dif_pos c0, h0, show c.val / 128 = 0 by omega, show c.val % 128 = c.val by omega]
  · rw [dif_neg c0]
    by_cases c1 : c.val < 256
    · rw [dif_pos c1, h1, show c.val / 128 = 1 by omega, show c.val % 128 = c.val - 128 by omega]
    · rw [dif_neg c1]
      by_cases c2 : c.val < 384
      · rw [dif_pos c2, h2, show c.val / 128 = 2 by omega, show c.val % 128 = c.val - 256 by omega]
      · rw [dif_neg c2, h3, show c.val / 128 = 3 by omega, show c.val % 128 = c.val - 384 by omega]

section Step
variable (i : grid0.Coords) (x0 : Vec Ideal S512x512 .bf16) (x1 : Vec Ideal S16x512 .bf16) (x2 : Vec Ideal S512x512 .bf16) (x3 : Vec Ideal S16x512 .bf16) (x4 : Vec Ideal S512x512 .bf16)
  (x5 : Vec Ideal S16x512 .bf16) (x6 x7 : Vec Ideal S4x128x128 .bf16) (x8 : Vec Ideal S1x512 .f32)
  (X X1 G G1 C C1 : ℕ → ℕ → ℝ) (W : ℕ → ℕ → ℕ → ℝ) (S : ℕ → ℝ)

/-- The blocks a step reads are those of the real arrays. -/
structure Blocks : Prop where
  h0 : ∀ (r : Fin 512) (c : Fin 512), x0 (ix2 r c) = ((X (512 * num i + r.val) c.val : ℝ) : EReal)
  h1 : ∀ (r : Fin 16) (c : Fin 512), x1 (ix2 r c) = ((X1 r.val c.val : ℝ) : EReal)
  e1 : 0 < num i → ∀ r c, r < 16 → X1 r c = X (512 * num i + r - 16) c
  h2 : ∀ (r : Fin 512) (c : Fin 512), x2 (ix2 r c) = ((G (512 * num i + r.val) c.val : ℝ) : EReal)
  h3 : ∀ (r : Fin 16) (c : Fin 512), x3 (ix2 r c) = ((G1 r.val c.val : ℝ) : EReal)
  h4 : ∀ (r : Fin 512) (c : Fin 512), x4 (ix2 r c) = ((C (512 * num i + r.val) c.val : ℝ) : EReal)
  h5 : ∀ (r : Fin 16) (c : Fin 512), x5 (ix2 r c) = ((C1 r.val c.val : ℝ) : EReal)
  e5 : num i < 15 → ∀ r c, r < 16 → G1 r c = G (512 * num i + 512 + r) c ∧ C1 r c = C (512 * num i + 512 + r) c
  z5 : ∀ t c, 8192 ≤ t → C t c = 0
  h6 : ∀ (g : Fin 4) (a b : Fin 128), x6 (ix3 g a b) = ((W g.val a.val b.val : ℝ) : EReal)
  h7 : ∀ (g : Fin 4) (a b : Fin 128), x7 (ix3 g b a) = ((W g.val a.val b.val : ℝ) : EReal)
  h8 : ∀ c : Fin 512, x8 (ix2 0 c) = ((S c.val : ℝ) : EReal)

variable {i x0 x1 x2 x3 x4 x5 x6 x7 x8 X X1 G G1 C C1 W S}
  (B : Blocks i x0 x1 x2 x3 x4 x5 x6 x7 x8 X X1 G G1 C C1 W S)
include B

theorem pl0_at (r : Fin 512) (a : Fin 128) : Pool.pl0 i x0 x1 (ix2 r a) = ((pl X 0 (512 * num i + r.val) a.val : ℝ) : EReal) :=
  pay9_at i _ _ X X1 (fun r c => (by pointwise [k0_pay3] : k0_pay3 (Pool.ldB x0) (ix2 r c) = Pool.ldB x0 (ix2 r c)).trans ((ldB_at x0 r c).trans (B.h0 r c)))
    (fun r c => (by pointwise [k0_pay4] : k0_pay4 (Pool.ldH x1) (ix2 r c) = Pool.ldH x1 (ix2 r c)).trans ((ldH_at x1 r c).trans (B.h1 r c))) B.e1 r a
theorem w6_0 (a b : Fin 128) : Pool.mat0 x6 (ix3 0 a b) = ((W 0 a.val b.val : ℝ) : EReal) := (mat0_at x6 a b).trans (B.h6 0 a b)
theorem w7_0 (a b : Fin 128) : Pool.mat0 x7 (ix3 0 b a) = ((W 0 a.val b.val : ℝ) : EReal) := (mat0_at x7 b a).trans (B.h7 0 a b)
theorem s8_0 (b : Fin 128) : Pool.col0 x8 (ix2 0 b) = ((S (128 * 0 + b.val) : ℝ) : EReal) := (col0_at x8 b).trans (B.h8 _)

theorem pl1_at (r : Fin 512) (a : Fin 128) : Pool.pl1 i x0 x1 (ix2 r a) = ((pl X 1 (512 * num i + r.val) a.val : ℝ) : EReal) :=
  pay10_at i _ _ X X1 (fun r c => (by pointwise [k0_pay3] : k0_pay3 (Pool.ldB x0) (ix2 r c) = Pool.ldB x0 (ix2 r c)).trans ((ldB_at x0 r c).trans (B.h0 r c)))
    (fun r c => (by pointwise [k0_pay4] : k0_pay4 (Pool.ldH x1) (ix2 r c) = Pool.ldH x1 (ix2 r c)).trans ((ldH_at x1 r c).trans (B.h1 r c))) B.e1 r a
theorem w6_1 (a b : Fin 128) : Pool.mat1 x6 (ix3 0 a b) = ((W 1 a.val b.val : ℝ) : EReal) := (mat1_at x6 a b).trans (B.h6 1 a b)
theorem w7_1 (a b : Fin 128) : Pool.mat1 x7 (ix3 0 b a) = ((W 1 a.val b.val : ℝ) : EReal) := (mat1_at x7 b a).trans (B.h7 1 a b)
theorem s8_1 (b : Fin 128) : Pool.col1 x8 (ix2 0 b) = ((S (128 * 1 + b.val) : ℝ) : EReal) := (col1_at x8 b).trans (B.h8 _)

theorem pl2_at (r : Fin 512) (a : Fin 128) : Pool.pl2 i x0 x1 (ix2 r a) = ((pl X 2 (512 * num i + r.val) a.val : ℝ) : EReal) :=
  pay11_at i _ _ X X1 (fun r c => (by pointwise [k0_pay3] : k0_pay3 (Pool.ldB x0) (ix2 r c) = Pool.ldB x0 (ix2 r c)).trans ((ldB_at x0 r c).trans (B.h0 r c)))
    (fun r c => (by pointwise [k0_pay4] : k0_pay4 (Pool.ldH x1) (ix2 r c) = Pool.ldH x1 (ix2 r c)).trans ((ldH_at x1 r c).trans (B.h1 r c))) B.e1 r a
theorem w6_2 (a b : Fin 128) : Pool.mat2 x6 (ix3 0 a b) = ((W 2 a.val b.val : ℝ) : EReal) := (mat2_at x6 a b).trans (B.h6 2 a b)
theorem w7_2 (a b : Fin 128) : Pool.mat2 x7 (ix3 0 b a) = ((W 2 a.val b.val : ℝ) : EReal) := (mat2_at x7 b a).trans (B.h7 2 a b)
theorem s8_2 (b : Fin 128) : Pool.col2 x8 (ix2 0 b) = ((S (128 * 2 + b.val) : ℝ) : EReal) := (col2_at x8 b).trans (B.h8 _)

theorem pl3_at (r : Fin 512) (a : Fin 128) : Pool.pl3 i x0 x1 (ix2 r a) = ((pl X 3 (512 * num i + r.val) a.val : ℝ) : EReal) :=
  pay12_at i _ _ X X1 (fun r c => (by pointwise [k0_pay3] : k0_pay3 (Pool.ldB x0) (ix2 r c) = Pool.ldB x0 (ix2 r c)).trans ((ldB_at x0 r c).trans (B.h0 r c)))
    (fun r c => (by pointwise [k0_pay4] : k0_pay4 (Pool.ldH x1) (ix2 r c) = Pool.ldH x1 (ix2 r c)).trans ((ldH_at x1 r c).trans (B.h1 r c))) B.e1 r a
theorem w6_3 (a b : Fin 128) : Pool.mat3 x6 (ix3 0 a b) = ((W 3 a.val b.val : ℝ) : EReal) := (mat3_at x6 a b).trans (B.h6 3 a b)
theorem w7_3 (a b : Fin 128) : Pool.mat3 x7 (ix3 0 b a) = ((W 3 a.val b.val : ℝ) : EReal) := (mat3_at x7 b a).trans (B.h7 3 a b)
theorem s8_3 (b : Fin 128) : Pool.col3 x8 (ix2 0 b) = ((S (128 * 3 + b.val) : ℝ) : EReal) := (col3_at x8 b).trans (B.h8 _)

theorem g2 (r c : Fin 512) : Pool.ldB x2 (ix2 r c) = ((G (512 * num i + r.val) c.val : ℝ) : EReal) := (ldB_at x2 r c).trans (B.h2 r c)
theorem c4 (r c : Fin 512) : Pool.ldB x4 (ix2 r c) = ((C (512 * num i + r.val) c.val : ℝ) : EReal) := (ldB_at x4 r c).trans (B.h4 r c)
theorem c16 (r c : Fin 512) : k0_pay16 (Pool.ldB x4) (ix2 r c) = ((C (512 * num i + r.val) c.val : ℝ) : EReal) :=
  (by pointwise [k0_pay16] : k0_pay16 (Pool.ldB x4) (ix2 r c) = Pool.ldB x4 (ix2 r c)).trans (c4 B r c)
theorem s8 (c : Fin 512) : Pool.ldS x8 (ix2 0 c) = ((S c.val : ℝ) : EReal) := (ldS_at x8 c).trans (B.h8 c)
theorem dpw_at (r c : Fin 512) : Pool.dpw x2 x4 x8 (ix2 r c) = ((hh G C S (512 * num i + r.val) c.val : ℝ) : EReal) :=
  pay18_at (num i) G C S _ _ _ (g2 B) (c4 B) (s8 B) r c
theorem dpwn_at (r : Fin 16) (c : Fin 512) : Pool.dpwn i x3 x5 x8 (ix2 r c) = ((hh G C S (512 * num i + 512 + r.val) c.val : ℝ) : EReal) :=
  pay19_at G C S i G1 C1 _ _ _ (fun r c => (ldH_at x3 r c).trans (B.h3 r c)) (fun r c => (ldH_at x5 r c).trans (B.h5 r c)) (s8 B) B.e5 B.z5 r c
theorem d15 (r c : Fin 512) : k0_pay15 (Pool.ldB x2) (ix2 r c) = ((sg (G (512 * num i + r.val) c.val) * (1 + G (512 * num i + r.val) c.val * (1 - sg (G (512 * num i + r.val) c.val))) : ℝ) : EReal) := pay15_at (num i) G _ (g2 B) r c
theorem d17 (r c : Fin 512) : k0_pay17 (Pool.ldB x2) (Pool.ldB x4) (ix2 r c) = ((cg G C (512 * num i + r.val) c.val : ℝ) : EReal) := pay17_at (num i) G C _ _ (g2 B) (c4 B) r c

theorem stepG_at (r c : Fin 512) : Pool.stepG i x0 x1 x2 x4 x6 x8 (ix2 r c) = ((dg X G C W S (c.val / 128) (512 * num i + r.val) (c.val % 128) : ℝ) : EReal) :=
  asm4_at _ _ _ _ (dg X G C W S) (512 * num i)
    (pay22_at (num i) X G C W S _ _ _ _ _ (pl0_at B) (d15 B) (c16 B) (w6_0 B) (s8_0 B))
    (pay28_at (num i) X G C W S _ _ _ _ _ (pl1_at B) (d15 B) (c16 B) (w6_1 B) (s8_1 B))
    (pay34_at (num i) X G C W S _ _ _ _ _ (pl2_at B) (d15 B) (c16 B) (w6_2 B) (s8_2 B))
    (pay41_at (num i) X G C W S _ _ _ _ _ (pl3_at B) (d15 B) (c16 B) (w6_3 B) (s8_3 B)) r c

theorem ex0_at (r : Fin 528) (a : Fin 128) : Pool.ex0 i x2 x3 x4 x5 x7 x8 (ix2 r a) = ((qq G C W S 0 (512 * num i + r.val) a.val : ℝ) : EReal) :=
  pay26_at (num i) G C W S _ _ _ _ (pay5_at i) (dpw_at B) (dpwn_at B) (pay20_at i) _ (w7_0 B) r a
theorem ex1_at (r : Fin 528) (a : Fin 128) : Pool.ex1 i x2 x3 x4 x5 x7 x8 (ix2 r a) = ((qq G C W S 1 (512 * num i + r.val) a.val : ℝ) : EReal) :=
  pay32_at (num i) G C W S _ _ _ _ (pay5_at i) (dpw_at B) (dpwn_at B) (pay20_at i) _ (w7_1 B) r a
theorem ex2_at (r : Fin 528) (a : Fin 128) : Pool.ex2 i x2 x3 x4 x5 x7 x8 (ix2 r a) = ((qq G C W S 2 (512 * num i + r.val) a.val : ℝ) : EReal) :=
  pay39_at (num i) G C W S _ _ _ _ (pay5_at i) (dpw_at B) (dpwn_at B) (pay20_at i) _ (w7_2 B) r a

theorem stepX_at (r c : Fin 512) : Pool.stepX i x2 x3 x4 x5 x7 x8 (ix2 r c) = ((dx G C W S (c.val / 128) (512 * num i + r.val) (c.val % 128) : ℝ) : EReal) :=
  have h45 := pay45_at (num i) G C W S _ _ _ _ (pay5_at i) (dpw_at B) (dpwn_at B) (pay20_at i) _ (w7_3 B)
  have h46 := pay46_at (num i) G C W S _ _ _ _ (pay5_at i) (dpw_at B) (dpwn_at B) (pay20_at i) _ (w7_3 B)
  asm4_at _ _ _ _ (dx G C W S) (512 * num i)
    (out0_at (num i) G C W S _ _ _ _ _ _ (ex0_at B) (ex1_at B) (ex2_at B) h45 h46 (pay20_at i) _ (pay25_at (num i) G C W S _ _ (dpw_at B) (w7_0 B)))
    (out1_at (num i) G C W S _ _ _ _ _ _ (ex0_at B) (ex1_at B) (ex2_at B) h45 h46 (pay20_at i) _ (pay31_at (num i) G C W S _ _ (dpw_at B) (w7_1 B)))
    (out2_at (num i) G C W S _ _ _ _ _ _ (ex0_at B) (ex1_at B) (ex2_at B) h45 h46 (pay20_at i) _ (pay38_at (num i) G C W S _ _ (dpw_at B) (w7_2 B)))
    (out3_at (num i) G C W S _ _ _ _ _ _ (ex0_at B) (ex1_at B) (ex2_at B) h45 h46 (pay20_at i) _ (pay44_at (num i) G C W S _ _ (dpw_at B) (w7_3 B)))
    r c

theorem step9_at (v : Vec Ideal S4x128x128 .f32) (hv : ∀ (g : Fin 4) (a b : Fin 128), v (ix3 g a b) = ((dW X G C S g.val a.val b.val (512 * num i) : ℝ) : EReal))
    (g : Fin 4) (a b : Fin 128) : Pool.step9 i x0 x1 x2 x4 x8 v (ix3 g a b) = ((dW X G C S g.val a.val b.val (512 * num i + 512) : ℝ) : EReal) := by
  have fin9 : ∀ (k : ℕ) (hk : k < 4) (p : Vec Ideal S1x128x128 .f32) (hp : ∀ a b : Fin 128, p (ix3 0 a b) = ((dW X G C S k a.val b.val (512 * num i + 512) : ℝ) : EReal))
      (x : S1x128x128.Idx) (h0 : g.val = k) (h1 : a.val = (x 1).val) (h2 : b.val = (x 2).val), p x = ((dW X G C S g.val a.val b.val (512 * num i + 512) : ℝ) : EReal) := by
    intro k hk p hp x h0 h1 h2
    have hx : x = ix3 0 a b := by
      funext d; apply Fin.ext
      match d with
      | ⟨0, _⟩ => show (x 0).val = 0; have := (x 0).isLt; change (x 0).val < 1 at this; omega
      | ⟨1, _⟩ => exact h1.symm
      | ⟨2, _⟩ => exact h2.symm
    rw [hx, hp, h0]
  unfold Pool.step9 Pool.list9
  canon_tiles x h
  · exact fin9 3 (by omega) _ (pay43_at (num i) X G C S _ _ _ (pl3_at B) (dpw_at B) (fun a b => (mat3_at v a b).trans (hv 3 a b))) x (show g.val = _ by change g.val = 3 + (x 0).val at h0; omega) h1 h2
  · exact fin9 2 (by omega) _ (pay36_at (num i) X G C S _ _ _ (pl2_at B) (dpw_at B) (fun a b => (mat2_at v a b).trans (hv 2 a b))) x (show g.val = _ by change g.val = 2 + (x 0).val at h0; omega) h1 h2
  · exact fin9 1 (by omega) _ (pay30_at (num i) X G C S _ _ _ (pl1_at B) (dpw_at B) (fun a b => (mat1_at v a b).trans (hv 1 a b))) x (show g.val = _ by change g.val = 1 + (x 0).val at h0; omega) h1 h2
  · exact fin9 0 (by omega) _ (pay24_at (num i) X G C S _ _ _ (pl0_at B) (dpw_at B) (fun a b => (mat0_at v a b).trans (hv 0 a b))) x (show g.val = _ by change g.val = (x 0).val at h0; omega) h1 h2
theorem step10_at (v : Vec Ideal S1x512 .f32) (hv : ∀ (c : Fin 512), v (ix2 0 c) = ((dS X G C W (c.val / 128) (c.val % 128) (512 * num i) : ℝ) : EReal))
    (c : Fin 512) : Pool.step10 i x0 x1 x2 x4 x6 v (ix2 0 c) = ((dS X G C W (c.val / 128) (c.val % 128) (512 * num i + 512) : ℝ) : EReal) := by
  have cv : ∀ (k : ℕ) (hk : k < 4) (q : Vec Ideal S1x128 .f32) (hq : ∀ b : Fin 128, q (ix2 0 b) = v (ix2 0 ⟨128 * k + b.val, by omega⟩)) (b : Fin 128),
      q (ix2 0 b) = ((dS X G C W k b.val (512 * num i) : ℝ) : EReal) := by
    intro k hk q hq b
    rw [hq, hv]
    show ((dS X G C W ((128 * k + b.val) / 128) ((128 * k + b.val) % 128) (512 * num i) : ℝ) : EReal) = _
    rw [show (128 * k + b.val) / 128 = k by omega, show (128 * k + b.val) % 128 = b.val by omega]
  have fin10 : ∀ (k : ℕ) (p : Vec Ideal S1x128 .f32) (hp : ∀ b : Fin 128, p (ix2 0 b) = ((dS X G C W k b.val (512 * num i + 512) : ℝ) : EReal))
      (x : S1x128.Idx) (h1 : c.val = 128 * k + (x 1).val), p x = ((dS X G C W (c.val / 128) (c.val % 128) (512 * num i + 512) : ℝ) : EReal) := by
    intro k p hp x h1
    have hx1 : (x 1).val < 128 := (x 1).isLt
    have hx : x = ix2 0 ⟨(x 1).val, hx1⟩ := by
      funext d; apply Fin.ext
      match d with
      | ⟨0, _⟩ => show (x 0).val = 0; have := (x 0).isLt; change (x 0).val < 1 at this; omega
      | ⟨1, _⟩ => rfl
    rw [hx, hp, show c.val / 128 = k by omega, show c.val % 128 = (x 1).val by omega]
  unfold Pool.step10 Pool.list10
  canon_tiles x h
  · exact fin10 3 _ (pay42_at (num i) X G C W _ _ _ (pay40_at (num i) X W _ _ (pl3_at B) (w6_3 B)) (d17 B) (cv 3 (by omega) _ (col3_at v))) x (show c.val = 128 * 3 + (x 1).val by change c.val = 384 + (x 1).val at h1; omega)
  · exact fin10 2 _ (pay35_at (num i) X G C W _ _ _ _ (pl2_at B) (w6_2 B) (d17 B) (cv 2 (by omega) _ (col2_at v))) x (show c.val = 128 * 2 + (x 1).val by change c.val = 256 + (x 1).val at h1; omega)
  · exact fin10 1 _ (pay29_at (num i) X G C W _ _ _ (pay27_at (num i) X W _ _ (pl1_at B) (w6_1 B)) (d17 B) (cv 1 (by omega) _ (col1_at v))) x (show c.val = 128 * 1 + (x 1).val by change c.val = 128 + (x 1).val at h1; omega)
  · exact fin10 0 _ (pay23_at (num i) X G C W _ _ _ _ (pl0_at B) (w6_0 B) (d17 B) (cv 0 (by omega) _ (col0_at v))) x (show c.val = 128 * 0 + (x 1).val by change c.val = (x 1).val at h1; omega)
end Step

end Cert.PoolVal

end
-- ==== Proof.Val.Blocks.lean ====
/- The blocks the pooling call's windows hold, in terms of the arguments. -/
module

public import proofs.«01_k».proof.Proof.Gen.KernelIdeal.Frame
public import proofs.«01_k».proof.Proof.Val.Real
public import Idealize.ShloMosaic.Lib.Pipeline.ValueKit

@[expose] public section

set_option maxRecDepth 16384

noncomputable section

namespace Cert.PoolVal

open KernelIdeal KernelIdeal.Gen
open Idealize.ShloMosaic Idealize.ShloMosaic.TcCoe Idealize.ShloMosaic.Tactic

variable (m : (ℓ : Loc nD τ sig) → Buf (Elt Ideal) ℓ)

theorem ix_0 : ∀ t : Fin grid0.N, win0_0.index t = ![(grid0.coords t 0).val, 5] := by decide +kernel
theorem ix_1 : ∀ t : Fin grid0.N, win0_1.index t = ![32 * (grid0.coords t 0).val - 1, 5] := by decide +kernel
theorem ix_2 : ∀ t : Fin grid0.N, win0_2.index t = ![(grid0.coords t 0).val, 9] := by decide +kernel
theorem ix_3 : ∀ t : Fin grid0.N, win0_3.index t = ![min (32 * ((grid0.coords t 0).val + 1)) 511, 9] := by decide +kernel
theorem ix_4 : ∀ t : Fin grid0.N, win0_4.index t = ![(grid0.coords t 0).val, 3] := by decide +kernel
theorem ix_5 : ∀ t : Fin grid0.N, win0_5.index t = ![min (32 * ((grid0.coords t 0).val + 1)) 511, 3] := by decide +kernel
theorem ix_6 : ∀ t : Fin grid0.N, win0_6.index t = ![0, 0, 0] := by decide +kernel
theorem ix_7 : ∀ t : Fin grid0.N, win0_7.index t = ![0, 0, 0] := by decide +kernel
theorem ix_8 : ∀ t : Fin grid0.N, win0_8.index t = ![0, 0] := by decide +kernel

abbrev argY (c : Dev nD) : FVec Ideal S8192x2048 .bf16 := m (c.tc.loc main_arg0)
abbrev argZ (c : Dev nD) : FVec Ideal S8192x5120 .bf16 := m (c.tc.loc main_arg1)
abbrev argD (c : Dev nD) : FVec Ideal S8192x5120 .bf16 := m (c.tc.loc main_arg2)
abbrev argW (c : Dev nD) : FVec Ideal S4x128x128 .f32 := m (c.tc.loc main_arg3)
abbrev argS (c : Dev nD) : FVec Ideal S512 .f32 := m (c.tc.loc main_arg4)

theorem coord_lt (t : Fin cfg0.N) : (grid0.coords t 0).val < 16 := (grid0.coords t 0).isLt

theorem blk0 (c : Dev nD) (t : Fin cfg0.N) (r k : Fin 512) :
    iblk m c 0 t (ix2 r k) = argZ m c (ix2 ⟨512 * (grid0.coords t 0).val + r.val, by have := coord_lt t; omega⟩ ⟨2560 + k.val, by omega⟩) := by
  have := coord_lt t
  blk_ext [iblk, V, ix_0 t]
theorem blk1 (c : Dev nD) (t : Fin cfg0.N) (r : Fin 16) (k : Fin 512) :
    iblk m c 1 t (ix2 r k) = argZ m c (ix2 ⟨16 * (32 * (grid0.coords t 0).val - 1) + r.val, by have := coord_lt t; omega⟩ ⟨2560 + k.val, by omega⟩) := by
  have := coord_lt t
  blk_ext [iblk, V, ix_1 t]
theorem blk2 (c : Dev nD) (t : Fin cfg0.N) (r k : Fin 512) :
    iblk m c 2 t (ix2 r k) = argZ m c (ix2 ⟨512 * (grid0.coords t 0).val + r.val, by have := coord_lt t; omega⟩ ⟨4608 + k.val, by omega⟩) := by
  have := coord_lt t
  blk_ext [iblk, V, ix_2 t]
theorem blk3 (c : Dev nD) (t : Fin cfg0.N) (r : Fin 16) (k : Fin 512) :
    iblk m c 3 t (ix2 r k) = argZ m c (ix2 ⟨16 * min (32 * ((grid0.coords t 0).val + 1)) 511 + r.val, by have := coord_lt t; omega⟩ ⟨4608 + k.val, by omega⟩) := by
  have := coord_lt t
  blk_ext [iblk, V, ix_3 t]
theorem blk4 (c : Dev nD) (t : Fin cfg0.N) (r k : Fin 512) :
    iblk m c 4 t (ix2 r k) = argY m c (ix2 ⟨512 * (grid0.coords t 0).val + r.val, by have := coord_lt t; omega⟩ ⟨1536 + k.val, by omega⟩) := by
  have := coord_lt t
  blk_ext [iblk, V, ix_4 t]
theorem blk5 (c : Dev nD) (t : Fin cfg0.N) (r : Fin 16) (k : Fin 512) :
    iblk m c 5 t (ix2 r k) = argY m c (ix2 ⟨16 * min (32 * ((grid0.coords t 0).val + 1)) 511 + r.val, by have := coord_lt t; omega⟩ ⟨1536 + k.val, by omega⟩) := by
  have := coord_lt t
  blk_ext [iblk, V, ix_5 t]
theorem blk6 (c : Dev nD) (t : Fin cfg0.N) (g : Fin 4) (a b : Fin 128) :
    iblk m c 6 t (ix3 g a b) = argW m c (ix3 g a b) := by
  blk_ext! [iblk, V, ix_6 t]
theorem blk7 (c : Dev nD) (t : Fin cfg0.N) (g : Fin 4) (a b : Fin 128) :
    iblk m c 7 t (ix3 g a b) = argW m c (ix3 g b a) := by
  blk_ext! [iblk, V, ix_7 t]
theorem blk8 (c : Dev nD) (t : Fin cfg0.N) (k : Fin 512) :
    iblk m c 8 t (ix2 0 k) = argS m c (ix1 k) := by
  blk_ext! [iblk, V, ix_8 t]

end Cert.PoolVal

end
-- ==== Proof.Val.Kern.lean ====
/- The pooling call's results on finite arguments, as the real gradients. -/
module

public import proofs.«01_k».proof.Proof.Val.TileD
public import proofs.«01_k».proof.Proof.Val.Blocks
public import proofs.«01_k».proof.Proof.Pool.Frame

@[expose] public section

set_option maxRecDepth 16384

noncomputable section

namespace Cert.PoolVal

open KernelIdeal KernelIdeal.Gen
open Idealize.ShloMosaic Idealize.ShloMosaic.TcCoe Idealize.ShloMosaic.Tactic

variable (m : (ℓ : Loc nD τ sig) → Buf (Elt Ideal) ℓ) (c : Dev nD)
  (hY : Fin' (argY m c)) (hZ : Fin' (argZ m c)) (hW : Fin' (argW m c)) (hS : Fin' (argS m c))
include hY hZ hW hS

/-- The blocks of every step. -/
theorem blocks (t : Fin cfg0.N) : Blocks (grid0.coords t) (iblk m c 0 t) (iblk m c 1 t) (iblk m c 2 t) (iblk m c 3 t) (iblk m c 4 t) (iblk m c 5 t)
    (iblk m c 6 t) (iblk m c 7 t) (iblk m c 8 t) (colX (argZ m c)) (fun r k => colX (argZ m c) (16 * (32 * num (grid0.coords t) - 1) + r) k)
    (colG (argZ m c)) (fun r k => colG (argZ m c) (16 * min (32 * (num (grid0.coords t) + 1)) 511 + r) k)
    (colC (argY m c)) (fun r k => colC (argY m c) (16 * min (32 * (num (grid0.coords t) + 1)) 511 + r) k)
    (val3 (argW m c)) (val1 (argS m c)) where
  h0 r k := (blk0 m c t r k).trans (val2_eq hZ _ _)
  h1 r k := (blk1 m c t r k).trans (val2_eq hZ _ _)
  e1 h r k hr := by
    have := num_lt (grid0.coords t)
    exact congrArg (fun u => colX (argZ m c) u k) (by omega)
  h2 r k := (blk2 m c t r k).trans (val2_eq hZ _ _)
  h3 r k := (blk3 m c t r k).trans (val2_eq hZ _ _)
  h4 r k := (blk4 m c t r k).trans (val2_eq hY _ _)
  h5 r k := (blk5 m c t r k).trans (val2_eq hY _ _)
  e5 h r k hr := ⟨congrArg (fun u => colG (argZ m c) u k) (by omega), congrArg (fun u => colC (argY m c) u k) (by omega)⟩
  z5 u k h := colC_zero _ u k h
  h6 g a b := (blk6 m c t g a b).trans (val3_eq hW _ _ _)
  h7 g a b := (blk7 m c t g b a).trans (val3_eq hW _ _ _)
  h8 k := (blk8 m c t k).trans (val1_eq hS _)

omit hY hZ hW hS in
theorem num_coords : ∀ t : Fin cfg0.N, num (grid0.coords t) = t.val := by decide +kernel

set_option maxHeartbeats 2000000 in
/-- The carried sums after a step: the sums over the rows so far. -/
theorem sums_at : ∀ (n : ℕ) (hn : n < cfg0.N),
    (∀ (g : Fin 4) (a b : Fin 128), (Pool.sums m c n hn).1 (ix3 g a b)
        = ((dW (colX (argZ m c)) (colG (argZ m c)) (colC (argY m c)) (val1 (argS m c)) g.val a.val b.val (512 * (n + 1)) : ℝ) : EReal))
    ∧ (∀ k : Fin 512, (Pool.sums m c n hn).2 (ix2 0 k)
        = ((dS (colX (argZ m c)) (colG (argZ m c)) (colC (argY m c)) (val3 (argW m c)) (k.val / 128) (k.val % 128) (512 * (n + 1)) : ℝ) : EReal)) := by
  intro n
  induction n with
  | zero =>
    intro hn
    have B := blocks m c hY hZ hW hS ⟨0, hn⟩
    have e : 512 * num (grid0.coords ⟨0, hn⟩) = 0 := by rw [num_coords]; rfl
    rw [Pool.sums_zero m c ⟨0, hn⟩ rfl]
    constructor
    · intro g a b
      refine (step9_at B (k0_pay1 (F := Ideal)) (fun g a b => ?_) g a b).trans ?_
      · rw [e, show dW _ _ _ _ _ _ _ 0 = 0 from Finset.sum_range_zero _, EReal.coe_zero]; pointwise [k0_pay1]
      · rw [e, show 512 * (0 + 1) = 0 + 512 from rfl]
    · intro k
      refine (step10_at B (k0_pay2 (F := Ideal)) (fun k => ?_) k).trans ?_
      · rw [e, show dS _ _ _ _ _ _ 0 = 0 from Finset.sum_range_zero _, EReal.coe_zero]; pointwise [k0_pay2]
      · rw [e, show 512 * (0 + 1) = 0 + 512 from rfl]
  | succ n ih =>
    intro hn
    obtain ⟨i1, i2⟩ := ih (Nat.lt_of_succ_lt hn)
    have B := blocks m c hY hZ hW hS ⟨n + 1, hn⟩
    have e : 512 * num (grid0.coords ⟨n + 1, hn⟩) = 512 * (n + 1) := by rw [num_coords]
    rw [Pool.sums_succ m c ⟨n + 1, hn⟩ (Nat.succ_ne_zero n)]
    constructor
    · intro g a b
      refine (step9_at B _ (fun g a b => ?_) g a b).trans ?_
      · rw [e]; exact i1 g a b
      · rw [e, show 512 * (n + 1 + 1) = 512 * (n + 1) + 512 from rfl]
    · intro k
      refine (step10_at B _ (fun k => ?_) k).trans ?_
      · rw [e]; exact i2 k
      · rw [e, show 512 * (n + 1 + 1) = 512 * (n + 1) + 512 from rfl]

/-- The tiles a step copies out. -/
theorem outX_at (t : Fin cfg0.N) (r k : Fin 512) : Pool.outX m c t (ix2 r k)
    = ((dx (colG (argZ m c)) (colC (argY m c)) (val3 (argW m c)) (val1 (argS m c)) (k.val / 128) (512 * t.val + r.val) (k.val % 128) : ℝ) : EReal) :=
  (stepX_at (blocks m c hY hZ hW hS t) r k).trans (by rw [num_coords])
theorem outG_at (t : Fin cfg0.N) (r k : Fin 512) : Pool.outG m c t (ix2 r k)
    = ((dg (colX (argZ m c)) (colG (argZ m c)) (colC (argY m c)) (val3 (argW m c)) (val1 (argS m c)) (k.val / 128) (512 * t.val + r.val) (k.val % 128) : ℝ) : EReal) :=
  (stepG_at (blocks m c hY hZ hW hS t) r k).trans (by rw [num_coords])

omit hY hZ hW hS in
theorem V_dz : V m c main_v4_0 = argD m c := by
  unfold V
  entry_read
  rfl

/-- The first result, element by element. -/
theorem final_at (r : Fin 8192) (k : Fin 5120) : Pool.final m c (ix2 r k)
    = if 2560 ≤ k.val ∧ k.val < 3072 then
        ((dx (colG (argZ m c)) (colC (argY m c)) (val3 (argW m c)) (val1 (argS m c)) ((k.val - 2560) / 128) r.val ((k.val - 2560) % 128) : ℝ) : EReal)
      else if 4608 ≤ k.val then
        ((dg (colX (argZ m c)) (colG (argZ m c)) (colC (argY m c)) (val3 (argW m c)) (val1 (argS m c)) ((k.val - 4608) / 128) r.val ((k.val - 4608) % 128) : ℝ) : EReal)
      else argD m c (ix2 r k) := by
  have hk := k.isLt
  have er : 512 * (r.val / 512) + r.val % 512 = r.val := by omega
  unfold Pool.final
  by_cases h0 : 2560 ≤ k.val ∧ k.val < 3072
  · rw [if_pos h0]
    refine (dif_pos h0).trans ?_
    refine (congrArg (Pool.outX m c (Pool.rowStep r)) (ix2_eq_valueIdx _ _).symm).trans ?_
    refine (outX_at m c hY hZ hW hS _ _ _).trans ?_
    show ((dx _ _ _ _ ((k.val - 2560) / 128) (512 * (r.val / 512) + r.val % 512) ((k.val - 2560) % 128) : ℝ) : EReal) = _
    rw [er]
  · rw [if_neg h0]
    refine (dif_neg h0).trans ?_
    by_cases h1 : 4608 ≤ k.val
    · rw [if_pos h1]
      refine (dif_pos ⟨h1, hk⟩).trans ?_
      refine (congrArg (Pool.outG m c (Pool.rowStep r)) (ix2_eq_valueIdx _ _).symm).trans ?_
      refine (outG_at m c hY hZ hW hS _ _ _).trans ?_
      show ((dg _ _ _ _ _ ((k.val - 4608) / 128) (512 * (r.val / 512) + r.val % 512) ((k.val - 4608) % 128) : ℝ) : EReal) = _
      rw [er]
    · rw [if_neg h1]
      refine (dif_neg (fun h => h1 h.1)).trans ?_
      rw [V_dz]

omit hY hZ hW hS in
theorem rows_all : 512 * (15 + 1) = 8192 := by decide
omit hY hZ hW hS in
theorem last_lt : 15 < cfg0.N := by decide
/-- The second and the third result. -/
theorem arr9_at (g : Fin 4) (a b : Fin 128) : (Pool.dats m 0 c).arrAt 9 cfg0.N (ix3 g a b)
    = ((dW (colX (argZ m c)) (colG (argZ m c)) (colC (argY m c)) (val1 (argS m c)) g.val a.val b.val 8192 : ℝ) : EReal) := by
  have key : (Pool.dats m 0 c).arrAt 9 cfg0.N = fun j : S4x128x128.Idx => ((dW (colX (argZ m c)) (colG (argZ m c)) (colC (argY m c)) (val1 (argS m c)) (j 0).val (j 1).val (j 2).val 8192 : ℝ) : EReal) := by
    refine (Pool.dats m 0 c).arrAt_eq_of_after_last 9 t0_15 (by decide +kernel) _ fun j => ?_
    blk_simp
    obtain ⟨g, a, b, rfl⟩ : ∃ (g : Fin 4) (a b : Fin 128), j = ix3 g a b := ⟨j 0, j 1, j 2, by funext d; fin_cases d <;> rfl⟩
    have h := (sums_at m c hY hZ hW hS 15 last_lt).1 g a b
    rw [rows_all] at h
    rw [Pool.after_9]
    exact h
  exact congrFun key _
theorem arr10_at (k : Fin 512) : (Pool.dats m 0 c).arrAt 10 cfg0.N (ix2 0 k)
    = ((dS (colX (argZ m c)) (colG (argZ m c)) (colC (argY m c)) (val3 (argW m c)) (k.val / 128) (k.val % 128) 8192 : ℝ) : EReal) := by
  have key : (Pool.dats m 0 c).arrAt 10 cfg0.N = fun j : S1x512.Idx => ((dS (colX (argZ m c)) (colG (argZ m c)) (colC (argY m c)) (val3 (argW m c)) ((j 1).val / 128) ((j 1).val % 128) 8192 : ℝ) : EReal) := by
    refine (Pool.dats m 0 c).arrAt_eq_of_after_last 10 t0_15 (by decide +kernel) _ fun j => ?_
    blk_simp
    obtain ⟨k, rfl⟩ : ∃ k : Fin 512, j = ix2 0 k := ⟨j 1, by funext d; fin_cases d; exact Subsingleton.elim (α := Fin 1) _ _; rfl⟩
    have h := (sums_at m c hY hZ hW hS 15 last_lt).2 k
    rw [rows_all] at h
    rw [Pool.after_10]
    exact h
  exact congrFun key _

end Cert.PoolVal

end
-- ==== Proof.Val.Win.lean ====
/- Running sums along the first axis, as a host's window sum writes them. -/
module

public import proofs.«01_k».proof.Proof.Val.TileA

@[expose] public section

set_option maxRecDepth 16384

noncomputable section

namespace Cert.PoolVal

open Idealize.ShloMosaic

/-- A fold that adds real numbers is a sum. -/
theorem foldl_add_real {M : ℕ} (h : Fin M → EReal) (g : ℕ → ℝ) (hg : ∀ n, h n = ((g n.val : ℝ) : EReal)) (v : EReal) (hv : v = 0) :
    (List.finRange M).foldl (fun r n => r + h n) v = ((∑ k ∈ Finset.range M, g k : ℝ) : EReal) := by
  subst hv
  have key : ∀ (l : List (Fin M)) (z : ℝ), l.foldl (fun r n => r + h n) (z : EReal) = ((z + (l.map fun n => g n.val).sum : ℝ) : EReal) := by
    intro l
    induction l with
    | nil => intro z; simp
    | cons n l ih => intro z; rw [List.foldl_cons, hg, ← EReal.coe_add, ih, List.map_cons, List.sum_cons, add_assoc]
  have h0 := key (List.finRange M) 0
  rw [EReal.coe_zero] at h0
  rw [h0, zero_add, Finset.sum_range]
  congr 1

theorem numel3 (N : ℕ) : (⟨3, ![N, 1, 1]⟩ : Shape).numel = N := by
  show ∏ a : Fin 3, (![N, 1, 1] : Fin 3 → Nat) a = N
  rw [Fin.prod_univ_three]
  show N * 1 * 1 = N
  omega
theorem symm3 {N : ℕ} (n : Fin (⟨3, ![N, 1, 1]⟩ : Shape).numel) :
    (⟨3, ![N, 1, 1]⟩ : Shape).rowMajor.symm n = ix3 (n.cast (numel3 N)) (0 : Fin 1) (0 : Fin 1) :=
  ((⟨3, ![N, 1, 1]⟩ : Shape).rowMajor.symm_apply_eq).2 (Fin.ext (by
    rw [Shape.rowMajor_val_three]
    show n.val = (n.val * 1 + 0) * 1 + 0
    omega))

/-- The window sum along the first axis, with `lo` rows of padding before. -/
theorem winsum {N A B lo hi : ℕ} (x : (⟨3, ![N, A, B]⟩ : Shape).Idx → EReal) (f : ℕ → ℝ) (g : Fin A) (a : Fin B)
    (hx : ∀ t : Fin N, x (ix3 t g a) = ((f t.val : ℝ) : EReal)) (v : EReal) (hv : v = 0)
    (h : (⟨3, ![N, A, B]⟩ : Shape).ReduceWindows (![N, 1, 1] : Fin 3 → Nat) ![1, 1, 1] ![lo, 0, 0] ![hi, 0, 0] ⟨3, ![N, A, B]⟩) (t : Fin N) :
    Ideal.hostReduceWindowAdd (s := ⟨3, ![N, A, B]⟩) (t := ⟨3, ![N, A, B]⟩) ![N, 1, 1] ![1, 1, 1] ![lo, 0, 0] ![hi, 0, 0] h x v (ix3 t g a)
      = ((∑ w ∈ Finset.range N, (if lo ≤ t.val + w ∧ t.val + w - lo < N then f (t.val + w - lo) else 0) : ℝ) : EReal) := by
  unfold Ideal.hostReduceWindowAdd Host.reduceWindow
  refine (foldl_add_real _ (fun w => if lo ≤ t.val + w ∧ t.val + w - lo < N then f (t.val + w - lo) else 0) (fun n => ?_) v hv).trans ?_
  · have hg := g.isLt
    have ha := a.isLt
    have hw0 : ((⟨3, ![N, 1, 1]⟩ : Shape).rowMajor.symm n 0).val = n.val := by rw [symm3]; rfl
    have hw1 : ((⟨3, ![N, 1, 1]⟩ : Shape).rowMajor.symm n 1).val = 0 := by rw [symm3]; rfl
    have hw2 : ((⟨3, ![N, 1, 1]⟩ : Shape).rowMajor.symm n 2).val = 0 := by rw [symm3]; rfl
    dsimp only
    split
    · next hin =>
      have h0 := hin 0
      change lo ≤ t.val * 1 + ((⟨3, ![N, 1, 1]⟩ : Shape).rowMajor.symm n 0).val
        ∧ t.val * 1 + ((⟨3, ![N, 1, 1]⟩ : Shape).rowMajor.symm n 0).val - lo < N at h0
      rw [hw0, Nat.mul_one] at h0
      rw [if_pos h0]
      refine (congrArg x (funext fun d => Fin.ext ?_)).trans (hx ⟨t.val + n.val - lo, h0.2⟩)
      match d with
      | ⟨0, _⟩ =>
        show t.val * 1 + ((⟨3, ![N, 1, 1]⟩ : Shape).rowMajor.symm n 0).val - lo = t.val + n.val - lo
        rw [hw0, Nat.mul_one]
      | ⟨1, _⟩ =>
        show g.val * 1 + ((⟨3, ![N, 1, 1]⟩ : Shape).rowMajor.symm n 1).val - 0 = g.val
        rw [hw1]; omega
      | ⟨2, _⟩ =>
        show a.val * 1 + ((⟨3, ![N, 1, 1]⟩ : Shape).rowMajor.symm n 2).val - 0 = a.val
        rw [hw2]; omega
    · next hin =>
      rw [if_neg fun hle => hin fun d => by
        match d with
        | ⟨0, _⟩ =>
          show lo ≤ t.val * 1 + ((⟨3, ![N, 1, 1]⟩ : Shape).rowMajor.symm n 0).val
            ∧ t.val * 1 + ((⟨3, ![N, 1, 1]⟩ : Shape).rowMajor.symm n 0).val - lo < N
          rw [hw0, Nat.mul_one]; exact hle
        | ⟨1, _⟩ =>
          show 0 ≤ g.val * 1 + ((⟨3, ![N, 1, 1]⟩ : Shape).rowMajor.symm n 1).val
            ∧ g.val * 1 + ((⟨3, ![N, 1, 1]⟩ : Shape).rowMajor.symm n 1).val - 0 < A
          rw [hw1]; omega
        | ⟨2, _⟩ =>
          show 0 ≤ a.val * 1 + ((⟨3, ![N, 1, 1]⟩ : Shape).rowMajor.symm n 2).val
            ∧ a.val * 1 + ((⟨3, ![N, 1, 1]⟩ : Shape).rowMajor.symm n 2).val - 0 < B
          rw [hw2]; omega]
      rw [hv, EReal.coe_zero]
  · rw [numel3]

/-- With the padding all before, the sums over the rows up to each. -/
theorem presum (N lo : ℕ) (hlo : lo + 1 = N) (f : ℕ → ℝ) (t : ℕ) (ht : t < N) :
    (∑ w ∈ Finset.range N, if lo ≤ t + w ∧ t + w - lo < N then f (t + w - lo) else 0) = ∑ s ∈ Finset.range (t + 1), f s := by
  obtain ⟨d, rfl⟩ : ∃ d, N = d + (t + 1) := ⟨N - (t + 1), by omega⟩
  obtain rfl : lo = d + t := by omega
  rw [Finset.sum_range_add, Finset.sum_eq_zero fun w hw => ?_, zero_add]
  · refine Finset.sum_congr rfl fun w hw => ?_
    have := Finset.mem_range.1 hw
    rw [if_pos (by omega)]
    congr 1; omega
  · have := Finset.mem_range.1 hw
    rw [if_neg (by omega)]
/-- With the padding all after, the sums over the rows from each on. -/
theorem sufsum (N : ℕ) (f : ℕ → ℝ) (t : ℕ) (ht : t < N) :
    (∑ w ∈ Finset.range N, if 0 ≤ t + w ∧ t + w - 0 < N then f (t + w - 0) else 0) = ∑ s ∈ Finset.range (N - t), f (t + s) := by
  obtain ⟨d, hd⟩ : ∃ d, N = (N - t) + d := ⟨t, by omega⟩
  have hN : Finset.range N = Finset.range ((N - t) + d) := by rw [← hd]
  rw [hN, Finset.sum_range_add]
  rw [Finset.sum_eq_zero (s := Finset.range d) fun w hw => ?_, add_zero]
  · refine Finset.sum_congr rfl fun w hw => ?_
    have := Finset.mem_range.1 hw
    rw [if_pos (by omega)]
    rfl
  · rw [if_neg (by omega)]

end Cert.PoolVal

end
-- ==== Proof.Val.RefA.lean ====
/- The reference's values on real arguments: columns, running sums, gates. -/
module

public import proofs.«01_k».proof.Proof.Val.TileB
public import proofs.«01_k».proof.Proof.Val.Win
public import proofs.«01_k».proof.Proof.Gen.ReferenceIdeal.Run
public import Idealize.ShloMosaic.Lib.Tactic.CleanTypes

@[expose] public section

set_option maxRecDepth 16384

noncomputable section

namespace Cert.PoolVal

open ReferenceIdeal ReferenceIdeal.Facts ReferenceIdeal.Gen ReferenceIdeal.Value
open Idealize.ShloMosaic Idealize.ShloMosaic.TcCoe

variable (V0 : Valuation τ sig (Elt Ideal))

abbrev rY : FVec Ideal S8192x2048 .bf16 := V0 (Proc.devRef .tc main_arg0)
abbrev rZ : FVec Ideal S8192x5120 .bf16 := V0 (Proc.devRef .tc main_arg1)
abbrev rD : FVec Ideal S8192x5120 .bf16 := V0 (Proc.devRef .tc main_arg2)
abbrev rW : R32 S4x128x128 := V0 (Proc.devRef .tc main_arg3)
abbrev rS : R32 S512 := V0 (Proc.devRef .tc main_arg4)

variable (hY : Fin' (rY V0)) (hZ : Fin' (rZ V0)) (hW : Fin' (rW V0)) (hS : Fin' (rS V0))

section Z
include hZ
theorem v3_at (r : Fin 8192) (k : Fin 512) : res_main_v3 V0 (ix2 r k) = ((colG (rZ V0) r.val k.val : ℝ) : EReal) := by
  unfold res_main_v3
  clean_types
  pointwise []
  exact val2_eq hZ r ⟨4608 + k.val, by omega⟩
theorem v6_at (r : Fin 8192) (g : Fin 4) (a : Fin 128) : res_main_v6 V0 (ix3 r g a) = ((colX (rZ V0) r.val (128 * g.val + a.val) : ℝ) : EReal) := by
  unfold res_main_v6
  clean_types
  pointwise []
  rw [show (⟨2560 + (g.val * 128 + a.val), by omega⟩ : Fin 5120) = ⟨2560 + (128 * g.val + a.val), by omega⟩ from Fin.ext (by show 2560 + (g.val * 128 + a.val) = 2560 + (128 * g.val + a.val); omega)]
  exact val2_eq hZ r ⟨2560 + (128 * g.val + a.val), by omega⟩
omit hZ in
theorem zero_bits : Ideal.ofBits .f32 0#32 = 0 := by simp [Ideal.ofBits, Ideal.ieee]
theorem v7_at (r : Fin 8192) (g : Fin 4) (a : Fin 128) :
    res_main_v7 V0 (ix3 r g a) = ((∑ s ∈ Finset.range (r.val + 1), colX (rZ V0) s (128 * g.val + a.val) : ℝ) : EReal) := by
  have h := winsum (lo := 8191) (hi := 0) (res_main_v6 V0) (fun s => colX (rZ V0) s (128 * g.val + a.val)) g a (fun t => v6_at V0 hZ t g a) (Ideal.ofBits .f32 0#32) zero_bits
    reduceWindows_S8192x4x128_S8192x4x128_w8192s1p8191_0_w1s1p0_0_w1s1p0_0 r
  rw [presum 8192 8191 (by decide) (fun s => colX (rZ V0) s (128 * g.val + a.val)) r.val r.isLt] at h
  refine Eq.trans ?_ h
  unfold res_main_v7 Host.reduceWindowAdd
  rw [Ideal.hostReduceWindowAdd_def]
  congr 1
theorem v13_at (r : Fin 8192) (a : Fin 128) :
    res_main_v13 V0 (ix2 r a) = ((∑ s ∈ Finset.range (r.val + 1), colX (rZ V0) s (128 * 0 + a.val) : ℝ) : EReal) := by
  refine Eq.trans ?_ (v7_at V0 hZ r 0 a)
  unfold res_main_v13
  clean_types
  pointwise []
theorem v27_at (r : Fin 8192) (a : Fin 128) :
    res_main_v27 V0 (ix2 r a) = ((∑ s ∈ Finset.range (r.val + 1), colX (rZ V0) s (128 * 1 + a.val) : ℝ) : EReal) := by
  refine Eq.trans ?_ (v7_at V0 hZ r 1 a)
  unfold res_main_v27
  clean_types
  pointwise []
theorem v41_at (r : Fin 8192) (a : Fin 128) :
    res_main_v41 V0 (ix2 r a) = ((∑ s ∈ Finset.range (r.val + 1), colX (rZ V0) s (128 * 2 + a.val) : ℝ) : EReal) := by
  refine Eq.trans ?_ (v7_at V0 hZ r 2 a)
  unfold res_main_v41
  clean_types
  pointwise []
theorem v55_at (r : Fin 8192) (a : Fin 128) :
    res_main_v55 V0 (ix2 r a) = ((∑ s ∈ Finset.range (r.val + 1), colX (rZ V0) s (128 * 3 + a.val) : ℝ) : EReal) := by
  refine Eq.trans ?_ (v7_at V0 hZ r 3 a)
  unfold res_main_v55
  clean_types
  pointwise []
theorem v79_2_at (r : Fin 8192) (k : Fin 512) : res_main_v79_2 V0 (ix2 r k) = ((sg (colG (rZ V0) r.val k.val) : ℝ) : EReal) := by
  unfold res_main_v79_2
  clean_types
  pointwise []
  rw [v3_at V0 hZ]
  exact logistic_sg _
theorem v79_0_at (r : Fin 8192) (k : Fin 512) : res_main_v79_0 V0 (ix2 r k) = ((colG (rZ V0) r.val k.val * sg (colG (rZ V0) r.val k.val) : ℝ) : EReal) := by
  unfold res_main_v79_0
  clean_types
  pointwise []
  rw [v3_at V0 hZ, v79_2_at V0 hZ, mul_coe]
end Z

include hY in
theorem v5_at (r : Fin 8192) (k : Fin 512) : res_main_v5 V0 (ix2 r k) = ((colC (rY V0) r.val k.val : ℝ) : EReal) := by
  unfold res_main_v5
  clean_types
  pointwise []
  exact val2_eq hY r ⟨1536 + k.val, by omega⟩
include hS in
theorem v76_at (k : Fin 512) : res_main_v76 V0 (ix2 0 k) = ((val1 (rS V0) k.val : ℝ) : EReal) := by
  unfold res_main_v76
  clean_types
  pointwise []
  exact val1_eq hS k
theorem v11_at (r : Fin 8192) : res_main_v11 V0 (ix2 r 0) = (((r.val : ℝ) + 1 : ℝ) : EReal) := by
  unfold res_main_v11
  clean_types
  pointwise []
  show 1 + (((BitVec.ofNat 32 r.val).toInt : ℝ) : EReal) = _
  rw [toInt_word _ (by omega), one_coe, add_coe, add_comm]
  push_cast
  rfl
theorem v20_at (r : Fin 8192) : res_main_v20 V0 (ix2 r 0) = ((den (wid 0) r.val : ℝ) : EReal) := by
  unfold res_main_v20
  clean_types
  pointwise []
  rw [v11_at, ofBits_two, coe_min]
  unfold den wid
  norm_num
theorem v34_at (r : Fin 8192) : res_main_v34 V0 (ix2 r 0) = ((den (wid 1) r.val : ℝ) : EReal) := by
  unfold res_main_v34
  clean_types
  pointwise []
  rw [v11_at, ofBits_four, coe_min]
  unfold den wid
  norm_num
theorem v48_at (r : Fin 8192) : res_main_v48 V0 (ix2 r 0) = ((den (wid 2) r.val : ℝ) : EReal) := by
  unfold res_main_v48
  clean_types
  pointwise []
  rw [v11_at, ofBits_eight, coe_min]
  unfold den wid
  norm_num
theorem v62_at (r : Fin 8192) : res_main_v62 V0 (ix2 r 0) = ((den (wid 3) r.val : ℝ) : EReal) := by
  unfold res_main_v62
  clean_types
  pointwise []
  rw [v11_at, ofBits_sixteen, coe_min]
  unfold den wid
  norm_num

section YZ
include hY hZ
theorem v82_at (r : Fin 8192) (k : Fin 512) : res_main_v82 V0 (ix2 r k) = ((cg (colG (rZ V0)) (colC (rY V0)) r.val k.val : ℝ) : EReal) := by
  unfold res_main_v82
  clean_types
  pointwise []
  rw [v5_at V0 hY, v79_0_at V0 hZ, mul_coe]
  rfl
include hS
theorem v91_at (g : Fin 4) (b : Fin 128) (r : Fin 8192) :
    res_main_v91 V0 (ix3 g b r) = ((hh (colG (rZ V0)) (colC (rY V0)) (val1 (rS V0)) r.val (128 * g.val + b.val) : ℝ) : EReal) := by
  unfold res_main_v91
  clean_types
  pointwise []
  rw [show (⟨g.val * 128 + b.val, by omega⟩ : Fin 512) = ⟨128 * g.val + b.val, by omega⟩ from Fin.ext (by show g.val * 128 + b.val = 128 * g.val + b.val; omega),
    v82_at V0 hY hZ, v76_at V0 hS, mul_coe]
  rfl
end YZ

/-- A running sum, some rows before. -/
theorem lag_at (w : ℕ) (hw : w < 8192) (f : ℕ → ℝ) (v : Fin 8192 → EReal) (hv : ∀ r, v r = ((∑ s ∈ Finset.range (r.val + 1), f s : ℝ) : EReal)) (r : Fin 8192) :
    (if h : r.val < w then (0 : EReal) else v ⟨r.val - w, Nat.lt_of_le_of_lt (Nat.sub_le _ _) r.isLt⟩)
      = ((if r.val < w then 0 else ∑ s ∈ Finset.range (r.val - w + 1), f s : ℝ) : EReal) := by
  by_cases h : r.val < w
  · rw [dif_pos h, if_pos h, EReal.coe_zero]
  · rw [dif_neg h, if_neg h, hv]

/-- A window's mean less the row, of real parts. -/
theorem pl_ref (w t : ℕ) (hw : w ≠ 0) {p q d x : EReal} {A B X : ℝ} (hp : p = (A : EReal)) (hq : q = (B : EReal)) (hd : d = ((den w t : ℝ) : EReal))
    (hx : x = (X : EReal)) : Ideal.div (p - q) d - x = (((A - B) * (1 / den w t) - X : ℝ) : EReal) := by
  rw [hp, hq, hd, hx, sub_coe, div_den _ _ _ hw, sub_coe]

section Pl
include hZ
theorem v72_0 (r : Fin 8192) (a : Fin 128) : res_main_v72 V0 (ix3 r 0 a) = ((pl (colX (rZ V0)) 0 r.val a.val : ℝ) : EReal) := by
  have h := pl_ref (wid 0) r.val (wid_ne _) (v13_at V0 hZ r a)
    (lag_at (wid 0) (by decide) (fun s => colX (rZ V0) s (128 * 0 + a.val)) (fun r => res_main_v13 V0 (ix2 r a)) (fun r => v13_at V0 hZ r a) r)
    (v20_at V0 r) (v6_at V0 hZ r 0 a)
  rw [pl, win_eq]
  refine Eq.trans ?_ h
  unfold res_main_v72
  clean_types
  pointwise []
  rfl
theorem v72_1 (r : Fin 8192) (a : Fin 128) : res_main_v72 V0 (ix3 r 1 a) = ((pl (colX (rZ V0)) 1 r.val a.val : ℝ) : EReal) := by
  have h := pl_ref (wid 1) r.val (wid_ne _) (v27_at V0 hZ r a)
    (lag_at (wid 1) (by decide) (fun s => colX (rZ V0) s (128 * 1 + a.val)) (fun r => res_main_v27 V0 (ix2 r a)) (fun r => v27_at V0 hZ r a) r)
    (v34_at V0 r) (v6_at V0 hZ r 1 a)
  rw [pl, win_eq]
  refine Eq.trans ?_ h
  unfold res_main_v72
  clean_types
  pointwise []
  rfl
theorem v72_2 (r : Fin 8192) (a : Fin 128) : res_main_v72 V0 (ix3 r 2 a) = ((pl (colX (rZ V0)) 2 r.val a.val : ℝ) : EReal) := by
  have h := pl_ref (wid 2) r.val (wid_ne _) (v41_at V0 hZ r a)
    (lag_at (wid 2) (by decide) (fun s => colX (rZ V0) s (128 * 2 + a.val)) (fun r => res_main_v41 V0 (ix2 r a)) (fun r => v41_at V0 hZ r a) r)
    (v48_at V0 r) (v6_at V0 hZ r 2 a)
  rw [pl, win_eq]
  refine Eq.trans ?_ h
  unfold res_main_v72
  clean_types
  pointwise []
  rfl
theorem v72_3 (r : Fin 8192) (a : Fin 128) : res_main_v72 V0 (ix3 r 3 a) = ((pl (colX (rZ V0)) 3 r.val a.val : ℝ) : EReal) := by
  have h := pl_ref (wid 3) r.val (wid_ne _) (v55_at V0 hZ r a)
    (lag_at (wid 3) (by decide) (fun s => colX (rZ V0) s (128 * 3 + a.val)) (fun r => res_main_v55 V0 (ix2 r a)) (fun r => v55_at V0 hZ r a) r)
    (v62_at V0 r) (v6_at V0 hZ r 3 a)
  rw [pl, win_eq]
  refine Eq.trans ?_ h
  unfold res_main_v72
  clean_types
  pointwise []
  rfl
theorem v72_at (r : Fin 8192) (g : Fin 4) (a : Fin 128) : res_main_v72 V0 (ix3 r g a) = ((pl (colX (rZ V0)) g.val r.val a.val : ℝ) : EReal) := by
  fin_cases g
  · exact v72_0 V0 hZ r a
  · exact v72_1 V0 hZ r a
  · exact v72_2 V0 hZ r a
  · exact v72_3 V0 hZ r a
include hW
theorem v75_at (r : Fin 8192) (k : Fin 512) : res_main_v75 V0 (ix2 r k) = ((pw (colX (rZ V0)) (val3 (rW V0)) (k.val / 128) r.val (k.val % 128) : ℝ) : EReal) := by
  unfold res_main_v75
  clean_types
  pointwise []
  refine (Finset.sum_congr rfl fun a _ => ?_).trans (prod_at (fun a => val3 (rW V0) (k.val / 128) a (k.val % 128)) (fun a => pl (colX (rZ V0)) (k.val / 128) r.val a)) |>.trans ?_
  · exact congrArg₂ (fun p q : EReal => p * q) (val3_eq hW ⟨k.val / 128, by omega⟩ a ⟨k.val % 128, by omega⟩) (v72_at V0 hZ r ⟨k.val / 128, by omega⟩ a)
  · exact congrArg (fun q : ℝ => (q : EReal)) (Finset.sum_congr rfl fun a _ => mul_comm _ _)
end Pl
section All
include hY hZ hW hS
theorem v93_at (r : Fin 8192) (g : Fin 4) (a : Fin 128) : res_main_v93 V0 (ix3 r g a)
    = ((dp (colG (rZ V0)) (colC (rY V0)) (val3 (rW V0)) (val1 (rS V0)) g.val r.val a.val : ℝ) : EReal) := by
  unfold res_main_v93
  clean_types
  pointwise []
  refine (Finset.sum_congr rfl fun b _ => ?_).trans (prod_at (fun b => hh (colG (rZ V0)) (colC (rY V0)) (val1 (rS V0)) r.val (128 * g.val + b)) (fun b => val3 (rW V0) g.val a.val b))
  exact congrArg₂ (fun p q : EReal => p * q) (v91_at V0 hY hZ hS g b r) (val3_eq hW g a b)
theorem v81_at (r : Fin 8192) (k : Fin 512) : res_main_v81 V0 (ix2 r k)
    = ((pw (colX (rZ V0)) (val3 (rW V0)) (k.val / 128) r.val (k.val % 128) * val1 (rS V0) k.val * colC (rY V0) r.val k.val : ℝ) : EReal) := by
  unfold res_main_v81 res_main_v78
  clean_types
  pointwise []
  rw [v75_at V0 hZ hW, v76_at V0 hS, v5_at V0 hY, mul_coe, mul_coe]
end All

end Cert.PoolVal

end
-- ==== Proof.Val.RefB.lean ====
/- The reference's results on real arguments. -/
module

public import proofs.«01_k».proof.Proof.Val.RefA

@[expose] public section

set_option maxRecDepth 16384

noncomputable section

namespace Cert.PoolVal

open ReferenceIdeal ReferenceIdeal.Facts ReferenceIdeal.Gen ReferenceIdeal.Value
open Idealize.ShloMosaic Idealize.ShloMosaic.TcCoe

variable (V0 : Valuation τ sig (Elt Ideal))
variable (hY : Fin' (rY V0)) (hZ : Fin' (rZ V0)) (hW : Fin' (rW V0)) (hS : Fin' (rS V0))

/-- The cotangent of the pooled input, negated; the quotients less those a window later; the gradients of the mixed columns and of the gate. -/
def negs : R32 S8192x4x128 :=
  (addf (addf (addf (pad S8192x4x128 ![0, 3, 0] ![0, 0, 0] ![0, 0, 0] (broadcastInDim S8192x1x128 ![0, 2] bcast_S8192x128_S8192x1x128_0_2 (Host.negf (res_main_v103 V0))) (constant S_ .f32 0x00000000#32) pads_S8192x1x128_S8192x4x128_000_300_000 h_S_) (pad S8192x4x128 ![0, 2, 0] ![0, 1, 0] ![0, 0, 0] (broadcastInDim S8192x1x128 ![0, 2] bcast_S8192x128_S8192x1x128_0_2 (Host.negf (res_main_v101 V0))) (constant S_ .f32 0x00000000#32) pads_S8192x1x128_S8192x4x128_000_210_000 h_S_)) (pad S8192x4x128 ![0, 1, 0] ![0, 2, 0] ![0, 0, 0] (broadcastInDim S8192x1x128 ![0, 2] bcast_S8192x128_S8192x1x128_0_2 (Host.negf (res_main_v99 V0))) (constant S_ .f32 0x00000000#32) pads_S8192x1x128_S8192x4x128_000_120_000 h_S_)) (pad S8192x4x128 ![0, 0, 0] ![0, 3, 0] ![0, 0, 0] (broadcastInDim S8192x1x128 ![0, 2] bcast_S8192x128_S8192x1x128_0_2 (Host.negf (res_main_v97 V0))) (constant S_ .f32 0x00000000#32) pads_S8192x1x128_S8192x4x128_000_030_000 h_S_))
def diffs : R32 S8192x4x128 :=
  (addf (addf (addf (pad S8192x4x128 ![0, 3, 0] ![0, 0, 0] ![0, 0, 0] (broadcastInDim S8192x1x128 ![0, 2] bcast_S8192x128_S8192x1x128_0_2 (addf (res_main_v108 V0) (pad S8192x128 ![0, 0] ![16, 0] ![0, 0] (extractStridedSlice S8176x128 ![16, 0] (res_main_v109 V0) slices_S8192x128_S8176x128_16_0) (constant S_ .f32 0x00000000#32) pads_S8176x128_S8192x128_0160_000 h_S_))) (constant S_ .f32 0x00000000#32) pads_S8192x1x128_S8192x4x128_000_300_000 h_S_) (pad S8192x4x128 ![0, 2, 0] ![0, 1, 0] ![0, 0, 0] (broadcastInDim S8192x1x128 ![0, 2] bcast_S8192x128_S8192x1x128_0_2 (addf (res_main_v121 V0) (pad S8192x128 ![0, 0] ![8, 0] ![0, 0] (extractStridedSlice S8184x128 ![8, 0] (res_main_v122 V0) slices_S8192x128_S8184x128_8_0) (constant S_ .f32 0x00000000#32) pads_S8184x128_S8192x128_080_000 h_S_))) (constant S_ .f32 0x00000000#32) pads_S8192x1x128_S8192x4x128_000_210_000 h_S_)) (pad S8192x4x128 ![0, 1, 0] ![0, 2, 0] ![0, 0, 0] (broadcastInDim S8192x1x128 ![0, 2] bcast_S8192x128_S8192x1x128_0_2 (addf (res_main_v135 V0) (pad S8192x128 ![0, 0] ![4, 0] ![0, 0] (extractStridedSlice S8188x128 ![4, 0] (res_main_v136 V0) slices_S8192x128_S8188x128_4_0) (constant S_ .f32 0x00000000#32) pads_S8188x128_S8192x128_040_000 h_S_))) (constant S_ .f32 0x00000000#32) pads_S8192x1x128_S8192x4x128_000_120_000 h_S_)) (pad S8192x4x128 ![0, 0, 0] ![0, 3, 0] ![0, 0, 0] (broadcastInDim S8192x1x128 ![0, 2] bcast_S8192x128_S8192x1x128_0_2 (addf (res_main_v149 V0) (pad S8192x128 ![0, 0] ![2, 0] ![0, 0] (extractStridedSlice S8190x128 ![2, 0] (res_main_v150 V0) slices_S8192x128_S8190x128_2_0) (constant S_ .f32 0x00000000#32) pads_S8190x128_S8192x128_020_000 h_S_))) (constant S_ .f32 0x00000000#32) pads_S8192x1x128_S8192x4x128_000_030_000 h_S_))
def dxT : FVec Ideal S8192x512 .bf16 :=
  (truncf .bf16 (shapeCast _ (addf (negs V0) (Host.reduceWindowAdd ![8192, 1, 1] ![1, 1, 1] ![0, 0, 0] ![8191, 0, 0] (diffs V0) (broadcastInDim S_ ![] bcast_S_S_ (constant S_ .f32 0x00000000#32)) reduceWindows_S8192x4x128_S8192x4x128_w8192s1p0_8191_w1s1p0_0_w1s1p0_0 h_S_)) shapeCasts_S8192x4x128_S8192x512) bitsLt_bf16_f32)
def dgT : FVec Ideal S8192x512 .bf16 :=
  (truncf .bf16 (addf (mulf (res_main_v81 V0) (res_main_v79_2 V0)) (mulf (mulf (res_main_v3 V0) (res_main_v81 V0)) (mulf (res_main_v79_2 V0) (subf (broadcastInDim S8192x512 ![] bcast_S_S8192x512 (constant S_ .f32 0x3F800000#32)) (res_main_v79_2 V0))))) bitsLt_bf16_f32)
/-- The three results, as the reference's run states them. -/
def res0 : FVec Ideal S8192x5120 .bf16 :=
  (concatenate S8192x5120 1 [⟨S8192x2560, ((extractStridedSlice S8192x2560 ![0, 0] (V0 (Proc.devRef .tc main_arg2)) slices_S8192x5120_S8192x2560_0_0) : (⟨S8192x2560, .bf16⟩ : BufTy).Contents (Elt Ideal))⟩, ⟨S8192x512, ((dxT V0) : (⟨S8192x512, .bf16⟩ : BufTy).Contents (Elt Ideal))⟩, ⟨S8192x1536, ((extractStridedSlice S8192x1536 ![0, 3072] (V0 (Proc.devRef .tc main_arg2)) slices_S8192x5120_S8192x1536_0_3072) : (⟨S8192x1536, .bf16⟩ : BufTy).Contents (Elt Ideal))⟩, ⟨S8192x512, ((dgT V0) : (⟨S8192x512, .bf16⟩ : BufTy).Contents (Elt Ideal))⟩] concatenates_S8192x2560_S8192x512_S8192x1536_S8192x512_S8192x5120_d1 : (⟨S8192x5120, .bf16⟩ : BufTy).Contents (Elt Ideal))
def res1 : R32 S4x128x128 :=
  transpose S4x128x128 [0, 2, 1] (Host.dotGeneral (φ₁ := .f32) (φ₂ := .f32) dot_S4x128x8192_S8192x4x128_S4x128x128_2_0_1_2_0_1 none (res_main_v91 V0 : R32 S4x128x8192) (res_main_v72 V0 : R32 S8192x4x128)) transposes_S4x128x128_S4x128x128_0_2_1
def res2 : R32 S1x512 :=
  shapeCast _ (Host.reduceAdd (shapeCast _ (Host.reduceAdd (mulf (res_main_v75 V0) (res_main_v82 V0)) (constant S_ .f32 0x00000000#32) reducesTo_S8192x512_S512_d0 h_S_) shapeCasts_S512_S1x512) (constant S_ .f32 0x00000000#32) reducesTo_S1x512_S512_d0 h_S_) shapeCasts_S512_S1x512

theorem neg_coe (a : ℝ) : -(a : EReal) = ((-a : ℝ) : EReal) := (EReal.coe_neg a).symm

/-- A product of reals, summed over all rows. -/
theorem all_rows (f g : ℕ → ℝ) : ∑ k : Fin 8192, ((f k.val : ℝ) : EReal) * ((g k.val : ℝ) : EReal) = ((∑ k ∈ Finset.range 8192, f k * g k : ℝ) : EReal) :=
  (Finset.sum_congr rfl fun k _ => mul_coe _ _).trans (sum_coe (fun k => f k * g k))

/-- A column outside the two the mixer writes. -/
theorem pick_rest (k : ℕ) (A B D : EReal) (h0 : ¬(2560 ≤ k ∧ k < 3072)) (h1 : ¬4608 ≤ k) :
    (if 2560 ≤ k ∧ k < 3072 then A else if 4608 ≤ k then B else D) = D := by
  rw [if_neg h0, if_neg h1]

/-- After the last row the cotangent is zero. -/
theorem qq_zero (g t a : ℕ) (h : 8192 ≤ t) : qq (colG (rZ V0)) (colC (rY V0)) (val3 (rW V0)) (val1 (rS V0)) g t a = 0 := by
  unfold qq dp
  rw [Finset.sum_eq_zero fun b _ => ?_, zero_mul]
  unfold hh cg
  rw [colC_zero _ _ _ h, zero_mul, zero_mul, zero_mul]

/-- A real less the one `w` rows later, where there is one. -/
theorem lead_at (w n : ℕ) (hn : n + w = 8192) (f : ℕ → ℝ) (h0 : ∀ t, 8192 ≤ t → f t = 0) (p v : Fin 8192 → EReal)
    (hp : ∀ r, p r = ((f r.val : ℝ) : EReal)) (hv : ∀ r, v r = ((-f r.val : ℝ) : EReal)) (r : Fin 8192) :
    p r + (if h : r.val < n then v ⟨w + r.val, by omega⟩ else (0 : EReal)) = ((f r.val - f (r.val + w) : ℝ) : EReal) := by
  rw [hp]
  by_cases h : r.val < n
  · rw [dif_pos h, hv, add_coe]
    show ((f r.val + -f (w + r.val) : ℝ) : EReal) = _
    rw [add_comm w, sub_eq_add_neg]
  · rw [dif_neg h, h0 (r.val + w) (by omega), add_zero, sub_zero]

section All
include hY hZ hW hS
theorem v97_at (r : Fin 8192) (a : Fin 128) :
    res_main_v97 V0 (ix2 r a) = ((dp (colG (rZ V0)) (colC (rY V0)) (val3 (rW V0)) (val1 (rS V0)) 0 r.val a.val : ℝ) : EReal) := by
  refine Eq.trans ?_ (v93_at V0 hY hZ hW hS r 0 a)
  unfold res_main_v97
  clean_types
  pointwise []
theorem v149_at (r : Fin 8192) (a : Fin 128) :
    res_main_v149 V0 (ix2 r a) = ((qq (colG (rZ V0)) (colC (rY V0)) (val3 (rW V0)) (val1 (rS V0)) 0 r.val a.val : ℝ) : EReal) := by
  unfold res_main_v149
  clean_types
  pointwise []
  rw [v97_at V0 hY hZ hW hS, v20_at V0, div_den _ _ _ (wid_ne _)]
  rfl
theorem v150_at (r : Fin 8192) (a : Fin 128) :
    res_main_v150 V0 (ix2 r a) = ((-qq (colG (rZ V0)) (colC (rY V0)) (val3 (rW V0)) (val1 (rS V0)) 0 r.val a.val : ℝ) : EReal) := by
  unfold res_main_v150
  clean_types
  pointwise []
  rw [v149_at V0 hY hZ hW hS, neg_coe]
theorem v99_at (r : Fin 8192) (a : Fin 128) :
    res_main_v99 V0 (ix2 r a) = ((dp (colG (rZ V0)) (colC (rY V0)) (val3 (rW V0)) (val1 (rS V0)) 1 r.val a.val : ℝ) : EReal) := by
  refine Eq.trans ?_ (v93_at V0 hY hZ hW hS r 1 a)
  unfold res_main_v99
  clean_types
  pointwise []
theorem v135_at (r : Fin 8192) (a : Fin 128) :
    res_main_v135 V0 (ix2 r a) = ((qq (colG (rZ V0)) (colC (rY V0)) (val3 (rW V0)) (val1 (rS V0)) 1 r.val a.val : ℝ) : EReal) := by
  unfold res_main_v135
  clean_types
  pointwise []
  rw [v99_at V0 hY hZ hW hS, v34_at V0, div_den _ _ _ (wid_ne _)]
  rfl
theorem v136_at (r : Fin 8192) (a : Fin 128) :
    res_main_v136 V0 (ix2 r a) = ((-qq (colG (rZ V0)) (colC (rY V0)) (val3 (rW V0)) (val1 (rS V0)) 1 r.val a.val : ℝ) : EReal) := by
  unfold res_main_v136
  clean_types
  pointwise []
  rw [v135_at V0 hY hZ hW hS, neg_coe]
theorem v101_at (r : Fin 8192) (a : Fin 128) :
    res_main_v101 V0 (ix2 r a) = ((dp (colG (rZ V0)) (colC (rY V0)) (val3 (rW V0)) (val1 (rS V0)) 2 r.val a.val : ℝ) : EReal) := by
  refine Eq.trans ?_ (v93_at V0 hY hZ hW hS r 2 a)
  unfold res_main_v101
  clean_types
  pointwise []
theorem v121_at (r : Fin 8192) (a : Fin 128) :
    res_main_v121 V0 (ix2 r a) = ((qq (colG (rZ V0)) (colC (rY V0)) (val3 (rW V0)) (val1 (rS V0)) 2 r.val a.val : ℝ) : EReal) := by
  unfold res_main_v121
  clean_types
  pointwise []
  rw [v101_at V0 hY hZ hW hS, v48_at V0, div_den _ _ _ (wid_ne _)]
  rfl
theorem v122_at (r : Fin 8192) (a : Fin 128) :
    res_main_v122 V0 (ix2 r a) = ((-qq (colG (rZ V0)) (colC (rY V0)) (val3 (rW V0)) (val1 (rS V0)) 2 r.val a.val : ℝ) : EReal) := by
  unfold res_main_v122
  clean_types
  pointwise []
  rw [v121_at V0 hY hZ hW hS, neg_coe]
theorem v103_at (r : Fin 8192) (a : Fin 128) :
    res_main_v103 V0 (ix2 r a) = ((dp (colG (rZ V0)) (colC (rY V0)) (val3 (rW V0)) (val1 (rS V0)) 3 r.val a.val : ℝ) : EReal) := by
  refine Eq.trans ?_ (v93_at V0 hY hZ hW hS r 3 a)
  unfold res_main_v103
  clean_types
  pointwise []
theorem v108_at (r : Fin 8192) (a : Fin 128) :
    res_main_v108 V0 (ix2 r a) = ((qq (colG (rZ V0)) (colC (rY V0)) (val3 (rW V0)) (val1 (rS V0)) 3 r.val a.val : ℝ) : EReal) := by
  unfold res_main_v108
  clean_types
  pointwise []
  rw [v103_at V0 hY hZ hW hS, v62_at V0, div_den _ _ _ (wid_ne _)]
  rfl
theorem v109_at (r : Fin 8192) (a : Fin 128) :
    res_main_v109 V0 (ix2 r a) = ((-qq (colG (rZ V0)) (colC (rY V0)) (val3 (rW V0)) (val1 (rS V0)) 3 r.val a.val : ℝ) : EReal) := by
  unfold res_main_v109
  clean_types
  pointwise []
  rw [v108_at V0 hY hZ hW hS, neg_coe]

/-- The second result: the mixing matrices' gradients. -/
theorem res1_at (g : Fin 4) (a b : Fin 128) : res1 V0 (ix3 g a b)
    = ((dW (colX (rZ V0)) (colG (rZ V0)) (colC (rY V0)) (val1 (rS V0)) g.val a.val b.val 8192 : ℝ) : EReal) := by
  unfold res1
  clean_types
  pointwise []
  refine (Finset.sum_congr rfl fun t _ => ?_).trans (all_rows (fun t => hh (colG (rZ V0)) (colC (rY V0)) (val1 (rS V0)) t (128 * g.val + b.val)) (fun t => pl (colX (rZ V0)) g.val t a.val)) |>.trans ?_
  · exact congrArg₂ (fun p q : EReal => p * q) (v91_at V0 hY hZ hS g b t) (v72_at V0 hZ t g a)
  · exact congrArg (fun q : ℝ => (q : EReal)) (Finset.sum_congr rfl fun t _ => mul_comm _ _)
/-- The third: the scale's gradient. -/
theorem res2_at (k : Fin 512) : res2 V0 (ix2 0 k)
    = ((dS (colX (rZ V0)) (colG (rZ V0)) (colC (rY V0)) (val3 (rW V0)) (k.val / 128) (k.val % 128) 8192 : ℝ) : EReal) := by
  unfold res2
  clean_types
  pointwise []
  refine Fin.sum_univ_one _ |>.trans ?_
  refine (Finset.sum_congr rfl fun t _ => ?_).trans (all_rows (fun t => pw (colX (rZ V0)) (val3 (rW V0)) (k.val / 128) t (k.val % 128)) (fun t => cg (colG (rZ V0)) (colC (rY V0)) t k.val)) |>.trans ?_
  · exact congrArg₂ (fun p q : EReal => p * q) (v75_at V0 hZ hW t k) (v82_at V0 hY hZ t k)
  · unfold dS
    rw [show 128 * (k.val / 128) + k.val % 128 = k.val by omega]
    exact congrArg (fun q : ℝ => (q : EReal)) (Finset.sum_congr rfl fun t _ => mul_comm _ _)
theorem negs_0 (r : Fin 8192) (a : Fin 128) : negs V0 (ix3 r 0 a)
    = ((-dp (colG (rZ V0)) (colC (rY V0)) (val3 (rW V0)) (val1 (rS V0)) 0 r.val a.val : ℝ) : EReal) := by
  unfold negs
  clean_types
  pointwise []
  rw [v97_at V0 hY hZ hW hS, neg_coe]
theorem diffs_0 (r : Fin 8192) (a : Fin 128) : diffs V0 (ix3 r 0 a)
    = ((qq (colG (rZ V0)) (colC (rY V0)) (val3 (rW V0)) (val1 (rS V0)) 0 r.val a.val
        - qq (colG (rZ V0)) (colC (rY V0)) (val3 (rW V0)) (val1 (rS V0)) 0 (r.val + wid 0) a.val : ℝ) : EReal) := by
  unfold diffs
  clean_types
  pointwise []
  exact lead_at (wid 0) 8190 (by decide) (fun t => qq (colG (rZ V0)) (colC (rY V0)) (val3 (rW V0)) (val1 (rS V0)) 0 t a.val) (fun t h => qq_zero V0 _ t _ h)
    (fun r => res_main_v149 V0 (ix2 r a)) (fun r => res_main_v150 V0 (ix2 r a)) (fun r => v149_at V0 hY hZ hW hS r a) (fun r => v150_at V0 hY hZ hW hS r a) r
theorem negs_1 (r : Fin 8192) (a : Fin 128) : negs V0 (ix3 r 1 a)
    = ((-dp (colG (rZ V0)) (colC (rY V0)) (val3 (rW V0)) (val1 (rS V0)) 1 r.val a.val : ℝ) : EReal) := by
  unfold negs
  clean_types
  pointwise []
  rw [v99_at V0 hY hZ hW hS, neg_coe]
theorem diffs_1 (r : Fin 8192) (a : Fin 128) : diffs V0 (ix3 r 1 a)
    = ((qq (colG (rZ V0)) (colC (rY V0)) (val3 (rW V0)) (val1 (rS V0)) 1 r.val a.val
        - qq (colG (rZ V0)) (colC (rY V0)) (val3 (rW V0)) (val1 (rS V0)) 1 (r.val + wid 1) a.val : ℝ) : EReal) := by
  unfold diffs
  clean_types
  pointwise []
  exact lead_at (wid 1) 8188 (by decide) (fun t => qq (colG (rZ V0)) (colC (rY V0)) (val3 (rW V0)) (val1 (rS V0)) 1 t a.val) (fun t h => qq_zero V0 _ t _ h)
    (fun r => res_main_v135 V0 (ix2 r a)) (fun r => res_main_v136 V0 (ix2 r a)) (fun r => v135_at V0 hY hZ hW hS r a) (fun r => v136_at V0 hY hZ hW hS r a) r
theorem negs_2 (r : Fin 8192) (a : Fin 128) : negs V0 (ix3 r 2 a)
    = ((-dp (colG (rZ V0)) (colC (rY V0)) (val3 (rW V0)) (val1 (rS V0)) 2 r.val a.val : ℝ) : EReal) := by
  unfold negs
  clean_types
  pointwise []
  rw [v101_at V0 hY hZ hW hS, neg_coe]
theorem diffs_2 (r : Fin 8192) (a : Fin 128) : diffs V0 (ix3 r 2 a)
    = ((qq (colG (rZ V0)) (colC (rY V0)) (val3 (rW V0)) (val1 (rS V0)) 2 r.val a.val
        - qq (colG (rZ V0)) (colC (rY V0)) (val3 (rW V0)) (val1 (rS V0)) 2 (r.val + wid 2) a.val : ℝ) : EReal) := by
  unfold diffs
  clean_types
  pointwise []
  exact lead_at (wid 2) 8184 (by decide) (fun t => qq (colG (rZ V0)) (colC (rY V0)) (val3 (rW V0)) (val1 (rS V0)) 2 t a.val) (fun t h => qq_zero V0 _ t _ h)
    (fun r => res_main_v121 V0 (ix2 r a)) (fun r => res_main_v122 V0 (ix2 r a)) (fun r => v121_at V0 hY hZ hW hS r a) (fun r => v122_at V0 hY hZ hW hS r a) r
theorem negs_3 (r : Fin 8192) (a : Fin 128) : negs V0 (ix3 r 3 a)
    = ((-dp (colG (rZ V0)) (colC (rY V0)) (val3 (rW V0)) (val1 (rS V0)) 3 r.val a.val : ℝ) : EReal) := by
  unfold negs
  clean_types
  pointwise []
  rw [v103_at V0 hY hZ hW hS, neg_coe]
theorem diffs_3 (r : Fin 8192) (a : Fin 128) : diffs V0 (ix3 r 3 a)
    = ((qq (colG (rZ V0)) (colC (rY V0)) (val3 (rW V0)) (val1 (rS V0)) 3 r.val a.val
        - qq (colG (rZ V0)) (colC (rY V0)) (val3 (rW V0)) (val1 (rS V0)) 3 (r.val + wid 3) a.val : ℝ) : EReal) := by
  unfold diffs
  clean_types
  pointwise []
  exact lead_at (wid 3) 8176 (by decide) (fun t => qq (colG (rZ V0)) (colC (rY V0)) (val3 (rW V0)) (val1 (rS V0)) 3 t a.val) (fun t h => qq_zero V0 _ t _ h)
    (fun r => res_main_v108 V0 (ix2 r a)) (fun r => res_main_v109 V0 (ix2 r a)) (fun r => v108_at V0 hY hZ hW hS r a) (fun r => v109_at V0 hY hZ hW hS r a) r

theorem negs_at (r : Fin 8192) (g : Fin 4) (a : Fin 128) : negs V0 (ix3 r g a)
    = ((-dp (colG (rZ V0)) (colC (rY V0)) (val3 (rW V0)) (val1 (rS V0)) g.val r.val a.val : ℝ) : EReal) := by
  fin_cases g
  · exact negs_0 V0 hY hZ hW hS r a
  · exact negs_1 V0 hY hZ hW hS r a
  · exact negs_2 V0 hY hZ hW hS r a
  · exact negs_3 V0 hY hZ hW hS r a
theorem diffs_at (r : Fin 8192) (g : Fin 4) (a : Fin 128) : diffs V0 (ix3 r g a)
    = ((qq (colG (rZ V0)) (colC (rY V0)) (val3 (rW V0)) (val1 (rS V0)) g.val r.val a.val
        - qq (colG (rZ V0)) (colC (rY V0)) (val3 (rW V0)) (val1 (rS V0)) g.val (r.val + wid g.val) a.val : ℝ) : EReal) := by
  fin_cases g
  · exact diffs_0 V0 hY hZ hW hS r a
  · exact diffs_1 V0 hY hZ hW hS r a
  · exact diffs_2 V0 hY hZ hW hS r a
  · exact diffs_3 V0 hY hZ hW hS r a
theorem dgT_at (r : Fin 8192) (k : Fin 512) : dgT V0 (ix2 r k)
    = ((dg (colX (rZ V0)) (colG (rZ V0)) (colC (rY V0)) (val3 (rW V0)) (val1 (rS V0)) (k.val / 128) r.val (k.val % 128) : ℝ) : EReal) := by
  unfold dgT
  clean_types
  pointwise []
  rw [v81_at V0 hY hZ hW hS, v79_2_at V0 hZ, v3_at V0 hZ, one_coe, mul_coe, mul_coe, sub_coe, mul_coe, mul_coe, add_coe]
  unfold dg
  rw [show 128 * (k.val / 128) + k.val % 128 = k.val by omega]
  refine congrArg (fun q : ℝ => (q : EReal)) ?_
  ring
theorem dxT_at (r : Fin 8192) (k : Fin 512) : dxT V0 (ix2 r k)
    = ((dx (colG (rZ V0)) (colC (rY V0)) (val3 (rW V0)) (val1 (rS V0)) (k.val / 128) r.val (k.val % 128) : ℝ) : EReal) := by
  unfold dxT
  clean_types
  pointwise []
  have h := winsum (lo := 0) (hi := 8191) (diffs V0) (fun t => qq (colG (rZ V0)) (colC (rY V0)) (val3 (rW V0)) (val1 (rS V0)) (k.val / 128) t (k.val % 128)
      - qq (colG (rZ V0)) (colC (rY V0)) (val3 (rW V0)) (val1 (rS V0)) (k.val / 128) (t + wid (k.val / 128)) (k.val % 128))
    ⟨k.val / 128, by omega⟩ ⟨k.val % 128, by omega⟩ (fun t => diffs_at V0 hY hZ hW hS t ⟨k.val / 128, by omega⟩ ⟨k.val % 128, by omega⟩) (Ideal.ofBits .f32 0#32) zero_bits
    reduceWindows_S8192x4x128_S8192x4x128_w8192s1p0_8191_w1s1p0_0_w1s1p0_0 r
  rw [sufsum 8192 (fun t => qq (colG (rZ V0)) (colC (rY V0)) (val3 (rW V0)) (val1 (rS V0)) (k.val / 128) t (k.val % 128)
      - qq (colG (rZ V0)) (colC (rY V0)) (val3 (rW V0)) (val1 (rS V0)) (k.val / 128) (t + wid (k.val / 128)) (k.val % 128)) r.val r.isLt,
    fwin_eq (wid (k.val / 128)) (fun t => qq (colG (rZ V0)) (colC (rY V0)) (val3 (rW V0)) (val1 (rS V0)) (k.val / 128) t (k.val % 128)) 8192 r.val (fun u hu => qq_zero V0 _ u _ hu) r.isLt.le] at h
  unfold Host.reduceWindowAdd
  rw [Ideal.hostReduceWindowAdd_def]
  refine (congrArg₂ (fun p q : EReal => p + q) (negs_at V0 hY hZ hW hS r ⟨k.val / 128, by omega⟩ ⟨k.val % 128, by omega⟩) h).trans ?_
  rw [add_coe]
  unfold dx
  refine congrArg (fun q : ℝ => (q : EReal)) ?_
  ring
theorem res0_at (r : Fin 8192) (k : Fin 5120) : res0 V0 (ix2 r k)
    = if 2560 ≤ k.val ∧ k.val < 3072 then
        ((dx (colG (rZ V0)) (colC (rY V0)) (val3 (rW V0)) (val1 (rS V0)) ((k.val - 2560) / 128) r.val ((k.val - 2560) % 128) : ℝ) : EReal)
      else if 4608 ≤ k.val then
        ((dg (colX (rZ V0)) (colG (rZ V0)) (colC (rY V0)) (val3 (rW V0)) (val1 (rS V0)) ((k.val - 4608) / 128) r.val ((k.val - 4608) % 128) : ℝ) : EReal)
      else rD V0 (ix2 r k) := by
  unfold res0
  clean_types
  pointwise []
  have hk := k.isLt
  by_cases h0 : k.val < 2560
  · exact (dif_pos h0).trans (pick_rest k.val _ _ _ (by omega) (by omega)).symm
  refine (dif_neg h0).trans ?_
  by_cases h1 : k.val < 3072
  · refine (dif_pos (by omega)).trans ?_
    refine Eq.trans ?_ (if_pos (by omega)).symm
    exact dxT_at V0 hY hZ hW hS r ⟨k.val - 2560, by omega⟩
  refine (dif_neg (by omega)).trans ?_
  by_cases h2 : k.val < 4608
  · refine (dif_pos (by omega)).trans ?_
    refine Eq.trans ?_ (pick_rest k.val _ _ _ (by omega) (by omega)).symm
    exact congrArg (fun q : Fin 5120 => rD V0 (ix2 r q)) (Fin.ext (by show 3072 + (k.val - 2560 - 512) = k.val; omega))
  · refine (dif_neg (by omega)).trans ?_
    refine Eq.trans ?_ ((if_neg (by omega)).trans (if_pos (by omega))).symm
    exact (congrArg (fun q : Fin 512 => dgT V0 (ix2 r q)) (Fin.ext (by show k.val - 2560 - 512 - 1536 = k.val - 4608; omega))).trans (dgT_at V0 hY hZ hW hS r ⟨k.val - 4608, by omega⟩)
end All

end Cert.PoolVal

end
-- ==== Proof.Val.Finite.lean ====
/- The precondition says that every argument the gradients read is finite. -/
module

public import proofs.«01_k».proof.Proof.Val.Real
public import proofs.«01_k».proof.Pre_finite
public import proofs.«01_k».proof.Proof.Gen.KernelIdeal
public import Idealize.ShloMosaic.Lib.ReduceAll

@[expose] public section

set_option maxRecDepth 16384

noncomputable section

namespace Cert.PoolVal

open Idealize.ShloMosaic Idealize.ShloMosaic.TcCoe

/-- A number whose difference with itself is zero is real. -/
theorem real_of_sub (x : EReal) (h : x - x = 0) : x = (x.toReal : EReal) := by
  induction x with
  | bot => simp at h
  | coe r => rw [EReal.toReal_coe]
  | top => simp at h
theorem fin_of {S : Shape} (z : S.Idx → EReal) (h : ∀ i, Ideal.cmp .oeq (z i - z i) (Ideal.ofBits .f32 0#32) = 1#1) : Fin' z := fun i => by
  refine real_of_sub _ ?_
  have h0 : Ideal.ofBits .f32 0#32 = 0 := by simp [Ideal.ofBits, Ideal.ieee]
  have := h i
  rw [h0] at this
  by_contra hn
  simp [Ideal.cmp, hn] at this

/-- The side conditions the precondition states. -/
instance finiteFacts : Pre_finite.Facts where
  bitsLt_bf16_f32 := by decide
  bcast_S_S8192x2048 := by decide
  reducesTo_S8192x2048_S_d0_1 := by decide
  h_S_ := by decide
  bcast_S_S8192x5120 := by decide
  reducesTo_S8192x5120_S_d0_1 := by decide
  bcast_S_S4x128x128 := by decide
  reducesTo_S4x128x128_S_d0_1_2 := by decide
  bcast_S_S512 := by decide
  reducesTo_S512_S_d0 := by decide

open Pre_finite Pre_finite.Facts

theorem finite_args (y : FVec Ideal S8192x2048 .bf16) (z d : FVec Ideal S8192x5120 .bf16) (w : FVec Ideal S4x128x128 .f32) (s : FVec Ideal S512 .f32)
    (h : Pre_finite.fn (F := Ideal) y z d w s = fun _ => 1#1) : Fin' y ∧ Fin' z ∧ Fin' w ∧ Fin' s := by
  have hh := congrFun h ix0
  unfold Pre_finite.fn Pre_finite.fn_part1 at hh
  dsimp only at hh
  obtain ⟨h1, h4⟩ := IntOp.andi_eq_one.1 hh
  obtain ⟨h2, h3⟩ := IntOp.andi_eq_one.1 h1
  obtain ⟨h5, h6⟩ := IntOp.andi_eq_one.1 h2
  exact ⟨fin_of y fun i => Host.reduce_andi_all _ _ _ _ _ h5 i, fin_of z fun i => Host.reduce_andi_all _ _ _ _ _ h6 i,
    fin_of w fun i => Host.reduce_andi_all _ _ _ _ _ h3 i, fin_of s fun i => Host.reduce_andi_all _ _ _ _ _ h4 i⟩

end Cert.PoolVal

end
-- ==== Proof.Lin.Claim2.lean ====
/- The gradient of the input projection's weight: the frames of the kernel as printed and idealized and of the reference, and the equality of their results. -/
module

public import proofs.«01_k».proof.Proof.Gen.Kernel2Ideal.Frame
public import Idealize.ShloMosaic.Lib.Pipeline.ValueKit
public import proofs.«01_k».proof.Defs
public import proofs.«01_k».proof.Proof.Gen.Kernel2.Frame
public import proofs.«01_k».proof.Proof.Gen.Reference2Ideal.Run

@[expose] public section

set_option maxRecDepth 16384

noncomputable section

namespace Cert.Lin2

open Idealize.ShloMosaic in
/-- Arrays of extended reals, by shape. -/
abbrev R32 (s : Shape) := FVec Ideal s .f32

section
open Reference2Ideal Reference2Ideal.Gen
open Idealize.ShloMosaic Idealize.ShloMosaic.TcCoe

/-- The rows after the norm: each row of `a0` over the root of its mean square, times the gain `a1`. -/
def rows (a0 : R32 S8192x2048) (a1 : R32 S2048) : R32 S8192x2048 :=
  mulf (mulf a0 (broadcastInDim S8192x2048 ![0, 1] bcast_S8192x1_S8192x2048_0_1 (Host.rsqrt (addf (Host.divf
    (broadcastInDim S8192x1 ![0] bcast_S8192_S8192x1_0 (Host.reduceAdd (mulf a0 a0) (constant S_ .f32 0x00000000#32) reducesTo_S8192x2048_S8192_d1
    h_S_)) (broadcastInDim S8192x1 ![] bcast_S_S8192x1 (constant S_ .f32 0x45000000#32))) (broadcastInDim S8192x1 ![] bcast_S_S8192x1 (constant S_
    .f32 0x358637BD#32)))))) (broadcastInDim S8192x2048 ![0, 1] bcast_S1x2048_S8192x2048_0_1 (broadcastInDim S1x2048 ![1] bcast_S2048_S1x2048_1 a1))

/-- The weight gradient of the input projection, as the reference computes it, in four column blocks. -/
def ref0 (a0 : R32 S8192x2048) (a1 : R32 S2048) (a2 : R32 S2048x5120) (a3 : FVec Ideal S8192x5120 .bf16) : R32 S4x2048x1280 :=
  transpose S4x2048x1280 [1, 0, 2] (shapeCast _ (transpose S2048x5120 [1, 0] (Host.dotGeneral dot_S8192x5120_S8192x2048_S5120x2048_0_0_1_1_n_n none
    (extf .f32 a3 bitsLt_bf16_f32) (rows a0 a1))
    transposes_S5120x2048_S2048x5120_1_0) shapeCasts_S2048x5120_S2048x4x1280) transposes_S2048x4x1280_S4x2048x1280_1_0_2
end

section
open Kernel2Ideal Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point, by the point's coordinates. -/
theorem idx : ∀ t : Fin cfg0.N, win0_0.index t = ![(grid0.coords t 1).val, 0]
    ∧ win0_1.index t = ![(grid0.coords t 1).val, (grid0.coords t 0).val]
    ∧ win0_2.index t = ![(grid0.coords t 0).val, 0, 0] :=
  (by decide +kernel : ∀ t : Fin grid0.N, _)

/-- The same by the point's number. -/
theorem idx_val : ∀ t : Fin cfg0.N, win0_0.index t = ![t.val % 16, 0]
    ∧ win0_1.index t = ![t.val % 16, t.val / 16]
    ∧ win0_2.index t = ![t.val / 16, 0, 0] :=
  (by decide +kernel : ∀ t : Fin grid0.N, _)

/-- The first step's fill is zero. -/
theorem hzero (j : S1x2048x1280.Idx) : k0_pay1 (F := Ideal) j = 0 := by
  pointwise! [k0_pay1]

/-- A step adds one product of blocks to what the block held. -/
theorem hpay (v3 : Vec Ideal S1x2048x1280 .f32) (v5 : Vec Ideal S512x2048 .bf16) (v7 : Vec Ideal S512x1280 .bf16) (j : S1x2048x1280.Idx) :
    k0_pay2 v3 v5 v7 j = v3 j + k0_pay2 (fun _ => 0) v5 v7 j := by
  pointwise [k0_pay2]

/-- The array of rows that the call is given: the rows after the norm. -/
theorem V_rows (c : Dev nD) (i : S8192x2048.Idx) :
    V m c main_v13 i = rows (m (c.tc.loc main_arg0)) (m (c.tc.loc main_arg1)) i := by
  entry_read
  pointwise [rows]

set_option maxHeartbeats 1000000 in
/-- The result array: every block holds the sum of its steps' products, which is the reference's one product. -/
theorem final (c : Dev nD) : (dats m 0 c).arrAt 2 (cfgs 0).N = ref0 (m (c.tc.loc main_arg0)) (m (c.tc.loc main_arg1)) (m (c.tc.loc main_arg2)) (m (c.tc.loc main_arg3)) := by
  refine (dats m 0 c).arrAt_eq_of_covers 2 _ (by decide +kernel) fun t hf y => ?_
  blk_simp
  rw [after0_2, Pipeline.eq_sum_fin_of_reset_step_apply_of_flush (fun n h => (outsAt0 m c n h)) 16 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, ref0]
  refine Fin.sum_mul_add_congr fun s k hl => (EReal.mul_comm _ _).trans ?_
  refine congrArg₂ (· * ·) ?_ ?_
  · blk_point [iblk, V, idx_val t, idx_val ⟨_, Pipeline.run_point_lt_of_flush t ((flush0_2 t).mp hf) s⟩]
  · refine (V_rows m c _).trans (congrArg (rows _ _) ?_)
    blk_ext [idx_val t, idx_val ⟨_, Pipeline.run_point_lt_of_flush t ((flush0_2 t).mp hf) s⟩]
end

set_option backward.isDefEq.respectTransparency false
open Idealize.ShloMosaic Idealize.SL.Sem

theorem frame_kernel : quiescent_Kernel2 := fun m ρ _ => Kernel2.Gen.frame m ρ
theorem frame_ideal : quiescent_Kernel2Ideal := fun m ρ _ => Kernel2Ideal.Gen.frame m ρ
theorem frame_reference : quiescent_Reference2Ideal := fun m ρ _ =>
  (θ_run Reference2Ideal.defs _ _).mono (fun _ h => ⟨fun c => (h c).2, sem_eq_zero_of_no_sems (by decide) _⟩) (Reference2Ideal.Value.run m ρ)

/-- The idealized kernel and the idealized reference end with equal results. -/
theorem algebraic : algebraic_Kernel2Ideal_Reference2Ideal := by
  pair_intro
  · run_from Kernel2Ideal.Gen.run_main m g
  · hlo_run
    exact (final m c).symm

end Cert.Lin2
-- ==== Proof.Lin.Claim3.lean ====
/- The gradient of the output projection's weight: the frames of the kernel as printed and idealized and of the reference, and the equality of their results. -/
module

public import proofs.«01_k».proof.Proof.Gen.Kernel3Ideal.Frame
public import Idealize.ShloMosaic.Lib.Pipeline.ValueKit
public import proofs.«01_k».proof.Defs
public import proofs.«01_k».proof.Proof.Gen.Kernel3.Frame
public import proofs.«01_k».proof.Proof.Gen.Reference3Ideal.Run

@[expose] public section

set_option maxRecDepth 16384

noncomputable section

namespace Cert.Lin3

open Idealize.ShloMosaic in
/-- Arrays of extended reals, by shape. -/
abbrev R32 (s : Shape) := FVec Ideal s .f32

section
open Reference3Ideal Reference3Ideal.Gen
open Idealize.ShloMosaic Idealize.ShloMosaic.TcCoe

/-- The three mixers' outputs side by side. -/
def side (a0 : FVec Ideal S8192x512 .bf16) (a1 : FVec Ideal S8192x1024 .bf16) (a2 : FVec Ideal S8192x512 .bf16) : R32 S8192x2048 :=
  (concatenate S8192x2048 1 [⟨S8192x512, ((extf .f32 a0 bitsLt_bf16_f32) : R32 S8192x512)⟩, ⟨S8192x1024, ((extf
    .f32 a1 bitsLt_bf16_f32) : R32 S8192x1024)⟩, ⟨S8192x512, ((extf .f32 a2 bitsLt_bf16_f32) : R32 S8192x512)⟩] concatenates_S8192x512_S8192x1024_S8192x512_S8192x2048_d1 : R32 S8192x2048)

/-- The weight gradient of the output projection, as the reference computes it. -/
def ref0 (a0 : FVec Ideal S8192x512 .bf16) (a1 : FVec Ideal S8192x1024 .bf16) (a2 : FVec Ideal S8192x512 .bf16) (a3 : R32 S2048x2048) (a4 : R32 S8192x2048) (a5 : R32 S8192x2048) : R32 S2048x2048 :=
  transpose S2048x2048 [1, 0] (Host.dotGeneral dot_S8192x2048_S8192x2048_S2048x2048_0_0_1_1_n_n none (shapeCast _ a5 shapeCasts_S8192x2048_S8192x2048)
    (side a0 a1 a2))
    transposes_S2048x2048_S2048x2048_1_0
end

section
open Kernel3Ideal Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point, by the point's coordinates. -/
theorem idx : ∀ t : Fin cfg0.N, win0_0.index t = ![(grid0.coords t 1).val, (grid0.coords t 0).val]
    ∧ win0_1.index t = ![(grid0.coords t 1).val, 0]
    ∧ win0_2.index t = ![(grid0.coords t 0).val, 0] :=
  (by decide +kernel : ∀ t : Fin grid0.N, _)

/-- The same by the point's number. -/
theorem idx_val : ∀ t : Fin cfg0.N, win0_0.index t = ![t.val % 16, t.val / 16]
    ∧ win0_1.index t = ![t.val % 16, 0]
    ∧ win0_2.index t = ![t.val / 16, 0] :=
  (by decide +kernel : ∀ t : Fin grid0.N, _)

/-- The first step's fill is zero. -/
theorem hzero (j : S1024x2048.Idx) : k0_pay1 (F := Ideal) j = 0 := by
  pointwise! [k0_pay1]

/-- A step adds one product of blocks to what the block held. -/
theorem hpay (v3 : Vec Ideal S1024x2048 .f32) (v5 : Vec Ideal S512x1024 .bf16) (v7 : Vec Ideal S512x2048 .f32) (j : S1024x2048.Idx) :
    k0_pay2 v3 v5 v7 j = v3 j + k0_pay2 (fun _ => 0) v5 v7 j := by
  pointwise [k0_pay2]

/-- The array of rows that the call is given: the three mixers' outputs side by side. -/
theorem V_side (c : Dev nD) (i : S8192x2048.Idx) :
    V m c main_v0 i = side (m (c.tc.loc main_arg0)) (m (c.tc.loc main_arg1)) (m (c.tc.loc main_arg2)) i := by
  entry_read
  pointwise [side]

set_option maxHeartbeats 1000000 in
/-- The result array: every block holds the sum of its steps' products, which is the reference's one product. -/
theorem final (c : Dev nD) : (dats m 0 c).arrAt 2 (cfgs 0).N = ref0 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 2 _ (by decide +kernel) fun t hf y => ?_
  blk_simp
  rw [after0_2, Pipeline.eq_sum_fin_of_reset_step_apply_of_flush (fun n h => (outsAt0 m c n h)) 16 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, ref0]
  refine Fin.sum_mul_add_congr fun s k hl => (EReal.mul_comm _ _).trans ?_
  refine congrArg₂ (· * ·) ?_ ?_
  · blk_point [iblk, V, idx_val t, idx_val ⟨_, Pipeline.run_point_lt_of_flush t ((flush0_2 t).mp hf) s⟩]
  · refine (V_side m c _).trans (congrArg (side _ _ _) ?_)
    blk_ext [idx_val t, idx_val ⟨_, Pipeline.run_point_lt_of_flush t ((flush0_2 t).mp hf) s⟩]
end

set_option backward.isDefEq.respectTransparency false
open Idealize.ShloMosaic Idealize.SL.Sem

theorem frame_kernel : quiescent_Kernel3 := fun m ρ _ => Kernel3.Gen.frame m ρ
theorem frame_ideal : quiescent_Kernel3Ideal := fun m ρ _ => Kernel3Ideal.Gen.frame m ρ
theorem frame_reference : quiescent_Reference3Ideal := fun m ρ _ =>
  (θ_run Reference3Ideal.defs _ _).mono (fun _ h => ⟨fun c => (h c).2, sem_eq_zero_of_no_sems (by decide) _⟩) (Reference3Ideal.Value.run m ρ)

/-- The idealized kernel and the idealized reference end with equal results. -/
theorem algebraic : algebraic_Kernel3Ideal_Reference3Ideal := by
  pair_intro
  · run_from Kernel3Ideal.Gen.run_main m g
  · refine (θ_run Reference3Ideal.defs _ _).mono (fun _ h c => ?_) (Reference3Ideal.Value.run m' g')
    obtain ⟨e0, e1, e2, e3, e4, e5⟩ := hagree c
    refine ⟨(h c).1.trans (Eq.trans ?_ (final m c).symm), (h c).2⟩
    simp only [← e0, ← e1, ← e2, ← e3, ← e4, ← e5]
    rfl

end Cert.Lin3
-- ==== Proof.Lin.Claim4.lean ====
/- The gradient of the mixers' outputs: the frames of the kernel as printed and idealized and of the reference, and the equality of their results. -/
module

public import proofs.«01_k».proof.Proof.Gen.Kernel4Ideal.Frame
public import Idealize.ShloMosaic.Lib.Pipeline.ValueKit
public import Idealize.ShloMosaic.Lib.Pipeline.ReadBack
public import proofs.«01_k».proof.Defs
public import proofs.«01_k».proof.Proof.Gen.Kernel4.Frame
public import proofs.«01_k».proof.Proof.Gen.Reference4Ideal.Run

@[expose] public section

set_option maxRecDepth 16384

noncomputable section

namespace Cert.Lin4

section
open Reference4Ideal Reference4Ideal.Gen
open Idealize.ShloMosaic Idealize.ShloMosaic.TcCoe

/-- The gradient at the mixers' outputs, as the reference computes it. -/
def ref0 (a0 : FVec Ideal S2048x2048 .f32) (a1 : FVec Ideal S8192x2048 .f32) : FVec Ideal S8192x2048 .bf16 :=
  truncf .bf16 (Host.dotGeneral dot_S8192x2048_S2048x2048_S8192x2048_1_1_0_0_n_n none a1 a0) bitsLt_bf16_f32
end

section
open Kernel4Ideal Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point, by the point's coordinates. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- The same by the point's number. -/
theorem idx_val : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- A point that rounds the rows itself leaves the reference's block. -/
theorem point_A (c : Dev nD) (t : Fin cfg0.N) (h0 : t.val % 2 = 0) (y) :
    (out0_A_2 c (grid0.coords t) (ms0_0 t) (hs0_0 t) (ms0_1 t) (hs0_1 t) (ms0_2 t) (hs0_2 t) scM0_0
      (Memref.isWhole_whole _) ((hcond0_0 t).mpr h0) (iblk m c 0 t) (iblk m c 1 t)) y
      = ref0 (m (c.tc.loc main_arg0)) (m (c.tc.loc main_arg1)) (((cfg0.win 2).blk t).view.emb
        y) := by
  frame_out
  pointwise [k0_pay1, k0_pay2, ref0]
  blk_point [iblk, V, idx_val t]

/-- A point that uses the rows rounded at the point before leaves the reference's block. -/
theorem point_B (c : Dev nD) (t : Fin cfg0.N) (h0 : ¬t.val % 2 = 0) (y) :
    (out0_B_2 c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t) (outsAt0 m c (t.val - 1)
      (Nat.lt_of_le_of_lt (Nat.sub_le _ _) t.isLt)).2) y
      = ref0 (m (c.tc.loc main_arg0)) (m (c.tc.loc main_arg1)) (((cfg0.win 2).blk t).view.emb
        y) := by
  have ht : t.val < 32 := lt_of_lt_of_eq t.isLt N_0
  have h1 : (t.val - 1) % 2 = 0 := by omega
  have e := outsAt0_A m c ⟨t.val - 1, Nat.lt_of_le_of_lt (Nat.sub_le _ _) t.isLt⟩ h1
  dsimp only at e
  rw [e]
  frame_out
  simp only [read_unread_whole]
  pointwise [k0_pay1, k0_pay2, ref0]
  blk_point [iblk, V, idx_val t, idx_val ⟨t.val - 1, Nat.lt_of_le_of_lt (Nat.sub_le _ _) t.isLt⟩]

/-- The result array is the reference's. -/
theorem final (c : Dev nD) : (dats m 0 c).arrAt 2 (cfgs 0).N = ref0 (m (c.tc.loc main_arg0)) (m (c.tc.loc main_arg1)) := by
  refine (dats m 0 c).arrAt_eq_of_covers 2 _ (by decide +kernel) fun t hf y => ?_
  blk_simp; rw [after0_2]
  by_cases h : t.val % 2 = 0
  · rw [outsAt0_A m c t h]; dsimp only; exact point_A m c t h y
  · rw [outsAt0_B m c t h]; dsimp only; exact point_B m c t h y
end

set_option backward.isDefEq.respectTransparency false
open Idealize.ShloMosaic Idealize.SL.Sem

theorem frame_kernel : quiescent_Kernel4 := fun m ρ _ => Kernel4.Gen.frame m ρ
theorem frame_ideal : quiescent_Kernel4Ideal := fun m ρ _ => Kernel4Ideal.Gen.frame m ρ
theorem frame_reference : quiescent_Reference4Ideal := fun m ρ _ =>
  (θ_run Reference4Ideal.defs _ _).mono (fun _ h => ⟨fun c => (h c).2, sem_eq_zero_of_no_sems (by decide) _⟩) (Reference4Ideal.Value.run m ρ)

/-- The idealized kernel and the idealized reference end with equal results. -/
theorem algebraic : algebraic_Kernel4Ideal_Reference4Ideal := by
  pair_intro
  · run_from Kernel4Ideal.Gen.run_main m g
  · hlo_run
    exact (final m c).symm

end Cert.Lin4
-- ==== Proof.Lin.Run5.lean ====
module

public import proofs.«01_k».proof.Proof.Gen.Kernel5Ideal.Frame
public import proofs.«01_k».proof.Proof.Gen.Kernel5Ideal.Skeleton
public import Idealize.ShloMosaic.Lib.Pipeline.TableIdle
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the body stores the second output -/

/-- The condition of the body's branch. -/
abbrev cond0_0 (i : grid0.Coords) : Prop := k0_cond1 i = 1#1

/-- It holds at the first column block of a row tile. -/
theorem hcond0_0 : ∀ t : Fin cfg0.N, cond0_0 (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [cond0_0, k0_cond1, e1]
    word_cmp
   : ∀ t : Fin grid0.N, cond0_0 (grid0.coords t) ↔ t.val % 4 = 0)

/-! ## The staging buffers -/

/-- A buffer of window 3, through which what it holds is stated. -/
abbrev VO0_3 : View sig .tc .vmem S512x1280 .bf16 := (Memref.whole cc0_stg3_0 : Memref sig .tc .vmem S512x1280 .bf16).view
/-- A buffer of window 4, through which what it holds is stated. -/
abbrev VO0_4 : View sig .tc .vmem S512x2048 .bf16 := (Memref.whole cc0_stg4_0 : Memref sig .tc .vmem S512x2048 .bf16).view
/-- Window 0's buffer at point `t`. -/
abbrev ms0_0 (t : Fin cfg0.N) : Memref sig .tc .vmem S512x2048 .f32 := win0_0.stage (cfg0.slots t 0)
/-- It is a whole buffer. -/
abbrev hs0_0 (t : Fin cfg0.N) : (ms0_0 t).IsWhole := hstage0_0 ((cfg0.slots t 0).cast nbuf0_0)
/-- Window 1's buffer at point `t`. -/
abbrev ms0_1 (t : Fin cfg0.N) : Memref sig .tc .vmem S1x2048 .f32 := win0_1.stage (cfg0.slots t 1)
/-- It is a whole buffer. -/
abbrev hs0_1 (t : Fin cfg0.N) : (ms0_1 t).IsWhole := hstage0_1 ((cfg0.slots t 1).cast nbuf0_1)
/-- Window 2's buffer at point `t`. -/
abbrev ms0_2 (t : Fin cfg0.N) : Memref sig .tc .vmem S2x1x1024x1280 .bf16 := win0_2.stage (cfg0.slots t 2)
/-- It is a whole buffer. -/
abbrev hs0_2 (t : Fin cfg0.N) : (ms0_2 t).IsWhole := hstage0_2 ((cfg0.slots t 2).cast nbuf0_2)
/-- Window 3's buffer at point `t`. -/
abbrev ms0_3 (t : Fin cfg0.N) : Memref sig .tc .vmem S512x1280 .bf16 := win0_3.stage (cfg0.slots t 3)
/-- It is a whole buffer. -/
abbrev hs0_3 (t : Fin cfg0.N) : (ms0_3 t).IsWhole := hstage0_3 ((cfg0.slots t 3).cast nbuf0_3)
/-- Window 4's buffer at point `t`. -/
abbrev ms0_4 (t : Fin cfg0.N) : Memref sig .tc .vmem S512x2048 .bf16 := win0_4.stage (cfg0.slots t 4)
/-- It is a whole buffer. -/
abbrev hs0_4 (t : Fin cfg0.N) : (ms0_4 t).IsWhole := hstage0_4 ((cfg0.slots t 4).cast nbuf0_4)
/-- The scratch buffer the body keeps between points. -/
abbrev scM0_0 : Memref sig .tc .vmem S512x2048 .bf16 := Memref.whole cc0_scratch0
/-- The same, as a view. -/
abbrev VS0_0 : View sig .tc .vmem S512x2048 .bf16 := scM0_0.view

/-- The invariant before the first point, with the scratch buffer at anything. -/
theorem PhiA0_eq (c : Dev nD) :
    (Pipeline.ΦA spec0 c : sProp 𝕄)
      = iprop(iprop((∃ d, owns c.tc scM0_0 fullShare d)) ∗ (∃ r, prngReg c r)) := by
  unfold Pipeline.ΦA; rw [scopedRest0_eq]; simp only [scM0_0, owns_whole]; try rfl

/-! ## The body, at the first column block (A) and at the others (B) -/

section
variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2x1x1024x1280 .bf16) (harg4 : arg4.IsWhole) (arg5 : Memref sig .tc .vmem S512x1280 .bf16) (harg5 : arg5.IsWhole) (arg6 : Memref sig .tc .vmem S512x2048 .bf16) (harg6 : arg6.IsWhole) (arg7 : Memref sig .tc .vmem S512x2048 .bf16) (harg7 : arg7.IsWhole)
include c i arg2 harg2 arg3 harg3 arg4 harg4 arg5 harg5 arg6 harg6 arg7 harg7

set_option maxHeartbeats 4000000 in
/-- At a point of case A the body runs from the inputs' buffers at `x·` and the others at anything, and leaves the
    pieces found here in each buffer it stores into. -/
noncomputable def kernelRun0_A (hc0 : cond0_0 i)
    (x0 : Vec F S512x2048 .f32) (x1 : Vec F S1x2048 .f32) (x2 : Vec F S2x1x1024x1280 .bf16) :
    Σ' (L3 : List (View.Piece (Elt F) S512x1280 .bf16)) (L4 : List (View.Piece (Elt F) S512x2048 .bf16)), { LS0 : List (View.Piece (Elt F) S512x2048 .bf16) //
      ∀ (E : Set ℕ) (K : PUnit → sProp 𝕄),
        iprop(owns c.tc arg2 fullShare x0 ∗ owns c.tc arg3 fullShare x1 ∗ owns c.tc arg4 fullShare x2 ∗ (∃ d, owns c.tc arg5 fullShare d) ∗ (∃ d, owns c.tc arg6 fullShare d) ∗ (∃ d, owns c.tc arg7 fullShare d)
            ∗ (iprop(owns c.tc arg2 fullShare x0 ∗ owns c.tc arg3 fullShare x1 ∗ owns c.tc arg4 fullShare x2 ∗ (∃ f, arg5.view.loc c.tc ↦[arg5.view.set]{fullShare} arg5.view.writes (Elt F) f L3) ∗ (∃ f, arg6.view.loc c.tc ↦[arg6.view.set]{fullShare} arg6.view.writes (Elt F) f L4) ∗ (∃ f, arg7.view.loc c.tc ↦[arg7.view.set]{fullShare} arg7.view.writes (Elt F) f LS0)) -∗ K ⟨⟩))
          ⊢ wp frame (wpE (defs₀ (F := F)) Variants.none c none) E (cc0_inproj i arg2 harg2 arg3 harg3 arg4 harg4 arg5 harg5 arg6 harg6 arg7 harg7) K } := by
  refine ⟨?_, ?_, ?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

set_option maxHeartbeats 4000000 in
/-- At a point of case B the body stores into window 3's buffer alone and reads the scratch buffer. -/
noncomputable def kernelRun0_B (hc0 : ¬cond0_0 i)
    (x0 : Vec F S512x2048 .f32) (x1 : Vec F S1x2048 .f32) (x2 : Vec F S2x1x1024x1280 .bf16) (xh : Vec F S512x2048 .bf16) (xs0 : Vec F S512x2048 .bf16) :
    { L3 : List (View.Piece (Elt F) S512x1280 .bf16) //
      ∀ (E : Set ℕ) (K : PUnit → sProp 𝕄),
        iprop(owns c.tc arg2 fullShare x0 ∗ owns c.tc arg3 fullShare x1 ∗ owns c.tc arg4 fullShare x2 ∗ (∃ d, owns c.tc arg5 fullShare d) ∗ owns c.tc arg6 fullShare xh ∗ owns c.tc arg7 fullShare xs0
            ∗ (iprop(owns c.tc arg2 fullShare x0 ∗ owns c.tc arg3 fullShare x1 ∗ owns c.tc arg4 fullShare x2 ∗ (∃ f, arg5.view.loc c.tc ↦[arg5.view.set]{fullShare} arg5.view.writes (Elt F) f L3) ∗ owns c.tc arg6 fullShare xh ∗ owns c.tc arg7 fullShare xs0) -∗ K ⟨⟩))
          ⊢ wp frame (wpE (defs₀ (F := F)) Variants.none c none) E (cc0_inproj i arg2 harg2 arg3 harg3 arg4 harg4 arg5 harg5 arg6 harg6 arg7 harg7) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    iexists _; isplitr; · ipureintro; exact harg7.read_unread _
    iexact HS0

/-- The pieces of case A fill the buffer. -/
theorem cover0_A_3 (hc0 : cond0_0 i)
    (x0 : Vec F S512x2048 .f32) (x1 : Vec F S1x2048 .f32) (x2 : Vec F S2x1x1024x1280 .bf16) (y : S512x1280.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S512x1280.size (by sl_kernel_rfl) y

/-- What case A leaves in it. -/
def out0_A_3 (hc0 : cond0_0 i)
    (x0 : Vec F S512x2048 .f32) (x1 : Vec F S1x2048 .f32) (x2 : Vec F S2x1x1024x1280 .bf16) : Vec F S512x1280 .bf16 :=
  VO0_3.read (Elt F) (VO0_3.writes (Elt F) VO0_3.junk (kernelRun0_A c i arg2 harg2 arg3 harg3 arg4 harg4 arg5 harg5 arg6 harg6 arg7 harg7 hc0 x0 x1 x2).1)

/-- The pieces of case A fill the buffer. -/
theorem cover0_A_4 (hc0 : cond0_0 i)
    (x0 : Vec F S512x2048 .f32) (x1 : Vec F S1x2048 .f32) (x2 : Vec F S2x1x1024x1280 .bf16) (y : S512x2048.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S512x2048.size (by sl_kernel_rfl) y

/-- What case A leaves in it. -/
def out0_A_4 (hc0 : cond0_0 i)
    (x0 : Vec F S512x2048 .f32) (x1 : Vec F S1x2048 .f32) (x2 : Vec F S2x1x1024x1280 .bf16) : Vec F S512x2048 .bf16 :=
  VO0_4.read (Elt F) (VO0_4.writes (Elt F) VO0_4.junk (kernelRun0_A c i arg2 harg2 arg3 harg3 arg4 harg4 arg5 harg5 arg6 harg6 arg7 harg7 hc0 x0 x1 x2).2.1)

/-- The pieces of case A fill the buffer. -/
theorem scover0_A_0 (hc0 : cond0_0 i)
    (x0 : Vec F S512x2048 .f32) (x1 : Vec F S1x2048 .f32) (x2 : Vec F S2x1x1024x1280 .bf16) (y : S512x2048.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S512x2048.size (by sl_kernel_rfl) y

/-- What case A leaves in it. -/
def sout0_A_0 (hc0 : cond0_0 i)
    (x0 : Vec F S512x2048 .f32) (x1 : Vec F S1x2048 .f32) (x2 : Vec F S2x1x1024x1280 .bf16) : Vec F S512x2048 .bf16 :=
  VS0_0.read (Elt F) (VS0_0.writes (Elt F) VS0_0.junk (kernelRun0_A c i arg2 harg2 arg3 harg3 arg4 harg4 arg5 harg5 arg6 harg6 arg7 harg7 hc0 x0 x1 x2).2.2.1)

/-- The pieces of case B fill the buffer. -/
theorem cover0_B_3 (hc0 : ¬cond0_0 i)
    (x0 : Vec F S512x2048 .f32) (x1 : Vec F S1x2048 .f32) (x2 : Vec F S2x1x1024x1280 .bf16) (xh : Vec F S512x2048 .bf16) (xs0 : Vec F S512x2048 .bf16) (y : S512x1280.Idx) :
    ∃ pc ∈ (kernelRun0_B c i arg2 harg2 arg3 harg3 arg4 harg4 arg5 harg5 arg6 harg6 arg7 harg7 hc0 x0 x1 x2 xh xs0).1, y ∈ pc.1.set :=
  View.cover_of_tiledL (kernelRun0_B c i arg2 harg2 arg3 harg3 arg4 harg4 arg5 harg5 arg6 harg6 arg7 harg7 hc0 x0 x1 x2 xh xs0).1 S512x1280.size (by sl_kernel_rfl) y

/-- What case B leaves in it. -/
def out0_B_3 (hc0 : ¬cond0_0 i)
    (x0 : Vec F S512x2048 .f32) (x1 : Vec F S1x2048 .f32) (x2 : Vec F S2x1x1024x1280 .bf16) (xh : Vec F S512x2048 .bf16) (xs0 : Vec F S512x2048 .bf16) : Vec F S512x1280 .bf16 :=
  VO0_3.read (Elt F) (VO0_3.writes (Elt F) VO0_3.junk (kernelRun0_B c i arg2 harg2 arg3 harg3 arg4 harg4 arg5 harg5 arg6 harg6 arg7 harg7 hc0 x0 x1 x2 xh xs0).1)

end

/-! ## What the buffers hold after each point -/

/-- What they hold after a point of case A. -/
abbrev caseA (c : Dev nD) (t : Fin cfg0.N) (h0 : t.val % 4 = 0) : Vec F S512x1280 .bf16 × Vec F S512x2048 .bf16 × Vec F S512x2048 .bf16 :=
  (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t))
/-- What the outputs' buffers and the scratch buffer hold after the body at position `n`: at a point of case B window 4's
    and the scratch buffer keep what the point before left. -/
def outsAt0 (c : Dev nD) : (n : ℕ) → n < cfg0.N → Vec F S512x1280 .bf16 × Vec F S512x2048 .bf16 × Vec F S512x2048 .bf16
  | 0, hn => caseA m c ⟨0, hn⟩ (Nat.zero_mod _)
  | n + 1, hn =>
    if h0 : (n + 1) % 4 = 0 then
      caseA m c ⟨n + 1, hn⟩ h0
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
      (outsAt0 c n (Nat.lt_of_succ_lt hn)).2.1, (outsAt0 c n (Nat.lt_of_succ_lt hn)).2.2)

/-- `outsAt0` at a point of case A. -/
theorem outsAt0_A (c : Dev nD) (t : Fin cfg0.N) (h0 : t.val % 4 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B. -/
theorem outsAt0_B (c : Dev nD) (t : Fin cfg0.N) (h0 : ¬t.val % 4 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: the scratch buffer at what the point before left. -/
def PhiS (c : Dev nD) : (n : ℕ) → n ≤ cfg0.N → sProp 𝕄
  | 0, _ => Pipeline.ΦA spec0 c
  | n + 1, hn => iprop(iprop(owns c.tc scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns c.tc scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns c.tc scM0_0 fullShare ((outsAt0 m c (n - 1) (by omega)).2.2)) ∗ (∃ r, prngReg c r)) := by
  cases n with
  | zero => exact absurd rfl hz
  | succ n => rfl

/-! ## The pipeline's proof data -/

/-- The arrays as the region finds them, each input's buffer at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Window 4 is left alone exactly at the points of case B. -/
theorem idle0_iff (t : Fin cfg0.N) : cfg0.idle 4 (cfg0.grid.coords t) = !(decide (t.val % 4 = 0)) := by
  show (!(k0_cond1 (grid0.coords t) == 1#1)) = _
  congr 1
  rw [Bool.eq_iff_iff, beq_iff_eq, decide_eq_true_iff]
  exact hcond0_0 t

/-- Its buffer holds nothing of use exactly before the points of case A. -/
theorem fresh0 (n : ℕ) (hn : n ≤ cfg0.N) : cfg0.fresh 4 n = decide (n % 4 = 0) := by
  refine Cfg.fresh_tab cfg0 4 (fun n => decide (n % 4 = 0)) rfl (fun t => ?_) n hn
  have hf : (cfg0.win 4).flush t = decide (t.val % 4 = 3) := by
    rw [Bool.eq_iff_iff, decide_eq_true_iff]; exact flush0_4 t
  rw [hf, idle0_iff, Bool.eq_iff_iff]
  simp only [Bool.or_eq_true, Bool.and_eq_true, Bool.not_eq_true', decide_eq_true_iff, decide_eq_false_iff_not]
  omega

/-- At a point of case B window 4's buffer holds what the point before left. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.1 := by
  have h := Dat.before_out_traj (dats m 0 c) 4 rfl (fun _ _ => rfl) (fun t ht hi _ => by
    rw [idle0_iff] at hi
    have h0 : ¬t.val % 4 = 0 := by simpa using hi
    rw [after0_4, after0_4, outsAt0_B m c t h0]) t.val t rfl d
  rw [fresh0 t.val (Nat.le_of_lt t.isLt), if_neg (by simpa using h0)] at h
  exact h.trans (after0_4 m c _)

/-- So what case B hands back of that buffer is what the pipeline asks for there. -/
theorem leaves0_4 (c : Dev nD) (t : Fin cfg0.N) :
    owns c.tc (ms0_4 t) fullShare ((dats m 0 c).after 4 t) ⊢ ((dats m 0 c).leavesExact 4 t : sProp 𝕄) := by
  by_cases h0 : t.val % 4 = 0
  · have hi : cfg0.idle 4 (cfg0.grid.coords t) = false := by rw [idle0_iff]; simpa using h0
    unfold Dat.leavesExact; rw [hi]
    try exact Idealize.SL.BI.Entails.refl _
  · have hi : cfg0.idle 4 (cfg0.grid.coords t) = true := by rw [idle0_iff]; simpa using h0
    unfold Dat.leavesExact; rw [hi]
    cases hf : (cfg0.win 4).flush t
    · dsimp only
      iintro H
      iexists (dats m 0 c).after 4 t
      rw [before0_4_B m c t h0, after0_4, outsAt0_B m c t h0]
      iexact H
    · dsimp only
      try exact Idealize.SL.BI.Entails.refl _

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d)))

/-- what it leaves, -/
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t))

/-- and what the pipeline asks for. -/
def bodyPostL (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ (dats m 0 c).leavesExact 4 t)

theorem bodyPost_leaves (c : Dev nD) (t : Fin cfg0.N) : (bodyPost m c t : sProp 𝕄) ⊢ bodyPostL m c t := by
  unfold bodyPost bodyPostL
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves0_4 m c t)
  iexact H4

set_option maxHeartbeats 3200000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  by_cases h0 : t.val % 4 = 0
  · by_cases hz : t.val = 0
    · rw [PhiS_castSucc m c t, PhiS_zero m c _ _ hz, PhiA0_eq]
      rw [outsAt0_A m c t h0]
      unfold out0_A_3 out0_A_4 sout0_A_0; (try dsimp only)
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _)
    · rw [PhiS_castSucc m c t, PhiS_pos m c _ _ hz]
      rw [outsAt0_A m c t h0]
      unfold out0_A_3 out0_A_4 sout0_A_0; (try dsimp only)
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk m c 0 t) (iblk m c 1 t) (iblk m c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _ _)
  · have hz : t.val ≠ 0 := fun h => h0 (by rw [h])
    rw [PhiS_castSucc m c t, PhiS_pos m c _ _ hz]
    rw [outsAt0_B m c t h0]
    simp only [before0_4_B m c t h0]
    unfold out0_B_3; (try dsimp only)
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) _ _).2 Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, ⟨%e3, H3⟩, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _)
    iexact H4

theorem defs₀_row (t : Fin cfg0.N) :
    defs₀ (F := F) .tc cfg0.body (cfg0.bodyArgs t (cfg0.slots t)) = bodyAt0 t := by
  unfold defs₀; rw [Defs.onTc_tc]

/-- The body, as the pipeline's rule takes it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => bodyPost_leaves m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- From any memory, every run ends with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  frame_of m ρ (dats m) (A_eq m) (run_main m ρ)

/-- The same, and no semaphore is left raised. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2))
      ∧ r.2.sem = fun _ => 0) :=
  θ_run_and (unchanged m ρ) ((θ_run defs _ _).mono (fun _ h => h.2) (run_main_quiescent m ρ))

end Cert.Kernel5Ideal.Gen

end
-- ==== Proof.Lin.Claim5.lean ====
/- The forward input projection with its normed rows: the frames of the kernel as printed and idealized and of the reference, and the equality of their results. -/
module

public import proofs.«01_k».proof.Proof.Lin.Run5
public import Idealize.ShloMosaic.Lib.Pipeline.ValueKit
public import Idealize.ShloMosaic.Lib.Pipeline.ReadBack
public import proofs.«01_k».proof.Defs
public import proofs.«01_k».proof.Proof.Gen.Kernel5.Frame
public import proofs.«01_k».proof.Proof.Gen.Reference5Ideal.Run

@[expose] public section

set_option maxRecDepth 16384

noncomputable section

namespace Cert.Lin5

open Idealize.ShloMosaic in
/-- Arrays of extended reals, by shape. -/
abbrev R32 (s : Shape) := FVec Ideal s .f32

section
open Reference5Ideal Reference5Ideal.Gen
open Idealize.ShloMosaic Idealize.ShloMosaic.TcCoe

/-- The rows divided by their root mean square and scaled. -/
def rows (a0 : R32 S8192x2048) (a1 : R32 S2048) : R32 S8192x2048 :=
  mulf (mulf a0 (broadcastInDim S8192x2048 ![0, 1]
    bcast_S8192x1_S8192x2048_0_1 (Host.rsqrt (addf (Host.divf (broadcastInDim S8192x1 ![0] bcast_S8192_S8192x1_0 (Host.reduceAdd (mulf a0 a0)
    (constant S_ .f32 0x00000000#32) reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim S8192x2048 ![0, 1]
    bcast_S1x2048_S8192x2048_0_1 (broadcastInDim S1x2048 ![1] bcast_S2048_S1x2048_1 a1))

/-- The input projection of the normed rows, as the reference computes it. -/
def ref0 (a0 : R32 S8192x2048) (a1 : R32 S2048) (a2 : R32 S2048x5120) : FVec Ideal S8192x5120 .bf16 :=
  truncf .bf16 (Host.dotGeneral dot_S8192x2048_S2048x5120_S8192x5120_1_0_0_1_n_n none (rows a0 a1) a2) bitsLt_bf16_f32

/-- The normed rows, as the reference computes them. -/
def ref1 (a0 : R32 S8192x2048) (a1 : R32 S2048) : FVec Ideal S8192x2048 .bf16 :=
  truncf .bf16 (rows a0 a1) bitsLt_bf16_f32
end

section
open Kernel5Ideal Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point, by the point's number. -/
theorem idx_val : ∀ t : Fin cfg0.N, win0_0.index t = ![t.val / 4, 0]
    ∧ win0_1.index t = ![0, 0]
    ∧ win0_2.index t = ![0, t.val % 4, 0, 0]
    ∧ win0_3.index t = ![t.val / 4, t.val % 4]
    ∧ win0_4.index t = ![t.val / 4, 0] :=
  (by decide +kernel : ∀ t : Fin grid0.N, _)

/-- The weights as the call is given them: in two halves of rows and four blocks of columns. -/
def lay (a2 : R32 S2048x5120) : FVec Ideal S2x4x1024x1280 .bf16 :=
  transpose S2x4x1024x1280 [0, 2, 1, 3] (shapeCast S2x1024x4x1280 (truncf .bf16 a2 bitsLt_bf16_f32) shapeCasts_S2048x5120_S2x1024x4x1280)
    transposes_S2x1024x4x1280_S2x4x1024x1280_0_2_1_3

theorem V_lay (c : Dev nD) (i : S2x4x1024x1280.Idx) :
    V m c main_v2 i = lay (m (c.tc.loc main_arg2)) i := by
  entry_read
  pointwise [lay]

/-- A block of rows, normed. -/
theorem rows_blk (c : Dev nD) (t : Fin cfg0.N) (y : S512x2048.Idx) :
    k0_pay1 (F := Ideal) (iblk m c 0 t) (iblk m c 1 t) y
      = rows (m (c.tc.loc main_arg0)) (m (c.tc.loc main_arg1)) (((cfg0.win 4).blk t).view.emb y) := by
  pointwise [k0_pay1, rows]
  blk_point [iblk, V, idx_val t]

/-- The same as it is stored in the scratch buffer. -/
theorem rows_blk2 (c : Dev nD) (t : Fin cfg0.N) (y : S512x2048.Idx) :
    k0_pay2 (F := Ideal) (iblk m c 0 t) (iblk m c 1 t) y
      = rows (m (c.tc.loc main_arg0)) (m (c.tc.loc main_arg1)) (((cfg0.win 4).blk t).view.emb y) := by
  refine Eq.trans ?_ (rows_blk m c t y)
  pointwise [k0_pay2]

/-- A sum over 2048 terms is the sum over its two halves. -/
theorem halves (f : Fin 2048 → EReal) (g h : Fin 1024 → EReal) (hg : ∀ k : Fin 1024, g k = f ⟨k.val, by omega⟩)
    (hh : ∀ k : Fin 1024, h k = f ⟨1024 + k.val, by omega⟩) : (∑ k, g k) + ∑ k, h k = ∑ k, f k :=
  (congrArg₂ (· + ·) (Finset.sum_congr rfl fun k _ => hg k) (Finset.sum_congr rfl fun k _ => hh k)).trans
    (Fin.sum_univ_add (a := 1024) (b := 1024) f).symm

/-- The product of a block of rows with a block of columns, taken in two halves of the summed axis, is the reference's block. -/
theorem z_at (c : Dev nD) (t : Fin cfg0.N) (X : Vec Ideal S512x2048 .bf16)
    (hX : ∀ y, X y = rows (m (c.tc.loc main_arg0)) (m (c.tc.loc main_arg1)) (((cfg0.win 4).blk t).view.emb y)) (y) :
    k0_pay3 (F := Ideal) (View.ld X (Rect.unit ![0, 0] ![512, 1024] inb_S512x2048_S512x1024_0_0))
      (View.ld (iblk m c 2 t) (Rect.unit ![0, 0, 0, 0] ![1, 1, 1024, 1280] inb_S2x1x1024x1280_S1x1x1024x1280_0_0_0_0))
      (View.ld X (Rect.unit ![0, 1024] ![512, 1024] inb_S512x2048_S512x1024_0_1024))
      (View.ld (iblk m c 2 t) (Rect.unit ![1, 0, 0, 0] ![1, 1, 1024, 1280] inb_S2x1x1024x1280_S1x1x1024x1280_1_0_0_0)) y
      = ref0 (m (c.tc.loc main_arg0)) (m (c.tc.loc main_arg1)) (m (c.tc.loc main_arg2)) (((cfg0.win 3).blk t).view.emb
        y) := by
  pointwise [k0_pay3, ref0]
  refine halves _ _ _ (fun k => congrArg₂ (· * ·) ((hX _).trans (congrArg (rows _ _) ?_)) ((V_lay m c _).trans ?_))
    (fun k => congrArg₂ (· * ·) ((hX _).trans (congrArg (rows _ _) ?_)) ((V_lay m c _).trans ?_))
  · blk_ext [idx_val t]
  · pointwise [lay]
    blk_point [idx_val t]
  · blk_ext [idx_val t]
  · pointwise [lay]
    blk_point [idx_val t]

/-- Every point leaves the rows of its tile in the scratch buffer and in the second output's buffer. -/
theorem rows_at (c : Dev nD) : ∀ (n : ℕ) (hn : n < cfg0.N),
    (∀ y, (outsAt0 m c n hn).2.1 y = rows (m (c.tc.loc main_arg0)) (m (c.tc.loc main_arg1)) (((cfg0.win 4).blk ⟨n, hn⟩).view.emb y))
    ∧ (∀ y, (outsAt0 m c n hn).2.2 y = rows (m (c.tc.loc main_arg0)) (m (c.tc.loc main_arg1)) (((cfg0.win 4).blk ⟨n, hn⟩).view.emb y)) := by
  intro n hn
  induction n with
  | zero =>
    have h := outsAt0_A m c ⟨0, hn⟩ rfl
    dsimp only at h
    rw [h]
    refine ⟨fun y => ?_, fun y => ?_⟩
    · frame_out
      exact rows_blk m c ⟨0, hn⟩ y
    · frame_out
      exact rows_blk2 m c ⟨0, hn⟩ y
  | succ n ih =>
    by_cases h0 : (n + 1) % 4 = 0
    · have h := outsAt0_A m c ⟨n + 1, hn⟩ h0
      dsimp only at h
      rw [h]
      refine ⟨fun y => ?_, fun y => ?_⟩
      · frame_out
        exact rows_blk m c ⟨n + 1, hn⟩ y
      · frame_out
        exact rows_blk2 m c ⟨n + 1, hn⟩ y
    · have h := outsAt0_B m c ⟨n + 1, hn⟩ h0
      dsimp only at h
      rw [h]
      have e : ∀ y, ((cfg0.win 4).blk ⟨n, Nat.lt_of_succ_lt hn⟩).view.emb y = ((cfg0.win 4).blk ⟨n + 1, hn⟩).view.emb y := fun y => by
        blk_ext [idx_val ⟨n, Nat.lt_of_succ_lt hn⟩, idx_val ⟨n + 1, hn⟩]
      exact ⟨fun y => ((ih (Nat.lt_of_succ_lt hn)).1 y).trans (congrArg (rows _ _) (e y)),
        fun y => ((ih (Nat.lt_of_succ_lt hn)).2 y).trans (congrArg (rows _ _) (e y))⟩

/-- The projection is the reference's. -/
theorem final0 (c : Dev nD) : (dats m 0 c).arrAt 3 (cfgs 0).N = ref0 (m (c.tc.loc main_arg0)) (m (c.tc.loc main_arg1)) (m (c.tc.loc main_arg2)) := by
  refine (dats m 0 c).arrAt_eq_of_covers 3 _ (by decide +kernel) fun t hf y => ?_
  blk_simp; rw [after0_3]
  by_cases h : t.val % 4 = 0
  · rw [outsAt0_A m c t h]; dsimp only
    frame_out
    rw [View.readCov_fill _ _ _ _ _ (fun a => by fin_cases a <;> rfl), View.readCov_fill _ _ _ _ _ (fun a => by fin_cases a <;> rfl)]
    exact z_at m c t _ (rows_blk2 m c t) y
  · have hX := (rows_at m c t.val t.isLt).2
    rw [outsAt0_B m c t h] at hX ⊢
    dsimp only at hX ⊢
    frame_out
    simp only [read_unread_whole]
    exact z_at m c t _ hX y

/-- The normed rows are the reference's. -/
theorem final1 (c : Dev nD) : (dats m 0 c).arrAt 4 (cfgs 0).N = ref1 (m (c.tc.loc main_arg0)) (m (c.tc.loc main_arg1)) := by
  refine (dats m 0 c).arrAt_eq_of_covers 4 _ (by decide +kernel) fun t hf y => ?_
  blk_simp; rw [after0_4]
  exact (rows_at m c t.val t.isLt).1 y
end

set_option backward.isDefEq.respectTransparency false
open Idealize.ShloMosaic Idealize.SL.Sem

/-- The two prints' body tables are one: the same text, at each label. -/
theorem bodies_eq {F : FTy → Type} [FloatOps F] : (Kernel5.defs₀ (F := F)) = (Kernel5Ideal.defs₀ (F := F) : Defs Kernel5.nD Kernel5.τ Kernel5.sig (Elt F) Kernel5.Λ₀) := by
  refine congrArg Defs.onTc (funext fun l => funext fun a => ?_)
  match l, a with
  | 0, (t, s) => rfl
  | ⟨_ + 1, h⟩, _ => exact absurd h (Nat.not_lt.2 (Nat.le_add_left _ _))
theorem defs_eq {F : FTy → Type} [FloatOps F] : (Kernel5.defs (F := F)) = (Kernel5Ideal.defs (F := F) : Defs Kernel5.nD Kernel5.τ Kernel5.sig (Elt F) (Pipeline.Sig Kernel5.Λ₀ (Fin 1) fun p => (Kernel5.pcfgs (F := F) p).Adm)) :=
  congrArg (Pipeline.defs Kernel5.pcfgs) bodies_eq

/-- The kernel as printed: the same program as the idealized one, so the same run at the bit values. -/
theorem frame_kernel : quiescent_Kernel5 := fun m ρ _ =>
  (congrArg (fun D => θ_run D (onTc (τ := Kernel5.τ) (Kernel5.main (F := Bits))) ⟨m, fun _ => 0, ρ⟩ _) defs_eq).mpr (Kernel5Ideal.Gen.frame m ρ)
theorem frame_ideal : quiescent_Kernel5Ideal := fun m ρ _ => Kernel5Ideal.Gen.frame m ρ
theorem frame_reference : quiescent_Reference5Ideal := fun m ρ _ =>
  (θ_run Reference5Ideal.defs _ _).mono (fun _ h => ⟨fun c => (h c).2.2, sem_eq_zero_of_no_sems (by decide) _⟩) (Reference5Ideal.Value.run m ρ)

/-- The idealized kernel and the idealized reference end with equal results. -/
theorem algebraic : algebraic_Kernel5Ideal_Reference5Ideal := by
  pair_intro
  · run_from Kernel5Ideal.Gen.run_main m g
  · refine (θ_run Reference5Ideal.defs _ _).mono (fun _ h c => ?_) (Reference5Ideal.Value.run m' g')
    obtain ⟨e0, e1, e2⟩ := hagree c
    refine ⟨(h c).1.trans (Eq.trans ?_ (final0 m c).symm), (h c).2.1.trans (Eq.trans ?_ (final1 m c).symm), (h c).2.2⟩
    all_goals
      simp only [← e0, ← e1, ← e2]
      rfl

end Cert.Lin5
-- ==== Proof.Lin.Run6.lean ====
module

public import proofs.«01_k».proof.Proof.Gen.Kernel6Ideal.Frame
public import proofs.«01_k».proof.Proof.Gen.Kernel6Ideal.Skeleton
public import Idealize.ShloMosaic.Lib.Pipeline.TableIdle
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## When the body stores the second output -/

/-- The condition of the body's branch. -/
abbrev cond0_0 (i : grid0.Coords) : Prop := k0_cond1 i = 1#1

/-- It holds at the first column block of a row tile. -/
theorem hcond0_0 : ∀ t : Fin cfg0.N, cond0_0 (grid0.coords t) ↔ t.val % 2 = 0 :=
  (fun t => by
    have ht : t.val < 32 := Nat.lt_of_lt_of_eq t.isLt N_0
    have e1 : (grid0.coords t 1).val = t.val / 1 % 2 := Pipeline.Grid.coords_val t 1 (by decide) rfl
    simp only [cond0_0, k0_cond1, e1]
    word_cmp
   : ∀ t : Fin grid0.N, cond0_0 (grid0.coords t) ↔ t.val % 2 = 0)

/-! ## The staging buffers -/

/-- A buffer of window 5, through which what it holds is stated. -/
abbrev VO0_5 : View sig .tc .vmem S512x1024 .f32 := (Memref.whole cc0_stg5_0 : Memref sig .tc .vmem S512x1024 .f32).view
/-- A buffer of window 6, through which what it holds is stated. -/
abbrev VO0_6 : View sig .tc .vmem S512x2048 .bf16 := (Memref.whole cc0_stg6_0 : Memref sig .tc .vmem S512x2048 .bf16).view
/-- Window 0's buffer at point `t`. -/
abbrev ms0_0 (t : Fin cfg0.N) : Memref sig .tc .vmem S512x512 .bf16 := win0_0.stage (cfg0.slots t 0)
/-- It is a whole buffer. -/
abbrev hs0_0 (t : Fin cfg0.N) : (ms0_0 t).IsWhole := hstage0_0 ((cfg0.slots t 0).cast nbuf0_0)
/-- Window 1's buffer at point `t`. -/
abbrev ms0_1 (t : Fin cfg0.N) : Memref sig .tc .vmem S512x1024 .bf16 := win0_1.stage (cfg0.slots t 1)
/-- It is a whole buffer. -/
abbrev hs0_1 (t : Fin cfg0.N) : (ms0_1 t).IsWhole := hstage0_1 ((cfg0.slots t 1).cast nbuf0_1)
/-- Window 2's buffer at point `t`. -/
abbrev ms0_2 (t : Fin cfg0.N) : Memref sig .tc .vmem S512x512 .bf16 := win0_2.stage (cfg0.slots t 2)
/-- It is a whole buffer. -/
abbrev hs0_2 (t : Fin cfg0.N) : (ms0_2 t).IsWhole := hstage0_2 ((cfg0.slots t 2).cast nbuf0_2)
/-- Window 3's buffer at point `t`. -/
abbrev ms0_3 (t : Fin cfg0.N) : Memref sig .tc .vmem S2048x1024 .bf16 := win0_3.stage (cfg0.slots t 3)
/-- It is a whole buffer. -/
abbrev hs0_3 (t : Fin cfg0.N) : (ms0_3 t).IsWhole := hstage0_3 ((cfg0.slots t 3).cast nbuf0_3)
/-- Window 4's buffer at point `t`. -/
abbrev ms0_4 (t : Fin cfg0.N) : Memref sig .tc .vmem S512x1024 .f32 := win0_4.stage (cfg0.slots t 4)
/-- It is a whole buffer. -/
abbrev hs0_4 (t : Fin cfg0.N) : (ms0_4 t).IsWhole := hstage0_4 ((cfg0.slots t 4).cast nbuf0_4)
/-- Window 5's buffer at point `t`. -/
abbrev ms0_5 (t : Fin cfg0.N) : Memref sig .tc .vmem S512x1024 .f32 := win0_5.stage (cfg0.slots t 5)
/-- It is a whole buffer. -/
abbrev hs0_5 (t : Fin cfg0.N) : (ms0_5 t).IsWhole := hstage0_5 ((cfg0.slots t 5).cast nbuf0_5)
/-- Window 6's buffer at point `t`. -/
abbrev ms0_6 (t : Fin cfg0.N) : Memref sig .tc .vmem S512x2048 .bf16 := win0_6.stage (cfg0.slots t 6)
/-- It is a whole buffer. -/
abbrev hs0_6 (t : Fin cfg0.N) : (ms0_6 t).IsWhole := hstage0_6 ((cfg0.slots t 6).cast nbuf0_6)

/-! ## The body, at the first column block (A) and at the others (B) -/

section
variable (c : Dev nD) (i : grid0.Coords) (arg2 : Memref sig .tc .vmem S512x512 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S2048x1024 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x2048 .bf16) (harg8 : arg8.IsWhole)
include c i arg2 harg2 arg3 harg3 arg4 harg4 arg5 harg5 arg6 harg6 arg7 harg7 arg8 harg8

set_option maxHeartbeats 4000000 in
/-- At a point of case A the body runs from the inputs' buffers at `x·` and the others at anything, and leaves the
    pieces found here in each buffer it stores into. -/
noncomputable def kernelRun0_A (hc0 : cond0_0 i)
    (x0 : Vec F S512x512 .bf16) (x1 : Vec F S512x1024 .bf16) (x2 : Vec F S512x512 .bf16) (x3 : Vec F S2048x1024 .bf16) (x4 : Vec F S512x1024 .f32) :
    Σ' (L5 : List (View.Piece (Elt F) S512x1024 .f32)), { L6 : List (View.Piece (Elt F) S512x2048 .bf16) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ (∃ d, owns c.tc arg7 fullShare d) ∗ (∃ d, owns c.tc arg8 fullShare d)
            ∗ (iprop(owns c.tc arg2 fullShare x0 ∗ owns c.tc arg3 fullShare x1 ∗ owns c.tc arg4 fullShare x2 ∗ owns c.tc arg5 fullShare x3 ∗ owns c.tc arg6 fullShare x4 ∗ (∃ f, arg7.view.loc c.tc ↦[arg7.view.set]{fullShare} arg7.view.writes (Elt F) f L5) ∗ (∃ f, arg8.view.loc c.tc ↦[arg8.view.set]{fullShare} arg8.view.writes (Elt F) f L6)) -∗ K ⟨⟩))
          ⊢ wp frame (wpE (defs₀ (F := F)) Variants.none c none) E (cc0_outproj i arg2 harg2 arg3 harg3 arg4 harg4 arg5 harg5 arg6 harg6 arg7 harg7 arg8 harg8) K } := by
  refine ⟨?_, ?_, fun E K => ?run⟩
  case run =>
    simp only [cc0_outproj_eq_skeleton]; unfold cc0_outproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

set_option maxHeartbeats 4000000 in
/-- At a point of case B the body stores into window 5's buffer alone. -/
noncomputable def kernelRun0_B (hc0 : ¬cond0_0 i)
    (x0 : Vec F S512x512 .bf16) (x1 : Vec F S512x1024 .bf16) (x2 : Vec F S512x512 .bf16) (x3 : Vec F S2048x1024 .bf16) (x4 : Vec F S512x1024 .f32) (xh : Vec F S512x2048 .bf16) :
    { L5 : List (View.Piece (Elt F) S512x1024 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ (∃ d, owns c.tc arg7 fullShare d) ∗ owns c.tc arg8 fullShare xh
            ∗ (iprop(owns c.tc arg2 fullShare x0 ∗ owns c.tc arg3 fullShare x1 ∗ owns c.tc arg4 fullShare x2 ∗ owns c.tc arg5 fullShare x3 ∗ owns c.tc arg6 fullShare x4 ∗ (∃ f, arg7.view.loc c.tc ↦[arg7.view.set]{fullShare} arg7.view.writes (Elt F) f L5) ∗ owns c.tc arg8 fullShare xh) -∗ K ⟨⟩))
          ⊢ wp frame (wpE (defs₀ (F := F)) Variants.none c none) E (cc0_outproj i arg2 harg2 arg3 harg3 arg4 harg4 arg5 harg5 arg6 harg6 arg7 harg7 arg8 harg8) K } := by
  refine ⟨?_, fun E K => ?run⟩
  case run =>
    simp only [cc0_outproj_eq_skeleton]; unfold cc0_outproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5

    iexists _; isplitr; · ipureintro; exact harg8.read_unread _
    iexact H6

/-- The pieces of case A fill the buffer. -/
theorem cover0_A_5 (hc0 : cond0_0 i)
    (x0 : Vec F S512x512 .bf16) (x1 : Vec F S512x1024 .bf16) (x2 : Vec F S512x512 .bf16) (x3 : Vec F S2048x1024 .bf16) (x4 : Vec F S512x1024 .f32) (y : S512x1024.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S512x1024.size (by sl_kernel_rfl) y

/-- What case A leaves in it. -/
def out0_A_5 (hc0 : cond0_0 i)
    (x0 : Vec F S512x512 .bf16) (x1 : Vec F S512x1024 .bf16) (x2 : Vec F S512x512 .bf16) (x3 : Vec F S2048x1024 .bf16) (x4 : Vec F S512x1024 .f32) : Vec F S512x1024 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- The pieces of case A fill the buffer. -/
theorem cover0_A_6 (hc0 : cond0_0 i)
    (x0 : Vec F S512x512 .bf16) (x1 : Vec F S512x1024 .bf16) (x2 : Vec F S512x512 .bf16) (x3 : Vec F S2048x1024 .bf16) (x4 : Vec F S512x1024 .f32) (y : S512x2048.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledBy (kernelRun0_A c i arg2 harg2 arg3 harg3 arg4 harg4 arg5 harg5 arg6 harg6 arg7 harg7 arg8 harg8 hc0 x0 x1 x2 x3 x4).2.1 ![512, 512] (by sl_kernel_rfl) y

/-- What case A leaves in it. -/
def out0_A_6 (hc0 : cond0_0 i)
    (x0 : Vec F S512x512 .bf16) (x1 : Vec F S512x1024 .bf16) (x2 : Vec F S512x512 .bf16) (x3 : Vec F S2048x1024 .bf16) (x4 : Vec F S512x1024 .f32) : Vec F S512x2048 .bf16 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4).2.1)

/-- The pieces of case B fill the buffer. -/
theorem cover0_B_5 (hc0 : ¬cond0_0 i)
    (x0 : Vec F S512x512 .bf16) (x1 : Vec F S512x1024 .bf16) (x2 : Vec F S512x512 .bf16) (x3 : Vec F S2048x1024 .bf16) (x4 : Vec F S512x1024 .f32) (xh : Vec F S512x2048 .bf16) (y : S512x1024.Idx) :
    ∃ pc ∈ (kernelRun0_B c i arg2 harg2 arg3 harg3 arg4 harg4 arg5 harg5 arg6 harg6 arg7 harg7 arg8 harg8 hc0 x0 x1 x2 x3 x4 xh).1, y ∈ pc.1.set :=
  View.cover_of_tiledL (kernelRun0_B c i arg2 harg2 arg3 harg3 arg4 harg4 arg5 harg5 arg6 harg6 arg7 harg7 arg8 harg8 hc0 x0 x1 x2 x3 x4 xh).1 S512x1024.size (by sl_kernel_rfl) y

/-- What case B leaves in it. -/
def out0_B_5 (hc0 : ¬cond0_0 i)
    (x0 : Vec F S512x512 .bf16) (x1 : Vec F S512x1024 .bf16) (x2 : Vec F S512x512 .bf16) (x3 : Vec F S2048x1024 .bf16) (x4 : Vec F S512x1024 .f32) (xh : Vec F S512x2048 .bf16) : Vec F S512x1024 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xh).1)

end

/-! ## What the buffers hold after each point -/

/-- What they hold after a point of case A. -/
abbrev caseA (c : Dev nD) (t : Fin cfg0.N) (h0 : t.val % 2 = 0) : Vec F S512x1024 .f32 × Vec F S512x2048 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t))
/-- What the outputs' buffers hold after the body at position `n`: at a point of case B window 6's
    buffer keeps what the point before left. -/
def outsAt0 (c : Dev nD) : (n : ℕ) → n < cfg0.N → Vec F S512x1024 .f32 × Vec F S512x2048 .bf16
  | 0, hn => caseA m c ⟨0, hn⟩ (Nat.zero_mod _)
  | n + 1, hn =>
    if h0 : (n + 1) % 2 = 0 then
      caseA m c ⟨n + 1, hn⟩ h0
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      (outsAt0 c n (Nat.lt_of_succ_lt hn)).2)

/-- `outsAt0` at a point of case A. -/
theorem outsAt0_A (c : Dev nD) (t : Fin cfg0.N) (h0 : t.val % 2 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B. -/
theorem outsAt0_B (c : Dev nD) (t : Fin cfg0.N) (h0 : ¬t.val % 2 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them, each input's buffer at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Window 6 is left alone exactly at the points of case B. -/
theorem idle0_iff (t : Fin cfg0.N) : cfg0.idle 6 (cfg0.grid.coords t) = !(decide (t.val % 2 = 0)) := by
  show (!(k0_cond1 (grid0.coords t) == 1#1)) = _
  congr 1
  rw [Bool.eq_iff_iff, beq_iff_eq, decide_eq_true_iff]
  exact hcond0_0 t

/-- Its buffer holds nothing of use exactly before the points of case A. -/
theorem fresh0 (n : ℕ) (hn : n ≤ cfg0.N) : cfg0.fresh 6 n = decide (n % 2 = 0) := by
  refine Cfg.fresh_tab cfg0 6 (fun n => decide (n % 2 = 0)) rfl (fun t => ?_) n hn
  have hf : (cfg0.win 6).flush t = decide (t.val % 2 = 1) := by
    rw [Bool.eq_iff_iff, decide_eq_true_iff]; exact flush0_6 t
  rw [hf, idle0_iff, Bool.eq_iff_iff]
  simp only [Bool.or_eq_true, Bool.and_eq_true, Bool.not_eq_true', decide_eq_true_iff, decide_eq_false_iff_not]
  omega

/-- At a point of case B window 6's buffer holds what the point before left. -/
theorem before0_6_B (c : Dev nD) (t : Fin cfg0.N) (h0 : ¬t.val % 2 = 0) (d) :
    (dats m 0 c).before 6 t d = (outsAt0 m c (t.val - 1) (Nat.lt_of_le_of_lt (Nat.sub_le _ _) t.isLt)).2 := by
  have h := Dat.before_out_traj (dats m 0 c) 6 rfl (fun _ _ => rfl) (fun t ht hi _ => by
    rw [idle0_iff] at hi
    have h0 : ¬t.val % 2 = 0 := by simpa using hi
    rw [after0_6, after0_6, outsAt0_B m c t h0]) t.val t rfl d
  rw [fresh0 t.val (Nat.le_of_lt t.isLt), if_neg (by simpa using h0)] at h
  exact h.trans (after0_6 m c _)

/-- So what case B hands back of that buffer is what the pipeline asks for there. -/
theorem leaves0_6 (c : Dev nD) (t : Fin cfg0.N) :
    owns c.tc (ms0_6 t) fullShare ((dats m 0 c).after 6 t) ⊢ ((dats m 0 c).leavesExact 6 t : sProp 𝕄) := by
  by_cases h0 : t.val % 2 = 0
  · have hi : cfg0.idle 6 (cfg0.grid.coords t) = false := by rw [idle0_iff]; simpa using h0
    unfold Dat.leavesExact; rw [hi]
    try exact Idealize.SL.BI.Entails.refl _
  · have hi : cfg0.idle 6 (cfg0.grid.coords t) = true := by rw [idle0_iff]; simpa using h0
    unfold Dat.leavesExact; rw [hi]
    cases hf : (cfg0.win 6).flush t
    · dsimp only
      iintro H
      iexists (dats m 0 c).after 6 t
      rw [before0_6_B m c t h0, after0_6, outsAt0_B m c t h0]
      iexact H
    · dsimp only
      try exact Idealize.SL.BI.Entails.refl _

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d)))

/-- what it leaves, -/
def bodyPost (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ owns c.tc (ms0_6 t) fullShare ((dats m 0 c).after 6 t))

/-- and what the pipeline asks for. -/
def bodyPostL (c : Dev nD) (t : Fin cfg0.N) : sProp 𝕄 :=
  iprop((dats m 0 c).Φ t.succ ∗ (dats m 0 c).owesAt () t.succ
    ∗ owns c.tc (ms0_0 t) fullShare ((dats m 0 c).after 0 t)
    ∗ owns c.tc (ms0_1 t) fullShare ((dats m 0 c).after 1 t)
    ∗ owns c.tc (ms0_2 t) fullShare ((dats m 0 c).after 2 t)
    ∗ owns c.tc (ms0_3 t) fullShare ((dats m 0 c).after 3 t)
    ∗ owns c.tc (ms0_4 t) fullShare ((dats m 0 c).after 4 t)
    ∗ owns c.tc (ms0_5 t) fullShare ((dats m 0 c).after 5 t)
    ∗ (dats m 0 c).leavesExact 6 t)

theorem bodyPost_leaves (c : Dev nD) (t : Fin cfg0.N) : (bodyPost m c t : sProp 𝕄) ⊢ bodyPostL m c t := by
  unfold bodyPost bodyPostL
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves0_6 m c t)
  iexact H6

set_option maxHeartbeats 3200000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = (dats m 0 c).Φ t.castSucc from rfl]
  by_cases h0 : t.val % 2 = 0
  · rw [outsAt0_A m c t h0]
    unfold out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [outsAt0_B m c t h0]
    simp only [before0_6_B m c t h0]
    unfold out0_B_5; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    iexact H6

theorem defs₀_row (t : Fin cfg0.N) :
    defs₀ (F := F) .tc cfg0.body (cfg0.bodyArgs t (cfg0.slots t)) = bodyAt0 t := by
  unfold defs₀; rw [Defs.onTc_tc]

/-- The body, as the pipeline's rule takes it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => bodyPost_leaves m c t

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory, every run ends with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  frame_of m ρ (dats m) (A_eq m) (run_main m ρ)

/-- The same, and no semaphore is left raised. -/
theorem frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (unchanged m ρ) ((θ_run defs _ _).mono (fun _ h => h.2) (run_main_quiescent m ρ))

end Cert.Kernel6Ideal.Gen

end
-- ==== Proof.Lin.Claim6.lean ====
/- The forward output projection with its rows side by side: the frames of the kernel as printed and idealized and of the reference, and the equality of their results. -/
module

public import proofs.«01_k».proof.Proof.Lin.Run6
public import Idealize.ShloMosaic.Lib.Pipeline.ValueKit
public import Idealize.ShloMosaic.Lib.Pipeline.ReadBack
public import proofs.«01_k».proof.Defs
public import proofs.«01_k».proof.Proof.Gen.Kernel6.Frame
public import proofs.«01_k».proof.Proof.Gen.Reference6Ideal.Run

@[expose] public section

set_option maxRecDepth 16384

noncomputable section

namespace Cert.Lin6

open Idealize.ShloMosaic in
/-- Arrays of extended reals, by shape. -/
abbrev R16 (s : Shape) := FVec Ideal s .bf16
open Idealize.ShloMosaic in
abbrev R32 (s : Shape) := FVec Ideal s .f32

section
open Reference6Ideal Reference6Ideal.Gen
open Idealize.ShloMosaic Idealize.ShloMosaic.TcCoe

/-- The mixers' outputs side by side, taken up to single precision. -/
def side (a0 : R16 S8192x512) (a1 : R16 S8192x1024) (a2 : R16 S8192x512) : R32 S8192x2048 :=
  (concatenate S8192x2048 1 [⟨S8192x512, ((extf .f32 a0 bitsLt_bf16_f32) : R32 S8192x512)⟩, ⟨S8192x1024, ((extf
    .f32 a1 bitsLt_bf16_f32) : R32 S8192x1024)⟩, ⟨S8192x512, ((extf .f32 a2 bitsLt_bf16_f32) : R32 S8192x512)⟩]
    concatenates_S8192x512_S8192x1024_S8192x512_S8192x2048_d1 : R32 S8192x2048)

/-- The layer's output, as the reference computes it. -/
def ref0 (a0 : R16 S8192x512) (a1 : R16 S8192x1024) (a2 : R16 S8192x512) (a3 : R32 S2048x2048) (a4 : R32 S8192x2048) : R32 S8192x2048 :=
  addf a4 (Host.dotGeneral dot_S8192x2048_S2048x2048_S8192x2048_1_0_0_1_n_n none (side a0 a1 a2) a3)

/-- The mixers' outputs side by side, as the reference computes them. -/
def ref1 (a0 : R16 S8192x512) (a1 : R16 S8192x1024) (a2 : R16 S8192x512) : R16 S8192x2048 :=
  (concatenate S8192x2048 1 [⟨S8192x512, (a0 : R16 S8192x512)⟩, ⟨S8192x1024, (a1 : R16 S8192x1024)⟩, ⟨S8192x512, (a2 : R16 S8192x512)⟩]
    concatenates_S8192x512_S8192x1024_S8192x512_S8192x2048_d1 : R16 S8192x2048)
end

section
open Kernel6Ideal Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point, by the point's number. -/
theorem idx_val : ∀ t : Fin cfg0.N, win0_0.index t = ![t.val / 2, 0]
    ∧ win0_1.index t = ![t.val / 2, 0]
    ∧ win0_2.index t = ![t.val / 2, 0]
    ∧ win0_3.index t = ![0, t.val % 2]
    ∧ win0_4.index t = ![t.val / 2, t.val % 2]
    ∧ win0_5.index t = ![t.val / 2, t.val % 2]
    ∧ win0_6.index t = ![t.val / 2, 0] :=
  (by decide +kernel : ∀ t : Fin grid0.N, _)

/-- The side-by-side rows: the left columns. -/
theorem side_0 (a0 a1 a2) (r : Fin 8192) (k : Fin 512) (h : k.val < 2048) : side a0 a1 a2 (ix2 r ⟨k.val, h⟩) = a0 (ix2 r k) := by
  pointwise [side]

/-- The side-by-side rows: the middle columns. -/
theorem side_1 (a0 a1 a2) (r : Fin 8192) (k : Fin 1024) (h : 512 + k.val < 2048) : side a0 a1 a2 (ix2 r ⟨512 + k.val, h⟩) = a1 (ix2 r k) := by
  pointwise [side]

/-- The side-by-side rows: the right columns. -/
theorem side_2 (a0 a1 a2) (r : Fin 8192) (k : Fin 512) (h : 1536 + k.val < 2048) : side a0 a1 a2 (ix2 r ⟨1536 + k.val, h⟩) = a2 (ix2 r k) := by
  pointwise [side]
  rw [dif_neg (by omega), dif_neg (by omega)]
  exact congrArg a2 (by congr 1; exact Fin.ext (by dsimp only; omega))

/-- The rows side by side: the left columns. -/
theorem ref1_0 (a0 a1 a2) (r : Fin 8192) (k : Fin 512) (h : k.val < 2048) : ref1 a0 a1 a2 (ix2 r ⟨k.val, h⟩) = a0 (ix2 r k) := by
  pointwise [ref1]

/-- The rows side by side: the middle columns. -/
theorem ref1_1 (a0 a1 a2) (r : Fin 8192) (k : Fin 1024) (h : 512 + k.val < 2048) : ref1 a0 a1 a2 (ix2 r ⟨512 + k.val, h⟩) = a1 (ix2 r k) := by
  pointwise [ref1]

/-- The rows side by side: the right columns. -/
theorem ref1_2 (a0 a1 a2) (r : Fin 8192) (k : Fin 512) (h : 1536 + k.val < 2048) : ref1 a0 a1 a2 (ix2 r ⟨1536 + k.val, h⟩) = a2 (ix2 r k) := by
  pointwise [ref1]
  rw [dif_neg (by omega), dif_neg (by omega)]
  exact congrArg a2 (by congr 1; exact Fin.ext (by dsimp only; omega))

/-- A sum over 2048 terms is the sum over its parts of 512, 1024 and 512. -/
theorem parts (f : Fin 2048 → EReal) (g : Fin 512 → EReal) (h : Fin 1024 → EReal) (l : Fin 512 → EReal) (hg : ∀ k : Fin 512, g k = f ⟨k.val, by omega⟩)
    (hh : ∀ k : Fin 1024, h k = f ⟨512 + k.val, by omega⟩) (hl : ∀ k : Fin 512, l k = f ⟨1536 + k.val, by omega⟩) :
    (∑ k, g k) + (∑ k, h k) + ∑ k, l k = ∑ k, f k := by
  refine Eq.trans ?_ (Fin.sum_univ_add (a := 1536) (b := 512) f).symm
  refine congrArg₂ (· + ·) ?_ (Finset.sum_congr rfl fun k _ => hl k)
  refine Eq.trans ?_ (Fin.sum_univ_add (a := 512) (b := 1024) (fun k : Fin 1536 => f ⟨k.val, by omega⟩)).symm
  exact congrArg₂ (· + ·) (Finset.sum_congr rfl fun k _ => hg k) (Finset.sum_congr rfl fun k _ => hh k)

/-- The three products of a point, added to the residual block, are the reference's block. -/
theorem o_at (c : Dev nD) (t : Fin cfg0.N) (y) :
    k0_pay1 (F := Ideal) (iblk m c 0 t) (View.ld (iblk m c 3 t) (Rect.unit ![0, 0] ![512, 1024] inb_S2048x1024_S512x1024_0_0))
      (iblk m c 1 t) (View.ld (iblk m c 3 t) (Rect.unit ![512, 0] ![1024, 1024] inb_S2048x1024_S1024x1024_512_0))
      (iblk m c 2 t) (View.ld (iblk m c 3 t) (Rect.unit ![1536, 0] ![512, 1024] inb_S2048x1024_S512x1024_1536_0))
      (iblk m c 4 t) y = ref0 (m (c.tc.loc main_arg0)) (m (c.tc.loc main_arg1)) (m (c.tc.loc main_arg2)) (m (c.tc.loc main_arg3)) (m (c.tc.loc main_arg4)) (((cfg0.win 5).blk t).view.emb y) := by
  pointwise [k0_pay1, ref0]
  refine congrArg₂ (· + ·) ?_ (parts _ _ _ _ (fun k => congrArg₂ (· * ·) (Eq.trans ?_ (side_0 _ _ _ _ k _).symm) ?_)
    (fun k => congrArg₂ (· * ·) (Eq.trans ?_ (side_1 _ _ _ _ k _).symm) ?_)
    (fun k => congrArg₂ (· * ·) (Eq.trans ?_ (side_2 _ _ _ _ k _).symm) ?_))
  all_goals blk_point [iblk, V, idx_val t]

/-- Row `k` of point `t`'s block, as a row of the array. -/
def rowOf (t : Fin cfg0.N) (k : Fin 512) : Fin 8192 :=
  ⟨t.val / 2 * 512 + k.val, by have ht : t.val < 32 := lt_of_lt_of_eq t.isLt N_0; omega⟩

/-- The three stores of a point that makes the second output are the reference's block. -/
theorem y_at (c : Dev nD) (t : Fin cfg0.N) (y) :
    View.canon [⟨Rect.unit ![0, 1536] ![512, 512] inb_S512x2048_S512x512_0_1536, iblk m c 2 t⟩,
        ⟨Rect.unit ![0, 512] ![512, 1024] inb_S512x2048_S512x1024_0_512, iblk m c 1 t⟩,
        ⟨Rect.unit ![0, 0] ![512, 512] inb_S512x2048_S512x512_0_0, iblk m c 0 t⟩] y
      = ref1 (m (c.tc.loc main_arg0)) (m (c.tc.loc main_arg1)) (m (c.tc.loc main_arg2)) (((cfg0.win 6).blk t).view.emb y) := by
  refine View.canon_apply_of_pieces (Val := Elt Ideal) (S := S512x2048) (e := .bf16) (fun y => ref1 (m (c.tc.loc main_arg0)) (m (c.tc.loc main_arg1)) (m (c.tc.loc main_arg2)) (((cfg0.win 6).blk t).view.emb y)) _
    ?_ y (View.cover_of_tiledBy _ ![512, 512] (by sl_kernel_rfl) y)
  refine List.forall_mem_cons.mpr ⟨fun x => ?_, List.forall_mem_cons.mpr ⟨fun x => ?_, List.forall_mem_cons.mpr ⟨fun x => ?_, by simp⟩⟩⟩
  · refine Eq.trans ?_ ((ref1_2 _ _ _ (rowOf t (x 0)) (x 1) (by have := (x 1).isLt; dsimp at this; omega)).symm.trans (congrArg (ref1 _ _ _) ?_))
    · show iblk m c 2 t x = _
      blk_point [iblk, V, idx_val t, rowOf]
    · blk_ext [idx_val t, rowOf]
  · refine Eq.trans ?_ ((ref1_1 _ _ _ (rowOf t (x 0)) (x 1) (by have := (x 1).isLt; dsimp at this; omega)).symm.trans (congrArg (ref1 _ _ _) ?_))
    · show iblk m c 1 t x = _
      blk_point [iblk, V, idx_val t, rowOf]
    · blk_ext [idx_val t, rowOf]
  · refine Eq.trans ?_ ((ref1_0 _ _ _ (rowOf t (x 0)) (x 1) (by have := (x 1).isLt; dsimp at this; omega)).symm.trans (congrArg (ref1 _ _ _) ?_))
    · show iblk m c 0 t x = _
      blk_point [iblk, V, idx_val t, rowOf]
    · blk_ext [idx_val t, rowOf]

/-- Every point leaves the rows of its tile in the second output's buffer. -/
theorem y_rows_at (c : Dev nD) : ∀ (n : ℕ) (hn : n < cfg0.N) (y), (outsAt0 m c n hn).2 y = ref1 (m (c.tc.loc main_arg0)) (m (c.tc.loc main_arg1)) (m (c.tc.loc main_arg2)) (((cfg0.win 6).blk ⟨n, hn⟩).view.emb y) := by
  intro n hn y
  induction n with
  | zero =>
    have h := outsAt0_A m c ⟨0, hn⟩ rfl
    dsimp only at h
    rw [h]
    frame_out
    exact y_at m c ⟨0, hn⟩ y
  | succ n ih =>
    by_cases h0 : (n + 1) % 2 = 0
    · have h := outsAt0_A m c ⟨n + 1, hn⟩ h0
      dsimp only at h
      rw [h]
      frame_out
      exact y_at m c ⟨n + 1, hn⟩ y
    · have h := outsAt0_B m c ⟨n + 1, hn⟩ h0
      dsimp only at h
      rw [h]
      have e : ((cfg0.win 6).blk ⟨n, Nat.lt_of_succ_lt hn⟩).view.emb y = ((cfg0.win 6).blk ⟨n + 1, hn⟩).view.emb y := by
        blk_ext [idx_val ⟨n, Nat.lt_of_succ_lt hn⟩, idx_val ⟨n + 1, hn⟩]
      exact (ih (Nat.lt_of_succ_lt hn)).trans (congrArg (ref1 _ _ _) e)

/-- The layer's output is the reference's. -/
theorem final0 (c : Dev nD) : (dats m 0 c).arrAt 5 (cfgs 0).N = ref0 (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]
  by_cases h : t.val % 2 = 0
  · rw [outsAt0_A m c t h]; dsimp only
    frame_out
    exact o_at m c t y
  · rw [outsAt0_B m c t h]; dsimp only
    frame_out
    exact o_at m c t y

/-- The rows side by side are the reference's. -/
theorem final1 (c : Dev nD) : (dats m 0 c).arrAt 6 (cfgs 0).N = ref1 (m (c.tc.loc main_arg0)) (m (c.tc.loc main_arg1)) (m (c.tc.loc main_arg2)) := by
  refine (dats m 0 c).arrAt_eq_of_covers 6 _ (by decide +kernel) fun t hf y => ?_
  blk_simp; rw [after0_6]
  exact y_rows_at m c t.val t.isLt y
end

set_option backward.isDefEq.respectTransparency false
open Idealize.ShloMosaic Idealize.SL.Sem

/-- The two prints' body tables are one: the same text, at each label. -/
theorem bodies_eq {F : FTy → Type} [FloatOps F] : (Kernel6.defs₀ (F := F)) = (Kernel6Ideal.defs₀ (F := F) : Defs Kernel6.nD Kernel6.τ Kernel6.sig (Elt F) Kernel6.Λ₀) := by
  refine congrArg Defs.onTc (funext fun l => funext fun a => ?_)
  match l, a with
  | 0, (t, s) => rfl
  | ⟨_ + 1, h⟩, _ => exact absurd h (Nat.not_lt.2 (Nat.le_add_left _ _))
theorem defs_eq {F : FTy → Type} [FloatOps F] : (Kernel6.defs (F := F)) = (Kernel6Ideal.defs (F := F) : Defs Kernel6.nD Kernel6.τ Kernel6.sig (Elt F) (Pipeline.Sig Kernel6.Λ₀ (Fin 1) fun p => (Kernel6.pcfgs (F := F) p).Adm)) :=
  congrArg (Pipeline.defs Kernel6.pcfgs) bodies_eq

/-- The kernel as printed: the same program as the idealized one, so the same run at the bit values. -/
theorem frame_kernel : quiescent_Kernel6 := fun m ρ _ =>
  (congrArg (fun D => θ_run D (onTc (τ := Kernel6.τ) (Kernel6.main (F := Bits))) ⟨m, fun _ => 0, ρ⟩ _) defs_eq).mpr (Kernel6Ideal.Gen.frame m ρ)
theorem frame_ideal : quiescent_Kernel6Ideal := fun m ρ _ => Kernel6Ideal.Gen.frame m ρ
theorem frame_reference : quiescent_Reference6Ideal := fun m ρ _ =>
  (θ_run Reference6Ideal.defs _ _).mono (fun _ h => ⟨fun c => (h c).2.2, sem_eq_zero_of_no_sems (by decide) _⟩) (Reference6Ideal.Value.run m ρ)

/-- The idealized kernel and the idealized reference end with equal results. -/
theorem algebraic : algebraic_Kernel6Ideal_Reference6Ideal := by
  pair_intro
  · run_from Kernel6Ideal.Gen.run_main m g
  · refine (θ_run Reference6Ideal.defs _ _).mono (fun _ h c => ?_) (Reference6Ideal.Value.run m' g')
    obtain ⟨e0, e1, e2, e3, e4⟩ := hagree c
    refine ⟨(h c).1.trans (Eq.trans ?_ (final0 m c).symm), (h c).2.1.trans (Eq.trans ?_ (final1 m c).symm), (h c).2.2⟩
    all_goals
      simp only [← e0, ← e1, ← e2, ← e3, ← e4]
      rfl

end Cert.Lin6
-- ==== Proof.Lin.Ref7.lean ====
/- The terms that the reference of the seventh call ends with, over its argument arrays. -/
module

public import proofs.«01_k».proof.Proof.Gen.Reference7Ideal
public import Idealize.ShloMosaic.PureOps.Ideal
public import Idealize.ShloMosaic.Lib.StableHlo.Run

@[expose] public section

noncomputable section

namespace Cert.Lin7

open Idealize.ShloMosaic in
/-- Arrays of extended reals, by shape. -/
abbrev R32 (s : Shape) := FVec Ideal s .f32

open Reference7Ideal Reference7Ideal.Gen
open Idealize.ShloMosaic Idealize.ShloMosaic.TcCoe

/-- Every row's mean square, plus the norm's constant. -/
def ms (a0 : R32 S8192x2048) : R32 S8192x1 :=
  addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

/-- The gradient of the normed rows. -/
def dh (a2 : R32 S2048x5120) (a3 : FVec Ideal S8192x5120 .bf16) : R32 S8192x2048 :=
  Host.dotGeneral dot_S8192x5120_S2048x5120_S8192x2048_1_1_0_0_n_n none (extf .f32 a3 bitsLt_bf16_f32) a2

/-- The gradient of the rows before the scale. -/
def wv (a1 : R32 S2048) (d : R32 S8192x2048) : R32 S8192x2048 :=
  mulf d (broadcastInDim S8192x2048 ![0, 1] bcast_S1x2048_S8192x2048_0_1 (broadcastInDim S1x2048 ![1] bcast_S2048_S1x2048_1 a1))

/-- What reaches every row through its mean square, times half of the row. -/
def dm (a0 : R32 S8192x2048) (w : R32 S8192x2048) : R32 S8192x2048 :=
  broadcastInDim S8192x2048 ![0] bcast_S8192_S8192x2048_0 (Host.reduceAdd (Host.divf (mulf (shapeCast _ (Host.reduceAdd (mulf a0 w) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (ms a0)) (ms a0)))) (broadcastInDim S8192x1 ![] bcast_S_S8192x1 (constant S_ .f32 0x45000000#32))) (constant S_ .f32 0x00000000#32) reducesTo_S8192x1_S8192_d1 h_S_)

/-- The gradient of the layer's input, as the reference computes it. -/
def ref0 (a0 : R32 S8192x2048) (a1 : R32 S2048) (a2 : R32 S2048x5120) (a3 : FVec Ideal S8192x5120 .bf16) (a4 : R32 S8192x2048) : R32 S8192x2048 :=
  addf a4 (addf (addf (mulf (wv a1 (dh a2 a3)) (broadcastInDim S8192x2048 ![0, 1] bcast_S8192x1_S8192x2048_0_1 (Host.rsqrt (ms a0)))) (mulf a0 (dm a0 (wv a1 (dh a2 a3))))) (mulf (dm a0 (wv a1 (dh a2 a3))) a0))

/-- The gradient of the norm's scale, as the reference computes it. -/
def ref1 (a0 : R32 S8192x2048) (a2 : R32 S2048x5120) (a3 : FVec Ideal S8192x5120 .bf16) : R32 S1x2048 :=
  shapeCast _ (Host.reduceAdd (shapeCast _ (Host.reduceAdd (mulf (mulf a0 (broadcastInDim S8192x2048 ![0, 1] bcast_S8192x1_S8192x2048_0_1 (Host.rsqrt (ms a0)))) (dh a2 a3)) (constant S_ .f32 0x00000000#32) reducesTo_S8192x2048_S2048_d0 h_S_) shapeCasts_S2048_S1x2048) (constant S_ .f32 0x00000000#32) reducesTo_S1x2048_S2048_d0 h_S_) shapeCasts_S2048_S1x2048

end Cert.Lin7
-- ==== Proof.Lin.Norm7.lean ====
/- The gradient through the norm, of one row of extended reals: the kernel's form and the reference's agree. -/
module

public import Idealize.ShloMosaic.Lib.Pointwise

@[expose] public section

noncomputable section

namespace Cert.Lin7

open Idealize.ShloMosaic

theorem ofBits_2048 : Ideal.ofBits .f32 1157627904#32 = ((2048 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul]; norm_num

theorem ofBits_eps : ∃ e : ℝ, 0 < e ∧ Ideal.ofBits .f32 897988541#32 = (e : EReal) := by
  refine ⟨8796093 * (2 : ℝ) ^ (-43 : ℤ), by positivity, ?_⟩
  simp [Ideal.ofBits, Ideal.ieee, -EReal.coe_mul]

/-- A sum of reals, as an extended real. -/
theorem coe_sum {ι : Type} (s : Finset ι) (a : ι → ℝ) : (∑ i ∈ s, (a i : EReal)) = ((∑ i ∈ s, a i : ℝ) : EReal) := by
  classical
  induction s using Finset.induction_on with
  | empty => simp
  | insert i s h ih => rw [Finset.sum_insert h, Finset.sum_insert h, ih, EReal.coe_add]

/-- A nonnegative real factor goes into a sum. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert i s h ih =>
    rw [Finset.sum_insert h, Finset.sum_insert h, ← ih, mul_comm,
      EReal.left_distrib_of_nonneg_of_ne_top (by exact_mod_cast hc) (EReal.coe_ne_top c), mul_comm, mul_comm (c : EReal)]

/-- A real factor twice. -/
theorem twice (T : EReal) (c : ℝ) : T * (c : EReal) + T * (c : EReal) = T * ((2 * c : ℝ) : EReal) := by
  have pos : ∀ (T : EReal) (c : ℝ), 0 ≤ c → T * (c : EReal) + T * (c : EReal) = T * ((2 * c : ℝ) : EReal) := fun T c hc => by
    rw [two_mul, EReal.coe_add, mul_comm T ((c : EReal) + c), EReal.right_distrib_of_nonneg (by exact_mod_cast hc) (by exact_mod_cast hc), mul_comm]
  by_cases h : 0 ≤ c
  · exact pos T c h
  · have := pos (-T) (-c) (by linarith)
    simpa [EReal.coe_neg, EReal.neg_mul, mul_neg] using this

/-- The kernel's gradient at one entry of a row. -/
def kcore (E : EReal) (x w : Fin 2048 → EReal) (j : Fin 2048) : EReal :=
  Ideal.rsqrt (Ideal.div (∑ i, x i * x i) (Ideal.ofBits .f32 1157627904#32) + E)
    * (w j - x j * Ideal.rsqrt (Ideal.div (∑ i, x i * x i) (Ideal.ofBits .f32 1157627904#32) + E)
        * Ideal.div (∑ i, w i * (x i * Ideal.rsqrt (Ideal.div (∑ i, x i * x i) (Ideal.ofBits .f32 1157627904#32) + E))) (Ideal.ofBits .f32 1157627904#32))

/-- What reaches the entries of a row through the mean square, times half of the entry, in the reference. -/
def dcore (E : EReal) (x w : Fin 2048 → EReal) : EReal :=
  Ideal.div ((∑ i, x i * w i) * (Ideal.ofBits .f32 3204448256#32 * Ideal.div (Ideal.rsqrt (Ideal.div (∑ i, x i * x i) (Ideal.ofBits .f32 1157627904#32) + E)) (Ideal.div (∑ i, x i * x i) (Ideal.ofBits .f32 1157627904#32) + E)))
    (Ideal.ofBits .f32 1157627904#32)

/-- The reference's gradient at one entry of a row. -/
def rcore (E : EReal) (x w : Fin 2048 → EReal) (j : Fin 2048) : EReal :=
  w j * Ideal.rsqrt (Ideal.div (∑ i, x i * x i) (Ideal.ofBits .f32 1157627904#32) + E) + x j * dcore E x w + dcore E x w * x j

theorem square_top (x : EReal) (h : ∀ a : ℝ, x ≠ (a : EReal)) : x * x = ⊤ := by
  induction x using EReal.rec with
  | bot => rfl
  | coe a => exact absurd rfl (h a)
  | top => rfl

theorem square_nonneg (x : EReal) : 0 ≤ x * x := by
  induction x using EReal.rec with
  | bot => exact le_top
  | coe a => exact_mod_cast mul_self_nonneg a
  | top => exact le_top

/-- The two forms agree, whatever the entries. -/
theorem kcore_eq_rcore (e : ℝ) (he : 0 < e) (x w : Fin 2048 → EReal) (j : Fin 2048) : kcore (e : EReal) x w j = rcore (e : EReal) x w j := by
  by_cases hfin : ∀ i, ∃ a : ℝ, x i = (a : EReal)
  · choose a ha using hfin
    have hS : (∑ i, x i * x i) = ((∑ i, a i * a i : ℝ) : EReal) := by
      rw [← coe_sum]; exact Finset.sum_congr rfl fun i _ => by rw [ha i, EReal.coe_mul]
    have hnn : 0 ≤ ∑ i, a i * a i := Finset.sum_nonneg fun i _ => mul_self_nonneg _
    obtain ⟨μ, hμ, hM⟩ : ∃ μ : ℝ, 0 < μ ∧ Ideal.div (∑ i, x i * x i) (Ideal.ofBits .f32 1157627904#32) + (e : EReal) = (μ : EReal) :=
      ⟨(∑ i, a i * a i) * (1 / 2048) + e, by positivity, by
        rw [hS, ofBits_2048, Ideal.div_coe (by norm_num), ← EReal.coe_mul, ← EReal.coe_add]⟩
    obtain ⟨ρ, hρ, hr, hρμ⟩ : ∃ ρ : ℝ, 0 < ρ ∧ Ideal.rsqrt (μ : EReal) = (ρ : EReal) ∧ ρ * ρ = 1 / μ :=
      ⟨(Real.sqrt μ)⁻¹, by positivity, by rw [Ideal.rsqrt_coe, if_neg (not_lt.2 hμ.le), if_neg hμ.ne'], by
        rw [← mul_inv, Real.mul_self_sqrt hμ.le, one_div]⟩
    have hT : (∑ i, w i * (x i * (ρ : EReal))) = (∑ i, x i * w i) * (ρ : EReal) := by
      rw [sum_mul_real _ _ _ hρ.le]; exact Finset.sum_congr rfl fun i _ => by rw [← mul_assoc, mul_comm (w i)]
    unfold kcore rcore dcore
    rw [hM, hr, hT, ofBits_2048, ofBits_neg_half, Ideal.div_coe (by norm_num), Ideal.div_coe (by norm_num), Ideal.div_coe hμ.ne', ha j]
    generalize (∑ i, x i * w i) = T
    generalize w j = W
    have h1 : (ρ : EReal) * (W - (a j : EReal) * ρ * (T * ρ * ((1 / 2048 : ℝ) : EReal))) = W * ρ + T * ((2 * (-(1 / 2) * (ρ * (1 / μ)) * (1 / 2048) * a j) : ℝ) : EReal) := by
      rw [sub_eq_add_neg, EReal.left_distrib_of_nonneg_of_ne_top (by exact_mod_cast hρ.le) (EReal.coe_ne_top ρ), mul_comm]
      refine congrArg (W * (ρ : EReal) + ·) ?_
      rw [show 2 * (-(1 / 2) * (ρ * (1 / μ)) * (1 / 2048) * a j) = -(ρ * a j * ρ * ρ * (1 / 2048)) by rw [← hρμ]; ring]
      simp only [EReal.coe_mul, EReal.coe_neg, mul_neg]
      congr 1
      ac_rfl
    have h2 : T * (((-(1 / 2) : ℝ) : EReal) * ((ρ : EReal) * ((1 / μ : ℝ) : EReal))) * ((1 / 2048 : ℝ) : EReal) * (a j : EReal)
        = T * ((-(1 / 2) * (ρ * (1 / μ)) * (1 / 2048) * a j : ℝ) : EReal) := by
      simp only [EReal.coe_mul]
      ac_rfl
    rw [h1, mul_comm (a j : EReal), h2, add_assoc, twice]
  · obtain ⟨i, hi⟩ := not_forall.1 hfin
    have hS : (∑ i, x i * x i) = ⊤ := by
      refine top_le_iff.1 ?_
      rw [← square_top (x i) fun a h => hi ⟨a, h⟩]
      exact Finset.single_le_sum (f := fun i => x i * x i) (fun i _ => square_nonneg (x i)) (Finset.mem_univ i)
    have hM : Ideal.div (∑ i, x i * x i) (Ideal.ofBits .f32 1157627904#32) + (e : EReal) = ⊤ := by
      rw [hS, ofBits_2048, Ideal.div_coe (by norm_num), EReal.top_mul_coe_of_pos (by norm_num), EReal.top_add_coe]
    unfold kcore rcore dcore
    rw [hM, Ideal.rsqrt_top, ofBits_2048]
    simp [Ideal.div]

end Cert.Lin7
-- ==== Proof.Lin.Val7.lean ====
/- What the call of the idealized kernel leaves is the reference's term. -/
module

public import proofs.«01_k».proof.Proof.Gen.Kernel7Ideal.Frame
public import proofs.«01_k».proof.Proof.Lin.Ref7
public import proofs.«01_k».proof.Proof.Lin.Norm7
public import Idealize.ShloMosaic.Lib.Pipeline.ValueKit
public import Idealize.ShloMosaic.Lib.Pipeline.ReadBack

@[expose] public section

set_option maxRecDepth 16384

noncomputable section

namespace Cert.Lin7

open Kernel7Ideal Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point, by the point's number. -/
theorem idx_val : ∀ t : Fin cfg0.N, win0_0.index t = ![t.val / 4, t.val % 4]
    ∧ win0_1.index t = ![0, t.val % 4, 0, 0]
    ∧ win0_2.index t = ![t.val / 4, 0]
    ∧ win0_3.index t = ![0, 0]
    ∧ win0_4.index t = ![t.val / 4, 0]
    ∧ win0_5.index t = ![t.val / 4, 0]
    ∧ win0_6.index t = ![0, 0] :=
  (by decide +kernel : ∀ t : Fin grid0.N, _)

/-- Row `k` of point `t`'s tile, as a row of the array. -/
def rowOf (t : Fin cfg0.N) (k : Fin 512) : Fin 8192 :=
  ⟨t.val / 4 * 512 + k.val, by have ht : t.val < 64 := lt_of_lt_of_eq t.isLt N_0; omega⟩

/-- `w_in` in the layout the call is given: two halves of the rows by four blocks of the columns. -/
def lay (a2 : FVec Ideal S2048x5120 .f32) : FVec Ideal S2x4x1024x1280 .bf16 :=
  transpose S2x4x1024x1280 [0, 2, 1, 3] (shapeCast S2x1024x4x1280 (truncf .bf16 a2 bitsLt_bf16_f32) shapeCasts_S2048x5120_S2x1024x4x1280)
    transposes_S2x1024x4x1280_S2x4x1024x1280_0_2_1_3

theorem V_lay (c : Dev nD) (i : S2x4x1024x1280.Idx) :
    V m c main_v2 i = lay (m (c.tc.loc main_arg2)) i := by
  entry_read
  pointwise [lay]

/-! ## The gradient of the normed rows, in the scratch buffer -/

/-- One product of the sum over the columns of `w_in`, by the column's number. -/
def term (a2 : FVec Ideal S2048x5120 .f32) (a3 : FVec Ideal S8192x5120 .bf16) (r : Fin 8192) (j : Fin 2048) (k : ℕ) : EReal :=
  if h : k < 5120 then a3 (ix2 r ⟨k, h⟩) * a2 (ix2 j ⟨k, h⟩) else 0

theorem dh_at (a2 : FVec Ideal S2048x5120 .f32) (a3 : FVec Ideal S8192x5120 .bf16) (r : Fin 8192) (j : Fin 2048) :
    dh a2 a3 (ix2 r j) = ∑ k ∈ Finset.range 5120, term a2 a3 r j k := by
  rw [Finset.sum_range]
  pointwise [dh]
  exact Finset.sum_congr rfl fun k _ => by rw [term, dif_pos k.isLt]

/-- The left half of a point's product. -/
theorem lo_at (c : Dev nD) (t : Fin cfg0.N) (x : S512x1024.Idx) (h : (x 1).val < 2048) :
    k0_pay1 (F := Ideal) (iblk m c 0 t) (View.ld (iblk m c 1 t) (Rect.unit ![0, 0, 0, 0] ![1, 1, 1024, 1280] inb_S2x1x1024x1280_S1x1x1024x1280_0_0_0_0)) x
      = ∑ k ∈ Finset.range 1280, term (m (c.tc.loc main_arg2)) (m (c.tc.loc main_arg3)) (rowOf t (x 0)) ⟨(x 1).val, h⟩ (1280 * (t.val % 4) + k) := by
  rw [Finset.sum_range]
  pointwise [k0_pay1]
  refine Finset.sum_congr rfl fun k _ => Eq.trans ?_ (dif_pos (by omega)).symm
  refine congrArg₂ (· * ·) ?_ ((V_lay m c _).trans ?_)
  · blk_point [iblk, V, idx_val t, rowOf]
  · pointwise [lay]
    blk_point [idx_val t]

/-- The right half of a point's product. -/
theorem hi_at (c : Dev nD) (t : Fin cfg0.N) (x : S512x1024.Idx) (h : 1024 + (x 1).val < 2048) :
    k0_pay2 (F := Ideal) (iblk m c 0 t) (View.ld (iblk m c 1 t) (Rect.unit ![1, 0, 0, 0] ![1, 1, 1024, 1280] inb_S2x1x1024x1280_S1x1x1024x1280_1_0_0_0)) x
      = ∑ k ∈ Finset.range 1280, term (m (c.tc.loc main_arg2)) (m (c.tc.loc main_arg3)) (rowOf t (x 0)) ⟨1024 + (x 1).val, h⟩ (1280 * (t.val % 4) + k) := by
  rw [Finset.sum_range]
  pointwise [k0_pay2]
  refine Finset.sum_congr rfl fun k _ => Eq.trans ?_ (dif_pos (by omega)).symm
  refine congrArg₂ (· * ·) ?_ ((V_lay m c _).trans ?_)
  · blk_point [iblk, V, idx_val t, rowOf]
  · pointwise [lay]
    blk_point [idx_val t]

/-- The sum over the first `n` columns of `w_in`. -/
def upto (c : Dev nD) (t : Fin cfg0.N) (n : ℕ) (y : S512x2048.Idx) : EReal :=
  ∑ k ∈ Finset.range n, term (m (c.tc.loc main_arg2)) (m (c.tc.loc main_arg3)) (rowOf t (y 0)) (y 1) k

theorem upto_step (c : Dev nD) (t : Fin cfg0.N) (n : ℕ) (y : S512x2048.Idx) :
    upto m c t (1280 * (n + 1)) y = upto m c t (1280 * n) y
      + ∑ k ∈ Finset.range 1280, term (m (c.tc.loc main_arg2)) (m (c.tc.loc main_arg3)) (rowOf t (y 0)) (y 1) (1280 * n + k) := by
  rw [upto, Nat.mul_succ, Finset.sum_range_add]
  rfl

theorem pay3_at (v : Vec Ideal S512x1280 .bf16) (w : Vec Ideal S1x1x1024x1280 .bf16) (x : S512x1024.Idx) :
    k0_pay3 (F := Ideal) v w x = k0_pay1 (F := Ideal) v w x := by
  pointwise [k0_pay3]
theorem pay4_at (v : Vec Ideal S512x1280 .bf16) (w : Vec Ideal S1x1x1024x1280 .bf16) (x : S512x1024.Idx) :
    k0_pay4 (F := Ideal) v w x = k0_pay2 (F := Ideal) v w x := by
  pointwise [k0_pay4]
theorem pay5_at (v : Vec Ideal S512x1280 .bf16) (w : Vec Ideal S1x1x1024x1280 .bf16) (X : Vec Ideal S512x1024 .f32) (x : S512x1024.Idx) :
    k0_pay5 (F := Ideal) v w X x = X x + k0_pay1 (F := Ideal) v w x := by
  pointwise [k0_pay5]
theorem pay6_at (v : Vec Ideal S512x1280 .bf16) (w : Vec Ideal S1x1x1024x1280 .bf16) (X : Vec Ideal S512x1024 .f32) (x : S512x1024.Idx) :
    k0_pay6 (F := Ideal) v w X x = X x + k0_pay2 (F := Ideal) v w x := by
  pointwise [k0_pay6]

/-- A point's step of the sum, in the right half. -/
theorem hi_upto (c : Dev nD) (t : Fin cfg0.N) (x : S512x1024.Idx) :
    upto m c t (1280 * (t.val % 4 + 1)) ((Rect.unit (s := S512x2048) ![0, 1024] ![512, 1024] inb_S512x2048_S512x1024_0_1024).emb x)
      = upto m c t (1280 * (t.val % 4)) ((Rect.unit (s := S512x2048) ![0, 1024] ![512, 1024] inb_S512x2048_S512x1024_0_1024).emb x) + k0_pay2 (F := Ideal) (iblk m c 0 t) (View.ld (iblk m c 1 t) (Rect.unit ![1, 0, 0, 0] ![1, 1, 1024, 1280] inb_S2x1x1024x1280_S1x1x1024x1280_1_0_0_0)) x := by
  have hx : 1024 + (x 1).val < 2048 := by have := (x 1).isLt; dsimp at this; omega
  have ee : (Rect.unit (s := S512x2048) ![0, 1024] ![512, 1024] inb_S512x2048_S512x1024_0_1024).emb x = ix2 (x 0) ⟨1024 + (x 1).val, hx⟩ := by blk_ext
  rw [ee]
  exact (upto_step m c t (t.val % 4) (ix2 (x 0) ⟨1024 + (x 1).val, hx⟩)).trans (congrArg (upto m c t (1280 * (t.val % 4)) (ix2 (x 0) ⟨1024 + (x 1).val, hx⟩) + ·) (hi_at m c t x hx).symm)

theorem hi_first (c : Dev nD) (t : Fin cfg0.N) (h : t.val % 4 = 0) (x : S512x1024.Idx) :
    k0_pay4 (F := Ideal) (iblk m c 0 t) (View.ld (iblk m c 1 t) (Rect.unit ![1, 0, 0, 0] ![1, 1, 1024, 1280] inb_S2x1x1024x1280_S1x1x1024x1280_1_0_0_0)) x = upto m c t (1280 * (t.val % 4 + 1)) ((Rect.unit (s := S512x2048) ![0, 1024] ![512, 1024] inb_S512x2048_S512x1024_0_1024).emb x) := by
  rw [hi_upto, show ∀ y, upto m c t (1280 * (t.val % 4)) y = 0 from fun y => by rw [h]; rfl, zero_add, pay4_at]

theorem hi_next (c : Dev nD) (t : Fin cfg0.N) (X : Vec Ideal S512x2048 .f32) (hX : ∀ y, X y = upto m c t (1280 * (t.val % 4)) y) (x : S512x1024.Idx) :
    k0_pay6 (F := Ideal) (iblk m c 0 t) (View.ld (iblk m c 1 t) (Rect.unit ![1, 0, 0, 0] ![1, 1, 1024, 1280] inb_S2x1x1024x1280_S1x1x1024x1280_1_0_0_0)) (View.ld X (Rect.unit (s := S512x2048) ![0, 1024] ![512, 1024] inb_S512x2048_S512x1024_0_1024)) x = upto m c t (1280 * (t.val % 4 + 1)) ((Rect.unit (s := S512x2048) ![0, 1024] ![512, 1024] inb_S512x2048_S512x1024_0_1024).emb x) := by
  rw [hi_upto, ← hX, pay6_at]
  rfl

/-- A point's step of the sum, in the left half. -/
theorem lo_upto (c : Dev nD) (t : Fin cfg0.N) (x : S512x1024.Idx) :
    upto m c t (1280 * (t.val % 4 + 1)) ((Rect.unit (s := S512x2048) ![0, 0] ![512, 1024] inb_S512x2048_S512x1024_0_0).emb x)
      = upto m c t (1280 * (t.val % 4)) ((Rect.unit (s := S512x2048) ![0, 0] ![512, 1024] inb_S512x2048_S512x1024_0_0).emb x) + k0_pay1 (F := Ideal) (iblk m c 0 t) (View.ld (iblk m c 1 t) (Rect.unit ![0, 0, 0, 0] ![1, 1, 1024, 1280] inb_S2x1x1024x1280_S1x1x1024x1280_0_0_0_0)) x := by
  have hx : (x 1).val < 2048 := by have := (x 1).isLt; dsimp at this; omega
  have ee : (Rect.unit (s := S512x2048) ![0, 0] ![512, 1024] inb_S512x2048_S512x1024_0_0).emb x = ix2 (x 0) ⟨(x 1).val, hx⟩ := by blk_ext
  rw [ee]
  exact (upto_step m c t (t.val % 4) (ix2 (x 0) ⟨(x 1).val, hx⟩)).trans (congrArg (upto m c t (1280 * (t.val % 4)) (ix2 (x 0) ⟨(x 1).val, hx⟩) + ·) (lo_at m c t x hx).symm)

theorem lo_first (c : Dev nD) (t : Fin cfg0.N) (h : t.val % 4 = 0) (x : S512x1024.Idx) :
    k0_pay3 (F := Ideal) (iblk m c 0 t) (View.ld (iblk m c 1 t) (Rect.unit ![0, 0, 0, 0] ![1, 1, 1024, 1280] inb_S2x1x1024x1280_S1x1x1024x1280_0_0_0_0)) x = upto m c t (1280 * (t.val % 4 + 1)) ((Rect.unit (s := S512x2048) ![0, 0] ![512, 1024] inb_S512x2048_S512x1024_0_0).emb x) := by
  rw [lo_upto, show ∀ y, upto m c t (1280 * (t.val % 4)) y = 0 from fun y => by rw [h]; rfl, zero_add, pay3_at]

theorem lo_next (c : Dev nD) (t : Fin cfg0.N) (X : Vec Ideal S512x2048 .f32) (hX : ∀ y, X y = upto m c t (1280 * (t.val % 4)) y) (x : S512x1024.Idx) :
    k0_pay5 (F := Ideal) (iblk m c 0 t) (View.ld (iblk m c 1 t) (Rect.unit ![0, 0, 0, 0] ![1, 1, 1024, 1280] inb_S2x1x1024x1280_S1x1x1024x1280_0_0_0_0)) (View.ld X (Rect.unit (s := S512x2048) ![0, 0] ![512, 1024] inb_S512x2048_S512x1024_0_0)) x = upto m c t (1280 * (t.val % 4 + 1)) ((Rect.unit (s := S512x2048) ![0, 0] ![512, 1024] inb_S512x2048_S512x1024_0_0).emb x) := by
  rw [lo_upto, ← hX, pay5_at]
  rfl

/-- A tile's first point stores its product. -/
theorem acc_first (c : Dev nD) (t : Fin cfg0.N) (h : t.val % 4 = 0) (y : S512x2048.Idx) :
    View.canon (Val := Elt Ideal) (s := S512x2048) (e := .f32) [⟨Rect.unit ![0, 1024] ![512, 1024] inb_S512x2048_S512x1024_0_1024,
          k0_pay4 (F := Ideal) (iblk m c 0 t) (View.ld (iblk m c 1 t) (Rect.unit ![1, 0, 0, 0] ![1, 1, 1024, 1280] inb_S2x1x1024x1280_S1x1x1024x1280_1_0_0_0))⟩,
        ⟨Rect.unit ![0, 0] ![512, 1024] inb_S512x2048_S512x1024_0_0,
          k0_pay3 (F := Ideal) (iblk m c 0 t) (View.ld (iblk m c 1 t) (Rect.unit ![0, 0, 0, 0] ![1, 1, 1024, 1280] inb_S2x1x1024x1280_S1x1x1024x1280_0_0_0_0))⟩] y
      = upto m c t (1280 * (t.val % 4 + 1)) y := by
  refine View.canon_apply_of_pieces (Val := Elt Ideal) (S := S512x2048) (e := .f32) (fun y => upto m c t (1280 * (t.val % 4 + 1)) y) _
    ?_ y (View.cover_of_tiledBy _ ![512, 1024] (by sl_kernel_rfl) y)
  refine List.forall_mem_cons.mpr ⟨fun x => hi_first m c t h x, List.forall_mem_cons.mpr ⟨fun x => lo_first m c t h x, by simp⟩⟩

/-- A later point adds its product to what the buffer holds. -/
theorem acc_next (c : Dev nD) (t : Fin cfg0.N) (X : Vec Ideal S512x2048 .f32) (hX : ∀ y, X y = upto m c t (1280 * (t.val % 4)) y) (y : S512x2048.Idx) :
    View.canon (Val := Elt Ideal) (s := S512x2048) (e := .f32) [⟨Rect.unit ![0, 1024] ![512, 1024] inb_S512x2048_S512x1024_0_1024,
          k0_pay6 (F := Ideal) (iblk m c 0 t) (View.ld (iblk m c 1 t) (Rect.unit ![1, 0, 0, 0] ![1, 1, 1024, 1280] inb_S2x1x1024x1280_S1x1x1024x1280_1_0_0_0))
            (View.ld X (Rect.unit ![0, 1024] ![512, 1024] inb_S512x2048_S512x1024_0_1024))⟩,
        ⟨Rect.unit ![0, 0] ![512, 1024] inb_S512x2048_S512x1024_0_0,
          k0_pay5 (F := Ideal) (iblk m c 0 t) (View.ld (iblk m c 1 t) (Rect.unit ![0, 0, 0, 0] ![1, 1, 1024, 1280] inb_S2x1x1024x1280_S1x1x1024x1280_0_0_0_0))
            (View.ld X (Rect.unit ![0, 0] ![512, 1024] inb_S512x2048_S512x1024_0_0))⟩] y
      = upto m c t (1280 * (t.val % 4 + 1)) y := by
  refine View.canon_apply_of_pieces (Val := Elt Ideal) (S := S512x2048) (e := .f32) (fun y => upto m c t (1280 * (t.val % 4 + 1)) y) _
    ?_ y (View.cover_of_tiledBy _ ![512, 1024] (by sl_kernel_rfl) y)
  refine List.forall_mem_cons.mpr ⟨fun x => hi_next m c t X hX x, List.forall_mem_cons.mpr ⟨fun x => lo_next m c t X hX x, by simp⟩⟩

/-- Every point leaves the sum over its and the earlier column blocks in the scratch buffer. -/
theorem acc_at (c : Dev nD) : ∀ (n : ℕ) (hn : n < cfg0.N) (y), (outsAt0 m c n hn).2.2 y = upto m c ⟨n, hn⟩ (1280 * (n % 4 + 1)) y := by
  intro n
  induction n with
  | zero =>
    intro hn y
    have h := outsAt0_A m c ⟨0, hn⟩ rfl (by simp) (by simp)
    dsimp only at h
    rw [h]
    frame_out
    exact acc_first m c ⟨0, hn⟩ rfl y
  | succ n ih =>
    intro hn y
    have hX : ¬(n + 1) % 4 = 0 → ∀ y, (outsAt0 m c n (Nat.lt_of_succ_lt hn)).2.2 y = upto m c ⟨n + 1, hn⟩ (1280 * ((n + 1) % 4)) y := fun h0 y => by
      rw [ih (Nat.lt_of_succ_lt hn) y, show n % 4 + 1 = (n + 1) % 4 by omega]
      have er : rowOf ⟨n, Nat.lt_of_succ_lt hn⟩ (y 0) = rowOf ⟨n + 1, hn⟩ (y 0) := Fin.ext (by simp only [rowOf]; omega)
      rw [upto, upto, er]
    by_cases h0 : (n + 1) % 4 = 0
    · have h := outsAt0_A m c ⟨n + 1, hn⟩ h0 (by dsimp only; omega) (by dsimp only; omega)
      dsimp only at h
      rw [h]
      frame_out
      exact acc_first m c ⟨n + 1, hn⟩ h0 y
    · by_cases h2 : (n + 1) % 4 = 3
      · by_cases h3 : n + 1 < 4
        · have h := outsAt0_C m c ⟨n + 1, hn⟩ h0 (by dsimp only; omega) h2 h3
          dsimp only at h
          rw [h]
          frame_out
          simp only [read_unread_whole]
          exact acc_next m c ⟨n + 1, hn⟩ _ (hX h0) y
        · have h := outsAt0_D m c ⟨n + 1, hn⟩ h0 (by dsimp only; omega) h2 h3
          dsimp only at h
          rw [h]
          frame_out
          simp only [read_unread_whole]
          exact acc_next m c ⟨n + 1, hn⟩ _ (hX h0) y
      · have h := outsAt0_B m c ⟨n + 1, hn⟩ h0 (by dsimp only; omega) h2
        dsimp only at h
        rw [h]
        frame_out
        simp only [read_unread_whole]
        exact acc_next m c ⟨n + 1, hn⟩ _ (hX h0) y

end Cert.Lin7
-- ==== Proof.Lin.Claim7.lean ====
/- The backward pass of the input projection to its input and of the norm: the frames of the kernel as printed and idealized and of the reference, and the equality of their results. -/
module

public import proofs.«01_k».proof.Proof.Lin.Val7
public import proofs.«01_k».proof.Defs
public import proofs.«01_k».proof.Proof.Gen.Kernel7.Frame
public import proofs.«01_k».proof.Proof.Gen.Reference7Ideal.Run

@[expose] public section

set_option maxRecDepth 16384

noncomputable section

namespace Cert.Lin7

section
open Kernel7Ideal Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- A point's rows of the gradient of the normed rows. -/
def full (c : Dev nD) (t : Fin cfg0.N) : Vec Ideal S512x2048 .f32 :=
  fun y => dh (m (c.tc.loc main_arg2)) (m (c.tc.loc main_arg3)) (ix2 (rowOf t (y 0)) (y 1))

theorem ld_full (c : Dev nD) (t : Fin cfg0.N) (r : ℕ) (inb) (p : Fin 128) (i : Fin 2048) (h : r + p.val < 512) :
    full m c t ((Rect.unit (s := S512x2048) ![r, 0] ![128, 2048] inb).idx (ix2 p i)) = dh (m (c.tc.loc main_arg2)) (m (c.tc.loc main_arg3)) (ix2 (rowOf t ⟨r + p.val, h⟩) i) := by
  refine congrArg (dh _ _) (show ix2 (rowOf t ((Rect.unit (s := S512x2048) ![r, 0] ![128, 2048] inb).emb (ix2 p i) 0)) ((Rect.unit (s := S512x2048) ![r, 0] ![128, 2048] inb).emb (ix2 p i) 1) = _ from ?_)
  blk_ext [rowOf]

theorem ld_x (c : Dev nD) (t : Fin cfg0.N) (r : ℕ) (inb) (p : Fin 128) (i : Fin 2048) (h : r + p.val < 512) :
    View.ld (iblk m c 2 t) (Rect.unit (s := S512x2048) ![r, 0] ![128, 2048] inb) (ix2 p i) = m (c.tc.loc main_arg0) (ix2 (rowOf t ⟨r + p.val, h⟩) i) := by
  blk_point [iblk, V, idx_val t, rowOf]

theorem ld_dx (c : Dev nD) (t : Fin cfg0.N) (r : ℕ) (inb) (p : Fin 128) (i : Fin 2048) (h : r + p.val < 512) :
    View.ld (iblk m c 4 t) (Rect.unit (s := S512x2048) ![r, 0] ![128, 2048] inb) (ix2 p i) = m (c.tc.loc main_arg4) (ix2 (rowOf t ⟨r + p.val, h⟩) i) := by
  blk_point [iblk, V, idx_val t, rowOf]

theorem V_g (c : Dev nD) (i : Fin 2048) : V m c main_v3 (ix2 0 i) = m (c.tc.loc main_arg1) (ix1 i) := by
  entry_read
  pointwise []

theorem ld_g (c : Dev nD) (t : Fin cfg0.N) (i : Fin 2048) : iblk m c 3 t (ix2 0 i) = m (c.tc.loc main_arg1) (ix1 i) := by
  refine Eq.trans ?_ (V_g m c i)
  blk_point [iblk, idx_val t]

theorem pay10_at (a0 : R32 S8192x2048) (a1 : R32 S2048) (a2 : R32 S2048x5120) (a3 : FVec Ideal S8192x5120 .bf16) (a4 : R32 S8192x2048)
    (u x : Vec Ideal S128x2048 .f32) (g : Vec Ideal S1x2048 .f32) (d : Vec Ideal S128x2048 .f32) (p : Fin 128) (r : Fin 8192) (j : Fin 2048)
    (hu : ∀ i, u (ix2 p i) = dh a2 a3 (ix2 r i)) (hx : ∀ i, x (ix2 p i) = a0 (ix2 r i)) (hg : ∀ i, g (ix2 0 i) = a1 (ix1 i)) (hd : ∀ i, d (ix2 p i) = a4 (ix2 r i)) :
    k0_pay10 (F := Ideal) u x g d (ix2 p j) = ref0 a0 a1 a2 a3 a4 (ix2 r j) := by
  have eK : k0_pay10 (F := Ideal) u x g d (ix2 p j) = d (ix2 p j) + kcore (Ideal.ofBits .f32 897988541#32) (fun i => x (ix2 p i)) (fun i => u (ix2 p i) * g (ix2 0 i)) j := by
    pointwise [k0_pay10, k0_pay9, k0_pay8]
    rfl
  have eR : ref0 a0 a1 a2 a3 a4 (ix2 r j) = a4 (ix2 r j) + rcore (Ideal.ofBits .f32 897988541#32) (fun i => a0 (ix2 r i)) (fun i => dh a2 a3 (ix2 r i) * a1 (ix1 i)) j := by
    pointwise [ref0, wv, dm, ms]
    simp only [Fin.sum_univ_one]
    rfl
  obtain ⟨e, he, hE⟩ := ofBits_eps
  rw [eK, eR, hE, hd, kcore_eq_rcore e he]
  simp only [hu, hx, hg]

/-- One row's part of the gradient of the norm's scale, by the row's number. -/
def grow (a0 : R32 S8192x2048) (a2 : R32 S2048x5120) (a3 : FVec Ideal S8192x5120 .bf16) (j : Fin 2048) (n : ℕ) : EReal :=
  if h : n < 8192 then a0 (ix2 ⟨n, h⟩ j) * Ideal.rsqrt (Ideal.div (∑ i : Fin 2048, a0 (ix2 ⟨n, h⟩ i) * a0 (ix2 ⟨n, h⟩ i)) (Ideal.ofBits .f32 1157627904#32) + Ideal.ofBits .f32 897988541#32) * dh a2 a3 (ix2 ⟨n, h⟩ j) else 0

theorem pay11_at (a0 : R32 S8192x2048) (a2 : R32 S2048x5120) (a3 : FVec Ideal S8192x5120 .bf16)
    (u x : Vec Ideal S128x2048 .f32) (g : Vec Ideal S1x2048 .f32) (b : ℕ) (hb : ∀ p : Fin 128, b + p.val < 8192) (j : Fin 2048)
    (hu : ∀ p i, u (ix2 p i) = dh a2 a3 (ix2 ⟨b + p.val, hb p⟩ i)) (hx : ∀ p i, x (ix2 p i) = a0 (ix2 ⟨b + p.val, hb p⟩ i)) :
    k0_pay11 (F := Ideal) u x g (ix2 0 j) = g (ix2 0 j) + ∑ k ∈ Finset.range 128, grow a0 a2 a3 j (b + k) := by
  rw [Finset.sum_range]
  pointwise [k0_pay11, k0_pay9, k0_pay8]
  refine congrArg (g (ix2 0 j) + ·) (Finset.sum_congr rfl fun p _ => ?_)
  rw [grow, dif_pos (hb p)]
  simp only [hu, hx]
  exact mul_comm _ _

theorem ref1_at (a0 : R32 S8192x2048) (a2 : R32 S2048x5120) (a3 : FVec Ideal S8192x5120 .bf16) (j : Fin 2048) :
    ref1 a0 a2 a3 (ix2 0 j) = ∑ k ∈ Finset.range 8192, grow a0 a2 a3 j k := by
  rw [Finset.sum_range]
  pointwise [ref1, ms]
  simp only [Fin.sum_univ_one]
  exact Finset.sum_congr rfl fun k _ => by rw [grow, dif_pos k.isLt]

/-- A tile's last point completes the product. -/
theorem canon_full (c : Dev nD) (t : Fin cfg0.N) (h : t.val % 4 = 3) (X : Vec Ideal S512x2048 .f32) (hX : ∀ y, X y = upto m c t (1280 * (t.val % 4)) y) :
    View.canon (Val := Elt Ideal) (s := S512x2048) (e := .f32) [⟨Rect.unit ![0, 1024] ![512, 1024] inb_S512x2048_S512x1024_0_1024,
          k0_pay6 (F := Ideal) (iblk m c 0 t) (View.ld (iblk m c 1 t) (Rect.unit ![1, 0, 0, 0] ![1, 1, 1024, 1280] inb_S2x1x1024x1280_S1x1x1024x1280_1_0_0_0))
            (View.ld X (Rect.unit ![0, 1024] ![512, 1024] inb_S512x2048_S512x1024_0_1024))⟩,
        ⟨Rect.unit ![0, 0] ![512, 1024] inb_S512x2048_S512x1024_0_0,
          k0_pay5 (F := Ideal) (iblk m c 0 t) (View.ld (iblk m c 1 t) (Rect.unit ![0, 0, 0, 0] ![1, 1, 1024, 1280] inb_S2x1x1024x1280_S1x1x1024x1280_0_0_0_0))
            (View.ld X (Rect.unit ![0, 0] ![512, 1024] inb_S512x2048_S512x1024_0_0))⟩]
      = full m c t := by
  funext y
  rw [acc_next m c t X hX y, h]
  exact (dh_at _ _ _ _).symm

/-- What the point before left, at a tile's last point. -/
theorem before (c : Dev nD) (t : Fin cfg0.N) (h : t.val % 4 = 3) (h1) (y) : (outsAt0 m c (t.val - 1) h1).2.2 y = upto m c t (1280 * (t.val % 4)) y := by
  rw [acc_at m c (t.val - 1) h1 y, show (t.val - 1) % 4 + 1 = t.val % 4 by omega]
  have er : rowOf ⟨t.val - 1, h1⟩ (y 0) = rowOf t (y 0) := Fin.ext (by simp only [rowOf]; omega)
  rw [upto, upto, er]

set_option maxHeartbeats 600000 in
/-- A tile's gradient, from its four chunks of rows. -/
theorem dx_of (c : Dev nD) (t : Fin cfg0.N) (L : List (View.Piece (Elt Ideal) S512x2048 .f32)) (hL : View.canon L = full m c t) (y : S512x2048.Idx) :
    View.canon (Val := Elt Ideal) (s := S512x2048) (e := .f32) [
        ⟨Rect.unit ![384, 0] ![128, 2048] inb_S512x2048_S128x2048_384_0, k0_pay22 (F := Ideal) (fun x => View.canon L ((Rect.unit (s := S512x2048) ![384, 0] ![128, 2048] inb_S512x2048_S128x2048_384_0).idx x))
          (View.ld (iblk m c 2 t) (Rect.unit ![384, 0] ![128, 2048] inb_S512x2048_S128x2048_384_0)) (iblk m c 3 t) (View.ld (iblk m c 4 t) (Rect.unit ![384, 0] ![128, 2048] inb_S512x2048_S128x2048_384_0))⟩,
        ⟨Rect.unit ![256, 0] ![128, 2048] inb_S512x2048_S128x2048_256_0, k0_pay18 (F := Ideal) (fun x => View.canon L ((Rect.unit (s := S512x2048) ![256, 0] ![128, 2048] inb_S512x2048_S128x2048_256_0).idx x))
          (View.ld (iblk m c 2 t) (Rect.unit ![256, 0] ![128, 2048] inb_S512x2048_S128x2048_256_0)) (iblk m c 3 t) (View.ld (iblk m c 4 t) (Rect.unit ![256, 0] ![128, 2048] inb_S512x2048_S128x2048_256_0))⟩,
        ⟨Rect.unit ![128, 0] ![128, 2048] inb_S512x2048_S128x2048_128_0, k0_pay14 (F := Ideal) (fun x => View.canon L ((Rect.unit (s := S512x2048) ![128, 0] ![128, 2048] inb_S512x2048_S128x2048_128_0).idx x))
          (View.ld (iblk m c 2 t) (Rect.unit ![128, 0] ![128, 2048] inb_S512x2048_S128x2048_128_0)) (iblk m c 3 t) (View.ld (iblk m c 4 t) (Rect.unit ![128, 0] ![128, 2048] inb_S512x2048_S128x2048_128_0))⟩,
        ⟨Rect.unit ![0, 0] ![128, 2048] inb_S512x2048_S128x2048_0_0, k0_pay10 (F := Ideal) (fun x => View.canon L ((Rect.unit (s := S512x2048) ![0, 0] ![128, 2048] inb_S512x2048_S128x2048_0_0).idx x))
          (View.ld (iblk m c 2 t) (Rect.unit ![0, 0] ![128, 2048] inb_S512x2048_S128x2048_0_0)) (iblk m c 3 t) (View.ld (iblk m c 4 t) (Rect.unit ![0, 0] ![128, 2048] inb_S512x2048_S128x2048_0_0))⟩] y
      = ref0 (m (c.tc.loc main_arg0)) (m (c.tc.loc main_arg1)) (m (c.tc.loc main_arg2)) (m (c.tc.loc main_arg3)) (m (c.tc.loc main_arg4)) (((cfg0.win 5).blk t).view.emb y) := by
  rw [hL]
  have chunk : ∀ (r : ℕ) (inb) (x : S128x2048.Idx), r ≤ 384 → k0_pay10 (F := Ideal) (fun x => full m c t ((Rect.unit (s := S512x2048) ![r, 0] ![128, 2048] inb).idx x))
      (View.ld (iblk m c 2 t) (Rect.unit ![r, 0] ![128, 2048] inb)) (iblk m c 3 t) (View.ld (iblk m c 4 t) (Rect.unit ![r, 0] ![128, 2048] inb)) x
      = ref0 (m (c.tc.loc main_arg0)) (m (c.tc.loc main_arg1)) (m (c.tc.loc main_arg2)) (m (c.tc.loc main_arg3)) (m (c.tc.loc main_arg4))
        (((cfg0.win 5).blk t).view.emb ((Rect.unit (s := S512x2048) ![r, 0] ![128, 2048] inb).emb x)) := fun r inb x hr => by
    have hp : r + (x 0).val < 512 := by have := (x 0).isLt; dsimp at this; omega
    refine Eq.trans ?_ ((pay10_at _ _ _ _ _ (fun x => full m c t ((Rect.unit (s := S512x2048) ![r, 0] ![128, 2048] inb).idx x)) (View.ld (iblk m c 2 t) (Rect.unit ![r, 0] ![128, 2048] inb)) (iblk m c 3 t) (View.ld (iblk m c 4 t) (Rect.unit ![r, 0] ![128, 2048] inb)) (x 0) (rowOf t ⟨r + (x 0).val, hp⟩) (x 1) (fun i => ld_full m c t r inb (x 0) i hp)
      (fun i => ld_x m c t r inb (x 0) i hp) (fun i => ld_g m c t i) (fun i => ld_dx m c t r inb (x 0) i hp)).trans (congrArg (ref0 _ _ _ _ _) ?_))
    · refine congrArg _ ?_
      blk_ext
    · blk_ext [idx_val t, rowOf]
  refine View.canon_apply_of_pieces (Val := Elt Ideal) (S := S512x2048) (e := .f32) (fun y => ref0 (m (c.tc.loc main_arg0)) (m (c.tc.loc main_arg1)) (m (c.tc.loc main_arg2)) (m (c.tc.loc main_arg3)) (m (c.tc.loc main_arg4)) (((cfg0.win 5).blk t).view.emb y)) _
    ?_ y (View.cover_of_tiledBy _ ![128, 2048] (by sl_kernel_rfl) y)
  exact List.forall_mem_cons.mpr ⟨fun x => chunk 384 _ x (by omega), List.forall_mem_cons.mpr ⟨fun x => chunk 256 _ x (by omega),
    List.forall_mem_cons.mpr ⟨fun x => chunk 128 _ x (by omega), List.forall_mem_cons.mpr ⟨fun x => chunk 0 _ x (by omega), by simp⟩⟩⟩⟩

set_option maxHeartbeats 600000 in
/-- The gradient of the layer's input is the reference's. -/
theorem final0 (c : Dev nD) : (dats m 0 c).arrAt 5 (cfgs 0).N = ref0 (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  blk_simp; rw [after0_5]
  have h3 : t.val % 4 = 3 := (flush0_5 t).mp hf
  by_cases h : t.val < 4
  · rw [outsAt0_C m c t (by omega) (by omega) h3 h]; dsimp only
    frame_out
    simp only [read_unread_whole, View.readCov_eq_canon']
    refine dx_of m c t _ ?_ y
    exact canon_full m c t h3 _ (before m c t h3 _)
  · rw [outsAt0_D m c t (by omega) (by omega) h3 h]; dsimp only
    frame_out
    simp only [read_unread_whole, View.readCov_eq_canon']
    refine dx_of m c t _ ?_ y
    exact canon_full m c t h3 _ (before m c t h3 _)

/-- A tile's last point adds its rows' part to the gradient of the norm's scale. -/
theorem dg_of (c : Dev nD) (t : Fin cfg0.N) (L : List (View.Piece (Elt Ideal) S512x2048 .f32)) (hL : View.canon L = full m c t) (g : Vec Ideal S1x2048 .f32) (j : Fin 2048) :
    k0_pay23 (F := Ideal) (fun x => View.canon L ((Rect.unit (s := S512x2048) ![384, 0] ![128, 2048] inb_S512x2048_S128x2048_384_0).idx x)) (View.ld (iblk m c 2 t) (Rect.unit (s := S512x2048) ![384, 0] ![128, 2048] inb_S512x2048_S128x2048_384_0))
      (k0_pay19 (F := Ideal) (fun x => View.canon L ((Rect.unit (s := S512x2048) ![256, 0] ![128, 2048] inb_S512x2048_S128x2048_256_0).idx x)) (View.ld (iblk m c 2 t) (Rect.unit (s := S512x2048) ![256, 0] ![128, 2048] inb_S512x2048_S128x2048_256_0))
        (k0_pay15 (F := Ideal) (fun x => View.canon L ((Rect.unit (s := S512x2048) ![128, 0] ![128, 2048] inb_S512x2048_S128x2048_128_0).idx x)) (View.ld (iblk m c 2 t) (Rect.unit (s := S512x2048) ![128, 0] ![128, 2048] inb_S512x2048_S128x2048_128_0))
          (k0_pay11 (F := Ideal) (fun x => View.canon L ((Rect.unit (s := S512x2048) ![0, 0] ![128, 2048] inb_S512x2048_S128x2048_0_0).idx x)) (View.ld (iblk m c 2 t) (Rect.unit (s := S512x2048) ![0, 0] ![128, 2048] inb_S512x2048_S128x2048_0_0)) g))) (ix2 0 j)
      = g (ix2 0 j) + ∑ k ∈ Finset.range 512, grow (m (c.tc.loc main_arg0)) (m (c.tc.loc main_arg2)) (m (c.tc.loc main_arg3)) j (t.val / 4 * 512 + k) := by
  rw [hL]
  have ht : t.val < 64 := lt_of_lt_of_eq t.isLt N_0
  have chunk : ∀ (r : ℕ) (inb) (g : Vec Ideal S1x2048 .f32), r ≤ 384 → k0_pay11 (F := Ideal) (fun x => full m c t ((Rect.unit (s := S512x2048) ![r, 0] ![128, 2048] inb).idx x))
      (View.ld (iblk m c 2 t) (Rect.unit ![r, 0] ![128, 2048] inb)) g (ix2 0 j)
      = g (ix2 0 j) + ∑ k ∈ Finset.range 128, grow (m (c.tc.loc main_arg0)) (m (c.tc.loc main_arg2)) (m (c.tc.loc main_arg3)) j (t.val / 4 * 512 + r + k) := fun r inb g hr =>
    pay11_at _ _ _ (fun x => full m c t ((Rect.unit (s := S512x2048) ![r, 0] ![128, 2048] inb).idx x)) (View.ld (iblk m c 2 t) (Rect.unit ![r, 0] ![128, 2048] inb)) g (t.val / 4 * 512 + r) (fun p => by omega) j
      (fun p i => (ld_full m c t r inb p i (by omega)).trans (congrArg (fun q => dh _ _ (ix2 q i)) (Fin.ext (by simp only [rowOf]; omega))))
      (fun p i => (ld_x m c t r inb p i (by omega)).trans (congrArg (fun q => m (c.tc.loc main_arg0) (ix2 q i)) (Fin.ext (by simp only [rowOf]; omega))))
  refine (chunk 384 _ _ (by omega)).trans ?_
  refine (congrArg (· + _) (chunk 256 _ _ (by omega))).trans ?_
  refine (congrArg (· + _ + _) (chunk 128 _ _ (by omega))).trans ?_
  refine (congrArg (· + _ + _ + _) (chunk 0 _ _ (by omega))).trans ?_
  rw [show (512 : ℕ) = 128 + 128 + 128 + 128 from rfl, Finset.sum_range_add, Finset.sum_range_add, Finset.sum_range_add]
  simp only [add_assoc, Nat.reduceAdd, Nat.zero_add]

/-- From a first tile's last point on, the second output's buffer holds the rows so far. -/
theorem dg_at (c : Dev nD) (j : Fin 2048) : ∀ (n : ℕ) (hn : n < cfg0.N), 3 ≤ n →
    (outsAt0 m c n hn).2.1 (ix2 0 j) = ∑ k ∈ Finset.range (512 * ((n + 1) / 4)), grow (m (c.tc.loc main_arg0)) (m (c.tc.loc main_arg2)) (m (c.tc.loc main_arg3)) j k := by
  intro n
  induction n with
  | zero => intro hn h; omega
  | succ n ih =>
    intro hn hle
    by_cases h3 : (n + 1) % 4 = 3
    · by_cases h : n + 1 < 4
      · have e := outsAt0_C m c ⟨n + 1, hn⟩ (by dsimp only; omega) (by dsimp only; omega) h3 h
        dsimp only at e
        rw [e]
        frame_out
        simp only [read_unread_whole, View.readCov_eq_canon']
        refine (dg_of m c ⟨n + 1, hn⟩ _ ?_ _ j).trans ?_
        · exact canon_full m c ⟨n + 1, hn⟩ h3 _ (before m c ⟨n + 1, hn⟩ h3 _)
        · have hn2 : n = 2 := by omega
          subst hn2
          pointwise [k0_pay7]
      · have e := outsAt0_D m c ⟨n + 1, hn⟩ (by dsimp only; omega) (by dsimp only; omega) h3 h
        dsimp only at e
        rw [e]
        frame_out
        simp only [read_unread_whole, View.readCov_eq_canon']
        refine (dg_of m c ⟨n + 1, hn⟩ _ ?_ _ j).trans ?_
        · exact canon_full m c ⟨n + 1, hn⟩ h3 _ (before m c ⟨n + 1, hn⟩ h3 _)
        · refine (congrArg (· + _) (ih (Nat.lt_of_succ_lt hn) (by omega))).trans ?_
          rw [show 512 * ((n + 1 + 1) / 4) = 512 * ((n + 1) / 4) + 512 by omega, Finset.sum_range_add, show (n + 1) / 4 * 512 = 512 * ((n + 1) / 4) by omega]
    · have hp := ih (Nat.lt_of_succ_lt hn) (by omega)
      rw [show (n + 1 + 1) / 4 = (n + 1) / 4 by omega, ← hp]
      by_cases h0 : (n + 1) % 4 = 0
      · have e := outsAt0_A m c ⟨n + 1, hn⟩ h0 (by dsimp only; omega) (by dsimp only; omega)
        dsimp only at e
        rw [e]
        rfl
      · have e := outsAt0_B m c ⟨n + 1, hn⟩ h0 (by dsimp only; omega) h3
        dsimp only at e
        rw [e]
        rfl

/-- The gradient of the norm's scale is the reference's. -/
theorem final1 (c : Dev nD) : (dats m 0 c).arrAt 6 (cfgs 0).N = ref1 (m (c.tc.loc main_arg0)) (m (c.tc.loc main_arg2)) (m (c.tc.loc main_arg3)) := by
  refine (dats m 0 c).arrAt_eq_of_covers 6 _ (by decide +kernel) fun t hf y => ?_
  blk_simp; rw [after0_6]
  have h63 : t.val = 63 := by have := (flush0_6 t).mp hf; have ht : t.val < 64 := lt_of_lt_of_eq t.isLt N_0; omega
  have ey : y = ix2 0 (y 1) := by blk_ext
  have e : ((cfg0.win 6).blk t).view.emb y = ix2 0 (y 1) := by blk_ext [idx_val t]
  rw [e]
  refine Eq.trans ?_ (ref1_at _ _ _ (y 1)).symm
  refine (congrArg (outsAt0 m c t.val t.isLt).2.1 ey).trans ((dg_at m c (y 1) t.val t.isLt (by omega)).trans ?_)
  rw [h63]
end

set_option backward.isDefEq.respectTransparency false
open Idealize.ShloMosaic Idealize.SL.Sem

theorem frame_kernel : quiescent_Kernel7 := fun m ρ _ => Kernel7.Gen.frame m ρ
theorem frame_ideal : quiescent_Kernel7Ideal := fun m ρ _ => Kernel7Ideal.Gen.frame m ρ
theorem frame_reference : quiescent_Reference7Ideal := fun m ρ _ =>
  (θ_run Reference7Ideal.defs _ _).mono (fun _ h => ⟨fun c => (h c).2.2, sem_eq_zero_of_no_sems (by decide) _⟩) (Reference7Ideal.Value.run m ρ)

/-- The idealized kernel and the idealized reference end with equal results. -/
theorem algebraic : algebraic_Kernel7Ideal_Reference7Ideal := by
  pair_intro
  · run_from Kernel7Ideal.Gen.run_main m g
  · refine (θ_run Reference7Ideal.defs _ _).mono (fun _ h c => ?_) (Reference7Ideal.Value.run m' g')
    obtain ⟨e0, e1, e2, e3, e4⟩ := hagree c
    refine ⟨(h c).1.trans (Eq.trans ?_ (final0 m c).symm), (h c).2.1.trans (Eq.trans ?_ (final1 m c).symm), (h c).2.2⟩
    all_goals
      simp only [← e0, ← e1, ← e2, ← e3, ← e4]
      rfl

end Cert.Lin7
-- ==== Proof.Lin.Ref8.lean ====
/- The terms that the reference of the eighth call ends with, over its argument arrays. -/
module

public import proofs.«01_k».proof.Proof.Gen.Reference8Ideal
public import Idealize.ShloMosaic.PureOps.Ideal
public import Idealize.ShloMosaic.Lib.StableHlo.Run

@[expose] public section

noncomputable section

namespace Cert.Lin8

open Idealize.ShloMosaic in
/-- Arrays of extended reals, by shape. -/
abbrev R16 (s : Shape) := FVec Ideal s .bf16
open Idealize.ShloMosaic in
abbrev R32 (s : Shape) := FVec Ideal s .f32

open Reference8Ideal Reference8Ideal.Gen
open Idealize.ShloMosaic Idealize.ShloMosaic.TcCoe

/-- The mixers' outputs side by side, taken up to single precision. -/
def side (a0 : R16 S8192x512) (a1 : R16 S8192x1024) (a2 : R16 S8192x512) : R32 S8192x2048 :=
  (concatenate S8192x2048 1 [⟨S8192x512, ((extf .f32 a0 bitsLt_bf16_f32) : R32 S8192x512)⟩, ⟨S8192x1024, ((extf
    .f32 a1 bitsLt_bf16_f32) : R32 S8192x1024)⟩, ⟨S8192x512, ((extf .f32 a2 bitsLt_bf16_f32) : R32 S8192x512)⟩]
    concatenates_S8192x512_S8192x1024_S8192x512_S8192x2048_d1 : R32 S8192x2048)

/-- The last layer's output. -/
def out (a0 : R16 S8192x512) (a1 : R16 S8192x1024) (a2 : R16 S8192x512) (a3 : R32 S2048x2048) (a4 : R32 S8192x2048) : R32 S8192x2048 :=
  addf a4 (Host.dotGeneral dot_S8192x2048_S2048x2048_S8192x2048_1_0_0_1_n_n none (side a0 a1 a2) a3)

/-- The rows' mean squares, with the small constant. -/
def ms (X : R32 S8192x2048) : R32 S8192x1 :=
  addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

/-- The normed rows. -/
def xh (X : R32 S8192x2048) : R32 S8192x2048 :=
  mulf X (broadcastInDim S8192x2048 ![0, 1] bcast_S8192x1_S8192x2048_0_1 (Host.rsqrt (ms X)))

/-- What the scaled normed rows differ from the target by. -/
def err (X : R32 S8192x2048) (a5 : R32 S2048) (a6 : R32 S8192x2048) : R32 S8192x2048 :=
  subf (mulf (xh X) (broadcastInDim S8192x2048 ![0, 1] bcast_S1x2048_S8192x2048_0_1 (broadcastInDim S1x2048 ![1] bcast_S2048_S1x2048_1 a5))) a6

/-- The loss's gradient at the scaled normed rows. -/
def dout (X : R32 S8192x2048) (a5 : R32 S2048) (a6 : R32 S8192x2048) : R32 S8192x2048 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (err X a5 a6))

/-- A gradient times the norm's scale. -/
def wv (a5 : R32 S2048) (D : R32 S8192x2048) : R32 S8192x2048 :=
  mulf D (broadcastInDim S8192x2048 ![0, 1] bcast_S1x2048_S8192x2048_0_1 (broadcastInDim S1x2048 ![1] bcast_S2048_S1x2048_1 a5))

/-- What reaches the rows through the mean square, before the factor of the row. -/
def dm (X W : R32 S8192x2048) : R32 S8192x2048 :=
  broadcastInDim S8192x2048 ![0] bcast_S8192_S8192x2048_0 (Host.reduceAdd (Host.divf (mulf (shapeCast _ (Host.reduceAdd (mulf X W) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (ms X)) (ms X)))) (broadcastInDim S8192x1 ![] bcast_S_S8192x1 (constant S_ .f32 0x45000000#32))) (constant S_ .f32 0x00000000#32) reducesTo_S8192x1_S8192_d1 h_S_)

/-- The gradient at the layer's output, as the reference computes it. -/
def ref0 (X : R32 S8192x2048) (a5 : R32 S2048) (a6 : R32 S8192x2048) : R32 S8192x2048 :=
  addf (addf (mulf (wv a5 (dout X a5 a6)) (broadcastInDim S8192x2048 ![0, 1] bcast_S8192x1_S8192x2048_0_1 (Host.rsqrt (ms X)))) (mulf X (dm X (wv a5 (dout X a5 a6))))) (mulf (dm X (wv a5 (dout X a5 a6))) X)

/-- The loss in every lane, as the reference computes it. -/
def ref1 (X : R32 S8192x2048) (a5 : R32 S2048) (a6 : R32 S8192x2048) : R32 S1x128 :=
  broadcastInDim S1x128 ![] bcast_S_S1x128 (mulf (constant S_ .f32 0x3F000000#32) (Host.reduceAdd (Host.divf (Host.reduceAdd (mulf (err X a5 a6) (err X a5 a6)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_))

/-- The gradient of the final norm's scale, as the reference computes it. -/
def ref2 (X : R32 S8192x2048) (a5 : R32 S2048) (a6 : R32 S8192x2048) : R32 S1x2048 :=
  shapeCast _ (Host.reduceAdd (shapeCast _ (Host.reduceAdd (mulf (xh X) (dout X a5 a6)) (constant S_ .f32 0x00000000#32) reducesTo_S8192x2048_S2048_d0 h_S_) shapeCasts_S2048_S1x2048) (constant S_ .f32 0x00000000#32) reducesTo_S1x2048_S2048_d0 h_S_) shapeCasts_S2048_S1x2048

/-- The mixers' outputs side by side, as the reference computes them. -/
def ref3 (a0 : R16 S8192x512) (a1 : R16 S8192x1024) (a2 : R16 S8192x512) : R16 S8192x2048 :=
  (concatenate S8192x2048 1 [⟨S8192x512, (a0 : R16 S8192x512)⟩, ⟨S8192x1024, (a1 : R16 S8192x1024)⟩, ⟨S8192x512, (a2 : R16 S8192x512)⟩]
    concatenates_S8192x512_S8192x1024_S8192x512_S8192x2048_d1 : R16 S8192x2048)

end Cert.Lin8
-- ==== Proof.Lin.Val8.lean ====
/- What the call of the idealized kernel leaves is the reference's terms. -/
module

public import proofs.«01_k».proof.Proof.Gen.Kernel8Ideal.Frame
public import proofs.«01_k».proof.Proof.Lin.Ref8
public import proofs.«01_k».proof.Proof.Lin.Norm7
public import Idealize.ShloMosaic.Lib.Pipeline.ValueKit
public import Idealize.ShloMosaic.Lib.Pipeline.ReadBack

@[expose] public section

set_option maxRecDepth 16384

noncomputable section

namespace Cert.Lin8

open Kernel8Ideal Kernel8Ideal.Gen
open Idealize.ShloMosaic Idealize.ShloMosaic.TcCoe Idealize.SL.Sem
open Idealize.ShloMosaic.Pipeline (Dat)
open Lin7 (kcore rcore kcore_eq_rcore ofBits_2048 ofBits_eps)

variable (m : (ℓ : Loc nD τ sig) → Buf (Elt Ideal) ℓ)

/-- Every window's block index at a grid point, by the point's number. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0]
    ∧ win0_6.index t = ![t.val, 0]
    ∧ win0_7.index t = ![t.val, 0]
    ∧ win0_8.index t = ![0, 0]
    ∧ win0_9.index t = ![0, 0]
    ∧ win0_10.index t = ![t.val, 0] :=
  (by decide +kernel : ∀ t : Fin grid0.N, _)

/-- Row `k` of point `t`'s block, as a row of the array. -/
def rowOf (t : Fin cfg0.N) (k : Fin 256) : Fin 8192 :=
  ⟨t.val * 256 + k.val, by have ht : t.val < 32 := lt_of_lt_of_eq t.isLt N_0; omega⟩

/-- The side-by-side rows: the left columns. -/
theorem side_0 (a0 a1 a2) (r : Fin 8192) (k : Fin 512) (h : k.val < 2048) : side a0 a1 a2 (ix2 r ⟨k.val, h⟩) = a0 (ix2 r k) := by
  pointwise [side]

/-- The side-by-side rows: the middle columns. -/
theorem side_1 (a0 a1 a2) (r : Fin 8192) (k : Fin 1024) (h : 512 + k.val < 2048) : side a0 a1 a2 (ix2 r ⟨512 + k.val, h⟩) = a1 (ix2 r k) := by
  pointwise [side]

/-- The side-by-side rows: the right columns. -/
theorem side_2 (a0 a1 a2) (r : Fin 8192) (k : Fin 512) (h : 1536 + k.val < 2048) : side a0 a1 a2 (ix2 r ⟨1536 + k.val, h⟩) = a2 (ix2 r k) := by
  pointwise [side]
  rw [dif_neg (by omega), dif_neg (by omega)]
  exact congrArg a2 (by congr 1; exact Fin.ext (by dsimp only; omega))

/-- The rows side by side: the left columns. -/
theorem ref3_0 (a0 a1 a2) (r : Fin 8192) (k : Fin 512) (h : k.val < 2048) : ref3 a0 a1 a2 (ix2 r ⟨k.val, h⟩) = a0 (ix2 r k) := by
  pointwise [ref3]

/-- The rows side by side: the middle columns. -/
theorem ref3_1 (a0 a1 a2) (r : Fin 8192) (k : Fin 1024) (h : 512 + k.val < 2048) : ref3 a0 a1 a2 (ix2 r ⟨512 + k.val, h⟩) = a1 (ix2 r k) := by
  pointwise [ref3]

/-- The rows side by side: the right columns. -/
theorem ref3_2 (a0 a1 a2) (r : Fin 8192) (k : Fin 512) (h : 1536 + k.val < 2048) : ref3 a0 a1 a2 (ix2 r ⟨1536 + k.val, h⟩) = a2 (ix2 r k) := by
  pointwise [ref3]
  rw [dif_neg (by omega), dif_neg (by omega)]
  exact congrArg a2 (by congr 1; exact Fin.ext (by dsimp only; omega))

/-- A sum over 2048 terms is the sum over its parts of 512, 1024 and 512. -/
theorem parts (f : Fin 2048 → EReal) (g : Fin 512 → EReal) (h : Fin 1024 → EReal) (l : Fin 512 → EReal) (hg : ∀ k : Fin 512, g k = f ⟨k.val, by omega⟩)
    (hh : ∀ k : Fin 1024, h k = f ⟨512 + k.val, by omega⟩) (hl : ∀ k : Fin 512, l k = f ⟨1536 + k.val, by omega⟩) :
    (∑ k, g k) + (∑ k, h k) + ∑ k, l k = ∑ k, f k := by
  refine Eq.trans ?_ (Fin.sum_univ_add (a := 1536) (b := 512) f).symm
  refine congrArg₂ (· + ·) ?_ (Finset.sum_congr rfl fun k _ => hl k)
  refine Eq.trans ?_ (Fin.sum_univ_add (a := 512) (b := 1024) (fun k : Fin 1536 => f ⟨k.val, by omega⟩)).symm
  exact congrArg₂ (· + ·) (Finset.sum_congr rfl fun k _ => hg k) (Finset.sum_congr rfl fun k _ => hh k)

/-- The last layer's output, over the launch memory. -/
def X (c : Dev nD) : FVec Ideal S8192x2048 .f32 :=
  out (m (c.tc.loc main_arg0)) (m (c.tc.loc main_arg1)) (m (c.tc.loc main_arg2)) (m (c.tc.loc main_arg3)) (m (c.tc.loc main_arg4))

/-- A point's rows of the last layer's output, as the kernel makes them. -/
def tile (c : Dev nD) (t : Fin cfg0.N) : FVec Ideal S256x2048 .f32 :=
  k0_pay4 (F := Ideal) (iblk m c 0 t) (View.ld (iblk m c 3 t) (Rect.unit ![0, 0] ![512, 2048] inb_S2048x2048_S512x2048_0_0))
      (iblk m c 1 t) (View.ld (iblk m c 3 t) (Rect.unit ![512, 0] ![1024, 2048] inb_S2048x2048_S1024x2048_512_0))
      (iblk m c 2 t) (View.ld (iblk m c 3 t) (Rect.unit ![1536, 0] ![512, 2048] inb_S2048x2048_S512x2048_1536_0))
      (iblk m c 4 t)

/-- The sums of the squares of a point's rows, as the kernel makes them. -/
def squares (c : Dev nD) (t : Fin cfg0.N) : FVec Ideal S256x1 .f32 :=
  k0_pay5 (F := Ideal) (iblk m c 0 t) (View.ld (iblk m c 3 t) (Rect.unit ![0, 0] ![512, 2048] inb_S2048x2048_S512x2048_0_0))
      (iblk m c 1 t) (View.ld (iblk m c 3 t) (Rect.unit ![512, 0] ![1024, 2048] inb_S2048x2048_S1024x2048_512_0))
      (iblk m c 2 t) (View.ld (iblk m c 3 t) (Rect.unit ![1536, 0] ![512, 2048] inb_S2048x2048_S512x2048_1536_0))
      (iblk m c 4 t)

theorem V_w (c : Dev nD) (i j : Fin 2048) : V m c (Pipeline.arrRef spec0 3) (ix2 i j) = m (c.tc.loc main_arg3) (ix2 i j) := by
  show V m c main_v0 _ = _
  entry_read
  pointwise []

theorem V_g (c : Dev nD) (i : Fin 2048) : V m c (Pipeline.arrRef spec0 5) (ix2 0 i) = m (c.tc.loc main_arg5) (ix1 i) := by
  show V m c main_v1 _ = _
  entry_read
  pointwise []

theorem tile_at (c : Dev nD) (t : Fin cfg0.N) (p : Fin 256) (i : Fin 2048) : tile m c t (ix2 p i) = X m c (ix2 (rowOf t p) i) := by
  pointwise [tile, k0_pay4, X, out]
  refine congrArg₂ (· + ·) ?_ (parts _ _ _ _ (fun k => congrArg₂ (· * ·) (Eq.trans ?_ (side_0 _ _ _ _ k _).symm) ?_)
    (fun k => congrArg₂ (· * ·) (Eq.trans ?_ (side_1 _ _ _ _ k _).symm) ?_)
    (fun k => congrArg₂ (· * ·) (Eq.trans ?_ (side_2 _ _ _ _ k _).symm) ?_))
  all_goals blk_point [iblk, V, idx_val t, rowOf]

theorem squares_at (c : Dev nD) (t : Fin cfg0.N) (p : Fin 256) : squares m c t (ix2 p 0) = ∑ i : Fin 2048, tile m c t (ix2 p i) * tile m c t (ix2 p i) := by
  pointwise [squares, k0_pay5]
  rfl

theorem ld_g (c : Dev nD) (t : Fin cfg0.N) (i : Fin 2048) : iblk m c 5 t (ix2 0 i) = m (c.tc.loc main_arg5) (ix1 i) := by
  refine Eq.trans ?_ (V_g m c i)
  blk_point [iblk, idx_val t]

theorem ld_t (c : Dev nD) (t : Fin cfg0.N) (p : Fin 256) (i : Fin 2048) : iblk m c 6 t (ix2 p i) = m (c.tc.loc main_arg6) (ix2 (rowOf t p) i) := by
  blk_point [iblk, V, idx_val t, rowOf]

/-- The three stores of a point that makes the second output are the reference's block. -/
theorem y_at (c : Dev nD) (t : Fin cfg0.N) (y) :
    View.canon [⟨Rect.unit ![0, 1536] ![256, 512] inb_S256x2048_S256x512_0_1536, iblk m c 2 t⟩,
        ⟨Rect.unit ![0, 512] ![256, 1024] inb_S256x2048_S256x1024_0_512, iblk m c 1 t⟩,
        ⟨Rect.unit ![0, 0] ![256, 512] inb_S256x2048_S256x512_0_0, iblk m c 0 t⟩] y
      = ref3 (m (c.tc.loc main_arg0)) (m (c.tc.loc main_arg1)) (m (c.tc.loc main_arg2)) (((cfg0.win 10).blk t).view.emb y) := by
  refine View.canon_apply_of_pieces (Val := Elt Ideal) (S := S256x2048) (e := .bf16) (fun y => ref3 (m (c.tc.loc main_arg0)) (m (c.tc.loc main_arg1)) (m (c.tc.loc main_arg2)) (((cfg0.win 10).blk t).view.emb y)) _
    ?_ y (View.cover_of_tiledBy _ ![256, 512] (by sl_kernel_rfl) y)
  refine List.forall_mem_cons.mpr ⟨fun x => ?_, List.forall_mem_cons.mpr ⟨fun x => ?_, List.forall_mem_cons.mpr ⟨fun x => ?_, by simp⟩⟩⟩
  · refine Eq.trans ?_ ((ref3_2 _ _ _ (rowOf t (x 0)) (x 1) (by have := (x 1).isLt; dsimp at this; omega)).symm.trans (congrArg (ref3 _ _ _) ?_))
    · show iblk m c 2 t x = _
      blk_point [iblk, V, idx_val t, rowOf]
    · blk_ext [idx_val t, rowOf]
  · refine Eq.trans ?_ ((ref3_1 _ _ _ (rowOf t (x 0)) (x 1) (by have := (x 1).isLt; dsimp at this; omega)).symm.trans (congrArg (ref3 _ _ _) ?_))
    · show iblk m c 1 t x = _
      blk_point [iblk, V, idx_val t, rowOf]
    · blk_ext [idx_val t, rowOf]
  · refine Eq.trans ?_ ((ref3_0 _ _ _ (rowOf t (x 0)) (x 1) (by have := (x 1).isLt; dsimp at this; omega)).symm.trans (congrArg (ref3 _ _ _) ?_))
    · show iblk m c 0 t x = _
      blk_point [iblk, V, idx_val t, rowOf]
    · blk_ext [idx_val t, rowOf]

end Cert.Lin8
-- ==== Proof.Lin.Claim8.lean ====
/- The last layer's output projection with the final norm, the loss and their gradients: the frames of the kernel as printed and idealized and of the reference, and the equality of their results. -/
module

public import proofs.«01_k».proof.Proof.Lin.Val8
public import proofs.«01_k».proof.Defs
public import proofs.«01_k».proof.Proof.Gen.Kernel8.Frame
public import proofs.«01_k».proof.Proof.Gen.Reference8Ideal.Run

@[expose] public section

set_option maxRecDepth 16384

noncomputable section

namespace Cert.Lin8

section
open Kernel8Ideal Kernel8Ideal.Gen
open Idealize.ShloMosaic Idealize.ShloMosaic.TcCoe Idealize.SL.Sem
open Idealize.ShloMosaic.Pipeline (Dat)
open Lin7 (kcore rcore kcore_eq_rcore ofBits_2048 ofBits_eps)

variable (m : (ℓ : Loc nD τ sig) → Buf (Elt Ideal) ℓ)

theorem ofBits_half : Ideal.ofBits .f32 1056964608#32 = ((1 / 2 : ℝ) : EReal) := by
  simp [Ideal.ofBits, Ideal.ieee, -EReal.coe_mul]; norm_num

theorem ofBits_one : Ideal.ofBits .f32 1065353216#32 = ((1 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_recip : Ideal.ofBits .f32 973078528#32 = ((1 / 2048 : ℝ) : EReal) := by
  simp [Ideal.ofBits, Ideal.ieee, -EReal.coe_mul]; norm_num

/-- The kernel's factor of the difference is the reference's two factors. -/
theorem factor (d : EReal) : Ideal.div (Ideal.ofBits .f32 1056964608#32 * Ideal.ofBits .f32 1065353216#32) (Ideal.ofBits .f32 1157627904#32) * (Ideal.ofBits .f32 1073741824#32 * d)
    = d * Ideal.ofBits .f32 973078528#32 := by
  rw [ofBits_half, ofBits_one, ofBits_two, ofBits_recip, ofBits_2048, Ideal.div_coe (by norm_num), ← EReal.coe_mul, ← EReal.coe_mul, ← mul_assoc, ← EReal.coe_mul, mul_comm]
  norm_num

/-- One entry of a row's difference from the target. -/
def ecore (x g t : Fin 2048 → EReal) (j : Fin 2048) : EReal :=
  x j * Ideal.rsqrt (Ideal.div (∑ i, x i * x i) (Ideal.ofBits .f32 1157627904#32) + Ideal.ofBits .f32 897988541#32) * g j - t j

theorem err_at (X : R32 S8192x2048) (a5 : R32 S2048) (a6 : R32 S8192x2048) (r : Fin 8192) (j : Fin 2048) :
    err X a5 a6 (ix2 r j) = ecore (fun i => X (ix2 r i)) (fun i => a5 (ix1 i)) (fun i => a6 (ix2 r i)) j := by
  pointwise [err, xh, ms]
  rfl

theorem dout_at (X : R32 S8192x2048) (a5 : R32 S2048) (a6 : R32 S8192x2048) (r : Fin 8192) (j : Fin 2048) :
    dout X a5 a6 (ix2 r j) = err X a5 a6 (ix2 r j) * Ideal.ofBits .f32 973078528#32 := by
  rw [← factor]
  pointwise [dout]

theorem pay8_at (a5 : R32 S2048) (v21 : R32 S256x2048) (v24 : R32 S256x1) (v32 : R32 S1x2048) (v36 : R32 S256x2048)
    (p : Fin 256) (j : Fin 2048) (h24 : v24 (ix2 p 0) = ∑ i, v21 (ix2 p i) * v21 (ix2 p i)) (h32 : ∀ i, v32 (ix2 0 i) = a5 (ix1 i)) :
    k0_pay8 (F := Ideal) v21 v24 (Scalar.ofBits .f32 0x45000000#32) v32 v36 (ix2 p j) = ecore (fun i => v21 (ix2 p i)) (fun i => a5 (ix1 i)) (fun i => v36 (ix2 p i)) j := by
  pointwise [k0_pay8, k0_pay7, k0_pay6]
  rw [h24, h32]
  rfl

theorem pay11_at (X : R32 S8192x2048) (a5 : R32 S2048) (a6 : R32 S8192x2048)
    (v21 : R32 S256x2048) (v24 : R32 S256x1) (v32 : R32 S1x2048) (v36 : R32 S256x2048) (p : Fin 256) (r : Fin 8192) (j : Fin 2048)
    (h24 : v24 (ix2 p 0) = ∑ i, v21 (ix2 p i) * v21 (ix2 p i)) (h21 : ∀ i, v21 (ix2 p i) = X (ix2 r i)) (h32 : ∀ i, v32 (ix2 0 i) = a5 (ix1 i)) (h36 : ∀ i, v36 (ix2 p i) = a6 (ix2 r i)) :
    k0_pay11 (F := Ideal) v21 v24 (Scalar.ofBits .f32 0x45000000#32) v32 v36 v32 (ix2 p j) = ref0 X a5 a6 (ix2 r j) := by
  have eK : k0_pay11 (F := Ideal) v21 v24 (Scalar.ofBits .f32 0x45000000#32) v32 v36 v32 (ix2 p j)
      = kcore (Ideal.ofBits .f32 897988541#32) (fun i => v21 (ix2 p i)) (fun i => k0_pay8 (F := Ideal) v21 v24 (Scalar.ofBits .f32 0x45000000#32) v32 v36 (ix2 p i) * Ideal.ofBits .f32 973078528#32 * v32 (ix2 0 i)) j := by
    pointwise [k0_pay11, k0_pay10, k0_pay7, k0_pay6]
    rw [h24]
    rfl
  have eR : ref0 X a5 a6 (ix2 r j) = rcore (Ideal.ofBits .f32 897988541#32) (fun i => X (ix2 r i)) (fun i => dout X a5 a6 (ix2 r i) * a5 (ix1 i)) j := by
    pointwise [ref0, wv, dm, ms]
    simp only [Fin.sum_univ_one]
    rfl
  obtain ⟨e, he, hE⟩ := ofBits_eps
  rw [eK, eR, hE, kcore_eq_rcore e he]
  simp only [dout_at, err_at, pay8_at a5 v21 v24 v32 v36 p _ h24 h32, h21, h32, h36]

/-- One row's mean square of the differences, by the row's number. -/
def lrow (X : R32 S8192x2048) (a5 : R32 S2048) (a6 : R32 S8192x2048) (n : ℕ) : EReal :=
  if h : n < 8192 then Ideal.div (∑ i : Fin 2048, err X a5 a6 (ix2 ⟨n, h⟩ i) * err X a5 a6 (ix2 ⟨n, h⟩ i)) (Ideal.ofBits .f32 1157627904#32) else 0

/-- One row's part of the gradient of the norm's scale, by the row's number. -/
def grow (X : R32 S8192x2048) (a5 : R32 S2048) (a6 : R32 S8192x2048) (j : Fin 2048) (n : ℕ) : EReal :=
  if h : n < 8192 then xh X (ix2 ⟨n, h⟩ j) * dout X a5 a6 (ix2 ⟨n, h⟩ j) else 0

theorem ref1_at (X : R32 S8192x2048) (a5 : R32 S2048) (a6 : R32 S8192x2048) (q : Fin 128) :
    ref1 X a5 a6 (ix2 0 q) = Ideal.ofBits .f32 1056964608#32 * ∑ k ∈ Finset.range 8192, lrow X a5 a6 k := by
  rw [Finset.sum_range]
  pointwise [ref1]
  exact congrArg (_ * ·) (Finset.sum_congr rfl fun k _ => by rw [lrow, dif_pos k.isLt])

theorem ref2_at (X : R32 S8192x2048) (a5 : R32 S2048) (a6 : R32 S8192x2048) (j : Fin 2048) :
    ref2 X a5 a6 (ix2 0 j) = ∑ k ∈ Finset.range 8192, grow X a5 a6 j k := by
  rw [Finset.sum_range]
  pointwise [ref2]
  simp only [Fin.sum_univ_one]
  exact Finset.sum_congr rfl fun k _ => by rw [grow, dif_pos k.isLt]

theorem pay9_at (X : R32 S8192x2048) (a5 : R32 S2048) (a6 : R32 S8192x2048)
    (v21 : R32 S256x2048) (v24 : R32 S256x1) (v32 : R32 S1x2048) (v36 : R32 S256x2048) (b : ℕ) (hb : ∀ p : Fin 256, b + p.val < 8192)
    (h24 : ∀ p, v24 (ix2 p 0) = ∑ i, v21 (ix2 p i) * v21 (ix2 p i)) (h21 : ∀ p i, v21 (ix2 p i) = X (ix2 ⟨b + p.val, hb p⟩ i)) (h32 : ∀ i, v32 (ix2 0 i) = a5 (ix1 i)) (h36 : ∀ p i, v36 (ix2 p i) = a6 (ix2 ⟨b + p.val, hb p⟩ i)) :
    k0_pay9 (F := Ideal) v21 v24 (Scalar.ofBits .f32 0x45000000#32) v32 v36 (ix2 0 0) = Ideal.ofBits .f32 1056964608#32 * ∑ k ∈ Finset.range 256, lrow X a5 a6 (b + k) := by
  rw [Finset.sum_range]
  pointwise [k0_pay9]
  refine congrArg (_ * ·) (Finset.sum_congr rfl fun p _ => ?_)
  rw [lrow, dif_pos (hb p)]
  have e8 : ∀ j, k0_pay8 (F := Ideal) v21 v24 (Ideal.ofBits .f32 1157627904#32) v32 v36 (ix2 p j) = ecore (fun i => v21 (ix2 p i)) (fun i => a5 (ix1 i)) (fun i => v36 (ix2 p i)) j :=
    fun j => pay8_at a5 v21 v24 v32 v36 p j (h24 p) h32
  simp only [err_at, e8, h21, h36]

theorem pay12_at (X : R32 S8192x2048) (a5 : R32 S2048) (a6 : R32 S8192x2048)
    (v21 : R32 S256x2048) (v24 : R32 S256x1) (v32 : R32 S1x2048) (v36 : R32 S256x2048) (b : ℕ) (hb : ∀ p : Fin 256, b + p.val < 8192) (j : Fin 2048)
    (h24 : ∀ p, v24 (ix2 p 0) = ∑ i, v21 (ix2 p i) * v21 (ix2 p i)) (h21 : ∀ p i, v21 (ix2 p i) = X (ix2 ⟨b + p.val, hb p⟩ i)) (h32 : ∀ i, v32 (ix2 0 i) = a5 (ix1 i)) (h36 : ∀ p i, v36 (ix2 p i) = a6 (ix2 ⟨b + p.val, hb p⟩ i)) :
    k0_pay12 (F := Ideal) v21 v24 (Scalar.ofBits .f32 0x45000000#32) v32 v36 (ix2 0 j) = ∑ k ∈ Finset.range 256, grow X a5 a6 j (b + k) := by
  rw [Finset.sum_range]
  pointwise [k0_pay12, k0_pay10, k0_pay7, k0_pay6]
  refine Finset.sum_congr rfl fun p _ => ?_
  rw [grow, dif_pos (hb p)]
  have ex : xh X (ix2 ⟨b + p.val, hb p⟩ j) = X (ix2 ⟨b + p.val, hb p⟩ j) * Ideal.rsqrt (Ideal.div (∑ i : Fin 2048, X (ix2 ⟨b + p.val, hb p⟩ i) * X (ix2 ⟨b + p.val, hb p⟩ i)) (Ideal.ofBits .f32 1157627904#32) + Ideal.ofBits .f32 897988541#32) := by
    pointwise [xh, ms]
  rw [ex]
  have e8 : ∀ j, k0_pay8 (F := Ideal) v21 v24 (Ideal.ofBits .f32 1157627904#32) v32 v36 (ix2 p j) = ecore (fun i => v21 (ix2 p i)) (fun i => a5 (ix1 i)) (fun i => v36 (ix2 p i)) j :=
    fun j => pay8_at a5 v21 v24 v32 v36 p j (h24 p) h32
  simp only [dout_at, err_at, e8, h24, h21, h36]
  exact mul_comm (_ : EReal) _

/-- A point's rows of the gradient at the layer's output are the reference's. -/
theorem dx_at (c : Dev nD) (t : Fin cfg0.N) (y : S256x2048.Idx) :
    k0_pay11 (F := Ideal) (tile m c t) (squares m c t) (Scalar.ofBits .f32 0x45000000#32) (iblk m c 5 t) (iblk m c 6 t) (iblk m c 5 t) y
      = ref0 (X m c) (m (c.tc.loc main_arg5)) (m (c.tc.loc main_arg6)) (((cfg0.win 7).blk t).view.emb y) := by
  refine Eq.trans ?_ ((pay11_at (X m c) (m (c.tc.loc main_arg5)) (m (c.tc.loc main_arg6)) (tile m c t) (squares m c t) (iblk m c 5 t) (iblk m c 6 t) (y 0) (rowOf t (y 0)) (y 1)
    (squares_at m c t _) (fun i => tile_at m c t _ i) (fun i => ld_g m c t i) (fun i => ld_t m c t _ i)).trans (congrArg (ref0 _ _ _) ?_))
  · refine congrArg _ ?_
    blk_ext
  · blk_ext [idx_val t, rowOf]

/-- A point's part of the loss. -/
theorem part_at (c : Dev nD) (t : Fin cfg0.N) : k0_pay9 (F := Ideal) (tile m c t) (squares m c t) (Scalar.ofBits .f32 0x45000000#32) (iblk m c 5 t) (iblk m c 6 t) (ix2 0 0)
      = Ideal.ofBits .f32 1056964608#32 * ∑ k ∈ Finset.range 256, lrow (X m c) (m (c.tc.loc main_arg5)) (m (c.tc.loc main_arg6)) (t.val * 256 + k) :=
  pay9_at _ _ _ _ _ _ _ (t.val * 256) (fun p => (rowOf t p).isLt) (fun p => squares_at m c t p) (fun p i => tile_at m c t p i) (fun i => ld_g m c t i) (fun p i => ld_t m c t p i)

/-- A point's part of the gradient of the norm's scale. -/
theorem gpart_at (c : Dev nD) (t : Fin cfg0.N) (j : Fin 2048) : k0_pay12 (F := Ideal) (tile m c t) (squares m c t) (Scalar.ofBits .f32 0x45000000#32) (iblk m c 5 t) (iblk m c 6 t) (ix2 0 j)
      = ∑ k ∈ Finset.range 256, grow (X m c) (m (c.tc.loc main_arg5)) (m (c.tc.loc main_arg6)) j (t.val * 256 + k) :=
  pay12_at _ _ _ _ _ _ _ (t.val * 256) (fun p => (rowOf t p).isLt) j (fun p => squares_at m c t p) (fun p i => tile_at m c t p i) (fun i => ld_g m c t i) (fun p i => ld_t m c t p i)

theorem pay1_at (v : R32 S1x1) (q : Fin 128) : k0_pay1 (F := Ideal) v (ix2 0 q) = v (ix2 0 0) := by
  pointwise [k0_pay1]

theorem pay2_at (v : R32 S1x1) (w : R32 S1x128) (q : Fin 128) : k0_pay2 (F := Ideal) v w (ix2 0 q) = w (ix2 0 q) + v (ix2 0 0) := by
  pointwise [k0_pay2]

theorem pay3_at (v w : R32 S1x2048) (j : Fin 2048) : k0_pay3 (F := Ideal) v w (ix2 0 j) = w (ix2 0 j) + v (ix2 0 j) := by
  pointwise [k0_pay3]

/-- Half of a sum of two parts. -/
theorem half_add (a b : EReal) : Ideal.ofBits .f32 1056964608#32 * a + Ideal.ofBits .f32 1056964608#32 * b = Ideal.ofBits .f32 1056964608#32 * (a + b) := by
  rw [ofBits_half, EReal.left_distrib_of_nonneg_of_ne_top (by exact_mod_cast (by norm_num : (0 : ℝ) ≤ 1 / 2)) (EReal.coe_ne_top _)]

/-- After a point, the second output's buffer holds the loss over the rows so far. -/
theorem loss_at (c : Dev nD) (q : Fin 128) : ∀ (n : ℕ) (hn : n < cfg0.N),
    (outsAt0 m c n hn).2.1 (ix2 0 q) = Ideal.ofBits .f32 1056964608#32 * ∑ k ∈ Finset.range (256 * (n + 1)), lrow (X m c) (m (c.tc.loc main_arg5)) (m (c.tc.loc main_arg6)) k := by
  intro n
  induction n with
  | zero =>
    intro hn
    have e := outsAt0_A m c ⟨0, hn⟩ rfl (by dsimp only; omega)
    dsimp only at e
    rw [e]
    frame_out
    refine (pay1_at _ q).trans ((part_at m c ⟨0, hn⟩).trans ?_)
    simp only [Nat.zero_mul, Nat.zero_add, Nat.mul_one]
  | succ n ih =>
    intro hn
    have ht : n + 1 < 32 := lt_of_lt_of_eq hn N_0
    have e := outsAt0_B m c ⟨n + 1, hn⟩ (by dsimp only; omega) (by dsimp only; omega)
    dsimp only at e
    rw [e]
    frame_out
    refine (pay2_at _ _ q).trans ((congrArg₂ (· + ·) (ih (Nat.lt_of_succ_lt hn)) (part_at m c ⟨n + 1, hn⟩)).trans ?_)
    rw [half_add, show 256 * (n + 1 + 1) = 256 * (n + 1) + 256 by omega, Finset.sum_range_add, show (n + 1) * 256 = 256 * (n + 1) by omega]

/-- After a point, the third output's buffer holds the gradient of the norm's scale from the rows so far. -/
theorem dg_at (c : Dev nD) (j : Fin 2048) : ∀ (n : ℕ) (hn : n < cfg0.N),
    (outsAt0 m c n hn).2.2.1 (ix2 0 j) = ∑ k ∈ Finset.range (256 * (n + 1)), grow (X m c) (m (c.tc.loc main_arg5)) (m (c.tc.loc main_arg6)) j k := by
  intro n
  induction n with
  | zero =>
    intro hn
    have e := outsAt0_A m c ⟨0, hn⟩ rfl (by dsimp only; omega)
    dsimp only at e
    rw [e]
    frame_out
    refine (gpart_at m c ⟨0, hn⟩ j).trans ?_
    simp only [Nat.zero_mul, Nat.zero_add, Nat.mul_one]
  | succ n ih =>
    intro hn
    have ht : n + 1 < 32 := lt_of_lt_of_eq hn N_0
    have e := outsAt0_B m c ⟨n + 1, hn⟩ (by dsimp only; omega) (by dsimp only; omega)
    dsimp only at e
    rw [e]
    frame_out
    refine (pay3_at _ _ j).trans ((congrArg₂ (· + ·) (ih (Nat.lt_of_succ_lt hn)) (gpart_at m c ⟨n + 1, hn⟩ j)).trans ?_)
    rw [show 256 * (n + 1 + 1) = 256 * (n + 1) + 256 by omega, Finset.sum_range_add, show (n + 1) * 256 = 256 * (n + 1) by omega]

/-- The gradient at the layer's output is the reference's. -/
theorem final0 (c : Dev nD) : (dats m 0 c).arrAt 7 (cfgs 0).N = ref0 (X m c) (m (c.tc.loc main_arg5)) (m (c.tc.loc main_arg6)) := by
  refine (dats m 0 c).arrAt_eq_of_covers 7 _ (by decide +kernel) fun t hf y => ?_
  blk_simp; rw [after0_7]
  have ht : t.val < 32 := lt_of_lt_of_eq t.isLt N_0
  by_cases h : t.val = 0
  · rw [outsAt0_A m c t (by omega) (by omega)]; dsimp only
    frame_out
    exact dx_at m c t y
  · rw [outsAt0_B m c t (by omega) (by omega)]; dsimp only
    frame_out
    exact dx_at m c t y

/-- The loss is the reference's. -/
theorem final1 (c : Dev nD) : (dats m 0 c).arrAt 8 (cfgs 0).N = ref1 (X m c) (m (c.tc.loc main_arg5)) (m (c.tc.loc main_arg6)) := by
  refine (dats m 0 c).arrAt_eq_of_covers 8 _ (by decide +kernel) fun t hf y => ?_
  blk_simp; rw [after0_8]
  have h31 : t.val = 31 := by have := (flush0_8 t).mp hf; have ht : t.val < 32 := lt_of_lt_of_eq t.isLt N_0; omega
  have ey : y = ix2 0 (y 1) := by blk_ext
  have e : ((cfg0.win 8).blk t).view.emb y = ix2 0 (y 1) := by blk_ext [idx_val t]
  rw [e]
  refine Eq.trans ?_ (ref1_at _ _ _ (y 1)).symm
  refine (congrArg (outsAt0 m c t.val t.isLt).2.1 ey).trans ((loss_at m c (y 1) t.val t.isLt).trans ?_)
  rw [h31]

/-- The gradient of the norm's scale is the reference's. -/
theorem final2 (c : Dev nD) : (dats m 0 c).arrAt 9 (cfgs 0).N = ref2 (X m c) (m (c.tc.loc main_arg5)) (m (c.tc.loc main_arg6)) := by
  refine (dats m 0 c).arrAt_eq_of_covers 9 _ (by decide +kernel) fun t hf y => ?_
  blk_simp; rw [after0_9]
  have h31 : t.val = 31 := by have := (flush0_9 t).mp hf; have ht : t.val < 32 := lt_of_lt_of_eq t.isLt N_0; omega
  have ey : y = ix2 0 (y 1) := by blk_ext
  have e : ((cfg0.win 9).blk t).view.emb y = ix2 0 (y 1) := by blk_ext [idx_val t]
  rw [e]
  refine Eq.trans ?_ (ref2_at _ _ _ (y 1)).symm
  refine (congrArg (outsAt0 m c t.val t.isLt).2.2.1 ey).trans ((dg_at m c (y 1) t.val t.isLt).trans ?_)
  rw [h31]

/-- The rows side by side are the reference's. -/
theorem final3 (c : Dev nD) : (dats m 0 c).arrAt 10 (cfgs 0).N = ref3 (m (c.tc.loc main_arg0)) (m (c.tc.loc main_arg1)) (m (c.tc.loc main_arg2)) := by
  refine (dats m 0 c).arrAt_eq_of_covers 10 _ (by decide +kernel) fun t hf y => ?_
  blk_simp; rw [after0_10]
  have ht : t.val < 32 := lt_of_lt_of_eq t.isLt N_0
  by_cases h : t.val = 0
  · rw [outsAt0_A m c t (by omega) (by omega)]; dsimp only
    frame_out
    exact y_at m c t y
  · rw [outsAt0_B m c t (by omega) (by omega)]; dsimp only
    frame_out
    exact y_at m c t y
end

set_option backward.isDefEq.respectTransparency false
open Idealize.ShloMosaic Idealize.SL.Sem

theorem frame_kernel : quiescent_Kernel8 := fun m ρ _ => Kernel8.Gen.frame m ρ
theorem frame_ideal : quiescent_Kernel8Ideal := fun m ρ _ => Kernel8Ideal.Gen.frame m ρ
theorem frame_reference : quiescent_Reference8Ideal := fun m ρ _ =>
  (θ_run Reference8Ideal.defs _ _).mono (fun _ h => ⟨fun c => (h c).2.2.2.2, sem_eq_zero_of_no_sems (by decide) _⟩) (Reference8Ideal.Value.run m ρ)

set_option maxHeartbeats 4000000 in
/-- The idealized kernel and the idealized reference end with equal results. -/
theorem algebraic : algebraic_Kernel8Ideal_Reference8Ideal := by
  pair_intro
  · run_from Kernel8Ideal.Gen.run_main m g
  · refine (θ_run Reference8Ideal.defs _ _).mono (fun _ h c => ?_) (Reference8Ideal.Value.run m' g')
    obtain ⟨e0, e1, e2, e3, e4, e5, e6⟩ := hagree c
    refine ⟨(h c).1.trans (Eq.trans ?_ (final0 m c).symm), (h c).2.1.trans (Eq.trans ?_ (final1 m c).symm), (h c).2.2.1.trans (Eq.trans ?_ (final2 m c).symm), (h c).2.2.2.1.trans (Eq.trans ?_ (final3 m c).symm), (h c).2.2.2.2⟩
    all_goals
      simp only [X, ← e0, ← e1, ← e2, ← e3, ← e4, ← e5, ← e6]
      rfl

end Cert.Lin8
-- ==== Proof.Lin.Claim9.lean ====
/- The optimiser's step on the small weights, side by side in one array: the frames of the kernel as printed and idealized and of the reference, and the equality of their results. -/
module

public import proofs.«01_k».proof.Proof.Gen.Kernel9Ideal.Frame
public import Idealize.ShloMosaic.Lib.Pipeline.ValueKit
public import Idealize.ShloMosaic.Lib.Pipeline.ReadBack
public import proofs.«01_k».proof.Defs
public import proofs.«01_k».proof.Proof.Gen.Kernel9.Frame
public import proofs.«01_k».proof.Proof.Gen.Reference9Ideal.Run

@[expose] public section

set_option maxRecDepth 16384

noncomputable section

namespace Cert.Lin9

section
open Reference9Ideal Reference9Ideal.Gen
open Idealize.ShloMosaic Idealize.ShloMosaic.TcCoe

/-- The step's change of the weights, as the reference computes it. -/
def ref0 (a0 a1 a2 a3 : FVec Ideal S6144x128 .f32) : FVec Ideal S6144x128 .f32 :=
  mulf (broadcastInDim S6144x128 ![] bcast_S_S6144x128 (constant S_ .f32 0xBA83126F#32)) (addf (Host.divf (Host.divf (addf (mulf (broadcastInDim S6144x128 ![] bcast_S_S6144x128 (constant S_ .f32 0x3F666666#32)) a2) (mulf (broadcastInDim S6144x128 ![] bcast_S_S6144x128 (constant S_ .f32 0x3DCCCCCD#32)) a1)) (broadcastInDim S6144x128 ![] bcast_S_S6144x128 (constant S_ .f32 0x3F26BD02#32))) (addf (Host.sqrt (Host.divf (addf (mulf (broadcastInDim S6144x128 ![] bcast_S_S6144x128 (constant S_ .f32 0x3F7FBE77#32)) a3) (mulf (broadcastInDim S6144x128 ![] bcast_S_S6144x128 (constant S_ .f32 0x3A83126F#32)) (mulf a1 a1))) (broadcastInDim S6144x128 ![] bcast_S_S6144x128 (constant S_ .f32 0x3C231ACC#32)))) (broadcastInDim S6144x128 ![] bcast_S_S6144x128 (constant S_ .f32 0x322BCC77#32)))) (mulf (broadcastInDim S6144x128 ![] bcast_S_S6144x128 (constant S_ .f32 0x3C23D70A#32)) a0))

/-- The new first moment. -/
def ref1 (a1 a2 : FVec Ideal S6144x128 .f32) : FVec Ideal S6144x128 .f32 :=
  addf (mulf (broadcastInDim S6144x128 ![] bcast_S_S6144x128 (constant S_ .f32 0x3F666666#32)) a2) (mulf (broadcastInDim S6144x128 ![] bcast_S_S6144x128 (constant S_ .f32 0x3DCCCCCD#32)) a1)

/-- The new second moment. -/
def ref2 (a1 a3 : FVec Ideal S6144x128 .f32) : FVec Ideal S6144x128 .f32 :=
  addf (mulf (broadcastInDim S6144x128 ![] bcast_S_S6144x128 (constant S_ .f32 0x3F7FBE77#32)) a3) (mulf (broadcastInDim S6144x128 ![] bcast_S_S6144x128 (constant S_ .f32 0x3A83126F#32)) (mulf a1 a1))
end

section
open Kernel9Ideal Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx_val : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The change of the weights is the reference's. -/
theorem final0 (c : Dev nD) : (dats m 0 c).arrAt 4 (cfgs 0).N = ref0 (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp; rw [after0_4]
  frame_out
  pointwise [ref0, k0_pay3, k0_pay1, k0_pay2]
  have b0 : iblk m c 0 t y = m (c.tc.loc main_arg0) (((View.whole main_v0_0).slice (win0_4.rect t)).emb y) := by
    blk_point [iblk, V, idx_val t]
  have b1 : iblk m c 1 t y = m (c.tc.loc main_arg1) (((View.whole main_v0_0).slice (win0_4.rect t)).emb y) := by
    blk_point [iblk, V, idx_val t]
  have b2 : iblk m c 2 t y = m (c.tc.loc main_arg2) (((View.whole main_v0_0).slice (win0_4.rect t)).emb y) := by
    blk_point [iblk, V, idx_val t]
  have b3 : iblk m c 3 t y = m (c.tc.loc main_arg3) (((View.whole main_v0_0).slice (win0_4.rect t)).emb y) := by
    blk_point [iblk, V, idx_val t]
  rw [b0, b1, b2, b3]

/-- The new first moment is the reference's. -/
theorem final1 (c : Dev nD) : (dats m 0 c).arrAt 5 (cfgs 0).N = ref1 (m (c.tc.loc main_arg1)) (m (c.tc.loc main_arg2)) := by
  refine (dats m 0 c).arrAt_eq_of_covers 5 _ (by decide +kernel) fun t hf y => ?_
  blk_simp; rw [after0_5]
  frame_out
  pointwise [ref1, k0_pay1]
  have b1 : iblk m c 1 t y = m (c.tc.loc main_arg1) (((View.whole main_v0_1).slice (win0_5.rect t)).emb y) := by
    blk_point [iblk, V, idx_val t]
  have b2 : iblk m c 2 t y = m (c.tc.loc main_arg2) (((View.whole main_v0_1).slice (win0_5.rect t)).emb y) := by
    blk_point [iblk, V, idx_val t]
  rw [b1, b2]

/-- The new second moment is the reference's. -/
theorem final2 (c : Dev nD) : (dats m 0 c).arrAt 6 (cfgs 0).N = ref2 (m (c.tc.loc main_arg1)) (m (c.tc.loc main_arg3)) := by
  refine (dats m 0 c).arrAt_eq_of_covers 6 _ (by decide +kernel) fun t hf y => ?_
  blk_simp; rw [after0_6]
  frame_out
  pointwise [ref2, k0_pay2]
  have b1 : iblk m c 1 t y = m (c.tc.loc main_arg1) (((View.whole main_v0_2).slice (win0_6.rect t)).emb y) := by
    blk_point [iblk, V, idx_val t]
  have b3 : iblk m c 3 t y = m (c.tc.loc main_arg3) (((View.whole main_v0_2).slice (win0_6.rect t)).emb y) := by
    blk_point [iblk, V, idx_val t]
  rw [b1, b3]
end

set_option backward.isDefEq.respectTransparency false
open Idealize.ShloMosaic Idealize.SL.Sem

theorem frame_kernel : quiescent_Kernel9 := fun m ρ _ => Kernel9.Gen.frame m ρ
theorem frame_ideal : quiescent_Kernel9Ideal := fun m ρ _ => Kernel9Ideal.Gen.frame m ρ
theorem frame_reference : quiescent_Reference9Ideal := fun m ρ _ =>
  (θ_run Reference9Ideal.defs _ _).mono (fun _ h => ⟨fun c => (h c).2.2.2, sem_eq_zero_of_no_sems (by decide) _⟩) (Reference9Ideal.Value.run m ρ)

/-- The idealized kernel and the idealized reference end with equal results. -/
theorem algebraic : algebraic_Kernel9Ideal_Reference9Ideal := by
  pair_intro
  · run_from Kernel9Ideal.Gen.run_main m g
  · refine (θ_run Reference9Ideal.defs _ _).mono (fun _ h c => ?_) (Reference9Ideal.Value.run m' g')
    obtain ⟨e0, e1, e2, e3⟩ := hagree c
    refine ⟨(h c).1.trans (Eq.trans ?_ (final0 m c).symm), (h c).2.1.trans (Eq.trans ?_ (final1 m c).symm), (h c).2.2.1.trans (Eq.trans ?_ (final2 m c).symm), (h c).2.2.2⟩
    all_goals
      simp only [← e0, ← e1, ← e2, ← e3]
      rfl

end Cert.Lin9
-- ==== Proof.Lin.Claim10.lean ====
/- The spatial gating's output: the frames of the kernel as printed and idealized and of the reference, and the equality of their results. -/
module

public import proofs.«01_k».proof.Proof.Gen.Reference10Ideal.Run
public import proofs.«01_k».proof.Proof.Gen.Kernel10Ideal.Frame
public import Idealize.ShloMosaic.Lib.Pipeline.ValueKit
public import Idealize.ShloMosaic.Lib.Pipeline.ReadBack
public import proofs.«01_k».proof.Defs
public import proofs.«01_k».proof.Proof.Gen.Kernel10.Frame

@[expose] public section

set_option maxRecDepth 16384

noncomputable section

namespace Cert.Lin10

open Idealize.ShloMosaic in
/-- Arrays of extended reals, by shape. -/
abbrev R16 (s : Shape) := FVec Ideal s .bf16
open Idealize.ShloMosaic in
abbrev R32 (s : Shape) := FVec Ideal s .f32

section
open Reference10Ideal Reference10Ideal.Gen
open Idealize.ShloMosaic Idealize.ShloMosaic.TcCoe

/-- Some columns of the projection, read as f32. -/
def cols0 (z : R16 S8192x5120) : R32 S8192x1024 := extractStridedSlice S8192x1024 ![0, 512] (extf .f32 z bitsLt_bf16_f32) slices_S8192x5120_S8192x1024_0_512
@[inherit_doc cols0] def cols1 (z : R16 S8192x5120) : R32 S8192x1024 := extractStridedSlice S8192x1024 ![0, 1536] (extf .f32 z bitsLt_bf16_f32) slices_S8192x5120_S8192x1024_0_1536
@[inherit_doc cols0] def cols2 (z : R16 S8192x5120) : R32 S8192x1024 := extractStridedSlice S8192x1024 ![0, 3584] (extf .f32 z bitsLt_bf16_f32) slices_S8192x5120_S8192x1024_0_3584

/-- The GELU by its tanh form, as the reference computes it. -/
def gelu (x : R32 S8192x1024) : R32 S8192x1024 :=
  mulf x (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf x (mulf (broadcastInDim S8192x1024 ![] bcast_S_S8192x1024 (constant S_ .f32 0x3D372713#32)) (mulf (mulf x x) x)))))))

/-- The mean of each row. -/
def mean (x : R32 S8192x1024) : R32 S8192x1 :=
  Host.divf (broadcastInDim S8192x1 ![0] bcast_S8192_S8192x1_0 (Host.reduceAdd x (constant S_ .f32 0x00000000#32) reducesTo_S8192x1024_S8192_d1 h_S_)) (broadcastInDim S8192x1 ![] bcast_S_S8192x1 (constant S_ .f32 0x44800000#32))

/-- Each row less its mean. -/
def centred (x : R32 S8192x1024) : R32 S8192x1024 := subf x (broadcastInDim S8192x1024 ![0, 1] bcast_S8192x1_S8192x1024_0_1 (mean x))

/-- The layer norm of the rows. -/
def normed (x : R32 S8192x1024) (g b : R32 S1024) : R32 S8192x1024 :=
  addf (mulf (mulf (centred x) (broadcastInDim S8192x1024 ![0, 1] bcast_S8192x1_S8192x1024_0_1 (Host.rsqrt (addf (mean (mulf (centred x) (centred x))) (broadcastInDim S8192x1 ![] bcast_S_S8192x1 (constant S_ .f32 0x3727C5AC#32))))))
    (broadcastInDim S8192x1024 ![0, 1] bcast_S1x1024_S8192x1024_0_1 (broadcastInDim S1x1024 ![1] bcast_S1024_S1x1024_1 g)))
    (broadcastInDim S8192x1024 ![0, 1] bcast_S1x1024_S8192x1024_0_1 (broadcastInDim S1x1024 ![1] bcast_S1024_S1x1024_1 b))

/-- The weights of the heads on and below the diagonal. -/
def masked (w : R32 S8x128x128) : R32 S8x128x128 :=
  select (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    w (broadcastInDim S8x128x128 ![] bcast_S_S8x128x128 (constant S_ .f32 0x00000000#32))

/-- The mixing of each chunk's rows, head by head. -/
def spatial (x : R32 S8192x1024) (w : R32 S8x128x128) (b : R32 S8x128) : R32 S8192x1024 :=
  shapeCast _ (addf (transpose S64x128x8x128 [1, 3, 0, 2] (Host.dotGeneral dot_S64x128x8x128_S8x128x128_S8x64x128x128_1_2_03_1_2_0 none
      (shapeCast S64x128x8x128 x shapeCasts_S8192x1024_S64x128x8x128) w) transposes_S8x64x128x128_S64x128x8x128_1_3_0_2)
    (broadcastInDim S64x128x8x128 ![0, 1, 2, 3] bcast_S1x128x8x1_S64x128x8x128_0_1_2_3 (broadcastInDim S1x128x8x1 ![1, 2, 3] bcast_S128x8x1_S1x128x8x1_1_2_3
      (broadcastInDim S128x8x1 ![0, 1] bcast_S128x8_S128x8x1_0_1 (transpose S128x8 [1, 0] b transposes_S8x128_S128x8_1_0))))) shapeCasts_S64x128x8x128_S8192x1024

/-- The SiLU gate. -/
def silu (x : R32 S8192x1024) : R32 S8192x1024 :=
  mulf x (Host.divf (broadcastInDim S8192x1024 ![] bcast_S_S8192x1024 (constant S_ .f32 0x3F800000#32)) (addf (broadcastInDim S8192x1024 ![] bcast_S_S8192x1024 (constant S_ .f32 0x3F800000#32)) (Host.exp (Host.negf x))))

/-- The spatial gating's output, rounded to bf16. -/
def ref0 (z : R16 S8192x5120) (w : R32 S8x128x128) (b : R32 S8x128) (lg lb : R32 S1024) : R16 S8192x1024 :=
  truncf .bf16 (mulf (mulf (gelu (cols0 z)) (spatial (normed (gelu (cols1 z)) lg lb) (masked w) b)) (silu (cols2 z))) bitsLt_bf16_f32

theorem res_eq (m : (ℓ : Loc nD τ sig) → Buf (Elt Ideal) ℓ) (c : Dev nD) :
    Reference10Ideal.Value.res_main_v71 (F := Ideal) m c = ref0 (m (c.tc.loc main_arg0)) (m (c.tc.loc main_arg1)) (m (c.tc.loc main_arg2)) (m (c.tc.loc main_arg3)) (m (c.tc.loc main_arg4)) := rfl

/-! ## Scalars -/

/-- The GELU of one number. -/
def gl (x : EReal) : EReal :=
  Ideal.ofBits .f32 1056964608#32 * x * (1 + Ideal.tanh (Ideal.ofBits .f32 1061962282#32 * (x + Ideal.ofBits .f32 1027024659#32 * (x * x * x))))
/-- The mean of a row. -/
def mn (f : Fin 1024 → EReal) : EReal := (∑ j, f j) * Ideal.ofBits .f32 981467136#32
/-- One entry of a row's layer norm. -/
def ln (f : Fin 1024 → EReal) (k : Fin 1024) (g b : EReal) : EReal :=
  (f k - mn f) * Ideal.rsqrt (mn (fun j => (f j - mn f) * (f j - mn f)) + Ideal.ofBits .f32 925353388#32) * g + b

theorem n1024 : Ideal.ofBits .f32 1149239296#32 = ((1024 : ℝ) : EReal) := by
  simp [Ideal.ofBits, Ideal.ieee, -EReal.coe_mul]; norm_num
theorem n1024_inv : Ideal.ofBits .f32 981467136#32 = ((1 / 1024 : ℝ) : EReal) := by
  simp [Ideal.ofBits, Ideal.ieee, -EReal.coe_mul]; norm_num
theorem div_1024 (a : EReal) : Ideal.div a (Ideal.ofBits .f32 1149239296#32) = a * Ideal.ofBits .f32 981467136#32 := by
  rw [n1024, n1024_inv]
  unfold Ideal.div
  rw [if_neg (by norm_num), ← EReal.coe_inv]
  norm_num

/-! ## At an index -/

variable (z : R16 S8192x5120) (x : R32 S8192x1024) (w : R32 S8x128x128) (b : R32 S8x128) (lg lb : R32 S1024)

theorem cols0_at (r : Fin 8192) (k : Fin 1024) : cols0 z (ix2 r k) = z (ix2 r ⟨512 + k.val, by omega⟩) := by
  pointwise [cols0]
theorem cols1_at (r : Fin 8192) (k : Fin 1024) : cols1 z (ix2 r k) = z (ix2 r ⟨1536 + k.val, by omega⟩) := by
  pointwise [cols1]
theorem cols2_at (r : Fin 8192) (k : Fin 1024) : cols2 z (ix2 r k) = z (ix2 r ⟨3584 + k.val, by omega⟩) := by
  pointwise [cols2]
theorem gelu_at (i : S8192x1024.Idx) : gelu x i = gl (x i) := by
  pointwise [gelu, gl]
  simp only [mul_assoc, mul_left_comm]
theorem mean_at (r : Fin 8192) : mean x (ix2 r 0) = mn (fun j => x (ix2 r j)) := by
  pointwise [mean, mn]
  exact div_1024 _
theorem centred_at (r : Fin 8192) (k : Fin 1024) : centred x (ix2 r k) = x (ix2 r k) - mn (fun j => x (ix2 r j)) := by
  pointwise [centred]
  rw [mean_at]
theorem normed_at (r : Fin 8192) (k : Fin 1024) : normed x lg lb (ix2 r k) = ln (fun j => x (ix2 r j)) k (lg (ix1 k)) (lb (ix1 k)) := by
  pointwise [normed]
  rw [centred_at, mean_at]
  unfold ln
  have e : (fun j => mulf (centred x) (centred x) (ix2 r j)) = fun j => (x (ix2 r j) - mn (fun j => x (ix2 r j))) * (x (ix2 r j) - mn (fun j => x (ix2 r j))) :=
    funext fun j => congrArg₂ (fun p q : EReal => p * q) (centred_at x r j) (centred_at x r j)
  rw [e]
theorem spatial_at (n : Fin 64) (t : Fin 128) (h : Fin 8) (d : Fin 128) :
    spatial x w b (ix2 ⟨128 * n.val + t.val, by omega⟩ ⟨128 * h.val + d.val, by omega⟩)
      = (∑ s : Fin 128, w (ix3 h t s) * x (ix2 ⟨128 * n.val + s.val, by omega⟩ ⟨128 * h.val + d.val, by omega⟩)) + b (ix2 h t) := by
  pointwise [spatial]
  refine congrArg (fun q : EReal => q + b (ix2 h t)) (Finset.sum_congr rfl fun s _ => ?_)
  rw [mul_comm]
  simp only [mul_comm]
theorem silu_at (i : S8192x1024.Idx) : silu x i = x i * Ideal.logistic (x i) := by
  pointwise [silu]
  rfl

/-- The output at a chunk's row and a head's column. -/
theorem ref0_at (n : Fin 64) (t : Fin 128) (h : Fin 8) (d : Fin 128) :
    ref0 z w b lg lb (ix2 ⟨128 * n.val + t.val, by omega⟩ ⟨128 * h.val + d.val, by omega⟩)
      = gl (z (ix2 ⟨128 * n.val + t.val, by omega⟩ ⟨512 + (128 * h.val + d.val), by omega⟩))
        * (z (ix2 ⟨128 * n.val + t.val, by omega⟩ ⟨3584 + (128 * h.val + d.val), by omega⟩) * Ideal.logistic (z (ix2 ⟨128 * n.val + t.val, by omega⟩ ⟨3584 + (128 * h.val + d.val), by omega⟩)))
        * ((∑ s : Fin 128, masked w (ix3 h t s)
            * ln (fun j => gl (z (ix2 ⟨128 * n.val + s.val, by omega⟩ ⟨1536 + j.val, by omega⟩))) ⟨128 * h.val + d.val, by omega⟩
              (lg (ix1 ⟨128 * h.val + d.val, by omega⟩)) (lb (ix1 ⟨128 * h.val + d.val, by omega⟩))) + b (ix2 h t)) := by
  pointwise [ref0]
  rw [gelu_at, silu_at, spatial_at, cols0_at, cols2_at, mul_right_comm]
  simp only [normed_at, gelu_at, cols1_at]
end

section
open Kernel10Ideal Kernel10Ideal.Gen
open Idealize.ShloMosaic Idealize.ShloMosaic.TcCoe Idealize.SL.Sem
open Idealize.ShloMosaic.Pipeline (Dat)

variable (m : (ℓ : Loc nD τ sig) → Buf (Elt Ideal) ℓ)

/-! ## What each store keeps, by one name for every chunk -/

/-- The first half of a chunk's layer norm. -/
def vn0 (v0 v1 : Vec Ideal S128x512 .bf16) (g b : Vec Ideal S1x512 .f32) : R16 S128x512 :=
  k0_pay9 (k0_pay5 v0 v1) (k0_pay6 v0 v1) (k0_pay7 v0 v1) g b
/-- The second half. -/
def vn1 (v0 v1 : Vec Ideal S128x512 .bf16) (g b : Vec Ideal S1x512 .f32) : R16 S128x512 :=
  k0_pay10 (k0_pay6 v0 v1) (k0_pay7 v0 v1) g b
/-- The GELU of the one branch times the SiLU gate. -/
def gate (g u : Vec Ideal S128x512 .bf16) : R32 S128x512 := k0_pay13 (k0_pay11 g) (k0_pay12 g) u
/-- The type of what one head's store keeps. -/
abbrev Slot := R32 S128x512 → Vec Ideal S1x128x128 .bf16 → Vec Ideal S128x128 .bf16 → Vec Ideal S128x128 .f32 → R16 S128x128
/-- One head's output. -/
def slot0 : Slot := fun M w V b => k0_pay70 M (k0_pay69 w) V b
@[inherit_doc slot0] def slot1 : Slot := fun M w V b => k0_pay71 M w V b
@[inherit_doc slot0] def slot2 : Slot := fun M w V b => k0_pay72 M w V b
@[inherit_doc slot0] def slot3 : Slot := fun M w V b => k0_pay73 M w V b

section
variable (u g v0 v1 : Vec Ideal S128x512 .bf16) (gg bb : Vec Ideal S1x512 .f32) (M : R32 S128x512) (w : Vec Ideal S1x128x128 .bf16) (V : Vec Ideal S128x128 .bf16) (b : Vec Ideal S128x128 .f32)

theorem cut0 : k0_pay9 (k0_pay5 v0 v1) (k0_pay6 v0 v1) (k0_pay7 v0 v1) gg bb = vn0 v0 v1 gg bb := rfl
theorem cut1 : k0_pay10 (k0_pay6 v0 v1) (k0_pay7 v0 v1) gg bb = vn1 v0 v1 gg bb := rfl
theorem cut2 : k0_pay35 (k0_pay31 (k0_pay25 v0) (k0_pay26 v0) v1) (k0_pay32 (k0_pay25 v0) (k0_pay26 v0) v1) gg bb = vn1 v0 v1 gg bb := rfl
theorem cut3 : k0_pay34 (k0_pay30 (k0_pay25 v0) (k0_pay26 v0) v1) (k0_pay33 (k0_pay25 v0) (k0_pay26 v0) v1) gg bb = vn0 v0 v1 gg bb := rfl
theorem cut4 : k0_pay67 (k0_pay63 (k0_pay55 v0) (k0_pay56 v1) (k0_pay57 v1)) gg bb = vn1 v0 v1 gg bb := rfl
theorem cut5 : k0_pay66 (k0_pay64 (k0_pay55 v0) (k0_pay56 v1) (k0_pay57 v1) gg) (k0_pay65 bb) = vn0 v0 v1 gg bb := rfl
theorem cut6 : k0_pay91 (k0_pay90 (k0_pay80 v0) (k0_pay82 v1) (k0_pay83 v1) gg) bb = vn1 v0 v1 gg bb := rfl
theorem cut7 : k0_pay89 (k0_pay80 v0) (k0_pay82 v1) (k0_pay83 v1) gg bb = vn0 v0 v1 gg bb := rfl
theorem cut8 : k0_pay13 (k0_pay11 g) (k0_pay12 g) u = gate g u := rfl
theorem cut9 : k0_pay20 (k0_pay19 g) u = gate g u := rfl
theorem cut10 : k0_pay39 (k0_pay36 g) (k0_pay37 u) (k0_pay38 u) = gate g u := rfl
theorem cut11 : k0_pay49 (k0_pay45 g) (k0_pay47 u) (k0_pay48 u) = gate g u := rfl
theorem cut12 : k0_pay68 g u = gate g u := rfl
theorem cut13 : k0_pay74 g u = gate g u := rfl
theorem cut14 : k0_pay92 g u = gate g u := rfl
theorem cut15 : k0_pay98 g u = gate g u := rfl
theorem cut16 : k0_pay14 (k0_pay11 g) (k0_pay12 g) u w V b = slot0 (gate g u) w V b := rfl
theorem cut17 : k0_pay16 M (k0_pay15 w V b) = slot1 M w V b := rfl
theorem cut18 : k0_pay17 M w V b = slot2 M w V b := rfl
theorem cut19 : k0_pay18 M w V b = slot3 M w V b := rfl
theorem cut20 : k0_pay21 (k0_pay19 g) u w V b = slot0 (gate g u) w V b := rfl
theorem cut21 : k0_pay22 (k0_pay19 g) u w V b = slot1 (gate g u) w V b := rfl
theorem cut22 : k0_pay23 M w V b = slot2 M w V b := rfl
theorem cut23 : k0_pay24 M w V b = slot3 M w V b := rfl
theorem cut24 : k0_pay40 (k0_pay36 g) (k0_pay37 u) (k0_pay38 u) w V b = slot0 (gate g u) w V b := rfl
theorem cut25 : k0_pay41 (k0_pay36 g) (k0_pay37 u) (k0_pay38 u) w V b = slot1 (gate g u) w V b := rfl
theorem cut26 : k0_pay43 M (k0_pay42 w) V b = slot2 M w V b := rfl
theorem cut27 : k0_pay44 M w V b = slot3 M w V b := rfl
theorem cut28 : k0_pay50 (k0_pay45 g) (k0_pay47 u) (k0_pay48 u) w V b = slot0 (gate g u) w V b := rfl
theorem cut29 : k0_pay51 (k0_pay45 g) (k0_pay47 u) (k0_pay48 u) w V b = slot1 (gate g u) w V b := rfl
theorem cut30 : k0_pay53 M (k0_pay52 w V) b = slot2 M w V b := rfl
theorem cut31 : k0_pay54 M w V b = slot3 M w V b := rfl
theorem cut32 : k0_pay70 M (k0_pay69 w) V b = slot0 M w V b := rfl
theorem cut33 : k0_pay71 M w V b = slot1 M w V b := rfl
theorem cut34 : k0_pay72 M w V b = slot2 M w V b := rfl
theorem cut35 : k0_pay73 M w V b = slot3 M w V b := rfl
theorem cut36 : k0_pay76 M (k0_pay75 w) V (constant S128x128 FTy.f32 0#32) b = slot0 M w V b := rfl
theorem cut37 : k0_pay77 M w V b = slot1 M w V b := rfl
theorem cut38 : k0_pay78 M w V b = slot2 M w V b := rfl
theorem cut39 : k0_pay79 M w V b = slot3 M w V b := rfl
theorem cut40 : k0_pay93 g u w V b = slot0 (gate g u) w V b := rfl
theorem cut41 : k0_pay94 M w V b = slot1 M w V b := rfl
theorem cut42 : k0_pay95 M w V b = slot2 M w V b := rfl
theorem cut43 : k0_pay97 M (k0_pay96 w V) b = slot3 M w V b := rfl
theorem cut44 : k0_pay99 g u w V b = slot0 (gate g u) w V b := rfl
theorem cut45 : k0_pay100 M w V b = slot1 M w V b := rfl
theorem cut46 : k0_pay101 M w V b = slot2 M w V b := rfl
theorem cut47 : k0_pay1 (k0_pay102 M w V b) = slot3 M w V b := rfl

end

/-! ## At an index -/

/-- The mean of a row held in two halves. -/
def mh (f0 f1 : Fin 512 → EReal) : EReal := (∑ j, f0 j + ∑ j, f1 j) * Ideal.ofBits .f32 981467136#32
/-- The reciprocal deviation of a row held in two halves. -/
def rh (f0 f1 : Fin 512 → EReal) : EReal :=
  Ideal.rsqrt (mh (fun j => (f0 j - mh f0 f1) * (f0 j - mh f0 f1)) (fun j => (f1 j - mh f0 f1) * (f1 j - mh f0 f1)) + Ideal.ofBits .f32 925353388#32)

section
variable (u g v0 v1 : Vec Ideal S128x512 .bf16) (gg bb : Vec Ideal S1x512 .f32) (M : R32 S128x512) (w : Vec Ideal S1x128x128 .bf16) (V : Vec Ideal S128x128 .bf16) (b : Vec Ideal S128x128 .f32)

theorem pay2_at (i : S128x512.Idx) : k0_pay2 u i = gl (u i) := by
  pointwise [k0_pay2, gl]
theorem pay3_at (i : S128x512.Idx) : k0_pay3 u i = gl (u i) := by
  pointwise [k0_pay3, gl]
theorem pay4_at (t : Fin 128) : k0_pay4 v0 v1 (ix2 t 0) = mh (fun j => gl (v0 (ix2 t j))) (fun j => gl (v1 (ix2 t j))) := by
  pointwise [k0_pay4]
  simp only [pay2_at, pay3_at]
  rfl
theorem pay5_at (t : Fin 128) (k : Fin 512) : k0_pay5 v0 v1 (ix2 t k) = gl (v0 (ix2 t k)) - mh (fun j => gl (v0 (ix2 t j))) (fun j => gl (v1 (ix2 t j))) := by
  pointwise [k0_pay5]
  rw [pay2_at, pay4_at]
theorem pay6_at (t : Fin 128) (k : Fin 512) : k0_pay6 v0 v1 (ix2 t k) = gl (v1 (ix2 t k)) - mh (fun j => gl (v0 (ix2 t j))) (fun j => gl (v1 (ix2 t j))) := by
  pointwise [k0_pay6]
  rw [pay3_at, pay4_at]
theorem pay7_at (t : Fin 128) : k0_pay7 v0 v1 (ix1 t) = ∑ j : Fin 512, k0_pay5 v0 v1 (ix2 t j) * k0_pay5 v0 v1 (ix2 t j) := by
  pointwise [k0_pay7]
theorem pay8_at (t : Fin 128) : k0_pay8 (k0_pay6 v0 v1) (k0_pay7 v0 v1) (ix2 t 0) = rh (fun j => gl (v0 (ix2 t j))) (fun j => gl (v1 (ix2 t j))) := by
  pointwise [k0_pay8]
  rw [pay7_at]
  simp only [pay5_at, pay6_at]
  rfl
theorem vn0_at (t : Fin 128) (k : Fin 512) : vn0 v0 v1 gg bb (ix2 t k)
    = (gl (v0 (ix2 t k)) - mh (fun j => gl (v0 (ix2 t j))) (fun j => gl (v1 (ix2 t j)))) * rh (fun j => gl (v0 (ix2 t j))) (fun j => gl (v1 (ix2 t j))) * gg (ix2 0 k) + bb (ix2 0 k) := by
  pointwise [vn0, k0_pay9]
  rw [pay5_at, pay8_at]
theorem vn1_at (t : Fin 128) (k : Fin 512) : vn1 v0 v1 gg bb (ix2 t k)
    = (gl (v1 (ix2 t k)) - mh (fun j => gl (v0 (ix2 t j))) (fun j => gl (v1 (ix2 t j)))) * rh (fun j => gl (v0 (ix2 t j))) (fun j => gl (v1 (ix2 t j))) * gg (ix2 0 k) + bb (ix2 0 k) := by
  pointwise [vn1, k0_pay10]
  rw [pay6_at, pay8_at]
theorem gate_at (i : S128x512.Idx) : gate g u i = gl (u i) * (g i * Ideal.logistic (g i)) := by
  pointwise [gate, k0_pay13, k0_pay12, k0_pay11, gl]
/-- What a head's output is, its columns starting at `o` of the half. -/
abbrev SlotAt (S : Slot) (o : ℕ) : Prop :=
  ∀ (ho : o + 128 ≤ 512) M w V b (t d : Fin 128), S M w V b (ix2 t d) = M (ix2 t ⟨o + d.val, by omega⟩) * ((∑ s : Fin 128, w (ix3 0 t s) * V (ix2 s d)) + b (ix2 t d))
theorem slot0_at : SlotAt slot0 0 := fun ho M w V b t d => by
  pointwise [slot0, k0_pay70, k0_pay69]
theorem slot1_at : SlotAt slot1 128 := fun ho M w V b t d => by
  pointwise [slot1, k0_pay71]
theorem slot2_at : SlotAt slot2 256 := fun ho M w V b t d => by
  pointwise [slot2, k0_pay72]
theorem slot3_at : SlotAt slot3 384 := fun ho M w V b t d => by
  pointwise [slot3, k0_pay73]

/-- The halves of a row are the row. -/
theorem halves (f : Fin 1024 → EReal) : ∑ j, f j = ∑ j : Fin 512, f ⟨j.val, by omega⟩ + ∑ j : Fin 512, f ⟨512 + j.val, by omega⟩ := by
  exact Fin.sum_univ_add (a := 512) (b := 512) f
theorem mn_halves (f : Fin 1024 → EReal) : mn f = mh (fun j => f ⟨j.val, by omega⟩) (fun j => f ⟨512 + j.val, by omega⟩) := by
  unfold mn mh
  rw [halves]
theorem ln_halves (f : Fin 1024 → EReal) (k : Fin 1024) (g b : EReal) :
    ln f k g b = (f k - mh (fun j => f ⟨j.val, by omega⟩) (fun j => f ⟨512 + j.val, by omega⟩)) * rh (fun j => f ⟨j.val, by omega⟩) (fun j => f ⟨512 + j.val, by omega⟩) * g + b := by
  unfold ln rh
  rw [mn_halves, mn_halves]

/-- The scratch read back at a head of the first half. -/
theorem read_lo (v : View sig .tc .vmem S128x1024 .bf16) (p q : S128x512.Idx → Elt Ideal .bf16) (L : List (View.Piece (Elt Ideal) S128x1024 .bf16)) (o : ℕ)
    (inb : ∀ x, (![0, o] : Fin 2 → ℕ) x + (![128, 128] : Fin 2 → ℕ) x ≤ S128x1024.size x) (h : o + 128 ≤ 512) (s d : Fin 128) :
    v.readCov (⟨Rect.unit ![0, 512] ![128, 512] inb_S128x1024_S128x512_0_512, q⟩ :: ⟨Rect.unit ![0, 0] ![128, 512] inb_S128x1024_S128x512_0_0, p⟩ :: L)
      (Rect.unit (s := S128x1024) ![0, o] ![128, 128] inb).toLoadRect (ix2 s d) = p (ix2 s ⟨o + d.val, by omega⟩) := by
  rw [View.readCov_eq_canon']
  refine (View.canon_cons_of_not_mem _ _ ?_).trans ?_
  · intro hm
    obtain ⟨i, hi, he⟩ := (LoadRect.mem_set _).mp hm (1 : Fin 2)
    have he' : o + 1 * d.val = 512 + 1 * i := he
    omega
  · refine Eq.trans ?_ (View.canon_cons_emb (Rect.unit (s := S128x1024) ![0, 0] ![128, 512] inb_S128x1024_S128x512_0_0) p L (ix2 s ⟨o + d.val, by omega⟩))
    refine congrArg (View.canon _) ?_
    funext a
    refine Fin.ext ?_
    fin_cases a
    · rfl
    · show o + 1 * d.val = 0 + 1 * (o + d.val)
      omega
/-- The scratch read back at a head of the second half. -/
theorem read_hi (v : View sig .tc .vmem S128x1024 .bf16) (p q : S128x512.Idx → Elt Ideal .bf16) (L : List (View.Piece (Elt Ideal) S128x1024 .bf16)) (o : ℕ)
    (inb : ∀ x, (![0, 512 + o] : Fin 2 → ℕ) x + (![128, 128] : Fin 2 → ℕ) x ≤ S128x1024.size x) (h : o + 128 ≤ 512) (s d : Fin 128) :
    v.readCov (⟨Rect.unit ![0, 512] ![128, 512] inb_S128x1024_S128x512_0_512, q⟩ :: ⟨Rect.unit ![0, 0] ![128, 512] inb_S128x1024_S128x512_0_0, p⟩ :: L)
      (Rect.unit (s := S128x1024) ![0, 512 + o] ![128, 128] inb).toLoadRect (ix2 s d) = q (ix2 s ⟨o + d.val, by omega⟩) := by
  rw [View.readCov_eq_canon']
  refine Eq.trans ?_ (View.canon_cons_emb (Rect.unit (s := S128x1024) ![0, 512] ![128, 512] inb_S128x1024_S128x512_0_512) q (⟨Rect.unit (s := S128x1024) ![0, 0] ![128, 512] inb_S128x1024_S128x512_0_0, p⟩ :: L) (ix2 s ⟨o + d.val, by omega⟩))
  refine congrArg (View.canon _) ?_
  funext a
  refine Fin.ext ?_
  fin_cases a
  · rfl
  · show 512 + o + 1 * d.val = 512 + 1 * (o + d.val)
    omega

end

/-! ## The blocks -/

abbrev argZ (c : Dev nD) : R16 S8192x5120 := m (c.tc.loc main_arg0)
abbrev argW (c : Dev nD) : R32 S8x128x128 := m (c.tc.loc main_arg1)
abbrev argB (c : Dev nD) : R32 S8x128 := m (c.tc.loc main_arg2)
abbrev argG (c : Dev nD) : R32 S1024 := m (c.tc.loc main_arg3)
abbrev argL (c : Dev nD) : R32 S1024 := m (c.tc.loc main_arg4)

/-- The reference's output from the call's arguments. -/
abbrev out (c : Dev nD) : R16 S8192x1024 := ref0 (argZ m c) (argW m c) (argB m c) (argG m c) (argL m c)
/-- The reference's output at a tile's index. -/
abbrev outAt (c : Dev nD) (t : Fin cfg0.N) (j : S512x1024.Idx) : EReal :=
  out m c (ix2 ⟨512 * t.val + (j 0).val, by have : t.val < 16 := t.isLt; have : (j 0).val < 512 := (j 0).isLt; omega⟩ (j 1))

/-- Every window's block index at a grid point. -/
theorem idx_val : ∀ t : Fin cfg0.N, win0_0.index t = ![t.val, 1] ∧ win0_1.index t = ![t.val, 2]
    ∧ win0_2.index t = ![t.val, 3] ∧ win0_3.index t = ![t.val, 4] ∧ win0_4.index t = ![t.val, 7] ∧ win0_5.index t = ![t.val, 8]
    ∧ win0_6.index t = ![0, 0, 0] ∧ win0_7.index t = ![0, 0] ∧ win0_8.index t = ![0, 0] ∧ win0_9.index t = ![0, 0] ∧ win0_10.index t = ![t.val, 0] :=
  (by decide +kernel : ∀ t : Fin grid0.N, _)

theorem V_w (c : Dev nD) : V m c main_v8 = truncf .bf16 (masked (argW m c)) bitsLt_bf16_f32 := by
  simp only [V, hostOps0, hostOps0_1, hostOps0_2, hostOps0_3, hostOps0_4, List.flatten_cons, List.flatten_nil, List.cons_append, List.nil_append, List.append_nil]
  entry_read
  rfl
theorem V_b (c : Dev nD) (t : Fin 128) (h : Fin 8) (d : Fin 128) : V m c main_v7 (ix2 t ⟨128 * h.val + d.val, by omega⟩) = argB m c (ix2 h t) := by
  simp only [V, hostOps0, hostOps0_1, hostOps0_2, hostOps0_3, hostOps0_4, List.flatten_cons, List.flatten_nil, List.cons_append, List.nil_append, List.append_nil]
  entry_read
  pointwise []
theorem V_g (c : Dev nD) (k : Fin 1024) : V m c main_v9 (ix2 0 k) = argG m c (ix1 k) := by
  simp only [V, hostOps0, hostOps0_1, hostOps0_2, hostOps0_3, hostOps0_4, List.flatten_cons, List.flatten_nil, List.cons_append, List.nil_append, List.append_nil]
  entry_read
  pointwise []
theorem V_l (c : Dev nD) (k : Fin 1024) : V m c main_v10 (ix2 0 k) = argL m c (ix1 k) := by
  simp only [V, hostOps0, hostOps0_1, hostOps0_2, hostOps0_3, hostOps0_4, List.flatten_cons, List.flatten_nil, List.cons_append, List.nil_append, List.append_nil]
  entry_read
  pointwise []
theorem V_z (c : Dev nD) : V m c main_arg0 = argZ m c := by
  simp only [V, hostOps0, hostOps0_1, hostOps0_2, hostOps0_3, hostOps0_4, List.flatten_cons, List.flatten_nil, List.cons_append, List.nil_append, List.append_nil]
  entry_read
  rfl
theorem V_1 (c : Dev nD) : V m c main_arg1 = argW m c := by
  simp only [V, hostOps0, hostOps0_1, hostOps0_2, hostOps0_3, hostOps0_4, List.flatten_cons, List.flatten_nil, List.cons_append, List.nil_append, List.append_nil]
  entry_read
  rfl
theorem V_2 (c : Dev nD) : V m c main_arg2 = argB m c := by
  simp only [V, hostOps0, hostOps0_1, hostOps0_2, hostOps0_3, hostOps0_4, List.flatten_cons, List.flatten_nil, List.cons_append, List.nil_append, List.append_nil]
  entry_read
  rfl
theorem V_3 (c : Dev nD) : V m c main_arg3 = argG m c := by
  simp only [V, hostOps0, hostOps0_1, hostOps0_2, hostOps0_3, hostOps0_4, List.flatten_cons, List.flatten_nil, List.cons_append, List.nil_append, List.append_nil]
  entry_read
  rfl
theorem V_4 (c : Dev nD) : V m c main_arg4 = argL m c := by
  simp only [V, hostOps0, hostOps0_1, hostOps0_2, hostOps0_3, hostOps0_4, List.flatten_cons, List.flatten_nil, List.cons_append, List.nil_append, List.append_nil]
  entry_read
  rfl

/-- A chunk's rows lie in the tile. -/
abbrev InR (a : ℕ) : Prop := ∀ x, (![a, 0] : Fin 2 → ℕ) x + (![128, 512] : Fin 2 → ℕ) x ≤ S512x512.size x
/-- A chunk's rows of a block. -/
abbrev cut (X : Vec Ideal S512x512 .bf16) (a : ℕ) (inb : InR a) : Vec Ideal S128x512 .bf16 := View.ld X (Rect.unit (s := S512x512) ![a, 0] ![128, 512] inb)

section
variable (c : Dev nD) (t : Fin cfg0.N) (X : R16 S8192x5120) (n : Fin 64) (a : ℕ) (inb : InR a) (hn : 128 * n.val = 512 * t.val + a) (r : Fin 128) (k : Fin 512)

theorem t_lt : t.val < 16 := t.isLt
include hn in
theorem rd0 : cut (View.read (Elt Ideal) ((cfg0.win 0).blk t).view X) a inb (ix2 r k) = X (ix2 ⟨128 * n.val + r.val, by omega⟩ ⟨512 + k.val, by omega⟩) := by
  have := t_lt t
  pointwise [cut]
  blk_ext [(idx_val t).1]
include hn in
theorem rd1 : cut (View.read (Elt Ideal) ((cfg0.win 1).blk t).view X) a inb (ix2 r k) = X (ix2 ⟨128 * n.val + r.val, by omega⟩ ⟨1024 + k.val, by omega⟩) := by
  have := t_lt t
  pointwise [cut]
  blk_ext [(idx_val t).2.1]
include hn in
theorem rd2 : cut (View.read (Elt Ideal) ((cfg0.win 2).blk t).view X) a inb (ix2 r k) = X (ix2 ⟨128 * n.val + r.val, by omega⟩ ⟨1536 + k.val, by omega⟩) := by
  have := t_lt t
  pointwise [cut]
  blk_ext [(idx_val t).2.2.1]
include hn in
theorem rd3 : cut (View.read (Elt Ideal) ((cfg0.win 3).blk t).view X) a inb (ix2 r k) = X (ix2 ⟨128 * n.val + r.val, by omega⟩ ⟨2048 + k.val, by omega⟩) := by
  have := t_lt t
  pointwise [cut]
  blk_ext [(idx_val t).2.2.2.1]
include hn in
theorem rd4 : cut (View.read (Elt Ideal) ((cfg0.win 4).blk t).view X) a inb (ix2 r k) = X (ix2 ⟨128 * n.val + r.val, by omega⟩ ⟨3584 + k.val, by omega⟩) := by
  have := t_lt t
  pointwise [cut]
  blk_ext [(idx_val t).2.2.2.2.1]
include hn in
theorem rd5 : cut (View.read (Elt Ideal) ((cfg0.win 5).blk t).view X) a inb (ix2 r k) = X (ix2 ⟨128 * n.val + r.val, by omega⟩ ⟨4096 + k.val, by omega⟩) := by
  have := t_lt t
  pointwise [cut]
  blk_ext [(idx_val t).2.2.2.2.2.1]
include hn in
theorem ld0 : cut (iblk m c 0 t) a inb (ix2 r k) = argZ m c (ix2 ⟨128 * n.val + r.val, by omega⟩ ⟨512 + k.val, by omega⟩) :=
  (rd0 t (V m c main_arg0) n a inb hn r k).trans (congrFun (V_z m c) _)
include hn in
theorem ld1 : cut (iblk m c 1 t) a inb (ix2 r k) = argZ m c (ix2 ⟨128 * n.val + r.val, by omega⟩ ⟨1024 + k.val, by omega⟩) :=
  (rd1 t (V m c main_arg0) n a inb hn r k).trans (congrFun (V_z m c) _)
include hn in
theorem ld2 : cut (iblk m c 2 t) a inb (ix2 r k) = argZ m c (ix2 ⟨128 * n.val + r.val, by omega⟩ ⟨1536 + k.val, by omega⟩) :=
  (rd2 t (V m c main_arg0) n a inb hn r k).trans (congrFun (V_z m c) _)
include hn in
theorem ld3 : cut (iblk m c 3 t) a inb (ix2 r k) = argZ m c (ix2 ⟨128 * n.val + r.val, by omega⟩ ⟨2048 + k.val, by omega⟩) :=
  (rd3 t (V m c main_arg0) n a inb hn r k).trans (congrFun (V_z m c) _)
include hn in
theorem ld4 : cut (iblk m c 4 t) a inb (ix2 r k) = argZ m c (ix2 ⟨128 * n.val + r.val, by omega⟩ ⟨3584 + k.val, by omega⟩) :=
  (rd4 t (V m c main_arg0) n a inb hn r k).trans (congrFun (V_z m c) _)
include hn in
theorem ld5 : cut (iblk m c 5 t) a inb (ix2 r k) = argZ m c (ix2 ⟨128 * n.val + r.val, by omega⟩ ⟨4096 + k.val, by omega⟩) :=
  (rd5 t (V m c main_arg0) n a inb hn r k).trans (congrFun (V_z m c) _)
end

section
variable (c : Dev nD) (t : Fin cfg0.N)

theorem rd6 (X : R16 S8x128x128) (h : Fin 8) (inb : ∀ x, (![h.val, 0, 0] : Fin 3 → ℕ) x + (![1, 128, 128] : Fin 3 → ℕ) x ≤ S8x128x128.size x) (r s : Fin 128) :
    View.ld (View.read (Elt Ideal) ((cfg0.win 6).blk t).view X) (Rect.unit (s := S8x128x128) ![h.val, 0, 0] ![1, 128, 128] inb) (ix3 0 r s) = X (ix3 h r s) := by
  pointwise [cut]
  blk_ext [(idx_val t).2.2.2.2.2.2.1]
theorem rd7 (X : R32 S128x1024) (a : ℕ) (ha : a + 128 ≤ 1024) (inb : ∀ x, (![0, a] : Fin 2 → ℕ) x + (![128, 128] : Fin 2 → ℕ) x ≤ S128x1024.size x) (r d : Fin 128) :
    View.ld (View.read (Elt Ideal) ((cfg0.win 7).blk t).view X) (Rect.unit (s := S128x1024) ![0, a] ![128, 128] inb) (ix2 r d) = X (ix2 r ⟨a + d.val, by omega⟩) := by
  pointwise []
  blk_ext [(idx_val t).2.2.2.2.2.2.2.1]
theorem rd8 (X : R32 S1x1024) (a : ℕ) (ha : a + 512 ≤ 1024) (inb : ∀ x, (![0, a] : Fin 2 → ℕ) x + (![1, 512] : Fin 2 → ℕ) x ≤ S1x1024.size x) (k : Fin 512) :
    View.ld (View.read (Elt Ideal) ((cfg0.win 8).blk t).view X) (Rect.unit (s := S1x1024) ![0, a] ![1, 512] inb) (ix2 0 k) = X (ix2 0 ⟨a + k.val, by omega⟩) := by
  pointwise []
  blk_ext [(idx_val t).2.2.2.2.2.2.2.2.1]
theorem rd9 (X : R32 S1x1024) (a : ℕ) (ha : a + 512 ≤ 1024) (inb : ∀ x, (![0, a] : Fin 2 → ℕ) x + (![1, 512] : Fin 2 → ℕ) x ≤ S1x1024.size x) (k : Fin 512) :
    View.ld (View.read (Elt Ideal) ((cfg0.win 9).blk t).view X) (Rect.unit (s := S1x1024) ![0, a] ![1, 512] inb) (ix2 0 k) = X (ix2 0 ⟨a + k.val, by omega⟩) := by
  pointwise []
  blk_ext [(idx_val t).2.2.2.2.2.2.2.2.2.1]
theorem ld6 (h : Fin 8) (inb : ∀ x, (![h.val, 0, 0] : Fin 3 → ℕ) x + (![1, 128, 128] : Fin 3 → ℕ) x ≤ S8x128x128.size x) (r s : Fin 128) :
    View.ld (iblk m c 6 t) (Rect.unit (s := S8x128x128) ![h.val, 0, 0] ![1, 128, 128] inb) (ix3 0 r s) = masked (argW m c) (ix3 h r s) :=
  (rd6 t (V m c main_v8) h inb r s).trans (congrFun (V_w m c) _)
theorem ld7 (h : Fin 8) (a : ℕ) (ha : a = 128 * h.val) (inb : ∀ x, (![0, a] : Fin 2 → ℕ) x + (![128, 128] : Fin 2 → ℕ) x ≤ S128x1024.size x) (r d : Fin 128) :
    View.ld (iblk m c 7 t) (Rect.unit (s := S128x1024) ![0, a] ![128, 128] inb) (ix2 r d) = argB m c (ix2 h r) := by
  subst ha
  exact (rd7 t (V m c main_v7) (128 * h.val) (by omega) inb r d).trans (V_b m c r h d)
theorem ld8 (a : ℕ) (ha : a + 512 ≤ 1024) (inb : ∀ x, (![0, a] : Fin 2 → ℕ) x + (![1, 512] : Fin 2 → ℕ) x ≤ S1x1024.size x) (k : Fin 512) :
    View.ld (iblk m c 8 t) (Rect.unit (s := S1x1024) ![0, a] ![1, 512] inb) (ix2 0 k) = argG m c (ix1 ⟨a + k.val, by omega⟩) :=
  (rd8 t (V m c main_v9) a ha inb k).trans (V_g m c _)
theorem ld9 (a : ℕ) (ha : a + 512 ≤ 1024) (inb : ∀ x, (![0, a] : Fin 2 → ℕ) x + (![1, 512] : Fin 2 → ℕ) x ≤ S1x1024.size x) (k : Fin 512) :
    View.ld (iblk m c 9 t) (Rect.unit (s := S1x1024) ![0, a] ![1, 512] inb) (ix2 0 k) = argL m c (ix1 ⟨a + k.val, by omega⟩) :=
  (rd9 t (V m c main_v10) a ha inb k).trans (V_l m c _)
end

/-! ## A head's output in one chunk -/

theorem half0 (F : Fin 1024 → EReal) (v0 v1 : Vec Ideal S128x512 .bf16) (gg bb : Vec Ideal S1x512 .f32) (s : Fin 128)
    (h0 : ∀ j : Fin 512, gl (v0 (ix2 s j)) = F ⟨j.val, by omega⟩) (h1 : ∀ j : Fin 512, gl (v1 (ix2 s j)) = F ⟨512 + j.val, by omega⟩) (k : Fin 512) :
    vn0 v0 v1 gg bb (ix2 s k) = ln F ⟨k.val, by omega⟩ (gg (ix2 0 k)) (bb (ix2 0 k)) := by
  rw [vn0_at, ln_halves, funext h0, funext h1, h0 k]
theorem half1 (F : Fin 1024 → EReal) (v0 v1 : Vec Ideal S128x512 .bf16) (gg bb : Vec Ideal S1x512 .f32) (s : Fin 128)
    (h0 : ∀ j : Fin 512, gl (v0 (ix2 s j)) = F ⟨j.val, by omega⟩) (h1 : ∀ j : Fin 512, gl (v1 (ix2 s j)) = F ⟨512 + j.val, by omega⟩) (k : Fin 512) :
    vn1 v0 v1 gg bb (ix2 s k) = ln F ⟨512 + k.val, by omega⟩ (gg (ix2 0 k)) (bb (ix2 0 k)) := by
  rw [vn1_at, ln_halves, funext h0, funext h1, h1 k]
theorem ln_idx (F : Fin 1024 → EReal) (G B : R32 S1024) (k i k' : Fin 1024) (h : k = k') (hi : i = k') :
    ln F k (G (ix1 i)) (B (ix1 i)) = ln F k' (G (ix1 k')) (B (ix1 k')) := by
  rw [h, hi]
theorem zcol (X : R16 S8192x5120) (r : Fin 8192) (i j : Fin 5120) (h : i.val = j.val) : X (ix2 r i) = X (ix2 r j) := by
  rw [Fin.ext h]

section
variable (c : Dev nD) (t : Fin cfg0.N) (v : View sig .tc .vmem S128x1024 .bf16) (L : List (View.Piece (Elt Ideal) S128x1024 .bf16))
  (S : Slot)

/-- A stored piece is the reference's output at the piece's place. -/
theorem put (P : S128x128.Idx → EReal) (n : Fin 64) (a b : ℕ) (inb : ∀ x, (![a, b] : Fin 2 → ℕ) x + (![128, 128] : Fin 2 → ℕ) x ≤ S512x1024.size x)
    (hn : 128 * n.val = 512 * t.val + a) (hb : b + 128 ≤ 1024) (ha : a + 128 ≤ 512)
    (h : ∀ r d : Fin 128, P (ix2 r d) = out m c (ix2 ⟨128 * n.val + r.val, by omega⟩ ⟨b + d.val, by omega⟩)) (x : S128x128.Idx) :
    P x = outAt m c t ((Rect.unit (s := S512x1024) ![a, b] ![128, 128] inb).emb x) := by
  obtain ⟨r, d, rfl⟩ : ∃ (r d : Fin 128), x = ix2 r d := ⟨x 0, x 1, by funext k; fin_cases k <;> rfl⟩
  rw [h]
  refine congrArg (out m c) (congrArg₂ ix2 (Fin.ext ?_) (Fin.ext ?_))
  · show 128 * n.val + r.val = 512 * t.val + (a + 1 * r.val)
    omega
  · show b + d.val = b + 1 * d.val
    omega

/-- A head of the first half. -/
theorem pieceLo (o : ℕ) (hS : SlotAt S o) (h : Fin 8) (ho : o + 128 ≤ 512) (hh : o = 128 * h.val) (q : Fin 4) (a : ℕ) (ha : a = 128 * q.val) (inb : InR a)
    (iw : ∀ x, (![h.val, 0, 0] : Fin 3 → ℕ) x + (![1, 128, 128] : Fin 3 → ℕ) x ≤ S8x128x128.size x)
    (io : ∀ x, (![0, o] : Fin 2 → ℕ) x + (![128, 128] : Fin 2 → ℕ) x ≤ S128x1024.size x)
    (ip : ∀ x, (![a, o] : Fin 2 → ℕ) x + (![128, 128] : Fin 2 → ℕ) x ≤ S512x1024.size x) (x : S128x128.Idx) :
    S (gate (cut (iblk m c 4 t) a inb) (cut (iblk m c 0 t) a inb))
      (View.ld (iblk m c 6 t) (Rect.unit (s := S8x128x128) ![h.val, 0, 0] ![1, 128, 128] iw))
      (v.readCov (⟨Rect.unit ![0, 512] ![128, 512] inb_S128x1024_S128x512_0_512, vn1 (cut (iblk m c 2 t) a inb) (cut (iblk m c 3 t) a inb) (View.ld (iblk m c 8 t) (Rect.unit (s := S1x1024) ![0, 512] ![1, 512] inb_S1x1024_S1x512_0_512)) (View.ld (iblk m c 9 t) (Rect.unit (s := S1x1024) ![0, 512] ![1, 512] inb_S1x1024_S1x512_0_512))⟩
        :: ⟨Rect.unit ![0, 0] ![128, 512] inb_S128x1024_S128x512_0_0, vn0 (cut (iblk m c 2 t) a inb) (cut (iblk m c 3 t) a inb) (View.ld (iblk m c 8 t) (Rect.unit (s := S1x1024) ![0, 0] ![1, 512] inb_S1x1024_S1x512_0_0)) (View.ld (iblk m c 9 t) (Rect.unit (s := S1x1024) ![0, 0] ![1, 512] inb_S1x1024_S1x512_0_0))⟩ :: L)
        (Rect.unit (s := S128x1024) ![0, o] ![128, 128] io).toLoadRect)
      (View.ld (iblk m c 7 t) (Rect.unit (s := S128x1024) ![0, o] ![128, 128] io)) x
      = outAt m c t ((Rect.unit (s := S512x1024) ![a, o] ![128, 128] ip).emb x) := by
  have ht := t_lt t
  obtain ⟨n, hn⟩ : ∃ n : Fin 64, 128 * n.val = 512 * t.val + a := ⟨⟨4 * t.val + q.val, by omega⟩, by dsimp only; omega⟩
  refine put m c t _ n a (o) ip hn (by omega) (by omega) (fun r d => ?_) x
  refine Eq.trans ?_ ((ref0_at (argZ m c) (argW m c) (argB m c) (argG m c) (argL m c) n r h d).symm.trans
    (congrArg (fun i => out m c (ix2 _ i)) (Fin.ext (by dsimp only; omega))))
  rw [hS ho, gate_at]
  refine congrArg₂ (fun p q : EReal => p * q) (congrArg₂ (fun p q : EReal => p * q) (congrArg gl ?_) (congrArg (fun q : EReal => q * Ideal.logistic q) ?_))
    (congrArg₂ (fun p q : EReal => p + q) (Finset.sum_congr rfl fun s _ => congrArg₂ (fun p q : EReal => p * q) ?_ ?_) ?_)
  · exact (ld0 m c t n a inb hn r _).trans (zcol _ _ _ _ (by dsimp only; omega))
  · exact (ld4 m c t n a inb hn r _).trans (zcol _ _ _ _ (by dsimp only; omega))
  · exact ld6 m c t h iw r s
  · refine (read_lo v _ _ L o io ho s d).trans ((half0 (fun j => gl (argZ m c (ix2 ⟨128 * n.val + s.val, by omega⟩ ⟨1536 + j.val, by omega⟩))) _ _ _ _ s
      (fun j => congrArg gl (ld2 m c t n a inb hn s j)) (fun j => congrArg gl ((ld3 m c t n a inb hn s j).trans (zcol _ _ _ _ (by dsimp only; omega)))) _).trans ?_)
    rw [ld8 m c t 0 (by omega), ld9 m c t 0 (by omega)]
    exact ln_idx _ _ _ _ _ _ (Fin.ext (by dsimp only; omega)) (Fin.ext (by dsimp only; omega))
  · exact ld7 m c t h _ hh io r d

/-- A head of the second half. -/
theorem pieceHi (o : ℕ) (hS : SlotAt S o) (h : Fin 8) (ho : o + 128 ≤ 512) (hh : 512 + o = 128 * h.val) (q : Fin 4) (a : ℕ) (ha : a = 128 * q.val) (inb : InR a)
    (iw : ∀ x, (![h.val, 0, 0] : Fin 3 → ℕ) x + (![1, 128, 128] : Fin 3 → ℕ) x ≤ S8x128x128.size x)
    (io : ∀ x, (![0, 512 + o] : Fin 2 → ℕ) x + (![128, 128] : Fin 2 → ℕ) x ≤ S128x1024.size x)
    (ip : ∀ x, (![a, 512 + o] : Fin 2 → ℕ) x + (![128, 128] : Fin 2 → ℕ) x ≤ S512x1024.size x) (x : S128x128.Idx) :
    S (gate (cut (iblk m c 5 t) a inb) (cut (iblk m c 1 t) a inb))
      (View.ld (iblk m c 6 t) (Rect.unit (s := S8x128x128) ![h.val, 0, 0] ![1, 128, 128] iw))
      (v.readCov (⟨Rect.unit ![0, 512] ![128, 512] inb_S128x1024_S128x512_0_512, vn1 (cut (iblk m c 2 t) a inb) (cut (iblk m c 3 t) a inb) (View.ld (iblk m c 8 t) (Rect.unit (s := S1x1024) ![0, 512] ![1, 512] inb_S1x1024_S1x512_0_512)) (View.ld (iblk m c 9 t) (Rect.unit (s := S1x1024) ![0, 512] ![1, 512] inb_S1x1024_S1x512_0_512))⟩
        :: ⟨Rect.unit ![0, 0] ![128, 512] inb_S128x1024_S128x512_0_0, vn0 (cut (iblk m c 2 t) a inb) (cut (iblk m c 3 t) a inb) (View.ld (iblk m c 8 t) (Rect.unit (s := S1x1024) ![0, 0] ![1, 512] inb_S1x1024_S1x512_0_0)) (View.ld (iblk m c 9 t) (Rect.unit (s := S1x1024) ![0, 0] ![1, 512] inb_S1x1024_S1x512_0_0))⟩ :: L)
        (Rect.unit (s := S128x1024) ![0, 512 + o] ![128, 128] io).toLoadRect)
      (View.ld (iblk m c 7 t) (Rect.unit (s := S128x1024) ![0, 512 + o] ![128, 128] io)) x
      = outAt m c t ((Rect.unit (s := S512x1024) ![a, 512 + o] ![128, 128] ip).emb x) := by
  have ht := t_lt t
  obtain ⟨n, hn⟩ : ∃ n : Fin 64, 128 * n.val = 512 * t.val + a := ⟨⟨4 * t.val + q.val, by omega⟩, by dsimp only; omega⟩
  refine put m c t _ n a (512 + o) ip hn (by omega) (by omega) (fun r d => ?_) x
  refine Eq.trans ?_ ((ref0_at (argZ m c) (argW m c) (argB m c) (argG m c) (argL m c) n r h d).symm.trans
    (congrArg (fun i => out m c (ix2 _ i)) (Fin.ext (by dsimp only; omega))))
  rw [hS ho, gate_at]
  refine congrArg₂ (fun p q : EReal => p * q) (congrArg₂ (fun p q : EReal => p * q) (congrArg gl ?_) (congrArg (fun q : EReal => q * Ideal.logistic q) ?_))
    (congrArg₂ (fun p q : EReal => p + q) (Finset.sum_congr rfl fun s _ => congrArg₂ (fun p q : EReal => p * q) ?_ ?_) ?_)
  · exact (ld1 m c t n a inb hn r _).trans (zcol _ _ _ _ (by dsimp only; omega))
  · exact (ld5 m c t n a inb hn r _).trans (zcol _ _ _ _ (by dsimp only; omega))
  · exact ld6 m c t h iw r s
  · refine (read_hi v _ _ L o io ho s d).trans ((half1 (fun j => gl (argZ m c (ix2 ⟨128 * n.val + s.val, by omega⟩ ⟨1536 + j.val, by omega⟩))) _ _ _ _ s
      (fun j => congrArg gl (ld2 m c t n a inb hn s j)) (fun j => congrArg gl ((ld3 m c t n a inb hn s j).trans (zcol _ _ _ _ (by dsimp only; omega)))) _).trans ?_)
    rw [ld8 m c t 512 (by omega), ld9 m c t 512 (by omega)]
    exact ln_idx _ _ _ _ _ _ (Fin.ext (by dsimp only; omega)) (Fin.ext (by dsimp only; omega))
  · exact ld7 m c t h _ hh io r d

end

set_option maxHeartbeats 8000000 in
/-- The output is the reference's. -/
theorem final0 (c : Dev nD) : (dats m 0 c).arrAt 10 (cfgs 0).N = ref0 (argZ m c) (argW m c) (argB m c) (argG m c) (argL m c) := by
  refine (dats m 0 c).arrAt_eq_of_covers 10 _ (by decide +kernel) fun t hf y => ?_
  have hi := (idx_val t).2.2.2.2.2.2.2.2.2.2
  have ht := t_lt t
  blk_simp; rw [after0_10]
  unfold outsAt0
  frame_out
  simp only [cut0, cut1, cut2, cut3, cut4, cut5, cut6, cut7, cut8, cut9, cut10, cut11, cut12, cut13, cut14, cut15, cut16, cut17, cut18, cut19, cut20, cut21, cut22, cut23, cut24, cut25, cut26, cut27, cut28, cut29, cut30, cut31, cut32, cut33, cut34, cut35, cut36, cut37, cut38, cut39, cut40, cut41, cut42, cut43, cut44, cut45, cut46, cut47]
  refine (View.canon_apply_of_pieces (Val := Elt Ideal) (S := S512x1024) (e := .bf16) (outAt m c t) _ ?_ y (View.cover_of_tiledBy _ ![128, 128] (by sl_kernel_rfl) y)).trans ?_
  · simp only [List.forall_mem_cons]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, by simp⟩
    · exact pieceHi m c t _ _ slot3 384 slot3_at 7 (by omega) rfl 3 384 rfl _ _ _ _ x
    · exact pieceHi m c t _ _ slot2 256 slot2_at 6 (by omega) rfl 3 384 rfl _ _ _ _ x
    · exact pieceHi m c t _ _ slot1 128 slot1_at 5 (by omega) rfl 3 384 rfl _ _ _ _ x
    · exact pieceHi m c t _ _ slot0 0 slot0_at 4 (by omega) rfl 3 384 rfl _ _ _ _ x
    · exact pieceLo m c t _ _ slot3 384 slot3_at 3 (by omega) rfl 3 384 rfl _ _ _ _ x
    · exact pieceLo m c t _ _ slot2 256 slot2_at 2 (by omega) rfl 3 384 rfl _ _ _ _ x
    · exact pieceLo m c t _ _ slot1 128 slot1_at 1 (by omega) rfl 3 384 rfl _ _ _ _ x
    · exact pieceLo m c t _ _ slot0 0 slot0_at 0 (by omega) rfl 3 384 rfl _ _ _ _ x
    · exact pieceHi m c t _ _ slot3 384 slot3_at 7 (by omega) rfl 2 256 rfl _ _ _ _ x
    · exact pieceHi m c t _ _ slot2 256 slot2_at 6 (by omega) rfl 2 256 rfl _ _ _ _ x
    · exact pieceHi m c t _ _ slot1 128 slot1_at 5 (by omega) rfl 2 256 rfl _ _ _ _ x
    · exact pieceHi m c t _ _ slot0 0 slot0_at 4 (by omega) rfl 2 256 rfl _ _ _ _ x
    · exact pieceLo m c t _ _ slot3 384 slot3_at 3 (by omega) rfl 2 256 rfl _ _ _ _ x
    · exact pieceLo m c t _ _ slot2 256 slot2_at 2 (by omega) rfl 2 256 rfl _ _ _ _ x
    · exact pieceLo m c t _ _ slot1 128 slot1_at 1 (by omega) rfl 2 256 rfl _ _ _ _ x
    · exact pieceLo m c t _ _ slot0 0 slot0_at 0 (by omega) rfl 2 256 rfl _ _ _ _ x
    · exact pieceHi m c t _ _ slot3 384 slot3_at 7 (by omega) rfl 1 128 rfl _ _ _ _ x
    · exact pieceHi m c t _ _ slot2 256 slot2_at 6 (by omega) rfl 1 128 rfl _ _ _ _ x
    · exact pieceHi m c t _ _ slot1 128 slot1_at 5 (by omega) rfl 1 128 rfl _ _ _ _ x
    · exact pieceHi m c t _ _ slot0 0 slot0_at 4 (by omega) rfl 1 128 rfl _ _ _ _ x
    · exact pieceLo m c t _ _ slot3 384 slot3_at 3 (by omega) rfl 1 128 rfl _ _ _ _ x
    · exact pieceLo m c t _ _ slot2 256 slot2_at 2 (by omega) rfl 1 128 rfl _ _ _ _ x
    · exact pieceLo m c t _ _ slot1 128 slot1_at 1 (by omega) rfl 1 128 rfl _ _ _ _ x
    · exact pieceLo m c t _ _ slot0 0 slot0_at 0 (by omega) rfl 1 128 rfl _ _ _ _ x
    · exact pieceHi m c t _ _ slot3 384 slot3_at 7 (by omega) rfl 0 0 rfl _ _ _ _ x
    · exact pieceHi m c t _ _ slot2 256 slot2_at 6 (by omega) rfl 0 0 rfl _ _ _ _ x
    · exact pieceHi m c t _ _ slot1 128 slot1_at 5 (by omega) rfl 0 0 rfl _ _ _ _ x
    · exact pieceHi m c t _ _ slot0 0 slot0_at 4 (by omega) rfl 0 0 rfl _ _ _ _ x
    · exact pieceLo m c t _ _ slot3 384 slot3_at 3 (by omega) rfl 0 0 rfl _ _ _ _ x
    · exact pieceLo m c t _ _ slot2 256 slot2_at 2 (by omega) rfl 0 0 rfl _ _ _ _ x
    · exact pieceLo m c t _ _ slot1 128 slot1_at 1 (by omega) rfl 0 0 rfl _ _ _ _ x
    · exact pieceLo m c t _ _ slot0 0 slot0_at 0 (by omega) rfl 0 0 rfl _ _ _ _ x
  · obtain ⟨r, k, rfl⟩ : ∃ (r : Fin 512) (k : Fin 1024), y = ix2 r k := ⟨y 0, y 1, by funext d; fin_cases d <;> rfl⟩
    have ee : ((cfgs 0).win 10 |>.blk t).view.emb (ix2 r k) = ix2 ⟨512 * t.val + r.val, by omega⟩ k := by blk_ext [hi]
    exact congrArg (out m c) ee.symm
end

set_option backward.isDefEq.respectTransparency false
open Idealize.ShloMosaic Idealize.SL.Sem

theorem frame_kernel : quiescent_Kernel10 := fun m ρ _ => Kernel10.Gen.frame m ρ
theorem frame_ideal : quiescent_Kernel10Ideal := fun m ρ _ => Kernel10Ideal.Gen.frame m ρ
theorem frame_reference : quiescent_Reference10Ideal := fun m ρ _ =>
  (θ_run Reference10Ideal.defs _ _).mono (fun _ h => ⟨fun c => (h c).2, sem_eq_zero_of_no_sems (by decide) _⟩) (Reference10Ideal.Value.run m ρ)

/-- The idealized kernel and the idealized reference end with equal results. -/
theorem algebraic : algebraic_Kernel10Ideal_Reference10Ideal := by
  pair_intro
  · run_from Kernel10Ideal.Gen.run_main m g
    · exact V_1 m c
    · exact V_2 m c
    · exact V_3 m c
    · exact V_4 m c
  · refine (θ_run Reference10Ideal.defs _ _).mono (fun _ h c => ?_) (Reference10Ideal.Value.run m' g')
    obtain ⟨e0, e1, e2, e3, e4⟩ := hagree c
    refine ⟨((h c).1.trans (res_eq m' c)).trans (Eq.trans ?_ (final0 m c).symm), (h c).2⟩
    rw [e0, e1, e2, e3, e4]

end Cert.Lin10
-- ==== Proof.Lin.Claim11.lean ====
/- The pooling branch's output: the frames of the kernel as printed and idealized and of the reference, and the equality of their results. -/
module

public import proofs.«01_k».proof.Proof.Gen.Reference11Ideal.Run
public import proofs.«01_k».proof.Proof.Val.RefA
public import proofs.«01_k».proof.Proof.Gen.Kernel11Ideal.Frame
public import proofs.«01_k».proof.Proof.Val.Finite
public import proofs.«01_k».proof.Pre_pooled_finite
public import Idealize.ShloMosaic.Lib.Pipeline.ValueKit
public import Idealize.ShloMosaic.Lib.Pipeline.ReadBack
public import proofs.«01_k».proof.Defs
public import proofs.«01_k».proof.Proof.Gen.Kernel11.Frame

@[expose] public section

set_option maxRecDepth 16384

noncomputable section

namespace Cert.Lin11

open Idealize.ShloMosaic in
/-- Arrays of extended reals, by shape. -/
abbrev R16 (s : Shape) := FVec Ideal s .bf16
open Idealize.ShloMosaic in
abbrev R32 (s : Shape) := FVec Ideal s .f32

section
open Reference11Ideal Reference11Ideal.Facts Reference11Ideal.Gen PoolVal
open Idealize.ShloMosaic Idealize.ShloMosaic.TcCoe

/-- The pooled columns, in their four groups. -/
def cols (x : R32 S8192x512) : R32 S8192x4x128 := shapeCast _ x shapeCasts_S8192x512_S8192x4x128
/-- Their sums over all rows so far. -/
def sums (x : R32 S8192x512) : R32 S8192x4x128 :=
  Host.reduceWindowAdd ![8192, 1, 1] ![1, 1, 1] ![8191, 0, 0] ![0, 0, 0] (cols x) (broadcastInDim S_ ![] bcast_S_S_ (constant S_ .f32 0x00000000#32)) reduceWindows_S8192x4x128_S8192x4x128_w8192s1p8191_0_w1s1p0_0_w1s1p0_0 h_S_
/-- The row numbers, from one. -/
def cnt : R32 S8192x1 :=
  broadcastInDim S8192x1 ![0] bcast_S8192_S8192x1_0 (addf (broadcastInDim S8192 ![] bcast_S_S8192 (constant S_ .f32 0x3F800000#32)) (sitofp .f32 (iotaInDim S8192 32 0)))
/-- A window's mean less the row, for the windows of 2 rows. -/
def mean0 (x : R32 S8192x512) : R32 S8192x1x128 :=
  broadcastInDim S8192x1x128 ![0, 2] bcast_S8192x128_S8192x1x128_0_2 (subf (Host.divf (subf (shapeCast S8192x128 (extractStridedSlice S8192x1x128 ![0, 0, 0] (sums x) slices_S8192x4x128_S8192x1x128_0_0_0) shapeCasts_S8192x1x128_S8192x128) (concatenate S8192x128 0 [⟨S2x128, (broadcastInDim S2x128 ![] bcast_S_S2x128 (constant S_ .f32 0x00000000#32))⟩, ⟨S8190x128, (extractStridedSlice S8190x128 ![0, 0] (shapeCast S8192x128 (extractStridedSlice S8192x1x128 ![0, 0, 0] (sums x) slices_S8192x4x128_S8192x1x128_0_0_0) shapeCasts_S8192x1x128_S8192x128) slices_S8192x128_S8190x128_0_0)⟩] concatenates_S2x128_S8190x128_S8192x128_d0)) (broadcastInDim S8192x128 ![0, 1] bcast_S8192x1_S8192x128_0_1 (minimumf cnt (broadcastInDim S8192x1 ![] bcast_S_S8192x1 (constant S_ .f32 0x40000000#32))))) (shapeCast S8192x128 (extractStridedSlice S8192x1x128 ![0, 0, 0] (cols x) slices_S8192x4x128_S8192x1x128_0_0_0) shapeCasts_S8192x1x128_S8192x128))
/-- A window's mean less the row, for the windows of 4 rows. -/
def mean1 (x : R32 S8192x512) : R32 S8192x1x128 :=
  broadcastInDim S8192x1x128 ![0, 2] bcast_S8192x128_S8192x1x128_0_2 (subf (Host.divf (subf (shapeCast S8192x128 (extractStridedSlice S8192x1x128 ![0, 1, 0] (sums x) slices_S8192x4x128_S8192x1x128_0_1_0) shapeCasts_S8192x1x128_S8192x128) (concatenate S8192x128 0 [⟨S4x128, (broadcastInDim S4x128 ![] bcast_S_S4x128 (constant S_ .f32 0x00000000#32))⟩, ⟨S8188x128, (extractStridedSlice S8188x128 ![0, 0] (shapeCast S8192x128 (extractStridedSlice S8192x1x128 ![0, 1, 0] (sums x) slices_S8192x4x128_S8192x1x128_0_1_0) shapeCasts_S8192x1x128_S8192x128) slices_S8192x128_S8188x128_0_0)⟩] concatenates_S4x128_S8188x128_S8192x128_d0)) (broadcastInDim S8192x128 ![0, 1] bcast_S8192x1_S8192x128_0_1 (minimumf cnt (broadcastInDim S8192x1 ![] bcast_S_S8192x1 (constant S_ .f32 0x40800000#32))))) (shapeCast S8192x128 (extractStridedSlice S8192x1x128 ![0, 1, 0] (cols x) slices_S8192x4x128_S8192x1x128_0_1_0) shapeCasts_S8192x1x128_S8192x128))
/-- A window's mean less the row, for the windows of 8 rows. -/
def mean2 (x : R32 S8192x512) : R32 S8192x1x128 :=
  broadcastInDim S8192x1x128 ![0, 2] bcast_S8192x128_S8192x1x128_0_2 (subf (Host.divf (subf (shapeCast S8192x128 (extractStridedSlice S8192x1x128 ![0, 2, 0] (sums x) slices_S8192x4x128_S8192x1x128_0_2_0) shapeCasts_S8192x1x128_S8192x128) (concatenate S8192x128 0 [⟨S8x128, (broadcastInDim S8x128 ![] bcast_S_S8x128 (constant S_ .f32 0x00000000#32))⟩, ⟨S8184x128, (extractStridedSlice S8184x128 ![0, 0] (shapeCast S8192x128 (extractStridedSlice S8192x1x128 ![0, 2, 0] (sums x) slices_S8192x4x128_S8192x1x128_0_2_0) shapeCasts_S8192x1x128_S8192x128) slices_S8192x128_S8184x128_0_0)⟩] concatenates_S8x128_S8184x128_S8192x128_d0)) (broadcastInDim S8192x128 ![0, 1] bcast_S8192x1_S8192x128_0_1 (minimumf cnt (broadcastInDim S8192x1 ![] bcast_S_S8192x1 (constant S_ .f32 0x41000000#32))))) (shapeCast S8192x128 (extractStridedSlice S8192x1x128 ![0, 2, 0] (cols x) slices_S8192x4x128_S8192x1x128_0_2_0) shapeCasts_S8192x1x128_S8192x128))
/-- A window's mean less the row, for the windows of 16 rows. -/
def mean3 (x : R32 S8192x512) : R32 S8192x1x128 :=
  broadcastInDim S8192x1x128 ![0, 2] bcast_S8192x128_S8192x1x128_0_2 (subf (Host.divf (subf (shapeCast S8192x128 (extractStridedSlice S8192x1x128 ![0, 3, 0] (sums x) slices_S8192x4x128_S8192x1x128_0_3_0) shapeCasts_S8192x1x128_S8192x128) (concatenate S8192x128 0 [⟨S16x128, (broadcastInDim S16x128 ![] bcast_S_S16x128 (constant S_ .f32 0x00000000#32))⟩, ⟨S8176x128, (extractStridedSlice S8176x128 ![0, 0] (shapeCast S8192x128 (extractStridedSlice S8192x1x128 ![0, 3, 0] (sums x) slices_S8192x4x128_S8192x1x128_0_3_0) shapeCasts_S8192x1x128_S8192x128) slices_S8192x128_S8176x128_0_0)⟩] concatenates_S16x128_S8176x128_S8192x128_d0)) (broadcastInDim S8192x128 ![0, 1] bcast_S8192x1_S8192x128_0_1 (minimumf cnt (broadcastInDim S8192x1 ![] bcast_S_S8192x1 (constant S_ .f32 0x41800000#32))))) (shapeCast S8192x128 (extractStridedSlice S8192x1x128 ![0, 3, 0] (cols x) slices_S8192x4x128_S8192x1x128_0_3_0) shapeCasts_S8192x1x128_S8192x128))
/-- The four groups side by side. -/
def pooled (x : R32 S8192x512) : R32 S8192x4x128 :=
  concatenate S8192x4x128 1 [⟨S8192x1x128, mean0 x⟩, ⟨S8192x1x128, mean1 x⟩, ⟨S8192x1x128, mean2 x⟩, ⟨S8192x1x128, mean3 x⟩] concatenates_S8192x1x128_S8192x1x128_S8192x1x128_S8192x1x128_S8192x4x128_d1
/-- The pooled columns mixed, scaled and gated. -/
def mixed (p : R32 S8192x4x128) (y : R32 S8192x512) (a1 : R32 S4x128x128) (a2 : R32 S512) : R16 S8192x512 :=
  truncf .bf16 (mulf (mulf (shapeCast _ (transpose S8192x4x128 [2, 0, 1] (Host.dotGeneral dot_S4x128x128_S8192x4x128_S4x128x8192_1_2_2_0_0_1 none a1 p) transposes_S4x128x8192_S8192x4x128_2_0_1) shapeCasts_S8192x4x128_S8192x512) (broadcastInDim S8192x512 ![0, 1] bcast_S1x512_S8192x512_0_1 (broadcastInDim S1x512 ![1] bcast_S512_S1x512_1 a2))) (mulf y (Host.divf (broadcastInDim S8192x512 ![] bcast_S_S8192x512 (constant S_ .f32 0x3F800000#32)) (addf (broadcastInDim S8192x512 ![] bcast_S_S8192x512 (constant S_ .f32 0x3F800000#32)) (Host.exp (Host.negf y)))))) bitsLt_bf16_f32
/-- What the reference ends with. -/
def ref0 (a0 : R16 S8192x5120) (a1 : R32 S4x128x128) (a2 : R32 S512) : R16 S8192x512 :=
  mixed (pooled (extractStridedSlice S8192x512 ![0, 2560] (extf .f32 a0 bitsLt_bf16_f32) slices_S8192x5120_S8192x512_0_2560))
    (extractStridedSlice S8192x512 ![0, 4608] (extf .f32 a0 bitsLt_bf16_f32) slices_S8192x5120_S8192x512_0_4608) a1 a2

theorem res_eq (m : (ℓ : Loc nD τ sig) → Buf (Elt Ideal) ℓ) (c : Dev nD) :
    Value.res_out0 m c = ref0 (m (c.tc.loc main_arg0)) (m (c.tc.loc main_arg1)) (m (c.tc.loc main_arg2)) := by
  unfold Value.res_out0 Value.res_main_v74 ref0 mixed pooled mean0 mean1 mean2 mean3 sums cols cnt
  rfl

/-- The columns the mixer pools, the others zero. -/
def keep (z : R16 S8192x5120) : R16 S8192x5120 := fun i => if 2560 ≤ (i 1).val ∧ (i 1).val < 3072 then z i else (0 : EReal)
theorem keep_at (z : R16 S8192x5120) (r : Fin 8192) (k : Fin 512) :
    keep z (ix2 r ⟨2560 + k.val, by omega⟩) = z (ix2 r ⟨2560 + k.val, by omega⟩) :=
  if_pos ⟨Nat.le_add_right _ _, by show 2560 + k.val < 3072; omega⟩

/-- Arguments of the pooling call's gradient with these columns. -/
def args (z : R16 S8192x5120) : Valuation ReferenceIdeal.τ ReferenceIdeal.sig (Elt Ideal) :=
  Function.update (fun _ => default) (Proc.devRef .tc ReferenceIdeal.main_arg1) z
theorem args_z (z : R16 S8192x5120) : rZ (args z) = z := Function.update_self ..

theorem pooled_eq (V0 : Valuation ReferenceIdeal.τ ReferenceIdeal.sig (Elt Ideal)) :
    ReferenceIdeal.Value.res_main_v72 V0 = pooled (extf .f32 (extractStridedSlice S8192x512 ![0, 2560] (rZ V0) slices_S8192x5120_S8192x512_0_2560) bitsLt_bf16_f32) := by
  unfold ReferenceIdeal.Value.res_main_v72 ReferenceIdeal.Value.res_main_v13 ReferenceIdeal.Value.res_main_v27 ReferenceIdeal.Value.res_main_v41 ReferenceIdeal.Value.res_main_v55
    ReferenceIdeal.Value.res_main_v20 ReferenceIdeal.Value.res_main_v34 ReferenceIdeal.Value.res_main_v48 ReferenceIdeal.Value.res_main_v62 ReferenceIdeal.Value.res_main_v7 ReferenceIdeal.Value.res_main_v6 ReferenceIdeal.Value.res_main_v11
    pooled mean0 mean1 mean2 mean3 sums cols cnt
  rfl

/-- The pooled columns at a row, where the columns pooled are finite. -/
theorem pooled_at (z : R16 S8192x5120) (hz : Fin' (keep z)) (r : Fin 8192) (g : Fin 4) (a : Fin 128) :
    pooled (extractStridedSlice S8192x512 ![0, 2560] (extf .f32 z bitsLt_bf16_f32) slices_S8192x5120_S8192x512_0_2560) (ix3 r g a)
      = ((pl (colX (keep z)) g.val r.val a.val : ℝ) : EReal) := by
  have e : extractStridedSlice S8192x512 ![0, 2560] (extf .f32 z bitsLt_bf16_f32) slices_S8192x5120_S8192x512_0_2560
      = extf .f32 (extractStridedSlice S8192x512 ![0, 2560] (rZ (args (keep z))) slices_S8192x5120_S8192x512_0_2560) bitsLt_bf16_f32 := by
    rw [args_z]
    funext i
    obtain ⟨r, k, rfl⟩ : ∃ (r : Fin 8192) (k : Fin 512), i = ix2 r k := ⟨i 0, i 1, by funext d; fin_cases d <;> rfl⟩
    pointwise []
    exact (keep_at z r k).symm
  rw [e, ← pooled_eq]
  have h := v72_at (args (keep z)) (by rw [args_z]; exact hz) r g a
  rw [args_z] at h
  exact h

/-- An entry of what the reference ends with. -/
theorem ref0_at (z : R16 S8192x5120) (w : R32 S4x128x128) (s : R32 S512) (hz : Fin' (keep z)) (r : Fin 8192) (k : Fin 512) :
    ref0 z w s (ix2 r k) = ((∑ a : Fin 128, ((pl (colX (keep z)) (k.val / 128) r.val a.val : ℝ) : EReal) * w (ix3 ⟨k.val / 128, by omega⟩ a ⟨k.val % 128, by omega⟩)) * s (ix1 k))
      * (z (ix2 r ⟨4608 + k.val, by omega⟩) * Ideal.logistic (z (ix2 r ⟨4608 + k.val, by omega⟩))) := by
  unfold ref0 mixed
  pointwise []
  refine congrArg₂ (fun p q : EReal => p * q) (congrArg (fun p : EReal => p * _) (Finset.sum_congr rfl fun a _ => ?_)) ?_
  · exact (mul_comm (_ : EReal) _).trans (congrArg (fun p : EReal => p * _) (pooled_at z hz r ⟨k.val / 128, by omega⟩ a))
  · rfl
end

section
open Kernel11Ideal Kernel11Ideal.Gen
open PoolVal (Fin' val2_eq colX pl fin_of ext bsum close_pl pay8_at pay5_at ofBits_sixteen)
open Idealize.ShloMosaic Idealize.ShloMosaic.TcCoe Idealize.SL.Sem
open Idealize.ShloMosaic.Pipeline (Dat)

variable (m : (ℓ : Loc nD τ sig) → Buf (Elt Ideal) ℓ)

/-- The side conditions the precondition states. -/
instance finiteFacts : Pre_pooled_finite.Facts where
  slices_S8192x5120_S8192x512_0_2560 := by decide
  bitsLt_bf16_f32 := by decide
  bcast_S_S8192x512 := by decide
  reducesTo_S8192x512_S_d0_1 := by decide
  h_S_ := by decide

/-- The precondition: the columns pooled are finite. -/
theorem finite_args (z : R16 S8192x5120) (w : R32 S4x128x128) (s : R32 S512)
    (h : Pre_pooled_finite.fn (F := Ideal) z w s = fun _ => 1#1) : Fin' (keep z) := by
  have hh := congrFun h ix0
  unfold Pre_pooled_finite.fn at hh
  dsimp only at hh
  have f : Fin' (extractStridedSlice S8192x512 ![0, 2560] z Pre_pooled_finite.Facts.slices_S8192x5120_S8192x512_0_2560) :=
    fin_of _ fun i => Host.reduce_andi_all _ _ _ _ _ hh i
  intro i
  by_cases hi : 2560 ≤ (i 1).val ∧ (i 1).val < 3072
  · have g := f (ix2 (i 0) ⟨(i 1).val - 2560, by omega⟩)
    have e : extractStridedSlice S8192x512 ![0, 2560] z Pre_pooled_finite.Facts.slices_S8192x5120_S8192x512_0_2560 (ix2 (i 0) ⟨(i 1).val - 2560, by omega⟩) = keep z i := by
      refine Eq.trans ?_ (if_pos hi).symm
      pointwise []
      refine congrArg z (funext fun d => Fin.ext ?_)
      match d with
      | 0 => rfl
      | 1 => show 2560 + ((i 1).val - 2560) = (i 1).val; omega
    rw [e] at g
    exact g
  · rw [show keep z i = 0 from if_neg hi]
    exact EReal.coe_zero.symm

/-! ## The body -/

section Body
variable (i : grid0.Coords) (x : Vec Ideal S512x512 .bf16) (h : Vec Ideal S16x512 .bf16) (X X1 : ℕ → ℕ → ℝ)
  (hx : ∀ (r : Fin 512) (c : Fin 512), x (ix2 r c) = ((X (512 * (i 0).val + r.val) c.val : ℝ) : EReal))
  (hh : ∀ (r : Fin 16) (c : Fin 512), h (ix2 r c) = ((X1 r.val c.val : ℝ) : EReal))
  (h1 : 0 < (i 0).val → ∀ r c, r < 16 → X1 r c = X (512 * (i 0).val + r - 16) c)
include hx hh h1

theorem group0 (r : Fin 512) (a : Fin 128) : k0_pay9 (F := Ideal) i x h (ix2 r a) = ((pl X 0 (512 * (i 0).val + r.val) a.val : ℝ) : EReal) :=
  PoolVal.pay9_at i (extf .f32 x bitsLt_bf16_f32) (extf .f32 h bitsLt_bf16_f32) X X1 hx hh h1 r a
theorem group1 (r : Fin 512) (a : Fin 128) : k0_pay10 (F := Ideal) i x h (ix2 r a) = ((pl X 1 (512 * (i 0).val + r.val) a.val : ℝ) : EReal) :=
  PoolVal.pay10_at i (extf .f32 x bitsLt_bf16_f32) (extf .f32 h bitsLt_bf16_f32) X X1 hx hh h1 r a
theorem group2 (r : Fin 512) (a : Fin 128) : k0_pay13 (F := Ideal) (k0_pay11 i x h) (k0_pay12 x) (ix2 r a) = ((pl X 2 (512 * (i 0).val + r.val) a.val : ℝ) : EReal) :=
  PoolVal.pay11_at i (extf .f32 x bitsLt_bf16_f32) (extf .f32 h bitsLt_bf16_f32) X X1 hx hh h1 r a
theorem group3 (r : Fin 512) (a : Fin 128) : k0_pay14 (F := Ideal) (k0_pay3 x) (k0_pay4 (F := Ideal) i) (k0_pay8 i x h) (ix2 r a) = ((pl X 3 (512 * (i 0).val + r.val) a.val : ℝ) : EReal) :=
  PoolVal.pay12_at i (extf .f32 x bitsLt_bf16_f32) (extf .f32 h bitsLt_bf16_f32) X X1 hx hh h1 r a
end Body

/-- An entry of a block of the result. -/
def blkVal (X : ℕ → ℕ → ℝ) (n : ℕ) (y : Vec Ideal S512x512 .bf16) (w : Vec Ideal S4x128x128 .bf16) (s : Vec Ideal S1x512 .f32) (j : S512x512.Idx) : EReal :=
  let r : Fin 512 := j 0
  let k : Fin 512 := j 1
  ((∑ a : Fin 128, ((pl X (k.val / 128) (512 * n + r.val) a.val : ℝ) : EReal) * w (ix3 ⟨k.val / 128, by omega⟩ a ⟨k.val % 128, by omega⟩)) * s (ix2 0 k))
    * (y (ix2 r k) * Ideal.logistic (y (ix2 r k)))

section Piece
variable (X : ℕ → ℕ → ℝ) (n : ℕ) (p : R32 S512x128) (y : Vec Ideal S512x512 .bf16) (w : Vec Ideal S4x128x128 .bf16) (s : Vec Ideal S1x512 .f32)

/-- A product's entry, its columns' number split. -/
theorem close (g : ℕ) (hg : g < 4) (r : Fin 512) (b : Fin 128) (hp : ∀ a : Fin 128, p (ix2 r a) = ((pl X g (512 * n + r.val) a.val : ℝ) : EReal)) :
    ((∑ a : Fin 128, p (ix2 r a) * w (ix3 ⟨g, hg⟩ a b)) * s (ix2 0 ⟨128 * g + b.val, by omega⟩))
      * (y (ix2 r ⟨128 * g + b.val, by omega⟩) * Ideal.logistic (y (ix2 r ⟨128 * g + b.val, by omega⟩)))
      = blkVal X n y w s (ix2 r ⟨128 * g + b.val, by omega⟩) := by
  have e : (128 * g + b.val) / 128 = g := by omega
  have e' : (128 * g + b.val) % 128 = b.val := by omega
  unfold blkVal
  refine congrArg (fun q : EReal => q * _ * _) (Finset.sum_congr rfl fun a _ => ?_)
  rw [hp a]
  refine congrArg₂ (fun q q' : EReal => q * q') (congrArg (fun q => ((pl X q (512 * n + r.val) a.val : ℝ) : EReal)) e.symm) (congrArg w ?_)
  funext d
  apply Fin.ext
  match d with
  | 0 => exact e.symm
  | 1 => rfl
  | 2 => exact e'.symm

theorem piece0 (hp : ∀ (r : Fin 512) (a : Fin 128), p (ix2 r a) = ((pl X 0 (512 * n + r.val) a.val : ℝ) : EReal)) (j : S512x128.Idx) :
    k0_pay16 (F := Ideal) p y (View.ld w (Rect.unit (s := S4x128x128) ![0, 0, 0] S1x128x128.size inb_S4x128x128_S1x128x128_0_0_0)) (View.ld s (Rect.unit (s := S1x512) ![0, 0] S1x128.size inb_S1x512_S1x128_0_0)) j
      = blkVal X n y w s ((Rect.unit (s := S512x512) ![0, 0] S512x128.size inb_S512x512_S512x128_0_0).emb j) := by
  obtain ⟨r, b, rfl⟩ : ∃ (r : Fin 512) (b : Fin 128), j = ix2 r b := ⟨j 0, j 1, by funext d; fin_cases d <;> rfl⟩
  have ee : (Rect.unit (s := S512x512) ![0, 0] S512x128.size inb_S512x512_S512x128_0_0).emb (ix2 r b) = ix2 r ⟨128 * 0 + b.val, by omega⟩ := by blk_ext
  rw [ee]
  refine Eq.trans ?_ (close X n p y w s 0 (by decide) r b (hp r))
  pointwise [k0_pay16, k0_pay15]
theorem piece1 (hp : ∀ (r : Fin 512) (a : Fin 128), p (ix2 r a) = ((pl X 1 (512 * n + r.val) a.val : ℝ) : EReal)) (j : S512x128.Idx) :
    k0_pay17 (F := Ideal) p y (View.ld w (Rect.unit (s := S4x128x128) ![1, 0, 0] S1x128x128.size inb_S4x128x128_S1x128x128_1_0_0)) (View.ld s (Rect.unit (s := S1x512) ![0, 128] S1x128.size inb_S1x512_S1x128_0_128)) j
      = blkVal X n y w s ((Rect.unit (s := S512x512) ![0, 128] S512x128.size inb_S512x512_S512x128_0_128).emb j) := by
  obtain ⟨r, b, rfl⟩ : ∃ (r : Fin 512) (b : Fin 128), j = ix2 r b := ⟨j 0, j 1, by funext d; fin_cases d <;> rfl⟩
  have ee : (Rect.unit (s := S512x512) ![0, 128] S512x128.size inb_S512x512_S512x128_0_128).emb (ix2 r b) = ix2 r ⟨128 * 1 + b.val, by omega⟩ := by blk_ext
  rw [ee]
  refine Eq.trans ?_ (close X n p y w s 1 (by decide) r b (hp r))
  pointwise [k0_pay17, k0_pay15]
theorem piece2 (hp : ∀ (r : Fin 512) (a : Fin 128), p (ix2 r a) = ((pl X 2 (512 * n + r.val) a.val : ℝ) : EReal)) (j : S512x128.Idx) :
    k0_pay1 (F := Ideal) p (k0_pay15 y) (View.ld w (Rect.unit (s := S4x128x128) ![2, 0, 0] S1x128x128.size inb_S4x128x128_S1x128x128_2_0_0)) (View.ld s (Rect.unit (s := S1x512) ![0, 256] S1x128.size inb_S1x512_S1x128_0_256)) j
      = blkVal X n y w s ((Rect.unit (s := S512x512) ![0, 256] S512x128.size inb_S512x512_S512x128_0_256).emb j) := by
  obtain ⟨r, b, rfl⟩ : ∃ (r : Fin 512) (b : Fin 128), j = ix2 r b := ⟨j 0, j 1, by funext d; fin_cases d <;> rfl⟩
  have ee : (Rect.unit (s := S512x512) ![0, 256] S512x128.size inb_S512x512_S512x128_0_256).emb (ix2 r b) = ix2 r ⟨128 * 2 + b.val, by omega⟩ := by blk_ext
  rw [ee]
  refine Eq.trans ?_ (close X n p y w s 2 (by decide) r b (hp r))
  pointwise [k0_pay1, k0_pay15]
theorem piece3 (hp : ∀ (r : Fin 512) (a : Fin 128), p (ix2 r a) = ((pl X 3 (512 * n + r.val) a.val : ℝ) : EReal)) (j : S512x128.Idx) :
    k0_pay2 (F := Ideal) p (k0_pay15 y) (View.ld w (Rect.unit (s := S4x128x128) ![3, 0, 0] S1x128x128.size inb_S4x128x128_S1x128x128_3_0_0)) (View.ld s (Rect.unit (s := S1x512) ![0, 384] S1x128.size inb_S1x512_S1x128_0_384)) j
      = blkVal X n y w s ((Rect.unit (s := S512x512) ![0, 384] S512x128.size inb_S512x512_S512x128_0_384).emb j) := by
  obtain ⟨r, b, rfl⟩ : ∃ (r : Fin 512) (b : Fin 128), j = ix2 r b := ⟨j 0, j 1, by funext d; fin_cases d <;> rfl⟩
  have ee : (Rect.unit (s := S512x512) ![0, 384] S512x128.size inb_S512x512_S512x128_0_384).emb (ix2 r b) = ix2 r ⟨128 * 3 + b.val, by omega⟩ := by blk_ext
  rw [ee]
  refine Eq.trans ?_ (close X n p y w s 3 (by decide) r b (hp r))
  pointwise [k0_pay2, k0_pay15]
end Piece

/-! ## The blocks -/

abbrev argZ (c : Dev nD) : R16 S8192x5120 := m (c.tc.loc main_arg0)
abbrev argW (c : Dev nD) : R32 S4x128x128 := m (c.tc.loc main_arg1)
abbrev argS (c : Dev nD) : R32 S512 := m (c.tc.loc main_arg2)

/-- Every window's block index at a grid point. -/
theorem idx_val : ∀ t : Fin cfg0.N, win0_0.index t = ![(grid0.coords t 0).val, 5] ∧ win0_1.index t = ![32 * (grid0.coords t 0).val - 1, 5]
    ∧ win0_2.index t = ![(grid0.coords t 0).val, 9] ∧ win0_3.index t = ![0, 0, 0] ∧ win0_4.index t = ![0, 0] ∧ win0_5.index t = ![(grid0.coords t 0).val, 0] :=
  (by decide +kernel : ∀ t : Fin grid0.N, _)
theorem coord_lt (t : Fin cfg0.N) : (grid0.coords t 0).val < 16 := (grid0.coords t 0).isLt

theorem blk0 (c : Dev nD) (t : Fin cfg0.N) (r k : Fin 512) :
    iblk m c 0 t (ix2 r k) = argZ m c (ix2 ⟨512 * (grid0.coords t 0).val + r.val, by have := coord_lt t; omega⟩ ⟨2560 + k.val, by omega⟩) := by
  have := coord_lt t
  blk_ext [iblk, V, (idx_val t).1]
theorem blk1 (c : Dev nD) (t : Fin cfg0.N) (r : Fin 16) (k : Fin 512) :
    iblk m c 1 t (ix2 r k) = argZ m c (ix2 ⟨16 * (32 * (grid0.coords t 0).val - 1) + r.val, by have := coord_lt t; omega⟩ ⟨2560 + k.val, by omega⟩) := by
  have := coord_lt t
  blk_ext [iblk, V, (idx_val t).2.1]
theorem blk2 (c : Dev nD) (t : Fin cfg0.N) (r k : Fin 512) :
    iblk m c 2 t (ix2 r k) = argZ m c (ix2 ⟨512 * (grid0.coords t 0).val + r.val, by have := coord_lt t; omega⟩ ⟨4608 + k.val, by omega⟩) := by
  have := coord_lt t
  blk_ext [iblk, V, (idx_val t).2.2.1]
theorem blk3 (c : Dev nD) (t : Fin cfg0.N) (g : Fin 4) (a b : Fin 128) :
    iblk m c 3 t (ix3 g a b) = argW m c (ix3 g a b) := by
  blk_ext! [iblk, V, (idx_val t).2.2.2.1]
theorem blk4 (c : Dev nD) (t : Fin cfg0.N) (k : Fin 512) :
    iblk m c 4 t (ix2 0 k) = argS m c (ix1 k) := by
  blk_ext! [iblk, V, (idx_val t).2.2.2.2.1]

/-- A block's rows are the kept columns'. -/
theorem rows0 (c : Dev nD) (hz : Fin' (keep (argZ m c))) (t : Fin cfg0.N) (r k : Fin 512) :
    iblk m c 0 t (ix2 r k) = ((colX (keep (argZ m c)) (512 * (grid0.coords t 0).val + r.val) k.val : ℝ) : EReal) :=
  (blk0 m c t r k).trans ((keep_at (argZ m c) _ k).symm.trans (val2_eq hz _ _))
theorem rows1 (c : Dev nD) (hz : Fin' (keep (argZ m c))) (t : Fin cfg0.N) (r : Fin 16) (k : Fin 512) :
    iblk m c 1 t (ix2 r k) = ((colX (keep (argZ m c)) (16 * (32 * (grid0.coords t 0).val - 1) + r.val) k.val : ℝ) : EReal) :=
  (blk1 m c t r k).trans ((keep_at (argZ m c) _ k).symm.trans (val2_eq hz _ _))
theorem rows01 (c : Dev nD) (t : Fin cfg0.N) (h : 0 < (grid0.coords t 0).val) (r k : ℕ) (hr : r < 16) :
    colX (keep (argZ m c)) (16 * (32 * (grid0.coords t 0).val - 1) + r) k = colX (keep (argZ m c)) (512 * (grid0.coords t 0).val + r - 16) k :=
  congrArg (fun u => colX (keep (argZ m c)) u k) (by omega)

theorem gates (i : grid0.Coords) (x0 : Vec Ideal S512x512 .bf16) (x1 : Vec Ideal S16x512 .bf16) (x2 : Vec Ideal S512x512 .bf16) (x3 : Vec Ideal S4x128x128 .bf16) (x4 : Vec Ideal S1x512 .f32) :
    k0_pay18 (F := Ideal) i x0 x1 x2 x3 x4 = k0_pay15 x2 := by
  unfold k0_pay18
  frame_out

set_option maxHeartbeats 2000000 in
/-- The branch's output is the reference's. -/
theorem final0 (c : Dev nD) (hz : Fin' (keep (argZ m c))) : (dats m 0 c).arrAt 5 (cfgs 0).N = ref0 (argZ m c) (argW m c) (argS m c) := by
  refine (dats m 0 c).arrAt_eq_of_covers 5 _ (by decide +kernel) fun t hf y => ?_
  have hi := (idx_val t).2.2.2.2.2
  have hx := rows0 m c hz t
  have hh := rows1 m c hz t
  have h1 := rows01 m c t
  have ht := coord_lt t
  blk_simp; rw [after0_5]
  frame_out
  rw [gates]
  refine (View.canon_apply_of_pieces (Val := Elt Ideal) (S := S512x512) (e := .bf16)
    (fun j => blkVal (colX (keep (argZ m c))) (grid0.coords t 0).val (iblk m c 2 t) (iblk m c 3 t) (iblk m c 4 t) j) _ ?_ y (View.cover_of_tiledBy _ ![512, 128] (by sl_kernel_rfl) y)).trans ?_
  · refine List.forall_mem_cons.mpr ⟨fun x => ?_, List.forall_mem_cons.mpr ⟨fun x => ?_, List.forall_mem_cons.mpr ⟨fun x => ?_, List.forall_mem_cons.mpr ⟨fun x => ?_, by simp⟩⟩⟩⟩
    · exact piece3 (colX (keep (argZ m c))) (grid0.coords t 0).val _ (iblk m c 2 t) (iblk m c 3 t) (iblk m c 4 t) (group3 (grid0.coords t) (iblk m c 0 t) (iblk m c 1 t) _ _ hx hh h1) x
    · exact piece2 (colX (keep (argZ m c))) (grid0.coords t 0).val _ (iblk m c 2 t) (iblk m c 3 t) (iblk m c 4 t) (group2 (grid0.coords t) (iblk m c 0 t) (iblk m c 1 t) _ _ hx hh h1) x
    · exact piece1 (colX (keep (argZ m c))) (grid0.coords t 0).val _ (iblk m c 2 t) (iblk m c 3 t) (iblk m c 4 t) (group1 (grid0.coords t) (iblk m c 0 t) (iblk m c 1 t) _ _ hx hh h1) x
    · exact piece0 (colX (keep (argZ m c))) (grid0.coords t 0).val _ (iblk m c 2 t) (iblk m c 3 t) (iblk m c 4 t) (group0 (grid0.coords t) (iblk m c 0 t) (iblk m c 1 t) _ _ hx hh h1) x
  · obtain ⟨r, k, rfl⟩ : ∃ (r k : Fin 512), y = ix2 r k := ⟨y 0, y 1, by funext d; fin_cases d <;> rfl⟩
    have ee : ((cfgs 0).win 5 |>.blk t).view.emb (ix2 r k) = ix2 ⟨512 * (grid0.coords t 0).val + r.val, by omega⟩ k := by blk_ext [hi]
    refine Eq.trans ?_ (congrArg (ref0 (argZ m c) (argW m c) (argS m c)) ee.symm)
    rw [ref0_at _ _ _ hz]
    refine congrArg₂ (fun p q : EReal => p * q) (congrArg₂ (fun p q : EReal => p * q) (Finset.sum_congr rfl fun a _ => congrArg (fun q : EReal => _ * q) ?_) (blk4 m c t k)) ?_
    · exact blk3 m c t _ _ _
    · exact congrArg (fun q : EReal => q * Ideal.logistic q) (blk2 m c t r k)
end

set_option backward.isDefEq.respectTransparency false
open Idealize.ShloMosaic Idealize.SL.Sem

theorem frame_kernel : quiescent_Kernel11 := fun m ρ _ => Kernel11.Gen.frame m ρ
theorem frame_ideal : quiescent_Kernel11Ideal := fun m ρ _ => Kernel11Ideal.Gen.frame m ρ
theorem frame_reference : quiescent_Reference11Ideal := fun m ρ _ =>
  (θ_run Reference11Ideal.defs _ _).mono (fun _ h => ⟨fun c => (h c).2, sem_eq_zero_of_no_sems (by decide) _⟩) (Reference11Ideal.Value.run m ρ)

theorem frame_ideal_pre : quiescent_Kernel11Ideal_pre_pooled_finite := fun m ρ _ => Kernel11Ideal.Gen.frame m ρ
theorem frame_reference_pre : quiescent_Reference11Ideal_pre_pooled_finite := fun m ρ _ => frame_reference m ρ trivial

/-- Where the pooled columns are finite, the idealized kernel and the idealized reference end with equal results. -/
theorem algebraic : algebraic_Kernel11Ideal_Reference11Ideal_pre_pooled_finite := by
  pair_intro
  · run_from Kernel11Ideal.Gen.run_main m g
  · refine (θ_run Reference11Ideal.defs _ _).mono (fun _ h c => ?_) (Reference11Ideal.Value.run m' g')
    obtain ⟨e0, e1, e2⟩ := hagree c
    refine ⟨((h c).1.trans (res_eq m' c)).trans (Eq.trans ?_ (final0 m c (finite_args _ _ _ (hpre c))).symm), (h c).2⟩
    rw [e0, e1, e2]

end Cert.Lin11
-- ==== Proof.Lin.Claim12.lean ====
/- The norm of the first layer alone: the frames of the kernel as printed and idealized and of the reference, and the equality of their results. -/
module

public import proofs.«01_k».proof.Proof.Gen.Kernel12Ideal.Frame
public import Idealize.ShloMosaic.Lib.Pipeline.ValueKit
public import Idealize.ShloMosaic.Lib.Pipeline.ReadBack
public import proofs.«01_k».proof.Defs
public import proofs.«01_k».proof.Proof.Gen.Kernel12.Frame
public import proofs.«01_k».proof.Proof.Gen.Reference12Ideal.Run

@[expose] public section

set_option maxRecDepth 16384

noncomputable section

namespace Cert.Lin12

section
open Reference12Ideal Reference12Ideal.Gen
open Idealize.ShloMosaic Idealize.ShloMosaic.TcCoe

/-- The rows divided by their root mean square and scaled. -/
def rows (a0 : FVec Ideal S8192x2048 .f32) (a1 : FVec Ideal S2048 .f32) : FVec Ideal S8192x2048 .f32 :=
  mulf (mulf a0 (broadcastInDim S8192x2048 ![0, 1]
    bcast_S8192x1_S8192x2048_0_1 (Host.rsqrt (addf (Host.divf (broadcastInDim S8192x1 ![0] bcast_S8192_S8192x1_0 (Host.reduceAdd (mulf a0 a0)
    (constant S_ .f32 0x00000000#32) reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim S8192x2048 ![0, 1]
    bcast_S1x2048_S8192x2048_0_1 (broadcastInDim S1x2048 ![1] bcast_S2048_S1x2048_1 a1))

/-- The normed rows, as the reference computes them. -/
def ref0 (a0 : FVec Ideal S8192x2048 .f32) (a1 : FVec Ideal S2048 .f32) : FVec Ideal S8192x2048 .bf16 :=
  truncf .bf16 (rows a0 a1) bitsLt_bf16_f32
end

section
open Kernel12Ideal Kernel12Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx_val : ∀ t : Fin cfg0.N, win0_0.index t = ![t.val, 0] ∧ win0_1.index t = ![0, 0] ∧ win0_2.index t = ![t.val, 0] :=
  (by decide +kernel : ∀ t : Fin grid0.N, _)

/-- The normed rows are the reference's. -/
theorem final0 (c : Dev nD) : (dats m 0 c).arrAt 2 (cfgs 0).N = ref0 (m (c.tc.loc main_arg0)) (m (c.tc.loc main_arg1)) := by
  refine (dats m 0 c).arrAt_eq_of_covers 2 _ (by decide +kernel) fun t hf y => ?_
  blk_simp; rw [after0_2]
  frame_out
  pointwise [k0_pay1, ref0, rows]
  blk_point [iblk, V, idx_val t]
end

set_option backward.isDefEq.respectTransparency false
open Idealize.ShloMosaic Idealize.SL.Sem

theorem frame_kernel : quiescent_Kernel12 := fun m ρ _ => Kernel12.Gen.frame m ρ
theorem frame_ideal : quiescent_Kernel12Ideal := fun m ρ _ => Kernel12Ideal.Gen.frame m ρ
theorem frame_reference : quiescent_Reference12Ideal := fun m ρ _ =>
  (θ_run Reference12Ideal.defs _ _).mono (fun _ h => ⟨fun c => (h c).2, sem_eq_zero_of_no_sems (by decide) _⟩) (Reference12Ideal.Value.run m ρ)

/-- The idealized kernel and the idealized reference end with equal results. -/
theorem algebraic : algebraic_Kernel12Ideal_Reference12Ideal := by
  pair_intro
  · run_from Kernel12Ideal.Gen.run_main m g
  · refine (θ_run Reference12Ideal.defs _ _).mono (fun _ h c => ?_) (Reference12Ideal.Value.run m' g')
    obtain ⟨e0, e1⟩ := hagree c
    refine ⟨(h c).1.trans (Eq.trans ?_ (final0 m c).symm), (h c).2⟩
    rw [← e0, ← e1]
    rfl

end Cert.Lin12
-- ==== Proof.Lin.Claim13.lean ====
/- The sum of the four chips' parts: the frames of the kernel as printed and idealized and of the reference, and the equality of their results. -/
module

public import proofs.«01_k».proof.Proof.Gen.Kernel13Ideal.Frame
public import Idealize.ShloMosaic.Lib.Pipeline.ValueKit
public import Idealize.ShloMosaic.Lib.Pipeline.ReadBack
public import proofs.«01_k».proof.Defs
public import proofs.«01_k».proof.Proof.Gen.Kernel13.Frame
public import proofs.«01_k».proof.Proof.Gen.Reference13Ideal.Run

@[expose] public section

set_option maxRecDepth 16384

noncomputable section

namespace Cert.Lin13

section
open Reference13Ideal Reference13Ideal.Gen
open Idealize.ShloMosaic Idealize.ShloMosaic.TcCoe

/-- The sum of the four parts, as the reference computes it. -/
def ref0 (a0 : FVec Ideal S4x1024x1280 .bf16) : FVec Ideal S1024x1280 .f32 :=
  Host.reduceAdd (extf .f32 a0 bitsLt_bf16_f32) (constant S_ .f32 0x00000000#32) reducesTo_S4x1024x1280_S1024x1280_d0 h_S_
end

section
open Kernel13Ideal Kernel13Ideal.Gen
open Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx_val : ∀ t : Fin cfg0.N, win0_0.index t = ![0, t.val, 0] ∧ win0_1.index t = ![t.val, 0] :=
  (by decide +kernel : ∀ t : Fin grid0.N, _)

/-- The sum of the four parts is the reference's. -/
theorem final0 (c : Dev nD) : (dats m 0 c).arrAt 1 (cfgs 0).N = ref0 (m (c.tc.loc main_arg0)) := by
  refine (dats m 0 c).arrAt_eq_of_covers 1 _ (by decide +kernel) fun t hf y => ?_
  blk_simp; rw [after0_1]
  frame_out
  pointwise [k0_pay1, ref0]
  rw [Fin.sum_univ_four]
  blk_point [iblk, V, idx_val t]
end

set_option backward.isDefEq.respectTransparency false
open Idealize.ShloMosaic Idealize.SL.Sem

theorem frame_kernel : quiescent_Kernel13 := fun m ρ _ => Kernel13.Gen.frame m ρ
theorem frame_ideal : quiescent_Kernel13Ideal := fun m ρ _ => Kernel13Ideal.Gen.frame m ρ
theorem frame_reference : quiescent_Reference13Ideal := fun m ρ _ =>
  (θ_run Reference13Ideal.defs _ _).mono (fun _ h => ⟨fun c => (h c).2, sem_eq_zero_of_no_sems (by decide) _⟩) (Reference13Ideal.Value.run m ρ)

/-- The idealized kernel and the idealized reference end with equal results. -/
theorem algebraic : algebraic_Kernel13Ideal_Reference13Ideal := by
  pair_intro
  · run_from Kernel13Ideal.Gen.run_main m g
  · refine (θ_run Reference13Ideal.defs _ _).mono (fun _ h c => ?_) (Reference13Ideal.Value.run m' g')
    obtain e0 := hagree c
    refine ⟨(h c).1.trans (Eq.trans ?_ (final0 m c).symm), (h c).2⟩
    rw [← e0]
    rfl

end Cert.Lin13
-- ==== Proof.Lin.Halves.lean ====
/- Words: a choice by whether two are equal, and the number of a core. -/
module

public import Idealize.ShloMosaic.Lib.Pointwise

@[expose] public section

namespace Cert.Halves

open Idealize.ShloMosaic

theorem sel_pos {α : Type} (x y : BitVec 32) (h : x = y) (a b : α) : Scalar.select (IntOp.cmpi .eq x y) a b = a := by
  subst h; simp [IntOp.cmpi, Scalar.select]
theorem sel_neg {α : Type} (x y : BitVec 32) (h : x ≠ y) (a b : α) : Scalar.select (IntOp.cmpi .eq x y) a b = b := by
  have hb : (x == y) = false := by simpa using h
  simp [IntOp.cmpi, Scalar.select, hb]

/-- A core's number is 0 or 1. -/
abbrev Core (w : BitVec 32) : Prop := w = 0#32 ∨ w = 1#32

theorem core_or (w : BitVec 32) (h : IntOp.cmpi .eq w 0#32 ||| IntOp.cmpi .eq w 1#32 = 1#1) : Core w := by
  by_cases h0 : w = 0#32
  · exact Or.inl h0
  · by_cases h1 : w = 1#32
    · exact Or.inr h1
    · simp only [IntOp.cmpi, beq_eq_false_iff_ne.mpr h0, beq_eq_false_iff_ne.mpr h1] at h
      exact absurd h (by decide)

/-- The number chooses between the halves. -/
theorem own (w : BitVec 32) (h : Core w) : ∃ n : Fin 2, w.toNat = n.val ∧ ∀ {α : Type} (f : Fin 2 → α), Scalar.select (IntOp.cmpi .eq w 0#32) (f 0) (f 1) = f n := by
  rcases h with rfl | rfl
  · exact ⟨0, rfl, fun f => sel_pos _ _ rfl _ _⟩
  · exact ⟨1, rfl, fun f => sel_neg _ _ (by decide) _ _⟩

/-- The only entry of a table of one word. -/
theorem one (x : (⟨1, ![1]⟩ : Shape).Idx) : x = ix1 0 := funext fun a => by fin_cases a; exact Subsingleton.elim (α := Fin 1) _ _

end Cert.Halves
-- ==== Proof.Lin.Claim14.lean ====
/- The sums of a core's half with the one received: the frames of the kernels as printed and idealized and of the references, and the equality of their results. `Lin21` and `Lin22` are `Lin14` at the other sizes. -/
module

public import proofs.«01_k».proof.Defs
public import proofs.«01_k».proof.Proof.Lin.Halves
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import Idealize.ShloMosaic.Lib.Pipeline.ValueKit
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Lin14

open Halves

/-- The half with the core's number plus the one received, rounded to bf16, as the reference computes it. -/
def ref0 (a0 : IVec Reference14Ideal.S1 32) (a1 : FVec Ideal Reference14Ideal.S4x2x1024x1280 .f32) (a2 : FVec Ideal Reference14Ideal.S4x1024x1280 .f32) : FVec Ideal Reference14Ideal.S4x1024x1280 .bf16 :=
  open Reference14Ideal Reference14Ideal.Gen in
  truncf .bf16 (addf (select (broadcastInDim S4x1024x1280 ![] bcast_S_S4x1024x1280 (cmpi .eq (shapeCast _ a0 shapeCasts_S1_S_) (constantI S_ 32 0#32))) (shapeCast _ (extractStridedSlice S4x1x1024x1280 ![0, 0, 0, 0] a1 slices_S4x2x1024x1280_S4x1x1024x1280_0_0_0_0) shapeCasts_S4x1x1024x1280_S4x1024x1280) (shapeCast _ (extractStridedSlice S4x1x1024x1280 ![0, 1, 0, 0] a1 slices_S4x2x1024x1280_S4x1x1024x1280_0_1_0_0) shapeCasts_S4x1x1024x1280_S4x1024x1280)) a2) bitsLt_bf16_f32

instance coreFacts : Pre_core_number.Facts where
  shapeCasts_S1_S_ := by decide

section
open Kernel14Ideal Kernel14Ideal.Gen

/-- The precondition: the core's number is 0 or 1. -/
theorem core {F : FTy → Type} [FloatOps F] (a0 : IVec S1 32) (a1 : FVec F S4x2x1024x1280 .f32) (a2 : FVec F S4x1024x1280 .f32)
    (h : Pre_core_number.fn (F := F) a0 a1 a2 = fun _ => 1#1) : Core (a0 (ix1 0)) := by
  have e : shapeCast Pre_core_number.S_ a0 Pre_core_number.Facts.shapeCasts_S1_S_ ix0 = a0 (ix1 0) := by
    pointwise []
  exact core_or _ (e ▸ congrFun h ix0)

/-- The block of the two halves that a step reads: of its layer, of the half with the core's number. -/
theorem tr0 {F : FTy → Type} [FloatOps F] (pf : pre0.Contents (Elt F)) (w : BitVec 32) (hw : ∀ x : S1.Idx, (pf 0 : IVec S1 32) x = w) (i : grid0.Coords) :
    cc0_transform_0 inb_S1_S1_0 numel1_S1 pf i = ![(i 0).val, w.toNat, (i 1).val, 0] := by
  have e : pf.at 0 (Rect.unit (s := S1) ![0] S1.size inb_S1_S1_0) numel1_S1 = w := hw _
  have h0 : (i 0).val < 4 := (i 0).isLt
  have h1 : (i 1).val < 4 := (i 1).isLt
  have h2 : (i 0).val % 4294967296 = (i 0).val := by omega
  have h3 : (i 1).val % 4294967296 = (i 1).val := by omega
  unfold cc0_transform_0
  simp [e, h2, h3]

/-- That block lies inside the array when the number is 0 or 1. -/
theorem inside (w : BitVec 32) (h : Core w) (i : grid0.Coords) (a : Fin 4) :
    ((![(i 0).val, w.toNat, (i 1).val, 0] : Fin 4 → ℕ) a + 1) * S1x1x256x1280.size a ≤ S4x2x1024x1280.size a := by
  have h0 : (i 0).val < 4 := (i 0).isLt
  have h1 : (i 1).val < 4 := (i 1).isLt
  have hw : w.toNat < 2 := by
    rcases h with h | h <;> rw [h] <;> decide
  fin_cases a
  · show ((i 0).val + 1) * 1 ≤ 4; omega
  · show (w.toNat + 1) * 1 ≤ 2; omega
  · show ((i 1).val + 1) * 256 ≤ 1024; omega
  · show (0 + 1) * 1280 ≤ 1280; omega

theorem ok {F : FTy → Type} [FloatOps F] (m : (ℓ : Loc nD τ sig) → Buf (Elt F) ℓ) (h : Core (m ((0 : Dev nD).tc.loc main_arg0) (ix1 0))) : Ok m :=
  fun i => ⟨fun a => (congrArg (fun n : ℕ => (n + 1) * S1x1x256x1280.size a) (congrFun (tr0 (tbl m) _ (fun x => by rw [one x]; rfl) i) a)).trans_le (inside _ h i a), Or.inl rfl⟩

theorem ref0_at (a0 : IVec S1 32) (a1 : FVec Ideal S4x2x1024x1280 .f32) (a2 : FVec Ideal S4x1024x1280 .f32) (l : Fin 4) (r : Fin 1024) (k : Fin 1280) :
    ref0 a0 a1 a2 (ix3 l r k) = Scalar.select (IntOp.cmpi .eq (a0 (ix1 0)) 0#32) (a1 (ix4 l 0 r k)) (a1 (ix4 l 1 r k)) + a2 (ix3 l r k) := by
  pointwise [ref0]

/-- Every block of the result is some step's. -/
theorem surj : ∀ β : (a : Fin 3) → Fin (![4, 4, 1] a), ∃ t : Fin grid0.N, cc0_transform_2 (grid0.coords t) = fun a => (β a).val := by decide +kernel

variable (m : (ℓ : Loc nD τ sig) → Buf (Elt Ideal) ℓ)

theorem covers (hO : Ok m) : ((cfgM m hO).win 2).Covers := by
  have e : ∀ a : Fin 3, ((cfgM m hO).win 2).nblk a = (![4, 4, 1] : Fin 3 → ℕ) a :=
    fun a => (by decide : ∀ a : Fin 3, (S4x1024x1280.size a + S1x256x1280.size a - 1) / S1x256x1280.size a = (![4, 4, 1] : Fin 3 → ℕ) a) a
  refine Pipeline.Window.covers_of_index_surj _ rfl (fun a => (by decide : ∀ a : Fin 3, 0 < S1x256x1280.size a) a) fun β => ?_
  obtain ⟨t, ht⟩ := surj (fun a : Fin 3 => (β a).cast (e a))
  exact ⟨t, fun a => (congrFun ht a)⟩

theorem gen (c : Dev nD) (i : grid0.Coords) (a3 : Memref sig .tc .vmem S1x1x256x1280 .f32) (h3 : a3.IsWhole) (a4 : Memref sig .tc .vmem S1x256x1280 .f32) (h4 : a4.IsWhole) (a5 : Memref sig .tc .vmem S1x256x1280 .bf16) (h5 : a5.IsWhole) (x0 : Vec Ideal S1x1x256x1280 .f32) (x1 : Vec Ideal S1x256x1280 .f32) (xt0 : TbBuf0 (F := Ideal) c tbM0_0) :
    out0_A_2 c i a3 h3 a4 h4 a5 h5 x0 x1 xt0 = k0_pay1 x0 x1 := by
  frame_out

/-- The row of the half that row `p` of block `i` is. -/
abbrev row (i : Fin 4) (p : Fin 256) : Fin 1024 := ⟨256 * i.val + p.val, by omega⟩

section
variable (hO : Ok m) (c : Dev nD) (t : Fin (cfgM m hO).N) (l : Fin 4) (n : Fin 2) (i : Fin 4) (p : Fin 256) (q : Fin 1280)
theorem blk0 (e : ((cfgM m hO).win 0).index t = ![l.val, n.val, i.val, 0]) : iblk m hO c 0 t (ix4 0 0 p q) = m (c.tc.loc main_arg1) (ix4 l n (row i p) q) := by
  blk_point [iblk, V, e]
theorem blk1 (e : ((cfgM m hO).win 1).index t = ![l.val, i.val, 0]) : iblk m hO c 1 t (ix3 0 p q) = m (c.tc.loc main_arg2) (ix3 l (row i p) q) := by
  blk_point [iblk, V, e]
end

/-- Where a step's blocks lie. -/
theorem idx : ∀ t : Fin grid0.N, ∃ (l : Fin 4) (i : Fin 4), (grid0.coords t 0).val = l.val ∧ (grid0.coords t 1).val = i.val
    ∧ cc0_transform_1 (grid0.coords t) = ![l.val, i.val, 0] ∧ cc0_transform_2 (grid0.coords t) = ![l.val, i.val, 0] := by decide +kernel

theorem full (y : S1x256x1280.Idx) : ∃ (p : Fin 256) (q : Fin 1280), y = (ix3 0 p q : S1x256x1280.Idx) :=
  ⟨y 1, y 2, funext fun a => by fin_cases a <;> first | rfl | exact Subsingleton.elim (α := Fin 1) _ _⟩

theorem step (x0 : Vec Ideal S1x1x256x1280 .f32) (x1 : Vec Ideal S1x256x1280 .f32) (p : Fin 256) (q : Fin 1280) (a b : EReal) (h0 : x0 (ix4 0 0 p q) = a) (h1 : x1 (ix3 0 p q) = b) :
    k0_pay1 x0 x1 (ix3 0 p q) = a + b := by
  subst h0 h1
  pointwise [k0_pay1]

set_option maxHeartbeats 1000000 in
/-- The array the call leaves is the reference's sum. -/
theorem final0 (hO : Ok m) (c : Dev nD) (h : Core (m (c.tc.loc main_arg0) (ix1 0))) :
    (dats m hO 0 c).arrAt 2 (cfgM m hO).N = ref0 (m (c.tc.loc main_arg0)) (m (c.tc.loc main_arg1)) (m (c.tc.loc main_arg2)) := by
  obtain rfl : c = 0 := Subsingleton.elim _ _
  refine (dats m hO 0 0).arrAt_eq_of_covers 2 _ (covers m hO) fun t hf y => ?_
  blk_simp; rw [after0_2, show outsAt0 m hO 0 t = k0_pay1 (F := Ideal) (iblk m hO 0 0 t) (iblk m hO 0 1 t) from gen ..]
  obtain ⟨l, i, e0, e1, e2, ei⟩ := idx t
  obtain ⟨p, q, rfl⟩ := full y
  have hi : (pcfg0.win (adm m hO) 2).index t = ![l.val, i.val, 0] := ei
  have ey : ((((spec0 2).arr.view.slice ((pcfg0.win (adm m hO) 2).rect t)).emb (ix3 0 p q : S1x256x1280.Idx)) : S4x1024x1280.Idx) = ix3 l (row i p) q := by
    blk_ext [hi]
  obtain ⟨n, hn, ho⟩ := own _ h
  have et : cc0_transform_0 inb_S1_S1_0 numel1_S1 (tbl m) (grid0.coords t) = ![l.val, n.val, i.val, 0] :=
    (tr0 (tbl m) _ (fun x => by rw [one x]; rfl) (grid0.coords t)).trans (by rw [e0, e1, ← hn]; rfl)
  refine (step (iblk m hO 0 0 t) (iblk m hO 0 1 t) p q _ _ (blk0 m hO 0 t l n i p q et) (blk1 m hO 0 t l i p q e2)).trans ?_
  refine Eq.trans ?_ (congrArg (ref0 (m ((0 : Dev nD).tc.loc main_arg0)) (m ((0 : Dev nD).tc.loc main_arg1)) (m ((0 : Dev nD).tc.loc main_arg2))) ey.symm)
  rw [ref0_at]
  exact congrArg (· + _) (ho fun n => (m ((0 : Dev nD).tc.loc main_arg1) : Vec Ideal S4x2x1024x1280 .f32) (ix4 l n (row i p) q)).symm
end

/-- The window of the kernel as printed stays inside its array too. -/
theorem okBits (m : (ℓ : Loc Kernel14.nD Kernel14.τ Kernel14.sig) → Buf (Elt Bits) ℓ)
    (h : Core (m (((0 : Dev Kernel14.nD).tc : Thread Kernel14.nD Kernel14.τ).loc Kernel14.main_arg0) (ix1 0))) : Kernel14.Gen.Ok m :=
  fun i => ⟨fun a => (congrArg (fun n : ℕ => (n + 1) * Kernel14Ideal.S1x1x256x1280.size a) (congrFun (tr0 (Kernel14.Gen.tbl m) _ (fun x => by rw [one x]; rfl) i) a)).trans_le (inside _ h i a), Or.inl rfl⟩

theorem frame_kernel : quiescent_Kernel14 := fun m ρ h => Kernel14.Gen.frame m ρ (okBits m (core _ _ _ (h 0)))
theorem frame_ideal : quiescent_Kernel14Ideal := fun m ρ h => Kernel14Ideal.Gen.frame m ρ (ok m (core _ _ _ (h 0)))
theorem frame_reference : quiescent_Reference14Ideal := fun m ρ _ =>
  (θ_run Reference14Ideal.defs _ _).mono (fun _ h => ⟨fun c => (h c).2, sem_eq_zero_of_no_sems (by decide) _⟩) (Reference14Ideal.Value.run m ρ)
theorem frame_reference_pre : quiescent_Reference14Ideal_pre_core_number := fun m ρ _ => frame_reference m ρ trivial

set_option backward.isDefEq.respectTransparency false in
/-- Where the core's number is 0 or 1, the idealized kernel and the idealized reference end with equal results. -/
theorem algebraic : algebraic_Kernel14Ideal_Reference14Ideal := by
  pair_intro
  · run_from Kernel14Ideal.Gen.run_main m g (ok m (core _ _ _ (hpre 0)))
    exact (hc.2 Kernel14Ideal.main_arg0 (by decide : Kernel14Ideal.main_arg0 ∈ Pipeline.restRefs Kernel14Ideal.sig Kernel14Ideal.spec0)).trans (Kernel14Ideal.Gen.V_main_arg0 m c)
  · refine (θ_run Reference14Ideal.defs _ _).mono (fun _ h c => ?_) (Reference14Ideal.Value.run m' g')
    obtain ⟨e0, e1, e2⟩ := hagree c
    refine ⟨(h c).1.trans (Eq.trans ?_ (final0 m (ok m (core _ _ _ (hpre 0))) c (core _ _ _ (hpre c))).symm), (h c).2⟩
    rw [← e0, ← e1, ← e2]
    rfl

end Cert.Lin14

namespace Cert.Lin21

open Halves

def ref0 (a0 : IVec Reference21Ideal.S1 32) (a1 : FVec Ideal Reference21Ideal.S4x2x256x2048 .f32) (a2 : FVec Ideal Reference21Ideal.S4x256x2048 .f32) : FVec Ideal Reference21Ideal.S4x256x2048 .bf16 :=
  open Reference21Ideal Reference21Ideal.Gen in
  truncf .bf16 (addf (select (broadcastInDim S4x256x2048 ![] bcast_S_S4x256x2048 (cmpi .eq (shapeCast _ a0 shapeCasts_S1_S_) (constantI S_ 32 0#32))) (shapeCast _ (extractStridedSlice S4x1x256x2048 ![0, 0, 0, 0] a1 slices_S4x2x256x2048_S4x1x256x2048_0_0_0_0) shapeCasts_S4x1x256x2048_S4x256x2048) (shapeCast _ (extractStridedSlice S4x1x256x2048 ![0, 1, 0, 0] a1 slices_S4x2x256x2048_S4x1x256x2048_0_1_0_0) shapeCasts_S4x1x256x2048_S4x256x2048)) a2) bitsLt_bf16_f32

instance coreFacts : Pre_core_number21.Facts where
  shapeCasts_S1_S_ := by decide

section
open Kernel21Ideal Kernel21Ideal.Gen

theorem core {F : FTy → Type} [FloatOps F] (a0 : IVec S1 32) (a1 : FVec F S4x2x256x2048 .f32) (a2 : FVec F S4x256x2048 .f32)
    (h : Pre_core_number21.fn (F := F) a0 a1 a2 = fun _ => 1#1) : Core (a0 (ix1 0)) := by
  have e : shapeCast Pre_core_number21.S_ a0 Pre_core_number21.Facts.shapeCasts_S1_S_ ix0 = a0 (ix1 0) := by
    pointwise []
  exact core_or _ (e ▸ congrFun h ix0)

theorem tr0 {F : FTy → Type} [FloatOps F] (pf : pre0.Contents (Elt F)) (w : BitVec 32) (hw : ∀ x : S1.Idx, (pf 0 : IVec S1 32) x = w) (i : grid0.Coords) :
    cc0_transform_0 inb_S1_S1_0 numel1_S1 pf i = ![(i 0).val, w.toNat, (i 1).val, 0] := by
  have e : pf.at 0 (Rect.unit (s := S1) ![0] S1.size inb_S1_S1_0) numel1_S1 = w := hw _
  have h0 : (i 0).val < 4 := (i 0).isLt
  have h1 : (i 1).val < 1 := (i 1).isLt
  have h2 : (i 0).val % 4294967296 = (i 0).val := by omega
  have h3 : (i 1).val % 4294967296 = (i 1).val := by omega
  unfold cc0_transform_0
  simp [e, h2, h3]

theorem inside (w : BitVec 32) (h : Core w) (i : grid0.Coords) (a : Fin 4) :
    ((![(i 0).val, w.toNat, (i 1).val, 0] : Fin 4 → ℕ) a + 1) * S1x1x256x2048.size a ≤ S4x2x256x2048.size a := by
  have h0 : (i 0).val < 4 := (i 0).isLt
  have h1 : (i 1).val < 1 := (i 1).isLt
  have hw : w.toNat < 2 := by
    rcases h with h | h <;> rw [h] <;> decide
  fin_cases a
  · show ((i 0).val + 1) * 1 ≤ 4; omega
  · show (w.toNat + 1) * 1 ≤ 2; omega
  · show ((i 1).val + 1) * 256 ≤ 256; omega
  · show (0 + 1) * 2048 ≤ 2048; omega

theorem ok {F : FTy → Type} [FloatOps F] (m : (ℓ : Loc nD τ sig) → Buf (Elt F) ℓ) (h : Core (m ((0 : Dev nD).tc.loc main_arg0) (ix1 0))) : Ok m :=
  fun i => ⟨fun a => (congrArg (fun n : ℕ => (n + 1) * S1x1x256x2048.size a) (congrFun (tr0 (tbl m) _ (fun x => by rw [one x]; rfl) i) a)).trans_le (inside _ h i a), Or.inl rfl⟩

theorem ref0_at (a0 : IVec S1 32) (a1 : FVec Ideal S4x2x256x2048 .f32) (a2 : FVec Ideal S4x256x2048 .f32) (l : Fin 4) (r : Fin 256) (k : Fin 2048) :
    ref0 a0 a1 a2 (ix3 l r k) = Scalar.select (IntOp.cmpi .eq (a0 (ix1 0)) 0#32) (a1 (ix4 l 0 r k)) (a1 (ix4 l 1 r k)) + a2 (ix3 l r k) := by
  pointwise [ref0]

theorem surj : ∀ β : (a : Fin 3) → Fin (![4, 1, 1] a), ∃ t : Fin grid0.N, cc0_transform_2 (grid0.coords t) = fun a => (β a).val := by decide +kernel

variable (m : (ℓ : Loc nD τ sig) → Buf (Elt Ideal) ℓ)

theorem covers (hO : Ok m) : ((cfgM m hO).win 2).Covers := by
  have e : ∀ a : Fin 3, ((cfgM m hO).win 2).nblk a = (![4, 1, 1] : Fin 3 → ℕ) a :=
    fun a => (by decide : ∀ a : Fin 3, (S4x256x2048.size a + S1x256x2048.size a - 1) / S1x256x2048.size a = (![4, 1, 1] : Fin 3 → ℕ) a) a
  refine Pipeline.Window.covers_of_index_surj _ rfl (fun a => (by decide : ∀ a : Fin 3, 0 < S1x256x2048.size a) a) fun β => ?_
  obtain ⟨t, ht⟩ := surj (fun a : Fin 3 => (β a).cast (e a))
  exact ⟨t, fun a => (congrFun ht a)⟩

theorem gen (c : Dev nD) (i : grid0.Coords) (a3 : Memref sig .tc .vmem S1x1x256x2048 .f32) (h3 : a3.IsWhole) (a4 : Memref sig .tc .vmem S1x256x2048 .f32) (h4 : a4.IsWhole) (a5 : Memref sig .tc .vmem S1x256x2048 .bf16) (h5 : a5.IsWhole) (x0 : Vec Ideal S1x1x256x2048 .f32) (x1 : Vec Ideal S1x256x2048 .f32) (xt0 : TbBuf0 (F := Ideal) c tbM0_0) :
    out0_A_2 c i a3 h3 a4 h4 a5 h5 x0 x1 xt0 = k0_pay1 x0 x1 := by
  frame_out

abbrev row (i : Fin 1) (p : Fin 256) : Fin 256 := ⟨256 * i.val + p.val, by omega⟩

section
variable (hO : Ok m) (c : Dev nD) (t : Fin (cfgM m hO).N) (l : Fin 4) (n : Fin 2) (i : Fin 1) (p : Fin 256) (q : Fin 2048)
theorem blk0 (e : ((cfgM m hO).win 0).index t = ![l.val, n.val, i.val, 0]) : iblk m hO c 0 t (ix4 0 0 p q) = m (c.tc.loc main_arg1) (ix4 l n (row i p) q) := by
  blk_point [iblk, V, e]
theorem blk1 (e : ((cfgM m hO).win 1).index t = ![l.val, i.val, 0]) : iblk m hO c 1 t (ix3 0 p q) = m (c.tc.loc main_arg2) (ix3 l (row i p) q) := by
  blk_point [iblk, V, e]
end

theorem idx : ∀ t : Fin grid0.N, ∃ (l : Fin 4) (i : Fin 1), (grid0.coords t 0).val = l.val ∧ (grid0.coords t 1).val = i.val
    ∧ cc0_transform_1 (grid0.coords t) = ![l.val, i.val, 0] ∧ cc0_transform_2 (grid0.coords t) = ![l.val, i.val, 0] := by decide +kernel

theorem full (y : S1x256x2048.Idx) : ∃ (p : Fin 256) (q : Fin 2048), y = (ix3 0 p q : S1x256x2048.Idx) :=
  ⟨y 1, y 2, funext fun a => by fin_cases a <;> first | rfl | exact Subsingleton.elim (α := Fin 1) _ _⟩

theorem step (x0 : Vec Ideal S1x1x256x2048 .f32) (x1 : Vec Ideal S1x256x2048 .f32) (p : Fin 256) (q : Fin 2048) (a b : EReal) (h0 : x0 (ix4 0 0 p q) = a) (h1 : x1 (ix3 0 p q) = b) :
    k0_pay1 x0 x1 (ix3 0 p q) = a + b := by
  subst h0 h1
  pointwise [k0_pay1]

set_option maxHeartbeats 1000000 in
theorem final0 (hO : Ok m) (c : Dev nD) (h : Core (m (c.tc.loc main_arg0) (ix1 0))) :
    (dats m hO 0 c).arrAt 2 (cfgM m hO).N = ref0 (m (c.tc.loc main_arg0)) (m (c.tc.loc main_arg1)) (m (c.tc.loc main_arg2)) := by
  obtain rfl : c = 0 := Subsingleton.elim _ _
  refine (dats m hO 0 0).arrAt_eq_of_covers 2 _ (covers m hO) fun t hf y => ?_
  blk_simp; rw [after0_2, show outsAt0 m hO 0 t = k0_pay1 (F := Ideal) (iblk m hO 0 0 t) (iblk m hO 0 1 t) from gen ..]
  obtain ⟨l, i, e0, e1, e2, ei⟩ := idx t
  obtain ⟨p, q, rfl⟩ := full y
  have hi : (pcfg0.win (adm m hO) 2).index t = ![l.val, i.val, 0] := ei
  have ey : ((((spec0 2).arr.view.slice ((pcfg0.win (adm m hO) 2).rect t)).emb (ix3 0 p q : S1x256x2048.Idx)) : S4x256x2048.Idx) = ix3 l (row i p) q := by
    blk_ext [hi]
  obtain ⟨n, hn, ho⟩ := own _ h
  have et : cc0_transform_0 inb_S1_S1_0 numel1_S1 (tbl m) (grid0.coords t) = ![l.val, n.val, i.val, 0] :=
    (tr0 (tbl m) _ (fun x => by rw [one x]; rfl) (grid0.coords t)).trans (by rw [e0, e1, ← hn]; rfl)
  refine (step (iblk m hO 0 0 t) (iblk m hO 0 1 t) p q _ _ (blk0 m hO 0 t l n i p q et) (blk1 m hO 0 t l i p q e2)).trans ?_
  refine Eq.trans ?_ (congrArg (ref0 (m ((0 : Dev nD).tc.loc main_arg0)) (m ((0 : Dev nD).tc.loc main_arg1)) (m ((0 : Dev nD).tc.loc main_arg2))) ey.symm)
  rw [ref0_at]
  exact congrArg (· + _) (ho fun n => (m ((0 : Dev nD).tc.loc main_arg1) : Vec Ideal S4x2x256x2048 .f32) (ix4 l n (row i p) q)).symm
end

theorem okBits (m : (ℓ : Loc Kernel21.nD Kernel21.τ Kernel21.sig) → Buf (Elt Bits) ℓ)
    (h : Core (m (((0 : Dev Kernel21.nD).tc : Thread Kernel21.nD Kernel21.τ).loc Kernel21.main_arg0) (ix1 0))) : Kernel21.Gen.Ok m :=
  fun i => ⟨fun a => (congrArg (fun n : ℕ => (n + 1) * Kernel21Ideal.S1x1x256x2048.size a) (congrFun (tr0 (Kernel21.Gen.tbl m) _ (fun x => by rw [one x]; rfl) i) a)).trans_le (inside _ h i a), Or.inl rfl⟩

theorem frame_kernel : quiescent_Kernel21 := fun m ρ h => Kernel21.Gen.frame m ρ (okBits m (core _ _ _ (h 0)))
theorem frame_ideal : quiescent_Kernel21Ideal := fun m ρ h => Kernel21Ideal.Gen.frame m ρ (ok m (core _ _ _ (h 0)))
theorem frame_reference : quiescent_Reference21Ideal := fun m ρ _ =>
  (θ_run Reference21Ideal.defs _ _).mono (fun _ h => ⟨fun c => (h c).2, sem_eq_zero_of_no_sems (by decide) _⟩) (Reference21Ideal.Value.run m ρ)
theorem frame_reference_pre : quiescent_Reference21Ideal_pre_core_number21 := fun m ρ _ => frame_reference m ρ trivial

set_option backward.isDefEq.respectTransparency false in
theorem algebraic : algebraic_Kernel21Ideal_Reference21Ideal := by
  pair_intro
  · run_from Kernel21Ideal.Gen.run_main m g (ok m (core _ _ _ (hpre 0)))
    exact (hc.2 Kernel21Ideal.main_arg0 (by decide : Kernel21Ideal.main_arg0 ∈ Pipeline.restRefs Kernel21Ideal.sig Kernel21Ideal.spec0)).trans (Kernel21Ideal.Gen.V_main_arg0 m c)
  · refine (θ_run Reference21Ideal.defs _ _).mono (fun _ h c => ?_) (Reference21Ideal.Value.run m' g')
    obtain ⟨e0, e1, e2⟩ := hagree c
    refine ⟨(h c).1.trans (Eq.trans ?_ (final0 m (ok m (core _ _ _ (hpre 0))) c (core _ _ _ (hpre c))).symm), (h c).2⟩
    rw [← e0, ← e1, ← e2]
    rfl

end Cert.Lin21

namespace Cert.Lin22

open Halves

def ref0 (a0 : IVec Reference22Ideal.S1 32) (a1 : FVec Ideal Reference22Ideal.S4x2x64x512 .f32) (a2 : FVec Ideal Reference22Ideal.S4x64x512 .f32) : FVec Ideal Reference22Ideal.S4x64x512 .bf16 :=
  open Reference22Ideal Reference22Ideal.Gen in
  truncf .bf16 (addf (select (broadcastInDim S4x64x512 ![] bcast_S_S4x64x512 (cmpi .eq (shapeCast _ a0 shapeCasts_S1_S_) (constantI S_ 32 0#32))) (shapeCast _ (extractStridedSlice S4x1x64x512 ![0, 0, 0, 0] a1 slices_S4x2x64x512_S4x1x64x512_0_0_0_0) shapeCasts_S4x1x64x512_S4x64x512) (shapeCast _ (extractStridedSlice S4x1x64x512 ![0, 1, 0, 0] a1 slices_S4x2x64x512_S4x1x64x512_0_1_0_0) shapeCasts_S4x1x64x512_S4x64x512)) a2) bitsLt_bf16_f32

instance coreFacts : Pre_core_number22.Facts where
  shapeCasts_S1_S_ := by decide

section
open Kernel22Ideal Kernel22Ideal.Gen

theorem core {F : FTy → Type} [FloatOps F] (a0 : IVec S1 32) (a1 : FVec F S4x2x64x512 .f32) (a2 : FVec F S4x64x512 .f32)
    (h : Pre_core_number22.fn (F := F) a0 a1 a2 = fun _ => 1#1) : Core (a0 (ix1 0)) := by
  have e : shapeCast Pre_core_number22.S_ a0 Pre_core_number22.Facts.shapeCasts_S1_S_ ix0 = a0 (ix1 0) := by
    pointwise []
  exact core_or _ (e ▸ congrFun h ix0)

theorem tr0 {F : FTy → Type} [FloatOps F] (pf : pre0.Contents (Elt F)) (w : BitVec 32) (hw : ∀ x : S1.Idx, (pf 0 : IVec S1 32) x = w) (i : grid0.Coords) :
    cc0_transform_0 inb_S1_S1_0 numel1_S1 pf i = ![(i 0).val, w.toNat, (i 1).val, 0] := by
  have e : pf.at 0 (Rect.unit (s := S1) ![0] S1.size inb_S1_S1_0) numel1_S1 = w := hw _
  have h0 : (i 0).val < 4 := (i 0).isLt
  have h1 : (i 1).val < 1 := (i 1).isLt
  have h2 : (i 0).val % 4294967296 = (i 0).val := by omega
  have h3 : (i 1).val % 4294967296 = (i 1).val := by omega
  unfold cc0_transform_0
  simp [e, h2, h3]

theorem inside (w : BitVec 32) (h : Core w) (i : grid0.Coords) (a : Fin 4) :
    ((![(i 0).val, w.toNat, (i 1).val, 0] : Fin 4 → ℕ) a + 1) * S1x1x64x512.size a ≤ S4x2x64x512.size a := by
  have h0 : (i 0).val < 4 := (i 0).isLt
  have h1 : (i 1).val < 1 := (i 1).isLt
  have hw : w.toNat < 2 := by
    rcases h with h | h <;> rw [h] <;> decide
  fin_cases a
  · show ((i 0).val + 1) * 1 ≤ 4; omega
  · show (w.toNat + 1) * 1 ≤ 2; omega
  · show ((i 1).val + 1) * 64 ≤ 64; omega
  · show (0 + 1) * 512 ≤ 512; omega

theorem ok {F : FTy → Type} [FloatOps F] (m : (ℓ : Loc nD τ sig) → Buf (Elt F) ℓ) (h : Core (m ((0 : Dev nD).tc.loc main_arg0) (ix1 0))) : Ok m :=
  fun i => ⟨fun a => (congrArg (fun n : ℕ => (n + 1) * S1x1x64x512.size a) (congrFun (tr0 (tbl m) _ (fun x => by rw [one x]; rfl) i) a)).trans_le (inside _ h i a), Or.inl rfl⟩

theorem ref0_at (a0 : IVec S1 32) (a1 : FVec Ideal S4x2x64x512 .f32) (a2 : FVec Ideal S4x64x512 .f32) (l : Fin 4) (r : Fin 64) (k : Fin 512) :
    ref0 a0 a1 a2 (ix3 l r k) = Scalar.select (IntOp.cmpi .eq (a0 (ix1 0)) 0#32) (a1 (ix4 l 0 r k)) (a1 (ix4 l 1 r k)) + a2 (ix3 l r k) := by
  pointwise [ref0]

theorem surj : ∀ β : (a : Fin 3) → Fin (![4, 1, 1] a), ∃ t : Fin grid0.N, cc0_transform_2 (grid0.coords t) = fun a => (β a).val := by decide +kernel

variable (m : (ℓ : Loc nD τ sig) → Buf (Elt Ideal) ℓ)

theorem covers (hO : Ok m) : ((cfgM m hO).win 2).Covers := by
  have e : ∀ a : Fin 3, ((cfgM m hO).win 2).nblk a = (![4, 1, 1] : Fin 3 → ℕ) a :=
    fun a => (by decide : ∀ a : Fin 3, (S4x64x512.size a + S1x64x512.size a - 1) / S1x64x512.size a = (![4, 1, 1] : Fin 3 → ℕ) a) a
  refine Pipeline.Window.covers_of_index_surj _ rfl (fun a => (by decide : ∀ a : Fin 3, 0 < S1x64x512.size a) a) fun β => ?_
  obtain ⟨t, ht⟩ := surj (fun a : Fin 3 => (β a).cast (e a))
  exact ⟨t, fun a => (congrFun ht a)⟩

theorem gen (c : Dev nD) (i : grid0.Coords) (a3 : Memref sig .tc .vmem S1x1x64x512 .f32) (h3 : a3.IsWhole) (a4 : Memref sig .tc .vmem S1x64x512 .f32) (h4 : a4.IsWhole) (a5 : Memref sig .tc .vmem S1x64x512 .bf16) (h5 : a5.IsWhole) (x0 : Vec Ideal S1x1x64x512 .f32) (x1 : Vec Ideal S1x64x512 .f32) (xt0 : TbBuf0 (F := Ideal) c tbM0_0) :
    out0_A_2 c i a3 h3 a4 h4 a5 h5 x0 x1 xt0 = k0_pay1 x0 x1 := by
  frame_out

abbrev row (i : Fin 1) (p : Fin 64) : Fin 64 := ⟨64 * i.val + p.val, by omega⟩

section
variable (hO : Ok m) (c : Dev nD) (t : Fin (cfgM m hO).N) (l : Fin 4) (n : Fin 2) (i : Fin 1) (p : Fin 64) (q : Fin 512)
theorem blk0 (e : ((cfgM m hO).win 0).index t = ![l.val, n.val, i.val, 0]) : iblk m hO c 0 t (ix4 0 0 p q) = m (c.tc.loc main_arg1) (ix4 l n (row i p) q) := by
  blk_point [iblk, V, e]
theorem blk1 (e : ((cfgM m hO).win 1).index t = ![l.val, i.val, 0]) : iblk m hO c 1 t (ix3 0 p q) = m (c.tc.loc main_arg2) (ix3 l (row i p) q) := by
  blk_point [iblk, V, e]
end

theorem idx : ∀ t : Fin grid0.N, ∃ (l : Fin 4) (i : Fin 1), (grid0.coords t 0).val = l.val ∧ (grid0.coords t 1).val = i.val
    ∧ cc0_transform_1 (grid0.coords t) = ![l.val, i.val, 0] ∧ cc0_transform_2 (grid0.coords t) = ![l.val, i.val, 0] := by decide +kernel

theorem full (y : S1x64x512.Idx) : ∃ (p : Fin 64) (q : Fin 512), y = (ix3 0 p q : S1x64x512.Idx) :=
  ⟨y 1, y 2, funext fun a => by fin_cases a <;> first | rfl | exact Subsingleton.elim (α := Fin 1) _ _⟩

theorem step (x0 : Vec Ideal S1x1x64x512 .f32) (x1 : Vec Ideal S1x64x512 .f32) (p : Fin 64) (q : Fin 512) (a b : EReal) (h0 : x0 (ix4 0 0 p q) = a) (h1 : x1 (ix3 0 p q) = b) :
    k0_pay1 x0 x1 (ix3 0 p q) = a + b := by
  subst h0 h1
  pointwise [k0_pay1]

set_option maxHeartbeats 1000000 in
theorem final0 (hO : Ok m) (c : Dev nD) (h : Core (m (c.tc.loc main_arg0) (ix1 0))) :
    (dats m hO 0 c).arrAt 2 (cfgM m hO).N = ref0 (m (c.tc.loc main_arg0)) (m (c.tc.loc main_arg1)) (m (c.tc.loc main_arg2)) := by
  obtain rfl : c = 0 := Subsingleton.elim _ _
  refine (dats m hO 0 0).arrAt_eq_of_covers 2 _ (covers m hO) fun t hf y => ?_
  blk_simp; rw [after0_2, show outsAt0 m hO 0 t = k0_pay1 (F := Ideal) (iblk m hO 0 0 t) (iblk m hO 0 1 t) from gen ..]
  obtain ⟨l, i, e0, e1, e2, ei⟩ := idx t
  obtain ⟨p, q, rfl⟩ := full y
  have hi : (pcfg0.win (adm m hO) 2).index t = ![l.val, i.val, 0] := ei
  have ey : ((((spec0 2).arr.view.slice ((pcfg0.win (adm m hO) 2).rect t)).emb (ix3 0 p q : S1x64x512.Idx)) : S4x64x512.Idx) = ix3 l (row i p) q := by
    blk_ext [hi]
  obtain ⟨n, hn, ho⟩ := own _ h
  have et : cc0_transform_0 inb_S1_S1_0 numel1_S1 (tbl m) (grid0.coords t) = ![l.val, n.val, i.val, 0] :=
    (tr0 (tbl m) _ (fun x => by rw [one x]; rfl) (grid0.coords t)).trans (by rw [e0, e1, ← hn]; rfl)
  refine (step (iblk m hO 0 0 t) (iblk m hO 0 1 t) p q _ _ (blk0 m hO 0 t l n i p q et) (blk1 m hO 0 t l i p q e2)).trans ?_
  refine Eq.trans ?_ (congrArg (ref0 (m ((0 : Dev nD).tc.loc main_arg0)) (m ((0 : Dev nD).tc.loc main_arg1)) (m ((0 : Dev nD).tc.loc main_arg2))) ey.symm)
  rw [ref0_at]
  exact congrArg (· + _) (ho fun n => (m ((0 : Dev nD).tc.loc main_arg1) : Vec Ideal S4x2x64x512 .f32) (ix4 l n (row i p) q)).symm
end

theorem okBits (m : (ℓ : Loc Kernel22.nD Kernel22.τ Kernel22.sig) → Buf (Elt Bits) ℓ)
    (h : Core (m (((0 : Dev Kernel22.nD).tc : Thread Kernel22.nD Kernel22.τ).loc Kernel22.main_arg0) (ix1 0))) : Kernel22.Gen.Ok m :=
  fun i => ⟨fun a => (congrArg (fun n : ℕ => (n + 1) * Kernel22Ideal.S1x1x64x512.size a) (congrFun (tr0 (Kernel22.Gen.tbl m) _ (fun x => by rw [one x]; rfl) i) a)).trans_le (inside _ h i a), Or.inl rfl⟩

theorem frame_kernel : quiescent_Kernel22 := fun m ρ h => Kernel22.Gen.frame m ρ (okBits m (core _ _ _ (h 0)))
theorem frame_ideal : quiescent_Kernel22Ideal := fun m ρ h => Kernel22Ideal.Gen.frame m ρ (ok m (core _ _ _ (h 0)))
theorem frame_reference : quiescent_Reference22Ideal := fun m ρ _ =>
  (θ_run Reference22Ideal.defs _ _).mono (fun _ h => ⟨fun c => (h c).2, sem_eq_zero_of_no_sems (by decide) _⟩) (Reference22Ideal.Value.run m ρ)
theorem frame_reference_pre : quiescent_Reference22Ideal_pre_core_number22 := fun m ρ _ => frame_reference m ρ trivial

set_option backward.isDefEq.respectTransparency false in
theorem algebraic : algebraic_Kernel22Ideal_Reference22Ideal := by
  pair_intro
  · run_from Kernel22Ideal.Gen.run_main m g (ok m (core _ _ _ (hpre 0)))
    exact (hc.2 Kernel22Ideal.main_arg0 (by decide : Kernel22Ideal.main_arg0 ∈ Pipeline.restRefs Kernel22Ideal.sig Kernel22Ideal.spec0)).trans (Kernel22Ideal.Gen.V_main_arg0 m c)
  · refine (θ_run Reference22Ideal.defs _ _).mono (fun _ h c => ?_) (Reference22Ideal.Value.run m' g')
    obtain ⟨e0, e1, e2⟩ := hagree c
    refine ⟨(h c).1.trans (Eq.trans ?_ (final0 m (ok m (core _ _ _ (hpre 0))) c (core _ _ _ (hpre c))).symm), (h c).2⟩
    rw [← e0, ← e1, ← e2]
    rfl

end Cert.Lin22
-- ==== Proof.Lin.Claim15.lean ====
/- The optimiser's step over both halves of the gradient: the frames of the kernel as printed and idealized and of the reference, and the equality of their results. -/
module

public import proofs.«01_k».proof.Proof.Gen.Kernel15Ideal.Frame
public import proofs.«01_k».proof.Proof.Lin.Halves
public import Idealize.ShloMosaic.Lib.Pipeline.ValueKit
public import Idealize.ShloMosaic.Lib.Pipeline.ReadBack
public import Idealize.ShloMosaic.Lib.Pipeline.Covers
public import proofs.«01_k».proof.Defs
public import proofs.«01_k».proof.Proof.Gen.Kernel15.Frame
public import proofs.«01_k».proof.Proof.Gen.Reference15Ideal.Run

@[expose] public section

set_option maxRecDepth 16384

noncomputable section

namespace Cert.Lin15

open Idealize.ShloMosaic in
/-- Arrays of extended reals, by shape. -/
abbrev R32 (s : Shape) := FVec Ideal s .f32

section
open Reference15Ideal Reference15Ideal.Gen
open Idealize.ShloMosaic Idealize.ShloMosaic.TcCoe

/-- An array of one value. -/
abbrev cst (x : BitVec 32) : R32 S2x2x1024x1280 := broadcastInDim S2x2x1024x1280 ![] bcast_S_S2x2x1024x1280 (constant S_ .f32 x)

/-- A half in both places. -/
abbrev twice (a : R32 S1024x1280) : R32 S2x1024x1280 :=
  broadcastInDim S2x1024x1280 ![0, 1, 2] bcast_S1x1024x1280_S2x1024x1280_0_1_2 (broadcastInDim S1x1024x1280 ![1, 2] bcast_S1024x1280_S1x1024x1280_1_2 a)

/-- A layer's gradient: the half with the core's number is its own, the other the one it was sent. -/
abbrev layer (n : IVec S1 32) (a b : R32 S1024x1280) : R32 S1x2x1024x1280 :=
  broadcastInDim S1x2x1024x1280 ![1, 2, 3] bcast_S2x1024x1280_S1x2x1024x1280_1_2_3 (select (broadcastInDim S2x1024x1280 ![0, 1, 2] bcast_S2x1x1_S2x1024x1280_0_1_2 (broadcastInDim S2x1x1 ![0] bcast_S2_S2x1x1_0 (cmpi .eq (iotaInDim S2 32 0) (broadcastInDim S2 ![] bcast_S_S2 (shapeCast _ n shapeCasts_S1_S_))))) (twice a) (twice b))

/-- The gradient of both layers. -/
def ref0 (a0 : IVec S1 32) (a2 a3 a4 a5 : R32 S1024x1280) : R32 S2x2x1024x1280 :=
  concatenate S2x2x1024x1280 0 [⟨S1x2x1024x1280, layer a0 a2 a3⟩, ⟨S1x2x1024x1280, layer a0 a4 a5⟩] concatenates_S1x2x1024x1280_S1x2x1024x1280_S2x2x1024x1280_d0

/-- The step's change of the weights, as the reference computes it. -/
def ref1 (a0 a1 a2 a3 : R32 S2x2x1024x1280) : R32 S2x2x1024x1280 :=
  mulf (cst 0xBA83126F#32) (addf (Host.divf (Host.divf (addf (mulf (cst 0x3F666666#32) a2) (mulf (cst 0x3DCCCCCD#32) a1)) (cst 0x3F26BD02#32)) (addf (Host.sqrt (Host.divf (addf (mulf (cst 0x3F7FBE77#32) a3) (mulf (cst 0x3A83126F#32) (mulf a1 a1))) (cst 0x3C231ACC#32))) (cst 0x322BCC77#32))) (mulf (cst 0x3C23D70A#32) a0))

/-- The new first moment. -/
def ref2 (a1 a2 : R32 S2x2x1024x1280) : R32 S2x2x1024x1280 :=
  addf (mulf (cst 0x3F666666#32) a2) (mulf (cst 0x3DCCCCCD#32) a1)

/-- The new second moment. -/
def ref3 (a1 a3 : R32 S2x2x1024x1280) : R32 S2x2x1024x1280 :=
  addf (mulf (cst 0x3F7FBE77#32) a3) (mulf (cst 0x3A83126F#32) (mulf a1 a1))
end

section
open Halves Kernel15Ideal Kernel15Ideal.Gen
open Idealize.ShloMosaic Idealize.ShloMosaic.TcCoe Idealize.SL.Sem
open Idealize.ShloMosaic.Pipeline (Dat)

/-- A block row that is the step's or the first is inside the array. -/
theorem row_le (b : BitVec 1) (i : Fin 4) : ((Scalar.select b (BitVec.ofNat 32 i.val) 0#32 : BitVec 32).toNat + 1) * 256 ≤ 1024 := by
  have : ∀ (b : BitVec 1) (i : Fin 4), ((Scalar.select b (BitVec.ofNat 32 i.val) 0#32 : BitVec 32).toNat + 1) * 256 ≤ 1024 := by decide
  exact this b i

/-- The four windows whose place the core's number chooses stay inside their arrays, whatever that number is. -/
theorem ok {F : FTy → Type} [FloatOps F] (m : (ℓ : Loc nD τ sig) → Buf (Elt F) ℓ) : Ok m := by
  have in_cols : (0 + 1) * 1280 ≤ 1280 := by decide
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · exact row_le _ (i 2)
    · exact in_cols

section
variable (a0 : IVec S1 32) (a2 a3 a4 a5 : R32 S1024x1280) (h : Fin 2) (r : Fin 1024) (k : Fin 1280)
theorem ref0_at0 : ref0 a0 a2 a3 a4 a5 (ix4 0 h r k) = Scalar.select (IntOp.cmpi .eq (BitVec.ofNat 32 h.val) (a0 (ix1 0))) (a2 (ix2 r k)) (a3 (ix2 r k)) := by
  pointwise [ref0]
theorem ref0_at1 : ref0 a0 a2 a3 a4 a5 (ix4 1 h r k) = Scalar.select (IntOp.cmpi .eq (BitVec.ofNat 32 h.val) (a0 (ix1 0))) (a4 (ix2 r k)) (a5 (ix2 r k)) := by
  pointwise [ref0]
end

/-- Every block of the stacked arrays is some step's. -/
theorem surj : ∀ β : (a : Fin 4) → Fin (![2, 2, 4, 1] a), ∃ t : Fin grid0.N, cc0_transform_7 (grid0.coords t) = fun a => (β a).val := by decide +kernel

variable (m : (ℓ : Loc nD τ sig) → Buf (Elt Ideal) ℓ)

theorem covers7 (hO : Ok m) : ((cfgM m hO).win 7).Covers := by
  have e : ∀ a : Fin 4, ((cfgM m hO).win 7).nblk a = (![2, 2, 4, 1] : Fin 4 → ℕ) a :=
    fun a => (by decide : ∀ a : Fin 4, (S2x2x1024x1280.size a + S1x1x256x1280.size a - 1) / S1x1x256x1280.size a = (![2, 2, 4, 1] : Fin 4 → ℕ) a) a
  refine Pipeline.Window.covers_of_index_surj _ rfl (fun a => (by decide : ∀ a : Fin 4, 0 < S1x1x256x1280.size a) a) fun β => ?_
  obtain ⟨t, ht⟩ := surj (fun a : Fin 4 => (β a).cast (e a))
  exact ⟨t, fun a => (congrFun ht a)⟩

/-- The core's number, as the steps read it. -/
abbrev wd : BitVec 32 := m ((0 : Dev nD).tc.loc main_arg0) (ix1 0)

theorem word_at (x : S1.Idx) : (tbl m 0 : IVec S1 32) x = wd m := by
  rw [show x = ix1 0 from funext fun a => by fin_cases a; exact Subsingleton.elim (α := Fin 1) _ _]
  rfl

section
variable (c : Dev nD) (i : grid0.Coords) (a4 a9 a10 a11 a12 a13 a14 : Memref sig .tc .vmem S1x1x256x1280 .f32) (a5 a6 a7 a8 : Memref sig .tc .vmem S256x1280 .f32) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (x0 x5 x6 : Vec Ideal S1x1x256x1280 .f32) (x1 x2 x3 x4 : Vec Ideal S256x1280 .f32) (xt0 : TbBuf0 (F := Ideal) c tbM0_0) (w : BitVec 32) (hw : ∀ x : S1.Idx, (xt0 : IVec S1 32) x = w)
include hw

/-- What the steps leave in the four results' blocks. -/
theorem gen7 : out0_A_7 c i _ h4 _ h5 _ h6 _ h7 _ h8 _ h9 _ h10 _ h11 _ h12 _ h13 _ h14 x0 x1 x2 x3 x4 x5 x6 xt0 = k0_pay6 i w x1 x2 x3 x4 := by
  frame_out
  exact congrArg (fun w : BitVec 32 => k0_pay6 i w x1 x2 x3 x4) (hw _)
theorem gen8 : out0_A_8 c i _ h4 _ h5 _ h6 _ h7 _ h8 _ h9 _ h10 _ h11 _ h12 _ h13 _ h14 x0 x1 x2 x3 x4 x5 x6 xt0 = k0_pay2 (k0_pay7 x0) (k0_pay8 i w x1 x2 x3 x4 x5) (k0_pay9 x6) (k0_pay10 i w x1 x2 x3 x4) := by
  frame_out
  exact congrArg (fun w : BitVec 32 => k0_pay2 (k0_pay7 x0) (k0_pay8 i w x1 x2 x3 x4 x5) (k0_pay9 x6) (k0_pay10 i w x1 x2 x3 x4)) (hw _)
theorem gen9 : out0_A_9 c i _ h4 _ h5 _ h6 _ h7 _ h8 _ h9 _ h10 _ h11 _ h12 _ h13 _ h14 x0 x1 x2 x3 x4 x5 x6 xt0 = k0_pay3 (k0_pay8 i w x1 x2 x3 x4 x5) := by
  frame_out
  exact congrArg (fun w : BitVec 32 => k0_pay3 (k0_pay8 i w x1 x2 x3 x4 x5)) (hw _)
theorem gen10 : out0_A_10 c i _ h4 _ h5 _ h6 _ h7 _ h8 _ h9 _ h10 _ h11 _ h12 _ h13 _ h14 x0 x1 x2 x3 x4 x5 x6 xt0 = k0_pay4 (k0_pay9 x6) (k0_pay10 i w x1 x2 x3 x4) := by
  frame_out
  exact congrArg (fun w : BitVec 32 => k0_pay4 (k0_pay9 x6) (k0_pay10 i w x1 x2 x3 x4)) (hw _)
end

/-- The row of the half that row `p` of block `i` is. -/
abbrev row (i : Fin 4) (p : Fin 256) : Fin 1024 := ⟨256 * i.val + p.val, by omega⟩

section
variable (pf : pre0.Contents (Elt Ideal)) (w : BitVec 32) (hw : ∀ x : S1.Idx, (pf 0 : IVec S1 32) x = w) (i : grid0.Coords)
include hw

attribute [local simp] Scalar.cmpi IntOp.cmpi Scalar.xori IntOp.xori Scalar.andi IntOp.andi Scalar.select in
theorem own_row (h1 : BitVec.ofNat 32 (i 1).val = w) : ((i 0).val = 0 → cc0_transform_1 inb_S1_S1_0 numel1_S1 pf i = ![(i 2).val, 0])
    ∧ ((i 0).val = 1 → cc0_transform_3 inb_S1_S1_0 numel1_S1 pf i = ![(i 2).val, 0]) := by
  have e : pf.at 0 (Rect.unit (s := S1) ![0] S1.size inb_S1_S1_0) numel1_S1 = w := hw _
  have h2 : (i 2).val < 4 := (i 2).isLt
  have h3 : (i 2).val % 4294967296 = (i 2).val := by omega
  refine ⟨fun h0 => ?_, fun h0 => ?_⟩
  · unfold cc0_transform_1
    simp [e, h0, h1, h3]
  · unfold cc0_transform_3
    simp [e, h0, h1, h3]
attribute [local simp] Scalar.cmpi IntOp.cmpi Scalar.xori IntOp.xori Scalar.andi IntOp.andi Scalar.select in
theorem sent_row (h1 : BitVec.ofNat 32 (i 1).val ≠ w) : ((i 0).val = 0 → cc0_transform_2 inb_S1_S1_0 numel1_S1 pf i = ![(i 2).val, 0])
    ∧ ((i 0).val = 1 → cc0_transform_4 inb_S1_S1_0 numel1_S1 pf i = ![(i 2).val, 0]) := by
  have e : pf.at 0 (Rect.unit (s := S1) ![0] S1.size inb_S1_S1_0) numel1_S1 = w := hw _
  have h2 : (i 2).val < 4 := (i 2).isLt
  have h3 : (i 2).val % 4294967296 = (i 2).val := by omega
  have hb : (BitVec.ofNat 32 (i 1).val == w) = false := by simpa using h1
  refine ⟨fun h0 => ?_, fun h0 => ?_⟩
  · unfold cc0_transform_2
    simp [e, h0, h1, h3, hb]
  · unfold cc0_transform_4
    simp [e, h0, h1, h3, hb]
end

section
variable (hO : Ok m) (c : Dev nD) (t : Fin (cfgM m hO).N) (p : Fin 256) (q : Fin 1280)

theorem blk1 (i : Fin 4) (h : ((cfgM m hO).win 1).index t = ![i.val, 0]) : iblk m hO c 1 t (ix2 p q) = m (c.tc.loc main_arg2) (ix2 (row i p) q) := by
  blk_point [iblk, V, h]
theorem blk2 (i : Fin 4) (h : ((cfgM m hO).win 2).index t = ![i.val, 0]) : iblk m hO c 2 t (ix2 p q) = m (c.tc.loc main_arg3) (ix2 (row i p) q) := by
  blk_point [iblk, V, h]
theorem blk3 (i : Fin 4) (h : ((cfgM m hO).win 3).index t = ![i.val, 0]) : iblk m hO c 3 t (ix2 p q) = m (c.tc.loc main_arg4) (ix2 (row i p) q) := by
  blk_point [iblk, V, h]
theorem blk4 (i : Fin 4) (h : ((cfgM m hO).win 4).index t = ![i.val, 0]) : iblk m hO c 4 t (ix2 p q) = m (c.tc.loc main_arg5) (ix2 (row i p) q) := by
  blk_point [iblk, V, h]
theorem blk0 (l h : Fin 2) (i : Fin 4) (e : ((cfgM m hO).win 0).index t = ![l.val, h.val, i.val, 0]) : iblk m hO c 0 t (ix4 0 0 p q) = m (c.tc.loc main_arg1) (ix4 l h (row i p) q) := by
  blk_point [iblk, V, e]
theorem blk5 (l h : Fin 2) (i : Fin 4) (e : ((cfgM m hO).win 5).index t = ![l.val, h.val, i.val, 0]) : iblk m hO c 5 t (ix4 0 0 p q) = m (c.tc.loc main_arg6) (ix4 l h (row i p) q) := by
  blk_point [iblk, V, e]
theorem blk6 (l h : Fin 2) (i : Fin 4) (e : ((cfgM m hO).win 6).index t = ![l.val, h.val, i.val, 0]) : iblk m hO c 6 t (ix4 0 0 p q) = m (c.tc.loc main_arg7) (ix4 l h (row i p) q) := by
  blk_point [iblk, V, e]
end

/-- The gradient the reference puts together from the call's arguments. -/
abbrev gref (c : Dev nD) : R32 S2x2x1024x1280 :=
  ref0 (m (c.tc.loc main_arg0)) (m (c.tc.loc main_arg2)) (m (c.tc.loc main_arg3)) (m (c.tc.loc main_arg4)) (m (c.tc.loc main_arg5))

section
variable (i : grid0.Coords) (w : BitVec 32) (x0 x5 x6 : Vec Ideal S1x1x256x1280 .f32) (x1 x2 x3 x4 : Vec Ideal S256x1280 .f32) (p : Fin 256) (q : Fin 1280)

theorem pay5_at : k0_pay5 i w x1 x2 x3 x4 (ix2 p q) = Scalar.select (IntOp.cmpi .eq (BitVec.ofNat 32 (i 0).val) 0#32)
      (Scalar.select (IntOp.cmpi .eq (BitVec.ofNat 32 (i 1).val) w) (x1 (ix2 p q)) (x2 (ix2 p q)))
      (Scalar.select (IntOp.cmpi .eq (BitVec.ofNat 32 (i 1).val) w) (x3 (ix2 p q)) (x4 (ix2 p q))) := by
  pointwise [k0_pay5]
  rfl

variable (z : S2x2x1024x1280.Idx) (a0 a1 a2 a3 : R32 S2x2x1024x1280) (h1 : k0_pay5 i w x1 x2 x3 x4 (ix2 p q) = a1 z) (h0 : x0 (ix4 0 0 p q) = a0 z) (h2 : x5 (ix4 0 0 p q) = a2 z) (h3 : x6 (ix4 0 0 p q) = a3 z)

include h1 in
theorem step0 : k0_pay6 i w x1 x2 x3 x4 (ix4 0 0 p q) = a1 z := by
  rw [← h1]
  pointwise [k0_pay6]
include h0 h1 h2 h3 in
theorem step1 : k0_pay2 (k0_pay7 x0) (k0_pay8 i w x1 x2 x3 x4 x5) (k0_pay9 x6) (k0_pay10 i w x1 x2 x3 x4) (ix4 0 0 p q) = ref1 a0 a1 a2 a3 z := by
  pointwise [ref1, k0_pay2, k0_pay1, k0_pay7, k0_pay8, k0_pay9, k0_pay10]
  rw [h0, h1, h2, h3]
include h1 h2 in
theorem step2 : k0_pay3 (k0_pay8 i w x1 x2 x3 x4 x5) (ix4 0 0 p q) = ref2 a1 a2 z := by
  pointwise [ref2, k0_pay3, k0_pay8]
  rw [h1, h2]
include h1 h3 in
theorem step3 : k0_pay4 (k0_pay9 x6) (k0_pay10 i w x1 x2 x3 x4) (ix4 0 0 p q) = ref3 a1 a3 z := by
  pointwise [ref3, k0_pay4, k0_pay1, k0_pay9, k0_pay10]
  rw [h1, h3]
end

/-- The gradient a step assembles is the reference's on the step's block. -/
theorem grad_at (hO : Ok m) (c : Dev nD) (t : Fin (cfgM m hO).N) (l h : Fin 2) (i : Fin 4) (e0 : (grid0.coords t 0).val = l.val) (e1 : (grid0.coords t 1).val = h.val) (e2 : (grid0.coords t 2).val = i.val) (p : Fin 256) (q : Fin 1280) :
    k0_pay5 (grid0.coords t) (wd m) (iblk m hO c 1 t) (iblk m hO c 2 t) (iblk m hO c 3 t) (iblk m hO c 4 t) (ix2 p q) = gref m c (ix4 l h (row i p) q) := by
  obtain rfl : c = 0 := Subsingleton.elim _ _
  refine (pay5_at (grid0.coords t) (wd m) _ _ _ _ p q).trans ?_
  have w1 := congrArg (BitVec.ofNat 32) e1
  have own := fun hc => own_row (tbl m) (wd m) (word_at m) (grid0.coords t) (w1.trans hc)
  have sent := fun (hc : BitVec.ofNat 32 h.val ≠ wd m) => sent_row (tbl m) (wd m) (word_at m) (grid0.coords t) (fun e => hc (w1.symm.trans e))
  simp only [e2] at own sent
  obtain rfl | rfl : l = 0 ∨ l = 1 := (by decide : ∀ l : Fin 2, l = 0 ∨ l = 1) l
  · refine (sel_pos _ _ (congrArg (BitVec.ofNat 32) e0) _ _).trans (Eq.trans ?_ (ref0_at0 _ _ _ _ _ h (row i p) q).symm)
    by_cases hc : BitVec.ofNat 32 h.val = wd m
    · exact (sel_pos _ _ (w1.trans hc) _ _).trans ((blk1 m hO 0 t p q i ((own hc).1 e0)).trans (sel_pos _ _ hc _ _).symm)
    · exact (sel_neg _ _ (fun e => hc (w1.symm.trans e)) _ _).trans ((blk2 m hO 0 t p q i ((sent hc).1 e0)).trans (sel_neg _ _ hc _ _).symm)
  · refine (sel_neg _ _ (by rw [e0]; decide) _ _).trans (Eq.trans ?_ (ref0_at1 _ _ _ _ _ h (row i p) q).symm)
    by_cases hc : BitVec.ofNat 32 h.val = wd m
    · exact (sel_pos _ _ (w1.trans hc) _ _).trans ((blk3 m hO 0 t p q i ((own hc).2 e0)).trans (sel_pos _ _ hc _ _).symm)
    · exact (sel_neg _ _ (fun e => hc (w1.symm.trans e)) _ _).trans ((blk4 m hO 0 t p q i ((sent hc).2 e0)).trans (sel_neg _ _ hc _ _).symm)

/-- Where a step's block of a stacked array lies. -/
theorem idx7 : ∀ t : Fin grid0.N, ∃ (l h : Fin 2) (i : Fin 4), (grid0.coords t 0).val = l.val ∧ (grid0.coords t 1).val = h.val ∧ (grid0.coords t 2).val = i.val
    ∧ cc0_transform_7 (grid0.coords t) = ![l.val, h.val, i.val, 0] := by decide +kernel

theorem place (hO : Ok m) (t : Fin (cfgM m hO).N) (y : S1x1x256x1280.Idx) : ∃ (l h : Fin 2) (i : Fin 4) (p : Fin 256) (q : Fin 1280), (grid0.coords t 0).val = l.val ∧ (grid0.coords t 1).val = h.val ∧ (grid0.coords t 2).val = i.val
    ∧ cc0_transform_7 (grid0.coords t) = ![l.val, h.val, i.val, 0] ∧ y = (ix4 0 0 p q : S1x1x256x1280.Idx)
    ∧ ((((spec0 7).arr.view.slice ((pcfg0.win (adm m hO) 7).rect t)).emb y) : S2x2x1024x1280.Idx) = ix4 l h (row i p) q := by
  obtain ⟨l, h, i, e0, e1, e2, ei⟩ := idx7 t
  obtain ⟨p, q, rfl⟩ : ∃ (p : Fin 256) (q : Fin 1280), y = (ix4 0 0 p q : S1x1x256x1280.Idx) := by
    refine ⟨y 2, y 3, ?_⟩
    funext a; fin_cases a <;> first | rfl | exact Subsingleton.elim (α := Fin 1) _ _
  refine ⟨l, h, i, p, q, e0, e1, e2, ei, rfl, ?_⟩
  have hi : (pcfg0.win (adm m hO) 7).index t = ![l.val, h.val, i.val, 0] := ei
  blk_ext [hi]

variable (hO : Ok m) (c : Dev nD)

/-- The arrays of the weights and their moments. -/
abbrev arg (i : Fin 3) : R32 S2x2x1024x1280 :=
  match i with
  | 0 => m (c.tc.loc main_arg1)
  | 1 => m (c.tc.loc main_arg6)
  | 2 => m (c.tc.loc main_arg7)

/-- The gradient is the reference's. -/
theorem final0 : (dats m hO 0 c).arrAt 7 (cfgM m hO).N = gref m c := by
  refine (dats m hO 0 c).arrAt_eq_of_covers 7 _ (covers7 m hO) fun t hf y => ?_
  blk_simp; rw [after0_7]
  unfold outsAt0; dsimp only
  obtain ⟨l, h, i, p, q, e0, e1, e2, ei, rfl, ey⟩ := place m hO t y
  refine (congrFun (gen7 (w := wd m) (hw := word_at m) ..) _).trans ((step0 (z := ix4 l h (row i p) q) (h1 := grad_at m hO c t l h i e0 e1 e2 p q) ..).trans ?_)
  exact congrArg (gref m c) ey.symm

/-- The change of the weights is the reference's. -/
theorem final1 : (dats m hO 0 c).arrAt 8 (cfgM m hO).N = ref1 (arg m c 0) (gref m c) (arg m c 1) (arg m c 2) := by
  refine (dats m hO 0 c).arrAt_eq_of_covers 8 _ (covers7 m hO) fun t hf y => ?_
  blk_simp; rw [after0_8]
  unfold outsAt0; dsimp only
  obtain ⟨l, h, i, p, q, e0, e1, e2, ei, rfl, ey⟩ := place m hO t y
  refine (congrFun (gen8 (w := wd m) (hw := word_at m) ..) _).trans ((step1 (z := ix4 l h (row i p) q) (h1 := grad_at m hO c t l h i e0 e1 e2 p q) (h0 := blk0 m hO c t p q l h i ei) (h2 := blk5 m hO c t p q l h i ei) (h3 := blk6 m hO c t p q l h i ei) ..).trans ?_)
  exact congrArg (ref1 (arg m c 0) (gref m c) (arg m c 1) (arg m c 2)) ey.symm

/-- The new first moment is the reference's. -/
theorem final2 : (dats m hO 0 c).arrAt 9 (cfgM m hO).N = ref2 (gref m c) (arg m c 1) := by
  refine (dats m hO 0 c).arrAt_eq_of_covers 9 _ (covers7 m hO) fun t hf y => ?_
  blk_simp; rw [after0_9]
  unfold outsAt0; dsimp only
  obtain ⟨l, h, i, p, q, e0, e1, e2, ei, rfl, ey⟩ := place m hO t y
  refine (congrFun (gen9 (w := wd m) (hw := word_at m) ..) _).trans ((step2 (z := ix4 l h (row i p) q) (h1 := grad_at m hO c t l h i e0 e1 e2 p q) (h2 := blk5 m hO c t p q l h i ei) ..).trans ?_)
  exact congrArg (ref2 (gref m c) (arg m c 1)) ey.symm

/-- The new second moment is the reference's. -/
theorem final3 : (dats m hO 0 c).arrAt 10 (cfgM m hO).N = ref3 (gref m c) (arg m c 2) := by
  refine (dats m hO 0 c).arrAt_eq_of_covers 10 _ (covers7 m hO) fun t hf y => ?_
  blk_simp; rw [after0_10]
  unfold outsAt0; dsimp only
  obtain ⟨l, h, i, p, q, e0, e1, e2, ei, rfl, ey⟩ := place m hO t y
  refine (congrFun (gen10 (w := wd m) (hw := word_at m) ..) _).trans ((step3 (z := ix4 l h (row i p) q) (h1 := grad_at m hO c t l h i e0 e1 e2 p q) (h3 := blk6 m hO c t p q l h i ei) ..).trans ?_)
  exact congrArg (ref3 (gref m c) (arg m c 2)) ey.symm
end

set_option backward.isDefEq.respectTransparency false
open Idealize.ShloMosaic Idealize.SL.Sem

/-- The four windows of the kernel as printed stay inside their arrays too. -/
theorem okBits (m : (ℓ : Loc Kernel15.nD Kernel15.τ Kernel15.sig) → Buf (Elt Bits) ℓ) : Kernel15.Gen.Ok m := by
  have in_cols : (0 + 1) * 1280 ≤ 1280 := by decide
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · exact row_le _ (i 2)
    · exact in_cols

theorem frame_kernel : quiescent_Kernel15 := fun m ρ _ => Kernel15.Gen.frame m ρ (okBits m)
theorem frame_ideal : quiescent_Kernel15Ideal := fun m ρ _ => Kernel15Ideal.Gen.frame m ρ (ok m)
theorem frame_reference : quiescent_Reference15Ideal := fun m ρ _ =>
  (θ_run Reference15Ideal.defs _ _).mono (fun _ h => ⟨fun c => (h c).2.2.2.2, sem_eq_zero_of_no_sems (by decide) _⟩) (Reference15Ideal.Value.run m ρ)

set_option maxHeartbeats 4000000 in
/-- The idealized kernel and the idealized reference end with equal results. -/
theorem algebraic : algebraic_Kernel15Ideal_Reference15Ideal := by
  pair_intro
  · run_from Kernel15Ideal.Gen.run_main m g (ok m)
    exact (hc.2 Kernel15Ideal.main_arg0 (by decide : Kernel15Ideal.main_arg0 ∈ Pipeline.restRefs Kernel15Ideal.sig Kernel15Ideal.spec0)).trans (Kernel15Ideal.Gen.V_main_arg0 m c)
  · refine (θ_run Reference15Ideal.defs _ _).mono (fun _ h c => ?_) (Reference15Ideal.Value.run m' g')
    obtain ⟨e0, e1, e2, e3, e4, e5, e6, e7⟩ := hagree c
    refine ⟨(h c).1.trans (Eq.trans ?_ (final0 m (ok m) c).symm), (h c).2.1.trans (Eq.trans ?_ (final1 m (ok m) c).symm), (h c).2.2.1.trans (Eq.trans ?_ (final2 m (ok m) c).symm), (h c).2.2.2.1.trans (Eq.trans ?_ (final3 m (ok m) c).symm), (h c).2.2.2.2⟩
    all_goals
      simp only [gref, arg, ← e0, ← e1, ← e2, ← e3, ← e4, ← e5, ← e6, ← e7]
      rfl

end Cert.Lin15
-- ==== Proof.Lin.Claim16.lean ====
/- The optimiser's step over both halves of the gradient: the frames of the kernel as printed and idealized and of the reference, and the equality of their results. -/
module

public import proofs.«01_k».proof.Proof.Gen.Kernel16Ideal.Frame
public import proofs.«01_k».proof.Proof.Lin.Halves
public import Idealize.ShloMosaic.Lib.Pipeline.ValueKit
public import Idealize.ShloMosaic.Lib.Pipeline.ReadBack
public import Idealize.ShloMosaic.Lib.Pipeline.Covers
public import proofs.«01_k».proof.Defs
public import proofs.«01_k».proof.Proof.Gen.Kernel16.Frame
public import proofs.«01_k».proof.Proof.Gen.Reference16Ideal.Run

@[expose] public section

set_option maxRecDepth 16384

noncomputable section

namespace Cert.Lin16

open Idealize.ShloMosaic in
/-- Arrays of extended reals, by shape. -/
abbrev R32 (s : Shape) := FVec Ideal s .f32

section
open Reference16Ideal Reference16Ideal.Gen
open Idealize.ShloMosaic Idealize.ShloMosaic.TcCoe

/-- An array of one value. -/
abbrev cst (x : BitVec 32) : R32 S2x2x256x2048 := broadcastInDim S2x2x256x2048 ![] bcast_S_S2x2x256x2048 (constant S_ .f32 x)

/-- A half in both places. -/
abbrev twice (a : R32 S256x2048) : R32 S2x256x2048 :=
  broadcastInDim S2x256x2048 ![0, 1, 2] bcast_S1x256x2048_S2x256x2048_0_1_2 (broadcastInDim S1x256x2048 ![1, 2] bcast_S256x2048_S1x256x2048_1_2 a)

/-- A layer's gradient: the half with the core's number is its own, the other the one it was sent. -/
abbrev layer (n : IVec S1 32) (a b : R32 S256x2048) : R32 S1x2x256x2048 :=
  broadcastInDim S1x2x256x2048 ![1, 2, 3] bcast_S2x256x2048_S1x2x256x2048_1_2_3 (select (broadcastInDim S2x256x2048 ![0, 1, 2] bcast_S2x1x1_S2x256x2048_0_1_2 (broadcastInDim S2x1x1 ![0] bcast_S2_S2x1x1_0 (cmpi .eq (iotaInDim S2 32 0) (broadcastInDim S2 ![] bcast_S_S2 (shapeCast _ n shapeCasts_S1_S_))))) (twice a) (twice b))

/-- The gradient of both layers. -/
def ref0 (a0 : IVec S1 32) (a2 a3 a4 a5 : R32 S256x2048) : R32 S2x2x256x2048 :=
  concatenate S2x2x256x2048 0 [⟨S1x2x256x2048, layer a0 a2 a3⟩, ⟨S1x2x256x2048, layer a0 a4 a5⟩] concatenates_S1x2x256x2048_S1x2x256x2048_S2x2x256x2048_d0

/-- The step's change of the weights, as the reference computes it. -/
def ref1 (a0 a1 a2 a3 : R32 S2x2x256x2048) : R32 S2x2x256x2048 :=
  mulf (cst 0xBA83126F#32) (addf (Host.divf (Host.divf (addf (mulf (cst 0x3F666666#32) a2) (mulf (cst 0x3DCCCCCD#32) a1)) (cst 0x3F26BD02#32)) (addf (Host.sqrt (Host.divf (addf (mulf (cst 0x3F7FBE77#32) a3) (mulf (cst 0x3A83126F#32) (mulf a1 a1))) (cst 0x3C231ACC#32))) (cst 0x322BCC77#32))) (mulf (cst 0x3C23D70A#32) a0))

/-- The new first moment. -/
def ref2 (a1 a2 : R32 S2x2x256x2048) : R32 S2x2x256x2048 :=
  addf (mulf (cst 0x3F666666#32) a2) (mulf (cst 0x3DCCCCCD#32) a1)

/-- The new second moment. -/
def ref3 (a1 a3 : R32 S2x2x256x2048) : R32 S2x2x256x2048 :=
  addf (mulf (cst 0x3F7FBE77#32) a3) (mulf (cst 0x3A83126F#32) (mulf a1 a1))
end

section
open Halves Kernel16Ideal Kernel16Ideal.Gen
open Idealize.ShloMosaic Idealize.ShloMosaic.TcCoe Idealize.SL.Sem
open Idealize.ShloMosaic.Pipeline (Dat)

/-- A block row that is the step's or the first is inside the array. -/
theorem row_le (b : BitVec 1) (i : Fin 1) : ((Scalar.select b (BitVec.ofNat 32 i.val) 0#32 : BitVec 32).toNat + 1) * 256 ≤ 256 := by
  have : ∀ (b : BitVec 1) (i : Fin 1), ((Scalar.select b (BitVec.ofNat 32 i.val) 0#32 : BitVec 32).toNat + 1) * 256 ≤ 256 := by decide
  exact this b i

/-- The four windows whose place the core's number chooses stay inside their arrays, whatever that number is. -/
theorem ok {F : FTy → Type} [FloatOps F] (m : (ℓ : Loc nD τ sig) → Buf (Elt F) ℓ) : Ok m := by
  have in_cols : (0 + 1) * 2048 ≤ 2048 := by decide
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · exact row_le _ (i 2)
    · exact in_cols

section
variable (a0 : IVec S1 32) (a2 a3 a4 a5 : R32 S256x2048) (h : Fin 2) (r : Fin 256) (k : Fin 2048)
theorem ref0_at0 : ref0 a0 a2 a3 a4 a5 (ix4 0 h r k) = Scalar.select (IntOp.cmpi .eq (BitVec.ofNat 32 h.val) (a0 (ix1 0))) (a2 (ix2 r k)) (a3 (ix2 r k)) := by
  pointwise [ref0]
theorem ref0_at1 : ref0 a0 a2 a3 a4 a5 (ix4 1 h r k) = Scalar.select (IntOp.cmpi .eq (BitVec.ofNat 32 h.val) (a0 (ix1 0))) (a4 (ix2 r k)) (a5 (ix2 r k)) := by
  pointwise [ref0]
end

/-- Every block of the stacked arrays is some step's. -/
theorem surj : ∀ β : (a : Fin 4) → Fin (![2, 2, 1, 1] a), ∃ t : Fin grid0.N, cc0_transform_7 (grid0.coords t) = fun a => (β a).val := by decide +kernel

variable (m : (ℓ : Loc nD τ sig) → Buf (Elt Ideal) ℓ)

theorem covers7 (hO : Ok m) : ((cfgM m hO).win 7).Covers := by
  have e : ∀ a : Fin 4, ((cfgM m hO).win 7).nblk a = (![2, 2, 1, 1] : Fin 4 → ℕ) a :=
    fun a => (by decide : ∀ a : Fin 4, (S2x2x256x2048.size a + S1x1x256x2048.size a - 1) / S1x1x256x2048.size a = (![2, 2, 1, 1] : Fin 4 → ℕ) a) a
  refine Pipeline.Window.covers_of_index_surj _ rfl (fun a => (by decide : ∀ a : Fin 4, 0 < S1x1x256x2048.size a) a) fun β => ?_
  obtain ⟨t, ht⟩ := surj (fun a : Fin 4 => (β a).cast (e a))
  exact ⟨t, fun a => (congrFun ht a)⟩

/-- The core's number, as the steps read it. -/
abbrev wd : BitVec 32 := m ((0 : Dev nD).tc.loc main_arg0) (ix1 0)

theorem word_at (x : S1.Idx) : (tbl m 0 : IVec S1 32) x = wd m := by
  rw [show x = ix1 0 from funext fun a => by fin_cases a; exact Subsingleton.elim (α := Fin 1) _ _]
  rfl

section
variable (c : Dev nD) (i : grid0.Coords) (a4 a9 a10 a11 a12 a13 a14 : Memref sig .tc .vmem S1x1x256x2048 .f32) (a5 a6 a7 a8 : Memref sig .tc .vmem S256x2048 .f32) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (x0 x5 x6 : Vec Ideal S1x1x256x2048 .f32) (x1 x2 x3 x4 : Vec Ideal S256x2048 .f32) (xt0 : TbBuf0 (F := Ideal) c tbM0_0) (w : BitVec 32) (hw : ∀ x : S1.Idx, (xt0 : IVec S1 32) x = w)
include hw

/-- What the steps leave in the four results' blocks. -/
theorem gen7 : out0_A_7 c i _ h4 _ h5 _ h6 _ h7 _ h8 _ h9 _ h10 _ h11 _ h12 _ h13 _ h14 x0 x1 x2 x3 x4 x5 x6 xt0 = k0_pay6 i w x1 x2 x3 x4 := by
  frame_out
  exact congrArg (fun w : BitVec 32 => k0_pay6 i w x1 x2 x3 x4) (hw _)
theorem gen8 : out0_A_8 c i _ h4 _ h5 _ h6 _ h7 _ h8 _ h9 _ h10 _ h11 _ h12 _ h13 _ h14 x0 x1 x2 x3 x4 x5 x6 xt0 = k0_pay2 (k0_pay7 x0) (k0_pay8 i w x1 x2 x3 x4 x5) (k0_pay9 x6) (k0_pay10 i w x1 x2 x3 x4) := by
  frame_out
  exact congrArg (fun w : BitVec 32 => k0_pay2 (k0_pay7 x0) (k0_pay8 i w x1 x2 x3 x4 x5) (k0_pay9 x6) (k0_pay10 i w x1 x2 x3 x4)) (hw _)
theorem gen9 : out0_A_9 c i _ h4 _ h5 _ h6 _ h7 _ h8 _ h9 _ h10 _ h11 _ h12 _ h13 _ h14 x0 x1 x2 x3 x4 x5 x6 xt0 = k0_pay3 (k0_pay8 i w x1 x2 x3 x4 x5) := by
  frame_out
  exact congrArg (fun w : BitVec 32 => k0_pay3 (k0_pay8 i w x1 x2 x3 x4 x5)) (hw _)
theorem gen10 : out0_A_10 c i _ h4 _ h5 _ h6 _ h7 _ h8 _ h9 _ h10 _ h11 _ h12 _ h13 _ h14 x0 x1 x2 x3 x4 x5 x6 xt0 = k0_pay4 (k0_pay9 x6) (k0_pay10 i w x1 x2 x3 x4) := by
  frame_out
  exact congrArg (fun w : BitVec 32 => k0_pay4 (k0_pay9 x6) (k0_pay10 i w x1 x2 x3 x4)) (hw _)
end

/-- The row of the half that row `p` of block `i` is. -/
abbrev row (i : Fin 1) (p : Fin 256) : Fin 256 := ⟨256 * i.val + p.val, by omega⟩

section
variable (pf : pre0.Contents (Elt Ideal)) (w : BitVec 32) (hw : ∀ x : S1.Idx, (pf 0 : IVec S1 32) x = w) (i : grid0.Coords)
include hw

attribute [local simp] Scalar.cmpi IntOp.cmpi Scalar.xori IntOp.xori Scalar.andi IntOp.andi Scalar.select in
theorem own_row (h1 : BitVec.ofNat 32 (i 1).val = w) : ((i 0).val = 0 → cc0_transform_1 inb_S1_S1_0 numel1_S1 pf i = ![(i 2).val, 0])
    ∧ ((i 0).val = 1 → cc0_transform_3 inb_S1_S1_0 numel1_S1 pf i = ![(i 2).val, 0]) := by
  have e : pf.at 0 (Rect.unit (s := S1) ![0] S1.size inb_S1_S1_0) numel1_S1 = w := hw _
  have h2 : (i 2).val < 1 := (i 2).isLt
  have h3 : (i 2).val % 4294967296 = (i 2).val := by omega
  refine ⟨fun h0 => ?_, fun h0 => ?_⟩
  · unfold cc0_transform_1
    simp [e, h0, h1, h3]
  · unfold cc0_transform_3
    simp [e, h0, h1, h3]
attribute [local simp] Scalar.cmpi IntOp.cmpi Scalar.xori IntOp.xori Scalar.andi IntOp.andi Scalar.select in
theorem sent_row (h1 : BitVec.ofNat 32 (i 1).val ≠ w) : ((i 0).val = 0 → cc0_transform_2 inb_S1_S1_0 numel1_S1 pf i = ![(i 2).val, 0])
    ∧ ((i 0).val = 1 → cc0_transform_4 inb_S1_S1_0 numel1_S1 pf i = ![(i 2).val, 0]) := by
  have e : pf.at 0 (Rect.unit (s := S1) ![0] S1.size inb_S1_S1_0) numel1_S1 = w := hw _
  have h2 : (i 2).val < 1 := (i 2).isLt
  have h3 : (i 2).val % 4294967296 = (i 2).val := by omega
  have hb : (BitVec.ofNat 32 (i 1).val == w) = false := by simpa using h1
  refine ⟨fun h0 => ?_, fun h0 => ?_⟩
  · unfold cc0_transform_2
    simp [e, h0, h1, h3, hb]
  · unfold cc0_transform_4
    simp [e, h0, h1, h3, hb]
end

section
variable (hO : Ok m) (c : Dev nD) (t : Fin (cfgM m hO).N) (p : Fin 256) (q : Fin 2048)

theorem blk1 (i : Fin 1) (h : ((cfgM m hO).win 1).index t = ![i.val, 0]) : iblk m hO c 1 t (ix2 p q) = m (c.tc.loc main_arg2) (ix2 (row i p) q) := by
  blk_point [iblk, V, h]
theorem blk2 (i : Fin 1) (h : ((cfgM m hO).win 2).index t = ![i.val, 0]) : iblk m hO c 2 t (ix2 p q) = m (c.tc.loc main_arg3) (ix2 (row i p) q) := by
  blk_point [iblk, V, h]
theorem blk3 (i : Fin 1) (h : ((cfgM m hO).win 3).index t = ![i.val, 0]) : iblk m hO c 3 t (ix2 p q) = m (c.tc.loc main_arg4) (ix2 (row i p) q) := by
  blk_point [iblk, V, h]
theorem blk4 (i : Fin 1) (h : ((cfgM m hO).win 4).index t = ![i.val, 0]) : iblk m hO c 4 t (ix2 p q) = m (c.tc.loc main_arg5) (ix2 (row i p) q) := by
  blk_point [iblk, V, h]
theorem blk0 (l h : Fin 2) (i : Fin 1) (e : ((cfgM m hO).win 0).index t = ![l.val, h.val, i.val, 0]) : iblk m hO c 0 t (ix4 0 0 p q) = m (c.tc.loc main_arg1) (ix4 l h (row i p) q) := by
  blk_point [iblk, V, e]
theorem blk5 (l h : Fin 2) (i : Fin 1) (e : ((cfgM m hO).win 5).index t = ![l.val, h.val, i.val, 0]) : iblk m hO c 5 t (ix4 0 0 p q) = m (c.tc.loc main_arg6) (ix4 l h (row i p) q) := by
  blk_point [iblk, V, e]
theorem blk6 (l h : Fin 2) (i : Fin 1) (e : ((cfgM m hO).win 6).index t = ![l.val, h.val, i.val, 0]) : iblk m hO c 6 t (ix4 0 0 p q) = m (c.tc.loc main_arg7) (ix4 l h (row i p) q) := by
  blk_point [iblk, V, e]
end

/-- The gradient the reference puts together from the call's arguments. -/
abbrev gref (c : Dev nD) : R32 S2x2x256x2048 :=
  ref0 (m (c.tc.loc main_arg0)) (m (c.tc.loc main_arg2)) (m (c.tc.loc main_arg3)) (m (c.tc.loc main_arg4)) (m (c.tc.loc main_arg5))

section
variable (i : grid0.Coords) (w : BitVec 32) (x0 x5 x6 : Vec Ideal S1x1x256x2048 .f32) (x1 x2 x3 x4 : Vec Ideal S256x2048 .f32) (p : Fin 256) (q : Fin 2048)

theorem pay5_at : k0_pay5 i w x1 x2 x3 x4 (ix2 p q) = Scalar.select (IntOp.cmpi .eq (BitVec.ofNat 32 (i 0).val) 0#32)
      (Scalar.select (IntOp.cmpi .eq (BitVec.ofNat 32 (i 1).val) w) (x1 (ix2 p q)) (x2 (ix2 p q)))
      (Scalar.select (IntOp.cmpi .eq (BitVec.ofNat 32 (i 1).val) w) (x3 (ix2 p q)) (x4 (ix2 p q))) := by
  pointwise [k0_pay5]
  rfl

variable (z : S2x2x256x2048.Idx) (a0 a1 a2 a3 : R32 S2x2x256x2048) (h1 : k0_pay5 i w x1 x2 x3 x4 (ix2 p q) = a1 z) (h0 : x0 (ix4 0 0 p q) = a0 z) (h2 : x5 (ix4 0 0 p q) = a2 z) (h3 : x6 (ix4 0 0 p q) = a3 z)

include h1 in
theorem step0 : k0_pay6 i w x1 x2 x3 x4 (ix4 0 0 p q) = a1 z := by
  rw [← h1]
  pointwise [k0_pay6]
include h0 h1 h2 h3 in
theorem step1 : k0_pay2 (k0_pay7 x0) (k0_pay8 i w x1 x2 x3 x4 x5) (k0_pay9 x6) (k0_pay10 i w x1 x2 x3 x4) (ix4 0 0 p q) = ref1 a0 a1 a2 a3 z := by
  pointwise [ref1, k0_pay2, k0_pay1, k0_pay7, k0_pay8, k0_pay9, k0_pay10]
  rw [h0, h1, h2, h3]
include h1 h2 in
theorem step2 : k0_pay3 (k0_pay8 i w x1 x2 x3 x4 x5) (ix4 0 0 p q) = ref2 a1 a2 z := by
  pointwise [ref2, k0_pay3, k0_pay8]
  rw [h1, h2]
include h1 h3 in
theorem step3 : k0_pay4 (k0_pay9 x6) (k0_pay10 i w x1 x2 x3 x4) (ix4 0 0 p q) = ref3 a1 a3 z := by
  pointwise [ref3, k0_pay4, k0_pay1, k0_pay9, k0_pay10]
  rw [h1, h3]
end

/-- The gradient a step assembles is the reference's on the step's block. -/
theorem grad_at (hO : Ok m) (c : Dev nD) (t : Fin (cfgM m hO).N) (l h : Fin 2) (i : Fin 1) (e0 : (grid0.coords t 0).val = l.val) (e1 : (grid0.coords t 1).val = h.val) (e2 : (grid0.coords t 2).val = i.val) (p : Fin 256) (q : Fin 2048) :
    k0_pay5 (grid0.coords t) (wd m) (iblk m hO c 1 t) (iblk m hO c 2 t) (iblk m hO c 3 t) (iblk m hO c 4 t) (ix2 p q) = gref m c (ix4 l h (row i p) q) := by
  obtain rfl : c = 0 := Subsingleton.elim _ _
  refine (pay5_at (grid0.coords t) (wd m) _ _ _ _ p q).trans ?_
  have w1 := congrArg (BitVec.ofNat 32) e1
  have own := fun hc => own_row (tbl m) (wd m) (word_at m) (grid0.coords t) (w1.trans hc)
  have sent := fun (hc : BitVec.ofNat 32 h.val ≠ wd m) => sent_row (tbl m) (wd m) (word_at m) (grid0.coords t) (fun e => hc (w1.symm.trans e))
  simp only [e2] at own sent
  obtain rfl | rfl : l = 0 ∨ l = 1 := (by decide : ∀ l : Fin 2, l = 0 ∨ l = 1) l
  · refine (sel_pos _ _ (congrArg (BitVec.ofNat 32) e0) _ _).trans (Eq.trans ?_ (ref0_at0 _ _ _ _ _ h (row i p) q).symm)
    by_cases hc : BitVec.ofNat 32 h.val = wd m
    · exact (sel_pos _ _ (w1.trans hc) _ _).trans ((blk1 m hO 0 t p q i ((own hc).1 e0)).trans (sel_pos _ _ hc _ _).symm)
    · exact (sel_neg _ _ (fun e => hc (w1.symm.trans e)) _ _).trans ((blk2 m hO 0 t p q i ((sent hc).1 e0)).trans (sel_neg _ _ hc _ _).symm)
  · refine (sel_neg _ _ (by rw [e0]; decide) _ _).trans (Eq.trans ?_ (ref0_at1 _ _ _ _ _ h (row i p) q).symm)
    by_cases hc : BitVec.ofNat 32 h.val = wd m
    · exact (sel_pos _ _ (w1.trans hc) _ _).trans ((blk3 m hO 0 t p q i ((own hc).2 e0)).trans (sel_pos _ _ hc _ _).symm)
    · exact (sel_neg _ _ (fun e => hc (w1.symm.trans e)) _ _).trans ((blk4 m hO 0 t p q i ((sent hc).2 e0)).trans (sel_neg _ _ hc _ _).symm)

/-- Where a step's block of a stacked array lies. -/
theorem idx7 : ∀ t : Fin grid0.N, ∃ (l h : Fin 2) (i : Fin 1), (grid0.coords t 0).val = l.val ∧ (grid0.coords t 1).val = h.val ∧ (grid0.coords t 2).val = i.val
    ∧ cc0_transform_7 (grid0.coords t) = ![l.val, h.val, i.val, 0] := by decide +kernel

theorem place (hO : Ok m) (t : Fin (cfgM m hO).N) (y : S1x1x256x2048.Idx) : ∃ (l h : Fin 2) (i : Fin 1) (p : Fin 256) (q : Fin 2048), (grid0.coords t 0).val = l.val ∧ (grid0.coords t 1).val = h.val ∧ (grid0.coords t 2).val = i.val
    ∧ cc0_transform_7 (grid0.coords t) = ![l.val, h.val, i.val, 0] ∧ y = (ix4 0 0 p q : S1x1x256x2048.Idx)
    ∧ ((((spec0 7).arr.view.slice ((pcfg0.win (adm m hO) 7).rect t)).emb y) : S2x2x256x2048.Idx) = ix4 l h (row i p) q := by
  obtain ⟨l, h, i, e0, e1, e2, ei⟩ := idx7 t
  obtain ⟨p, q, rfl⟩ : ∃ (p : Fin 256) (q : Fin 2048), y = (ix4 0 0 p q : S1x1x256x2048.Idx) := by
    refine ⟨y 2, y 3, ?_⟩
    funext a; fin_cases a <;> first | rfl | exact Subsingleton.elim (α := Fin 1) _ _
  refine ⟨l, h, i, p, q, e0, e1, e2, ei, rfl, ?_⟩
  have hi : (pcfg0.win (adm m hO) 7).index t = ![l.val, h.val, i.val, 0] := ei
  blk_ext [hi]

variable (hO : Ok m) (c : Dev nD)

/-- The arrays of the weights and their moments. -/
abbrev arg (i : Fin 3) : R32 S2x2x256x2048 :=
  match i with
  | 0 => m (c.tc.loc main_arg1)
  | 1 => m (c.tc.loc main_arg6)
  | 2 => m (c.tc.loc main_arg7)

/-- The gradient is the reference's. -/
theorem final0 : (dats m hO 0 c).arrAt 7 (cfgM m hO).N = gref m c := by
  refine (dats m hO 0 c).arrAt_eq_of_covers 7 _ (covers7 m hO) fun t hf y => ?_
  blk_simp; rw [after0_7]
  unfold outsAt0; dsimp only
  obtain ⟨l, h, i, p, q, e0, e1, e2, ei, rfl, ey⟩ := place m hO t y
  refine (congrFun (gen7 (w := wd m) (hw := word_at m) ..) _).trans ((step0 (z := ix4 l h (row i p) q) (h1 := grad_at m hO c t l h i e0 e1 e2 p q) ..).trans ?_)
  exact congrArg (gref m c) ey.symm

/-- The change of the weights is the reference's. -/
theorem final1 : (dats m hO 0 c).arrAt 8 (cfgM m hO).N = ref1 (arg m c 0) (gref m c) (arg m c 1) (arg m c 2) := by
  refine (dats m hO 0 c).arrAt_eq_of_covers 8 _ (covers7 m hO) fun t hf y => ?_
  blk_simp; rw [after0_8]
  unfold outsAt0; dsimp only
  obtain ⟨l, h, i, p, q, e0, e1, e2, ei, rfl, ey⟩ := place m hO t y
  refine (congrFun (gen8 (w := wd m) (hw := word_at m) ..) _).trans ((step1 (z := ix4 l h (row i p) q) (h1 := grad_at m hO c t l h i e0 e1 e2 p q) (h0 := blk0 m hO c t p q l h i ei) (h2 := blk5 m hO c t p q l h i ei) (h3 := blk6 m hO c t p q l h i ei) ..).trans ?_)
  exact congrArg (ref1 (arg m c 0) (gref m c) (arg m c 1) (arg m c 2)) ey.symm

/-- The new first moment is the reference's. -/
theorem final2 : (dats m hO 0 c).arrAt 9 (cfgM m hO).N = ref2 (gref m c) (arg m c 1) := by
  refine (dats m hO 0 c).arrAt_eq_of_covers 9 _ (covers7 m hO) fun t hf y => ?_
  blk_simp; rw [after0_9]
  unfold outsAt0; dsimp only
  obtain ⟨l, h, i, p, q, e0, e1, e2, ei, rfl, ey⟩ := place m hO t y
  refine (congrFun (gen9 (w := wd m) (hw := word_at m) ..) _).trans ((step2 (z := ix4 l h (row i p) q) (h1 := grad_at m hO c t l h i e0 e1 e2 p q) (h2 := blk5 m hO c t p q l h i ei) ..).trans ?_)
  exact congrArg (ref2 (gref m c) (arg m c 1)) ey.symm

/-- The new second moment is the reference's. -/
theorem final3 : (dats m hO 0 c).arrAt 10 (cfgM m hO).N = ref3 (gref m c) (arg m c 2) := by
  refine (dats m hO 0 c).arrAt_eq_of_covers 10 _ (covers7 m hO) fun t hf y => ?_
  blk_simp; rw [after0_10]
  unfold outsAt0; dsimp only
  obtain ⟨l, h, i, p, q, e0, e1, e2, ei, rfl, ey⟩ := place m hO t y
  refine (congrFun (gen10 (w := wd m) (hw := word_at m) ..) _).trans ((step3 (z := ix4 l h (row i p) q) (h1 := grad_at m hO c t l h i e0 e1 e2 p q) (h3 := blk6 m hO c t p q l h i ei) ..).trans ?_)
  exact congrArg (ref3 (gref m c) (arg m c 2)) ey.symm
end

set_option backward.isDefEq.respectTransparency false
open Idealize.ShloMosaic Idealize.SL.Sem

/-- The four windows of the kernel as printed stay inside their arrays too. -/
theorem okBits (m : (ℓ : Loc Kernel16.nD Kernel16.τ Kernel16.sig) → Buf (Elt Bits) ℓ) : Kernel16.Gen.Ok m := by
  have in_cols : (0 + 1) * 2048 ≤ 2048 := by decide
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · exact row_le _ (i 2)
    · exact in_cols

theorem frame_kernel : quiescent_Kernel16 := fun m ρ _ => Kernel16.Gen.frame m ρ (okBits m)
theorem frame_ideal : quiescent_Kernel16Ideal := fun m ρ _ => Kernel16Ideal.Gen.frame m ρ (ok m)
theorem frame_reference : quiescent_Reference16Ideal := fun m ρ _ =>
  (θ_run Reference16Ideal.defs _ _).mono (fun _ h => ⟨fun c => (h c).2.2.2.2, sem_eq_zero_of_no_sems (by decide) _⟩) (Reference16Ideal.Value.run m ρ)

set_option maxHeartbeats 4000000 in
/-- The idealized kernel and the idealized reference end with equal results. -/
theorem algebraic : algebraic_Kernel16Ideal_Reference16Ideal := by
  pair_intro
  · run_from Kernel16Ideal.Gen.run_main m g (ok m)
    exact (hc.2 Kernel16Ideal.main_arg0 (by decide : Kernel16Ideal.main_arg0 ∈ Pipeline.restRefs Kernel16Ideal.sig Kernel16Ideal.spec0)).trans (Kernel16Ideal.Gen.V_main_arg0 m c)
  · refine (θ_run Reference16Ideal.defs _ _).mono (fun _ h c => ?_) (Reference16Ideal.Value.run m' g')
    obtain ⟨e0, e1, e2, e3, e4, e5, e6, e7⟩ := hagree c
    refine ⟨(h c).1.trans (Eq.trans ?_ (final0 m (ok m) c).symm), (h c).2.1.trans (Eq.trans ?_ (final1 m (ok m) c).symm), (h c).2.2.1.trans (Eq.trans ?_ (final2 m (ok m) c).symm), (h c).2.2.2.1.trans (Eq.trans ?_ (final3 m (ok m) c).symm), (h c).2.2.2.2⟩
    all_goals
      simp only [gref, arg, ← e0, ← e1, ← e2, ← e3, ← e4, ← e5, ← e6, ← e7]
      rfl

end Cert.Lin16
-- ==== Proof.Lin.Claim17.lean ====
/- The optimiser's step over both halves of the gradient: the frames of the kernel as printed and idealized and of the reference, and the equality of their results. -/
module

public import proofs.«01_k».proof.Proof.Gen.Kernel17Ideal.Frame
public import proofs.«01_k».proof.Proof.Lin.Halves
public import Idealize.ShloMosaic.Lib.Pipeline.ValueKit
public import Idealize.ShloMosaic.Lib.Pipeline.ReadBack
public import Idealize.ShloMosaic.Lib.Pipeline.Covers
public import proofs.«01_k».proof.Defs
public import proofs.«01_k».proof.Proof.Gen.Kernel17.Frame
public import proofs.«01_k».proof.Proof.Gen.Reference17Ideal.Run

@[expose] public section

set_option maxRecDepth 16384

noncomputable section

namespace Cert.Lin17

open Idealize.ShloMosaic in
/-- Arrays of extended reals, by shape. -/
abbrev R32 (s : Shape) := FVec Ideal s .f32

section
open Reference17Ideal Reference17Ideal.Gen
open Idealize.ShloMosaic Idealize.ShloMosaic.TcCoe

/-- An array of one value. -/
abbrev cst (x : BitVec 32) : R32 S2x2x64x512 := broadcastInDim S2x2x64x512 ![] bcast_S_S2x2x64x512 (constant S_ .f32 x)

/-- A half in both places. -/
abbrev twice (a : R32 S64x512) : R32 S2x64x512 :=
  broadcastInDim S2x64x512 ![0, 1, 2] bcast_S1x64x512_S2x64x512_0_1_2 (broadcastInDim S1x64x512 ![1, 2] bcast_S64x512_S1x64x512_1_2 a)

/-- A layer's gradient: the half with the core's number is its own, the other the one it was sent. -/
abbrev layer (n : IVec S1 32) (a b : R32 S64x512) : R32 S1x2x64x512 :=
  broadcastInDim S1x2x64x512 ![1, 2, 3] bcast_S2x64x512_S1x2x64x512_1_2_3 (select (broadcastInDim S2x64x512 ![0, 1, 2] bcast_S2x1x1_S2x64x512_0_1_2 (broadcastInDim S2x1x1 ![0] bcast_S2_S2x1x1_0 (cmpi .eq (iotaInDim S2 32 0) (broadcastInDim S2 ![] bcast_S_S2 (shapeCast _ n shapeCasts_S1_S_))))) (twice a) (twice b))

/-- The gradient of both layers. -/
def ref0 (a0 : IVec S1 32) (a2 a3 a4 a5 : R32 S64x512) : R32 S2x2x64x512 :=
  concatenate S2x2x64x512 0 [⟨S1x2x64x512, layer a0 a2 a3⟩, ⟨S1x2x64x512, layer a0 a4 a5⟩] concatenates_S1x2x64x512_S1x2x64x512_S2x2x64x512_d0

/-- The step's change of the weights, as the reference computes it. -/
def ref1 (a0 a1 a2 a3 : R32 S2x2x64x512) : R32 S2x2x64x512 :=
  mulf (cst 0xBA83126F#32) (addf (Host.divf (Host.divf (addf (mulf (cst 0x3F666666#32) a2) (mulf (cst 0x3DCCCCCD#32) a1)) (cst 0x3F26BD02#32)) (addf (Host.sqrt (Host.divf (addf (mulf (cst 0x3F7FBE77#32) a3) (mulf (cst 0x3A83126F#32) (mulf a1 a1))) (cst 0x3C231ACC#32))) (cst 0x322BCC77#32))) (mulf (cst 0x3C23D70A#32) a0))

/-- The new first moment. -/
def ref2 (a1 a2 : R32 S2x2x64x512) : R32 S2x2x64x512 :=
  addf (mulf (cst 0x3F666666#32) a2) (mulf (cst 0x3DCCCCCD#32) a1)

/-- The new second moment. -/
def ref3 (a1 a3 : R32 S2x2x64x512) : R32 S2x2x64x512 :=
  addf (mulf (cst 0x3F7FBE77#32) a3) (mulf (cst 0x3A83126F#32) (mulf a1 a1))
end

section
open Halves Kernel17Ideal Kernel17Ideal.Gen
open Idealize.ShloMosaic Idealize.ShloMosaic.TcCoe Idealize.SL.Sem
open Idealize.ShloMosaic.Pipeline (Dat)

/-- A block row that is the step's or the first is inside the array. -/
theorem row_le (b : BitVec 1) (i : Fin 1) : ((Scalar.select b (BitVec.ofNat 32 i.val) 0#32 : BitVec 32).toNat + 1) * 64 ≤ 64 := by
  have : ∀ (b : BitVec 1) (i : Fin 1), ((Scalar.select b (BitVec.ofNat 32 i.val) 0#32 : BitVec 32).toNat + 1) * 64 ≤ 64 := by decide
  exact this b i

/-- The four windows whose place the core's number chooses stay inside their arrays, whatever that number is. -/
theorem ok {F : FTy → Type} [FloatOps F] (m : (ℓ : Loc nD τ sig) → Buf (Elt F) ℓ) : Ok m := by
  have in_cols : (0 + 1) * 512 ≤ 512 := by decide
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · exact row_le _ (i 2)
    · exact in_cols

section
variable (a0 : IVec S1 32) (a2 a3 a4 a5 : R32 S64x512) (h : Fin 2) (r : Fin 64) (k : Fin 512)
theorem ref0_at0 : ref0 a0 a2 a3 a4 a5 (ix4 0 h r k) = Scalar.select (IntOp.cmpi .eq (BitVec.ofNat 32 h.val) (a0 (ix1 0))) (a2 (ix2 r k)) (a3 (ix2 r k)) := by
  pointwise [ref0]
theorem ref0_at1 : ref0 a0 a2 a3 a4 a5 (ix4 1 h r k) = Scalar.select (IntOp.cmpi .eq (BitVec.ofNat 32 h.val) (a0 (ix1 0))) (a4 (ix2 r k)) (a5 (ix2 r k)) := by
  pointwise [ref0]
end

/-- Every block of the stacked arrays is some step's. -/
theorem surj : ∀ β : (a : Fin 4) → Fin (![2, 2, 1, 1] a), ∃ t : Fin grid0.N, cc0_transform_7 (grid0.coords t) = fun a => (β a).val := by decide +kernel

variable (m : (ℓ : Loc nD τ sig) → Buf (Elt Ideal) ℓ)

theorem covers7 (hO : Ok m) : ((cfgM m hO).win 7).Covers := by
  have e : ∀ a : Fin 4, ((cfgM m hO).win 7).nblk a = (![2, 2, 1, 1] : Fin 4 → ℕ) a :=
    fun a => (by decide : ∀ a : Fin 4, (S2x2x64x512.size a + S1x1x64x512.size a - 1) / S1x1x64x512.size a = (![2, 2, 1, 1] : Fin 4 → ℕ) a) a
  refine Pipeline.Window.covers_of_index_surj _ rfl (fun a => (by decide : ∀ a : Fin 4, 0 < S1x1x64x512.size a) a) fun β => ?_
  obtain ⟨t, ht⟩ := surj (fun a : Fin 4 => (β a).cast (e a))
  exact ⟨t, fun a => (congrFun ht a)⟩

/-- The core's number, as the steps read it. -/
abbrev wd : BitVec 32 := m ((0 : Dev nD).tc.loc main_arg0) (ix1 0)

theorem word_at (x : S1.Idx) : (tbl m 0 : IVec S1 32) x = wd m := by
  rw [show x = ix1 0 from funext fun a => by fin_cases a; exact Subsingleton.elim (α := Fin 1) _ _]
  rfl

section
variable (c : Dev nD) (i : grid0.Coords) (a4 a9 a10 a11 a12 a13 a14 : Memref sig .tc .vmem S1x1x64x512 .f32) (a5 a6 a7 a8 : Memref sig .tc .vmem S64x512 .f32) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (x0 x5 x6 : Vec Ideal S1x1x64x512 .f32) (x1 x2 x3 x4 : Vec Ideal S64x512 .f32) (xt0 : TbBuf0 (F := Ideal) c tbM0_0) (w : BitVec 32) (hw : ∀ x : S1.Idx, (xt0 : IVec S1 32) x = w)
include hw

/-- What the steps leave in the four results' blocks. -/
theorem gen7 : out0_A_7 c i _ h4 _ h5 _ h6 _ h7 _ h8 _ h9 _ h10 _ h11 _ h12 _ h13 _ h14 x0 x1 x2 x3 x4 x5 x6 xt0 = k0_pay6 i w x1 x2 x3 x4 := by
  frame_out
  exact congrArg (fun w : BitVec 32 => k0_pay6 i w x1 x2 x3 x4) (hw _)
theorem gen8 : out0_A_8 c i _ h4 _ h5 _ h6 _ h7 _ h8 _ h9 _ h10 _ h11 _ h12 _ h13 _ h14 x0 x1 x2 x3 x4 x5 x6 xt0 = k0_pay2 (k0_pay7 x0) (k0_pay8 i w x1 x2 x3 x4 x5) (k0_pay9 x6) (k0_pay10 i w x1 x2 x3 x4) := by
  frame_out
  exact congrArg (fun w : BitVec 32 => k0_pay2 (k0_pay7 x0) (k0_pay8 i w x1 x2 x3 x4 x5) (k0_pay9 x6) (k0_pay10 i w x1 x2 x3 x4)) (hw _)
theorem gen9 : out0_A_9 c i _ h4 _ h5 _ h6 _ h7 _ h8 _ h9 _ h10 _ h11 _ h12 _ h13 _ h14 x0 x1 x2 x3 x4 x5 x6 xt0 = k0_pay3 (k0_pay8 i w x1 x2 x3 x4 x5) := by
  frame_out
  exact congrArg (fun w : BitVec 32 => k0_pay3 (k0_pay8 i w x1 x2 x3 x4 x5)) (hw _)
theorem gen10 : out0_A_10 c i _ h4 _ h5 _ h6 _ h7 _ h8 _ h9 _ h10 _ h11 _ h12 _ h13 _ h14 x0 x1 x2 x3 x4 x5 x6 xt0 = k0_pay4 (k0_pay9 x6) (k0_pay10 i w x1 x2 x3 x4) := by
  frame_out
  exact congrArg (fun w : BitVec 32 => k0_pay4 (k0_pay9 x6) (k0_pay10 i w x1 x2 x3 x4)) (hw _)
end

/-- The row of the half that row `p` of block `i` is. -/
abbrev row (i : Fin 1) (p : Fin 64) : Fin 64 := ⟨64 * i.val + p.val, by omega⟩

section
variable (pf : pre0.Contents (Elt Ideal)) (w : BitVec 32) (hw : ∀ x : S1.Idx, (pf 0 : IVec S1 32) x = w) (i : grid0.Coords)
include hw

attribute [local simp] Scalar.cmpi IntOp.cmpi Scalar.xori IntOp.xori Scalar.andi IntOp.andi Scalar.select in
theorem own_row (h1 : BitVec.ofNat 32 (i 1).val = w) : ((i 0).val = 0 → cc0_transform_1 inb_S1_S1_0 numel1_S1 pf i = ![(i 2).val, 0])
    ∧ ((i 0).val = 1 → cc0_transform_3 inb_S1_S1_0 numel1_S1 pf i = ![(i 2).val, 0]) := by
  have e : pf.at 0 (Rect.unit (s := S1) ![0] S1.size inb_S1_S1_0) numel1_S1 = w := hw _
  have h2 : (i 2).val < 1 := (i 2).isLt
  have h3 : (i 2).val % 4294967296 = (i 2).val := by omega
  refine ⟨fun h0 => ?_, fun h0 => ?_⟩
  · unfold cc0_transform_1
    simp [e, h0, h1, h3]
  · unfold cc0_transform_3
    simp [e, h0, h1, h3]
attribute [local simp] Scalar.cmpi IntOp.cmpi Scalar.xori IntOp.xori Scalar.andi IntOp.andi Scalar.select in
theorem sent_row (h1 : BitVec.ofNat 32 (i 1).val ≠ w) : ((i 0).val = 0 → cc0_transform_2 inb_S1_S1_0 numel1_S1 pf i = ![(i 2).val, 0])
    ∧ ((i 0).val = 1 → cc0_transform_4 inb_S1_S1_0 numel1_S1 pf i = ![(i 2).val, 0]) := by
  have e : pf.at 0 (Rect.unit (s := S1) ![0] S1.size inb_S1_S1_0) numel1_S1 = w := hw _
  have h2 : (i 2).val < 1 := (i 2).isLt
  have h3 : (i 2).val % 4294967296 = (i 2).val := by omega
  have hb : (BitVec.ofNat 32 (i 1).val == w) = false := by simpa using h1
  refine ⟨fun h0 => ?_, fun h0 => ?_⟩
  · unfold cc0_transform_2
    simp [e, h0, h1, h3, hb]
  · unfold cc0_transform_4
    simp [e, h0, h1, h3, hb]
end

section
variable (hO : Ok m) (c : Dev nD) (t : Fin (cfgM m hO).N) (p : Fin 64) (q : Fin 512)

theorem blk1 (i : Fin 1) (h : ((cfgM m hO).win 1).index t = ![i.val, 0]) : iblk m hO c 1 t (ix2 p q) = m (c.tc.loc main_arg2) (ix2 (row i p) q) := by
  blk_point [iblk, V, h]
theorem blk2 (i : Fin 1) (h : ((cfgM m hO).win 2).index t = ![i.val, 0]) : iblk m hO c 2 t (ix2 p q) = m (c.tc.loc main_arg3) (ix2 (row i p) q) := by
  blk_point [iblk, V, h]
theorem blk3 (i : Fin 1) (h : ((cfgM m hO).win 3).index t = ![i.val, 0]) : iblk m hO c 3 t (ix2 p q) = m (c.tc.loc main_arg4) (ix2 (row i p) q) := by
  blk_point [iblk, V, h]
theorem blk4 (i : Fin 1) (h : ((cfgM m hO).win 4).index t = ![i.val, 0]) : iblk m hO c 4 t (ix2 p q) = m (c.tc.loc main_arg5) (ix2 (row i p) q) := by
  blk_point [iblk, V, h]
theorem blk0 (l h : Fin 2) (i : Fin 1) (e : ((cfgM m hO).win 0).index t = ![l.val, h.val, i.val, 0]) : iblk m hO c 0 t (ix4 0 0 p q) = m (c.tc.loc main_arg1) (ix4 l h (row i p) q) := by
  blk_point [iblk, V, e]
theorem blk5 (l h : Fin 2) (i : Fin 1) (e : ((cfgM m hO).win 5).index t = ![l.val, h.val, i.val, 0]) : iblk m hO c 5 t (ix4 0 0 p q) = m (c.tc.loc main_arg6) (ix4 l h (row i p) q) := by
  blk_point [iblk, V, e]
theorem blk6 (l h : Fin 2) (i : Fin 1) (e : ((cfgM m hO).win 6).index t = ![l.val, h.val, i.val, 0]) : iblk m hO c 6 t (ix4 0 0 p q) = m (c.tc.loc main_arg7) (ix4 l h (row i p) q) := by
  blk_point [iblk, V, e]
end

/-- The gradient the reference puts together from the call's arguments. -/
abbrev gref (c : Dev nD) : R32 S2x2x64x512 :=
  ref0 (m (c.tc.loc main_arg0)) (m (c.tc.loc main_arg2)) (m (c.tc.loc main_arg3)) (m (c.tc.loc main_arg4)) (m (c.tc.loc main_arg5))

section
variable (i : grid0.Coords) (w : BitVec 32) (x0 x5 x6 : Vec Ideal S1x1x64x512 .f32) (x1 x2 x3 x4 : Vec Ideal S64x512 .f32) (p : Fin 64) (q : Fin 512)

theorem pay5_at : k0_pay5 i w x1 x2 x3 x4 (ix2 p q) = Scalar.select (IntOp.cmpi .eq (BitVec.ofNat 32 (i 0).val) 0#32)
      (Scalar.select (IntOp.cmpi .eq (BitVec.ofNat 32 (i 1).val) w) (x1 (ix2 p q)) (x2 (ix2 p q)))
      (Scalar.select (IntOp.cmpi .eq (BitVec.ofNat 32 (i 1).val) w) (x3 (ix2 p q)) (x4 (ix2 p q))) := by
  pointwise [k0_pay5]
  rfl

variable (z : S2x2x64x512.Idx) (a0 a1 a2 a3 : R32 S2x2x64x512) (h1 : k0_pay5 i w x1 x2 x3 x4 (ix2 p q) = a1 z) (h0 : x0 (ix4 0 0 p q) = a0 z) (h2 : x5 (ix4 0 0 p q) = a2 z) (h3 : x6 (ix4 0 0 p q) = a3 z)

include h1 in
theorem step0 : k0_pay6 i w x1 x2 x3 x4 (ix4 0 0 p q) = a1 z := by
  rw [← h1]
  pointwise [k0_pay6]
include h0 h1 h2 h3 in
theorem step1 : k0_pay2 (k0_pay7 x0) (k0_pay8 i w x1 x2 x3 x4 x5) (k0_pay9 x6) (k0_pay10 i w x1 x2 x3 x4) (ix4 0 0 p q) = ref1 a0 a1 a2 a3 z := by
  pointwise [ref1, k0_pay2, k0_pay1, k0_pay7, k0_pay8, k0_pay9, k0_pay10]
  rw [h0, h1, h2, h3]
include h1 h2 in
theorem step2 : k0_pay3 (k0_pay8 i w x1 x2 x3 x4 x5) (ix4 0 0 p q) = ref2 a1 a2 z := by
  pointwise [ref2, k0_pay3, k0_pay8]
  rw [h1, h2]
include h1 h3 in
theorem step3 : k0_pay4 (k0_pay9 x6) (k0_pay10 i w x1 x2 x3 x4) (ix4 0 0 p q) = ref3 a1 a3 z := by
  pointwise [ref3, k0_pay4, k0_pay1, k0_pay9, k0_pay10]
  rw [h1, h3]
end

/-- The gradient a step assembles is the reference's on the step's block. -/
theorem grad_at (hO : Ok m) (c : Dev nD) (t : Fin (cfgM m hO).N) (l h : Fin 2) (i : Fin 1) (e0 : (grid0.coords t 0).val = l.val) (e1 : (grid0.coords t 1).val = h.val) (e2 : (grid0.coords t 2).val = i.val) (p : Fin 64) (q : Fin 512) :
    k0_pay5 (grid0.coords t) (wd m) (iblk m hO c 1 t) (iblk m hO c 2 t) (iblk m hO c 3 t) (iblk m hO c 4 t) (ix2 p q) = gref m c (ix4 l h (row i p) q) := by
  obtain rfl : c = 0 := Subsingleton.elim _ _
  refine (pay5_at (grid0.coords t) (wd m) _ _ _ _ p q).trans ?_
  have w1 := congrArg (BitVec.ofNat 32) e1
  have own := fun hc => own_row (tbl m) (wd m) (word_at m) (grid0.coords t) (w1.trans hc)
  have sent := fun (hc : BitVec.ofNat 32 h.val ≠ wd m) => sent_row (tbl m) (wd m) (word_at m) (grid0.coords t) (fun e => hc (w1.symm.trans e))
  simp only [e2] at own sent
  obtain rfl | rfl : l = 0 ∨ l = 1 := (by decide : ∀ l : Fin 2, l = 0 ∨ l = 1) l
  · refine (sel_pos _ _ (congrArg (BitVec.ofNat 32) e0) _ _).trans (Eq.trans ?_ (ref0_at0 _ _ _ _ _ h (row i p) q).symm)
    by_cases hc : BitVec.ofNat 32 h.val = wd m
    · exact (sel_pos _ _ (w1.trans hc) _ _).trans ((blk1 m hO 0 t p q i ((own hc).1 e0)).trans (sel_pos _ _ hc _ _).symm)
    · exact (sel_neg _ _ (fun e => hc (w1.symm.trans e)) _ _).trans ((blk2 m hO 0 t p q i ((sent hc).1 e0)).trans (sel_neg _ _ hc _ _).symm)
  · refine (sel_neg _ _ (by rw [e0]; decide) _ _).trans (Eq.trans ?_ (ref0_at1 _ _ _ _ _ h (row i p) q).symm)
    by_cases hc : BitVec.ofNat 32 h.val = wd m
    · exact (sel_pos _ _ (w1.trans hc) _ _).trans ((blk3 m hO 0 t p q i ((own hc).2 e0)).trans (sel_pos _ _ hc _ _).symm)
    · exact (sel_neg _ _ (fun e => hc (w1.symm.trans e)) _ _).trans ((blk4 m hO 0 t p q i ((sent hc).2 e0)).trans (sel_neg _ _ hc _ _).symm)

/-- Where a step's block of a stacked array lies. -/
theorem idx7 : ∀ t : Fin grid0.N, ∃ (l h : Fin 2) (i : Fin 1), (grid0.coords t 0).val = l.val ∧ (grid0.coords t 1).val = h.val ∧ (grid0.coords t 2).val = i.val
    ∧ cc0_transform_7 (grid0.coords t) = ![l.val, h.val, i.val, 0] := by decide +kernel

theorem place (hO : Ok m) (t : Fin (cfgM m hO).N) (y : S1x1x64x512.Idx) : ∃ (l h : Fin 2) (i : Fin 1) (p : Fin 64) (q : Fin 512), (grid0.coords t 0).val = l.val ∧ (grid0.coords t 1).val = h.val ∧ (grid0.coords t 2).val = i.val
    ∧ cc0_transform_7 (grid0.coords t) = ![l.val, h.val, i.val, 0] ∧ y = (ix4 0 0 p q : S1x1x64x512.Idx)
    ∧ ((((spec0 7).arr.view.slice ((pcfg0.win (adm m hO) 7).rect t)).emb y) : S2x2x64x512.Idx) = ix4 l h (row i p) q := by
  obtain ⟨l, h, i, e0, e1, e2, ei⟩ := idx7 t
  obtain ⟨p, q, rfl⟩ : ∃ (p : Fin 64) (q : Fin 512), y = (ix4 0 0 p q : S1x1x64x512.Idx) := by
    refine ⟨y 2, y 3, ?_⟩
    funext a; fin_cases a <;> first | rfl | exact Subsingleton.elim (α := Fin 1) _ _
  refine ⟨l, h, i, p, q, e0, e1, e2, ei, rfl, ?_⟩
  have hi : (pcfg0.win (adm m hO) 7).index t = ![l.val, h.val, i.val, 0] := ei
  blk_ext [hi]

variable (hO : Ok m) (c : Dev nD)

/-- The arrays of the weights and their moments. -/
abbrev arg (i : Fin 3) : R32 S2x2x64x512 :=
  match i with
  | 0 => m (c.tc.loc main_arg1)
  | 1 => m (c.tc.loc main_arg6)
  | 2 => m (c.tc.loc main_arg7)

/-- The gradient is the reference's. -/
theorem final0 : (dats m hO 0 c).arrAt 7 (cfgM m hO).N = gref m c := by
  refine (dats m hO 0 c).arrAt_eq_of_covers 7 _ (covers7 m hO) fun t hf y => ?_
  blk_simp; rw [after0_7]
  unfold outsAt0; dsimp only
  obtain ⟨l, h, i, p, q, e0, e1, e2, ei, rfl, ey⟩ := place m hO t y
  refine (congrFun (gen7 (w := wd m) (hw := word_at m) ..) _).trans ((step0 (z := ix4 l h (row i p) q) (h1 := grad_at m hO c t l h i e0 e1 e2 p q) ..).trans ?_)
  exact congrArg (gref m c) ey.symm

/-- The change of the weights is the reference's. -/
theorem final1 : (dats m hO 0 c).arrAt 8 (cfgM m hO).N = ref1 (arg m c 0) (gref m c) (arg m c 1) (arg m c 2) := by
  refine (dats m hO 0 c).arrAt_eq_of_covers 8 _ (covers7 m hO) fun t hf y => ?_
  blk_simp; rw [after0_8]
  unfold outsAt0; dsimp only
  obtain ⟨l, h, i, p, q, e0, e1, e2, ei, rfl, ey⟩ := place m hO t y
  refine (congrFun (gen8 (w := wd m) (hw := word_at m) ..) _).trans ((step1 (z := ix4 l h (row i p) q) (h1 := grad_at m hO c t l h i e0 e1 e2 p q) (h0 := blk0 m hO c t p q l h i ei) (h2 := blk5 m hO c t p q l h i ei) (h3 := blk6 m hO c t p q l h i ei) ..).trans ?_)
  exact congrArg (ref1 (arg m c 0) (gref m c) (arg m c 1) (arg m c 2)) ey.symm

/-- The new first moment is the reference's. -/
theorem final2 : (dats m hO 0 c).arrAt 9 (cfgM m hO).N = ref2 (gref m c) (arg m c 1) := by
  refine (dats m hO 0 c).arrAt_eq_of_covers 9 _ (covers7 m hO) fun t hf y => ?_
  blk_simp; rw [after0_9]
  unfold outsAt0; dsimp only
  obtain ⟨l, h, i, p, q, e0, e1, e2, ei, rfl, ey⟩ := place m hO t y
  refine (congrFun (gen9 (w := wd m) (hw := word_at m) ..) _).trans ((step2 (z := ix4 l h (row i p) q) (h1 := grad_at m hO c t l h i e0 e1 e2 p q) (h2 := blk5 m hO c t p q l h i ei) ..).trans ?_)
  exact congrArg (ref2 (gref m c) (arg m c 1)) ey.symm

/-- The new second moment is the reference's. -/
theorem final3 : (dats m hO 0 c).arrAt 10 (cfgM m hO).N = ref3 (gref m c) (arg m c 2) := by
  refine (dats m hO 0 c).arrAt_eq_of_covers 10 _ (covers7 m hO) fun t hf y => ?_
  blk_simp; rw [after0_10]
  unfold outsAt0; dsimp only
  obtain ⟨l, h, i, p, q, e0, e1, e2, ei, rfl, ey⟩ := place m hO t y
  refine (congrFun (gen10 (w := wd m) (hw := word_at m) ..) _).trans ((step3 (z := ix4 l h (row i p) q) (h1 := grad_at m hO c t l h i e0 e1 e2 p q) (h3 := blk6 m hO c t p q l h i ei) ..).trans ?_)
  exact congrArg (ref3 (gref m c) (arg m c 2)) ey.symm
end

set_option backward.isDefEq.respectTransparency false
open Idealize.ShloMosaic Idealize.SL.Sem

/-- The four windows of the kernel as printed stay inside their arrays too. -/
theorem okBits (m : (ℓ : Loc Kernel17.nD Kernel17.τ Kernel17.sig) → Buf (Elt Bits) ℓ) : Kernel17.Gen.Ok m := by
  have in_cols : (0 + 1) * 512 ≤ 512 := by decide
  refine ⟨fun i => ⟨fun a => ?_, Or.inl rfl⟩, fun i => ⟨fun a => ?_, Or.inl rfl⟩, fun i => ⟨fun a => ?_, Or.inl rfl⟩, fun i => ⟨fun a => ?_, Or.inl rfl⟩⟩
  all_goals
    fin_cases a
    · exact row_le _ (i 2)
    · exact in_cols

theorem frame_kernel : quiescent_Kernel17 := fun m ρ _ => Kernel17.Gen.frame m ρ (okBits m)
theorem frame_ideal : quiescent_Kernel17Ideal := fun m ρ _ => Kernel17Ideal.Gen.frame m ρ (ok m)
theorem frame_reference : quiescent_Reference17Ideal := fun m ρ _ =>
  (θ_run Reference17Ideal.defs _ _).mono (fun _ h => ⟨fun c => (h c).2.2.2.2, sem_eq_zero_of_no_sems (by decide) _⟩) (Reference17Ideal.Value.run m ρ)

set_option maxHeartbeats 4000000 in
/-- The idealized kernel and the idealized reference end with equal results. -/
theorem algebraic : algebraic_Kernel17Ideal_Reference17Ideal := by
  pair_intro
  · run_from Kernel17Ideal.Gen.run_main m g (ok m)
    exact (hc.2 Kernel17Ideal.main_arg0 (by decide : Kernel17Ideal.main_arg0 ∈ Pipeline.restRefs Kernel17Ideal.sig Kernel17Ideal.spec0)).trans (Kernel17Ideal.Gen.V_main_arg0 m c)
  · refine (θ_run Reference17Ideal.defs _ _).mono (fun _ h c => ?_) (Reference17Ideal.Value.run m' g')
    obtain ⟨e0, e1, e2, e3, e4, e5, e6, e7⟩ := hagree c
    refine ⟨(h c).1.trans (Eq.trans ?_ (final0 m (ok m) c).symm), (h c).2.1.trans (Eq.trans ?_ (final1 m (ok m) c).symm), (h c).2.2.1.trans (Eq.trans ?_ (final2 m (ok m) c).symm), (h c).2.2.2.1.trans (Eq.trans ?_ (final3 m (ok m) c).symm), (h c).2.2.2.2⟩
    all_goals
      simp only [gref, arg, ← e0, ← e1, ← e2, ← e3, ← e4, ← e5, ← e6, ← e7]
      rfl

end Cert.Lin17
-- ==== Proof.Lin.Claim18.lean ====
/- The sums of four chips' parts at three more sizes: the frames of the kernels as printed and idealized and of the references, and the equality of their results. `Lin19` and `Lin20` are `Lin18` at the other sizes. -/
module

public import proofs.«01_k».proof.Defs
public import proofs.«01_k».proof.Proof.Gen.Kernel18.Frame
public import proofs.«01_k».proof.Proof.Gen.Kernel18Ideal.Frame
public import proofs.«01_k».proof.Proof.Gen.Kernel19.Frame
public import proofs.«01_k».proof.Proof.Gen.Kernel19Ideal.Frame
public import proofs.«01_k».proof.Proof.Gen.Kernel20.Frame
public import proofs.«01_k».proof.Proof.Gen.Kernel20Ideal.Frame
public import proofs.«01_k».proof.Proof.Gen.Reference18Ideal.Run
public import proofs.«01_k».proof.Proof.Gen.Reference19Ideal.Run
public import proofs.«01_k».proof.Proof.Gen.Reference20Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Lin18

/-- The sum of the four parts, as the reference computes it. -/
def ref0 (a0 : FVec Ideal Reference18Ideal.S4x256x2048 .bf16) : FVec Ideal Reference18Ideal.S256x2048 .f32 :=
  open Reference18Ideal Reference18Ideal.Gen in
  Host.reduceAdd (extf .f32 a0 bitsLt_bf16_f32) (constant S_ .f32 0x00000000#32) reducesTo_S4x256x2048_S256x2048_d0 h_S_

section
open Kernel18Ideal Kernel18Ideal.Gen

theorem idx_val : ∀ t : Fin cfg0.N, win0_0.index t = ![0, t.val, 0] ∧ win0_1.index t = ![t.val, 0] :=
  (by decide +kernel : ∀ t : Fin grid0.N, _)

theorem final0 (m : (ℓ : Loc nD τ sig) → Buf (Elt Ideal) ℓ) (c : Dev nD) : (dats m 0 c).arrAt 1 (cfgs 0).N = ref0 (m (c.tc.loc main_arg0)) := by
  refine (dats m 0 c).arrAt_eq_of_covers 1 _ (by decide +kernel) fun t hf y => ?_
  blk_simp; rw [after0_1]
  frame_out
  pointwise [k0_pay1, ref0]
  rw [Fin.sum_univ_four]
  blk_point [iblk, V, idx_val t]
end

theorem frame_kernel : quiescent_Kernel18 := fun m ρ _ => Kernel18.Gen.frame m ρ
theorem frame_ideal : quiescent_Kernel18Ideal := fun m ρ _ => Kernel18Ideal.Gen.frame m ρ
theorem frame_reference : quiescent_Reference18Ideal := fun m ρ _ =>
  (θ_run Reference18Ideal.defs _ _).mono (fun _ h => ⟨fun c => (h c).2, sem_eq_zero_of_no_sems (by decide) _⟩) (Reference18Ideal.Value.run m ρ)

set_option backward.isDefEq.respectTransparency false in
/-- The idealized kernel and the idealized reference end with equal results. -/
theorem algebraic : algebraic_Kernel18Ideal_Reference18Ideal := by
  pair_intro
  · run_from Kernel18Ideal.Gen.run_main m g
  · refine (θ_run Reference18Ideal.defs _ _).mono (fun _ h c => ?_) (Reference18Ideal.Value.run m' g')
    have e0 := hagree c
    refine ⟨(h c).1.trans (Eq.trans ?_ (final0 m c).symm), (h c).2⟩
    rw [← e0]
    rfl

end Cert.Lin18

namespace Cert.Lin19

def ref0 (a0 : FVec Ideal Reference19Ideal.S4x64x512 .bf16) : FVec Ideal Reference19Ideal.S64x512 .f32 :=
  open Reference19Ideal Reference19Ideal.Gen in
  Host.reduceAdd (extf .f32 a0 bitsLt_bf16_f32) (constant S_ .f32 0x00000000#32) reducesTo_S4x64x512_S64x512_d0 h_S_

section
open Kernel19Ideal Kernel19Ideal.Gen

theorem idx_val : ∀ t : Fin cfg0.N, win0_0.index t = ![0, t.val, 0] ∧ win0_1.index t = ![t.val, 0] :=
  (by decide +kernel : ∀ t : Fin grid0.N, _)

theorem final0 (m : (ℓ : Loc nD τ sig) → Buf (Elt Ideal) ℓ) (c : Dev nD) : (dats m 0 c).arrAt 1 (cfgs 0).N = ref0 (m (c.tc.loc main_arg0)) := by
  refine (dats m 0 c).arrAt_eq_of_covers 1 _ (by decide +kernel) fun t hf y => ?_
  blk_simp; rw [after0_1]
  frame_out
  pointwise [k0_pay1, ref0]
  rw [Fin.sum_univ_four]
  blk_point [iblk, V, idx_val t]
end

theorem frame_kernel : quiescent_Kernel19 := fun m ρ _ => Kernel19.Gen.frame m ρ
theorem frame_ideal : quiescent_Kernel19Ideal := fun m ρ _ => Kernel19Ideal.Gen.frame m ρ
theorem frame_reference : quiescent_Reference19Ideal := fun m ρ _ =>
  (θ_run Reference19Ideal.defs _ _).mono (fun _ h => ⟨fun c => (h c).2, sem_eq_zero_of_no_sems (by decide) _⟩) (Reference19Ideal.Value.run m ρ)

set_option backward.isDefEq.respectTransparency false in
theorem algebraic : algebraic_Kernel19Ideal_Reference19Ideal := by
  pair_intro
  · run_from Kernel19Ideal.Gen.run_main m g
  · refine (θ_run Reference19Ideal.defs _ _).mono (fun _ h c => ?_) (Reference19Ideal.Value.run m' g')
    have e0 := hagree c
    refine ⟨(h c).1.trans (Eq.trans ?_ (final0 m c).symm), (h c).2⟩
    rw [← e0]
    rfl

end Cert.Lin19

namespace Cert.Lin20

def ref0 (a0 : FVec Ideal Reference20Ideal.S4x3072x128 .f32) : FVec Ideal Reference20Ideal.S3072x128 .f32 :=
  open Reference20Ideal Reference20Ideal.Gen in
  Host.reduceAdd a0 (constant S_ .f32 0x00000000#32) reducesTo_S4x3072x128_S3072x128_d0 h_S_

section
open Kernel20Ideal Kernel20Ideal.Gen

theorem idx_val : ∀ t : Fin cfg0.N, win0_0.index t = ![0, t.val, 0] ∧ win0_1.index t = ![t.val, 0] :=
  (by decide +kernel : ∀ t : Fin grid0.N, _)

theorem final0 (m : (ℓ : Loc nD τ sig) → Buf (Elt Ideal) ℓ) (c : Dev nD) : (dats m 0 c).arrAt 1 (cfgs 0).N = ref0 (m (c.tc.loc main_arg0)) := by
  refine (dats m 0 c).arrAt_eq_of_covers 1 _ (by decide +kernel) fun t hf y => ?_
  blk_simp; rw [after0_1]
  frame_out
  pointwise [k0_pay1, ref0]
  rw [Fin.sum_univ_four]
  blk_point [iblk, V, idx_val t]
end

theorem frame_kernel : quiescent_Kernel20 := fun m ρ _ => Kernel20.Gen.frame m ρ
theorem frame_ideal : quiescent_Kernel20Ideal := fun m ρ _ => Kernel20Ideal.Gen.frame m ρ
theorem frame_reference : quiescent_Reference20Ideal := fun m ρ _ =>
  (θ_run Reference20Ideal.defs _ _).mono (fun _ h => ⟨fun c => (h c).2, sem_eq_zero_of_no_sems (by decide) _⟩) (Reference20Ideal.Value.run m ρ)

set_option backward.isDefEq.respectTransparency false in
theorem algebraic : algebraic_Kernel20Ideal_Reference20Ideal := by
  pair_intro
  · run_from Kernel20Ideal.Gen.run_main m g
  · refine (θ_run Reference20Ideal.defs _ _).mono (fun _ h c => ?_) (Reference20Ideal.Value.run m' g')
    have e0 := hagree c
    refine ⟨(h c).1.trans (Eq.trans ?_ (final0 m c).symm), (h c).2⟩
    rw [← e0]
    rfl

end Cert.Lin20

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Pool.Frame
public import proofs.«01_k».proof.Proof.Val.Kern
public import proofs.«01_k».proof.Proof.Val.RefB
public import proofs.«01_k».proof.Proof.Val.Finite
public import proofs.«01_k».proof.Proof.Lin.Claim2
public import proofs.«01_k».proof.Proof.Lin.Claim3
public import proofs.«01_k».proof.Proof.Lin.Claim4
public import proofs.«01_k».proof.Proof.Lin.Claim5
public import proofs.«01_k».proof.Proof.Lin.Claim6
public import proofs.«01_k».proof.Proof.Lin.Claim7
public import proofs.«01_k».proof.Proof.Lin.Claim8
public import proofs.«01_k».proof.Proof.Lin.Claim9
public import proofs.«01_k».proof.Proof.Lin.Claim10
public import proofs.«01_k».proof.Proof.Lin.Claim11
public import proofs.«01_k».proof.Proof.Lin.Claim12
public import proofs.«01_k».proof.Proof.Lin.Claim13
public import proofs.«01_k».proof.Proof.Lin.Claim14
public import proofs.«01_k».proof.Proof.Lin.Claim15
public import proofs.«01_k».proof.Proof.Lin.Claim16
public import proofs.«01_k».proof.Proof.Lin.Claim17
public import proofs.«01_k».proof.Proof.Lin.Claim18
public import Idealize.ShloMosaic.Lib.Quiescent
public import Idealize.ShloMosaic.Adequacy
public import Idealize.ShloMosaic.Init

@[expose] public section

set_option backward.isDefEq.respectTransparency false

noncomputable section

namespace Cert.Proof

open Idealize.ShloMosaic Idealize.SL.Sem PoolVal

/-- The two prints' body tables are one: the same text, at each label. -/
theorem bodies_eq {F : FTy → Type} [FloatOps F] : (Kernel.defs₀ (F := F)) = (KernelIdeal.defs₀ (F := F) : Defs Kernel.nD Kernel.τ Kernel.sig (Elt F) Kernel.Λ₀) := by
  refine congrArg Defs.onTc (funext fun l => funext fun a => ?_)
  match l, a with
  | 0, (t, s) => rfl
  | ⟨_ + 1, h⟩, _ => exact absurd h (Nat.not_lt.2 (Nat.le_add_left _ _))
theorem defs_eq {F : FTy → Type} [FloatOps F] : (Kernel.defs (F := F)) = (KernelIdeal.defs (F := F) : Defs Kernel.nD Kernel.τ Kernel.sig (Elt F) (Pipeline.Sig Kernel.Λ₀ (Fin 1) fun p => (Kernel.pcfgs (F := F) p).Adm)) :=
  congrArg (Pipeline.defs Kernel.pcfgs) bodies_eq

/-- The kernel as printed: the same program as the idealized one, so the same run at the bit values. -/
theorem frame_kernel : quiescent_Kernel := fun m ρ _ =>
  (congrArg (fun D => θ_run D (onTc (τ := Kernel.τ) (Kernel.main (F := Bits))) ⟨m, fun _ => 0, ρ⟩ _) defs_eq).mpr (KernelIdeal.Pool.frame_all (F := Bits) m ρ)
theorem frame_ideal : quiescent_KernelIdeal := fun m ρ _ => KernelIdeal.Pool.frame_all (F := Ideal) m ρ
theorem frame_ideal_pre : quiescent_KernelIdeal_pre_finite := fun m ρ _ => KernelIdeal.Pool.frame_all (F := Ideal) m ρ
theorem frame_reference : quiescent_ReferenceIdeal := fun m ρ _ =>
  (θ_run ReferenceIdeal.defs _ _).mono (fun _ h => ⟨fun c => (h c).2.2.2, sem_eq_zero_of_no_sems (by decide) _⟩) (ReferenceIdeal.Value.run m ρ)
theorem frame_reference_pre : quiescent_ReferenceIdeal_pre_finite := fun m ρ _ => frame_reference m ρ trivial

section Values
variable (m : (ℓ : Loc KernelIdeal.nD KernelIdeal.τ KernelIdeal.sig) → Buf (Elt Ideal) ℓ) (c : Dev KernelIdeal.nD)
variable (V0 : Valuation ReferenceIdeal.τ ReferenceIdeal.sig (Elt Ideal))
variable (eY : rY V0 = argY m c) (eZ : rZ V0 = argZ m c) (eD : rD V0 = argD m c) (eW : rW V0 = argW m c) (eS : rS V0 = argS m c)
variable (hY : Fin' (argY m c)) (hZ : Fin' (argZ m c)) (hW : Fin' (argW m c)) (hS : Fin' (argS m c))
include eY eZ eW eS hY hZ hW hS

include eD in
/-- The input's gradient: the columns the mixer reads, inside the array it is given. -/
theorem same0 : res0 V0 = KernelIdeal.Pool.final m c := by
  funext i
  obtain ⟨r, k, rfl⟩ : ∃ (r : Fin 8192) (k : Fin 5120), i = ix2 r k := ⟨i 0, i 1, by funext d; fin_cases d <;> rfl⟩
  refine (res0_at V0 (eY ▸ hY) (eZ ▸ hZ) (eW ▸ hW) (eS ▸ hS) r k).trans ?_
  rw [eY, eZ, eD, eW, eS]
  exact (final_at m c hY hZ hW hS r k).symm
/-- The mixing matrices' gradients. -/
theorem same1 : res1 V0 = (KernelIdeal.Pool.dats m 0 c).arrAt 9 KernelIdeal.cfg0.N := by
  funext i
  obtain ⟨g, a, b, rfl⟩ : ∃ (g : Fin 4) (a b : Fin 128), i = ix3 g a b := ⟨i 0, i 1, i 2, by funext d; fin_cases d <;> rfl⟩
  refine (res1_at V0 (eY ▸ hY) (eZ ▸ hZ) (eW ▸ hW) (eS ▸ hS) g a b).trans ?_
  rw [eY, eZ, eS]
  exact (arr9_at m c hY hZ hW hS g a b).symm
/-- The scale's gradient. -/
theorem same2 : res2 V0 = (KernelIdeal.Pool.dats m 0 c).arrAt 10 KernelIdeal.cfg0.N := by
  funext i
  obtain ⟨k, rfl⟩ : ∃ k : Fin 512, i = ix2 0 k := ⟨i 1, by funext d; fin_cases d; exact Subsingleton.elim (α := Fin 1) _ _; rfl⟩
  refine (res2_at V0 (eY ▸ hY) (eZ ▸ hZ) (eW ▸ hW) (eS ▸ hS) k).trans ?_
  rw [eY, eZ, eW]
  exact (arr10_at m c hY hZ hW hS k).symm
end Values

/-- On finite arguments the idealized kernel and the idealized reference end with equal results. -/
theorem algebraic : algebraic_KernelIdeal_ReferenceIdeal_pre_finite := by
  intro m g m' g' hpre heq
  have fin := fun c => finite_args _ _ _ _ _ (hpre c)
  refine ⟨fun c => KernelIdeal.Pool.final m c, fun c => (KernelIdeal.Pool.dats m 0 c).arrAt 9 KernelIdeal.cfg0.N,
    fun c => (KernelIdeal.Pool.dats m 0 c).arrAt 10 KernelIdeal.cfg0.N, ?_, ?_⟩
  · exact (θ_run KernelIdeal.defs _ _).mono (fun _ h c => ⟨(h.1 c).1.1, (h.1 c).1.2.1, (h.1 c).1.2.2, (h.1 c).2⟩) (KernelIdeal.Pool.run_all (F := Ideal) m g)
  · refine (θ_run ReferenceIdeal.defs _ _).mono (fun _ h c => ?_) (ReferenceIdeal.Value.run m' g')
    obtain ⟨f1, f2, f3, f4⟩ := fin c
    obtain ⟨e0, e1, e2, e3, e4⟩ := heq c
    obtain ⟨r0, r1, r2, r3⟩ := h c
    exact ⟨r0.trans (same0 m c (StableHlo.launchContents m' c) e0 e1 e2 e3 e4 f1 f2 f3 f4), r1.trans (same1 m c (StableHlo.launchContents m' c) e0 e1 e3 e4 f1 f2 f3 f4),
      r2.trans (same2 m c (StableHlo.launchContents m' c) e0 e1 e3 e4 f1 f2 f3 f4), r3⟩

/-- The side conditions of the programs are instances; then the facts of the preconditions, the frames and the equalities. -/
theorem claim : Claim := by
  iterate 66 refine ⟨inferInstance, ?_⟩
  exact ⟨finiteFacts, Lin11.finiteFacts, Lin14.coreFacts, Lin21.coreFacts, Lin22.coreFacts,
    frame_kernel, frame_ideal, frame_ideal_pre, frame_reference, frame_reference_pre,
    Lin2.frame_kernel, Lin2.frame_ideal, Lin2.frame_reference,
    Lin3.frame_kernel, Lin3.frame_ideal, Lin3.frame_reference,
    Lin4.frame_kernel, Lin4.frame_ideal, Lin4.frame_reference,
    Lin5.frame_kernel, Lin5.frame_ideal, Lin5.frame_reference,
    Lin6.frame_kernel, Lin6.frame_ideal, Lin6.frame_reference,
    Lin7.frame_kernel, Lin7.frame_ideal, Lin7.frame_reference,
    Lin8.frame_kernel, Lin8.frame_ideal, Lin8.frame_reference,
    Lin9.frame_kernel, Lin9.frame_ideal, Lin9.frame_reference,
    Lin10.frame_kernel, Lin10.frame_ideal, Lin10.frame_reference,
    Lin11.frame_kernel, Lin11.frame_ideal, Lin11.frame_ideal_pre, Lin11.frame_reference, Lin11.frame_reference_pre,
    Lin12.frame_kernel, Lin12.frame_ideal, Lin12.frame_reference,
    Lin13.frame_kernel, Lin13.frame_ideal, Lin13.frame_reference,
    Lin14.frame_kernel, Lin14.frame_ideal, Lin14.frame_reference, Lin14.frame_reference_pre,
    Lin15.frame_kernel, Lin15.frame_ideal, Lin15.frame_reference,
    Lin16.frame_kernel, Lin16.frame_ideal, Lin16.frame_reference,
    Lin17.frame_kernel, Lin17.frame_ideal, Lin17.frame_reference,
    Lin18.frame_kernel, Lin18.frame_ideal, Lin18.frame_reference,
    Lin19.frame_kernel, Lin19.frame_ideal, Lin19.frame_reference,
    Lin20.frame_kernel, Lin20.frame_ideal, Lin20.frame_reference,
    Lin21.frame_kernel, Lin21.frame_ideal, Lin21.frame_reference, Lin21.frame_reference_pre,
    Lin22.frame_kernel, Lin22.frame_ideal, Lin22.frame_reference, Lin22.frame_reference_pre,
    trivial, algebraic, trivial, Lin2.algebraic, trivial, Lin3.algebraic, trivial, Lin4.algebraic, trivial, Lin5.algebraic, trivial, Lin6.algebraic, trivial, Lin7.algebraic, trivial, Lin8.algebraic, trivial, Lin9.algebraic, trivial, Lin10.algebraic, trivial, Lin11.algebraic, trivial, Lin12.algebraic, trivial, Lin13.algebraic, trivial, Lin14.algebraic, trivial, Lin15.algebraic, trivial, Lin16.algebraic, trivial, Lin17.algebraic, trivial, Lin18.algebraic, trivial, Lin19.algebraic, trivial, Lin20.algebraic, trivial, Lin21.algebraic, trivial, Lin22.algebraic⟩

end Cert.Proof

end
